-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Attn [hPre_lengths_positive : Cert.Pre_lengths_positive.Facts] (m : (ℓ : Loc Cert.Attn.nD Cert.Attn.τ Cert.Attn.sig) → Buf (Elt Bits) ℓ) : Prop :=
  ∀ c : Dev Cert.Attn.nD,
    (Cert.Pre_lengths_positive.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5)) (m ((c.tc : Thread Cert.Attn.nD Cert.Attn.τ).loc Cert.Attn.main_arg6)) (m ((c.tc : Thread Cert.Attn.nD Cert.Attn.τ).loc Cert.Attn.main_arg7))) = (fun _ => 1#1)

def Pre_AttnIdeal [hPre_lengths_positive : Cert.Pre_lengths_positive.Facts] (m : (ℓ : Loc Cert.AttnIdeal.nD Cert.AttnIdeal.τ Cert.AttnIdeal.sig) → Buf (Elt Ideal) ℓ) : Prop :=
  ∀ c : Dev Cert.AttnIdeal.nD,
    (Cert.Pre_lengths_positive.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_lengths_positive [hPre_lengths_positive : Cert.Pre_lengths_positive.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_lengths_positive.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))) = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Attn [hAttn : Cert.Attn.Facts] [hPre_lengths_positive : Cert.Pre_lengths_positive.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] [hPre_lengths_positive : Cert.Pre_lengths_positive.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_lengths_positive [hAttnRefIdeal : Cert.AttnRefIdeal.Facts] [hPre_lengths_positive : Cert.Pre_lengths_positive.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_lengths_positive m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)) →
    ∃ (v0 : (c : Dev Cert.GateUpIdeal.nD) → Buf (Elt Ideal) ((c.tc : Thread Cert.GateUpIdeal.nD Cert.GateUpIdeal.τ).loc Cert.GateUpIdeal.main_v1_0)) (v1 : (c : Dev Cert.GateUpIdeal.nD) → Buf (Elt Ideal) ((c.tc : Thread Cert.GateUpIdeal.nD Cert.GateUpIdeal.τ).loc Cert.GateUpIdeal.main_v1_1)) (v2 : (c : Dev Cert.GateUpIdeal.nD) → Buf (Elt Ideal) ((c.tc : Thread Cert.GateUpIdeal.nD Cert.GateUpIdeal.τ).loc Cert.GateUpIdeal.main_v1_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v1_0) = v0 c
          ∧ r.2.mem ((c.tc : Thread Cert.GateUpIdeal.nD Cert.GateUpIdeal.τ).loc Cert.GateUpIdeal.main_v1_1) = v1 c
          ∧ r.2.mem ((c.tc : Thread Cert.GateUpIdeal.nD Cert.GateUpIdeal.τ).loc Cert.GateUpIdeal.main_v1_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v1_0) = v0 c
          ∧ r.2.mem ((c.tc : Thread Cert.GateUpRefIdeal.nD Cert.GateUpRefIdeal.τ).loc Cert.GateUpRefIdeal.main_v1_1) = v1 c
          ∧ r.2.mem ((c.tc : Thread Cert.GateUpRefIdeal.nD Cert.GateUpRefIdeal.τ).loc Cert.GateUpRefIdeal.main_v1_2) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)) (v2 : (c : Dev Cert.OutProjIdeal.nD) → Buf (Elt Ideal) ((c.tc : Thread Cert.OutProjIdeal.nD Cert.OutProjIdeal.τ).loc Cert.OutProjIdeal.main_v5_2)) (v3 : (c : Dev Cert.OutProjIdeal.nD) → Buf (Elt Ideal) ((c.tc : Thread Cert.OutProjIdeal.nD Cert.OutProjIdeal.τ).loc Cert.OutProjIdeal.main_v5_3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_v5_2) = v2 c
          ∧ r.2.mem ((c.tc : Thread Cert.OutProjIdeal.nD Cert.OutProjIdeal.τ).loc Cert.OutProjIdeal.main_v5_3) = v3 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4_0) = v0 c
          ∧ r.2.mem ((c.tc : Thread Cert.OutProjRefIdeal.nD Cert.OutProjRefIdeal.τ).loc Cert.OutProjRefIdeal.main_v4_1) = v1 c
          ∧ r.2.mem ((c.tc : Thread Cert.OutProjRefIdeal.nD Cert.OutProjRefIdeal.τ).loc Cert.OutProjRefIdeal.main_v4_2) = v2 c
          ∧ r.2.mem ((c.tc : Thread Cert.OutProjRefIdeal.nD Cert.OutProjRefIdeal.τ).loc Cert.OutProjRefIdeal.main_v4_3) = v3 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v3_0)) (v1 : (c : Dev Cert.QkvIdeal.nD) → Buf (Elt Ideal) ((c.tc : Thread Cert.QkvIdeal.nD Cert.QkvIdeal.τ).loc Cert.QkvIdeal.main_v3_1)) (v2 : (c : Dev Cert.QkvIdeal.nD) → Buf (Elt Ideal) ((c.tc : Thread Cert.QkvIdeal.nD Cert.QkvIdeal.τ).loc Cert.QkvIdeal.main_v3_2)) (v3 : (c : Dev Cert.QkvIdeal.nD) → Buf (Elt Ideal) ((c.tc : Thread Cert.QkvIdeal.nD Cert.QkvIdeal.τ).loc Cert.QkvIdeal.main_v3_3)) (v4 : (c : Dev Cert.QkvIdeal.nD) → Buf (Elt Ideal) ((c.tc : Thread Cert.QkvIdeal.nD Cert.QkvIdeal.τ).loc Cert.QkvIdeal.main_v3_4)) (v5 : (c : Dev Cert.QkvIdeal.nD) → Buf (Elt Ideal) ((c.tc : Thread Cert.QkvIdeal.nD Cert.QkvIdeal.τ).loc Cert.QkvIdeal.main_v3_5)) (v6 : (c : Dev Cert.QkvIdeal.nD) → Buf (Elt Ideal) ((c.tc : Thread Cert.QkvIdeal.nD Cert.QkvIdeal.τ).loc Cert.QkvIdeal.main_v3_6)) (v7 : (c : Dev Cert.QkvIdeal.nD) → Buf (Elt Ideal) ((c.tc : Thread Cert.QkvIdeal.nD Cert.QkvIdeal.τ).loc Cert.QkvIdeal.main_v3_7)) (v8 : (c : Dev Cert.QkvIdeal.nD) → Buf (Elt Ideal) ((c.tc : Thread Cert.QkvIdeal.nD Cert.QkvIdeal.τ).loc Cert.QkvIdeal.main_v3_8)) (v9 : (c : Dev Cert.QkvIdeal.nD) → Buf (Elt Ideal) ((c.tc : Thread Cert.QkvIdeal.nD Cert.QkvIdeal.τ).loc Cert.QkvIdeal.main_v3_9)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3_0) = v0 c
          ∧ r.2.mem ((c.tc : Thread Cert.QkvIdeal.nD Cert.QkvIdeal.τ).loc Cert.QkvIdeal.main_v3_1) = v1 c
          ∧ r.2.mem ((c.tc : Thread Cert.QkvIdeal.nD Cert.QkvIdeal.τ).loc Cert.QkvIdeal.main_v3_2) = v2 c
          ∧ r.2.mem ((c.tc : Thread Cert.QkvIdeal.nD Cert.QkvIdeal.τ).loc Cert.QkvIdeal.main_v3_3) = v3 c
          ∧ r.2.mem ((c.tc : Thread Cert.QkvIdeal.nD Cert.QkvIdeal.τ).loc Cert.QkvIdeal.main_v3_4) = v4 c
          ∧ r.2.mem ((c.tc : Thread Cert.QkvIdeal.nD Cert.QkvIdeal.τ).loc Cert.QkvIdeal.main_v3_5) = v5 c
          ∧ r.2.mem ((c.tc : Thread Cert.QkvIdeal.nD Cert.QkvIdeal.τ).loc Cert.QkvIdeal.main_v3_6) = v6 c
          ∧ r.2.mem ((c.tc : Thread Cert.QkvIdeal.nD Cert.QkvIdeal.τ).loc Cert.QkvIdeal.main_v3_7) = v7 c
          ∧ r.2.mem ((c.tc : Thread Cert.QkvIdeal.nD Cert.QkvIdeal.τ).loc Cert.QkvIdeal.main_v3_8) = v8 c
          ∧ r.2.mem ((c.tc : Thread Cert.QkvIdeal.nD Cert.QkvIdeal.τ).loc Cert.QkvIdeal.main_v3_9) = v9 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v5_0) = v0 c
          ∧ r.2.mem ((c.tc : Thread Cert.QkvRefIdeal.nD Cert.QkvRefIdeal.τ).loc Cert.QkvRefIdeal.main_v5_1) = v1 c
          ∧ r.2.mem ((c.tc : Thread Cert.QkvRefIdeal.nD Cert.QkvRefIdeal.τ).loc Cert.QkvRefIdeal.main_v5_2) = v2 c
          ∧ r.2.mem ((c.tc : Thread Cert.QkvRefIdeal.nD Cert.QkvRefIdeal.τ).loc Cert.QkvRefIdeal.main_v5_3) = v3 c
          ∧ r.2.mem ((c.tc : Thread Cert.QkvRefIdeal.nD Cert.QkvRefIdeal.τ).loc Cert.QkvRefIdeal.main_v5_4) = v4 c
          ∧ r.2.mem ((c.tc : Thread Cert.QkvRefIdeal.nD Cert.QkvRefIdeal.τ).loc Cert.QkvRefIdeal.main_v5_5) = v5 c
          ∧ r.2.mem ((c.tc : Thread Cert.QkvRefIdeal.nD Cert.QkvRefIdeal.τ).loc Cert.QkvRefIdeal.main_v5_6) = v6 c
          ∧ r.2.mem ((c.tc : Thread Cert.QkvRefIdeal.nD Cert.QkvRefIdeal.τ).loc Cert.QkvRefIdeal.main_v5_7) = v7 c
          ∧ r.2.mem ((c.tc : Thread Cert.QkvRefIdeal.nD Cert.QkvRefIdeal.τ).loc Cert.QkvRefIdeal.main_v5_8) = v8 c
          ∧ r.2.mem ((c.tc : Thread Cert.QkvRefIdeal.nD Cert.QkvRefIdeal.τ).loc Cert.QkvRefIdeal.main_v5_9) = v9 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Attn_AttnIdeal : Prop :=
  True

def algebraic_AttnIdeal_AttnRefIdeal [hAttnIdeal : Cert.AttnIdeal.Facts] [hAttnRefIdeal : Cert.AttnRefIdeal.Facts] [hPre_lengths_positive : Cert.Pre_lengths_positive.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v1_2)) (v1 : (c : Dev Cert.AttnIdeal.nD) → Buf (Elt Ideal) ((c.tc : Thread Cert.AttnIdeal.nD Cert.AttnIdeal.τ).loc Cert.AttnIdeal.main_v1_3)) (v2 : (c : Dev Cert.AttnIdeal.nD) → Buf (Elt Ideal) ((c.tc : Thread Cert.AttnIdeal.nD Cert.AttnIdeal.τ).loc Cert.AttnIdeal.main_v1_4)) (v3 : (c : Dev Cert.AttnIdeal.nD) → Buf (Elt Ideal) ((c.tc : Thread Cert.AttnIdeal.nD Cert.AttnIdeal.τ).loc Cert.AttnIdeal.main_v1_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1_2) = v0 c
          ∧ r.2.mem ((c.tc : Thread Cert.AttnIdeal.nD Cert.AttnIdeal.τ).loc Cert.AttnIdeal.main_v1_3) = v1 c
          ∧ r.2.mem ((c.tc : Thread Cert.AttnIdeal.nD Cert.AttnIdeal.τ).loc Cert.AttnIdeal.main_v1_4) = v2 c
          ∧ r.2.mem ((c.tc : Thread Cert.AttnIdeal.nD Cert.AttnIdeal.τ).loc Cert.AttnIdeal.main_v1_5) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v1_0) = v0 c
          ∧ r.2.mem ((c.tc : Thread Cert.AttnRefIdeal.nD Cert.AttnRefIdeal.τ).loc Cert.AttnRefIdeal.main_v1_1) = v1 c
          ∧ r.2.mem ((c.tc : Thread Cert.AttnRefIdeal.nD Cert.AttnRefIdeal.τ).loc Cert.AttnRefIdeal.main_v1_2) = v2 c
          ∧ r.2.mem ((c.tc : Thread Cert.AttnRefIdeal.nD Cert.AttnRefIdeal.τ).loc Cert.AttnRefIdeal.main_v1_3) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def Claim : Prop :=
  ∃ (hDown : Cert.Down.Facts) (hDownIdeal : Cert.DownIdeal.Facts) (hDownRefIdeal : Cert.DownRefIdeal.Facts) (hGateUp : Cert.GateUp.Facts) (hGateUpIdeal : Cert.GateUpIdeal.Facts) (hGateUpRefIdeal : Cert.GateUpRefIdeal.Facts) (hOutProj : Cert.OutProj.Facts) (hOutProjIdeal : Cert.OutProjIdeal.Facts) (hOutProjRefIdeal : Cert.OutProjRefIdeal.Facts) (hQkv : Cert.Qkv.Facts) (hQkvIdeal : Cert.QkvIdeal.Facts) (hQkvRefIdeal : Cert.QkvRefIdeal.Facts) (hAttn : Cert.Attn.Facts) (hAttnIdeal : Cert.AttnIdeal.Facts) (hAttnRefIdeal : Cert.AttnRefIdeal.Facts) (hPre_lengths_positive : Cert.Pre_lengths_positive.Facts),
    quiescent_Down (hDown := hDown)
    ∧ quiescent_DownIdeal (hDownIdeal := hDownIdeal)
    ∧ quiescent_DownRefIdeal (hDownRefIdeal := hDownRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Attn (hAttn := hAttn) (hPre_lengths_positive := hPre_lengths_positive)
    ∧ quiescent_AttnIdeal (hAttnIdeal := hAttnIdeal) (hPre_lengths_positive := hPre_lengths_positive)
    ∧ quiescent_AttnRefIdeal (hAttnRefIdeal := hAttnRefIdeal)
    ∧ quiescent_AttnRefIdeal_pre_lengths_positive (hAttnRefIdeal := hAttnRefIdeal) (hPre_lengths_positive := hPre_lengths_positive)
    ∧ preserves_Down_DownIdeal
    ∧ algebraic_DownIdeal_DownRefIdeal (hDownIdeal := hDownIdeal) (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_OutProj_OutProjIdeal
    ∧ algebraic_OutProjIdeal_OutProjRefIdeal (hOutProjIdeal := hOutProjIdeal) (hOutProjRefIdeal := hOutProjRefIdeal)
    ∧ preserves_Qkv_QkvIdeal
    ∧ algebraic_QkvIdeal_QkvRefIdeal (hQkvIdeal := hQkvIdeal) (hQkvRefIdeal := hQkvRefIdeal)
    ∧ preserves_Attn_AttnIdeal
    ∧ algebraic_AttnIdeal_AttnRefIdeal (hAttnIdeal := hAttnIdeal) (hAttnRefIdeal := hAttnRefIdeal) (hPre_lengths_positive := hPre_lengths_positive)
-- ==== Pre_lengths_positive.lean ====
abbrev S2 : Shape := ⟨1, ![2]⟩
abbrev S2x4096x1024 : Shape := ⟨3, ![2, 4096, 1024]⟩
abbrev S2x32x32x128 : Shape := ⟨4, ![2, 32, 32, 128]⟩
abbrev S2x32x8x128 : Shape := ⟨4, ![2, 32, 8, 128]⟩
abbrev S2x4096x128 : Shape := ⟨3, ![2, 4096, 128]⟩
abbrev S2x1x128 : Shape := ⟨3, ![2, 1, 128]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : IVec S2x4096x1024 8) (main_arg2 : FVec F S2x32x32x128 .f32) (main_arg3 : FVec F S2x32x8x128 .f32) (main_arg4 : FVec F S2x4096x128 .f32) (main_arg5 : FVec F S2x4096x128 .f32) (main_arg6 : FVec F S2x1x128 .f32) (main_arg7 : FVec F S2x1x128 .f32) : IVec S2 1 :=
  let main_c : IVec S_ 32 := constantI S_ 32 1#32
  let main_v0 : IVec S2 32 := broadcastInDim S2 ![] bcast_S_S2 main_c
  let main_v1 : IVec S2 1 := cmpi .sge main_arg0 main_v0
  main_v1
-- ==== Down.lean ====
abbrev S8192x3696 : Shape := ⟨2, ![8192, 3696]⟩
abbrev S8192x128 : Shape := ⟨2, ![8192, 128]⟩
abbrev S3696x8192 : Shape := ⟨2, ![3696, 8192]⟩
abbrev S8192 : Shape := ⟨1, ![8192]⟩
abbrev S8192x8192 : Shape := ⟨2, ![8192, 8192]⟩
abbrev S1x8192 : Shape := ⟨2, ![1, 8192]⟩
abbrev S512x3696 : Shape := ⟨2, ![512, 3696]⟩
abbrev S512x128 : Shape := ⟨2, ![512, 128]⟩
abbrev S3696x1024 : Shape := ⟨2, ![3696, 1024]⟩
abbrev S1x1024 : Shape := ⟨2, ![1, 1024]⟩
abbrev S512x1024 : Shape := ⟨2, ![512, 1024]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x3696, .fp8e4m3⟩
  | .hbm, ⟨1, _⟩ => ⟨S8192x128, .f32⟩
  | .hbm, ⟨2, _⟩ => ⟨S3696x8192, .fp8e4m3⟩
  | .hbm, ⟨3, _⟩ => ⟨S8192, .f32⟩
  | .hbm, ⟨4, _⟩ => ⟨S8192x8192, .f32⟩
  | .hbm, ⟨5, _⟩ => ⟨S1x8192, .f32⟩
  | .hbm, ⟨6, _⟩ => ⟨S8192x8192, .bf16⟩
  | .local _ .vmem, ⟨0, _⟩ => ⟨S512x3696, .fp8e4m3⟩
  | .local _ .vmem, ⟨1, _⟩ => ⟨S512x3696, .fp8e4m3⟩
  | .local _ .vmem, ⟨2, _⟩ => ⟨S512x128, .f32⟩
  | .local _ .vmem, ⟨3, _⟩ => ⟨S512x128, .f32⟩
  | .local _ .vmem, ⟨4, _⟩ => ⟨S3696x1024, .fp8e4m3⟩
  | .local _ .vmem, ⟨5, _⟩ => ⟨S3696x1024, .fp8e4m3⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x3696, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x3696 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3696x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S8192x3696 : Shape := ⟨2, ![8192, 3696]⟩
abbrev S8192x128 : Shape := ⟨2, ![8192, 128]⟩
abbrev S3696x8192 : Shape := ⟨2, ![3696, 8192]⟩
abbrev S8192 : Shape := ⟨1, ![8192]⟩
abbrev S8192x8192 : Shape := ⟨2, ![8192, 8192]⟩
abbrev S1x8192 : Shape := ⟨2, ![1, 8192]⟩
abbrev S8192x1 : Shape := ⟨2, ![8192, 1]⟩

abbrev nBuf : Space → Nat
  | .hbm => 7
  | .vmem => 6
  | .smem => 0
  | _ => 0

abbrev bufTy : (tb : Table) → Fin (tcTables nBuf tb) → BufTy
  | .hbm, ⟨0, _⟩ => ⟨S8192x3696, .fp8e4m3⟩
  | .hbm, ⟨1, _⟩ => ⟨S8192x128, .f32⟩
  | .hbm, ⟨2, _⟩ => ⟨S3696x8192, .fp8e4m3⟩
  | .hbm, ⟨3, _⟩ => ⟨S8192, .f32⟩
  | .hbm, ⟨4, _⟩ => ⟨S8192x8192, .f32⟩
  | .hbm, ⟨5, _⟩ => ⟨S1x8192, .f32⟩
  | .hbm, ⟨6, _⟩ => ⟨S8192x8192, .bf16⟩
  | .local _ .vmem, ⟨0, _⟩ => ⟨S8192x3696, .fp8e4m3⟩
  | .local _ .vmem, ⟨1, _⟩ => ⟨S8192x128, .f32⟩
  | .local _ .vmem, ⟨2, _⟩ => ⟨S3696x8192, .fp8e4m3⟩
  | .local _ .vmem, ⟨3, _⟩ => ⟨S1x8192, .f32⟩
  | .local _ .vmem, ⟨4, _⟩ => ⟨S8192x8192, .f32⟩
  | .local _ .vmem, ⟨5, _⟩ => ⟨S8192x8192, .bf16⟩
  | _, _ => ⟨S8192x3696, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x3696 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3696x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GateUp.lean ====
abbrev S8192x8192 : Shape := ⟨2, ![8192, 8192]⟩
abbrev S8192x128 : Shape := ⟨2, ![8192, 128]⟩
abbrev S8192x7392 : Shape := ⟨2, ![8192, 7392]⟩
abbrev S7392 : Shape := ⟨1, ![7392]⟩
abbrev S1x7392 : Shape := ⟨2, ![1, 7392]⟩
abbrev S8192x3696 : Shape := ⟨2, ![8192, 3696]⟩
abbrev S2x4096 : Shape := ⟨2, ![2, 4096]⟩
abbrev S512x8192 : Shape := ⟨2, ![512, 8192]⟩
abbrev S512x128 : Shape := ⟨2, ![512, 128]⟩
abbrev S8192x512 : Shape := ⟨2, ![8192, 512]⟩
abbrev S1x512 : Shape := ⟨2, ![1, 512]⟩
abbrev S512x3696 : Shape := ⟨2, ![512, 3696]⟩
abbrev S512x7680 : Shape := ⟨2, ![512, 7680]⟩
abbrev S512x512 : Shape := ⟨2, ![512, 512]⟩
abbrev S512x1 : Shape := ⟨2, ![512, 1]⟩
abbrev S512 : Shape := ⟨1, ![512]⟩
abbrev S128x512 : Shape := ⟨2, ![128, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x8192, .fp8e4m3⟩
  | .hbm, ⟨1, _⟩ => ⟨S8192x128, .f32⟩
  | .hbm, ⟨2, _⟩ => ⟨S8192x7392, .fp8e4m3⟩
  | .hbm, ⟨3, _⟩ => ⟨S7392, .f32⟩
  | .hbm, ⟨4, _⟩ => ⟨S1x7392, .f32⟩
  | .hbm, ⟨5, _⟩ => ⟨S8192x3696, .fp8e4m3⟩
  | .hbm, ⟨6, _⟩ => ⟨S2x4096, .f32⟩
  | .hbm, ⟨7, _⟩ => ⟨S8192x128, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x128, .f32⟩
  | .local _ .vmem, ⟨3, _⟩ => ⟨S512x128, .f32⟩
  | .local _ .vmem, ⟨4, _⟩ => ⟨S8192x512, .fp8e4m3⟩
  | .local _ .vmem, ⟨5, _⟩ => ⟨S8192x512, .fp8e4m3⟩
  | .local _ .vmem, ⟨6, _⟩ => ⟨S1x512, .f32⟩
  | .local _ .vmem, ⟨7, _⟩ => ⟨S1x512, .f32⟩
  | .local _ .vmem, ⟨8, _⟩ => ⟨S512x3696, .fp8e4m3⟩
  | .local _ .vmem, ⟨9, _⟩ => ⟨S512x3696, .fp8e4m3⟩
  | .local _ .vmem, ⟨10, _⟩ => ⟨S2x4096, .f32⟩
  | .local _ .vmem, ⟨11, _⟩ => ⟨S512x128, .f32⟩
  | .local _ .vmem, ⟨12, _⟩ => ⟨S512x128, .f32⟩
  | .local _ .vmem, ⟨13, _⟩ => ⟨S512x7680, .f32⟩
  | _, _ => ⟨S8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 15], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let c0_7 : Index := 0#32
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  ![0, v12.toNat]
def k0_cond1 (i : grid0.Coords) : BitVec 1 :=
  let arg1 : BitVec 32 := BitVec.ofNat 32 (i 1).val
  let c14_i32 : BitVec 32 := 14#32
  let v16 : BitVec 1 := Scalar.cmpi .eq arg1 c14_i32
  let v17 : BitVec 32 := Scalar.extui v16
  let c0_i32 : BitVec 32 := 0#32
  let v18 : BitVec 1 := Scalar.cmpi .ne v17 c0_i32
  v18

def k0_cond2 (i : grid0.Coords) : BitVec 1 :=
  let arg0 : BitVec 32 := BitVec.ofNat 32 (i 0).val
  let c8_i32 : BitVec 32 := 8#32
  let v46 : BitVec 32 := Scalar.divsi arg0 c8_i32
  let c0_i32_24 : BitVec 32 := 0#32
  let v53 : BitVec 1 := Scalar.cmpi .eq v46 c0_i32_24
  let v54 : BitVec 32 := Scalar.extui v53
  let c0_i32_25 : BitVec 32 := 0#32
  let v55 : BitVec 1 := Scalar.cmpi .ne v54 c0_i32_25
  v55

def k0_mult2 (i : grid0.Coords) : BitVec 32 :=
  let arg0 : BitVec 32 := BitVec.ofNat 32 (i 0).val
  let c8_i32_22 : BitVec 32 := 8#32
  let v47 : BitVec 32 := Scalar.remsi arg0 c8_i32_22
  let c512_i32_23 : BitVec 32 := 512#32
  let v48 : BitVec 32 := Scalar.muli v47 c512_i32_23
  v48
def k0_off2 (i : grid0.Coords) : Fin 2 → Nat :=
  let c0_27 : Index := 0#32
  let arg0 : BitVec 32 := BitVec.ofNat 32 (i 0).val
  let c8_i32_22 : BitVec 32 := 8#32
  let v47 : BitVec 32 := Scalar.remsi arg0 c8_i32_22
  let c512_i32_23 : BitVec 32 := 512#32
  let v48 : BitVec 32 := Scalar.muli v47 c512_i32_23
  let v59 : BitVec 32 := v48
  let v60 : Index := Scalar.indexCast v59
  ![0, v60.toNat]
def k0_cond3 (i : grid0.Coords) : BitVec 1 :=
  let arg0 : BitVec 32 := BitVec.ofNat 32 (i 0).val
  let c8_i32 : BitVec 32 := 8#32
  let v46 : BitVec 32 := Scalar.divsi arg0 c8_i32
  let c1_i32 : BitVec 32 := 1#32
  let v56 : BitVec 1 := Scalar.cmpi .eq v46 c1_i32
  let v57 : BitVec 32 := Scalar.extui v56
  let c0_i32_26 : BitVec 32 := 0#32
  let v58 : BitVec 1 := Scalar.cmpi .ne v57 c0_i32_26
  v58

def k0_mult3 (i : grid0.Coords) : BitVec 32 :=
  let arg0 : BitVec 32 := BitVec.ofNat 32 (i 0).val
  let c8_i32_22 : BitVec 32 := 8#32
  let v47 : BitVec 32 := Scalar.remsi arg0 c8_i32_22
  let c512_i32_23 : BitVec 32 := 512#32
  let v48 : BitVec 32 := Scalar.muli v47 c512_i32_23
  v48
def k0_off3 (i : grid0.Coords) : Fin 2 → Nat :=
  let c1 : Index := 1#32
  let arg0 : BitVec 32 := BitVec.ofNat 32 (i 0).val
  let c8_i32_22 : BitVec 32 := 8#32
  let v47 : BitVec 32 := Scalar.remsi arg0 c8_i32_22
  let c512_i32_23 : BitVec 32 := 512#32
  let v48 : BitVec 32 := Scalar.muli v47 c512_i32_23
  let v59 : BitVec 32 := v48
  let v60 : Index := Scalar.indexCast v59
  ![1, v60.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x3696 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GateUpRefIdeal.lean ====
abbrev S8192x8192 : Shape := ⟨2, ![8192, 8192]⟩
abbrev S8192x128 : Shape := ⟨2, ![8192, 128]⟩
abbrev S8192x7392 : Shape := ⟨2, ![8192, 7392]⟩
abbrev S7392 : Shape := ⟨1, ![7392]⟩
abbrev S1x7392 : Shape := ⟨2, ![1, 7392]⟩
abbrev S8192x3696 : Shape := ⟨2, ![8192, 3696]⟩
abbrev S2x4096 : Shape := ⟨2, ![2, 4096]⟩
abbrev S8192x1 : Shape := ⟨2, ![8192, 1]⟩
abbrev S2x4096x3696 : Shape := ⟨3, ![2, 4096, 3696]⟩
abbrev S2x4096x1 : Shape := ⟨3, ![2, 4096, 1]⟩
abbrev S2x4096x128 : Shape := ⟨3, ![2, 4096, 128]⟩

abbrev nBuf : Space → Nat
  | .hbm => 8
  | .vmem => 7
  | .smem => 0
  | _ => 0

abbrev bufTy : (tb : Table) → Fin (tcTables nBuf tb) → BufTy
  | .hbm, ⟨0, _⟩ => ⟨S8192x8192, .fp8e4m3⟩
  | .hbm, ⟨1, _⟩ => ⟨S8192x128, .f32⟩
  | .hbm, ⟨2, _⟩ => ⟨S8192x7392, .fp8e4m3⟩
  | .hbm, ⟨3, _⟩ => ⟨S7392, .f32⟩
  | .hbm, ⟨4, _⟩ => ⟨S1x7392, .f32⟩
  | .hbm, ⟨5, _⟩ => ⟨S8192x3696, .fp8e4m3⟩
  | .hbm, ⟨6, _⟩ => ⟨S2x4096, .f32⟩
  | .hbm, ⟨7, _⟩ => ⟨S8192x128, .f32⟩
  | .local _ .vmem, ⟨0, _⟩ => ⟨S8192x8192, .fp8e4m3⟩
  | .local _ .vmem, ⟨1, _⟩ => ⟨S8192x128, .f32⟩
  | .local _ .vmem, ⟨2, _⟩ => ⟨S8192x7392, .fp8e4m3⟩
  | .local _ .vmem, ⟨3, _⟩ => ⟨S1x7392, .f32⟩
  | .local _ .vmem, ⟨4, _⟩ => ⟨S8192x3696, .fp8e4m3⟩
  | .local _ .vmem, ⟨5, _⟩ => ⟨S2x4096, .f32⟩
  | .local _ .vmem, ⟨6, _⟩ => ⟨S8192x128, .f32⟩
  | _, _ => ⟨S8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7392 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x7392 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3696 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OutProj.lean ====
abbrev S2x4096x1024 : Shape := ⟨3, ![2, 4096, 1024]⟩
abbrev S2x4096 : Shape := ⟨2, ![2, 4096]⟩
abbrev S1024x8192 : Shape := ⟨2, ![1024, 8192]⟩
abbrev S8192 : Shape := ⟨1, ![8192]⟩
abbrev S2x4096x8192 : Shape := ⟨3, ![2, 4096, 8192]⟩
abbrev S8192x1024 : Shape := ⟨2, ![8192, 1024]⟩
abbrev S32x1x256 : Shape := ⟨3, ![32, 1, 256]⟩
abbrev S1x8192 : Shape := ⟨2, ![1, 8192]⟩
abbrev S8192x8192 : Shape := ⟨2, ![8192, 8192]⟩
abbrev S8192x128 : Shape := ⟨2, ![8192, 128]⟩
abbrev S256x1024 : Shape := ⟨2, ![256, 1024]⟩
abbrev S1x1x256 : Shape := ⟨3, ![1, 1, 256]⟩
abbrev S256x8192 : Shape := ⟨2, ![256, 8192]⟩
abbrev S256x128 : Shape := ⟨2, ![256, 128]⟩
abbrev S1x256 : Shape := ⟨2, ![1, 256]⟩
abbrev S128x256 : Shape := ⟨2, ![128, 256]⟩
abbrev S256x1 : Shape := ⟨2, ![256, 1]⟩
abbrev S256 : Shape := ⟨1, ![256]⟩

abbrev nBuf : Space → Nat
  | .hbm => 15
  | .vmem => 16
  | .smem => 0
  | _ => 0

abbrev bufTy : (tb : Table) → Fin (tcTables nBuf tb) → BufTy
  | .hbm, ⟨0, _⟩ => ⟨S2x4096x1024, .fp8e4m3⟩
  | .hbm, ⟨1, _⟩ => ⟨S2x4096, .f32⟩
  | .hbm, ⟨2, _⟩ => ⟨S1024x8192, .fp8e4m3⟩
  | .hbm, ⟨3, _⟩ => ⟨S8192, .f32⟩
  | .hbm, ⟨4, _⟩ => ⟨S2x4096x8192, .bf16⟩
  | .hbm, ⟨5, _⟩ => ⟨S8192, .f32⟩
  | .hbm, ⟨6, _⟩ => ⟨S8192x1024, .fp8e4m3⟩
  | .hbm, ⟨7, _⟩ => ⟨S32x1x256, .f32⟩
  | .hbm, ⟨8, _⟩ => ⟨S1x8192, .f32⟩
  | .hbm, ⟨9, _⟩ => ⟨S8192x8192, .bf16⟩
  | .hbm, ⟨10, _⟩ => ⟨S1x8192, .f32⟩
  | .hbm, ⟨11, _⟩ => ⟨S8192x8192, .f32⟩
  | .hbm, ⟨12, _⟩ => ⟨S8192x8192, .fp8e4m3⟩
  | .hbm, ⟨13, _⟩ => ⟨S2x4096, .f32⟩
  | .hbm, ⟨14, _⟩ => ⟨S8192x128, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S1x1x256, .f32⟩
  | .local _ .vmem, ⟨3, _⟩ => ⟨S1x1x256, .f32⟩
  | .local _ .vmem, ⟨4, _⟩ => ⟨S1024x8192, .fp8e4m3⟩
  | .local _ .vmem, ⟨5, _⟩ => ⟨S1x8192, .f32⟩
  | .local _ .vmem, ⟨6, _⟩ => ⟨S256x8192, .bf16⟩
  | .local _ .vmem, ⟨7, _⟩ => ⟨S256x8192, .bf16⟩
  | .local _ .vmem, ⟨8, _⟩ => ⟨S1x8192, .f32⟩
  | .local _ .vmem, ⟨9, _⟩ => ⟨S256x8192, .f32⟩
  | .local _ .vmem, ⟨10, _⟩ => ⟨S256x8192, .f32⟩
  | .local _ .vmem, ⟨11, _⟩ => ⟨S256x8192, .fp8e4m3⟩
  | .local _ .vmem, ⟨12, _⟩ => ⟨S256x8192, .fp8e4m3⟩
  | .local _ .vmem, ⟨13, _⟩ => ⟨S2x4096, .f32⟩
  | .local _ .vmem, ⟨14, _⟩ => ⟨S256x128, .f32⟩
  | .local _ .vmem, ⟨15, _⟩ => ⟨S256x128, .f32⟩
  | _, _ => ⟨S2x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c16_i32 : BitVec 32 := 16#32
  let v58 : BitVec 32 := Scalar.divsi arg0 c16_i32
  let c0_i32 : BitVec 32 := 0#32
  let v65 : BitVec 1 := Scalar.cmpi .eq v58 c0_i32
  let v66 : BitVec 32 := Scalar.extui v65
  let c0_i32_29 : BitVec 32 := 0#32
  let v67 : BitVec 1 := Scalar.cmpi .ne v66 c0_i32_29
  v67

def k0_mult1 (i : grid0.Coords) : BitVec 32 :=
  let arg0 : BitVec 32 := BitVec.ofNat 32 (i 0).val
  let c16_i32_28 : BitVec 32 := 16#32
  let v59 : BitVec 32 := Scalar.remsi arg0 c16_i32_28
  let c256_i32 : BitVec 32 := 256#32
  let v60 : BitVec 32 := Scalar.muli v59 c256_i32
  v60
def k0_off1 (i : grid0.Coords) : Fin 2 → Nat :=
  let c0_31 : Index := 0#32
  let arg0 : BitVec 32 := BitVec.ofNat 32 (i 0).val
  let c16_i32_28 : BitVec 32 := 16#32
  let v59 : BitVec 32 := Scalar.remsi arg0 c16_i32_28
  let c256_i32 : BitVec 32 := 256#32
  let v60 : BitVec 32 := Scalar.muli v59 c256_i32
  let v71 : BitVec 32 := v60
  let v72 : Index := Scalar.indexCast v71
  ![0, v72.toNat]
def k0_cond2 (i : grid0.Coords) : BitVec 1 :=
  let arg0 : BitVec 32 := BitVec.ofNat 32 (i 0).val
  let c16_i32 : BitVec 32 := 16#32
  let v58 : BitVec 32 := Scalar.divsi arg0 c16_i32
  let c1_i32 : BitVec 32 := 1#32
  let v68 : BitVec 1 := Scalar.cmpi .eq v58 c1_i32
  let v69 : BitVec 32 := Scalar.extui v68
  let c0_i32_30 : BitVec 32 := 0#32
  let v70 : BitVec 1 := Scalar.cmpi .ne v69 c0_i32_30
  v70

def k0_mult2 (i : grid0.Coords) : BitVec 32 :=
  let arg0 : BitVec 32 := BitVec.ofNat 32 (i 0).val
  let c16_i32_28 : BitVec 32 := 16#32
  let v59 : BitVec 32 := Scalar.remsi arg0 c16_i32_28
  let c256_i32 : BitVec 32 := 256#32
  let v60 : BitVec 32 := Scalar.muli v59 c256_i32
  v60
def k0_off2 (i : grid0.Coords) : Fin 2 → Nat :=
  let c1 : Index := 1#32
  let arg0 : BitVec 32 := BitVec.ofNat 32 (i 0).val
  let c16_i32_28 : BitVec 32 := 16#32
  let v59 : BitVec 32 := Scalar.remsi arg0 c16_i32_28
  let c256_i32 : BitVec 32 := 256#32
  let v60 : BitVec 32 := Scalar.muli v59 c256_i32
  let v71 : BitVec 32 := v60
  let v72 : Index := Scalar.indexCast v71
  ![1, v72.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8192 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S2x4096x1024 : Shape := ⟨3, ![2, 4096, 1024]⟩
abbrev S2x4096 : Shape := ⟨2, ![2, 4096]⟩
abbrev S1024x8192 : Shape := ⟨2, ![1024, 8192]⟩
abbrev S8192 : Shape := ⟨1, ![8192]⟩
abbrev S2x4096x8192 : Shape := ⟨3, ![2, 4096, 8192]⟩
abbrev S8192x1024 : Shape := ⟨2, ![8192, 1024]⟩
abbrev S1x8192 : Shape := ⟨2, ![1, 8192]⟩
abbrev S8192x8192 : Shape := ⟨2, ![8192, 8192]⟩
abbrev S8192x128 : Shape := ⟨2, ![8192, 128]⟩
abbrev S8192x1 : Shape := ⟨2, ![8192, 1]⟩
abbrev S2x4096x1 : Shape := ⟨3, ![2, 4096, 1]⟩
abbrev S2x4096x128 : Shape := ⟨3, ![2, 4096, 128]⟩

abbrev nBuf : Space → Nat
  | .hbm => 14
  | .vmem => 10
  | .smem => 0
  | _ => 0

abbrev bufTy : (tb : Table) → Fin (tcTables nBuf tb) → BufTy
  | .hbm, ⟨0, _⟩ => ⟨S2x4096x1024, .fp8e4m3⟩
  | .hbm, ⟨1, _⟩ => ⟨S2x4096, .f32⟩
  | .hbm, ⟨2, _⟩ => ⟨S1024x8192, .fp8e4m3⟩
  | .hbm, ⟨3, _⟩ => ⟨S8192, .f32⟩
  | .hbm, ⟨4, _⟩ => ⟨S2x4096x8192, .bf16⟩
  | .hbm, ⟨5, _⟩ => ⟨S8192, .f32⟩
  | .hbm, ⟨6, _⟩ => ⟨S8192x1024, .fp8e4m3⟩
  | .hbm, ⟨7, _⟩ => ⟨S1x8192, .f32⟩
  | .hbm, ⟨8, _⟩ => ⟨S8192x8192, .bf16⟩
  | .hbm, ⟨9, _⟩ => ⟨S1x8192, .f32⟩
  | .hbm, ⟨10, _⟩ => ⟨S8192x8192, .f32⟩
  | .hbm, ⟨11, _⟩ => ⟨S8192x8192, .fp8e4m3⟩
  | .hbm, ⟨12, _⟩ => ⟨S2x4096, .f32⟩
  | .hbm, ⟨13, _⟩ => ⟨S8192x128, .f32⟩
  | .local _ .vmem, ⟨0, _⟩ => ⟨S8192x1024, .fp8e4m3⟩
  | .local _ .vmem, ⟨1, _⟩ => ⟨S2x4096, .f32⟩
  | .local _ .vmem, ⟨2, _⟩ => ⟨S1024x8192, .fp8e4m3⟩
  | .local _ .vmem, ⟨3, _⟩ => ⟨S1x8192, .f32⟩
  | .local _ .vmem, ⟨4, _⟩ => ⟨S8192x8192, .bf16⟩
  | .local _ .vmem, ⟨5, _⟩ => ⟨S1x8192, .f32⟩
  | .local _ .vmem, ⟨6, _⟩ => ⟨S8192x8192, .f32⟩
  | .local _ .vmem, ⟨7, _⟩ => ⟨S8192x8192, .fp8e4m3⟩
  | .local _ .vmem, ⟨8, _⟩ => ⟨S2x4096, .f32⟩
  | .local _ .vmem, ⟨9, _⟩ => ⟨S8192x128, .f32⟩
  | _, _ => ⟨S2x4096x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S2 : Shape := ⟨1, ![2]⟩
abbrev S2x4096x8192 : Shape := ⟨3, ![2, 4096, 8192]⟩
abbrev S2x4096x64 : Shape := ⟨3, ![2, 4096, 64]⟩
abbrev S8192 : Shape := ⟨1, ![8192]⟩
abbrev S8192x1280 : Shape := ⟨2, ![8192, 1280]⟩
abbrev S1280 : Shape := ⟨1, ![1280]⟩
abbrev S1x8192 : Shape := ⟨2, ![1, 8192]⟩
abbrev S1x1280 : Shape := ⟨2, ![1, 1280]⟩
abbrev S2x4096 : Shape := ⟨2, ![2, 4096]⟩
abbrev S2x4096x1024 : Shape := ⟨3, ![2, 4096, 1024]⟩
abbrev S2x128x8 : Shape := ⟨3, ![2, 128, 8]⟩
abbrev S2x32x32x128 : Shape := ⟨4, ![2, 32, 32, 128]⟩
abbrev S2x32x8x128 : Shape := ⟨4, ![2, 32, 8, 128]⟩
abbrev S2x4096x128 : Shape := ⟨3, ![2, 4096, 128]⟩
abbrev S2x1x128 : Shape := ⟨3, ![2, 1, 128]⟩
abbrev S1x256x8192 : Shape := ⟨3, ![1, 256, 8192]⟩
abbrev S1x256x64 : Shape := ⟨3, ![1, 256, 64]⟩
abbrev S1x256x1024 : Shape := ⟨3, ![1, 256, 1024]⟩
abbrev S1x8x8 : Shape := ⟨3, ![1, 8, 8]⟩
abbrev S1x2x32x128 : Shape := ⟨4, ![1, 2, 32, 128]⟩
abbrev S1x2x8x128 : Shape := ⟨4, ![1, 2, 8, 128]⟩
abbrev S1x256x128 : Shape := ⟨3, ![1, 256, 128]⟩
abbrev S1x1x128 : Shape := ⟨3, ![1, 1, 128]⟩
abbrev S256x8192 : Shape := ⟨2, ![256, 8192]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S256x1280 : Shape := ⟨2, ![256, 1280]⟩
abbrev S256x64 : Shape := ⟨2, ![256, 64]⟩
abbrev S1 : Shape := ⟨1, ![1]⟩
abbrev S1x128 : Shape := ⟨2, ![1, 128]⟩
abbrev S128 : Shape := ⟨1, ![128]⟩
abbrev S1x1 : Shape := ⟨2, ![1, 1]⟩
abbrev S8x8 : Shape := ⟨2, ![8, 8]⟩
abbrev S2x128x128 : Shape := ⟨3, ![2, 128, 128]⟩
abbrev S2x128 : Shape := ⟨2, ![2, 128]⟩
abbrev S8x32x128 : Shape := ⟨3, ![8, 32, 128]⟩
abbrev S8x128 : Shape := ⟨2, ![8, 128]⟩
abbrev S8 : Shape := ⟨1, ![8]⟩
abbrev S8x1 : Shape := ⟨2, ![8, 1]⟩
abbrev S8x1x1 : Shape := ⟨3, ![8, 1, 1]⟩
abbrev S4x128 : Shape := ⟨2, ![4, 128]⟩
abbrev S1x1x4x128 : Shape := ⟨4, ![1, 1, 4, 128]⟩
abbrev S2x8x128 : Shape := ⟨3, ![2, 8, 128]⟩

abbrev nBuf : Space → Nat
  | .hbm => 21
  | .vmem => 29
  | .smem => 1
  | _ => 0

abbrev bufTy : (tb : Table) → Fin (tcTables nBuf tb) → BufTy
  | .hbm, ⟨0, _⟩ => ⟨S2, .i32⟩
  | .hbm, ⟨1, _⟩ => ⟨S2x4096x8192, .bf16⟩
  | .hbm, ⟨2, _⟩ => ⟨S2x4096x64, .f32⟩
  | .hbm, ⟨3, _⟩ => ⟨S2x4096x64, .f32⟩
  | .hbm, ⟨4, _⟩ => ⟨S8192, .f32⟩
  | .hbm, ⟨5, _⟩ => ⟨S8192x1280, .fp8e4m3⟩
  | .hbm, ⟨6, _⟩ => ⟨S1280, .f32⟩
  | .hbm, ⟨7, _⟩ => ⟨S1280, .f32⟩
  | .hbm, ⟨8, _⟩ => ⟨S1x8192, .f32⟩
  | .hbm, ⟨9, _⟩ => ⟨S1x1280, .f32⟩
  | .hbm, ⟨10, _⟩ => ⟨S1x1280, .f32⟩
  | .hbm, ⟨11, _⟩ => ⟨S2x4096x8192, .fp8e4m3⟩
  | .hbm, ⟨12, _⟩ => ⟨S2x4096, .f32⟩
  | .hbm, ⟨13, _⟩ => ⟨S2x4096x1024, .i8⟩
  | .hbm, ⟨14, _⟩ => ⟨S2x128x8, .f32⟩
  | .hbm, ⟨15, _⟩ => ⟨S2x32x32x128, .f32⟩
  | .hbm, ⟨16, _⟩ => ⟨S2x32x8x128, .f32⟩
  | .hbm, ⟨17, _⟩ => ⟨S2x4096x128, .f32⟩
  | .hbm, ⟨18, _⟩ => ⟨S2x4096x128, .f32⟩
  | .hbm, ⟨19, _⟩ => ⟨S2x1x128, .f32⟩
  | .hbm, ⟨20, _⟩ => ⟨S2x1x128, .f32⟩
  | .local _ .vmem, ⟨0, _⟩ => ⟨S1x256x8192, .bf16⟩
  | .local _ .vmem, ⟨1, _⟩ => ⟨S1x256x8192, .bf16⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x8192, .f32⟩
  | .local _ .vmem, ⟨7, _⟩ => ⟨S8192x1280, .fp8e4m3⟩
  | .local _ .vmem, ⟨8, _⟩ => ⟨S1x1280, .f32⟩
  | .local _ .vmem, ⟨9, _⟩ => ⟨S1x1280, .f32⟩
  | .local _ .vmem, ⟨10, _⟩ => ⟨S1x256x8192, .fp8e4m3⟩
  | .local _ .vmem, ⟨11, _⟩ => ⟨S1x256x8192, .fp8e4m3⟩
  | .local _ .vmem, ⟨12, _⟩ => ⟨S2x4096, .f32⟩
  | .local _ .vmem, ⟨13, _⟩ => ⟨S1x256x1024, .i8⟩
  | .local _ .vmem, ⟨14, _⟩ => ⟨S1x256x1024, .i8⟩
  | .local _ .vmem, ⟨15, _⟩ => ⟨S1x8x8, .f32⟩
  | .local _ .vmem, ⟨16, _⟩ => ⟨S1x8x8, .f32⟩
  | .local _ .vmem, ⟨17, _⟩ => ⟨S1x2x32x128, .f32⟩
  | .local _ .vmem, ⟨18, _⟩ => ⟨S1x2x32x128, .f32⟩
  | .local _ .vmem, ⟨19, _⟩ => ⟨S1x2x8x128, .f32⟩
  | .local _ .vmem, ⟨20, _⟩ => ⟨S1x2x8x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev main_v3_9 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_16 : BitVec 32 := 0#32
  let v45 : BitVec 1 := Scalar.cmpi .ne v44 c0_i32_16
  v45

def k0_mult1 (i : grid0.Coords) : BitVec 32 :=
  let arg1 : BitVec 32 := BitVec.ofNat 32 (i 1).val
  let c256_i32 : BitVec 32 := 256#32
  let v38 : BitVec 32 := Scalar.muli arg1 c256_i32
  v38
def k0_off1 (i : grid0.Coords) : Fin 2 → Nat :=
  let c0_237 : Index := 0#32
  let arg1 : BitVec 32 := BitVec.ofNat 32 (i 1).val
  let c256_i32 : BitVec 32 := 256#32
  let v38 : BitVec 32 := Scalar.muli arg1 c256_i32
  let v568 : BitVec 32 := v38
  let v569 : Index := Scalar.indexCast v568
  ![0, v569.toNat]
def k0_cond2 (i : grid0.Coords) : BitVec 1 :=
  let arg0 : BitVec 32 := BitVec.ofNat 32 (i 0).val
  let c1_i32 : BitVec 32 := 1#32
  let v46 : BitVec 1 := Scalar.cmpi .eq arg0 c1_i32
  let v47 : BitVec 32 := Scalar.extui v46
  let c0_i32_17 : BitVec 32 := 0#32
  let v48 : BitVec 1 := Scalar.cmpi .ne v47 c0_i32_17
  v48

def k0_mult2 (i : grid0.Coords) : BitVec 32 :=
  let arg1 : BitVec 32 := BitVec.ofNat 32 (i 1).val
  let c256_i32 : BitVec 32 := 256#32
  let v38 : BitVec 32 := Scalar.muli arg1 c256_i32
  v38
def k0_off2 (i : grid0.Coords) : Fin 2 → Nat :=
  let c1_237 : Index := 1#32
  let arg1 : BitVec 32 := BitVec.ofNat 32 (i 1).val
  let c256_i32 : BitVec 32 := 256#32
  let v38 : BitVec 32 := Scalar.muli arg1 c256_i32
  let v568 : BitVec 32 := v38
  let v569 : Index := Scalar.indexCast v568
  ![1, v569.toNat]
def k0_off3 (i : grid0.Coords) : Fin 1 → Nat :=
  let arg0 : BitVec 32 := BitVec.ofNat 32 (i 0).val
  let v81 : Index := Scalar.indexCast arg0
  ![v81.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== QkvRefIdeal.lean ====
abbrev S2 : Shape := ⟨1, ![2]⟩
abbrev S2x4096x8192 : Shape := ⟨3, ![2, 4096, 8192]⟩
abbrev S2x4096x64 : Shape := ⟨3, ![2, 4096, 64]⟩
abbrev S8192 : Shape := ⟨1, ![8192]⟩
abbrev S8192x1280 : Shape := ⟨2, ![8192, 1280]⟩
abbrev S1280 : Shape := ⟨1, ![1280]⟩
abbrev S2x1 : Shape := ⟨2, ![2, 1]⟩
abbrev S8192x8192 : Shape := ⟨2, ![8192, 8192]⟩
abbrev S1x8192 : Shape := ⟨2, ![1, 8192]⟩
abbrev S1x1280 : Shape := ⟨2, ![1, 1280]⟩
abbrev S2x4096 : Shape := ⟨2, ![2, 4096]⟩
abbrev S2x4096x1024 : Shape := ⟨3, ![2, 4096, 1024]⟩
abbrev S2x128x8 : Shape := ⟨3, ![2, 128, 8]⟩
abbrev S2x32x32x128 : Shape := ⟨4, ![2, 32, 32, 128]⟩
abbrev S2x32x8x128 : Shape := ⟨4, ![2, 32, 8, 128]⟩
abbrev S2x4096x128 : Shape := ⟨3, ![2, 4096, 128]⟩
abbrev S2x1x128 : Shape := ⟨3, ![2, 1, 128]⟩
abbrev S8192x1 : Shape := ⟨2, ![8192, 1]⟩
abbrev S2x4096x1 : Shape := ⟨3, ![2, 4096, 1]⟩
abbrev S8192x1024 : Shape := ⟨2, ![8192, 1024]⟩
abbrev S2x4096x8x128 : Shape := ⟨4, ![2, 4096, 8, 128]⟩
abbrev S2x4096x8x64 : Shape := ⟨4, ![2, 4096, 8, 64]⟩
abbrev S2x4096x1x64 : Shape := ⟨4, ![2, 4096, 1, 64]⟩
abbrev S8192x128 : Shape := ⟨2, ![8192, 128]⟩
abbrev S2x4096x1x128 : Shape := ⟨4, ![2, 4096, 1, 128]⟩
abbrev S2x128 : Shape := ⟨2, ![2, 128]⟩
abbrev S2x32x128x8x128 : Shape := ⟨5, ![2, 32, 128, 8, 128]⟩
abbrev S2x32x1x8x128 : Shape := ⟨5, ![2, 32, 1, 8, 128]⟩
abbrev S2x128x32x8x128 : Shape := ⟨5, ![2, 128, 32, 8, 128]⟩
abbrev S2x128x32x8 : Shape := ⟨4, ![2, 128, 32, 8]⟩
abbrev S2x128x1x8x1 : Shape := ⟨5, ![2, 128, 1, 8, 1]⟩
abbrev S2x32x4x8 : Shape := ⟨4, ![2, 32, 4, 8]⟩
abbrev S2x32x8x4 : Shape := ⟨4, ![2, 32, 8, 4]⟩
abbrev S2x32x32x1 : Shape := ⟨4, ![2, 32, 32, 1]⟩

abbrev nBuf : Space → Nat
  | .hbm => 23
  | .vmem => 18
  | .smem => 0
  | _ => 0

abbrev bufTy : (tb : Table) → Fin (tcTables nBuf tb) → BufTy
  | .hbm, ⟨0, _⟩ => ⟨S2, .i32⟩
  | .hbm, ⟨1, _⟩ => ⟨S2x4096x8192, .bf16⟩
  | .hbm, ⟨2, _⟩ => ⟨S2x4096x64, .f32⟩
  | .hbm, ⟨3, _⟩ => ⟨S2x4096x64, .f32⟩
  | .hbm, ⟨4, _⟩ => ⟨S8192, .f32⟩
  | .hbm, ⟨5, _⟩ => ⟨S8192x1280, .fp8e4m3⟩
  | .hbm, ⟨6, _⟩ => ⟨S1280, .f32⟩
  | .hbm, ⟨7, _⟩ => ⟨S1280, .f32⟩
  | .hbm, ⟨8, _⟩ => ⟨S2x1, .i32⟩
  | .hbm, ⟨9, _⟩ => ⟨S8192x8192, .bf16⟩
  | .hbm, ⟨10, _⟩ => ⟨S1x8192, .f32⟩
  | .hbm, ⟨11, _⟩ => ⟨S1x1280, .f32⟩
  | .hbm, ⟨12, _⟩ => ⟨S1x1280, .f32⟩
  | .hbm, ⟨13, _⟩ => ⟨S2x4096x8192, .fp8e4m3⟩
  | .hbm, ⟨14, _⟩ => ⟨S2x4096, .f32⟩
  | .hbm, ⟨15, _⟩ => ⟨S2x4096x1024, .i8⟩
  | .hbm, ⟨16, _⟩ => ⟨S2x128x8, .f32⟩
  | .hbm, ⟨17, _⟩ => ⟨S2x32x32x128, .f32⟩
  | .hbm, ⟨18, _⟩ => ⟨S2x32x8x128, .f32⟩
  | .hbm, ⟨19, _⟩ => ⟨S2x4096x128, .f32⟩
  | .hbm, ⟨20, _⟩ => ⟨S2x4096x128, .f32⟩
  | .hbm, ⟨21, _⟩ => ⟨S2x1x128, .f32⟩
  | .hbm, ⟨22, _⟩ => ⟨S2x1x128, .f32⟩
  | .local _ .vmem, ⟨0, _⟩ => ⟨S2x1, .i32⟩
  | .local _ .vmem, ⟨1, _⟩ => ⟨S8192x8192, .bf16⟩
  | .local _ .vmem, ⟨2, _⟩ => ⟨S2x4096x64, .f32⟩
  | .local _ .vmem, ⟨3, _⟩ => ⟨S2x4096x64, .f32⟩
  | .local _ .vmem, ⟨4, _⟩ => ⟨S1x8192, .f32⟩
  | .local _ .vmem, ⟨5, _⟩ => ⟨S8192x1280, .fp8e4m3⟩
  | .local _ .vmem, ⟨6, _⟩ => ⟨S1x1280, .f32⟩
  | .local _ .vmem, ⟨7, _⟩ => ⟨S1x1280, .f32⟩
  | .local _ .vmem, ⟨8, _⟩ => ⟨S2x4096x8192, .fp8e4m3⟩
  | .local _ .vmem, ⟨9, _⟩ => ⟨S2x4096, .f32⟩
  | .local _ .vmem, ⟨10, _⟩ => ⟨S2x4096x1024, .i8⟩
  | .local _ .vmem, ⟨11, _⟩ => ⟨S2x128x8, .f32⟩
  | .local _ .vmem, ⟨12, _⟩ => ⟨S2x32x32x128, .f32⟩
  | .local _ .vmem, ⟨13, _⟩ => ⟨S2x32x8x128, .f32⟩
  | .local _ .vmem, ⟨14, _⟩ => ⟨S2x4096x128, .f32⟩
  | .local _ .vmem, ⟨15, _⟩ => ⟨S2x4096x128, .f32⟩
  | .local _ .vmem, ⟨16, _⟩ => ⟨S2x1x128, .f32⟩
  | .local _ .vmem, ⟨17, _⟩ => ⟨S2x1x128, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev main_v5_6 : Ref sig .tc := ⟨.hbm, 19, rfl⟩
abbrev main_v5_7 : Ref sig .tc := ⟨.hbm, 20, rfl⟩
abbrev main_v5_8 : Ref sig .tc := ⟨.hbm, 21, rfl⟩
abbrev main_v5_9 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S2x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4096x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x4096x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x32x32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x32x8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x4096x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x4096x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Attn.lean ====
abbrev S2 : Shape := ⟨1, ![2]⟩
abbrev S2x4096x1024 : Shape := ⟨3, ![2, 4096, 1024]⟩
abbrev S2x32x32x128 : Shape := ⟨4, ![2, 32, 32, 128]⟩
abbrev S2x32x8x128 : Shape := ⟨4, ![2, 32, 8, 128]⟩
abbrev S2x4096x128 : Shape := ⟨3, ![2, 4096, 128]⟩
abbrev S2x1x128 : Shape := ⟨3, ![2, 1, 128]⟩
abbrev S2x256x128 : Shape := ⟨3, ![2, 256, 128]⟩
abbrev S2x4096 : Shape := ⟨2, ![2, 4096]⟩
abbrev S2x64x1 : Shape := ⟨3, ![2, 64, 1]⟩
abbrev S1x128x1024 : Shape := ⟨3, ![1, 128, 1024]⟩
abbrev S1x1x32x128 : Shape := ⟨4, ![1, 1, 32, 128]⟩
abbrev S1x256x128 : Shape := ⟨3, ![1, 256, 128]⟩
abbrev S1x4096x128 : Shape := ⟨3, ![1, 4096, 128]⟩
abbrev S1x1x128 : Shape := ⟨3, ![1, 1, 128]⟩
abbrev S1x64x1 : Shape := ⟨3, ![1, 64, 1]⟩
abbrev S4096x128 : Shape := ⟨2, ![4096, 128]⟩
abbrev S32x128 : Shape := ⟨2, ![32, 128]⟩
abbrev S256x4096 : Shape := ⟨2, ![256, 4096]⟩
abbrev S32x32x128 : Shape := ⟨3, ![32, 32, 128]⟩
abbrev S32x1024x128 : Shape := ⟨3, ![32, 1024, 128]⟩
abbrev S1024x128 : Shape := ⟨2, ![1024, 128]⟩
abbrev S1 : Shape := ⟨1, ![1]⟩
abbrev S1x128 : Shape := ⟨2, ![1, 128]⟩
abbrev S64x64x128 : Shape := ⟨3, ![64, 64, 128]⟩
abbrev S64x128 : Shape := ⟨2, ![64, 128]⟩
abbrev S64 : Shape := ⟨1, ![64]⟩
abbrev S64x1 : Shape := ⟨2, ![64, 1]⟩
abbrev S64x1x1 : Shape := ⟨3, ![64, 1, 1]⟩
abbrev S32x2x128 : Shape := ⟨3, ![32, 2, 128]⟩
abbrev S32x1x128 : Shape := ⟨3, ![32, 1, 128]⟩
abbrev S256x128 : Shape := ⟨2, ![256, 128]⟩
abbrev S4096x1 : Shape := ⟨2, ![4096, 1]⟩
abbrev S128 : Shape := ⟨1, ![128]⟩
abbrev S1x32x128 : Shape := ⟨3, ![1, 32, 128]⟩
abbrev S128x1024 : Shape := ⟨2, ![128, 1024]⟩
abbrev S128x128 : Shape := ⟨2, ![128, 128]⟩
abbrev S1024x256 : Shape := ⟨2, ![1024, 256]⟩
abbrev S8x4x32x128 : Shape := ⟨4, ![8, 4, 32, 128]⟩
abbrev S8x4x1x128 : Shape := ⟨4, ![8, 4, 1, 128]⟩
abbrev S8x128 : Shape := ⟨2, ![8, 128]⟩
abbrev S8x128x128 : Shape := ⟨3, ![8, 128, 128]⟩
abbrev S8x1x128 : Shape := ⟨3, ![8, 1, 128]⟩
abbrev S1x1024x128 : Shape := ⟨3, ![1, 1024, 128]⟩
abbrev S1x128x128 : Shape := ⟨3, ![1, 128, 128]⟩
abbrev S1024 : Shape := ⟨1, ![1024]⟩
abbrev S1024x1 : Shape := ⟨2, ![1024, 1]⟩
abbrev S128x1 : Shape := ⟨2, ![128, 1]⟩

abbrev nBuf : Space → Nat
  | .hbm => 15
  | .vmem => 33
  | .smem => 1
  | _ => 0

abbrev bufTy : (tb : Table) → Fin (tcTables nBuf tb) → BufTy
  | .hbm, ⟨0, _⟩ => ⟨S2, .i32⟩
  | .hbm, ⟨1, _⟩ => ⟨S2x4096x1024, .i8⟩
  | .hbm, ⟨2, _⟩ => ⟨S2x32x32x128, .f32⟩
  | .hbm, ⟨3, _⟩ => ⟨S2x32x8x128, .f32⟩
  | .hbm, ⟨4, _⟩ => ⟨S2x4096x128, .f32⟩
  | .hbm, ⟨5, _⟩ => ⟨S2x4096x128, .f32⟩
  | .hbm, ⟨6, _⟩ => ⟨S2x1x128, .f32⟩
  | .hbm, ⟨7, _⟩ => ⟨S2x1x128, .f32⟩
  | .hbm, ⟨8, _⟩ => ⟨S2x256x128, .f32⟩
  | .hbm, ⟨9, _⟩ => ⟨S2x4096x1024, .fp8e4m3⟩
  | .hbm, ⟨10, _⟩ => ⟨S2x4096, .f32⟩
  | .hbm, ⟨11, _⟩ => ⟨S2x4096x128, .i8⟩
  | .hbm, ⟨12, _⟩ => ⟨S2x64x1, .f32⟩
  | .hbm, ⟨13, _⟩ => ⟨S2x4096x128, .fp8e4m3⟩
  | .hbm, ⟨14, _⟩ => ⟨S2x1x128, .f32⟩
  | .local _ .vmem, ⟨0, _⟩ => ⟨S1x128x1024, .i8⟩
  | .local _ .vmem, ⟨1, _⟩ => ⟨S1x128x1024, .i8⟩
  | .local _ .vmem, ⟨2, _⟩ => ⟨S1x1x32x128, .f32⟩
  | .local _ .vmem, ⟨3, _⟩ => ⟨S1x1x32x128, .f32⟩
  | .local _ .vmem, ⟨4, _⟩ => ⟨S1x256x128, .f32⟩
  | .local _ .vmem, ⟨5, _⟩ => ⟨S1x256x128, .f32⟩
  | .local _ .vmem, ⟨6, _⟩ => ⟨S1x4096x128, .f32⟩
  | .local _ .vmem, ⟨7, _⟩ => ⟨S1x4096x128, .f32⟩
  | .local _ .vmem, ⟨8, _⟩ => ⟨S1x4096x128, .f32⟩
  | .local _ .vmem, ⟨9, _⟩ => ⟨S1x4096x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x128x1024, .fp8e4m3⟩
  | .local _ .vmem, ⟨15, _⟩ => ⟨S1x128x1024, .fp8e4m3⟩
  | .local _ .vmem, ⟨16, _⟩ => ⟨S2x4096, .f32⟩
  | .local _ .vmem, ⟨17, _⟩ => ⟨S1x4096x128, .i8⟩
  | .local _ .vmem, ⟨18, _⟩ => ⟨S1x4096x128, .i8⟩
  | .local _ .vmem, ⟨19, _⟩ => ⟨S1x64x1, .f32⟩
  | .local _ .vmem, ⟨20, _⟩ => ⟨S1x64x1, .f32⟩
  | .local _ .vmem, ⟨21, _⟩ => ⟨S1x4096x128, .fp8e4m3⟩
  | .local _ .vmem, ⟨22, _⟩ => ⟨S1x4096x128, .fp8e4m3⟩
  | .local _ .vmem, ⟨23, _⟩ => ⟨S1x1x128, .f32⟩
  | .local _ .vmem, ⟨24, _⟩ => ⟨S1x1x128, .f32⟩
  | .local _ .vmem, ⟨25, _⟩ => ⟨S4096x128, .bf16⟩
  | .local _ .vmem, ⟨26, _⟩ => ⟨S32x128, .f32⟩
  | .local _ .vmem, ⟨27, _⟩ => ⟨S256x4096, .f32⟩
  | .local _ .vmem, ⟨28, _⟩ => ⟨S32x32x128, .f32⟩
  | .local _ .vmem, ⟨29, _⟩ => ⟨S32x1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 32], ![false, false]⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) (v1 : BitVec 32) : Scf.Loop 32 :=
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_147 : BitVec 32 := 1#32
  ⟨c0_i32_145, v229, c1_i32_147⟩

def k0_mult1 (i : grid0.Coords) (v1 : BitVec 32) (k0_t1 : Fin (k0_t1_loop i v1).trips) : BitVec 32 :=
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  v500
def k0_off2 (i : grid0.Coords) (v1 : BitVec 32) (k0_t1 : Fin (k0_t1_loop i v1).trips) : Fin 2 → Nat :=
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let v502 : Index := Scalar.indexCast v501
  let c0_262 : Index := 0#32
  ![v502.toNat, 0]
def k0_off3 (i : grid0.Coords) (v1 : BitVec 32) (k0_t1 : Fin (k0_t1_loop i v1).trips) (c0_i32_265 : BitVec 32) : Fin 3 → Nat :=
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c2_i32_264 : BitVec 32 := 2#32
  let v505 : BitVec 32 := Scalar.muli v499 c2_i32_264
  let v506 : BitVec 32 := Scalar.addi v505 c0_i32_265
  let v507 : Index := Scalar.indexCast v506
  let c0_266 : Index := 0#32
  let c0_267 : Index := 0#32
  ![v507.toNat, 0, 0]
def k0_mult2 (i : grid0.Coords) (v1 : BitVec 32) (k0_t1 : Fin (k0_t1_loop i v1).trips) : BitVec 32 :=
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let c0_i32_268 : BitVec 32 := 0#32
  let v515 : BitVec 32 := Scalar.addi v501 c0_i32_268
  v515
def k0_mult3 (i : grid0.Coords) : BitVec 32 :=
  let arg1 : BitVec 32 := BitVec.ofNat 32 (i 1).val
  let c8_i32_269 : BitVec 32 := 8#32
  let v517 : BitVec 32 := Scalar.muli arg1 c8_i32_269
  v517
def k0_off4 (i : grid0.Coords) (v1 : BitVec 32) (k0_t1 : Fin (k0_t1_loop i v1).trips) (c0_i32_268 : BitVec 32) : Fin 2 → Nat :=
  let arg1 : BitVec 32 := BitVec.ofNat 32 (i 1).val
  let c8_i32_269 : BitVec 32 := 8#32
  let v517 : BitVec 32 := Scalar.muli arg1 c8_i32_269
  let v518 : BitVec 32 := v517
  let v519 : Index := Scalar.indexCast v518
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let v515 : BitVec 32 := Scalar.addi v501 c0_i32_268
  let v516 : BitVec 32 := v515
  let v520 : Index := Scalar.indexCast v516
  ![v519.toNat, v520.toNat]
def k0_off5 (i : grid0.Coords) (v1 : BitVec 32) (k0_t1 : Fin (k0_t1_loop i v1).trips) (c0_i32_271 : BitVec 32) : Fin 3 → Nat :=
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c2_i32_270 : BitVec 32 := 2#32
  let v527 : BitVec 32 := Scalar.muli v499 c2_i32_270
  let v528 : BitVec 32 := Scalar.addi v527 c0_i32_271
  let v529 : Index := Scalar.indexCast v528
  let c0_272 : Index := 0#32
  let c0_273 : Index := 0#32
  ![v529.toNat, 0, 0]
def k0_mult4 (i : grid0.Coords) (v1 : BitVec 32) (k0_t1 : Fin (k0_t1_loop i v1).trips) : BitVec 32 :=
  let c0_i32_144 : BitVec 32 := 0#32
  let c0_i32_145 : BitVec 32 := 0#32
  let c1_i32_147 : BitVec 32 := 1#32
  let arg24 : BitVec 32 := Scf.iv c0_i32_145 c1_i32_147 k0_t1
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let c128_i32_282 : BitVec 32 := 128#32
  let v548 : BitVec 32 := Scalar.addi v501 c128_i32_282
  v548
def k0_mult5 (i : grid0.Coords) : BitVec 32 :=
  let arg1 : BitVec 32 := BitVec.ofNat 32 (i 1).val
  let c8_i32_283 : BitVec 32 := 8#32
  let v550 : BitVec 32 := Scalar.muli arg1 c8_i32_283
  v550
@[reducible] def k0_t2_loop (i : grid0.Coords) (v1 : BitVec 32) : Scf.Loop 32 :=
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let v226 : BitVec 32 := Scalar.addi c0_i32_145 v225
  let c1_i32_148 : BitVec 32 := 1#32
  ⟨v229, v226, c1_i32_148⟩
def k0_mult6 (i : grid0.Coords) (v1 : BitVec 32) (k0_t2 : Fin (k0_t2_loop i v1).trips) : BitVec 32 :=
  let c0_i32_144 : BitVec 32 := 0#32
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  v500
def k0_off6 (i : grid0.Coords) (v1 : BitVec 32) (k0_t2 : Fin (k0_t2_loop i v1).trips) : Fin 2 → Nat :=
  let c0_i32_144 : BitVec 32 := 0#32
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let v502 : Index := Scalar.indexCast v501
  let c0_262 : Index := 0#32
  ![v502.toNat, 0]
def k0_off7 (i : grid0.Coords) (v1 : BitVec 32) (k0_t2 : Fin (k0_t2_loop i v1).trips) (c0_i32_265 : BitVec 32) : Fin 3 → Nat :=
  let c0_i32_144 : BitVec 32 := 0#32
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c2_i32_264 : BitVec 32 := 2#32
  let v505 : BitVec 32 := Scalar.muli v499 c2_i32_264
  let v506 : BitVec 32 := Scalar.addi v505 c0_i32_265
  let v507 : Index := Scalar.indexCast v506
  let c0_266 : Index := 0#32
  let c0_267 : Index := 0#32
  ![v507.toNat, 0, 0]
def k0_mult7 (i : grid0.Coords) (v1 : BitVec 32) (k0_t2 : Fin (k0_t2_loop i v1).trips) : BitVec 32 :=
  let c0_i32_144 : BitVec 32 := 0#32
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let c0_i32_268 : BitVec 32 := 0#32
  let v515 : BitVec 32 := Scalar.addi v501 c0_i32_268
  v515
def k0_mult8 (i : grid0.Coords) : BitVec 32 :=
  let arg1 : BitVec 32 := BitVec.ofNat 32 (i 1).val
  let c8_i32_269 : BitVec 32 := 8#32
  let v517 : BitVec 32 := Scalar.muli arg1 c8_i32_269
  v517
def k0_off8 (i : grid0.Coords) (v1 : BitVec 32) (k0_t2 : Fin (k0_t2_loop i v1).trips) (c0_i32_268 : BitVec 32) : Fin 2 → Nat :=
  let arg1 : BitVec 32 := BitVec.ofNat 32 (i 1).val
  let c8_i32_269 : BitVec 32 := 8#32
  let v517 : BitVec 32 := Scalar.muli arg1 c8_i32_269
  let v518 : BitVec 32 := v517
  let v519 : Index := Scalar.indexCast v518
  let c0_i32_144 : BitVec 32 := 0#32
  let c0_i32_145 : BitVec 32 := 0#32
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let v515 : BitVec 32 := Scalar.addi v501 c0_i32_268
  let v516 : BitVec 32 := v515
  let v520 : Index := Scalar.indexCast v516
  ![v519.toNat, v520.toNat]
def k0_off9 (i : grid0.Coords) (v1 : BitVec 32) (k0_t2 : Fin (k0_t2_loop i v1).trips) (c0_i32_271 : BitVec 32) : Fin 3 → Nat :=
  let c0_i32_144 : BitVec 32 := 0#32
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c2_i32_270 : BitVec 32 := 2#32
  let v527 : BitVec 32 := Scalar.muli v499 c2_i32_270
  let v528 : BitVec 32 := Scalar.addi v527 c0_i32_271
  let v529 : Index := Scalar.indexCast v528
  let c0_272 : Index := 0#32
  let c0_273 : Index := 0#32
  ![v529.toNat, 0, 0]
def k0_mult9 (i : grid0.Coords) (v1 : BitVec 32) (k0_t2 : Fin (k0_t2_loop i v1).trips) : BitVec 32 :=
  let c0_i32_144 : BitVec 32 := 0#32
  let c0_i32_145 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c0_i32_139 : BitVec 32 := 0#32
  let v221 : BitVec 32 := Scalar.subi v216 c0_i32_139
  let c1_i32_140 : BitVec 32 := 1#32
  let c1_i32_141 : BitVec 32 := 1#32
  let v222 : BitVec 32 := Scalar.subi c1_i32_140 c1_i32_141
  let v223 : BitVec 32 := Scalar.addi v221 v222
  let c1_i32_142 : BitVec 32 := 1#32
  let v224 : BitVec 32 := Scalar.divsi v223 c1_i32_142
  let v225 : BitVec 32 := Scalar.subi v224 c0_i32_145
  let c1_i32_146 : BitVec 32 := 1#32
  let v227 : BitVec 32 := Scalar.divsi v225 c1_i32_146
  let v228 : BitVec 32 := Scalar.muli v227 c1_i32_146
  let v229 : BitVec 32 := Scalar.addi c0_i32_145 v228
  let c1_i32_148 : BitVec 32 := 1#32
  let arg24 : BitVec 32 := Scf.iv v229 c1_i32_148 k0_t2
  let c1_i32_143 : BitVec 32 := 1#32
  let v498 : BitVec 32 := Scalar.muli arg24 c1_i32_143
  let v499 : BitVec 32 := Scalar.addi c0_i32_144 v498
  let c256_i32_261 : BitVec 32 := 256#32
  let v500 : BitVec 32 := Scalar.muli v499 c256_i32_261
  let v501 : BitVec 32 := v500
  let c128_i32_282 : BitVec 32 := 128#32
  let v548 : BitVec 32 := Scalar.addi v501 c128_i32_282
  v548
def k0_mult10 (i : grid0.Coords) : BitVec 32 :=
  let arg1 : BitVec 32 := BitVec.ofNat 32 (i 1).val
  let c8_i32_283 : BitVec 32 := 8#32
  let v550 : BitVec 32 := Scalar.muli arg1 c8_i32_283
  v550
def k0_mult11 (i : grid0.Coords) (v1 : BitVec 32) : BitVec 32 :=
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c256_i32_149 : BitVec 32 := 256#32
  let v230 : BitVec 32 := Scalar.muli v216 c256_i32_149
  v230
def k0_off10 (i : grid0.Coords) (v1 : BitVec 32) : Fin 2 → Nat :=
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c256_i32_149 : BitVec 32 := 256#32
  let v230 : BitVec 32 := Scalar.muli v216 c256_i32_149
  let v231 : BitVec 32 := v230
  let v232 : Index := Scalar.indexCast v231
  let c0_150 : Index := 0#32
  ![v232.toNat, 0]
def k0_off11 (i : grid0.Coords) (v1 : BitVec 32) (c0_i32_152 : BitVec 32) : Fin 3 → Nat :=
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c2_i32 : BitVec 32 := 2#32
  let v235 : BitVec 32 := Scalar.muli v216 c2_i32
  let v236 : BitVec 32 := Scalar.addi v235 c0_i32_152
  let v237 : Index := Scalar.indexCast v236
  let c0_153 : Index := 0#32
  let c0_154 : Index := 0#32
  ![v237.toNat, 0, 0]
def k0_mult12 (i : grid0.Coords) (v1 : BitVec 32) : BitVec 32 :=
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c256_i32_149 : BitVec 32 := 256#32
  let v230 : BitVec 32 := Scalar.muli v216 c256_i32_149
  let v231 : BitVec 32 := v230
  let c0_i32_155 : BitVec 32 := 0#32
  let v245 : BitVec 32 := Scalar.addi v231 c0_i32_155
  v245
def k0_mult13 (i : grid0.Coords) : BitVec 32 :=
  let arg1 : BitVec 32 := BitVec.ofNat 32 (i 1).val
  let c8_i32 : BitVec 32 := 8#32
  let v247 : BitVec 32 := Scalar.muli arg1 c8_i32
  v247
def k0_off12 (i : grid0.Coords) (v1 : BitVec 32) (c0_i32_155 : BitVec 32) : Fin 2 → Nat :=
  let arg1 : BitVec 32 := BitVec.ofNat 32 (i 1).val
  let c8_i32 : BitVec 32 := 8#32
  let v247 : BitVec 32 := Scalar.muli arg1 c8_i32
  let v248 : BitVec 32 := v247
  let v249 : Index := Scalar.indexCast v248
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c256_i32_149 : BitVec 32 := 256#32
  let v230 : BitVec 32 := Scalar.muli v216 c256_i32_149
  let v231 : BitVec 32 := v230
  let v245 : BitVec 32 := Scalar.addi v231 c0_i32_155
  let v246 : BitVec 32 := v245
  let v250 : Index := Scalar.indexCast v246
  ![v249.toNat, v250.toNat]
def k0_off13 (i : grid0.Coords) (v1 : BitVec 32) (c0_i32_159 : BitVec 32) : Fin 3 → Nat :=
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c2_i32_158 : BitVec 32 := 2#32
  let v273 : BitVec 32 := Scalar.muli v216 c2_i32_158
  let v274 : BitVec 32 := Scalar.addi v273 c0_i32_159
  let v275 : Index := Scalar.indexCast v274
  let c0_160 : Index := 0#32
  let c0_161 : Index := 0#32
  ![v275.toNat, 0, 0]
def k0_mult14 (i : grid0.Coords) (v1 : BitVec 32) : BitVec 32 :=
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c256_i32_149 : BitVec 32 := 256#32
  let v230 : BitVec 32 := Scalar.muli v216 c256_i32_149
  let v231 : BitVec 32 := v230
  let c128_i32_170 : BitVec 32 := 128#32
  let v294 : BitVec 32 := Scalar.addi v231 c128_i32_170
  v294
def k0_mult15 (i : grid0.Coords) : BitVec 32 :=
  let arg1 : BitVec 32 := BitVec.ofNat 32 (i 1).val
  let c8_i32_171 : BitVec 32 := 8#32
  let v296 : BitVec 32 := Scalar.muli arg1 c8_i32_171
  v296
@[reducible] def k0_t3_loop (i : grid0.Coords) (v1 : BitVec 32) : Scf.Loop 32 :=
  let c0_i32_201 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c1_i32_194 : BitVec 32 := 1#32
  let v352 : BitVec 32 := Scalar.addi v216 c1_i32_194
  let c0_i32_195 : BitVec 32 := 0#32
  let v353 : BitVec 32 := Scalar.subi v352 c0_i32_195
  let c1_i32_196 : BitVec 32 := 1#32
  let c1_i32_197 : BitVec 32 := 1#32
  let v354 : BitVec 32 := Scalar.subi c1_i32_196 c1_i32_197
  let v355 : BitVec 32 := Scalar.addi v353 v354
  let c1_i32_198 : BitVec 32 := 1#32
  let v356 : BitVec 32 := Scalar.divsi v355 c1_i32_198
  let v357 : BitVec 32 := Scalar.subi v356 c0_i32_201
  let c1_i32_202 : BitVec 32 := 1#32
  let v359 : BitVec 32 := Scalar.divsi v357 c1_i32_202
  let v360 : BitVec 32 := Scalar.muli v359 c1_i32_202
  let v361 : BitVec 32 := Scalar.addi c0_i32_201 v360
  let c1_i32_203 : BitVec 32 := 1#32
  ⟨c0_i32_201, v361, c1_i32_203⟩
def k0_off14 (i : grid0.Coords) (v1 : BitVec 32) (k0_t3 : Fin (k0_t3_loop i v1).trips) (c0_i32_264 : BitVec 32) : Fin 3 → Nat :=
  let c0_i32_200 : BitVec 32 := 0#32
  let c0_i32_201 : BitVec 32 := 0#32
  let c1_i32_203 : BitVec 32 := 1#32
  let arg24 : BitVec 32 := Scf.iv c0_i32_201 c1_i32_203 k0_t3
  let c1_i32_199 : BitVec 32 := 1#32
  let v498 : BitVec 32 := Scalar.muli arg24 c1_i32_199
  let v499 : BitVec 32 := Scalar.addi c0_i32_200 v498
  let c2_i32_263 : BitVec 32 := 2#32
  let v501 : BitVec 32 := Scalar.muli v499 c2_i32_263
  let v502 : BitVec 32 := Scalar.addi v501 c0_i32_264
  let v503 : Index := Scalar.indexCast v502
  let c0_265 : Index := 0#32
  let c0_266 : Index := 0#32
  ![v503.toNat, 0, 0]
def k0_mult16 (i : grid0.Coords) (v1 : BitVec 32) (k0_t3 : Fin (k0_t3_loop i v1).trips) : BitVec 32 :=
  let c0_i32_200 : BitVec 32 := 0#32
  let c0_i32_201 : BitVec 32 := 0#32
  let c1_i32_203 : BitVec 32 := 1#32
  let arg24 : BitVec 32 := Scf.iv c0_i32_201 c1_i32_203 k0_t3
  let c1_i32_199 : BitVec 32 := 1#32
  let v498 : BitVec 32 := Scalar.muli arg24 c1_i32_199
  let v499 : BitVec 32 := Scalar.addi c0_i32_200 v498
  let c256_i32_281 : BitVec 32 := 256#32
  let v532 : BitVec 32 := Scalar.muli v499 c256_i32_281
  v532
def k0_off15 (i : grid0.Coords) (v1 : BitVec 32) (k0_t3 : Fin (k0_t3_loop i v1).trips) : Fin 3 → Nat :=
  let c0_284 : Index := 0#32
  let c0_i32_200 : BitVec 32 := 0#32
  let c0_i32_201 : BitVec 32 := 0#32
  let c1_i32_203 : BitVec 32 := 1#32
  let arg24 : BitVec 32 := Scf.iv c0_i32_201 c1_i32_203 k0_t3
  let c1_i32_199 : BitVec 32 := 1#32
  let v498 : BitVec 32 := Scalar.muli arg24 c1_i32_199
  let v499 : BitVec 32 := Scalar.addi c0_i32_200 v498
  let c256_i32_281 : BitVec 32 := 256#32
  let v532 : BitVec 32 := Scalar.muli v499 c256_i32_281
  let v533 : BitVec 32 := v532
  let v536 : Index := Scalar.indexCast v533
  let c0_285 : Index := 0#32
  ![0, v536.toNat, 0]
@[reducible] def k0_t4_loop (i : grid0.Coords) (v1 : BitVec 32) : Scf.Loop 32 :=
  let c0_i32_201 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c1_i32_194 : BitVec 32 := 1#32
  let v352 : BitVec 32 := Scalar.addi v216 c1_i32_194
  let c0_i32_195 : BitVec 32 := 0#32
  let v353 : BitVec 32 := Scalar.subi v352 c0_i32_195
  let c1_i32_196 : BitVec 32 := 1#32
  let c1_i32_197 : BitVec 32 := 1#32
  let v354 : BitVec 32 := Scalar.subi c1_i32_196 c1_i32_197
  let v355 : BitVec 32 := Scalar.addi v353 v354
  let c1_i32_198 : BitVec 32 := 1#32
  let v356 : BitVec 32 := Scalar.divsi v355 c1_i32_198
  let v357 : BitVec 32 := Scalar.subi v356 c0_i32_201
  let c1_i32_202 : BitVec 32 := 1#32
  let v359 : BitVec 32 := Scalar.divsi v357 c1_i32_202
  let v360 : BitVec 32 := Scalar.muli v359 c1_i32_202
  let v361 : BitVec 32 := Scalar.addi c0_i32_201 v360
  let v358 : BitVec 32 := Scalar.addi c0_i32_201 v357
  let c1_i32_204 : BitVec 32 := 1#32
  ⟨v361, v358, c1_i32_204⟩
def k0_off16 (i : grid0.Coords) (v1 : BitVec 32) (k0_t4 : Fin (k0_t4_loop i v1).trips) (c0_i32_264 : BitVec 32) : Fin 3 → Nat :=
  let c0_i32_200 : BitVec 32 := 0#32
  let c0_i32_201 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c1_i32_194 : BitVec 32 := 1#32
  let v352 : BitVec 32 := Scalar.addi v216 c1_i32_194
  let c0_i32_195 : BitVec 32 := 0#32
  let v353 : BitVec 32 := Scalar.subi v352 c0_i32_195
  let c1_i32_196 : BitVec 32 := 1#32
  let c1_i32_197 : BitVec 32 := 1#32
  let v354 : BitVec 32 := Scalar.subi c1_i32_196 c1_i32_197
  let v355 : BitVec 32 := Scalar.addi v353 v354
  let c1_i32_198 : BitVec 32 := 1#32
  let v356 : BitVec 32 := Scalar.divsi v355 c1_i32_198
  let v357 : BitVec 32 := Scalar.subi v356 c0_i32_201
  let c1_i32_202 : BitVec 32 := 1#32
  let v359 : BitVec 32 := Scalar.divsi v357 c1_i32_202
  let v360 : BitVec 32 := Scalar.muli v359 c1_i32_202
  let v361 : BitVec 32 := Scalar.addi c0_i32_201 v360
  let c1_i32_204 : BitVec 32 := 1#32
  let arg24 : BitVec 32 := Scf.iv v361 c1_i32_204 k0_t4
  let c1_i32_199 : BitVec 32 := 1#32
  let v498 : BitVec 32 := Scalar.muli arg24 c1_i32_199
  let v499 : BitVec 32 := Scalar.addi c0_i32_200 v498
  let c2_i32_263 : BitVec 32 := 2#32
  let v501 : BitVec 32 := Scalar.muli v499 c2_i32_263
  let v502 : BitVec 32 := Scalar.addi v501 c0_i32_264
  let v503 : Index := Scalar.indexCast v502
  let c0_265 : Index := 0#32
  let c0_266 : Index := 0#32
  ![v503.toNat, 0, 0]
def k0_mult17 (i : grid0.Coords) (v1 : BitVec 32) (k0_t4 : Fin (k0_t4_loop i v1).trips) : BitVec 32 :=
  let c0_i32_200 : BitVec 32 := 0#32
  let c0_i32_201 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c1_i32_194 : BitVec 32 := 1#32
  let v352 : BitVec 32 := Scalar.addi v216 c1_i32_194
  let c0_i32_195 : BitVec 32 := 0#32
  let v353 : BitVec 32 := Scalar.subi v352 c0_i32_195
  let c1_i32_196 : BitVec 32 := 1#32
  let c1_i32_197 : BitVec 32 := 1#32
  let v354 : BitVec 32 := Scalar.subi c1_i32_196 c1_i32_197
  let v355 : BitVec 32 := Scalar.addi v353 v354
  let c1_i32_198 : BitVec 32 := 1#32
  let v356 : BitVec 32 := Scalar.divsi v355 c1_i32_198
  let v357 : BitVec 32 := Scalar.subi v356 c0_i32_201
  let c1_i32_202 : BitVec 32 := 1#32
  let v359 : BitVec 32 := Scalar.divsi v357 c1_i32_202
  let v360 : BitVec 32 := Scalar.muli v359 c1_i32_202
  let v361 : BitVec 32 := Scalar.addi c0_i32_201 v360
  let c1_i32_204 : BitVec 32 := 1#32
  let arg24 : BitVec 32 := Scf.iv v361 c1_i32_204 k0_t4
  let c1_i32_199 : BitVec 32 := 1#32
  let v498 : BitVec 32 := Scalar.muli arg24 c1_i32_199
  let v499 : BitVec 32 := Scalar.addi c0_i32_200 v498
  let c256_i32_281 : BitVec 32 := 256#32
  let v532 : BitVec 32 := Scalar.muli v499 c256_i32_281
  v532
def k0_off17 (i : grid0.Coords) (v1 : BitVec 32) (k0_t4 : Fin (k0_t4_loop i v1).trips) : Fin 3 → Nat :=
  let c0_284 : Index := 0#32
  let c0_i32_200 : BitVec 32 := 0#32
  let c0_i32_201 : BitVec 32 := 0#32
  let arg1 : BitVec 32 := BitVec.ofNat 32 (i 1).val
  let c1_i32 : BitVec 32 := 1#32
  let v211 : BitVec 32 := Scalar.addi arg1 c1_i32
  let c128_i32 : BitVec 32 := 128#32
  let v212 : BitVec 32 := Scalar.muli v211 c128_i32
  let v213 : BitVec 32 := Scalar.minsi v212 v1
  let c255_i32 : BitVec 32 := 255#32
  let v214 : BitVec 32 := Scalar.addi v213 c255_i32
  let c256_i32 : BitVec 32 := 256#32
  let v215 : BitVec 32 := Scalar.divsi v214 c256_i32
  let c1_i32_136 : BitVec 32 := 1#32
  let v216 : BitVec 32 := Scalar.subi v215 c1_i32_136
  let c1_i32_194 : BitVec 32 := 1#32
  let v352 : BitVec 32 := Scalar.addi v216 c1_i32_194
  let c0_i32_195 : BitVec 32 := 0#32
  let v353 : BitVec 32 := Scalar.subi v352 c0_i32_195
  let c1_i32_196 : BitVec 32 := 1#32
  let c1_i32_197 : BitVec 32 := 1#32
  let v354 : BitVec 32 := Scalar.subi c1_i32_196 c1_i32_197
  let v355 : BitVec 32 := Scalar.addi v353 v354
  let c1_i32_198 : BitVec 32 := 1#32
  let v356 : BitVec 32 := Scalar.divsi v355 c1_i32_198
  let v357 : BitVec 32 := Scalar.subi v356 c0_i32_201
  let c1_i32_202 : BitVec 32 := 1#32
  let v359 : BitVec 32 := Scalar.divsi v357 c1_i32_202
  let v360 : BitVec 32 := Scalar.muli v359 c1_i32_202
  let v361 : BitVec 32 := Scalar.addi c0_i32_201 v360
  let c1_i32_204 : BitVec 32 := 1#32
  let arg24 : BitVec 32 := Scf.iv v361 c1_i32_204 k0_t4
  let c1_i32_199 : BitVec 32 := 1#32
  let v498 : BitVec 32 := Scalar.muli arg24 c1_i32_199
  let v499 : BitVec 32 := Scalar.addi c0_i32_200 v498
  let c256_i32_281 : BitVec 32 := 256#32
  let v532 : BitVec 32 := Scalar.muli v499 c256_i32_281
  let v533 : BitVec 32 := v532
  let v536 : Index := Scalar.indexCast v533
  let c0_285 : Index := 0#32
  ![0, v536.toNat, 0]

def k0_chk1 (i : grid0.Coords) (v1 : BitVec 32) : Prop :=
  ((k0_t1_loop i v1).OK) ∧
  (∀ k0_t1 : Fin (k0_t1_loop i v1).trips, 256 ∣ (k0_mult1 i v1 k0_t1).toNat) ∧
  (∀ k0_t1 : Fin (k0_t1_loop i v1).trips, ∀ a, (k0_off2 i v1 k0_t1) a + S256x128.size a ≤ S4096x128.size a) ∧
  (∀ k0_t1 : Fin (k0_t1_loop i v1).trips, ∀ (r : Fin 2), ∀ a, (k0_off3 i v1 k0_t1 (BitVec.ofNat 32 r.val)) a + S1x32x128.size a ≤ S32x32x128.size a) ∧
  (∀ k0_t1 : Fin (k0_t1_loop i v1).trips, 128 ∣ (k0_mult2 i v1 k0_t1).toNat) ∧
  (∀ k0_t1 : Fin (k0_t1_loop i v1).trips, ∀ (r : Fin 2), ∀ a, (k0_off4 i v1 k0_t1 (BitVec.ofNat 32 (128 * r.val))) a + S8x128.size a ≤ S256x4096.size a) ∧
  (∀ k0_t1 : Fin (k0_t1_loop i v1).trips, ∀ (r : Fin 2), ∀ a, (k0_off5 i v1 k0_t1 (BitVec.ofNat 32 r.val)) a + S1x1024x128.size a ≤ S32x1024x128.size a) ∧
  (∀ k0_t1 : Fin (k0_t1_loop i v1).trips, 128 ∣ (k0_mult4 i v1 k0_t1).toNat) ∧
  ((k0_t2_loop i v1).OK) ∧
  (∀ k0_t2 : Fin (k0_t2_loop i v1).trips, 256 ∣ (k0_mult6 i v1 k0_t2).toNat) ∧
  (∀ k0_t2 : Fin (k0_t2_loop i v1).trips, ∀ a, (k0_off6 i v1 k0_t2) a + S256x128.size a ≤ S4096x128.size a) ∧
  (∀ k0_t2 : Fin (k0_t2_loop i v1).trips, ∀ (r : Fin 2), ∀ a, (k0_off7 i v1 k0_t2 (BitVec.ofNat 32 r.val)) a + S1x32x128.size a ≤ S32x32x128.size a) ∧
  (∀ k0_t2 : Fin (k0_t2_loop i v1).trips, 128 ∣ (k0_mult7 i v1 k0_t2).toNat) ∧
  (∀ k0_t2 : Fin (k0_t2_loop i v1).trips, ∀ (r : Fin 2), ∀ a, (k0_off8 i v1 k0_t2 (BitVec.ofNat 32 (128 * r.val))) a + S8x128.size a ≤ S256x4096.size a) ∧
  (∀ k0_t2 : Fin (k0_t2_loop i v1).trips, ∀ (r : Fin 2), ∀ a, (k0_off9 i v1 k0_t2 (BitVec.ofNat 32 r.val)) a + S1x1024x128.size a ≤ S32x1024x128.size a) ∧
  (∀ k0_t2 : Fin (k0_t2_loop i v1).trips, 128 ∣ (k0_mult9 i v1 k0_t2).toNat) ∧
  (256 ∣ (k0_mult11 i v1).toNat) ∧
  (∀ a, (k0_off10 i v1) a + S256x128.size a ≤ S4096x128.size a) ∧
  (∀ (r : Fin 2), ∀ a, (k0_off11 i v1 (BitVec.ofNat 32 r.val)) a + S1x32x128.size a ≤ S32x32x128.size a) ∧
  (128 ∣ (k0_mult12 i v1).toNat) ∧
  (∀ (r : Fin 2), ∀ a, (k0_off12 i v1 (BitVec.ofNat 32 (128 * r.val))) a + S8x128.size a ≤ S256x4096.size a) ∧
  (∀ (r : Fin 2), ∀ a, (k0_off13 i v1 (BitVec.ofNat 32 r.val)) a + S1x1024x128.size a ≤ S32x1024x128.size a) ∧
  (128 ∣ (k0_mult14 i v1).toNat) ∧
  ((k0_t3_loop i v1).OK) ∧
  (∀ k0_t3 : Fin (k0_t3_loop i v1).trips, ∀ (r : Fin 2), ∀ a, (k0_off14 i v1 k0_t3 (BitVec.ofNat 32 r.val)) a + S1x1024x128.size a ≤ S32x1024x128.size a) ∧
  (∀ k0_t3 : Fin (k0_t3_loop i v1).trips, 256 ∣ (k0_mult16 i v1 k0_t3).toNat) ∧
  (∀ k0_t3 : Fin (k0_t3_loop i v1).trips, ∀ a, (k0_off15 i v1 k0_t3) a + S1x256x128.size a ≤ S1x4096x128.size a) ∧
  ((k0_t4_loop i v1).OK) ∧
  (∀ k0_t4 : Fin (k0_t4_loop i v1).trips, ∀ (r : Fin 2), ∀ a, (k0_off16 i v1 k0_t4 (BitVec.ofNat 32 r.val)) a + S1x1024x128.size a ≤ S32x1024x128.size a) ∧
  (∀ k0_t4 : Fin (k0_t4_loop i v1).trips, 256 ∣ (k0_mult17 i v1 k0_t4).toNat) ∧
  (∀ k0_t4 : Fin (k0_t4_loop i v1).trips, ∀ a, (k0_off17 i v1 k0_t4) a + S1x256x128.size a ≤ S1x4096x128.size a)
theorem k0_t1_ok : ∀ (i : grid0.Coords) (v1 : BitVec 32) (k0_hw1 : k0_chk1 i v1), (k0_t1_loop i v1).OK := fun i v1 k0_hw1 => k0_hw1.1
theorem k0_mult1_dvd : ∀ (i : grid0.Coords) (v1 : BitVec 32) (k0_hw1 : k0_chk1 i v1) (k0_t1 : Fin (k0_t1_loop i v1).trips), 256 ∣ (k0_mult1 i v1 k0_t1).toNat := fun i v1 k0_hw1 k0_t1 => k0_hw1.2.1 k0_t1
theorem k0_off2_inb : ∀ (i : grid0.Coords) (v1 : BitVec 32) (k0_hw1 : k0_chk1 i v1) (k0_t1 : Fin (k0_t1_loop i v1).trips), ∀ a, (k0_off2 i v1 k0_t1) a + S256x128.size a ≤ S4096x128.size a := fun i v1 k0_hw1 k0_t1 => k0_hw1.2.2.1 k0_t1
theorem k0_off3_inb : ∀ (i : grid0.Coords) (v1 : BitVec 32) (k0_hw1 : k0_chk1 i v1) (k0_t1 : Fin (k0_t1_loop i v1).trips), ∀ (r : Fin 2), ∀ a, (k0_off3 i v1 k0_t1 (BitVec.ofNat 32 r.val)) a + S1x32x128.size a ≤ S32x32x128.size a := fun i v1 k0_hw1 k0_t1 r => k0_hw1.2.2.2.1 k0_t1 r
theorem k0_mult2_dvd : ∀ (i : grid0.Coords) (v1 : BitVec 32) (k0_hw1 : k0_chk1 i v1) (k0_t1 : Fin (k0_t1_loop i v1).trips), 128 ∣ (k0_mult2 i v1 k0_t1).toNat := fun i v1 k0_hw1 k0_t1 => k0_hw1.2.2.2.2.1 k0_t1
theorem k0_off4_inb : ∀ (i : grid0.Coords) (v1 : BitVec 32) (k0_hw1 : k0_chk1 i v1) (k0_t1 : Fin (k0_t1_loop i v1).trips), ∀ (r : Fin 2), ∀ a, (k0_off4 i v1 k0_t1 (BitVec.ofNat 32 (128 * r.val))) a + S8x128.size a ≤ S256x4096.size a := fun i v1 k0_hw1 k0_t1 r => k0_hw1.2.2.2.2.2.1 k0_t1 r
theorem k0_off5_inb : ∀ (i : grid0.Coords) (v1 : BitVec 32) (k0_hw1 : k0_chk1 i v1) (k0_t1 : Fin (k0_t1_loop i v1).trips), ∀ (r : Fin 2), ∀ a, (k0_off5 i v1 k0_t1 (BitVec.ofNat 32 r.val)) a + S1x1024x128.size a ≤ S32x1024x128.size a := fun i v1 k0_hw1 k0_t1 r => k0_hw1.2.2.2.2.2.2.1 k0_t1 r
theorem k0_mult4_dvd : ∀ (i : grid0.Coords) (v1 : BitVec 32) (k0_hw1 : k0_chk1 i v1) (k0_t1 : Fin (k0_t1_loop i v1).trips), 128 ∣ (k0_mult4 i v1 k0_t1).toNat := fun i v1 k0_hw1 k0_t1 => k0_hw1.2.2.2.2.2.2.2.1 k0_t1
theorem k0_t2_ok : ∀ (i : grid0.Coords) (v1 : BitVec 32) (k0_hw1 : k0_chk1 i v1), (k0_t2_loop i v1).OK := fun i v1 k0_hw1 => k0_hw1.2.2.2.2.2.2.2.2.1
theorem k0_mult6_dvd : ∀ (i : grid0.Coords) (v1 : BitVec 32) (k0_hw1 : k0_chk1 i v1) (k0_t2 : Fin (k0_t2_loop i v1).trips), 256 ∣ (k0_mult6 i v1 k0_t2).toNat := fun i v1 k0_hw1 k0_t2 => k0_hw1.2.2.2.2.2.2.2.2.2.1 k0_t2
theorem k0_off6_inb : ∀ (i : grid0.Coords) (v1 : BitVec 32) (k0_hw1 : k0_chk1 i v1) (k0_t2 : Fin (k0_t2_loop i v1).trips), ∀ a, (k0_off6 i v1 k0_t2) a + S256x128.size a ≤ S4096x128.size a := fun i v1 k0_hw1 k0_t2 => k0_hw1.2.2.2.2.2.2.2.2.2.2.1 k0_t2
theorem k0_off7_inb : ∀ (i : grid0.Coords) (v1 : BitVec 32) (k0_hw1 : k0_chk1 i v1) (k0_t2 : Fin (k0_t2_loop i v1).trips), ∀ (r : Fin 2), ∀ a, (k0_off7 i v1 k0_t2 (BitVec.ofNat 32 r.val)) a + S1x32x128.size a ≤ S32x32x128.size a := fun i v1 k0_hw1 k0_t2 r => k0_hw1.2.2.2.2.2.2.2.2.2.2.2.1 k0_t2 r
theorem k0_mult7_dvd : ∀ (i : grid0.Coords) (v1 : BitVec 32) (k0_hw1 : k0_chk1 i v1) (k0_t2 : Fin (k0_t2_loop i v1).trips), 128 ∣ (k0_mult7 i v1 k0_t2).toNat := fun i v1 k0_hw1 k0_t2 => k0_hw1.2.2.2.2.2.2.2.2.2.2.2.2.1 k0_t2
theorem k0_off8_inb : ∀ (i : grid0.Coords) (v1 : BitVec 32) (k0_hw1 : k0_chk1 i v1) (k0_t2 : Fin (k0_t2_loop i v1).trips), ∀ (r : Fin 2), ∀ a, (k0_off8 i v1 k0_t2 (BitVec.ofNat 32 (128 * r.val))) a + S8x128.size a ≤ S256x4096.size a := fun i v1 k0_hw1 k0_t2 r => k0_hw1.2.2.2.2.2.2.2.2.2.2.2.2.2.1 k0_t2 r
theorem k0_off9_inb : ∀ (i : grid0.Coords) (v1 : BitVec 32) (k0_hw1 : k0_chk1 i v1) (k0_t2 : Fin (k0_t2_loop i v1).trips), ∀ (r : Fin 2), ∀ a, (k0_off9 i v1 k0_t2 (BitVec.ofNat 32 r.val)) a + S1x1024x128.size a ≤ S32x1024x128.size a := fun i v1 k0_hw1 k0_t2 r => k0_hw1.2.2.2.2.2.2.2.2.2.2.2.2.2.2.1 k0_t2 r
theorem k0_mult9_dvd : ∀ (i : grid0.Coords) (v1 : BitVec 32) (k0_hw1 : k0_chk1 i v1) (k0_t2 : Fin (k0_t2_loop i v1).trips), 128 ∣ (k0_mult9 i v1 k0_t2).toNat := fun i v1 k0_hw1 k0_t2 => k0_hw1.2.2.2.2.2.2.2.2.2.2.2.2.2.2.2.1 k0_t2
theorem k0_mult11_dvd : ∀ (i : grid0.Coords) (v1 : BitVec 32) (k0_hw1 : k0_chk1 i v1), 256 ∣ (k0_mult11 i v1).toNat := fun i v1 k0_hw1 => k0_hw1.2.2.2.2.2.2.2.2.2.2.2.2.2.2.2.2.1
theorem k0_off10_inb : ∀ (i : grid0.Coords) (v1 : BitVec 32) (k0_hw1 : k0_chk1 i v1), ∀ a, (k0_off10 i v1) a + S256x128.size a ≤ S4096x128.size a := fun i v1 k0_hw1 => k0_hw1.2.2.2.2.2.2.2.2.2.2.2.2.2.2.2.2.2.1
theorem k0_off11_inb : ∀ (i : grid0.Coords) (v1 : BitVec 32) (k0_hw1 : k0_chk1 i v1), ∀ (r : Fin 2), ∀ a, (k0_off11 i v1 (BitVec.ofNat 32 r.val)) a + S1x32x128.size a ≤ S32x32x128.size a := fun i v1 k0_hw1 r => k0_hw1.2.2.2.2.2.2.2.2.2.2.2.2.2.2.2.2.2.2.1 r
theorem k0_mult12_dvd : ∀ (i : grid0.Coords) (v1 : BitVec 32) (k0_hw1 : k0_chk1 i v1), 128 ∣ (k0_mult12 i v1).toNat := fun i v1 k0_hw1 => k0_hw1.2.2.2.2.2.2.2.2.2.2.2.2.2.2.2.2.2.2.2.1
theorem k0_off12_inb : ∀ (i : grid0.Coords) (v1 : BitVec 32) (k0_hw1 : k0_chk1 i v1), ∀ (r : Fin 2), ∀ a, (k0_off12 i v1 (BitVec.ofNat 32 (128 * r.val))) a + S8x128.size a ≤ S256x4096.size a := fun i v1 k0_hw1 r => k0_hw1.2.2.2.2.2.2.2.2.2.2.2.2.2.2.2.2.2.2.2.2.1 r
theorem k0_off13_inb : ∀ (i : grid0.Coords) (v1 : BitVec 32) (k0_hw1 : k0_chk1 i v1), ∀ (r : Fin 2), ∀ a, (k0_off13 i v1 (BitVec.ofNat 32 r.val)) a + S1x1024x128.size a ≤ S32x1024x128.size a := fun i v1 k0_hw1 r => k0_hw1.2.2.2.2.2.2.2.2.2.2.2.2.2.2.2.2.2.2.2.2.2.1 r
theorem k0_mult14_dvd : ∀ (i : grid0.Coords) (v1 : BitVec 32) (k0_hw1 : k0_chk1 i v1), 128 ∣ (k0_mult14 i v1).toNat := fun i v1 k0_hw1 => k0_hw1.2.2.2.2.2.2.2.2.2.2.2.2.2.2.2.2.2.2.2.2.2.2.1
theorem k0_t3_ok : ∀ (i : grid0.Coords) (v1 : BitVec 32) (k0_hw1 : k0_chk1 i v1), (k0_t3_loop i v1).OK := fun i v1 k0_hw1 => k0_hw1.2.2.2.2.2.2.2.2.2.2.2.2.2.2.2.2.2.2.2.2.2.2.2.1
theorem k0_off14_inb : ∀ (i : grid0.Coords) (v1 : BitVec 32) (k0_hw1 : k0_chk1 i v1) (k0_t3 : Fin (k0_t3_loop i v1).trips), ∀ (r : Fin 2), ∀ a, (k0_off14 i v1 k0_t3 (BitVec.ofNat 32 r.val)) a + S1x1024x128.size a ≤ S32x1024x128.size a := fun i v1 k0_hw1 k0_t3 r => k0_hw1.2.2.2.2.2.2.2.2.2.2.2.2.2.2.2.2.2.2.2.2.2.2.2.2.1 k0_t3 r
theorem k0_mult16_dvd : ∀ (i : grid0.Coords) (v1 : BitVec 32) (k0_hw1 : k0_chk1 i v1) (k0_t3 : Fin (k0_t3_loop i v1).trips), 256 ∣ (k0_mult16 i v1 k0_t3).toNat := fun i v1 k0_hw1 k0_t3 => k0_hw1.2.2.2.2.2.2.2.2.2.2.2.2.2.2.2.2.2.2.2.2.2.2.2.2.2.1 k0_t3
theorem k0_off15_inb : ∀ (i : grid0.Coords) (v1 : BitVec 32) (k0_hw1 : k0_chk1 i v1) (k0_t3 : Fin (k0_t3_loop i v1).trips), ∀ a, (k0_off15 i v1 k0_t3) a + S1x256x128.size a ≤ S1x4096x128.size a := fun i v1 k0_hw1 k0_t3 => k0_hw1.2.2.2.2.2.2.2.2.2.2.2.2.2.2.2.2.2.2.2.2.2.2.2.2.2.2.1 k0_t3
theorem k0_t4_ok : ∀ (i : grid0.Coords) (v1 : BitVec 32) (k0_hw1 : k0_chk1 i v1), (k0_t4_loop i v1).OK := fun i v1 k0_hw1 => k0_hw1.2.2.2.2.2.2.2.2.2.2.2.2.2.2.2.2.2.2.2.2.2.2.2.2.2.2.2.1
theorem k0_off16_inb : ∀ (i : grid0.Coords) (v1 : BitVec 32) (k0_hw1 : k0_chk1 i v1) (k0_t4 : Fin (k0_t4_loop i v1).trips), ∀ (r : Fin 2), ∀ a, (k0_off16 i v1 k0_t4 (BitVec.ofNat 32 r.val)) a + S1x1024x128.size a ≤ S32x1024x128.size a := fun i v1 k0_hw1 k0_t4 r => k0_hw1.2.2.2.2.2.2.2.2.2.2.2.2.2.2.2.2.2.2.2.2.2.2.2.2.2.2.2.2.1 k0_t4 r
theorem k0_mult17_dvd : ∀ (i : grid0.Coords) (v1 : BitVec 32) (k0_hw1 : k0_chk1 i v1) (k0_t4 : Fin (k0_t4_loop i v1).trips), 256 ∣ (k0_mult17 i v1 k0_t4).toNat := fun i v1 k0_hw1 k0_t4 => k0_hw1.2.2.2.2.2.2.2.2.2.2.2.2.2.2.2.2.2.2.2.2.2.2.2.2.2.2.2.2.2.1 k0_t4
theorem k0_off17_inb : ∀ (i : grid0.Coords) (v1 : BitVec 32) (k0_hw1 : k0_chk1 i v1) (k0_t4 : Fin (k0_t4_loop i v1).trips), ∀ a, (k0_off17 i v1 k0_t4) a + S1x256x128.size a ≤ S1x4096x128.size a := fun i v1 k0_hw1 k0_t4 => k0_hw1.2.2.2.2.2.2.2.2.2.2.2.2.2.2.2.2.2.2.2.2.2.2.2.2.2.2.2.2.2.2 k0_t4

def k0_cond2 (i : grid0.Coords) : BitVec 1 :=
  let arg0 : BitVec 32 := BitVec.ofNat 32 (i 0).val
  let c0_i32_257 : BitVec 32 := 0#32
  let v492 : BitVec 1 := Scalar.cmpi .eq arg0 c0_i32_257
  let v493 : BitVec 32 := Scalar.extui v492
  let c0_i32_258 : BitVec 32 := 0#32
  let v494 : BitVec 1 := Scalar.cmpi .ne v493 c0_i32_258
  v494

def k0_mult18 (i : grid0.Coords) : BitVec 32 :=
  let arg1 : BitVec 32 := BitVec.ofNat 32 (i 1).val
  let c128_i32_256 : BitVec 32 := 128#32
  let v487 : BitVec 32 := Scalar.muli arg1 c128_i32_256
  v487
def k0_off18 (i : grid0.Coords) : Fin 2 → Nat :=
  let c0_261 : Index := 0#32
  let arg1 : BitVec 32 := BitVec.ofNat 32 (i 1).val
  let c128_i32_256 : BitVec 32 := 128#32
  let v487 : BitVec 32 := Scalar.muli arg1 c128_i32_256
  let v498 : BitVec 32 := v487
  let v499 : Index := Scalar.indexCast v498
  ![0, v499.toNat]
def k0_cond3 (i : grid0.Coords) : BitVec 1 :=
  let arg0 : BitVec 32 := BitVec.ofNat 32 (i 0).val
  let c1_i32_259 : BitVec 32 := 1#32
  let v495 : BitVec 1 := Scalar.cmpi .eq arg0 c1_i32_259
  let v496 : BitVec 32 := Scalar.extui v495
  let c0_i32_260 : BitVec 32 := 0#32
  let v497 : BitVec 1 := Scalar.cmpi .ne v496 c0_i32_260
  v497

def k0_mult19 (i : grid0.Coords) : BitVec 32 :=
  let arg1 : BitVec 32 := BitVec.ofNat 32 (i 1).val
  let c128_i32_256 : BitVec 32 := 128#32
  let v487 : BitVec 32 := Scalar.muli arg1 c128_i32_256
  v487
def k0_off19 (i : grid0.Coords) : Fin 2 → Nat :=
  let c1_261 : Index := 1#32
  let arg1 : BitVec 32 := BitVec.ofNat 32 (i 1).val
  let c128_i32_256 : BitVec 32 := 128#32
  let v487 : BitVec 32 := Scalar.muli arg1 c128_i32_256
  let v498 : BitVec 32 := v487
  let v499 : Index := Scalar.indexCast v498
  ![1, v499.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1024 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4096x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4096x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== AttnRefIdeal.lean ====
abbrev S2 : Shape := ⟨1, ![2]⟩
abbrev S2x4096x1024 : Shape := ⟨3, ![2, 4096, 1024]⟩
abbrev S2x32x32x128 : Shape := ⟨4, ![2, 32, 32, 128]⟩
abbrev S2x32x8x128 : Shape := ⟨4, ![2, 32, 8, 128]⟩
abbrev S2x4096x128 : Shape := ⟨3, ![2, 4096, 128]⟩
abbrev S2x1x128 : Shape := ⟨3, ![2, 1, 128]⟩
abbrev S2x1 : Shape := ⟨2, ![2, 1]⟩
abbrev S2x64x1 : Shape := ⟨3, ![2, 64, 1]⟩
abbrev S2x64x64x128 : Shape := ⟨4, ![2, 64, 64, 128]⟩
abbrev S2x64x64 : Shape := ⟨3, ![2, 64, 64]⟩
abbrev S2x64 : Shape := ⟨2, ![2, 64]⟩
abbrev S2x64x1x1 : Shape := ⟨4, ![2, 64, 1, 1]⟩
abbrev S2x4096 : Shape := ⟨2, ![2, 4096]⟩
abbrev S2x4096x1 : Shape := ⟨3, ![2, 4096, 1]⟩
abbrev S2x128 : Shape := ⟨2, ![2, 128]⟩

abbrev nBuf : Space → Nat
  | .hbm => 13
  | .vmem => 9
  | .smem => 0
  | _ => 0

abbrev bufTy : (tb : Table) → Fin (tcTables nBuf tb) → BufTy
  | .hbm, ⟨0, _⟩ => ⟨S2, .i32⟩
  | .hbm, ⟨1, _⟩ => ⟨S2x4096x1024, .i8⟩
  | .hbm, ⟨2, _⟩ => ⟨S2x32x32x128, .f32⟩
  | .hbm, ⟨3, _⟩ => ⟨S2x32x8x128, .f32⟩
  | .hbm, ⟨4, _⟩ => ⟨S2x4096x128, .f32⟩
  | .hbm, ⟨5, _⟩ => ⟨S2x4096x128, .f32⟩
  | .hbm, ⟨6, _⟩ => ⟨S2x1x128, .f32⟩
  | .hbm, ⟨7, _⟩ => ⟨S2x1x128, .f32⟩
  | .hbm, ⟨8, _⟩ => ⟨S2x1, .i32⟩
  | .hbm, ⟨9, _⟩ => ⟨S2x4096x128, .i8⟩
  | .hbm, ⟨10, _⟩ => ⟨S2x64x1, .f32⟩
  | .hbm, ⟨11, _⟩ => ⟨S2x4096x128, .fp8e4m3⟩
  | .hbm, ⟨12, _⟩ => ⟨S2x1x128, .f32⟩
  | .local _ .vmem, ⟨0, _⟩ => ⟨S2x1, .i32⟩
  | .local _ .vmem, ⟨1, _⟩ => ⟨S2x4096x128, .f32⟩
  | .local _ .vmem, ⟨2, _⟩ => ⟨S2x4096x128, .f32⟩
  | .local _ .vmem, ⟨3, _⟩ => ⟨S2x1x128, .f32⟩
  | .local _ .vmem, ⟨4, _⟩ => ⟨S2x1x128, .f32⟩
  | .local _ .vmem, ⟨5, _⟩ => ⟨S2x4096x128, .i8⟩
  | .local _ .vmem, ⟨6, _⟩ => ⟨S2x64x1, .f32⟩
  | .local _ .vmem, ⟨7, _⟩ => ⟨S2x4096x128, .fp8e4m3⟩
  | .local _ .vmem, ⟨8, _⟩ => ⟨S2x1x128, .f32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4096x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Ops.lean ====
/-
  Hand-written, untrusted. The few operations every kernel of the certificate uses, read at one index over the
  extended reals: a plain matrix product, the broadcast of a column and of a row, the first column of a block.
-/
module

public import Idealize.ShloMosaic.Lib.MatmulPlain
public import Idealize.ShloMosaic.Lib.Pipeline.Value
public import Idealize.ShloMosaic.Lib.Pipeline.FrameBody
public import Idealize.ShloMosaic.Lib.Affine

@[expose] public section

noncomputable section

namespace Cert.Proof.Ops

open Idealize.ShloMosaic Idealize.ShloMosaic.ValueIdx

/-- Offsets zero on both axes. -/
theorem hz : (![0, 0] : Fin 2 → Nat) = fun _ => 0 := funext fun a => by fin_cases a <;> rfl

/-- A column broadcast along the rows reads the column at the row. -/
theorem bcol {α : Type} {M N : Nat} (x : (⟨2, ![M, 1]⟩ : Shape).Idx → α)
    (h : (⟨2, ![M, 1]⟩ : Shape).Broadcasts ⟨2, ![M, N]⟩) (r : Fin M) (c : Fin N) :
    broadcastTo (⟨2, ![M, N]⟩ : Shape) x h (ix2 r c) = x (ix2 r 0) := by
  refine broadcastTo_apply x h (ix2 r c) (ix2 r 0) fun a => ?_
  match a with
  | ⟨0, _⟩ =>
    by_cases h1 : M = 1
    · subst h1; simp
    · simp [ix2, h1]
  | ⟨1, _⟩ => simp [ix2]

/-- A row broadcast along the columns reads the row at the column. -/
theorem brow {α : Type} {M N : Nat} (x : (⟨2, ![1, N]⟩ : Shape).Idx → α)
    (h : (⟨2, ![1, N]⟩ : Shape).Broadcasts ⟨2, ![M, N]⟩) (r : Fin M) (c : Fin N) :
    broadcastTo (⟨2, ![M, N]⟩ : Shape) x h (ix2 r c) = x (ix2 0 c) := by
  refine broadcastTo_apply x h (ix2 r c) (ix2 0 c) fun a => ?_
  match a with
  | ⟨0, _⟩ => simp [ix2]
  | ⟨1, _⟩ =>
    by_cases h1 : N = 1
    · subst h1; simp
    · simp [ix2, h1]

/-- The first column of a block, as a load at offsets zero reads it. -/
theorem ld_col {Val : EltTy → Type} {M W : Nat} {e : EltTy} (x : (⟨2, ![M, W]⟩ : Shape).Idx → Val e)
    (inb) (r : Fin M) (hW : 0 < W) :
    View.ld x (Rect.unit (s := ⟨2, ![M, W]⟩) ![0, 0] (⟨2, ![M, 1]⟩ : Shape).size inb) (ix2 r 0) = x (ix2 r ⟨0, hW⟩) := by
  show x _ = x _
  congr 1
  funext a
  apply Fin.ext
  match a with
  | ⟨0, _⟩ => simp [ix2]
  | ⟨1, _⟩ => simp [ix2]

/-- A vector read as a one-row matrix. -/
theorem scast_row {α : Type} {N : Nat} (x : (⟨1, ![N]⟩ : Shape).Idx → α)
    (h : (⟨1, ![N]⟩ : Shape).ShapeCasts ⟨2, ![1, N]⟩) (c : Fin N) :
    shapeCast (⟨2, ![1, N]⟩ : Shape) x h (ix2 0 c) = x (ix1 c) := by
  refine shapeCast_apply x h (ix2 0 c) (ix1 c) ?_
  rw [Shape.rowMajor_val_one, Shape.rowMajor_val_two]
  show c.val = 0 * N + c.val
  omega

/-- A vector read as a one-column matrix. -/
theorem scast_col {α : Type} {N : Nat} (x : (⟨1, ![N]⟩ : Shape).Idx → α)
    (h : (⟨1, ![N]⟩ : Shape).ShapeCasts ⟨2, ![N, 1]⟩) (r : Fin N) :
    shapeCast (⟨2, ![N, 1]⟩ : Shape) x h (ix2 r 0) = x (ix1 r) := by
  refine shapeCast_apply x h (ix2 r 0) (ix1 r) ?_
  rw [Shape.rowMajor_val_one, Shape.rowMajor_val_two]
  show r.val = r.val * 1 + 0
  omega

end Cert.Proof.Ops

end
-- ==== Proof.Down.lean ====
/-
  Hand-written, untrusted. THE DOWN PROJECTION over the extended reals: the tiled kernel's result array and the
  one-block reference's are the same function of the argument arrays, `out`: at row `r` and column `c` the residual plus
  the product's row-column sum times the row's scale times the column's scale.
-/
module

public import proofs.«01_k».proof.Defs
public import proofs.«01_k».proof.Proof.Gen.DownIdeal.Frame
public import proofs.«01_k».proof.Proof.Gen.DownIdeal.Value
public import proofs.«01_k».proof.Proof.Gen.DownRefIdeal.Frame
public import proofs.«01_k».proof.Proof.Gen.DownRefIdeal.Value
public import proofs.«01_k».proof.Proof.Ops

@[expose] public section

set_option maxRecDepth 16384

noncomputable section

/-! ## The result, index by index -/

namespace Cert.Proof.Down

open Idealize.ShloMosaic Idealize.ShloMosaic.ValueIdx

/-- The down projection's result at row `a` and column `b` from its five operands: `h + (x · w) * r * s`. -/
def outAt (x : FVec Ideal ⟨2, ![8192, 3696]⟩ .fp8e4m3) (r : FVec Ideal ⟨2, ![8192, 128]⟩ .f32)
    (w : FVec Ideal ⟨2, ![3696, 8192]⟩ .fp8e4m3) (s : FVec Ideal ⟨2, ![1, 8192]⟩ .f32)
    (h : FVec Ideal ⟨2, ![8192, 8192]⟩ .f32) (a b : Fin 8192) : EReal :=
  h (ix2 a b) + (∑ k : Fin 3696, x (ix2 a k) * w (ix2 k b)) * r (ix2 a 0) * s (ix2 0 b)

/-- The whole result. -/
def out (x : FVec Ideal ⟨2, ![8192, 3696]⟩ .fp8e4m3) (r : FVec Ideal ⟨2, ![8192, 128]⟩ .f32)
    (w : FVec Ideal ⟨2, ![3696, 8192]⟩ .fp8e4m3) (s : FVec Ideal ⟨2, ![1, 8192]⟩ .f32)
    (h : FVec Ideal ⟨2, ![8192, 8192]⟩ .f32) : FVec Ideal ⟨2, ![8192, 8192]⟩ .bf16 :=
  fun i => outAt x r w s h (i 0) (i 1)

/-- Equal operands give equal results; of the scales' row only its one row is read. -/
theorem out_congr {x x' : FVec Ideal ⟨2, ![8192, 3696]⟩ .fp8e4m3} {r r' : FVec Ideal ⟨2, ![8192, 128]⟩ .f32}
    {w w' : FVec Ideal ⟨2, ![3696, 8192]⟩ .fp8e4m3} {s s' : FVec Ideal ⟨2, ![1, 8192]⟩ .f32}
    {h h' : FVec Ideal ⟨2, ![8192, 8192]⟩ .f32} (ex : x = x') (er : r = r') (ew : w = w')
    (es : ∀ b : Fin 8192, s (ix2 0 b) = s' (ix2 0 b)) (eh : h = h') : out x r w s h = out x' r' w' s' h' := by
  subst ex er ew eh
  have e (a b : Fin 8192) : outAt x r w s h a b = outAt x r w s' h a b := by unfold outAt; rw [es]
  exact funext fun i => e (i 0) (i 1)

end Cert.Proof.Down

/-! ## The kernel -/

namespace Cert.Proof.DownKernel

open Idealize.ShloMosaic Idealize.ShloMosaic.TcCoe Idealize.SL.Sem Idealize.ShloMosaic.ValueIdx
open Cert.DownIdeal Cert.DownIdeal.Gen Cert.Proof.Ops

variable (m : (ℓ : Loc nD τ sig) → Buf (Elt Ideal) ℓ) (ρ : Dev nD → PrngReg)

/-- The tile's payload at row `a` and column `b`. -/
theorem pay (v0 : Vec Ideal S512x3696 .fp8e4m3) (v1 : Vec Ideal S3696x1024 .fp8e4m3) (v3 : Vec Ideal S512x1024 .f32)
    (v4 : Vec Ideal S512x1 .f32) (v7 : Vec Ideal S1x1024 .f32) (a : Fin 512) (b : Fin 1024) :
    k0_pay1 v0 v1 v3 v4 v7 (ix2 a b)
      = v3 (ix2 a b) + (∑ k : Fin 3696, v0 (ix2 a k) * v1 (ix2 k b)) * v4 (ix2 a 0) * v7 (ix2 0 b) := by
  unfold k0_pay1
  rw [show dot_S512x3696_S3696x1024_S512x1024_1_0_0_1_n_n = DotDims.plain 512 3696 1024 from rfl]
  show v3 (ix2 a b) + FloatOps.matmul (F := Ideal) (DotDims.plain 512 3696 1024) none v0 v1 (constant S512x1024 .f32 0x00000000#32) (ix2 a b)
      * broadcastTo S512x1024 v4 broadcasts_S512x1_S512x1024 (ix2 a b)
      * broadcastTo S512x1024 (shapeCast S1x1024 v7 shapeCasts_S1x1024_S1x1024) broadcasts_S1x1024_S512x1024 (ix2 a b) = _
  rw [Ideal.matmul_plain_apply, bcol, brow, shapeCast_self]
  rw [show (constant S512x1024 .f32 0x00000000#32 : FVec Ideal S512x1024 .f32) (ix2 a b) = 0 from Ideal.ofBits_zero_f32, zero_add]

/-- The windows' block indices at point `t`: `t / 8` along the rows, `t % 8` along the columns. -/
theorem idx : ∀ t : Fin cfg0.N, (win0_0.index t 0 = t.val / 8 ∧ win0_0.index t 1 = 0)
    ∧ (win0_1.index t 0 = t.val / 8 ∧ win0_1.index t 1 = 0) ∧ (win0_2.index t 0 = 0 ∧ win0_2.index t 1 = t.val % 8)
    ∧ (win0_3.index t 0 = 0 ∧ win0_3.index t 1 = t.val % 8) ∧ (win0_4.index t 0 = t.val / 8 ∧ win0_4.index t 1 = t.val % 8)
    ∧ (win0_5.index t 0 = t.val / 8 ∧ win0_5.index t 1 = t.val % 8) :=
  (by decide +kernel : ∀ t : Fin grid0.N, (win0_0.index t 0 = t.val / 8 ∧ win0_0.index t 1 = 0)
    ∧ (win0_1.index t 0 = t.val / 8 ∧ win0_1.index t 1 = 0) ∧ (win0_2.index t 0 = 0 ∧ win0_2.index t 1 = t.val % 8)
    ∧ (win0_3.index t 0 = 0 ∧ win0_3.index t 1 = t.val % 8) ∧ (win0_4.index t 0 = t.val / 8 ∧ win0_4.index t 1 = t.val % 8)
    ∧ (win0_5.index t 0 = t.val / 8 ∧ win0_5.index t 1 = t.val % 8))

/-- The array row of the tile's row `a` at point `t`, -/
def row (t : Fin cfg0.N) (a : Fin 512) : Fin 8192 :=
  ⟨t.val / 8 * 512 + 1 * a.val, by have := t.isLt; have : cfg0.N = 128 := N_0; omega⟩
/-- and the array column of its column `b`. -/
def col (t : Fin cfg0.N) (b : Fin 1024) : Fin 8192 :=
  ⟨t.val % 8 * 1024 + 1 * b.val, by omega⟩

theorem b0 (c : Dev nD) (t : Fin cfg0.N) (a : Fin 512) (k : Fin 3696) :
    (iblk m c 0 t : Vec Ideal S512x3696 .fp8e4m3) (ix2 a k) = (V m c main_arg0 : Vec Ideal S8192x3696 .fp8e4m3) (ix2 (row t a) k) := by
  unfold iblk
  rw [View.read_apply]
  show V m c main_arg0 _ = V m c main_arg0 _
  congr 1
  funext d
  apply Fin.ext
  match d with
  | ⟨0, _⟩ => show win0_0.index t 0 * 512 + 1 * a.val = t.val / 8 * 512 + 1 * a.val; rw [(idx t).1.1]
  | ⟨1, _⟩ => show win0_0.index t 1 * 3696 + 1 * k.val = k.val; rw [(idx t).1.2]; omega

theorem b1 (c : Dev nD) (t : Fin cfg0.N) (a : Fin 512) (k : Fin 128) :
    (iblk m c 1 t : Vec Ideal S512x128 .f32) (ix2 a k) = (V m c main_arg1 : Vec Ideal S8192x128 .f32) (ix2 (row t a) k) := by
  unfold iblk
  rw [View.read_apply]
  show V m c main_arg1 _ = V m c main_arg1 _
  congr 1
  funext d
  apply Fin.ext
  match d with
  | ⟨0, _⟩ => show win0_1.index t 0 * 512 + 1 * a.val = t.val / 8 * 512 + 1 * a.val; rw [(idx t).2.1.1]
  | ⟨1, _⟩ => show win0_1.index t 1 * 128 + 1 * k.val = k.val; rw [(idx t).2.1.2]; omega

theorem b2 (c : Dev nD) (t : Fin cfg0.N) (k : Fin 3696) (b : Fin 1024) :
    (iblk m c 2 t : Vec Ideal S3696x1024 .fp8e4m3) (ix2 k b) = (V m c main_arg2 : Vec Ideal S3696x8192 .fp8e4m3) (ix2 k (col t b)) := by
  unfold iblk
  rw [View.read_apply]
  show V m c main_arg2 _ = V m c main_arg2 _
  congr 1
  funext d
  apply Fin.ext
  match d with
  | ⟨0, _⟩ => show win0_2.index t 0 * 3696 + 1 * k.val = k.val; rw [(idx t).2.2.1.1]; omega
  | ⟨1, _⟩ => show win0_2.index t 1 * 1024 + 1 * b.val = t.val % 8 * 1024 + 1 * b.val; rw [(idx t).2.2.1.2]

theorem b3 (c : Dev nD) (t : Fin cfg0.N) (b : Fin 1024) :
    (iblk m c 3 t : Vec Ideal S1x1024 .f32) (ix2 0 b) = (V m c main_v0 : Vec Ideal S1x8192 .f32) (ix2 0 (col t b)) := by
  unfold iblk
  rw [View.read_apply]
  show V m c main_v0 _ = V m c main_v0 _
  congr 1
  funext d
  apply Fin.ext
  match d with
  | ⟨0, _⟩ => show win0_3.index t 0 * 1 + 1 * 0 = 0; rw [(idx t).2.2.2.1.1]
  | ⟨1, _⟩ => show win0_3.index t 1 * 1024 + 1 * b.val = t.val % 8 * 1024 + 1 * b.val; rw [(idx t).2.2.2.1.2]

theorem b4 (c : Dev nD) (t : Fin cfg0.N) (a : Fin 512) (b : Fin 1024) :
    (iblk m c 4 t : Vec Ideal S512x1024 .f32) (ix2 a b) = (V m c main_arg4 : Vec Ideal S8192x8192 .f32) (ix2 (row t a) (col t b)) := by
  unfold iblk
  rw [View.read_apply]
  show V m c main_arg4 _ = V m c main_arg4 _
  congr 1
  funext d
  apply Fin.ext
  match d with
  | ⟨0, _⟩ => show win0_4.index t 0 * 512 + 1 * a.val = t.val / 8 * 512 + 1 * a.val; rw [(idx t).2.2.2.2.1.1]
  | ⟨1, _⟩ => show win0_4.index t 1 * 1024 + 1 * b.val = t.val % 8 * 1024 + 1 * b.val; rw [(idx t).2.2.2.2.1.2]

/-- The result array on device `c`. -/
abbrev G (c : Dev nD) : Buf (Elt Ideal) ((c : Thread nD τ).loc main_v1) :=
  Cert.Proof.Down.out (V m c main_arg0) (V m c main_arg1) (V m c main_arg2) (V m c main_v0) (V m c main_arg4)

/-- What point `t` writes back is block `t` of `G`. -/
theorem flushed_eq (c : Dev nD) (t : Fin cfg0.N) :
    (dats m 0 c).flushed 5 t = ((cfg0.win 5).blk t).view.read (Elt Ideal) (G m c) := by
  rw [Value.flushed5]
  funext j
  obtain ⟨a, b, rfl⟩ : ∃ (a : Fin 512) (b : Fin 1024), j = ix2 a b := ⟨j 0, j 1, eq_ix2 j⟩
  show out0_5 (iblk m c 0 t) (iblk m c 1 t) (iblk m c 2 t) (iblk m c 3 t) (iblk m c 4 t) (ix2 a b) = _
  have e : ((cfg0.win 5).blk t).view.read (Elt Ideal) (G m c) (ix2 a b) = G m c (ix2 (row t a) (col t b)) := by
    rw [View.read_apply]
    show G m c _ = G m c _
    congr 1
    funext d
    apply Fin.ext
    match d with
    | ⟨0, _⟩ => show win0_5.index t 0 * 512 + 1 * a.val = t.val / 8 * 512 + 1 * a.val; rw [(idx t).2.2.2.2.2.1]
    | ⟨1, _⟩ => show win0_5.index t 1 * 1024 + 1 * b.val = t.val % 8 * 1024 + 1 * b.val; rw [(idx t).2.2.2.2.2.2]
  refine Eq.trans ?_ e.symm
  unfold out0_5
  rw [View.canon_unit_zero hz, View.ld_unit_zero hz, View.ld_unit_zero hz, View.ld_unit_zero hz, View.ld_unit_zero hz, pay]
  rw [ld_col _ _ _ (by omega), b1, b3, b4]
  simp only [b0, b2]
  rfl

/-- An index of the result array is in point `t`'s block where its coordinates are in the block's ranges. -/
theorem mem_blk (t : Fin cfg0.N) (i : S8192x8192.Idx) (h0 : (i 0 : Nat) / 512 = t.val / 8) (h1 : (i 1 : Nat) / 1024 = t.val % 8) :
    i ∈ ((cfg0.win 5).blk t).view.set := by
  show i ∈ ((View.whole main_v1).slice (win0_5.rect t)).set
  rw [View.set_slice_whole, Rect.mem_set_unit]
  intro d
  match d with
  | ⟨0, _⟩ =>
    show win0_5.index t 0 * 512 ≤ (i 0 : Nat) ∧ (i 0 : Nat) < win0_5.index t 0 * 512 + 512
    rw [(idx t).2.2.2.2.2.1]; omega
  | ⟨1, _⟩ =>
    show win0_5.index t 1 * 1024 ≤ (i 1 : Nat) ∧ (i 1 : Nat) < win0_5.index t 1 * 1024 + 1024
    rw [(idx t).2.2.2.2.2.2]; omega

/-- The blocks tile the result array. -/
theorem cover (i : S8192x8192.Idx) : ∃ t : Fin cfg0.N, (cfg0.win 5).flush t = true ∧ i ∈ ((cfg0.win 5).blk t).view.set := by
  have h0 : (i 0 : Nat) < 8192 := (i 0).isLt
  have h1 : (i 1 : Nat) < 8192 := (i 1).isLt
  have hN : cfg0.N = 128 := N_0
  exact ⟨⟨(i 0 : Nat) / 512 * 8 + (i 1 : Nat) / 1024, by omega⟩, flush0_5 _,
    mem_blk _ i (by dsimp only; omega) (by dsimp only; omega)⟩

/-- So the result array ends holding `G`. -/
theorem final (c : Dev nD) : (dats m 0 c).arrAt 5 cfg0.N = G m c :=
  (dats m 0 c).arrAt_eq_of_cover 5 (G m c) (fun t _ => flushed_eq m c t) cover

/-- The scales' row as the region finds it: the argument vector. -/
theorem V_scale (c : Dev nD) (b : Fin 8192) : (V m c main_v0 : Vec Ideal S1x8192 .f32) (ix2 0 b)
    = (m ((c : Thread nD τ).loc main_arg3) : Vec Ideal S8192 .f32) (ix1 b) := by
  unfold V hostOps0
  after_results
  show shapeCast S1x8192 (m ((c : Thread nD τ).loc main_arg3) : Vec Ideal S8192 .f32) shapeCasts_S8192_S1x8192 (ix2 0 b) = _
  exact scast_row _ _ b

/-- The run, read: the result array at `G`, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Proof.DownKernel

/-! ## The reference: one block, the whole arrays -/

namespace Cert.Proof.DownReference

open Idealize.ShloMosaic Idealize.ShloMosaic.TcCoe Idealize.SL.Sem Idealize.ShloMosaic.ValueIdx
open Cert.DownRefIdeal Cert.DownRefIdeal.Gen Cert.Proof.Ops

variable (m : (ℓ : Loc nD τ sig) → Buf (Elt Ideal) ℓ) (ρ : Dev nD → PrngReg)

/-- The payload at row `a` and column `b`. -/
theorem pay (v0 : Vec Ideal S8192x3696 .fp8e4m3) (v1 : Vec Ideal S8192x1 .f32) (v2 : Vec Ideal S3696x8192 .fp8e4m3)
    (v3 : Vec Ideal S1x8192 .f32) (v10 : Vec Ideal S8192x8192 .f32) (a : Fin 8192) (b : Fin 8192) :
    k0_pay1 v0 v1 v2 v3 v10 (ix2 a b)
      = v10 (ix2 a b) + (∑ k : Fin 3696, v0 (ix2 a k) * v2 (ix2 k b)) * v1 (ix2 a 0) * v3 (ix2 0 b) := by
  unfold k0_pay1
  rw [show dot_S8192x3696_S3696x8192_S8192x8192_1_0_0_1_n_n = DotDims.plain 8192 3696 8192 from rfl]
  show v10 (ix2 a b) + FloatOps.matmul (F := Ideal) (DotDims.plain 8192 3696 8192) none v0 v2 (constant S8192x8192 .f32 0x00000000#32) (ix2 a b)
      * broadcastTo S8192x8192 v1 broadcasts_S8192x1_S8192x8192 (ix2 a b)
      * broadcastTo S8192x8192 (shapeCast S1x8192 v3 shapeCasts_S1x8192_S1x8192) broadcasts_S1x8192_S8192x8192 (ix2 a b) = _
  rw [Ideal.matmul_plain_apply, bcol, brow, shapeCast_self]
  rw [show (constant S8192x8192 .f32 0x00000000#32 : FVec Ideal S8192x8192 .f32) (ix2 a b) = 0 from Ideal.ofBits_zero_f32, zero_add]

/-- Every window's one block starts at the array's corner. -/
theorem idx : ∀ (t : Fin cfg0.N) (d : Fin 2), win0_0.index t d = 0 ∧ win0_1.index t d = 0 ∧ win0_2.index t d = 0
    ∧ win0_3.index t d = 0 ∧ win0_4.index t d = 0 ∧ win0_5.index t d = 0 :=
  (by decide +kernel : ∀ (t : Fin grid0.N) (d : Fin 2), win0_0.index t d = 0 ∧ win0_1.index t d = 0 ∧ win0_2.index t d = 0
    ∧ win0_3.index t d = 0 ∧ win0_4.index t d = 0 ∧ win0_5.index t d = 0)

theorem b0 (c : Dev nD) (t : Fin cfg0.N) : (iblk m c 0 t : Vec Ideal S8192x3696 .fp8e4m3) = V m c main_arg0 := by
  have hz' : (fun a => win0_0.index t a * main_arg0.ty.shape.size a) = fun _ => 0 := funext fun a => by rw [(idx t a).1, Nat.zero_mul]
  exact Memref.read_access_unit_zero (Elt Ideal) main_arg0 hz' (fun a => by rw [congrFun hz' a]; simp) (V m c main_arg0)
theorem b1 (c : Dev nD) (t : Fin cfg0.N) : (iblk m c 1 t : Vec Ideal S8192x128 .f32) = V m c main_arg1 := by
  have hz' : (fun a => win0_1.index t a * main_arg1.ty.shape.size a) = fun _ => 0 := funext fun a => by rw [(idx t a).2.1, Nat.zero_mul]
  exact Memref.read_access_unit_zero (Elt Ideal) main_arg1 hz' (fun a => by rw [congrFun hz' a]; simp) (V m c main_arg1)
theorem b2 (c : Dev nD) (t : Fin cfg0.N) : (iblk m c 2 t : Vec Ideal S3696x8192 .fp8e4m3) = V m c main_arg2 := by
  have hz' : (fun a => win0_2.index t a * main_arg2.ty.shape.size a) = fun _ => 0 := funext fun a => by rw [(idx t a).2.2.1, Nat.zero_mul]
  exact Memref.read_access_unit_zero (Elt Ideal) main_arg2 hz' (fun a => by rw [congrFun hz' a]; simp) (V m c main_arg2)
theorem b3 (c : Dev nD) (t : Fin cfg0.N) : (iblk m c 3 t : Vec Ideal S1x8192 .f32) = V m c main_v0 := by
  have hz' : (fun a => win0_3.index t a * main_v0.ty.shape.size a) = fun _ => 0 := funext fun a => by rw [(idx t a).2.2.2.1, Nat.zero_mul]
  exact Memref.read_access_unit_zero (Elt Ideal) main_v0 hz' (fun a => by rw [congrFun hz' a]; simp) (V m c main_v0)
theorem b4 (c : Dev nD) (t : Fin cfg0.N) : (iblk m c 4 t : Vec Ideal S8192x8192 .f32) = V m c main_arg4 := by
  have hz' : (fun a => win0_4.index t a * main_arg4.ty.shape.size a) = fun _ => 0 := funext fun a => by rw [(idx t a).2.2.2.2.1, Nat.zero_mul]
  exact Memref.read_access_unit_zero (Elt Ideal) main_arg4 hz' (fun a => by rw [congrFun hz' a]; simp) (V m c main_arg4)

/-- The result array on device `c`. -/
abbrev G (c : Dev nD) : Buf (Elt Ideal) ((c : Thread nD τ).loc main_v1) :=
  Cert.Proof.Down.out (V m c main_arg0) (V m c main_arg1) (V m c main_arg2) (V m c main_v0) (V m c main_arg4)

/-- What the one point writes back is the one block of `G`: the whole of it. -/
theorem flushed_eq (c : Dev nD) (t : Fin cfg0.N) :
    (dats m 0 c).flushed 5 t = ((cfg0.win 5).blk t).view.read (Elt Ideal) (G m c) := by
  rw [Value.flushed5]
  have hz' : (fun a => win0_5.index t a * main_v1.ty.shape.size a) = fun _ => 0 := funext fun a => by rw [(idx t a).2.2.2.2.2, Nat.zero_mul]
  refine Eq.trans ?_ (Memref.read_access_unit_zero (Elt Ideal) main_v1 hz' (fun a => by rw [congrFun hz' a]; simp) (G m c)).symm
  funext j
  obtain ⟨a, b, rfl⟩ : ∃ (a : Fin 8192) (b : Fin 8192), j = ix2 a b := ⟨j 0, j 1, eq_ix2 j⟩
  show out0_5 (iblk m c 0 t) (iblk m c 1 t) (iblk m c 2 t) (iblk m c 3 t) (iblk m c 4 t) (ix2 a b) = _
  unfold out0_5
  rw [View.canon_unit_zero hz, View.ld_unit_zero hz, View.ld_unit_zero hz, View.ld_unit_zero hz, View.ld_unit_zero hz, pay]
  rw [ld_col _ _ _ (by omega), b0, b1, b2, b3, b4]
  rfl

/-- The one block is the whole result array. -/
theorem mem_blk (t : Fin cfg0.N) (i : S8192x8192.Idx) : i ∈ ((cfg0.win 5).blk t).view.set := by
  show i ∈ ((View.whole main_v1).slice (win0_5.rect t)).set
  rw [View.set_slice_whole, Rect.mem_set_unit]
  intro d
  have h0 : (i 0 : Nat) < 8192 := (i 0).isLt
  have h1 : (i 1 : Nat) < 8192 := (i 1).isLt
  match d with
  | ⟨0, _⟩ =>
    show win0_5.index t 0 * 8192 ≤ (i 0 : Nat) ∧ (i 0 : Nat) < win0_5.index t 0 * 8192 + 8192
    rw [(idx t 0).2.2.2.2.2]; omega
  | ⟨1, _⟩ =>
    show win0_5.index t 1 * 8192 ≤ (i 1 : Nat) ∧ (i 1 : Nat) < win0_5.index t 1 * 8192 + 8192
    rw [(idx t 1).2.2.2.2.2]; omega

theorem cover (i : S8192x8192.Idx) : ∃ t : Fin cfg0.N, (cfg0.win 5).flush t = true ∧ i ∈ ((cfg0.win 5).blk t).view.set := by
  have hN : cfg0.N = 1 := N_0
  exact ⟨⟨0, by omega⟩, flush0_5 _, mem_blk _ i⟩

/-- So the result array ends holding `G`. -/
theorem final (c : Dev nD) : (dats m 0 c).arrAt 5 cfg0.N = G m c :=
  (dats m 0 c).arrAt_eq_of_cover 5 (G m c) (fun t _ => flushed_eq m c t) cover

/-- The scales' row as the region finds it: the argument vector. -/
theorem V_scale (c : Dev nD) (b : Fin 8192) : (V m c main_v0 : Vec Ideal S1x8192 .f32) (ix2 0 b)
    = (m ((c : Thread nD τ).loc main_arg3) : Vec Ideal S8192 .f32) (ix1 b) := by
  unfold V hostOps0
  after_results
  exact broadcastInDim_apply _ _ _ (ix2 0 b) (ix1 b) fun a => by
    match a with
    | ⟨0, _⟩ => simp [ix1, ix2]

/-- The run, read: the result array at `G`, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Proof.DownReference

/-! ## The claim -/

namespace Cert.Proof.DownClaims

open Idealize.ShloMosaic Idealize.ShloMosaic.TcCoe Idealize.SL.Sem

/-- From memories that agree on the arguments, the kernel's result array and the reference's are equal, element by
    element, as extended reals. -/
theorem algebraic : Cert.algebraic_DownIdeal_DownRefIdeal := by
  intro m ρ m' ρ' _ hag
  refine ⟨fun c => Cert.Proof.DownKernel.G m c, Cert.Proof.DownKernel.run m ρ,
    (θ_run Cert.DownRefIdeal.defs _ _).mono (fun _ h c => ⟨(h c).1.trans ?_, (h c).2⟩) (Cert.Proof.DownReference.run m' ρ')⟩
  obtain ⟨h0, h1, h2, h3, h4⟩ := hag c
  refine Cert.Proof.Down.out_congr ?_ ?_ ?_ (fun b => ?_) ?_
  · exact (Cert.DownRefIdeal.Gen.V_main_arg0 m' c).trans (h0.trans (Cert.DownIdeal.Gen.V_main_arg0 m c).symm)
  · exact (Cert.DownRefIdeal.Gen.V_main_arg1 m' c).trans (h1.trans (Cert.DownIdeal.Gen.V_main_arg1 m c).symm)
  · exact (Cert.DownRefIdeal.Gen.V_main_arg2 m' c).trans (h2.trans (Cert.DownIdeal.Gen.V_main_arg2 m c).symm)
  · refine (Cert.Proof.DownReference.V_scale m' c b).trans (Eq.trans ?_ (Cert.Proof.DownKernel.V_scale m c b).symm)
    exact congrFun h3 (Idealize.ShloMosaic.ValueIdx.ix1 b)
  · exact (Cert.DownRefIdeal.Gen.V_main_arg4 m' c).trans (h4.trans (Cert.DownIdeal.Gen.V_main_arg4 m c).symm)

end Cert.Proof.DownClaims

end
-- ==== Proof.GateUpIdealBody.lean ====
/-
  Hand-written, untrusted. THE GATE-UP KERNEL'S BODY of `GateUpIdeal`, run from any contents of its buffers: what it leaves in
  each, at a point that is not the last of its row block (`body_A`), and at a last point of the first (`body_B`) and of
  the second (`body_C`) batch.
-/
module

public import proofs.«01_k».proof.Proof.Gen.GateUpIdeal.Frame
public import proofs.«01_k».proof.Proof.Gen.GateUpIdeal.Skeleton
public import Idealize.ShloMosaic.Lib.VecWindow

@[expose] public section

set_option maxRecDepth 16384

noncomputable section

namespace Cert.Proof.GateUpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.GateUpIdeal Cert.GateUpIdeal.Gen

variable {F : FTy → Type} [FloatOps F]

local notation "𝕄" => MT nD τ sig Unit (Elt F) ℕ (UR sig nD τ) ℕ

/-- The scratch after the point's tile is stored into it. -/
def scr (i : grid0.Coords) (x0 : Vec F S512x8192 .fp8e4m3) (x1 : Vec F S512x128 .f32) (x2 : Vec F S8192x512 .fp8e4m3)
    (x3 : Vec F S1x512 .f32) (x7 : Vec F S512x7680 .f32) : Vec F S512x7680 .f32 :=
  VecWindow.put x7 (k0_off1 i) S512x512.size
    (k0_pay1 x0 x2 (View.ld x1 (Rect.unit (s := S512x128) ![0, 0] S512x1.size inb_S512x128_S512x1_0_0)) x3)

/-- The scratch's gate half, -/
def gateOf (x : Vec F S512x7680 .f32) : Vec F S512x3696 .f32 :=
  VecWindow.window x ![0, 0] S512x3696.size inb_S512x7680_S512x3696_0_0
/-- and its up half. -/
def upOf (x : Vec F S512x7680 .f32) : Vec F S512x3696 .f32 :=
  VecWindow.window x ![0, 3696] S512x3696.size inb_S512x7680_S512x3696_0_3696

/-- What the scratch reads after the body's store. -/
theorem scr_read (i : grid0.Coords) {m2 : Memref sig .tc .vmem S512x8192 .fp8e4m3} {m3 : Memref sig .tc .vmem S512x128 .f32}
    {m4 : Memref sig .tc .vmem S8192x512 .fp8e4m3} {m5 : Memref sig .tc .vmem S1x512 .f32} {m9 : Memref sig .tc .vmem S512x7680 .f32}
    (f0 : BufTy.Contents (Elt F) m2.view.ty) (f1 : BufTy.Contents (Elt F) m3.view.ty) (f2 : BufTy.Contents (Elt F) m4.view.ty)
    (f3 : BufTy.Contents (Elt F) m5.view.ty) (f7 : BufTy.Contents (Elt F) m9.view.ty) :
    m9.view.read (Elt F) (m9.view.writes (Elt F) f7 [⟨Rect.unit (k0_off1 i) S512x512.size (k0_off1_inb i),
      k0_pay1 (m2.view.readAt (Elt F) (Rect.unit ![0, 0] S512x8192.size inb_S512x8192_S512x8192_0_0).toLoadRect f0)
        (m4.view.readAt (Elt F) (Rect.unit ![0, 0] S8192x512.size inb_S8192x512_S8192x512_0_0).toLoadRect f2)
        (m3.view.readAt (Elt F) (Rect.unit (s := S512x128) ![0, 0] S512x1.size inb_S512x128_S512x1_0_0).toLoadRect f1)
        (m5.view.readAt (Elt F) (Rect.unit ![0, 0] S1x512.size inb_S1x512_S1x512_0_0).toLoadRect f3)⟩])
      = scr i (m2.view.read (Elt F) f0) (m3.view.read (Elt F) f1) (m4.view.read (Elt F) f2) (m5.view.read (Elt F) f3)
          (m9.view.read (Elt F) f7) := by
  refine (View.read_writes_cons_put m9.view f7 _ _ [] rfl).trans ?_
  rw [View.readAt_full, View.readAt_full, View.readAt_full]
  rfl

/-- The gate half a last point loads back, -/
theorem gate_read {m9 : Memref sig .tc .vmem S512x7680 .f32} {f : BufTy.Contents (Elt F) m9.view.ty} {x : Vec F S512x7680 .f32}
    (h : m9.view.read (Elt F) f = x) :
    m9.view.readAt (Elt F) (Rect.unit (s := S512x7680) ![0, 0] S512x3696.size inb_S512x7680_S512x3696_0_0).toLoadRect f = gateOf x :=
  (View.readAt_unit m9.view f _ rfl inb_S512x7680_S512x3696_0_0).trans (congrArg gateOf h)
/-- and the up half. -/
theorem up_read {m9 : Memref sig .tc .vmem S512x7680 .f32} {f : BufTy.Contents (Elt F) m9.view.ty} {x : Vec F S512x7680 .f32}
    (h : m9.view.read (Elt F) f = x) :
    m9.view.readAt (Elt F) (Rect.unit (s := S512x7680) ![0, 3696] S512x3696.size inb_S512x7680_S512x3696_0_3696).toLoadRect f = upOf x :=
  (View.readAt_unit m9.view f _ rfl inb_S512x7680_S512x3696_0_3696).trans (congrArg upOf h)

variable (c : Dev nD) (E : Set ℕ) (i : grid0.Coords) (arg2 : Memref sig .tc .vmem S512x8192 .fp8e4m3) (harg2 : arg2.IsWhole) (arg3 : Memref sig .tc .vmem S512x128 .f32) (harg3 : arg3.IsWhole) (arg4 : Memref sig .tc .vmem S8192x512 .fp8e4m3) (harg4 : arg4.IsWhole) (arg5 : Memref sig .tc .vmem S1x512 .f32) (harg5 : arg5.IsWhole) (arg6 : Memref sig .tc .vmem S512x3696 .fp8e4m3) (harg6 : arg6.IsWhole) (arg7 : Memref sig .tc .vmem S2x4096 .f32) (harg7 : arg7.IsWhole) (arg8 : Memref sig .tc .vmem S512x128 .f32) (harg8 : arg8.IsWhole) (arg9 : Memref sig .tc .vmem S512x7680 .f32) (harg9 : arg9.IsWhole)

set_option maxHeartbeats 2000000 in
/-- A point that is not the last of its row block: the tile is stored, nothing else changes. -/
theorem body_A
    (hc1 : ¬ k0_cond1 i = 1#1)
    (x0 : Vec F S512x8192 .fp8e4m3) (x1 : Vec F S512x128 .f32) (x2 : Vec F S8192x512 .fp8e4m3) (x3 : Vec F S1x512 .f32) (x4 : Vec F S512x3696 .fp8e4m3) (x5 : Vec F S2x4096 .f32) (x6 : Vec F S512x128 .f32) (x7 : Vec F S512x7680 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare ((scr i x0 x1 x2 x3 x7))) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  iexists _; isplitr
  swap; · iexact H7
  ipureintro; exact scr_read i f0 f1 f2 f3 f7

set_option maxHeartbeats 2000000 in
/-- The last point of a row block of the first batch. -/
theorem body_B
    (hc1 : k0_cond1 i = 1#1) (hc2 : k0_cond2 i = 1#1) (hc3 : ¬ k0_cond3 i = 1#1)
    (x0 : Vec F S512x8192 .fp8e4m3) (x1 : Vec F S512x128 .f32) (x2 : Vec F S8192x512 .fp8e4m3) (x3 : Vec F S1x512 .f32) (x4 : Vec F S512x3696 .fp8e4m3) (x5 : Vec F S2x4096 .f32) (x6 : Vec F S512x128 .f32) (x7 : Vec F S512x7680 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7
        ∗ (iprop(owns c.tc arg2 fullShare (x0) ∗ owns c.tc arg3 fullShare (x1) ∗ owns c.tc arg4 fullShare (x2) ∗ owns c.tc arg5 fullShare (x3) ∗ owns c.tc arg6 fullShare (k0_pay4 (gateOf (scr i x0 x1 x2 x3 x7)) (upOf (scr i x0 x1 x2 x3 x7))) ∗ owns c.tc arg7 fullShare (VecWindow.put x5 (k0_off2 i) S1x512.size (k0_pay6 (gateOf (scr i x0 x1 x2 x3 x7)) (upOf (scr i x0 x1 x2 x3 x7)))) ∗ owns c.tc arg8 fullShare (k0_pay5 (gateOf (scr i x0 x1 x2 x3 x7)) (upOf (scr i x0 x1 x2 x3 x7))) ∗ owns c.tc arg9 fullShare ((scr i x0 x1 x2 x3 x7))) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]
  · iexists _; isplitr
    swap; · iexact H4
    ipureintro
    exact (View.read_writes_full _ f4 _ _ []).trans (congrArg₂ (fun g u => k0_pay4 g u) (gate_read (scr_read i f0 f1 f2 f3 f7)) (up_read (scr_read i f0 f1 f2 f3 f7)))
  isplitl [H5]
  · iexists _; isplitr
    swap; · iexact H5
    ipureintro
    exact (View.read_writes_cons_put _ f5 _ _ [] rfl).trans (congrArg₂ (fun g u => VecWindow.put (View.read (Elt F) arg7.view f5) (k0_off2 i) S1x512.size (k0_pay6 g u)) (gate_read (scr_read i f0 f1 f2 f3 f7)) (up_read (scr_read i f0 f1 f2 f3 f7)))
  isplitl [H6]
  · iexists _; isplitr
    swap; · iexact H6
    ipureintro
    exact (View.read_writes_full _ f6 _ _ []).trans (congrArg₂ (fun g u => k0_pay5 g u) (gate_read (scr_read i f0 f1 f2 f3 f7)) (up_read (scr_read i f0 f1 f2 f3 f7)))
  iexists _; isplitr
  swap; · iexact H7
  ipureintro; exact scr_read i f0 f1 f2 f3 f7

set_option maxHeartbeats 2000000 in
/-- The last point of a row block of the second batch. -/
theorem body_C
    (hc1 : k0_cond1 i = 1#1) (hc2 : ¬ k0_cond2 i = 1#1) (hc3 : k0_cond3 i = 1#1)
    (x0 : Vec F S512x8192 .fp8e4m3) (x1 : Vec F S512x128 .f32) (x2 : Vec F S8192x512 .fp8e4m3) (x3 : Vec F S1x512 .f32) (x4 : Vec F S512x3696 .fp8e4m3) (x5 : Vec F S2x4096 .f32) (x6 : Vec F S512x128 .f32) (x7 : Vec F S512x7680 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7
        ∗ (iprop(owns c.tc arg2 fullShare (x0) ∗ owns c.tc arg3 fullShare (x1) ∗ owns c.tc arg4 fullShare (x2) ∗ owns c.tc arg5 fullShare (x3) ∗ owns c.tc arg6 fullShare (k0_pay4 (gateOf (scr i x0 x1 x2 x3 x7)) (upOf (scr i x0 x1 x2 x3 x7))) ∗ owns c.tc arg7 fullShare (VecWindow.put x5 (k0_off3 i) S1x512.size (k0_pay6 (gateOf (scr i x0 x1 x2 x3 x7)) (upOf (scr i x0 x1 x2 x3 x7)))) ∗ owns c.tc arg8 fullShare (k0_pay5 (gateOf (scr i x0 x1 x2 x3 x7)) (upOf (scr i x0 x1 x2 x3 x7))) ∗ owns c.tc arg9 fullShare ((scr i x0 x1 x2 x3 x7))) -∗ K ⟨⟩))
      ⊢ wp frame (wpE (defs₀ (F := F)) Variants.none c none) E (cc0_gate_up i arg2 harg2 arg3 harg3 arg4 harg4 arg5 harg5 arg6 harg6 arg7 harg7 arg8 harg8 arg9 harg9) K := by
  simp only [cc0_gate_up_eq_skeleton]; unfold cc0_gate_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]
  · iexists _; isplitr
    swap; · iexact H4
    ipureintro
    exact (View.read_writes_full _ f4 _ _ []).trans (congrArg₂ (fun g u => k0_pay4 g u) (gate_read (scr_read i f0 f1 f2 f3 f7)) (up_read (scr_read i f0 f1 f2 f3 f7)))
  isplitl [H5]
  · iexists _; isplitr
    swap; · iexact H5
    ipureintro
    exact (View.read_writes_cons_put _ f5 _ _ [] rfl).trans (congrArg₂ (fun g u => VecWindow.put (View.read (Elt F) arg7.view f5) (k0_off3 i) S1x512.size (k0_pay6 g u)) (gate_read (scr_read i f0 f1 f2 f3 f7)) (up_read (scr_read i f0 f1 f2 f3 f7)))
  isplitl [H6]
  · iexists _; isplitr
    swap; · iexact H6
    ipureintro
    exact (View.read_writes_full _ f6 _ _ []).trans (congrArg₂ (fun g u => k0_pay5 g u) (gate_read (scr_read i f0 f1 f2 f3 f7)) (up_read (scr_read i f0 f1 f2 f3 f7)))
  iexists _; isplitr
  swap; · iexact H7
  ipureintro; exact scr_read i f0 f1 f2 f3 f7

end Cert.Proof.GateUpIdeal

end
-- ==== Proof.GateUpIdealStep.lean ====
/-
  Hand-written, untrusted. THE GATE-UP KERNEL'S RUN of `GateUpIdeal`: the body at any point of its grid (`body_step`), the
  pipeline's proof data for any relation on what the body leaves and any property of its scratch (`rdat`), and the
  run and the frame they give (`run`, `frame`).
-/
module

public import proofs.«01_k».proof.Proof.GateUpIdealBody
public import Idealize.ShloMosaic.Lib.Claim

@[expose] public section

set_option maxRecDepth 16384

noncomputable section

namespace Cert.Proof.GateUpIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.GateUpIdeal Cert.GateUpIdeal.Gen

variable {F : FTy → Type} [FloatOps F]

local notation "𝕄" => MT nD τ sig Unit (Elt F) ℕ (UR sig nD τ) ℕ

/-! ## The body's branches, by the point -/

theorem cond1_iff : ∀ t : Fin grid0.N, k0_cond1 (grid0.coords t) = 1#1 ↔ t.val % 15 = 14 := by decide +kernel
theorem cond2_iff : ∀ t : Fin grid0.N, k0_cond2 (grid0.coords t) = 1#1 ↔ t.val / 15 < 8 := by decide +kernel
theorem cond3_iff : ∀ t : Fin grid0.N, k0_cond3 (grid0.coords t) = 1#1 ↔ ¬ t.val / 15 < 8 := by decide +kernel

variable (t : Fin cfg0.N) (x0 : Vec F S512x8192 .fp8e4m3) (x1 : Vec F S512x128 .f32) (x2 : Vec F S8192x512 .fp8e4m3)
    (x3 : Vec F S1x512 .f32) (x4 : Vec F S512x3696 .fp8e4m3) (x5 : Vec F S2x4096 .f32) (x6 : Vec F S512x128 .f32) (x7 : Vec F S512x7680 .f32)

/-- The scratch after point `t`, -/
def res7 : Vec F S512x7680 .f32 := scr (grid0.coords t) x0 x1 x2 x3 x7
/-- the codes' buffer, -/
def res4 : Vec F S512x3696 .fp8e4m3 :=
  if t.val % 15 = 14 then k0_pay4 (gateOf (res7 t x0 x1 x2 x3 x7)) (upOf (res7 t x0 x1 x2 x3 x7)) else x4
/-- the scales' buffer, -/
def res5 : Vec F S2x4096 .f32 :=
  if t.val % 15 = 14 then
    (if t.val / 15 < 8 then
      VecWindow.put x5 (k0_off2 (grid0.coords t)) S1x512.size (k0_pay6 (gateOf (res7 t x0 x1 x2 x3 x7)) (upOf (res7 t x0 x1 x2 x3 x7)))
    else
      VecWindow.put x5 (k0_off3 (grid0.coords t)) S1x512.size (k0_pay6 (gateOf (res7 t x0 x1 x2 x3 x7)) (upOf (res7 t x0 x1 x2 x3 x7))))
  else x5
/-- and the row scales' buffer. -/
def res6 : Vec F S512x128 .f32 :=
  if t.val % 15 = 14 then k0_pay5 (gateOf (res7 t x0 x1 x2 x3 x7)) (upOf (res7 t x0 x1 x2 x3 x7)) else x6

/-- The body at point `t`, from any contents. -/
theorem body_step (c : Dev nD) (K : PUnit → sProp 𝕄) :
    iprop(owns c.tc (st0_0 t) fullShare x0 ∗ owns c.tc (st0_1 t) fullShare x1
        ∗ owns c.tc (st0_2 t) fullShare x2 ∗ owns c.tc (st0_3 t) fullShare x3
        ∗ owns c.tc (st0_4 t) fullShare x4 ∗ owns c.tc (st0_5 t) fullShare x5
        ∗ owns c.tc (st0_6 t) fullShare x6 ∗ owns c.tc (Memref.whole cc0_scratch0) fullShare x7
        ∗ (iprop(owns c.tc (st0_0 t) fullShare x0 ∗ owns c.tc (st0_1 t) fullShare x1
            ∗ owns c.tc (st0_2 t) fullShare x2 ∗ owns c.tc (st0_3 t) fullShare x3
            ∗ owns c.tc (st0_4 t) fullShare (res4 t x0 x1 x2 x3 x4 x7)
            ∗ owns c.tc (st0_5 t) fullShare (res5 t x0 x1 x2 x3 x5 x7)
            ∗ owns c.tc (st0_6 t) fullShare (res6 t x0 x1 x2 x3 x6 x7)
            ∗ owns c.tc (Memref.whole cc0_scratch0) fullShare (res7 t x0 x1 x2 x3 x7)) -∗ K ⟨⟩))
      ⊢ wp frame (wpE (defs₀ (F := F)) Variants.none c none) Set.univ (bodyAt0 t) K := by
  unfold bodyAt0 res4 res5 res6 res7
  by_cases h1 : t.val % 15 = 14
  · by_cases h2 : t.val / 15 < 8
    · simp only [if_pos h1, if_pos h2]
      exact body_B c Set.univ (grid0.coords t) _ _ _ _ _ _ _ _ _ _ _ _ _ _ _ _ ((cond1_iff t).mpr h1) ((cond2_iff t).mpr h2)
        (fun h => (cond3_iff t).mp h h2) x0 x1 x2 x3 x4 x5 x6 x7 K
    · simp only [if_pos h1, if_neg h2]
      exact body_C c Set.univ (grid0.coords t) _ _ _ _ _ _ _ _ _ _ _ _ _ _ _ _ ((cond1_iff t).mpr h1)
        (fun h => h2 ((cond2_iff t).mp h)) ((cond3_iff t).mpr h2) x0 x1 x2 x3 x4 x5 x6 x7 K
  · simp only [if_neg h1]
    exact body_A c Set.univ (grid0.coords t) _ _ _ _ _ _ _ _ _ _ _ _ _ _ _ _ (fun h => h1 ((cond1_iff t).mp h)) x0 x1 x2 x3 x4 x5 x6 x7 K

variable (m : (ℓ : Loc nD τ sig) → Buf (Elt F) ℓ) (ρ : Dev nD → PrngReg)
  (after : Dev nD → (w : Fin cfg0.W) → Fin cfg0.N → (Y X : (cfg0.win w).block.Idx → Elt F (cfg0.win w).elt) → Prop)
  (SC : Dev nD → ℕ → Vec F S512x7680 .f32 → Prop)

/-- What the core keeps between points: its scratch, with the property `SC` of it, and its generator. -/
def inv (c : Dev nD) (n : ℕ) : sProp 𝕄 :=
  iprop((∃ f : Vec F S512x7680 .f32, ⌜SC c n f⌝ ∗ owns c.tc (Memref.whole cc0_scratch0) fullShare f) ∗ ∃ r, prngReg c r)

/-- The proof data. -/
def rdat (c : Dev nD) : RDat τ (Elt F) Unit ℕ (UR sig nD τ) ℕ cfg0 c where
  A w := V m c (Pipeline.arrRef spec0 w)
  after := after c
  Φ n := inv SC c n.val
  q _ := fullShare
  owed _ := 0

/-- That one step of the body keeps the relation and the scratch's property. -/
def Steps (c : Dev nD) : Prop :=
  ∀ (t : Fin cfg0.N) (Y : (w : Fin cfg0.W) → (cfg0.win w).block.Idx → Elt F (cfg0.win w).elt) (f : Vec F S512x7680 .f32),
    (∀ w, (rdat m after SC c).Finds w t (Y w)) → SC c t.val f →
    after c 0 t (Y 0) (Y 0) ∧ after c 1 t (Y 1) (Y 1) ∧ after c 2 t (Y 2) (Y 2) ∧ after c 3 t (Y 3) (Y 3)
      ∧ after c 4 t (Y 4) (res4 t (Y 0) (Y 1) (Y 2) (Y 3) (Y 4) f)
      ∧ after c 5 t (Y 5) (res5 t (Y 0) (Y 1) (Y 2) (Y 3) (Y 5) f)
      ∧ after c 6 t (Y 6) (res6 t (Y 0) (Y 1) (Y 2) (Y 3) (Y 6) f)
      ∧ SC c (t.val + 1) (res7 t (Y 0) (Y 1) (Y 2) (Y 3) f)

/-- The body table's row at point `t`'s slots is the body as `bodyAt0` spells it. -/
theorem defs₀_row : defs₀ (F := F) .tc cfg0.body (cfg0.bodyArgs t (cfg0.slots t)) = bodyAt0 t := by
  unfold defs₀; rw [Defs.onTc_tc]

theorem body_obligation (c : Dev nD) (hs : Steps m after SC c) :
    (rdat m after SC c).BodyObligation (defs₀ (F := F)) Variants.none () Set.univ := fun t Y hY => by
  rw [bigSep_W0, bigSep_W0, defs₀_row]
  rw [show (rdat m after SC c).Φ t.succ = inv SC c (t.val + 1) from rfl,
    show (rdat m after SC c).Φ t.castSucc = inv SC c t.val from rfl,
    show (rdat m after SC c).owesAt () t.succ = (rdat m after SC c).owesAt () t.castSucc from rfl]
  unfold inv
  iintro ⟨⟨⟨%f, %hf, HS⟩, HP⟩, Ho, H0, H1, H2, H3, H4, H5, H6⟩
  obtain ⟨a0, a1, a2, a3, a4, a5, a6, a7⟩ := hs t Y f hY hf
  iapply (body_step t (Y 0) (Y 1) (Y 2) (Y 3) (Y 4) (Y 5) (Y 6) f c _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS HP]
  · isplitl [HS]
    · iexists _; isplitr
      swap; · iexact HS
      ipureintro; exact a7
    · iexact HP
  isplitl [Ho]; · iexact Ho
  isplitl [H0]
  · iexists _; isplitr
    swap; · iexact H0
    ipureintro; exact a0
  isplitl [H1]
  · iexists _; isplitr
    swap; · iexact H1
    ipureintro; exact a1
  isplitl [H2]
  · iexists _; isplitr
    swap; · iexact H2
    ipureintro; exact a2
  isplitl [H3]
  · iexists _; isplitr
    swap; · iexact H3
    ipureintro; exact a3
  isplitl [H4]
  · iexists _; isplitr
    swap; · iexact H4
    ipureintro; exact a4
  isplitl [H5]
  · iexists _; isplitr
    swap; · iexact H5
    ipureintro; exact a5
  iexists _; isplitr
  swap; · iexact H6
  ipureintro; exact a6

theorem inv_in (c : Dev nD) (h0 : ∀ f, SC c 0 f) : (Pipeline.ΦA cfg0.spec c : sProp 𝕄) ⊢ inv SC c 0 := by
  unfold Pipeline.ΦA inv
  rw [show (Pipeline.scopedRest (cfg0).spec c : sProp 𝕄) = _ from scopedRest0_eq c]
  iintro ⟨⟨%f, HS⟩, HP⟩
  isplitl [HS]
  · iexists f; isplitr
    · ipureintro; exact h0 f
    · rw [owns_whole]; iexact HS
  · iexact HP

theorem inv_out (c : Dev nD) (n : ℕ) : inv SC c n ⊢ (Pipeline.ΦA cfg0.spec c : sProp 𝕄) := by
  unfold Pipeline.ΦA inv
  rw [show (Pipeline.scopedRest (cfg0).spec c : sProp 𝕄) = _ from scopedRest0_eq c]
  iintro ⟨⟨%f, -, HS⟩, HP⟩
  isplitl [HS]
  · iexists f; rw [← owns_whole]; iexact HS
  · iexact HP

set_option backward.isDefEq.respectTransparency.types false in
set_option maxHeartbeats 800000 in
/-- THE RUN: from any proof data that the body's steps keep. -/
theorem run (hs : ∀ c, Steps m after SC c) (h0 : ∀ c f, SC c 0 f) :
    θ_run defs (onTc (τ := τ) (main (F := F))) (s₀ m ρ) (fun r => RDat.FramePost cfg0 (rdat m after SC) (V m) r ∧ r.2.sem = fun _ => 0) :=
  RDat.θ_run_frame_track (Q' := _) cfgs (0 : Fin 1) launch0 defs₀ Variants.none (rdat m after SC) m ρ main
    (hbody := fun c => body_obligation m after SC c (hs c))
    (hshare := fun c w => by unfold RDat.share; split <;> rfl)
    (howed := fun _ _ => rfl) (V := V m) (hmain := hmain m Variants.none) (hA := fun _ _ => rfl)
    (hin := fun c => inv_in SC c (h0 c)) (hout := fun c => inv_out SC c _)

/-- The argument arrays end as launched. -/
theorem unchanged_of {r : PUnit × MemSt nD τ sig (Elt F)} (h : RDat.FramePost cfg0 (rdat m after SC) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have hin : ∀ w, (cfg0.win w).isOut = false →
      r.2.mem ((cfg0.spec w).arr.view.loc (c.tc : Thread nD τ)) = V m c (Pipeline.arrRef spec0 w) := fun w hw => by
    have := (h c).1 w
    rw [RDat.ArrAt_in (rd := rdat m after SC c) w hw] at this
    exact this
  exact ⟨(hin 0 rfl).trans (V_main_arg0 m c), (hin 1 rfl).trans (V_main_arg1 m c), (hin 2 rfl).trans (V_main_arg2 m c),
    ((h c).2 main_arg3 (Pipeline.mem_restRefs_of main_arg3 (by decide) (by decide))).trans (V_main_arg3 m c)⟩

/-- THE FRAME: every run ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => unchanged_of m _ _ h.1 c, h.2⟩)
    (run m ρ (fun _ _ _ _ _ => True) (fun _ _ _ => True)
      (fun _ _ _ _ _ _ => ⟨trivial, trivial, trivial, trivial, trivial, trivial, trivial, trivial⟩) (fun _ _ => trivial))

end Cert.Proof.GateUpIdeal

end
-- ==== Proof.GateUpSame.lean ====
/-
  Hand-written, untrusted. THE FRAME of `GateUp`: its text is `GateUpIdeal`'s, so its run is `GateUpIdeal`'s run.
-/
module

public import proofs.«01_k».proof.Proof.Gen.GateUp.Frame
public import proofs.«01_k».proof.Proof.GateUpIdealStep

@[expose] public section

set_option maxRecDepth 16384

noncomputable section

namespace Cert.Proof.GateUp

open Idealize.ShloMosaic Idealize.ShloMosaic.TcCoe Idealize.SL.Sem
open Cert.GateUp Cert.GateUp.Gen

variable {F : FTy → Type} [FloatOps F]
variable (m : (ℓ : Loc nD τ sig) → Buf (Elt F) ℓ) (ρ : Dev nD → PrngReg)

set_option maxHeartbeats 4000000 in
set_option smartUnfolding false in
/-- THE FRAME: every run ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Cert.Proof.GateUpIdeal.frame m ρ

end Cert.Proof.GateUp

end
-- ==== Proof.Quant.lean ====
/-
  Hand-written, untrusted. The fp8 quantiser over the extended reals, one row at a time: a row's scale from its largest
  magnitude (`sc`), the clip (`clip`), and that multiplying by the scale's reciprocal is dividing by the scale.
-/
module

public import proofs.«01_k».proof.Proof.Ops
public import Idealize.ShloMosaic.Lib.IdealHost

@[expose] public section

noncomputable section

namespace Cert.Proof.Quant

open Idealize.ShloMosaic Idealize.ShloMosaic.ValueIdx

/-- The largest code, 448, -/
def top : EReal := FloatOps.ofBits (F := Ideal) .f32 0x43E00000#32
/-- and the smallest, -448. -/
def bot : EReal := FloatOps.ofBits (F := Ideal) .f32 0xC3E00000#32

theorem top_eq : top = ((448 : ℝ) : EReal) := by
  show Ideal.ofBits .f32 0x43E00000#32 = _
  simp [Ideal.ofBits, Ideal.ieee, -EReal.coe_mul]; norm_num

/-- A row's scale from its largest magnitude. -/
def sc (x : EReal) : EReal := if x = 0 then 1 else Ideal.div x top

/-- The clip to the codes' range. -/
def clip (x : EReal) : EReal := min top (max bot x)

theorem sc_ne_zero (x : EReal) : sc x ≠ 0 := by
  unfold sc
  by_cases h : x = 0
  · rw [if_pos h]; exact one_ne_zero
  · rw [if_neg h]
    unfold Ideal.div
    have h4 : top ≠ 0 := by rw [top_eq]; exact_mod_cast (by norm_num : (448 : ℝ) ≠ 0)
    rw [if_neg h4]
    intro e
    rcases mul_eq_zero.mp e with e | e
    · exact h e
    · rw [top_eq, ← EReal.coe_inv] at e
      exact absurd (EReal.coe_eq_zero.mp e) (by norm_num)

/-- The scale as the programs print it: a select on the comparison with zero. -/
theorem select_sc {s : Shape} (v : FVec Ideal s .f32) (i : s.Idx) :
    select (cmpf .oeq v (broadcast s (Scalar.ofBits (F := Ideal) .f32 0x00000000#32))) (broadcast s (Scalar.ofBits (F := Ideal) .f32 0x3F800000#32))
      (divf v (broadcast s (Scalar.ofBits (F := Ideal) .f32 0x43E00000#32))) i = sc (v i) := by
  show Scalar.select (Ideal.cmp .oeq (v i) (Ideal.ofBits .f32 0x00000000#32)) (Ideal.ofBits .f32 0x3F800000#32) (Ideal.div (v i) top) = _
  rw [Ideal.ofBits_zero_f32, Ideal.ofBits_one_f32]
  unfold sc Scalar.select Ideal.cmp
  by_cases h : v i = 0
  · simp [h]
  · simp [h]

/-- Multiplying by the reciprocal of a scale is dividing by it. -/
theorem mul_inv_sc (y x : EReal) : y * Ideal.div (Scalar.ofBits (F := Ideal) .f32 0x3F800000#32) (sc x) = Ideal.div y (sc x) := by
  rw [show (Scalar.ofBits (F := Ideal) .f32 0x3F800000#32 : Ideal .f32) = (1 : EReal) from Ideal.ofBits_one_f32]
  exact Ideal.mul_one_div (sc_ne_zero x)

/-- The largest entry over a finite range, as the programs' reductions compute it. -/
def fmax {N : Nat} (f : Fin N → EReal) : EReal := (Finset.univ : Finset (Fin N)).fold max (FloatOps.ofBits (F := Ideal) .f32 0xFF800000#32) f

/-- A matrix's row maximum. -/
theorem rowmax {M N : Nat} (x : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ) (a : Fin M) :
    multiReduction .maximumf [1] (⟨1, ![M]⟩ : Shape) x 0xFF800000#32 h hφ hacc (ix1 a) = fmax fun k : Fin N => x (ix2 a k) := by
  rw [Ideal.multiReduction_maximumf_single]
  unfold fmax
  have e : (x ∘ h.lift (ix1 a)) = fun k : Fin N => x (ix2 a k) := funext fun k => congrArg x (funext fun d => by
    match d with
    | ⟨0, _⟩ => rfl
    | ⟨1, _⟩ => rfl)
  exact congrArg (fun f => (Finset.univ : Finset (Fin N)).fold max (FloatOps.ofBits (F := Ideal) .f32 0xFF800000#32) f) e

/-- The same over the last axis of a three-axis array. -/
theorem rowmax3 {B M N : Nat} (x : FVec Ideal ⟨3, ![B, M, N]⟩ .f32) (h : (⟨3, ![B, M, N]⟩ : Shape).Reduces [2] ⟨2, ![B, M]⟩)
    (hφ : FKind.Formats .f32) (hacc : (0xFF800000#32 : BitVec 32) = FKind.maximumf.neutral .f32 hφ) (b : Fin B) (a : Fin M) :
    multiReduction .maximumf [2] (⟨2, ![B, M]⟩ : Shape) x 0xFF800000#32 h hφ hacc (ix2 b a) = fmax fun k : Fin N => x (ix3 b a k) := by
  rw [Ideal.multiReduction_maximumf_single]
  unfold fmax
  have e : (x ∘ h.lift (ix2 b a)) = fun k : Fin N => x (ix3 b a k) := funext fun k => congrArg x (funext fun d => by
    match d with
    | ⟨0, _⟩ => rfl
    | ⟨1, _⟩ => rfl
    | ⟨2, _⟩ => rfl)
  exact congrArg (fun f => (Finset.univ : Finset (Fin N)).fold max (FloatOps.ofBits (F := Ideal) .f32 0xFF800000#32) f) e

end Cert.Proof.Quant

end
-- ==== Proof.GateUpSpec.lean ====
/-
  Hand-written, untrusted. THE GATE-UP PROJECTION over the extended reals, index by index: the product scaled by rows and
  by columns (`lin`), the gated activation of a row, its scale and its codes. The kernel's tiles and the reference's block
  are both read as these functions.
-/
module

public import proofs.«01_k».proof.Proof.Quant

@[expose] public section

noncomputable section

namespace Cert.Proof.GateUpSpec

open Idealize.ShloMosaic Idealize.ShloMosaic.ValueIdx Cert.Proof.Quant

/-! ## One row: from its gate and up halves -/

/-- The gated activation at column `c`, -/
def actF (g u : Fin 3696 → EReal) (c : Fin 3696) : EReal := g c * Ideal.logistic (g c) * u c
/-- the row's largest magnitude, -/
def amaxF (g u : Fin 3696 → EReal) : EReal := fmax fun c => FloatOps.absf (F := Ideal) (φ := .f32) (actF g u c)
/-- its scale, -/
def scF (g u : Fin 3696 → EReal) : EReal := sc (amaxF g u)
/-- and its codes. -/
def codeF (g u : Fin 3696 → EReal) (c : Fin 3696) : EReal := clip (Ideal.div (actF g u c) (scF g u))

/-! ## The whole arrays -/

variable (x : FVec Ideal ⟨2, ![8192, 8192]⟩ .fp8e4m3) (r : FVec Ideal ⟨2, ![8192, 128]⟩ .f32)
    (w : FVec Ideal ⟨2, ![8192, 7392]⟩ .fp8e4m3) (s : FVec Ideal ⟨2, ![1, 7392]⟩ .f32)

/-- The product scaled by rows and by columns. -/
def lin (a : Fin 8192) (b : Fin 7392) : EReal := (∑ k : Fin 8192, x (ix2 a k) * w (ix2 k b)) * r (ix2 a 0) * s (ix2 0 b)

/-- Row `a`'s gate half, -/
def gate (a : Fin 8192) (c : Fin 3696) : EReal := lin x r w s a ⟨c.val, by omega⟩
/-- and its up half. -/
def up (a : Fin 8192) (c : Fin 3696) : EReal := lin x r w s a ⟨3696 + c.val, by omega⟩

/-- The codes at row `a` and column `c`, -/
def codeAt (a : Fin 8192) (c : Fin 3696) : EReal := codeF (gate x r w s a) (up x r w s a) c
/-- and the scale of row `a`. -/
def scaleAt (a : Fin 8192) : EReal := scF (gate x r w s a) (up x r w s a)
/-- The array row of batch `b`'s row `t`. -/
def brow (b : Fin 2) (t : Fin 4096) : Fin 8192 := ⟨4096 * b.val + t.val, by omega⟩

/-- The three results. -/
def codes : FVec Ideal ⟨2, ![8192, 3696]⟩ .fp8e4m3 := fun i => codeAt x r w s (i 0) (i 1)
def scales : FVec Ideal ⟨2, ![2, 4096]⟩ .f32 := fun i => scaleAt x r w s (brow (i 0) (i 1))
def rows : FVec Ideal ⟨2, ![8192, 128]⟩ .f32 := fun i => scaleAt x r w s (i 0)

/-- Of the scales' row only its one row is read. -/
theorem lin_congr {x' : FVec Ideal ⟨2, ![8192, 8192]⟩ .fp8e4m3} {r' : FVec Ideal ⟨2, ![8192, 128]⟩ .f32}
    {w' : FVec Ideal ⟨2, ![8192, 7392]⟩ .fp8e4m3} {s' : FVec Ideal ⟨2, ![1, 7392]⟩ .f32} (ex : x = x') (er : r = r') (ew : w = w')
    (es : ∀ b : Fin 7392, s (ix2 0 b) = s' (ix2 0 b)) : lin x r w s = lin x' r' w' s' := by
  subst ex er ew
  funext a b
  unfold lin
  rw [es]

variable {x r w s}

theorem gate_congr {x' : FVec Ideal ⟨2, ![8192, 8192]⟩ .fp8e4m3} {r' : FVec Ideal ⟨2, ![8192, 128]⟩ .f32}
    {w' : FVec Ideal ⟨2, ![8192, 7392]⟩ .fp8e4m3} {s' : FVec Ideal ⟨2, ![1, 7392]⟩ .f32} (e : lin x r w s = lin x' r' w' s') :
    gate x r w s = gate x' r' w' s' := by unfold gate; rw [e]
theorem up_congr {x' : FVec Ideal ⟨2, ![8192, 8192]⟩ .fp8e4m3} {r' : FVec Ideal ⟨2, ![8192, 128]⟩ .f32}
    {w' : FVec Ideal ⟨2, ![8192, 7392]⟩ .fp8e4m3} {s' : FVec Ideal ⟨2, ![1, 7392]⟩ .f32} (e : lin x r w s = lin x' r' w' s') :
    up x r w s = up x' r' w' s' := by unfold up; rw [e]
theorem codes_congr {x' : FVec Ideal ⟨2, ![8192, 8192]⟩ .fp8e4m3} {r' : FVec Ideal ⟨2, ![8192, 128]⟩ .f32}
    {w' : FVec Ideal ⟨2, ![8192, 7392]⟩ .fp8e4m3} {s' : FVec Ideal ⟨2, ![1, 7392]⟩ .f32} (e : lin x r w s = lin x' r' w' s') :
    codes x r w s = codes x' r' w' s' := by unfold codes codeAt; rw [gate_congr e, up_congr e]
theorem scales_congr {x' : FVec Ideal ⟨2, ![8192, 8192]⟩ .fp8e4m3} {r' : FVec Ideal ⟨2, ![8192, 128]⟩ .f32}
    {w' : FVec Ideal ⟨2, ![8192, 7392]⟩ .fp8e4m3} {s' : FVec Ideal ⟨2, ![1, 7392]⟩ .f32} (e : lin x r w s = lin x' r' w' s') :
    scales x r w s = scales x' r' w' s' := by unfold scales scaleAt; rw [gate_congr e, up_congr e]
theorem rows_congr {x' : FVec Ideal ⟨2, ![8192, 8192]⟩ .fp8e4m3} {r' : FVec Ideal ⟨2, ![8192, 128]⟩ .f32}
    {w' : FVec Ideal ⟨2, ![8192, 7392]⟩ .fp8e4m3} {s' : FVec Ideal ⟨2, ![1, 7392]⟩ .f32} (e : lin x r w s = lin x' r' w' s') :
    rows x r w s = rows x' r' w' s' := by unfold rows scaleAt; rw [gate_congr e, up_congr e]

end Cert.Proof.GateUpSpec

end
-- ==== Proof.GateUpPay.lean ====
/-
  Hand-written, untrusted. The gate-up kernel's stored values over the extended reals, index by index.
-/
module

public import proofs.«01_k».proof.Proof.GateUpSpec
public import proofs.«01_k».proof.Proof.GateUpIdealStep

@[expose] public section

set_option maxRecDepth 16384

noncomputable section

namespace Cert.Proof.GateUpKernel

open Idealize.ShloMosaic Idealize.ShloMosaic.TcCoe Idealize.SL.Sem Idealize.ShloMosaic.ValueIdx
open Cert.GateUpIdeal Cert.GateUpIdeal.Gen Cert.Proof.Ops Cert.Proof.Quant Cert.Proof.GateUpSpec

/-- The product's tile. -/
theorem pay1 (v0 : Vec Ideal S512x8192 .fp8e4m3) (v1 : Vec Ideal S8192x512 .fp8e4m3) (v3 : Vec Ideal S512x1 .f32)
    (v6 : Vec Ideal S1x512 .f32) (a b : Fin 512) :
    k0_pay1 v0 v1 v3 v6 (ix2 a b) = (∑ k : Fin 8192, v0 (ix2 a k) * v1 (ix2 k b)) * v3 (ix2 a 0) * v6 (ix2 0 b) := by
  unfold k0_pay1
  rw [show dot_S512x8192_S8192x512_S512x512_1_0_0_1_n_n = DotDims.plain 512 8192 512 from rfl]
  rw [shapeCast_self, shapeCast_self]
  show FloatOps.matmul (F := Ideal) (DotDims.plain 512 8192 512) none v0 v1 (constant S512x512 .f32 0x00000000#32) (ix2 a b)
      * broadcastTo S512x512 v3 broadcasts_S512x1_S512x512 (ix2 a b)
      * broadcastTo S512x512 v6 broadcasts_S1x512_S512x512 (ix2 a b) = _
  rw [Ideal.matmul_plain_apply, bcol, Ops.brow]
  rw [show (constant S512x512 .f32 0x00000000#32 : FVec Ideal S512x512 .f32) (ix2 a b) = 0 from Ideal.ofBits_zero_f32, zero_add]

variable (g u : Vec Ideal S512x3696 .f32)

theorem pay2 (a : Fin 512) (c : Fin 3696) : k0_pay2 g u (ix2 a c) = actF (fun c => g (ix2 a c)) (fun c => u (ix2 a c)) c := rfl

theorem pay3 (a : Fin 512) : k0_pay3 g u (ix2 a 0) = scF (fun c => g (ix2 a c)) (fun c => u (ix2 a c)) := by
  unfold k0_pay3
  refine (select_sc _ (ix2 a 0)).trans ?_
  rw [scast_col]
  exact congrArg sc (rowmax _ _ _ _ a)

/-- A tile divided by its rows' scales and clipped. -/
theorem quantise (P : FVec Ideal S512x3696 .f32) (R : FVec Ideal S512x1 .f32) (a : Fin 512) (c : Fin 3696) :
    truncf .fp8e4m3 (minimumf (broadcast S512x3696 (Scalar.ofBits (F := Ideal) .f32 0x43E00000#32))
      (maximumf (broadcast S512x3696 (Scalar.ofBits (F := Ideal) .f32 0xC3E00000#32))
        (mulf P (broadcastTo S512x3696 (divf (broadcast S512x1 (Scalar.ofBits (F := Ideal) .f32 0x3F800000#32)) R)
          broadcasts_S512x1_S512x3696)))) bitsLt_fp8e4m3_f32 (ix2 a c)
      = clip (P (ix2 a c) * Ideal.div (Scalar.ofBits (F := Ideal) .f32 0x3F800000#32) (R (ix2 a 0))) :=
  congrArg (fun z => clip (P (ix2 a c) * z)) (bcol _ _ a c)

theorem pay4 (a : Fin 512) (c : Fin 3696) : k0_pay4 g u (ix2 a c) = codeF (fun c => g (ix2 a c)) (fun c => u (ix2 a c)) c := by
  unfold k0_pay4
  refine (quantise (k0_pay2 g u) (k0_pay3 g u) a c).trans ?_
  rw [pay3, pay2]
  unfold scF
  rw [mul_inv_sc]
  rfl

theorem pay5 (a : Fin 512) (l : Fin 128) : k0_pay5 g u (ix2 a l) = scF (fun c => g (ix2 a c)) (fun c => u (ix2 a c)) := by
  unfold k0_pay5
  rw [shapeCast_self, bcol, pay3]

theorem pay6 (a : Fin 512) : k0_pay6 g u (ix2 0 a) = scF (fun c => g (ix2 a c)) (fun c => u (ix2 a c)) := by
  unfold k0_pay6
  rw [extractStridedSlice_apply _ _ _ (ix2 0 a) (ix2 (0 : Fin 128) a) (fun d => by
    match d with
    | ⟨0, _⟩ => rfl
    | ⟨1, _⟩ => show a.val = 0 + a.val; omega)]
  rw [transpose_apply _ _ _ (ix2 (0 : Fin 128) a) (ix2 a (0 : Fin 128)) (fun d => by
    match d with
    | ⟨0, _⟩ => rfl
    | ⟨1, _⟩ => rfl)]
  rw [shapeCast_self, bcol, pay3]

end Cert.Proof.GateUpKernel

end
-- ==== Proof.Geo.lean ====
/-
  Hand-written, untrusted. Reading a matrix with a window put over it, and a block filled by a clipped transfer, at an index.
-/
module

public import Idealize.ShloMosaic.Lib.VecWindow
public import Idealize.ShloMosaic.Lib.Pipeline.ArrRel
public import Idealize.ShloMosaic.Lib.ValueIdx

@[expose] public section

noncomputable section

namespace Cert.Proof.Geo

open Idealize.ShloMosaic Idealize.ShloMosaic.ValueIdx

/-- Inside the window the payload, -/
theorem put2_in {α : Type} {M N m n : Nat} (x : (⟨2, ![M, N]⟩ : Shape).Idx → α) (off : Fin 2 → ℕ) (w : (⟨2, ![m, n]⟩ : Shape).Idx → α)
    (a : Fin M) (b : Fin N) (p : Fin m) (q : Fin n) (h0 : a.val = off 0 + p.val) (h1 : b.val = off 1 + q.val) :
    VecWindow.put x off ![m, n] w (ix2 a b) = w (ix2 p q) := by
  unfold VecWindow.put
  have h : ∀ d : Fin 2, off d ≤ ((ix2 a b : (⟨2, ![M, N]⟩ : Shape).Idx) d).val
      ∧ ((ix2 a b : (⟨2, ![M, N]⟩ : Shape).Idx) d).val < off d + (![m, n] : Fin 2 → ℕ) d := fun d => by
    match d with
    | ⟨0, _⟩ => show off 0 ≤ a.val ∧ a.val < off 0 + m; omega
    | ⟨1, _⟩ => show off 1 ≤ b.val ∧ b.val < off 1 + n; omega
  refine (dif_pos h).trans (congrArg w (funext fun d => Fin.ext ?_))
  match d with
  | ⟨0, _⟩ => show a.val - off 0 = p.val; omega
  | ⟨1, _⟩ => show b.val - off 1 = q.val; omega

/-- outside it what was there before. -/
theorem put2_out {α : Type} {M N m n : Nat} (x : (⟨2, ![M, N]⟩ : Shape).Idx → α) (off : Fin 2 → ℕ) (w : (⟨2, ![m, n]⟩ : Shape).Idx → α)
    (a : Fin M) (b : Fin N) (h : ¬ (off 0 ≤ a.val ∧ a.val < off 0 + m) ∨ ¬ (off 1 ≤ b.val ∧ b.val < off 1 + n)) :
    VecWindow.put x off ![m, n] w (ix2 a b) = x (ix2 a b) := by
  unfold VecWindow.put
  refine dif_neg fun hh => ?_
  rcases h with h | h
  · exact h (hh (0 : Fin 2))
  · exact h (hh (1 : Fin 2))

/-- A filled block holds the transfer's element wherever the transfer reaches. -/
theorem fill_apply {α : Type} {sig : RefSig} {G : Pipeline.Grid} (w : Pipeline.Window sig G) (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  exact dif_pos ((w.moved_iff i j).mpr h)

end Cert.Proof.Geo

end
-- ==== Proof.GateUpKernel.lean ====
/-
  Hand-written, untrusted. THE GATE-UP KERNEL over the extended reals: what its scratch and its buffers hold after each grid
  point, and so what its three result arrays hold at the end.
-/
module

public import proofs.«01_k».proof.Proof.GateUpPay
public import proofs.«01_k».proof.Proof.Geo

@[expose] public section

set_option maxRecDepth 16384

noncomputable section

namespace Cert.Proof.GateUpKernel

open Idealize.ShloMosaic Idealize.ShloMosaic.TcCoe Idealize.SL.Sem Idealize.ShloMosaic.ValueIdx
open Idealize.ShloMosaic.Pipeline (Dat RDat Cfg Window cellOf)
open Cert.GateUpIdeal Cert.GateUpIdeal.Gen Cert.Proof.Ops Cert.Proof.Quant Cert.Proof.GateUpSpec Cert.Proof.GateUpIdeal Cert.Proof.Geo

variable (m : (ℓ : Loc nD τ sig) → Buf (Elt Ideal) ℓ) (ρ : Dev nD → PrngReg)

/-! ## The arrays' values, and the relations on buffers and scratch -/

/-- The scaled product on device `c`, -/
def LIN (c : Dev nD) (a : Fin 8192) (b : Fin 7392) : EReal := lin (V m c main_arg0) (V m c main_arg1) (V m c main_arg2) (V m c main_v0) a b
/-- its codes, -/
def CODE (c : Dev nD) (a : Fin 8192) (b : Fin 3696) : EReal := codeAt (V m c main_arg0) (V m c main_arg1) (V m c main_arg2) (V m c main_v0) a b
/-- its scales. -/
def SCALE (c : Dev nD) (a : Fin 8192) : EReal := scaleAt (V m c main_arg0) (V m c main_arg1) (V m c main_arg2) (V m c main_v0) a

/-- Before point `n` the scratch holds its row block's product up to the columns already visited. -/
def SC (c : Dev nD) (n : ℕ) (f : Vec Ideal S512x7680 .f32) : Prop :=
  ∀ (a : Fin 512) (r : Fin 8192) (b : Fin 7392), r.val = 512 * (n / 15) + a.val → b.val < 512 * (n % 15) →
    f (ix2 a (⟨b.val, by omega⟩ : Fin 7680)) = LIN m c r b

/-- The codes a row block's last point leaves, -/
def A4 (c : Dev nD) (t : Fin cfg0.N) (X : Vec Ideal S512x3696 .fp8e4m3) : Prop :=
  t.val % 15 = 14 → ∀ (a : Fin 512) (r : Fin 8192) (b : Fin 3696), r.val = 512 * (t.val / 15) + a.val → X (ix2 a b) = CODE m c r b
/-- what it does to the scales: its own are written, the others kept, -/
def A5 (c : Dev nD) (t : Fin cfg0.N) (Y X : Vec Ideal S2x4096 .f32) : Prop :=
  ∀ (b : Fin 2) (k : Fin 4096), X (ix2 b k)
    = if t.val % 15 = 14 ∧ (4096 * b.val + k.val) / 512 = t.val / 15 then SCALE m c (brow b k) else Y (ix2 b k)
/-- and the row scales. -/
def A6 (c : Dev nD) (t : Fin cfg0.N) (X : Vec Ideal S512x128 .f32) : Prop :=
  t.val % 15 = 14 → ∀ (a : Fin 512) (r : Fin 8192) (l : Fin 128), r.val = 512 * (t.val / 15) + a.val → X (ix2 a l) = SCALE m c r

/-- The relation on every window's buffer. -/
def after (c : Dev nD) (w : Fin cfg0.W) (t : Fin cfg0.N) (Y X : (cfg0.win w).block.Idx → Elt Ideal (cfg0.win w).elt) : Prop :=
  match w with
  | ⟨0, _⟩ => X = Y
  | ⟨1, _⟩ => X = Y
  | ⟨2, _⟩ => True
  | ⟨3, _⟩ => True
  | ⟨4, _⟩ => A4 m c t X
  | ⟨5, _⟩ => A5 m c t Y X
  | ⟨6, _⟩ => A6 m c t X

/-- The proof data. -/
abbrev rd (c : Dev nD) := rdat m (after m) (SC m) c

/-! ## The windows at a point -/

/-- The windows' block indices at point `t`: `t / 15` along the rows, `t % 15` along the columns. -/
theorem idx : ∀ t : Fin cfg0.N, (win0_0.index t 0 = t.val / 15 ∧ win0_0.index t 1 = 0)
    ∧ (win0_1.index t 0 = t.val / 15 ∧ win0_1.index t 1 = 0) ∧ (win0_2.index t 0 = 0 ∧ win0_2.index t 1 = t.val % 15)
    ∧ (win0_3.index t 0 = 0 ∧ win0_3.index t 1 = t.val % 15) ∧ (win0_4.index t 0 = t.val / 15 ∧ win0_4.index t 1 = 0)
    ∧ (win0_5.index t 0 = 0 ∧ win0_5.index t 1 = 0) ∧ (win0_6.index t 0 = t.val / 15 ∧ win0_6.index t 1 = 0) :=
  (by decide +kernel : ∀ t : Fin grid0.N, (win0_0.index t 0 = t.val / 15 ∧ win0_0.index t 1 = 0)
    ∧ (win0_1.index t 0 = t.val / 15 ∧ win0_1.index t 1 = 0) ∧ (win0_2.index t 0 = 0 ∧ win0_2.index t 1 = t.val % 15)
    ∧ (win0_3.index t 0 = 0 ∧ win0_3.index t 1 = t.val % 15) ∧ (win0_4.index t 0 = t.val / 15 ∧ win0_4.index t 1 = 0)
    ∧ (win0_5.index t 0 = 0 ∧ win0_5.index t 1 = 0) ∧ (win0_6.index t 0 = t.val / 15 ∧ win0_6.index t 1 = 0))

/-- How far the two clipped transfers reach. -/
theorem reach : ∀ t : Fin cfg0.N, (win0_2.xsize (grid0.coords t) 0 = 8192
      ∧ win0_2.xsize (grid0.coords t) 1 = if t.val % 15 = 14 then 224 else 512)
    ∧ (win0_3.xsize (grid0.coords t) 0 = 1 ∧ win0_3.xsize (grid0.coords t) 1 = if t.val % 15 = 14 then 224 else 512) :=
  (by decide +kernel : ∀ t : Fin grid0.N, (win0_2.xsize (grid0.coords t) 0 = 8192
      ∧ win0_2.xsize (grid0.coords t) 1 = if t.val % 15 = 14 then 224 else 512)
    ∧ (win0_3.xsize (grid0.coords t) 0 = 1 ∧ win0_3.xsize (grid0.coords t) 1 = if t.val % 15 = 14 then 224 else 512))

/-- The stores' offsets. -/
theorem off : ∀ t : Fin cfg0.N, (k0_off1 (grid0.coords t) 0 = 0 ∧ k0_off1 (grid0.coords t) 1 = t.val % 15 * 512)
    ∧ (k0_off2 (grid0.coords t) 0 = 0 ∧ k0_off2 (grid0.coords t) 1 = t.val / 15 % 8 * 512)
    ∧ (k0_off3 (grid0.coords t) 0 = 1 ∧ k0_off3 (grid0.coords t) 1 = t.val / 15 % 8 * 512) :=
  (by decide +kernel : ∀ t : Fin grid0.N, (k0_off1 (grid0.coords t) 0 = 0 ∧ k0_off1 (grid0.coords t) 1 = t.val % 15 * 512)
    ∧ (k0_off2 (grid0.coords t) 0 = 0 ∧ k0_off2 (grid0.coords t) 1 = t.val / 15 % 8 * 512)
    ∧ (k0_off3 (grid0.coords t) 0 = 1 ∧ k0_off3 (grid0.coords t) 1 = t.val / 15 % 8 * 512))

theorem found0 (c : Dev nD) (t : Fin cfg0.N) (Y : Vec Ideal S512x8192 .fp8e4m3) (hY : (rd m c).Finds 0 t Y) (a : Fin 512) (r k : Fin 8192)
    (hr : r.val = 512 * (t.val / 15) + a.val) : Y (ix2 a k) = (V m c main_arg0 : Vec Ideal S8192x8192 .fp8e4m3) (ix2 r k) := by
  obtain ⟨d, rfl⟩ := (rd m c).finds_in_eq_fetched 0 rfl (fun _ _ _ => rfl) (fun _ _ _ h => h) t Y hY
  show V m c main_arg0 _ = V m c main_arg0 _
  congr 1
  funext d
  apply Fin.ext
  match d with
  | ⟨0, _⟩ => show win0_0.index t 0 * 512 + 1 * a.val = r.val; rw [(idx t).1.1]; omega
  | ⟨1, _⟩ => show win0_0.index t 1 * 8192 + 1 * k.val = k.val; rw [(idx t).1.2]; omega

theorem found1 (c : Dev nD) (t : Fin cfg0.N) (Y : Vec Ideal S512x128 .f32) (hY : (rd m c).Finds 1 t Y) (a : Fin 512) (r : Fin 8192) (k : Fin 128)
    (hr : r.val = 512 * (t.val / 15) + a.val) : Y (ix2 a k) = (V m c main_arg1 : Vec Ideal S8192x128 .f32) (ix2 r k) := by
  obtain ⟨d, rfl⟩ := (rd m c).finds_in_eq_fetched 1 rfl (fun _ _ _ => rfl) (fun _ _ _ h => h) t Y hY
  show V m c main_arg1 _ = V m c main_arg1 _
  congr 1
  funext d
  apply Fin.ext
  match d with
  | ⟨0, _⟩ => show win0_1.index t 0 * 512 + 1 * a.val = r.val; rw [(idx t).2.1.1]; omega
  | ⟨1, _⟩ => show win0_1.index t 1 * 128 + 1 * k.val = k.val; rw [(idx t).2.1.2]; omega

theorem found2 (c : Dev nD) (t : Fin cfg0.N) (Y : Vec Ideal S8192x512 .fp8e4m3) (hY : (rd m c).Finds 2 t Y) (k : Fin 8192) (b : Fin 512)
    (b' : Fin 7392) (hb : b'.val = 512 * (t.val % 15) + b.val) :
    Y (ix2 k b) = (V m c main_arg2 : Vec Ideal S8192x7392 .fp8e4m3) (ix2 k b') := by
  obtain ⟨d, rfl⟩ := ((rd m c).finds_of_fetch (fetch0_2 t) Y).mp hY
  unfold RDat.fetched
  have h : ∀ a : Fin 2, ((ix2 k b : S8192x512.Idx) a).val < win0_2.xsize (grid0.coords t) a := fun a => by
    match a with
    | ⟨0, _⟩ => show k.val < win0_2.xsize (grid0.coords t) 0; rw [(reach t).1.1]; omega
    | ⟨1, _⟩ => show b.val < win0_2.xsize (grid0.coords t) 1; rw [(reach t).1.2]; split <;> omega
  refine (fill_apply (cfg0.win 2) (grid0.coords t) d _ (ix2 k b) h).trans ?_
  show V m c main_arg2 _ = V m c main_arg2 _
  congr 1
  funext d
  apply Fin.ext
  match d with
  | ⟨0, _⟩ => show win0_2.index t 0 * 8192 + 1 * k.val = k.val; rw [(idx t).2.2.1.1]; omega
  | ⟨1, _⟩ => show win0_2.index t 1 * 512 + 1 * b.val = b'.val; rw [(idx t).2.2.1.2]; omega

theorem found3 (c : Dev nD) (t : Fin cfg0.N) (Y : Vec Ideal S1x512 .f32) (hY : (rd m c).Finds 3 t Y) (b : Fin 512)
    (b' : Fin 7392) (hb : b'.val = 512 * (t.val % 15) + b.val) :
    Y (ix2 0 b) = (V m c main_v0 : Vec Ideal S1x7392 .f32) (ix2 0 b') := by
  obtain ⟨d, rfl⟩ := ((rd m c).finds_of_fetch (fetch0_3 t) Y).mp hY
  unfold RDat.fetched
  have h : ∀ a : Fin 2, ((ix2 0 b : S1x512.Idx) a).val < win0_3.xsize (grid0.coords t) a := fun a => by
    match a with
    | ⟨0, _⟩ => show 0 < win0_3.xsize (grid0.coords t) 0; rw [(reach t).2.1]; omega
    | ⟨1, _⟩ => show b.val < win0_3.xsize (grid0.coords t) 1; rw [(reach t).2.2]; split <;> omega
  refine (fill_apply (cfg0.win 3) (grid0.coords t) d _ (ix2 0 b) h).trans ?_
  show V m c main_v0 _ = V m c main_v0 _
  congr 1
  funext d
  apply Fin.ext
  match d with
  | ⟨0, _⟩ => show win0_3.index t 0 * 1 + 1 * 0 = 0; rw [(idx t).2.2.2.1.1]
  | ⟨1, _⟩ => show win0_3.index t 1 * 512 + 1 * b.val = b'.val; rw [(idx t).2.2.2.1.2]; omega

/-! ## One step -/

section Step

variable (c : Dev nD) (t : Fin cfg0.N) (Y : (w : Fin cfg0.W) → (cfg0.win w).block.Idx → Elt Ideal (cfg0.win w).elt)
  (f : Vec Ideal S512x7680 .f32) (hY : ∀ w, (rd m c).Finds w t (Y w)) (hf : SC m c t.val f)

/-- After point `t` the scratch holds the product up to the columns of `t`'s block. -/
theorem tile (hY : ∀ w, (rd m c).Finds w t (Y w)) (hf : SC m c t.val f) (a : Fin 512) (r : Fin 8192) (b : Fin 7392)
    (hr : r.val = 512 * (t.val / 15) + a.val) (hb : b.val < 512 * (t.val % 15) + 512) :
    res7 t (Y 0) (Y 1) (Y 2) (Y 3) f (ix2 a (⟨b.val, by omega⟩ : Fin 7680)) = LIN m c r b := by
  unfold res7 scr
  by_cases h : b.val < 512 * (t.val % 15)
  · refine (put2_out (M := 512) (N := 7680) (m := 512) (n := 512) f _ _ a _ (.inr ?_)).trans (hf a r b hr h)
    rw [(off t).1.2]
    show ¬ (t.val % 15 * 512 ≤ b.val ∧ b.val < t.val % 15 * 512 + 512)
    omega
  · have hq : b.val - 512 * (t.val % 15) < 512 := by omega
    refine (put2_in (M := 512) (N := 7680) (m := 512) (n := 512) f _ _ a _ a ⟨b.val - 512 * (t.val % 15), hq⟩ ?_ ?_).trans ?_
    · rw [(off t).1.1]; omega
    · rw [(off t).1.2]; show b.val = t.val % 15 * 512 + (b.val - 512 * (t.val % 15)); omega
    have hb' : b.val = 512 * (t.val % 15) + (⟨b.val - 512 * (t.val % 15), hq⟩ : Fin 512).val := by
      show b.val = 512 * (t.val % 15) + (b.val - 512 * (t.val % 15)); omega
    refine (pay1 _ _ _ _ a _).trans ?_
    rw [ld_col _ _ _ (by omega), found1 m c t (Y 1) (hY 1) a r _ hr, found3 m c t (Y 3) (hY 3) _ b hb']
    unfold LIN lin
    exact congrArg (fun z : EReal => z * _ * _) (Finset.sum_congr rfl fun k _ =>
      congrArg₂ (fun p q : EReal => p * q) (found0 m c t (Y 0) (hY 0) a r k hr) (found2 m c t (Y 2) (hY 2) k _ b hb'))

/-- At a row block's last point the scratch's two halves are the product's. -/
theorem gate_tile (hY : ∀ w, (rd m c).Finds w t (Y w)) (hf : SC m c t.val f) (h : t.val % 15 = 14) (a : Fin 512) (r : Fin 8192)
    (hr : r.val = 512 * (t.val / 15) + a.val) :
    (fun k => gateOf (res7 t (Y 0) (Y 1) (Y 2) (Y 3) f) (ix2 a k))
      = gate (V m c main_arg0) (V m c main_arg1) (V m c main_arg2) (V m c main_v0) r := funext fun k => by
  unfold gate
  refine Eq.trans ?_ (tile m c t Y f hY hf a r ⟨k.val, by omega⟩ hr (by rw [h]; show k.val < 512 * 14 + 512; omega))
  unfold gateOf VecWindow.window
  refine congrArg _ (funext fun d => Fin.ext ?_)
  match d with
  | ⟨0, _⟩ => show 0 + 1 * a.val = a.val; omega
  | ⟨1, _⟩ => show 0 + 1 * k.val = k.val; omega

theorem up_tile (hY : ∀ w, (rd m c).Finds w t (Y w)) (hf : SC m c t.val f) (h : t.val % 15 = 14) (a : Fin 512) (r : Fin 8192)
    (hr : r.val = 512 * (t.val / 15) + a.val) :
    (fun k => upOf (res7 t (Y 0) (Y 1) (Y 2) (Y 3) f) (ix2 a k))
      = up (V m c main_arg0) (V m c main_arg1) (V m c main_arg2) (V m c main_v0) r := funext fun k => by
  unfold up
  refine Eq.trans ?_ (tile m c t Y f hY hf a r ⟨3696 + k.val, by omega⟩ hr (by rw [h]; show 3696 + k.val < 512 * 14 + 512; omega))
  unfold upOf VecWindow.window
  refine congrArg _ (funext fun d => Fin.ext ?_)
  match d with
  | ⟨0, _⟩ => show 0 + 1 * a.val = a.val; omega
  | ⟨1, _⟩ => show 3696 + 1 * k.val = 3696 + k.val; omega

theorem step4 (hY : ∀ w, (rd m c).Finds w t (Y w)) (hf : SC m c t.val f) : A4 m c t (res4 t (Y 0) (Y 1) (Y 2) (Y 3) (Y 4) f) := fun h a r b hr => by
  unfold res4
  rw [if_pos h, pay4, gate_tile m c t Y f hY hf h a r hr, up_tile m c t Y f hY hf h a r hr]
  rfl

theorem step6 (hY : ∀ w, (rd m c).Finds w t (Y w)) (hf : SC m c t.val f) : A6 m c t (res6 t (Y 0) (Y 1) (Y 2) (Y 3) (Y 6) f) := fun h a r l hr => by
  unfold res6
  rw [if_pos h, pay5, gate_tile m c t Y f hY hf h a r hr, up_tile m c t Y f hY hf h a r hr]
  rfl

theorem step5 (hY : ∀ w, (rd m c).Finds w t (Y w)) (hf : SC m c t.val f) : A5 m c t (Y 5) (res5 t (Y 0) (Y 1) (Y 2) (Y 3) (Y 5) f) := fun p k => by
  have hp : p.val < 2 := p.isLt
  have hk : k.val < 4096 := k.isLt
  have ht : t.val < 240 := Nat.lt_of_lt_of_eq t.isLt N_0
  unfold res5
  by_cases h : t.val % 15 = 14
  · simp only [if_pos h]
    have hpay (q : Fin 512) (hq : 4096 * p.val + k.val = 512 * (t.val / 15) + q.val) :
        k0_pay6 (gateOf (res7 t (Y 0) (Y 1) (Y 2) (Y 3) f)) (upOf (res7 t (Y 0) (Y 1) (Y 2) (Y 3) f)) (ix2 0 q) = SCALE m c (brow p k) := by
      rw [pay6, gate_tile m c t Y f hY hf h q (brow p k) hq, up_tile m c t Y f hY hf h q (brow p k) hq]
      rfl
    by_cases h2 : t.val / 15 < 8
    · simp only [if_pos h2]
      by_cases hq : (4096 * p.val + k.val) / 512 = t.val / 15
      · rw [if_pos ⟨h, hq⟩]
        have hq' : 4096 * p.val + k.val - 512 * (t.val / 15) < 512 := by omega
        refine (put2_in (M := 2) (N := 4096) (m := 1) (n := 512) (Y 5) _ _ p k 0 ⟨_, hq'⟩ ?_ ?_).trans (hpay ⟨_, hq'⟩ ?_)
        · rw [(off t).2.1.1]; show p.val = 0 + 0; omega
        · rw [(off t).2.1.2]; show k.val = t.val / 15 % 8 * 512 + (4096 * p.val + k.val - 512 * (t.val / 15)); omega
        · show 4096 * p.val + k.val = 512 * (t.val / 15) + (4096 * p.val + k.val - 512 * (t.val / 15)); omega
      · rw [if_neg fun e => hq e.2]
        refine put2_out (M := 2) (N := 4096) (m := 1) (n := 512) (Y 5) _ _ p k ?_
        rw [(off t).2.1.1, (off t).2.1.2]; omega
    · simp only [if_neg h2]
      by_cases hq : (4096 * p.val + k.val) / 512 = t.val / 15
      · rw [if_pos ⟨h, hq⟩]
        have hq' : 4096 * p.val + k.val - 512 * (t.val / 15) < 512 := by omega
        refine (put2_in (M := 2) (N := 4096) (m := 1) (n := 512) (Y 5) _ _ p k 0 ⟨_, hq'⟩ ?_ ?_).trans (hpay ⟨_, hq'⟩ ?_)
        · rw [(off t).2.2.1]; show p.val = 1 + 0; omega
        · rw [(off t).2.2.2]; show k.val = t.val / 15 % 8 * 512 + (4096 * p.val + k.val - 512 * (t.val / 15)); omega
        · show 4096 * p.val + k.val = 512 * (t.val / 15) + (4096 * p.val + k.val - 512 * (t.val / 15)); omega
      · rw [if_neg fun e => hq e.2]
        refine put2_out (M := 2) (N := 4096) (m := 1) (n := 512) (Y 5) _ _ p k ?_
        rw [(off t).2.2.1, (off t).2.2.2]; omega
  · rw [if_neg h, if_neg fun e => h e.1]

theorem step7 (hY : ∀ w, (rd m c).Finds w t (Y w)) (hf : SC m c t.val f) : SC m c (t.val + 1) (res7 t (Y 0) (Y 1) (Y 2) (Y 3) f) := fun a r b hr hb => by
  by_cases h : t.val % 15 = 14
  · omega
  · exact tile m c t Y f hY hf a r b (by omega) (by omega)

end Step

theorem steps (c : Dev nD) : Steps m (after m) (SC m) c := fun t Y f hY hf =>
  ⟨rfl, rfl, trivial, trivial, step4 m c t Y f hY hf, step5 m c t Y f hY hf, step6 m c t Y f hY hf, step7 m c t Y f hY hf⟩

theorem start (c : Dev nD) (f : Vec Ideal S512x7680 .f32) : SC m c 0 f := fun _ _ _ _ hb => absurd hb (by omega)

/-- After point `n` the scales' buffer holds every scale of the row blocks finished so far. -/
theorem scales_upto (c : Dev nD) : ∀ (n : ℕ) (hn : n < cfg0.N) (X : Vec Ideal S2x4096 .f32), (rd m c).Leaves 5 ⟨n, hn⟩ X →
    ∀ (b : Fin 2) (k : Fin 4096), 4096 * b.val + k.val < 512 * ((n + 1) / 15) → X (ix2 b k) = SCALE m c (brow b k)
  | 0, _, _, _, _, _, h => absurd h (by omega)
  | n + 1, hn, X, ⟨Y, hY, hR⟩, b, k, h => by
    have hN : cfg0.N = 240 := N_0
    have e : X (ix2 b k) = _ := (hR : A5 m c ⟨n + 1, hn⟩ Y X) b k
    rw [e]
    by_cases hc : (n + 1) % 15 = 14 ∧ (4096 * b.val + k.val) / 512 = (n + 1) / 15
    · exact if_pos hc
    · refine (if_neg hc).trans ?_
      have hL := ((rd m c).finds_of_pos (w := 5) (t := ⟨n + 1, hn⟩) rfl (Nat.succ_ne_zero n) Y).mp hY
      rcases hL with hfl | hL
      · have := (flush0_5 _).mp hfl
        have e' : (⟨n + 1, hn⟩ : Fin cfg0.N).val - 1 = n := rfl
        dsimp only at this
        omega
      · exact scales_upto c n (by omega) Y hL b k (by omega)

/-! ## The result arrays -/

/-- The three result arrays on device `c`. -/
abbrev G0 (c : Dev nD) : Buf (Elt Ideal) ((c : Thread nD τ).loc main_v1_0) :=
  codes (V m c main_arg0) (V m c main_arg1) (V m c main_arg2) (V m c main_v0)
abbrev G1 (c : Dev nD) : Buf (Elt Ideal) ((c : Thread nD τ).loc main_v1_1) :=
  scales (V m c main_arg0) (V m c main_arg1) (V m c main_arg2) (V m c main_v0)
abbrev G2 (c : Dev nD) : Buf (Elt Ideal) ((c : Thread nD τ).loc main_v1_2) :=
  rows (V m c main_arg0) (V m c main_arg1) (V m c main_arg2) (V m c main_v0)

variable (aft : (w : Fin cfg0.W) → Fin cfg0.N → (cfg0.win w).block.Idx → Elt Ideal (cfg0.win w).elt)

theorem flushed4 (c : Dev nD) (hL : ∀ w u, (cfg0.win w).flush u = true → (rd m c).Leaves w u (aft w u)) (t : Fin cfg0.N)
    (ht : (cfg0.win 4).flush t = true) :
    ((rd m c).withAfter aft).flushed 4 t = ((cfg0.win 4).blk t).view.read (Elt Ideal) (G0 m c) := by
  have h15 := (flush0_4 t).mp ht
  have hN : t.val < 240 := Nat.lt_of_lt_of_eq t.isLt N_0
  obtain ⟨Y, -, hR⟩ := hL 4 t ht
  funext j
  obtain ⟨a, b, rfl⟩ : ∃ (a : Fin 512) (b : Fin 3696), j = ix2 a b := ⟨j 0, j 1, eq_ix2 j⟩
  have e : ((cfg0.win 4).blk t).view.read (Elt Ideal) (G0 m c) (ix2 a b) = CODE m c ⟨512 * (t.val / 15) + a.val, by omega⟩ b := by
    rw [View.read_apply]
    show G0 m c _ = G0 m c (ix2 ⟨512 * (t.val / 15) + a.val, _⟩ b)
    congr 1
    funext d
    apply Fin.ext
    match d with
    | ⟨0, _⟩ => show win0_4.index t 0 * 512 + 1 * a.val = 512 * (t.val / 15) + a.val; rw [(idx t).2.2.2.2.1.1]; omega
    | ⟨1, _⟩ => show win0_4.index t 1 * 3696 + 1 * b.val = b.val; rw [(idx t).2.2.2.2.1.2]; omega
  exact ((hR : A4 m c t (aft 4 t)) h15 a _ b rfl).trans e.symm

theorem flushed6 (c : Dev nD) (hL : ∀ w u, (cfg0.win w).flush u = true → (rd m c).Leaves w u (aft w u)) (t : Fin cfg0.N)
    (ht : (cfg0.win 6).flush t = true) :
    ((rd m c).withAfter aft).flushed 6 t = ((cfg0.win 6).blk t).view.read (Elt Ideal) (G2 m c) := by
  have h15 := (flush0_6 t).mp ht
  have hN : t.val < 240 := Nat.lt_of_lt_of_eq t.isLt N_0
  obtain ⟨Y, -, hR⟩ := hL 6 t ht
  funext j
  obtain ⟨a, b, rfl⟩ : ∃ (a : Fin 512) (b : Fin 128), j = ix2 a b := ⟨j 0, j 1, eq_ix2 j⟩
  have e : ((cfg0.win 6).blk t).view.read (Elt Ideal) (G2 m c) (ix2 a b) = SCALE m c ⟨512 * (t.val / 15) + a.val, by omega⟩ := by
    rw [View.read_apply]
    show G2 m c _ = G2 m c (ix2 ⟨512 * (t.val / 15) + a.val, _⟩ b)
    congr 1
    funext d
    apply Fin.ext
    match d with
    | ⟨0, _⟩ => show win0_6.index t 0 * 512 + 1 * a.val = 512 * (t.val / 15) + a.val; rw [(idx t).2.2.2.2.2.2.1]; omega
    | ⟨1, _⟩ => show win0_6.index t 1 * 128 + 1 * b.val = b.val; rw [(idx t).2.2.2.2.2.2.2]; omega
  exact ((hR : A6 m c t (aft 6 t)) h15 a _ b rfl).trans e.symm

theorem flushed5 (c : Dev nD) (hL : ∀ w u, (cfg0.win w).flush u = true → (rd m c).Leaves w u (aft w u)) (t : Fin cfg0.N)
    (ht : (cfg0.win 5).flush t = true) :
    ((rd m c).withAfter aft).flushed 5 t = ((cfg0.win 5).blk t).view.read (Elt Ideal) (G1 m c) := by
  have h15 := (flush0_5 t).mp ht
  have hN : t.val < 240 := Nat.lt_of_lt_of_eq t.isLt N_0
  funext j
  obtain ⟨a, b, rfl⟩ : ∃ (a : Fin 2) (b : Fin 4096), j = ix2 a b := ⟨j 0, j 1, eq_ix2 j⟩
  have e : ((cfg0.win 5).blk t).view.read (Elt Ideal) (G1 m c) (ix2 a b) = SCALE m c (brow a b) := by
    rw [View.read_apply]
    show G1 m c _ = G1 m c (ix2 a b)
    congr 1
    funext d
    apply Fin.ext
    match d with
    | ⟨0, _⟩ => show win0_5.index t 0 * 2 + 1 * a.val = a.val; rw [(idx t).2.2.2.2.2.1.1]; omega
    | ⟨1, _⟩ => show win0_5.index t 1 * 4096 + 1 * b.val = b.val; rw [(idx t).2.2.2.2.2.1.2]; omega
  exact (scales_upto m c t.val t.isLt (aft 5 t) (hL 5 t ht) a b (by omega)).trans e.symm

theorem cover4 (i : S8192x3696.Idx) : ∃ t : Fin cfg0.N, (cfg0.win 4).flush t = true ∧ i ∈ ((cfg0.win 4).blk t).view.set := by
  have h0 : (i 0 : Nat) < 8192 := (i 0).isLt
  have h1 : (i 1 : Nat) < 3696 := (i 1).isLt
  have hN : cfg0.N = 240 := N_0
  obtain ⟨t, ht⟩ : ∃ t : Fin cfg0.N, t.val = (i 0 : Nat) / 512 * 15 + 14 := ⟨⟨(i 0 : Nat) / 512 * 15 + 14, by omega⟩, rfl⟩
  refine ⟨t, (flush0_4 t).mpr (by omega), ?_⟩
  show i ∈ ((View.whole main_v1_0).slice (win0_4.rect t)).set
  rw [View.set_slice_whole, Rect.mem_set_unit]
  intro d
  match d with
  | ⟨0, _⟩ =>
    show win0_4.index t 0 * 512 ≤ (i 0 : Nat) ∧ (i 0 : Nat) < win0_4.index t 0 * 512 + 512
    rw [(idx t).2.2.2.2.1.1]; omega
  | ⟨1, _⟩ =>
    show win0_4.index t 1 * 3696 ≤ (i 1 : Nat) ∧ (i 1 : Nat) < win0_4.index t 1 * 3696 + 3696
    rw [(idx t).2.2.2.2.1.2]; omega

theorem cover6 (i : S8192x128.Idx) : ∃ t : Fin cfg0.N, (cfg0.win 6).flush t = true ∧ i ∈ ((cfg0.win 6).blk t).view.set := by
  have h0 : (i 0 : Nat) < 8192 := (i 0).isLt
  have h1 : (i 1 : Nat) < 128 := (i 1).isLt
  have hN : cfg0.N = 240 := N_0
  obtain ⟨t, ht⟩ : ∃ t : Fin cfg0.N, t.val = (i 0 : Nat) / 512 * 15 + 14 := ⟨⟨(i 0 : Nat) / 512 * 15 + 14, by omega⟩, rfl⟩
  refine ⟨t, (flush0_6 t).mpr (by omega), ?_⟩
  show i ∈ ((View.whole main_v1_2).slice (win0_6.rect t)).set
  rw [View.set_slice_whole, Rect.mem_set_unit]
  intro d
  match d with
  | ⟨0, _⟩ =>
    show win0_6.index t 0 * 512 ≤ (i 0 : Nat) ∧ (i 0 : Nat) < win0_6.index t 0 * 512 + 512
    rw [(idx t).2.2.2.2.2.2.1]; omega
  | ⟨1, _⟩ =>
    show win0_6.index t 1 * 128 ≤ (i 1 : Nat) ∧ (i 1 : Nat) < win0_6.index t 1 * 128 + 128
    rw [(idx t).2.2.2.2.2.2.2]; omega

theorem cover5 (i : S2x4096.Idx) : ∃ t : Fin cfg0.N, (cfg0.win 5).flush t = true ∧ i ∈ ((cfg0.win 5).blk t).view.set := by
  have h0 : (i 0 : Nat) < 2 := (i 0).isLt
  have h1 : (i 1 : Nat) < 4096 := (i 1).isLt
  have hN : cfg0.N = 240 := N_0
  obtain ⟨t, ht⟩ : ∃ t : Fin cfg0.N, t.val = 239 := ⟨⟨239, by omega⟩, rfl⟩
  refine ⟨t, (flush0_5 t).mpr (by omega), ?_⟩
  show i ∈ ((View.whole main_v1_1).slice (win0_5.rect t)).set
  rw [View.set_slice_whole, Rect.mem_set_unit]
  intro d
  match d with
  | ⟨0, _⟩ =>
    show win0_5.index t 0 * 2 ≤ (i 0 : Nat) ∧ (i 0 : Nat) < win0_5.index t 0 * 2 + 2
    rw [(idx t).2.2.2.2.2.1.1]; omega
  | ⟨1, _⟩ =>
    show win0_5.index t 1 * 4096 ≤ (i 1 : Nat) ∧ (i 1 : Nat) < win0_5.index t 1 * 4096 + 4096
    rw [(idx t).2.2.2.2.2.1.2]; omega

/-- The scales' row as the region finds it: the argument vector. -/
theorem V_scale (c : Dev nD) (b : Fin 7392) : (V m c main_v0 : Vec Ideal S1x7392 .f32) (ix2 0 b)
    = (m ((c : Thread nD τ).loc main_arg3) : Vec Ideal S7392 .f32) (ix1 b) := by
  unfold V hostOps0
  after_results
  show shapeCast S1x7392 (m ((c : Thread nD τ).loc main_arg3) : Vec Ideal S7392 .f32) shapeCasts_S7392_S1x7392 (ix2 0 b) = _
  exact scast_row _ _ b

/-- The run, read: the result arrays, the arguments unchanged. -/
theorem value : θ_run defs (onTc (τ := τ) (main (F := Ideal))) ⟨m, fun _ => 0, ρ⟩ fun r => ∀ c : Dev nD,
      r.2.mem ((c : Thread nD τ).loc main_v1_0) = G0 m c
      ∧ r.2.mem ((c : Thread nD τ).loc main_v1_1) = G1 m c
      ∧ r.2.mem ((c : Thread nD τ).loc main_v1_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ?_) (Cert.Proof.GateUpIdeal.run m ρ (after m) (SC m) (steps m) (start m))
  obtain ⟨aft, hL, hA⟩ := RDat.FramePost.exists_exact h.1 c
  exact ⟨(hA 4).trans (((rd m c).withAfter aft).arrAt_eq_of_cover 4 (G0 m c) (flushed4 m aft c hL) cover4),
    (hA 5).trans (((rd m c).withAfter aft).arrAt_eq_of_cover 5 (G1 m c) (flushed5 m aft c hL) cover5),
    (hA 6).trans (((rd m c).withAfter aft).arrAt_eq_of_cover 6 (G2 m c) (flushed6 m aft c hL) cover6),
    Cert.Proof.GateUpIdeal.unchanged_of m _ _ h.1 c⟩

end Cert.Proof.GateUpKernel

end
-- ==== Proof.Fold.lean ====
/-
  Hand-written, untrusted. The rows of two batches of 4096 as 8192 rows and back, and broadcasts over three axes, at an index.
-/
module

public import proofs.«01_k».proof.Proof.Ops

@[expose] public section

noncomputable section

namespace Cert.Proof.Fold

open Idealize.ShloMosaic Idealize.ShloMosaic.ValueIdx

/-- The array row of batch `b`'s row `t`. -/
def bat (b : Fin 2) (t : Fin 4096) : Fin 8192 := ⟨4096 * b.val + t.val, by omega⟩

/-- Every row is some batch's. -/
theorem exists_bat (a : Fin 8192) : ∃ b t, a = bat b t :=
  ⟨⟨a.val / 4096, by omega⟩, ⟨a.val % 4096, by omega⟩, Fin.ext (by show a.val = 4096 * (a.val / 4096) + a.val % 4096; omega)⟩

theorem split {α : Type} {N : Nat} (x : (⟨2, ![8192, N]⟩ : Shape).Idx → α) (h : (⟨2, ![8192, N]⟩ : Shape).ShapeCasts ⟨3, ![2, 4096, N]⟩)
    (b : Fin 2) (t : Fin 4096) (k : Fin N) : shapeCast (⟨3, ![2, 4096, N]⟩ : Shape) x h (ix3 b t k) = x (ix2 (bat b t) k) := by
  refine shapeCast_apply x h (ix3 b t k) (ix2 (bat b t) k) ?_
  rw [Shape.rowMajor_val_two, Shape.rowMajor_val_three]
  show (4096 * b.val + t.val) * N + k.val = (b.val * 4096 + t.val) * N + k.val
  rw [Nat.mul_comm 4096]

theorem join {α : Type} {N : Nat} (x : (⟨3, ![2, 4096, N]⟩ : Shape).Idx → α) (h : (⟨3, ![2, 4096, N]⟩ : Shape).ShapeCasts ⟨2, ![8192, N]⟩)
    (b : Fin 2) (t : Fin 4096) (k : Fin N) : shapeCast (⟨2, ![8192, N]⟩ : Shape) x h (ix2 (bat b t) k) = x (ix3 b t k) := by
  refine shapeCast_apply x h (ix2 (bat b t) k) (ix3 b t k) ?_
  rw [Shape.rowMajor_val_two, Shape.rowMajor_val_three]
  show (b.val * 4096 + t.val) * N + k.val = (4096 * b.val + t.val) * N + k.val
  rw [Nat.mul_comm 4096]

/-- A matrix read with a last axis of size one. -/
theorem col3 {α : Type} {B M : Nat} (x : (⟨2, ![B, M]⟩ : Shape).Idx → α) (h : (⟨2, ![B, M]⟩ : Shape).ShapeCasts ⟨3, ![B, M, 1]⟩)
    (b : Fin B) (t : Fin M) : shapeCast (⟨3, ![B, M, 1]⟩ : Shape) x h (ix3 b t 0) = x (ix2 b t) := by
  refine shapeCast_apply x h (ix3 b t 0) (ix2 b t) ?_
  rw [Shape.rowMajor_val_two, Shape.rowMajor_val_three]
  show b.val * M + t.val = (b.val * M + t.val) * 1 + 0
  omega

/-- The last axis of size one broadcast. -/
theorem bcol3 {α : Type} {B M N : Nat} (x : (⟨3, ![B, M, 1]⟩ : Shape).Idx → α) (h : (⟨3, ![B, M, 1]⟩ : Shape).Broadcasts ⟨3, ![B, M, N]⟩)
    (b : Fin B) (t : Fin M) (k : Fin N) : broadcastTo (⟨3, ![B, M, N]⟩ : Shape) x h (ix3 b t k) = x (ix3 b t 0) := by
  refine broadcastTo_apply x h (ix3 b t k) (ix3 b t 0) fun a => ?_
  match a with
  | ⟨0, _⟩ =>
    by_cases h1 : B = 1
    · subst h1; simp
    · simp [ix3, h1]
  | ⟨1, _⟩ =>
    by_cases h1 : M = 1
    · subst h1; simp
    · simp [ix3, h1]
  | ⟨2, _⟩ => simp [ix3]

end Cert.Proof.Fold

end
-- ==== Proof.GateUpRef.lean ====
/-
  Hand-written, untrusted. THE GATE-UP REFERENCE over the extended reals, one block holding the whole arrays, and the claim: the
  kernel's three result arrays and the reference's are equal.
-/
module

public import proofs.«01_k».proof.Defs
public import proofs.«01_k».proof.Proof.GateUpKernel
public import proofs.«01_k».proof.Proof.Fold
public import proofs.«01_k».proof.Proof.Gen.GateUpRefIdeal.Frame
public import proofs.«01_k».proof.Proof.Gen.GateUpRefIdeal.Value

@[expose] public section

set_option maxRecDepth 16384

noncomputable section

namespace Cert.Proof.GateUpReference

open Idealize.ShloMosaic Idealize.ShloMosaic.TcCoe Idealize.SL.Sem Idealize.ShloMosaic.ValueIdx
open Cert.GateUpRefIdeal Cert.GateUpRefIdeal.Gen Cert.Proof.Ops Cert.Proof.Quant Cert.Proof.Fold Cert.Proof.GateUpSpec

variable (m : (ℓ : Loc nD τ sig) → Buf (Elt Ideal) ℓ) (ρ : Dev nD → PrngReg)

/-! ## The payloads -/

section Pay

variable (x : Vec Ideal S8192x8192 .fp8e4m3) (r : Vec Ideal S8192x128 .f32) (w : Vec Ideal S8192x7392 .fp8e4m3) (s : Vec Ideal S1x7392 .f32)
  (r1 : Vec Ideal S8192x1 .f32) (hr : ∀ a : Fin 8192, r1 (ix2 a 0) = r (ix2 a 0))

/-- The scaled product, as the reference's body computes it. -/
def prod : FVec Ideal S8192x7392 .f32 :=
  mulf (mulf (matmul (φ₁ := .fp8e4m3) (φ₂ := .fp8e4m3) dot_S8192x8192_S8192x7392_S8192x7392_1_0_0_1_n_n none x w (constant S8192x7392 .f32 0x00000000#32))
    (broadcastTo S8192x7392 r1 broadcasts_S8192x1_S8192x7392))
    (broadcastTo S8192x7392 (shapeCast S1x7392 s shapeCasts_S1x7392_S1x7392) broadcasts_S1x7392_S8192x7392)

theorem prod_apply (hr : ∀ a : Fin 8192, r1 (ix2 a 0) = r (ix2 a 0)) (a : Fin 8192) (b : Fin 7392) :
    prod x w s r1 (ix2 a b) = lin x r w s a b := by
  unfold prod
  rw [show dot_S8192x8192_S8192x7392_S8192x7392_1_0_0_1_n_n = DotDims.plain 8192 8192 7392 from rfl, shapeCast_self]
  show FloatOps.matmul (F := Ideal) (DotDims.plain 8192 8192 7392) none x w (constant S8192x7392 .f32 0x00000000#32) (ix2 a b)
      * broadcastTo S8192x7392 r1 broadcasts_S8192x1_S8192x7392 (ix2 a b)
      * broadcastTo S8192x7392 s broadcasts_S1x7392_S8192x7392 (ix2 a b) = _
  rw [Ideal.matmul_plain_apply, bcol, Ops.brow]
  rw [show (constant S8192x7392 .f32 0x00000000#32 : FVec Ideal S8192x7392 .f32) (ix2 a b) = 0 from Ideal.ofBits_zero_f32, zero_add, hr]
  rfl

theorem gate_slice (P : FVec Ideal S8192x7392 .f32) (a : Fin 8192) (k : Fin 3696) :
    extractStridedSlice S8192x3696 ![0, 0] P slices_S8192x7392_o0_0_S8192x3696 (ix2 a k) = P (ix2 a ⟨k.val, by omega⟩) :=
  extractStridedSlice_apply _ _ _ (ix2 a k) (ix2 a (⟨k.val, by omega⟩ : Fin 7392)) fun d => by
    match d with
    | ⟨0, _⟩ => show a.val = 0 + a.val; omega
    | ⟨1, _⟩ => show k.val = 0 + k.val; omega

theorem up_slice (P : FVec Ideal S8192x7392 .f32) (a : Fin 8192) (k : Fin 3696) :
    extractStridedSlice S8192x3696 ![0, 3696] P slices_S8192x7392_o0_3696_S8192x3696 (ix2 a k) = P (ix2 a ⟨3696 + k.val, by omega⟩) :=
  extractStridedSlice_apply _ _ _ (ix2 a k) (ix2 a (⟨3696 + k.val, by omega⟩ : Fin 7392)) fun d => by
    match d with
    | ⟨0, _⟩ => show a.val = 0 + a.val; omega
    | ⟨1, _⟩ => rfl

/-- The gated activation. -/
theorem pay1 (hr : ∀ a : Fin 8192, r1 (ix2 a 0) = r (ix2 a 0)) (b : Fin 2) (t : Fin 4096) (k : Fin 3696) :
    k0_pay1 x r1 w s (ix3 b t k) = actF (gate x r w s (bat b t)) (up x r w s (bat b t)) k := by
  unfold k0_pay1
  refine (split _ _ b t k).trans ?_
  have e (P : FVec Ideal S8192x7392 .f32) (g u : Fin 3696 → EReal) (hg : ∀ k : Fin 3696, P (ix2 (bat b t) ⟨k.val, by omega⟩) = g k)
      (hu : ∀ k : Fin 3696, P (ix2 (bat b t) ⟨3696 + k.val, by omega⟩) = u k) :
      mulf (mulf (extractStridedSlice S8192x3696 ![0, 0] P slices_S8192x7392_o0_0_S8192x3696)
        (logistic (extractStridedSlice S8192x3696 ![0, 0] P slices_S8192x7392_o0_0_S8192x3696)))
        (extractStridedSlice S8192x3696 ![0, 3696] P slices_S8192x7392_o0_3696_S8192x3696) (ix2 (bat b t) k) = actF g u k := by
    show extractStridedSlice S8192x3696 ![0, 0] P slices_S8192x7392_o0_0_S8192x3696 (ix2 (bat b t) k)
      * Ideal.logistic (extractStridedSlice S8192x3696 ![0, 0] P slices_S8192x7392_o0_0_S8192x3696 (ix2 (bat b t) k))
      * extractStridedSlice S8192x3696 ![0, 3696] P slices_S8192x7392_o0_3696_S8192x3696 (ix2 (bat b t) k) = _
    rw [gate_slice, up_slice, hg, hu]
    rfl
  exact e (prod x w s r1) _ _ (fun k => prod_apply x r w s r1 hr _ _) (fun k => prod_apply x r w s r1 hr _ _)

theorem pay2 (hr : ∀ a : Fin 8192, r1 (ix2 a 0) = r (ix2 a 0)) (b : Fin 2) (t : Fin 4096) :
    k0_pay2 x r1 w s (ix2 b t) = scaleAt x r w s (bat b t) := by
  unfold k0_pay2
  refine (select_sc _ (ix2 b t)).trans ?_
  refine (congrArg sc (rowmax3 _ _ _ _ b t)).trans ?_
  unfold scaleAt scF amaxF
  refine congrArg (fun f => sc (fmax f)) (funext fun k => ?_)
  show FloatOps.absf (F := Ideal) (φ := .f32) (k0_pay1 x r1 w s (ix3 b t k)) = _
  rw [pay1 x r w s r1 hr]

/-- An array divided by its rows' scales and clipped. -/
theorem quantise (P : FVec Ideal S2x4096x3696 .f32) (R : FVec Ideal S2x4096x1 .f32) (b : Fin 2) (t : Fin 4096) (k : Fin 3696) :
    truncf .fp8e4m3 (minimumf (broadcast S2x4096x3696 (Scalar.ofBits (F := Ideal) .f32 0x43E00000#32))
      (maximumf (broadcast S2x4096x3696 (Scalar.ofBits (F := Ideal) .f32 0xC3E00000#32))
        (divf P (broadcastTo S2x4096x3696 R broadcasts_S2x4096x1_S2x4096x3696)))) bitsLt_fp8e4m3_f32 (ix3 b t k)
      = clip (Ideal.div (P (ix3 b t k)) (R (ix3 b t 0))) :=
  congrArg (fun z => clip (Ideal.div (P (ix3 b t k)) z)) (bcol3 _ _ b t k)

theorem pay3 (hr : ∀ a : Fin 8192, r1 (ix2 a 0) = r (ix2 a 0)) (a : Fin 8192) (k : Fin 3696) :
    k0_pay3 x r1 w s (ix2 a k) = codeAt x r w s a k := by
  obtain ⟨b, t, rfl⟩ := exists_bat a
  unfold k0_pay3
  refine (join _ _ b t k).trans ((quantise _ _ b t k).trans ?_)
  rw [col3, pay1 x r w s r1 hr, pay2 x r w s r1 hr]
  rfl

theorem pay4 (hr : ∀ a : Fin 8192, r1 (ix2 a 0) = r (ix2 a 0)) (a : Fin 8192) (k : Fin 128) :
    k0_pay4 x r1 w s (ix2 a k) = scaleAt x r w s a := by
  obtain ⟨b, t, rfl⟩ := exists_bat a
  unfold k0_pay4
  refine (join _ _ b t k).trans ?_
  rw [shapeCast_self, bcol3, col3, pay2 x r w s r1 hr]

end Pay

/-! ## The windows -/

/-- Every window's one block starts at the array's corner. -/
theorem idx : ∀ (t : Fin cfg0.N) (d : Fin 2), win0_0.index t d = 0 ∧ win0_1.index t d = 0 ∧ win0_2.index t d = 0 ∧ win0_3.index t d = 0 ∧ win0_4.index t d = 0 ∧ win0_5.index t d = 0 ∧ win0_6.index t d = 0 :=
  (by decide +kernel : ∀ (t : Fin grid0.N) (d : Fin 2), win0_0.index t d = 0 ∧ win0_1.index t d = 0 ∧ win0_2.index t d = 0 ∧ win0_3.index t d = 0 ∧ win0_4.index t d = 0 ∧ win0_5.index t d = 0 ∧ win0_6.index t d = 0)

theorem b0 (c : Dev nD) (t : Fin cfg0.N) : (iblk m c 0 t : Vec Ideal S8192x8192 .fp8e4m3) = V m c main_arg0 := by
  have hz' : (fun a => win0_0.index t a * main_arg0.ty.shape.size a) = fun _ => 0 := funext fun a => by rw [(idx t a).1, Nat.zero_mul]
  exact Memref.read_access_unit_zero (Elt Ideal) main_arg0 hz' (fun a => by rw [congrFun hz' a]; simp) (V m c main_arg0)
theorem b1 (c : Dev nD) (t : Fin cfg0.N) : (iblk m c 1 t : Vec Ideal S8192x128 .f32) = V m c main_arg1 := by
  have hz' : (fun a => win0_1.index t a * main_arg1.ty.shape.size a) = fun _ => 0 := funext fun a => by rw [(idx t a).2.1, Nat.zero_mul]
  exact Memref.read_access_unit_zero (Elt Ideal) main_arg1 hz' (fun a => by rw [congrFun hz' a]; simp) (V m c main_arg1)
theorem b2 (c : Dev nD) (t : Fin cfg0.N) : (iblk m c 2 t : Vec Ideal S8192x7392 .fp8e4m3) = V m c main_arg2 := by
  have hz' : (fun a => win0_2.index t a * main_arg2.ty.shape.size a) = fun _ => 0 := funext fun a => by rw [(idx t a).2.2.1, Nat.zero_mul]
  exact Memref.read_access_unit_zero (Elt Ideal) main_arg2 hz' (fun a => by rw [congrFun hz' a]; simp) (V m c main_arg2)
theorem b3 (c : Dev nD) (t : Fin cfg0.N) : (iblk m c 3 t : Vec Ideal S1x7392 .f32) = V m c main_v0 := by
  have hz' : (fun a => win0_3.index t a * main_v0.ty.shape.size a) = fun _ => 0 := funext fun a => by rw [(idx t a).2.2.2.1, Nat.zero_mul]
  exact Memref.read_access_unit_zero (Elt Ideal) main_v0 hz' (fun a => by rw [congrFun hz' a]; simp) (V m c main_v0)

/-! ## The result arrays -/

/-- The three result arrays on device `c`. -/
abbrev G0 (c : Dev nD) : Buf (Elt Ideal) ((c : Thread nD τ).loc main_v1_0) := codes (V m c main_arg0) (V m c main_arg1) (V m c main_arg2) (V m c main_v0)
abbrev G1 (c : Dev nD) : Buf (Elt Ideal) ((c : Thread nD τ).loc main_v1_1) := scales (V m c main_arg0) (V m c main_arg1) (V m c main_arg2) (V m c main_v0)
abbrev G2 (c : Dev nD) : Buf (Elt Ideal) ((c : Thread nD τ).loc main_v1_2) := rows (V m c main_arg0) (V m c main_arg1) (V m c main_arg2) (V m c main_v0)

theorem first_col (r : Vec Ideal S8192x128 .f32) (a : Fin 8192) : View.ld r r0_1 (ix2 a 0) = r (ix2 a 0) := ld_col _ _ _ (by omega)

theorem flushed4 (c : Dev nD) (t : Fin cfg0.N) :
    (dats m 0 c).flushed 4 t = ((cfg0.win 4).blk t).view.read (Elt Ideal) (G0 m c) := by
  rw [Value.flushed4]
  have hz' : (fun a => win0_4.index t a * main_v1_0.ty.shape.size a) = fun _ => 0 := funext fun a => by rw [(idx t a).2.2.2.2.1, Nat.zero_mul]
  refine Eq.trans ?_ (Memref.read_access_unit_zero (Elt Ideal) main_v1_0 hz' (fun a => by rw [congrFun hz' a]; simp) (G0 m c)).symm
  funext j
  obtain ⟨a, b, rfl⟩ : ∃ (a : Fin 8192) (b : Fin 3696), j = ix2 a b := ⟨j 0, j 1, eq_ix2 j⟩
  show out0_4 (iblk m c 0 t) (iblk m c 1 t) (iblk m c 2 t) (iblk m c 3 t) (ix2 a b) = _
  unfold out0_4
  rw [View.canon_unit_zero hz, View.ld_unit_zero hz, View.ld_unit_zero hz, View.ld_unit_zero hz, b0, b1, b2, b3]
  exact pay3 _ _ _ _ _ (first_col _) a b

theorem cover4 (i : S8192x3696.Idx) : ∃ t : Fin cfg0.N, (cfg0.win 4).flush t = true ∧ i ∈ ((cfg0.win 4).blk t).view.set := by
  have hN : cfg0.N = 1 := N_0
  have h0 : (i 0 : Nat) < 8192 := (i 0).isLt
  have h1 : (i 1 : Nat) < 3696 := (i 1).isLt
  obtain ⟨t, -⟩ : ∃ t : Fin cfg0.N, t.val = 0 := ⟨⟨0, by omega⟩, rfl⟩
  refine ⟨t, flush0_4 _, ?_⟩
  show i ∈ ((View.whole main_v1_0).slice (win0_4.rect t)).set
  rw [View.set_slice_whole, Rect.mem_set_unit]
  intro d
  match d with
  | ⟨0, _⟩ =>
    show win0_4.index t 0 * 8192 ≤ (i 0 : Nat) ∧ (i 0 : Nat) < win0_4.index t 0 * 8192 + 8192
    rw [(idx t 0).2.2.2.2.1]; omega
  | ⟨1, _⟩ =>
    show win0_4.index t 1 * 3696 ≤ (i 1 : Nat) ∧ (i 1 : Nat) < win0_4.index t 1 * 3696 + 3696
    rw [(idx t 1).2.2.2.2.1]; omega

theorem flushed5 (c : Dev nD) (t : Fin cfg0.N) :
    (dats m 0 c).flushed 5 t = ((cfg0.win 5).blk t).view.read (Elt Ideal) (G1 m c) := by
  rw [Value.flushed5]
  have hz' : (fun a => win0_5.index t a * main_v1_1.ty.shape.size a) = fun _ => 0 := funext fun a => by rw [(idx t a).2.2.2.2.2.1, Nat.zero_mul]
  refine Eq.trans ?_ (Memref.read_access_unit_zero (Elt Ideal) main_v1_1 hz' (fun a => by rw [congrFun hz' a]; simp) (G1 m c)).symm
  funext j
  obtain ⟨a, b, rfl⟩ : ∃ (a : Fin 2) (b : Fin 4096), j = ix2 a b := ⟨j 0, j 1, eq_ix2 j⟩
  show out0_5 (iblk m c 0 t) (iblk m c 1 t) (iblk m c 2 t) (iblk m c 3 t) (ix2 a b) = _
  unfold out0_5
  rw [View.canon_unit_zero hz, View.ld_unit_zero hz, View.ld_unit_zero hz, View.ld_unit_zero hz, b0, b1, b2, b3]
  exact pay2 _ _ _ _ _ (first_col _) a b

theorem cover5 (i : S2x4096.Idx) : ∃ t : Fin cfg0.N, (cfg0.win 5).flush t = true ∧ i ∈ ((cfg0.win 5).blk t).view.set := by
  have hN : cfg0.N = 1 := N_0
  have h0 : (i 0 : Nat) < 2 := (i 0).isLt
  have h1 : (i 1 : Nat) < 4096 := (i 1).isLt
  obtain ⟨t, -⟩ : ∃ t : Fin cfg0.N, t.val = 0 := ⟨⟨0, by omega⟩, rfl⟩
  refine ⟨t, flush0_5 _, ?_⟩
  show i ∈ ((View.whole main_v1_1).slice (win0_5.rect t)).set
  rw [View.set_slice_whole, Rect.mem_set_unit]
  intro d
  match d with
  | ⟨0, _⟩ =>
    show win0_5.index t 0 * 2 ≤ (i 0 : Nat) ∧ (i 0 : Nat) < win0_5.index t 0 * 2 + 2
    rw [(idx t 0).2.2.2.2.2.1]; omega
  | ⟨1, _⟩ =>
    show win0_5.index t 1 * 4096 ≤ (i 1 : Nat) ∧ (i 1 : Nat) < win0_5.index t 1 * 4096 + 4096
    rw [(idx t 1).2.2.2.2.2.1]; omega

theorem flushed6 (c : Dev nD) (t : Fin cfg0.N) :
    (dats m 0 c).flushed 6 t = ((cfg0.win 6).blk t).view.read (Elt Ideal) (G2 m c) := by
  rw [Value.flushed6]
  have hz' : (fun a => win0_6.index t a * main_v1_2.ty.shape.size a) = fun _ => 0 := funext fun a => by rw [(idx t a).2.2.2.2.2.2, Nat.zero_mul]
  refine Eq.trans ?_ (Memref.read_access_unit_zero (Elt Ideal) main_v1_2 hz' (fun a => by rw [congrFun hz' a]; simp) (G2 m c)).symm
  funext j
  obtain ⟨a, b, rfl⟩ : ∃ (a : Fin 8192) (b : Fin 128), j = ix2 a b := ⟨j 0, j 1, eq_ix2 j⟩
  show out0_6 (iblk m c 0 t) (iblk m c 1 t) (iblk m c 2 t) (iblk m c 3 t) (ix2 a b) = _
  unfold out0_6
  rw [View.canon_unit_zero hz, View.ld_unit_zero hz, View.ld_unit_zero hz, View.ld_unit_zero hz, b0, b1, b2, b3]
  exact pay4 _ _ _ _ _ (first_col _) a b

theorem cover6 (i : S8192x128.Idx) : ∃ t : Fin cfg0.N, (cfg0.win 6).flush t = true ∧ i ∈ ((cfg0.win 6).blk t).view.set := by
  have hN : cfg0.N = 1 := N_0
  have h0 : (i 0 : Nat) < 8192 := (i 0).isLt
  have h1 : (i 1 : Nat) < 128 := (i 1).isLt
  obtain ⟨t, -⟩ : ∃ t : Fin cfg0.N, t.val = 0 := ⟨⟨0, by omega⟩, rfl⟩
  refine ⟨t, flush0_6 _, ?_⟩
  show i ∈ ((View.whole main_v1_2).slice (win0_6.rect t)).set
  rw [View.set_slice_whole, Rect.mem_set_unit]
  intro d
  match d with
  | ⟨0, _⟩ =>
    show win0_6.index t 0 * 8192 ≤ (i 0 : Nat) ∧ (i 0 : Nat) < win0_6.index t 0 * 8192 + 8192
    rw [(idx t 0).2.2.2.2.2.2]; omega
  | ⟨1, _⟩ =>
    show win0_6.index t 1 * 128 ≤ (i 1 : Nat) ∧ (i 1 : Nat) < win0_6.index t 1 * 128 + 128
    rw [(idx t 1).2.2.2.2.2.2]; omega

/-- The scales' row as the region finds it: the argument vector. -/
theorem V_scale (c : Dev nD) (b : Fin 7392) : (V m c main_v0 : Vec Ideal S1x7392 .f32) (ix2 0 b)
    = (m ((c : Thread nD τ).loc main_arg3) : Vec Ideal S7392 .f32) (ix1 b) := by
  unfold V hostOps0
  after_results
  exact broadcastInDim_apply _ _ _ (ix2 0 b) (ix1 b) fun a => by
    match a with
    | ⟨0, _⟩ => simp [ix1, ix2]

/-- The run, read: the result arrays, the arguments unchanged. -/
theorem value : θ_run defs (onTc (τ := τ) (main (F := Ideal))) ⟨m, fun _ => 0, ρ⟩ fun r => ∀ c : Dev nD,
      r.2.mem ((c : Thread nD τ).loc main_v1_0) = G0 m c
      ∧ r.2.mem ((c : Thread nD τ).loc main_v1_1) = G1 m c
      ∧ r.2.mem ((c : Thread nD τ).loc main_v1_2) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (G0 m c) (fun t _ => flushed4 m c t) cover4),
    (h c).2.1.trans ((dats m 0 c).arrAt_eq_of_cover 5 (G1 m c) (fun t _ => flushed5 m c t) cover5),
    (h c).2.2.1.trans ((dats m 0 c).arrAt_eq_of_cover 6 (G2 m c) (fun t _ => flushed6 m c t) cover6), (h c).2.2.2⟩) (Value.run_blocks m ρ)

end Cert.Proof.GateUpReference

/-! ## The claim -/

namespace Cert.Proof.GateUpClaims

open Idealize.ShloMosaic Idealize.ShloMosaic.TcCoe Idealize.SL.Sem

/-- From memories that agree on the arguments, the kernel's result arrays and the reference's are equal, element by
    element, as extended reals. -/
theorem algebraic : Cert.algebraic_GateUpIdeal_GateUpRefIdeal := by
  intro m ρ m' ρ' _ hag
  have e (c) := Cert.Proof.GateUpSpec.lin_congr _ _ _ _
    ((Cert.GateUpRefIdeal.Gen.V_main_arg0 m' c).trans ((hag c).1.trans (Cert.GateUpIdeal.Gen.V_main_arg0 m c).symm))
    ((Cert.GateUpRefIdeal.Gen.V_main_arg1 m' c).trans ((hag c).2.1.trans (Cert.GateUpIdeal.Gen.V_main_arg1 m c).symm))
    ((Cert.GateUpRefIdeal.Gen.V_main_arg2 m' c).trans ((hag c).2.2.1.trans (Cert.GateUpIdeal.Gen.V_main_arg2 m c).symm))
    (fun b => (Cert.Proof.GateUpReference.V_scale m' c b).trans ((congrFun (hag c).2.2.2 (Idealize.ShloMosaic.ValueIdx.ix1 b)).trans
      (Cert.Proof.GateUpKernel.V_scale m c b).symm))
  exact ⟨fun c => Cert.Proof.GateUpKernel.G0 m c, fun c => Cert.Proof.GateUpKernel.G1 m c, fun c => Cert.Proof.GateUpKernel.G2 m c,
    Cert.Proof.GateUpKernel.value m ρ,
    (θ_run Cert.GateUpRefIdeal.defs _ _).mono (fun _ h c => ⟨(h c).1.trans (Cert.Proof.GateUpSpec.codes_congr (e c)),
      (h c).2.1.trans (Cert.Proof.GateUpSpec.scales_congr (e c)), (h c).2.2.1.trans (Cert.Proof.GateUpSpec.rows_congr (e c)), (h c).2.2.2⟩)
      (Cert.Proof.GateUpReference.value m' ρ')⟩

end Cert.Proof.GateUpClaims

end
-- ==== Proof.OutProjIdealBody.lean ====
/-
  Hand-written, untrusted. THE OUTPUT PROJECTION KERNEL'S BODY of `OutProjIdeal`, run from any contents of its buffers: what it leaves in
  each, at a point of the first (`body_A`) and of the second (`body_B`) batch.
-/
module

public import proofs.«01_k».proof.Proof.Gen.OutProjIdeal.Frame
public import proofs.«01_k».proof.Proof.Gen.OutProjIdeal.Skeleton
public import Idealize.ShloMosaic.Lib.VecWindow

@[expose] public section

set_option maxRecDepth 16384

noncomputable section

namespace Cert.Proof.OutProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.OutProjIdeal Cert.OutProjIdeal.Gen

variable {F : FTy → Type} [FloatOps F]

local notation "𝕄" => MT nD τ sig Unit (Elt F) ℕ (UR sig nD τ) ℕ

/-- The block's updated residual, -/
def hOf (x0 : Vec F S256x1024 .fp8e4m3) (x1 : Vec F S1x1x256 .f32) (x2 : Vec F S1024x8192 .fp8e4m3) (x3 : Vec F S1x8192 .f32) (x4 : Vec F S256x8192 .bf16) : Vec F S256x8192 .f32 := k0_pay5 x1 x4 x0 x2 x3
/-- its rows' largest magnitudes, -/
def maxOf (x0 : Vec F S256x1024 .fp8e4m3) (x1 : Vec F S1x1x256 .f32) (x2 : Vec F S1024x8192 .fp8e4m3) (x3 : Vec F S1x8192 .f32) (x4 : Vec F S256x8192 .bf16) (x5 : Vec F S1x8192 .f32) : Vec F S256x1 .f32 := k0_pay8 x1 x4 x0 x2 x3 x5
/-- its codes. -/
def codeOf (x0 : Vec F S256x1024 .fp8e4m3) (x1 : Vec F S1x1x256 .f32) (x2 : Vec F S1024x8192 .fp8e4m3) (x3 : Vec F S1x8192 .f32) (x4 : Vec F S256x8192 .bf16) (x5 : Vec F S1x8192 .f32) : Vec F S256x8192 .fp8e4m3 :=
  k0_pay2 (k0_pay6 x1 x4 x0 x2 x3) (k0_pay7 x1 x4 x0 x2 x3 x5) (maxOf x0 x1 x2 x3 x4 x5)

/-! ## What the body's loads give these -/

section Read

variable {m1 : Memref sig .tc .vmem S256x1024 .fp8e4m3} {m2 : Memref sig .tc .vmem S1x1x256 .f32}
  {m3 : Memref sig .tc .vmem S1024x8192 .fp8e4m3} {m4 : Memref sig .tc .vmem S1x8192 .f32}
  {m5 : Memref sig .tc .vmem S256x8192 .bf16} {m6 : Memref sig .tc .vmem S1x8192 .f32}
  (f0 : BufTy.Contents (Elt F) m1.view.ty) (f1 : BufTy.Contents (Elt F) m2.view.ty) (f2 : BufTy.Contents (Elt F) m3.view.ty)
  (f3 : BufTy.Contents (Elt F) m4.view.ty) (f4 : BufTy.Contents (Elt F) m5.view.ty) (f5 : BufTy.Contents (Elt F) m6.view.ty)

theorem h_read : k0_pay5 (m2.view.readAt (Elt F) (Rect.unit ![0, 0, 0] S1x1x256.size inb_S1x1x256_S1x1x256_0_0_0).toLoadRect f1)
    (m5.view.readAt (Elt F) (Rect.unit ![0, 0] S256x8192.size inb_S256x8192_S256x8192_0_0).toLoadRect f4)
    (m1.view.readAt (Elt F) (Rect.unit ![0, 0] S256x1024.size inb_S256x1024_S256x1024_0_0).toLoadRect f0)
    (m3.view.readAt (Elt F) (Rect.unit ![0, 0] S1024x8192.size inb_S1024x8192_S1024x8192_0_0).toLoadRect f2)
    (m4.view.readAt (Elt F) (Rect.unit ![0, 0] S1x8192.size inb_S1x8192_S1x8192_0_0).toLoadRect f3)
      = hOf (m1.view.read (Elt F) f0) (m2.view.read (Elt F) f1) (m3.view.read (Elt F) f2) (m4.view.read (Elt F) f3)
          (m5.view.read (Elt F) f4) := by
  rw [View.readAt_full, View.readAt_full, View.readAt_full, View.readAt_full, View.readAt_full]; rfl

theorem max_read : k0_pay8 (m2.view.readAt (Elt F) (Rect.unit ![0, 0, 0] S1x1x256.size inb_S1x1x256_S1x1x256_0_0_0).toLoadRect f1)
    (m5.view.readAt (Elt F) (Rect.unit ![0, 0] S256x8192.size inb_S256x8192_S256x8192_0_0).toLoadRect f4)
    (m1.view.readAt (Elt F) (Rect.unit ![0, 0] S256x1024.size inb_S256x1024_S256x1024_0_0).toLoadRect f0)
    (m3.view.readAt (Elt F) (Rect.unit ![0, 0] S1024x8192.size inb_S1024x8192_S1024x8192_0_0).toLoadRect f2)
    (m4.view.readAt (Elt F) (Rect.unit ![0, 0] S1x8192.size inb_S1x8192_S1x8192_0_0).toLoadRect f3)
    (m6.view.readAt (Elt F) (Rect.unit ![0, 0] S1x8192.size inb_S1x8192_S1x8192_0_0).toLoadRect f5)
      = maxOf (m1.view.read (Elt F) f0) (m2.view.read (Elt F) f1) (m3.view.read (Elt F) f2) (m4.view.read (Elt F) f3)
          (m5.view.read (Elt F) f4) (m6.view.read (Elt F) f5) := by
  rw [View.readAt_full, View.readAt_full, View.readAt_full, View.readAt_full, View.readAt_full, View.readAt_full]; rfl

theorem code_read : k0_pay2 (k0_pay6 (m2.view.readAt (Elt F) (Rect.unit ![0, 0, 0] S1x1x256.size inb_S1x1x256_S1x1x256_0_0_0).toLoadRect f1)
    (m5.view.readAt (Elt F) (Rect.unit ![0, 0] S256x8192.size inb_S256x8192_S256x8192_0_0).toLoadRect f4)
    (m1.view.readAt (Elt F) (Rect.unit ![0, 0] S256x1024.size inb_S256x1024_S256x1024_0_0).toLoadRect f0)
    (m3.view.readAt (Elt F) (Rect.unit ![0, 0] S1024x8192.size inb_S1024x8192_S1024x8192_0_0).toLoadRect f2)
    (m4.view.readAt (Elt F) (Rect.unit ![0, 0] S1x8192.size inb_S1x8192_S1x8192_0_0).toLoadRect f3))
    (k0_pay7 (m2.view.readAt (Elt F) (Rect.unit ![0, 0, 0] S1x1x256.size inb_S1x1x256_S1x1x256_0_0_0).toLoadRect f1)
    (m5.view.readAt (Elt F) (Rect.unit ![0, 0] S256x8192.size inb_S256x8192_S256x8192_0_0).toLoadRect f4)
    (m1.view.readAt (Elt F) (Rect.unit ![0, 0] S256x1024.size inb_S256x1024_S256x1024_0_0).toLoadRect f0)
    (m3.view.readAt (Elt F) (Rect.unit ![0, 0] S1024x8192.size inb_S1024x8192_S1024x8192_0_0).toLoadRect f2)
    (m4.view.readAt (Elt F) (Rect.unit ![0, 0] S1x8192.size inb_S1x8192_S1x8192_0_0).toLoadRect f3)
    (m6.view.readAt (Elt F) (Rect.unit ![0, 0] S1x8192.size inb_S1x8192_S1x8192_0_0).toLoadRect f5))
    (k0_pay8 (m2.view.readAt (Elt F) (Rect.unit ![0, 0, 0] S1x1x256.size inb_S1x1x256_S1x1x256_0_0_0).toLoadRect f1)
    (m5.view.readAt (Elt F) (Rect.unit ![0, 0] S256x8192.size inb_S256x8192_S256x8192_0_0).toLoadRect f4)
    (m1.view.readAt (Elt F) (Rect.unit ![0, 0] S256x1024.size inb_S256x1024_S256x1024_0_0).toLoadRect f0)
    (m3.view.readAt (Elt F) (Rect.unit ![0, 0] S1024x8192.size inb_S1024x8192_S1024x8192_0_0).toLoadRect f2)
    (m4.view.readAt (Elt F) (Rect.unit ![0, 0] S1x8192.size inb_S1x8192_S1x8192_0_0).toLoadRect f3)
    (m6.view.readAt (Elt F) (Rect.unit ![0, 0] S1x8192.size inb_S1x8192_S1x8192_0_0).toLoadRect f5))
      = codeOf (m1.view.read (Elt F) f0) (m2.view.read (Elt F) f1) (m3.view.read (Elt F) f2) (m4.view.read (Elt F) f3)
          (m5.view.read (Elt F) f4) (m6.view.read (Elt F) f5) := by
  rw [View.readAt_full, View.readAt_full, View.readAt_full, View.readAt_full, View.readAt_full, View.readAt_full]; rfl

end Read

variable (c : Dev nD) (E : Set ℕ) (i : grid0.Coords) (arg1 : Memref sig .tc .vmem S256x1024 .fp8e4m3) (harg1 : arg1.IsWhole) (arg2 : Memref sig .tc .vmem S1x1x256 .f32) (harg2 : arg2.IsWhole) (arg3 : Memref sig .tc .vmem S1024x8192 .fp8e4m3) (harg3 : arg3.IsWhole) (arg4 : Memref sig .tc .vmem S1x8192 .f32) (harg4 : arg4.IsWhole) (arg5 : Memref sig .tc .vmem S256x8192 .bf16) (harg5 : arg5.IsWhole) (arg6 : Memref sig .tc .vmem S1x8192 .f32) (harg6 : arg6.IsWhole) (arg7 : Memref sig .tc .vmem S256x8192 .f32) (harg7 : arg7.IsWhole) (arg8 : Memref sig .tc .vmem S256x8192 .fp8e4m3) (harg8 : arg8.IsWhole) (arg9 : Memref sig .tc .vmem S2x4096 .f32) (harg9 : arg9.IsWhole) (arg10 : Memref sig .tc .vmem S256x128 .f32) (harg10 : arg10.IsWhole)

set_option maxHeartbeats 4000000 in
/-- A point of the first batch. -/
theorem body_A
    (hc1 : k0_cond1 i = 1#1) (hc2 : ¬ k0_cond2 i = 1#1)
    (x0 : Vec F S256x1024 .fp8e4m3) (x1 : Vec F S1x1x256 .f32) (x2 : Vec F S1024x8192 .fp8e4m3) (x3 : Vec F S1x8192 .f32) (x4 : Vec F S256x8192 .bf16) (x5 : Vec F S1x8192 .f32) (x6 : Vec F S256x8192 .f32) (x7 : Vec F S256x8192 .fp8e4m3) (x8 : Vec F S2x4096 .f32) (x9 : Vec F S256x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9
        ∗ (iprop(owns c.tc arg1 fullShare (x0) ∗ owns c.tc arg2 fullShare (x1) ∗ owns c.tc arg3 fullShare (x2) ∗ owns c.tc arg4 fullShare (x3) ∗ owns c.tc arg5 fullShare (x4) ∗ owns c.tc arg6 fullShare (x5) ∗ owns c.tc arg7 fullShare (hOf x0 x1 x2 x3 x4) ∗ owns c.tc arg8 fullShare (codeOf x0 x1 x2 x3 x4 x5) ∗ owns c.tc arg9 fullShare (VecWindow.put x8 (k0_off1 i) S1x256.size (k0_pay4 (maxOf x0 x1 x2 x3 x4 x5))) ∗ owns c.tc arg10 fullShare (k0_pay3 (maxOf x0 x1 x2 x3 x4 x5))) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]
  · iexists _; isplitr
    swap; · iexact H6
    ipureintro
    exact (View.read_writes_full _ f6 _ _ []).trans (h_read f0 f1 f2 f3 f4)
  isplitl [H7]
  · iexists _; isplitr
    swap; · iexact H7
    ipureintro
    exact (View.read_writes_full _ f7 _ _ []).trans (code_read f0 f1 f2 f3 f4 f5)
  isplitl [H8]
  · iexists _; isplitr
    swap; · iexact H8
    ipureintro
    exact (View.read_writes_cons_put _ f8 _ _ [] rfl).trans (congrArg (fun z => VecWindow.put (View.read (Elt F) arg9.view f8) (k0_off1 i) S1x256.size (k0_pay4 z)) (max_read f0 f1 f2 f3 f4 f5))
  iexists _; isplitr
  swap; · iexact H9
  ipureintro
  exact (View.read_writes_full _ f9 _ _ []).trans (congrArg (fun z => k0_pay3 z) (max_read f0 f1 f2 f3 f4 f5))

set_option maxHeartbeats 4000000 in
/-- A point of the second batch. -/
theorem body_B
    (hc1 : ¬ k0_cond1 i = 1#1) (hc2 : k0_cond2 i = 1#1)
    (x0 : Vec F S256x1024 .fp8e4m3) (x1 : Vec F S1x1x256 .f32) (x2 : Vec F S1024x8192 .fp8e4m3) (x3 : Vec F S1x8192 .f32) (x4 : Vec F S256x8192 .bf16) (x5 : Vec F S1x8192 .f32) (x6 : Vec F S256x8192 .f32) (x7 : Vec F S256x8192 .fp8e4m3) (x8 : Vec F S2x4096 .f32) (x9 : Vec F S256x128 .f32) (K : PUnit → sProp 𝕄) :
    iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9
        ∗ (iprop(owns c.tc arg1 fullShare (x0) ∗ owns c.tc arg2 fullShare (x1) ∗ owns c.tc arg3 fullShare (x2) ∗ owns c.tc arg4 fullShare (x3) ∗ owns c.tc arg5 fullShare (x4) ∗ owns c.tc arg6 fullShare (x5) ∗ owns c.tc arg7 fullShare (hOf x0 x1 x2 x3 x4) ∗ owns c.tc arg8 fullShare (codeOf x0 x1 x2 x3 x4 x5) ∗ owns c.tc arg9 fullShare (VecWindow.put x8 (k0_off2 i) S1x256.size (k0_pay4 (maxOf x0 x1 x2 x3 x4 x5))) ∗ owns c.tc arg10 fullShare (k0_pay3 (maxOf x0 x1 x2 x3 x4 x5))) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10) K := by
  simp only [cc0_out_proj_eq_skeleton]; unfold cc0_out_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf0 hf1 hf2 hf3 hf4 hf5 hf6 hf7 hf8 hf9
  sl_exec
  sl_step
  iapply Hk
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]
  · iexists _; isplitr
    swap; · iexact H6
    ipureintro
    exact (View.read_writes_full _ f6 _ _ []).trans (h_read f0 f1 f2 f3 f4)
  isplitl [H7]
  · iexists _; isplitr
    swap; · iexact H7
    ipureintro
    exact (View.read_writes_full _ f7 _ _ []).trans (code_read f0 f1 f2 f3 f4 f5)
  isplitl [H8]
  · iexists _; isplitr
    swap; · iexact H8
    ipureintro
    exact (View.read_writes_cons_put _ f8 _ _ [] rfl).trans (congrArg (fun z => VecWindow.put (View.read (Elt F) arg9.view f8) (k0_off2 i) S1x256.size (k0_pay4 z)) (max_read f0 f1 f2 f3 f4 f5))
  iexists _; isplitr
  swap; · iexact H9
  ipureintro
  exact (View.read_writes_full _ f9 _ _ []).trans (congrArg (fun z => k0_pay3 z) (max_read f0 f1 f2 f3 f4 f5))

end Cert.Proof.OutProjIdeal

end
-- ==== Proof.OutProjIdealStep.lean ====
/-
  Hand-written, untrusted. THE OUTPUT PROJECTION KERNEL'S RUN of `OutProjIdeal`: the body at any point of its grid (`body_step`), the
  pipeline's proof data for any relation on what the body leaves (`rdat`), and the run and the frame they give (`run`,
  `frame`).
-/
module

public import proofs.«01_k».proof.Proof.OutProjIdealBody
public import Idealize.ShloMosaic.Lib.Claim

@[expose] public section

set_option maxRecDepth 16384

noncomputable section

namespace Cert.Proof.OutProjIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.OutProjIdeal Cert.OutProjIdeal.Gen

variable {F : FTy → Type} [FloatOps F]

local notation "𝕄" => MT nD τ sig Unit (Elt F) ℕ (UR sig nD τ) ℕ

theorem cond1_iff : ∀ t : Fin grid0.N, k0_cond1 (grid0.coords t) = 1#1 ↔ t.val < 16 := by decide +kernel
theorem cond2_iff : ∀ t : Fin grid0.N, k0_cond2 (grid0.coords t) = 1#1 ↔ ¬ t.val < 16 := by decide +kernel

variable (t : Fin cfg0.N) (x0 : Vec F S256x1024 .fp8e4m3) (x1 : Vec F S1x1x256 .f32) (x2 : Vec F S1024x8192 .fp8e4m3) (x3 : Vec F S1x8192 .f32) (x4 : Vec F S256x8192 .bf16) (x5 : Vec F S1x8192 .f32) (x6 : Vec F S256x8192 .f32) (x7 : Vec F S256x8192 .fp8e4m3) (x8 : Vec F S2x4096 .f32) (x9 : Vec F S256x128 .f32)

/-- What point `t` leaves in window 6's buffer. -/
def res6 : Vec F S256x8192 .f32 :=
  hOf x0 x1 x2 x3 x4

/-- What point `t` leaves in window 7's buffer. -/
def res7 : Vec F S256x8192 .fp8e4m3 :=
  codeOf x0 x1 x2 x3 x4 x5

/-- What point `t` leaves in window 8's buffer. -/
def res8 : Vec F S2x4096 .f32 :=
  if t.val < 16 then VecWindow.put x8 (k0_off1 (grid0.coords t)) S1x256.size (k0_pay4 (maxOf x0 x1 x2 x3 x4 x5))
  else VecWindow.put x8 (k0_off2 (grid0.coords t)) S1x256.size (k0_pay4 (maxOf x0 x1 x2 x3 x4 x5))

/-- What point `t` leaves in window 9's buffer. -/
def res9 : Vec F S256x128 .f32 :=
  k0_pay3 (maxOf x0 x1 x2 x3 x4 x5)

/-- The body at point `t`, from any contents. -/
theorem body_step (c : Dev nD) (K : PUnit → sProp 𝕄) :
    iprop(owns c.tc (st0_0 t) fullShare x0 ∗ owns c.tc (st0_1 t) fullShare x1 ∗ owns c.tc (st0_2 t) fullShare x2 ∗ owns c.tc (st0_3 t) fullShare x3 ∗ owns c.tc (st0_4 t) fullShare x4 ∗ owns c.tc (st0_5 t) fullShare x5 ∗ owns c.tc (st0_6 t) fullShare x6 ∗ owns c.tc (st0_7 t) fullShare x7 ∗ owns c.tc (st0_8 t) fullShare x8 ∗ owns c.tc (st0_9 t) fullShare x9
        ∗ (iprop(owns c.tc (st0_0 t) fullShare x0 ∗ owns c.tc (st0_1 t) fullShare x1 ∗ owns c.tc (st0_2 t) fullShare x2 ∗ owns c.tc (st0_3 t) fullShare x3 ∗ owns c.tc (st0_4 t) fullShare x4 ∗ owns c.tc (st0_5 t) fullShare x5 ∗ owns c.tc (st0_6 t) fullShare (res6 x0 x1 x2 x3 x4) ∗ owns c.tc (st0_7 t) fullShare (res7 x0 x1 x2 x3 x4 x5) ∗ owns c.tc (st0_8 t) fullShare (res8 t x0 x1 x2 x3 x4 x5 x8) ∗ owns c.tc (st0_9 t) fullShare (res9 x0 x1 x2 x3 x4 x5)) -∗ K ⟨⟩))
      ⊢ wp frame (wpE (defs₀ (F := F)) Variants.none c none) Set.univ (bodyAt0 t) K := by
  unfold bodyAt0 res6 res7 res8 res9
  by_cases h : t.val < 16
  · simp only [if_pos h]
    exact body_A c Set.univ (grid0.coords t) _ _ _ _ _ _ _ _ _ _ _ _ _ _ _ _ _ _ _ _ ((cond1_iff t).mpr h) (fun e => (cond2_iff t).mp e h) x0 x1 x2 x3 x4 x5 x6 x7 x8 x9 K
  · simp only [if_neg h]
    exact body_B c Set.univ (grid0.coords t) _ _ _ _ _ _ _ _ _ _ _ _ _ _ _ _ _ _ _ _ (fun e => h ((cond1_iff t).mp e)) ((cond2_iff t).mpr h) x0 x1 x2 x3 x4 x5 x6 x7 x8 x9 K

variable (m : (ℓ : Loc nD τ sig) → Buf (Elt F) ℓ) (ρ : Dev nD → PrngReg)
  (after : Dev nD → (w : Fin cfg0.W) → Fin cfg0.N → (Y X : (cfg0.win w).block.Idx → Elt F (cfg0.win w).elt) → Prop)

/-- The proof data. -/
def rdat (c : Dev nD) : RDat τ (Elt F) Unit ℕ (UR sig nD τ) ℕ cfg0 c where
  A w := V m c (Pipeline.arrRef spec0 w)
  after := after c
  Φ _ := Pipeline.ΦA cfg0.spec c
  q _ := fullShare
  owed _ := 0

/-- That one step of the body keeps the relation. -/
def Steps (c : Dev nD) : Prop :=
  ∀ (t : Fin cfg0.N) (Y : (w : Fin cfg0.W) → (cfg0.win w).block.Idx → Elt F (cfg0.win w).elt),
    (∀ w, (rdat m after c).Finds w t (Y w)) →
    after c 0 t (Y 0) (Y 0) ∧ after c 1 t (Y 1) (Y 1) ∧ after c 2 t (Y 2) (Y 2) ∧ after c 3 t (Y 3) (Y 3) ∧ after c 4 t (Y 4) (Y 4) ∧ after c 5 t (Y 5) (Y 5) ∧ after c 6 t (Y 6) (res6 (Y 0) (Y 1) (Y 2) (Y 3) (Y 4)) ∧ after c 7 t (Y 7) (res7 (Y 0) (Y 1) (Y 2) (Y 3) (Y 4) (Y 5)) ∧ after c 8 t (Y 8) (res8 t (Y 0) (Y 1) (Y 2) (Y 3) (Y 4) (Y 5) (Y 8)) ∧ after c 9 t (Y 9) (res9 (Y 0) (Y 1) (Y 2) (Y 3) (Y 4) (Y 5))

/-- The body table's row at point `t`'s slots is the body as `bodyAt0` spells it. -/
theorem defs₀_row : defs₀ (F := F) .tc cfg0.body (cfg0.bodyArgs t (cfg0.slots t)) = bodyAt0 t := by
  unfold defs₀; rw [Defs.onTc_tc]

theorem body_obligation (c : Dev nD) (hs : Steps m after c) :
    (rdat m after c).BodyObligation (defs₀ (F := F)) Variants.none () Set.univ := fun t Y hY => by
  rw [bigSep_W0, bigSep_W0, defs₀_row]
  rw [show (rdat m after c).Φ t.succ = Pipeline.ΦA cfg0.spec c from rfl,
    show (rdat m after c).Φ t.castSucc = Pipeline.ΦA cfg0.spec c from rfl,
    show (rdat m after c).owesAt () t.succ = (rdat m after c).owesAt () t.castSucc from rfl]
  iintro ⟨HP, Ho, H0, H1, H2, H3, H4, H5, H6, H7, H8, H9⟩
  obtain ⟨a0, a1, a2, a3, a4, a5, a6, a7, a8, a9⟩ := hs t Y hY
  iapply (body_step t (Y 0) (Y 1) (Y 2) (Y 3) (Y 4) (Y 5) (Y 6) (Y 7) (Y 8) (Y 9) c _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HP]; · iexact HP
  isplitl [Ho]; · iexact Ho
  isplitl [H0]
  · iexists _; isplitr
    swap; · iexact H0
    ipureintro; exact a0
  isplitl [H1]
  · iexists _; isplitr
    swap; · iexact H1
    ipureintro; exact a1
  isplitl [H2]
  · iexists _; isplitr
    swap; · iexact H2
    ipureintro; exact a2
  isplitl [H3]
  · iexists _; isplitr
    swap; · iexact H3
    ipureintro; exact a3
  isplitl [H4]
  · iexists _; isplitr
    swap; · iexact H4
    ipureintro; exact a4
  isplitl [H5]
  · iexists _; isplitr
    swap; · iexact H5
    ipureintro; exact a5
  isplitl [H6]
  · iexists _; isplitr
    swap; · iexact H6
    ipureintro; exact a6
  isplitl [H7]
  · iexists _; isplitr
    swap; · iexact H7
    ipureintro; exact a7
  isplitl [H8]
  · iexists _; isplitr
    swap; · iexact H8
    ipureintro; exact a8
  iexists _; isplitr
  swap; · iexact H9
  ipureintro; exact a9

set_option backward.isDefEq.respectTransparency.types false in
set_option maxHeartbeats 800000 in
/-- THE RUN: from any proof data that the body's steps keep. -/
theorem run (hs : ∀ c, Steps m after c) :
    θ_run defs (onTc (τ := τ) (main (F := F))) (s₀ m ρ) (fun r => RDat.FramePost cfg0 (rdat m after) (V m) r ∧ r.2.sem = fun _ => 0) :=
  RDat.θ_run_frame_track (Q' := _) cfgs (0 : Fin 1) launch0 defs₀ Variants.none (rdat m after) m ρ main
    (hbody := fun c => body_obligation m after c (hs c))
    (hshare := fun c w => by unfold RDat.share; split <;> rfl)
    (howed := fun _ _ => rfl) (V := V m) (hmain := hmain m Variants.none) (hA := fun _ _ => rfl)
    (hin := fun c => .rfl) (hout := fun c => .rfl)

/-- The argument arrays end as launched. -/
theorem unchanged_of {r : PUnit × MemSt nD τ sig (Elt F)} (h : RDat.FramePost cfg0 (rdat m after) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have hin : ∀ w, (cfg0.win w).isOut = false →
      r.2.mem ((cfg0.spec w).arr.view.loc (c.tc : Thread nD τ)) = V m c (Pipeline.arrRef spec0 w) := fun w hw => by
    have := (h c).1 w
    rw [RDat.ArrAt_in (rd := rdat m after c) w hw] at this
    exact this
  exact ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (hin 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- THE FRAME: every run ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => unchanged_of m _ h.1 c, h.2⟩)
    (run m ρ (fun _ _ _ _ _ => True) (fun _ _ _ _ => ⟨trivial, trivial, trivial, trivial, trivial, trivial, trivial, trivial, trivial, trivial⟩))

end Cert.Proof.OutProjIdeal

end
-- ==== Proof.OutProjSame.lean ====
/-
  Hand-written, untrusted. THE FRAME of `OutProj`: its text is `OutProjIdeal`'s, so its run is `OutProjIdeal`'s run.
-/
module

public import proofs.«01_k».proof.Proof.Gen.OutProj.Frame
public import proofs.«01_k».proof.Proof.OutProjIdealStep

@[expose] public section

set_option maxRecDepth 16384

noncomputable section

namespace Cert.Proof.OutProj

open Idealize.ShloMosaic Idealize.ShloMosaic.TcCoe Idealize.SL.Sem
open Cert.OutProj Cert.OutProj.Gen

variable {F : FTy → Type} [FloatOps F]
variable (m : (ℓ : Loc nD τ sig) → Buf (Elt F) ℓ) (ρ : Dev nD → PrngReg)

set_option maxHeartbeats 4000000 in
set_option smartUnfolding false in
/-- THE FRAME: every run ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Cert.Proof.OutProjIdeal.frame m ρ

end Cert.Proof.OutProj

end
-- ==== Proof.OutProjSpec.lean ====
/-
  Hand-written, untrusted. THE OUTPUT PROJECTION over the extended reals, index by index: the residual plus the scaled
  product (`hAt`), its root mean square (`rms`), and the scale and the codes of the normalised row. The kernel divides a
  row's largest magnitude by the root mean square and multiplies by one reciprocal; the reference normalises the row
  first. `fmax_div` and `code_eq` say that these are the same.
-/
module

public import proofs.«01_k».proof.Proof.Quant

@[expose] public section

noncomputable section

namespace Cert.Proof.OutProjSpec

open Idealize.ShloMosaic Idealize.ShloMosaic.ValueIdx Cert.Proof.Quant

/-- A matrix's row sum. -/
theorem rowsum {M N : Nat} (x : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (a : Fin M) :
    multiReduction .add [1] (⟨1, ![M]⟩ : Shape) x 0x00000000#32 h hφ hacc (ix1 a) = ∑ k : Fin N, x (ix2 a k) := by
  rw [Ideal.multiReduction_add_single]
  exact Finset.sum_congr rfl fun k _ => congrArg x (funext fun d => by
    match d with
    | ⟨0, _⟩ => rfl
    | ⟨1, _⟩ => rfl)

/-! ## One row -/

/-- The row length, 8192, as the programs' constant, -/
def len : EReal := FloatOps.ofBits (F := Ideal) .f32 0x46000000#32
/-- and the small positive number added to the mean square. -/
def eps : EReal := FloatOps.ofBits (F := Ideal) .f32 0x358637BD#32

/-- A row's root mean square. -/
def rms (g : Fin 8192 → EReal) : EReal := Ideal.sqrt (Ideal.div (∑ k : Fin 8192, g k * g k) len + eps)

theorem eps_eq : eps = ((8796093 / 8796093022208 : ℝ) : EReal) := by
  show Ideal.ofBits .f32 0x358637BD#32 = _
  simp [Ideal.ofBits, Ideal.ieee, -EReal.coe_mul]; norm_num

theorem eps_pos : 0 < eps := by
  rw [eps_eq]
  exact_mod_cast (by norm_num : (0 : ℝ) < 8796093 / 8796093022208)

theorem len_eq : len = ((8192 : ℝ) : EReal) := by
  show Ideal.ofBits .f32 0x46000000#32 = _
  simp [Ideal.ofBits, Ideal.ieee, -EReal.coe_mul]; norm_num

theorem sq_nonneg (x : EReal) : 0 ≤ x * x := by
  induction x with
  | bot => simp
  | top => simp
  | coe r => exact_mod_cast mul_self_nonneg r

theorem sqrt_pos {x : EReal} (h : 0 < x) : 0 < Ideal.sqrt x := by
  induction x with
  | bot => simp at h
  | top => exact h
  | coe r =>
    have hr : 0 < r := by exact_mod_cast h
    show 0 < (if r < 0 then (⊥ : EReal) else (Real.sqrt r : EReal))
    rw [if_neg (not_lt.mpr hr.le)]
    exact_mod_cast Real.sqrt_pos.mpr hr

theorem rms_pos (g : Fin 8192 → EReal) : 0 < rms g := by
  unfold rms
  refine sqrt_pos ?_
  have h : 0 ≤ Ideal.div (∑ k : Fin 8192, g k * g k) len := by
    unfold Ideal.div
    have hl : len ≠ 0 := by rw [len_eq]; exact_mod_cast (by norm_num : (8192 : ℝ) ≠ 0)
    rw [if_neg hl, len_eq, ← EReal.coe_inv]
    exact mul_nonneg (Finset.sum_nonneg fun k _ => sq_nonneg (g k)) (by exact_mod_cast (by norm_num : (0 : ℝ) ≤ (8192 : ℝ)⁻¹))
  exact lt_of_lt_of_le eps_pos (le_add_of_nonneg_left h)

/-- Dividing by a positive number is multiplying by a nonnegative real. -/
theorem div_pos_eq {R : EReal} (h : 0 < R) : ∃ r : ℝ, 0 ≤ r ∧ ∀ x, Ideal.div x R = x * (r : EReal) := by
  have hne : R ≠ 0 := h.ne'
  induction R with
  | bot => simp at h
  | top => exact ⟨0, le_rfl, fun x => by unfold Ideal.div; rw [if_neg hne]; simp⟩
  | coe q =>
    have hq : 0 < q := by exact_mod_cast h
    exact ⟨q⁻¹, (inv_pos.mpr hq).le, fun x => by unfold Ideal.div; rw [if_neg hne, ← EReal.coe_inv]⟩

theorem mul_mono {r : ℝ} (h : 0 ≤ r) : Monotone fun x : EReal => x * (r : EReal) := fun x y hxy =>
  mul_le_mul_of_nonneg_right hxy (by exact_mod_cast h)

/-- A magnitude scaled. -/
theorem absf_mul {r : ℝ} (h : 0 ≤ r) (x : EReal) :
    FloatOps.absf (F := Ideal) (φ := .f32) (x * (r : EReal)) = FloatOps.absf (F := Ideal) (φ := .f32) x * (r : EReal) := by
  show max (x * (r : EReal)) (-(x * (r : EReal))) = max x (-x) * (r : EReal)
  rw [← EReal.neg_mul]
  exact ((mul_mono h).map_max).symm

theorem init_eq : FloatOps.ofBits (F := Ideal) .f32 0xFF800000#32 = (⊥ : EReal) := by
  show Ideal.ofBits .f32 0xFF800000#32 = _
  simp [Ideal.ofBits, Ideal.ieee]

/-- The largest of scaled entries. -/
theorem fmax_mul {N : Nat} (hN : 0 < N) {r : ℝ} (h : 0 ≤ r) (f : Fin N → EReal) (hf : ∀ k, 0 ≤ f k) :
    fmax (fun k => f k * (r : EReal)) = fmax f * (r : EReal) := by
  unfold fmax
  rw [init_eq]
  rcases h.lt_or_eq with hr | hr
  · have hb : (⊥ : EReal) * (r : EReal) = ⊥ := EReal.bot_mul_coe_of_pos hr
    have := Finset.fold_hom (op := max) (op' := max) (b := (⊥ : EReal)) (f := f) (s := (Finset.univ : Finset (Fin N)))
      (m := fun x : EReal => x * (r : EReal)) (fun x y => (mul_mono h).map_max)
    rw [← this, hb]
  · subst hr
    simp only [EReal.coe_zero, mul_zero]
    refine le_antisymm (Finset.fold_max_le _ |>.mpr ⟨bot_le, fun _ _ => le_rfl⟩) ?_
    exact (Finset.le_fold_max _).mpr (.inr ⟨⟨0, hN⟩, Finset.mem_univ _, le_rfl⟩)

/-- The largest magnitude of a row divided by a positive number. -/
theorem fmax_div {N : Nat} (hN : 0 < N) {R : EReal} (h : 0 < R) (f : Fin N → EReal) :
    fmax (fun k => FloatOps.absf (F := Ideal) (φ := .f32) (Ideal.div (f k) R))
      = Ideal.div (fmax fun k => FloatOps.absf (F := Ideal) (φ := .f32) (f k)) R := by
  obtain ⟨r, hr, e⟩ := div_pos_eq h
  simp only [e, absf_mul hr]
  refine fmax_mul hN hr _ fun k => ?_
  show 0 ≤ max (f k) (-(f k))
  rcases le_total 0 (f k) with h | h
  · exact le_max_of_le_left h
  · exact le_max_of_le_right (by simpa using EReal.neg_le_neg_iff.mpr h)

/-- Multiplying by the reciprocal of a product is dividing twice. -/
theorem code_eq {R S : EReal} (hR : R ≠ 0) (hS : S ≠ 0) (y : EReal) :
    y * Ideal.div (Scalar.ofBits (F := Ideal) .f32 0x3F800000#32) (R * S) = Ideal.div (Ideal.div y R) S := by
  rw [show (Scalar.ofBits (F := Ideal) .f32 0x3F800000#32 : Ideal .f32) = (1 : EReal) from Ideal.ofBits_one_f32]
  rw [Ideal.mul_one_div (mul_ne_zero hR hS)]
  unfold Ideal.div
  rw [if_neg hR, if_neg hS, if_neg (mul_ne_zero hR hS), EReal.mul_inv, mul_assoc]

/-- The scale of the row `g` weighted by `L` and normalised, -/
def scF (g L : Fin 8192 → EReal) : EReal :=
  sc (Ideal.div (fmax fun k => FloatOps.absf (F := Ideal) (φ := .f32) (g k * L k)) (rms g))
/-- and its codes. -/
def codeF (g L : Fin 8192 → EReal) (k : Fin 8192) : EReal := clip (Ideal.div (Ideal.div (g k * L k) (rms g)) (scF g L))

/-! ## The whole arrays -/

/-- The arguments read by rows and columns: the attention's codes, their rows' scales, the weights, their columns' scales,
    the residual, the norm's weights. -/
structure Args where
  x : Fin 8192 → Fin 1024 → EReal
  r : Fin 8192 → EReal
  w : Fin 1024 → Fin 8192 → EReal
  s : Fin 8192 → EReal
  y : Fin 8192 → Fin 8192 → EReal
  l : Fin 8192 → EReal

/-- The batch of row `a`, -/
def hi (a : Fin 8192) : Fin 2 := ⟨a.val / 4096, by omega⟩
/-- and its place in the batch. -/
def lo (a : Fin 8192) : Fin 4096 := ⟨a.val % 4096, by omega⟩

/-- The arguments as the programs take them, rows in two batches. -/
def Args.of (a0 : FVec Ideal ⟨3, ![2, 4096, 1024]⟩ .fp8e4m3) (a1 : FVec Ideal ⟨2, ![2, 4096]⟩ .f32)
    (a2 : FVec Ideal ⟨2, ![1024, 8192]⟩ .fp8e4m3) (a3 : FVec Ideal ⟨1, ![8192]⟩ .f32)
    (a4 : FVec Ideal ⟨3, ![2, 4096, 8192]⟩ .bf16) (a5 : FVec Ideal ⟨1, ![8192]⟩ .f32) : Args where
  x a k := a0 (ix3 (hi a) (lo a) k)
  r a := a1 (ix2 (hi a) (lo a))
  w k b := a2 (ix2 k b)
  s b := a3 (ix1 b)
  y a b := a4 (ix3 (hi a) (lo a) b)
  l b := a5 (ix1 b)

/-- Two batches of rows read as one array. -/
theorem fold_apply {α : Type} {N : Nat} (x : (⟨3, ![2, 4096, N]⟩ : Shape).Idx → α)
    (h : (⟨3, ![2, 4096, N]⟩ : Shape).ShapeCasts ⟨2, ![8192, N]⟩) (a : Fin 8192) (k : Fin N) :
    shapeCast (⟨2, ![8192, N]⟩ : Shape) x h (ix2 a k) = x (ix3 (hi a) (lo a) k) := by
  refine shapeCast_apply x h (ix2 a k) (ix3 (hi a) (lo a) k) ?_
  rw [Shape.rowMajor_val_two, Shape.rowMajor_val_three]
  show (a.val / 4096 * 4096 + a.val % 4096) * N + k.val = a.val * N + k.val
  rw [Nat.div_add_mod']

/-- The rows' scales as a column. -/
theorem fold_col {α : Type} (x : (⟨2, ![2, 4096]⟩ : Shape).Idx → α)
    (h : (⟨2, ![2, 4096]⟩ : Shape).ShapeCasts ⟨2, ![8192, 1]⟩) (a : Fin 8192) :
    shapeCast (⟨2, ![8192, 1]⟩ : Shape) x h (ix2 a 0) = x (ix2 (hi a) (lo a)) := by
  refine shapeCast_apply x h (ix2 a 0) (ix2 (hi a) (lo a)) ?_
  rw [Shape.rowMajor_val_two, Shape.rowMajor_val_two]
  show a.val / 4096 * 4096 + a.val % 4096 = a.val * 1 + 0
  omega

/-- The rows' scales in blocks of 256. -/
theorem fold_blocks {α : Type} (x : (⟨2, ![2, 4096]⟩ : Shape).Idx → α)
    (h : (⟨2, ![2, 4096]⟩ : Shape).ShapeCasts ⟨3, ![32, 1, 256]⟩) (p : Fin 32) (q : Fin 256) (a : Fin 8192)
    (e : a.val = 256 * p.val + q.val) :
    shapeCast (⟨3, ![32, 1, 256]⟩ : Shape) x h (ix3 p 0 q) = x (ix2 (hi a) (lo a)) := by
  refine shapeCast_apply x h (ix3 p 0 q) (ix2 (hi a) (lo a)) ?_
  rw [Shape.rowMajor_val_two, Shape.rowMajor_val_three]
  show a.val / 4096 * 4096 + a.val % 4096 = (p.val * 1 + 0) * 256 + q.val
  omega

variable (A : Args)

/-- The updated residual. -/
def hAt (a b : Fin 8192) : EReal := A.y a b + (∑ k : Fin 1024, A.x a k * A.w k b) * A.r a * A.s b
/-- The codes at row `a` and column `b`, -/
def codeAt (a b : Fin 8192) : EReal := codeF (hAt A a) A.l b
/-- and the scale of row `a`. -/
def scaleAt (a : Fin 8192) : EReal := scF (hAt A a) A.l
/-- The array row of batch `b`'s row `t`. -/
def brow (b : Fin 2) (t : Fin 4096) : Fin 8192 := ⟨4096 * b.val + t.val, by omega⟩

/-- The four results. -/
def hs : FVec Ideal ⟨2, ![8192, 8192]⟩ .f32 := fun i => hAt A (i 0) (i 1)
def codes : FVec Ideal ⟨2, ![8192, 8192]⟩ .fp8e4m3 := fun i => codeAt A (i 0) (i 1)
def scales : FVec Ideal ⟨2, ![2, 4096]⟩ .f32 := fun i => scaleAt A (brow (i 0) (i 1))
def rows : FVec Ideal ⟨2, ![8192, 128]⟩ .f32 := fun i => scaleAt A (i 0)

end Cert.Proof.OutProjSpec

end
-- ==== Proof.OutProjPay.lean ====
/-
  Hand-written, untrusted. The output projection's stored values over the extended reals, index by index.
-/
module

public import proofs.«01_k».proof.Proof.OutProjSpec
public import proofs.«01_k».proof.Proof.OutProjIdealStep

@[expose] public section

set_option maxRecDepth 16384

noncomputable section

namespace Cert.Proof.OutProjKernel

open Idealize.ShloMosaic Idealize.ShloMosaic.TcCoe Idealize.SL.Sem Idealize.ShloMosaic.ValueIdx
open Cert.OutProjIdeal Cert.OutProjIdeal.Gen Cert.Proof.Ops Cert.Proof.Quant Cert.Proof.OutProjSpec Cert.Proof.OutProjIdeal

/-- The block's scales turned into a column. -/
theorem col (v : Vec Ideal S1x1x256 .f32) (a : Fin 256) :
    extractStridedSlice S256x1 ![0, 0] (transpose S256x128 [1, 0] (broadcastTo S128x256 (shapeCast S1x256 (shapeCast S1x256
      (shapeCast S1x1x256 v shapeCasts_S1x1x256_S1x1x256) shapeCasts_S1x1x256_S1x256) shapeCasts_S1x256_S1x256)
      broadcasts_S1x256_S128x256) transposes_S128x256_p1_0_S256x128) slices_S256x128_o0_0_S256x1 (ix2 a 0) = v (ix3 0 0 a) := by
  rw [extractStridedSlice_apply _ _ _ (ix2 a 0) (ix2 a (0 : Fin 128)) (fun d => by
    match d with
    | ⟨0, _⟩ => show a.val = 0 + a.val; omega
    | ⟨1, _⟩ => rfl)]
  rw [transpose_apply _ _ _ (ix2 a (0 : Fin 128)) (ix2 (0 : Fin 128) a) (fun d => by
    match d with
    | ⟨0, _⟩ => rfl
    | ⟨1, _⟩ => rfl)]
  rw [Ops.brow, shapeCast_self, shapeCast_self]
  refine shapeCast_apply v _ (ix2 0 a) (ix3 0 0 a) ?_
  rw [Shape.rowMajor_val_two, Shape.rowMajor_val_three]
  show (0 * 1 + 0) * 256 + a.val = 0 * 256 + a.val
  omega

/-- The updated residual's block. -/
theorem pay5 (v0 : Vec Ideal S1x1x256 .f32) (v7 : Vec Ideal S256x8192 .bf16) (v10 : Vec Ideal S256x1024 .fp8e4m3)
    (v12 : Vec Ideal S1024x8192 .fp8e4m3) (v16 : Vec Ideal S1x8192 .f32) (a : Fin 256) (b : Fin 8192) :
    k0_pay5 v0 v7 v10 v12 v16 (ix2 a b)
      = v7 (ix2 a b) + (∑ k : Fin 1024, v10 (ix2 a k) * v12 (ix2 k b)) * v0 (ix3 0 0 a) * v16 (ix2 0 b) := by
  unfold k0_pay5
  rw [show dot_S256x1024_S1024x8192_S256x8192_1_0_0_1_n_n = DotDims.plain 256 1024 8192 from rfl]
  rw [shapeCast_self v7, shapeCast_self v10, shapeCast_self v16]
  have e (C : FVec Ideal S256x1 .f32) (h : C (ix2 a 0) = v0 (ix3 0 0 a)) :
      addf (extf .f32 v7 bitsLt_bf16_f32) (mulf (mulf (matmul (φ₁ := .fp8e4m3) (φ₂ := .fp8e4m3) (DotDims.plain 256 1024 8192) none v10 v12 (constant S256x8192 .f32 0x00000000#32))
        (broadcastTo S256x8192 C broadcasts_S256x1_S256x8192)) (broadcastTo S256x8192 v16 broadcasts_S1x8192_S256x8192)) (ix2 a b)
      = v7 (ix2 a b) + (∑ k : Fin 1024, v10 (ix2 a k) * v12 (ix2 k b)) * v0 (ix3 0 0 a) * v16 (ix2 0 b) := by
    show v7 (ix2 a b) + FloatOps.matmul (F := Ideal) (DotDims.plain 256 1024 8192) none v10 v12 (constant S256x8192 .f32 0x00000000#32) (ix2 a b)
        * broadcastTo S256x8192 C broadcasts_S256x1_S256x8192 (ix2 a b)
        * broadcastTo S256x8192 v16 broadcasts_S1x8192_S256x8192 (ix2 a b) = _
    rw [Ideal.matmul_plain_apply, bcol, Ops.brow, h]
    rw [show (constant S256x8192 .f32 0x00000000#32 : FVec Ideal S256x8192 .f32) (ix2 a b) = 0 from Ideal.ofBits_zero_f32, zero_add]
  exact e _ (col v0 a)

section Rows

variable (v0 : Vec Ideal S1x1x256 .f32) (v7 : Vec Ideal S256x8192 .bf16) (v10 : Vec Ideal S256x1024 .fp8e4m3)
    (v12 : Vec Ideal S1024x8192 .fp8e4m3) (v16 : Vec Ideal S1x8192 .f32) (v30 : Vec Ideal S1x8192 .f32) (a : Fin 256)

/-- A row's root mean square, as the programs print it. -/
theorem rms_apply (H : FVec Ideal S256x8192 .f32) :
    sqrt (addf (divf (shapeCast S256x1 (multiReduction .add [1] S256 (mulf H H) 0x00000000#32 reduces_S256x8192_S256 (.inl rfl) rfl) shapeCasts_S256_S256x1)
      (broadcast S256x1 (Scalar.ofBits (F := Ideal) .f32 0x46000000#32))) (broadcast S256x1 (Scalar.ofBits (F := Ideal) .f32 0x358637BD#32))) (ix2 a 0)
      = rms fun k => H (ix2 a k) := by
  show Ideal.sqrt (Ideal.div (shapeCast S256x1 (multiReduction .add [1] S256 (mulf H H) 0x00000000#32 reduces_S256x8192_S256 (.inl rfl) rfl) shapeCasts_S256_S256x1 (ix2 a 0)) len + eps) = _
  unfold rms
  exact congrArg (fun z => Ideal.sqrt (Ideal.div z len + eps)) ((scast_col _ _ a).trans (rowsum (mulf H H) _ _ _ a))

theorem pay6 : k0_pay6 v0 v7 v10 v12 v16 (ix2 a 0) = rms fun k => k0_pay5 v0 v7 v10 v12 v16 (ix2 a k) := by
  unfold k0_pay6
  exact rms_apply a (k0_pay5 v0 v7 v10 v12 v16)

theorem pay7 (b : Fin 8192) : k0_pay7 v0 v7 v10 v12 v16 v30 (ix2 a b) = k0_pay5 v0 v7 v10 v12 v16 (ix2 a b) * v30 (ix2 0 b) := by
  unfold k0_pay7
  rw [shapeCast_self]
  exact congrArg (fun z : EReal => k0_pay5 v0 v7 v10 v12 v16 (ix2 a b) * z) (Ops.brow _ _ a b)

theorem pay8 : k0_pay8 v0 v7 v10 v12 v16 v30 (ix2 a 0)
    = Ideal.div (fmax fun k => FloatOps.absf (F := Ideal) (φ := .f32) (k0_pay7 v0 v7 v10 v12 v16 v30 (ix2 a k))) (k0_pay6 v0 v7 v10 v12 v16 (ix2 a 0)) := by
  unfold k0_pay8
  have e (N : FVec Ideal S256x8192 .f32) (R : FVec Ideal S256x1 .f32) :
      divf (shapeCast S256x1 (multiReduction .maximumf [1] S256 (absf N) 0xFF800000#32 reduces_S256x8192_S256 (.inl rfl) rfl) shapeCasts_S256_S256x1) R (ix2 a 0)
        = Ideal.div (fmax fun k => FloatOps.absf (F := Ideal) (φ := .f32) (N (ix2 a k))) (R (ix2 a 0)) := by
    refine congrArg (fun z => Ideal.div z (R (ix2 a 0))) ((scast_col _ _ a).trans ?_)
    exact rowmax _ _ _ _ a
  exact e _ _

end Rows

variable (v29 : FVec Ideal S256x1 .f32) (v33 : FVec Ideal S256x8192 .f32) (v37 : FVec Ideal S256x1 .f32) (a : Fin 256)

theorem pay1 : k0_pay1 v37 (ix2 a 0) = sc (v37 (ix2 a 0)) := by
  unfold k0_pay1
  exact select_sc v37 (ix2 a 0)

theorem pay3 (l : Fin 128) : k0_pay3 v37 (ix2 a l) = sc (v37 (ix2 a 0)) := by
  unfold k0_pay3
  rw [shapeCast_self, bcol, pay1]

theorem pay4 : k0_pay4 v37 (ix2 0 a) = sc (v37 (ix2 a 0)) := by
  unfold k0_pay4
  rw [extractStridedSlice_apply _ _ _ (ix2 0 a) (ix2 (0 : Fin 128) a) (fun d => by
    match d with
    | ⟨0, _⟩ => rfl
    | ⟨1, _⟩ => show a.val = 0 + a.val; omega)]
  rw [transpose_apply _ _ _ (ix2 (0 : Fin 128) a) (ix2 a (0 : Fin 128)) (fun d => by
    match d with
    | ⟨0, _⟩ => rfl
    | ⟨1, _⟩ => rfl)]
  rw [shapeCast_self, bcol, pay1]

/-- A block multiplied by its rows' reciprocals and clipped. -/
theorem quantise (P : FVec Ideal S256x8192 .f32) (R : FVec Ideal S256x1 .f32) (b : Fin 8192) :
    truncf .fp8e4m3 (minimumf (broadcast S256x8192 (Scalar.ofBits (F := Ideal) .f32 0x43E00000#32))
      (maximumf (broadcast S256x8192 (Scalar.ofBits (F := Ideal) .f32 0xC3E00000#32))
        (mulf P (broadcastTo S256x8192 (divf (broadcast S256x1 (Scalar.ofBits (F := Ideal) .f32 0x3F800000#32)) R)
          broadcasts_S256x1_S256x8192)))) bitsLt_fp8e4m3_f32 (ix2 a b)
      = clip (P (ix2 a b) * Ideal.div (Scalar.ofBits (F := Ideal) .f32 0x3F800000#32) (R (ix2 a 0))) :=
  congrArg (fun z => clip (P (ix2 a b) * z)) (bcol _ _ a b)

theorem pay2 (b : Fin 8192) (h : v29 (ix2 a 0) ≠ 0) :
    k0_pay2 v29 v33 v37 (ix2 a b) = clip (Ideal.div (Ideal.div (v33 (ix2 a b)) (v29 (ix2 a 0))) (sc (v37 (ix2 a 0)))) := by
  unfold k0_pay2
  refine (quantise a v33 (mulf v29 (k0_pay1 v37)) b).trans ?_
  refine (congrArg (fun z : EReal => clip (v33 (ix2 a b) * Ideal.div (Scalar.ofBits (F := Ideal) .f32 0x3F800000#32) (v29 (ix2 a 0) * z))) (pay1 v37 a)).trans ?_
  exact congrArg clip (code_eq h (sc_ne_zero _) _)

/-! ## A block whose rows are the arrays' -/

section Block

variable (A : Args) (x0 : Vec Ideal S256x1024 .fp8e4m3) (x1 : Vec Ideal S1x1x256 .f32) (x2 : Vec Ideal S1024x8192 .fp8e4m3)
  (x3 : Vec Ideal S1x8192 .f32) (x4 : Vec Ideal S256x8192 .bf16) (x5 : Vec Ideal S1x8192 .f32) (r : Fin 8192)

/-- The block's row `a` is the arrays' row `r`. -/
structure Row : Prop where
  x : ∀ k, x0 (ix2 a k) = A.x r k
  q : x1 (ix3 0 0 a) = A.r r
  w : ∀ k b, x2 (ix2 k b) = A.w k b
  s : ∀ b, x3 (ix2 0 b) = A.s b
  y : ∀ b, x4 (ix2 a b) = A.y r b
  l : ∀ b, x5 (ix2 0 b) = A.l b

variable {A x0 x1 x2 x3 x4 x5 r a} (h : Row a A x0 x1 x2 x3 x4 x5 r)

include h

theorem hOf_row (b : Fin 8192) : hOf x0 x1 x2 x3 x4 (ix2 a b) = hAt A r b := by
  unfold hOf hAt
  rw [pay5, h.q, h.s, h.y]
  exact congrArg (fun z : EReal => A.y r b + z * A.r r * A.s b) (Finset.sum_congr rfl fun k _ =>
    congrArg₂ (fun p q : EReal => p * q) (h.x k) (h.w k b))

theorem rms_row : k0_pay6 x1 x4 x0 x2 x3 (ix2 a 0) = rms (hAt A r) := by
  rw [pay6]
  exact congrArg rms (funext fun k => hOf_row h k)

theorem wt_row (b : Fin 8192) : k0_pay7 x1 x4 x0 x2 x3 x5 (ix2 a b) = hAt A r b * A.l b := by
  rw [pay7, h.l]
  exact congrArg (fun z : EReal => z * A.l b) (hOf_row h b)

theorem max_row : sc (maxOf x0 x1 x2 x3 x4 x5 (ix2 a 0)) = scaleAt A r := by
  unfold maxOf scaleAt scF
  rw [pay8, rms_row h]
  exact congrArg (fun f => sc (Ideal.div (fmax f) (rms (hAt A r)))) (funext fun k =>
    congrArg (fun z : EReal => FloatOps.absf (F := Ideal) (φ := .f32) z) (wt_row h k))

theorem code_row (b : Fin 8192) : codeOf x0 x1 x2 x3 x4 x5 (ix2 a b) = codeAt A r b := by
  unfold codeOf
  rw [pay2 _ _ _ a b (by rw [rms_row h]; exact (rms_pos _).ne'), max_row h, rms_row h, wt_row h]
  rfl

end Block

end Cert.Proof.OutProjKernel

end
-- ==== Proof.OutProjKernel.lean ====
/-
  Hand-written, untrusted. THE OUTPUT PROJECTION KERNEL over the extended reals: what its buffers hold after each grid
  point, and so what its four result arrays hold at the end.
-/
module

public import proofs.«01_k».proof.Proof.OutProjPay
public import proofs.«01_k».proof.Proof.Geo

@[expose] public section

set_option maxRecDepth 16384

noncomputable section

namespace Cert.Proof.OutProjKernel

open Idealize.ShloMosaic Idealize.ShloMosaic.TcCoe Idealize.SL.Sem Idealize.ShloMosaic.ValueIdx
open Idealize.ShloMosaic.Pipeline (Dat RDat Cfg Window cellOf)
open Cert.OutProjIdeal Cert.OutProjIdeal.Gen Cert.Proof.Ops Cert.Proof.Quant Cert.Proof.OutProjSpec Cert.Proof.OutProjIdeal Cert.Proof.Geo

variable (m : (ℓ : Loc nD τ sig) → Buf (Elt Ideal) ℓ) (ρ : Dev nD → PrngReg)

/-! ## The arrays' values, and the relation on buffers -/

/-- The arguments on device `c`. -/
def ARGS (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V_x (c : Dev nD) (a : Fin 8192) (k : Fin 1024) :
    (V m c main_v0 : Vec Ideal S8192x1024 .fp8e4m3) (ix2 a k) = (ARGS m c).x a k := by
  unfold V hostOps0
  after_results
  show shapeCast S8192x1024 (m ((c : Thread nD τ).loc main_arg0) : Vec Ideal S2x4096x1024 .fp8e4m3) shapeCasts_S2x4096x1024_S8192x1024 (ix2 a k) = _
  exact fold_apply _ _ a k

theorem V_r (c : Dev nD) (p : Fin 32) (q : Fin 256) (a : Fin 8192) (e : a.val = 256 * p.val + q.val) :
    (V m c main_v1 : Vec Ideal S32x1x256 .f32) (ix3 p 0 q) = (ARGS m c).r a := by
  unfold V hostOps0
  after_results
  show shapeCast S32x1x256 (m ((c : Thread nD τ).loc main_arg1) : Vec Ideal S2x4096 .f32) shapeCasts_S2x4096_S32x1x256 (ix3 p 0 q) = _
  exact fold_blocks _ _ p q a e

theorem V_s (c : Dev nD) (b : Fin 8192) : (V m c main_v2 : Vec Ideal S1x8192 .f32) (ix2 0 b) = (ARGS m c).s b := by
  unfold V hostOps0
  after_results
  show shapeCast S1x8192 (m ((c : Thread nD τ).loc main_arg3) : Vec Ideal S8192 .f32) shapeCasts_S8192_S1x8192 (ix2 0 b) = _
  exact scast_row _ _ b

theorem V_y (c : Dev nD) (a b : Fin 8192) : (V m c main_v3 : Vec Ideal S8192x8192 .bf16) (ix2 a b) = (ARGS m c).y a b := by
  unfold V hostOps0
  after_results
  show shapeCast S8192x8192 (m ((c : Thread nD τ).loc main_arg4) : Vec Ideal S2x4096x8192 .bf16) shapeCasts_S2x4096x8192_S8192x8192 (ix2 a b) = _
  exact fold_apply _ _ a b

theorem V_l (c : Dev nD) (b : Fin 8192) : (V m c main_v4 : Vec Ideal S1x8192 .f32) (ix2 0 b) = (ARGS m c).l b := by
  unfold V hostOps0
  after_results
  show shapeCast S1x8192 (m ((c : Thread nD τ).loc main_arg5) : Vec Ideal S8192 .f32) shapeCasts_S8192_S1x8192 (ix2 0 b) = _
  exact scast_row _ _ b

/-- What point `t` leaves of the residual, -/
def A6 (c : Dev nD) (t : Fin cfg0.N) (X : Vec Ideal S256x8192 .f32) : Prop :=
  ∀ (a : Fin 256) (r b : Fin 8192), r.val = 256 * t.val + a.val → X (ix2 a b) = hAt (ARGS m c) r b
/-- of the codes, -/
def A7 (c : Dev nD) (t : Fin cfg0.N) (X : Vec Ideal S256x8192 .fp8e4m3) : Prop :=
  ∀ (a : Fin 256) (r b : Fin 8192), r.val = 256 * t.val + a.val → X (ix2 a b) = codeAt (ARGS m c) r b
/-- what it does to the scales: its own are written, the others kept, -/
def A8 (c : Dev nD) (t : Fin cfg0.N) (Y X : Vec Ideal S2x4096 .f32) : Prop :=
  ∀ (b : Fin 2) (k : Fin 4096), X (ix2 b k)
    = if (4096 * b.val + k.val) / 256 = t.val then scaleAt (ARGS m c) (brow b k) else Y (ix2 b k)
/-- and what it leaves of the row scales. -/
def A9 (c : Dev nD) (t : Fin cfg0.N) (X : Vec Ideal S256x128 .f32) : Prop :=
  ∀ (a : Fin 256) (r : Fin 8192) (l : Fin 128), r.val = 256 * t.val + a.val → X (ix2 a l) = scaleAt (ARGS m c) r

/-- The relation on every window's buffer. -/
def after (c : Dev nD) (w : Fin cfg0.W) (t : Fin cfg0.N) (Y X : (cfg0.win w).block.Idx → Elt Ideal (cfg0.win w).elt) : Prop :=
  match w with
  | ⟨0, _⟩ => X = Y
  | ⟨1, _⟩ => X = Y
  | ⟨2, _⟩ => X = Y
  | ⟨3, _⟩ => X = Y
  | ⟨4, _⟩ => X = Y
  | ⟨5, _⟩ => X = Y
  | ⟨6, _⟩ => A6 m c t X
  | ⟨7, _⟩ => A7 m c t X
  | ⟨8, _⟩ => A8 m c t Y X
  | ⟨9, _⟩ => A9 m c t X

/-- The proof data. -/
abbrev rd (c : Dev nD) := rdat m (after m) c

/-! ## The windows at a point -/

/-! The windows' block indices at point `t`. -/

theorem idx0 : ∀ t : Fin grid0.N, win0_0.index t 0 = t.val ∧ win0_0.index t 1 = 0 := by decide +kernel
theorem idx1 : ∀ t : Fin grid0.N, win0_1.index t 0 = t.val ∧ win0_1.index t 1 = 0 ∧ win0_1.index t 2 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel
theorem idx7 : ∀ t : Fin grid0.N, win0_7.index t 0 = t.val ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel

/-- The stores' offsets. -/
theorem off : ∀ t : Fin grid0.N, (k0_off1 (grid0.coords t) 0 = 0 ∧ k0_off1 (grid0.coords t) 1 = t.val % 16 * 256)
    ∧ (k0_off2 (grid0.coords t) 0 = 1 ∧ k0_off2 (grid0.coords t) 1 = t.val % 16 * 256) := by decide +kernel

theorem found0 (c : Dev nD) (t : Fin cfg0.N) (Y : Vec Ideal S256x1024 .fp8e4m3) (hY : (rd m c).Finds 0 t Y) (a : Fin 256) (r : Fin 8192) (k : Fin 1024) (hr : r.val = 256 * t.val + a.val) :
    Y (ix2 a k) = (V m c main_v0 : Vec Ideal S8192x1024 .fp8e4m3) (ix2 r k) := by
  obtain ⟨d, rfl⟩ := (rd m c).finds_in_eq_fetched 0 rfl (fun _ _ _ => rfl) (fun _ _ _ h => h) t Y hY
  show V m c main_v0 _ = V m c main_v0 _
  congr 1
  funext d
  apply Fin.ext
  match d with
  | ⟨0, _⟩ => show win0_0.index t 0 * 256 + 1 * a.val = r.val; rw [(idx0 t).1]; omega
  | ⟨1, _⟩ => show win0_0.index t 1 * 1024 + 1 * k.val = k.val; rw [(idx0 t).2]; omega

theorem found1 (c : Dev nD) (t : Fin cfg0.N) (Y : Vec Ideal S1x1x256 .f32) (hY : (rd m c).Finds 1 t Y) (p : Fin 32) (a : Fin 256) (hp : p.val = t.val) :
    Y (ix3 0 0 a) = (V m c main_v1 : Vec Ideal S32x1x256 .f32) (ix3 p 0 a) := by
  obtain ⟨d, rfl⟩ := (rd m c).finds_in_eq_fetched 1 rfl (fun _ _ _ => rfl) (fun _ _ _ h => h) t Y hY
  show V m c main_v1 _ = V m c main_v1 _
  congr 1
  funext d
  apply Fin.ext
  match d with
  | ⟨0, _⟩ => show win0_1.index t 0 * 1 + 1 * 0 = p.val; rw [(idx1 t).1]; omega
  | ⟨1, _⟩ => show win0_1.index t 1 * 1 + 1 * 0 = 0; rw [(idx1 t).2.1]
  | ⟨2, _⟩ => show win0_1.index t 2 * 256 + 1 * a.val = a.val; rw [(idx1 t).2.2]; omega

theorem found2 (c : Dev nD) (t : Fin cfg0.N) (Y : Vec Ideal S1024x8192 .fp8e4m3) (hY : (rd m c).Finds 2 t Y) (k : Fin 1024) (b : Fin 8192) :
    Y (ix2 k b) = (V m c main_arg2 : Vec Ideal S1024x8192 .fp8e4m3) (ix2 k b) := by
  obtain ⟨d, rfl⟩ := (rd m c).finds_in_eq_fetched 2 rfl (fun _ _ _ => rfl) (fun _ _ _ h => h) t Y hY
  show V m c main_arg2 _ = V m c main_arg2 _
  congr 1
  funext d
  apply Fin.ext
  match d with
  | ⟨0, _⟩ => show win0_2.index t 0 * 1024 + 1 * k.val = k.val; rw [(idx2 t).1]; omega
  | ⟨1, _⟩ => show win0_2.index t 1 * 8192 + 1 * b.val = b.val; rw [(idx2 t).2]; omega

theorem found3 (c : Dev nD) (t : Fin cfg0.N) (Y : Vec Ideal S1x8192 .f32) (hY : (rd m c).Finds 3 t Y) (b : Fin 8192) :
    Y (ix2 0 b) = (V m c main_v2 : Vec Ideal S1x8192 .f32) (ix2 0 b) := by
  obtain ⟨d, rfl⟩ := (rd m c).finds_in_eq_fetched 3 rfl (fun _ _ _ => rfl) (fun _ _ _ h => h) t Y hY
  show V m c main_v2 _ = V m c main_v2 _
  congr 1
  funext d
  apply Fin.ext
  match d with
  | ⟨0, _⟩ => show win0_3.index t 0 * 1 + 1 * 0 = 0; rw [(idx3 t).1]
  | ⟨1, _⟩ => show win0_3.index t 1 * 8192 + 1 * b.val = b.val; rw [(idx3 t).2]; omega

theorem found4 (c : Dev nD) (t : Fin cfg0.N) (Y : Vec Ideal S256x8192 .bf16) (hY : (rd m c).Finds 4 t Y) (a : Fin 256) (r b : Fin 8192) (hr : r.val = 256 * t.val + a.val) :
    Y (ix2 a b) = (V m c main_v3 : Vec Ideal S8192x8192 .bf16) (ix2 r b) := by
  obtain ⟨d, rfl⟩ := (rd m c).finds_in_eq_fetched 4 rfl (fun _ _ _ => rfl) (fun _ _ _ h => h) t Y hY
  show V m c main_v3 _ = V m c main_v3 _
  congr 1
  funext d
  apply Fin.ext
  match d with
  | ⟨0, _⟩ => show win0_4.index t 0 * 256 + 1 * a.val = r.val; rw [(idx4 t).1]; omega
  | ⟨1, _⟩ => show win0_4.index t 1 * 8192 + 1 * b.val = b.val; rw [(idx4 t).2]; omega

theorem found5 (c : Dev nD) (t : Fin cfg0.N) (Y : Vec Ideal S1x8192 .f32) (hY : (rd m c).Finds 5 t Y) (b : Fin 8192) :
    Y (ix2 0 b) = (V m c main_v4 : Vec Ideal S1x8192 .f32) (ix2 0 b) := by
  obtain ⟨d, rfl⟩ := (rd m c).finds_in_eq_fetched 5 rfl (fun _ _ _ => rfl) (fun _ _ _ h => h) t Y hY
  show V m c main_v4 _ = V m c main_v4 _
  congr 1
  funext d
  apply Fin.ext
  match d with
  | ⟨0, _⟩ => show win0_5.index t 0 * 1 + 1 * 0 = 0; rw [(idx5 t).1]
  | ⟨1, _⟩ => show win0_5.index t 1 * 8192 + 1 * b.val = b.val; rw [(idx5 t).2]; omega

/-! ## One step -/

section Step

variable (c : Dev nD) (t : Fin cfg0.N) (Y : (w : Fin cfg0.W) → (cfg0.win w).block.Idx → Elt Ideal (cfg0.win w).elt)
  (hY : ∀ w, (rd m c).Finds w t (Y w))

include hY

/-- The point's rows are the arrays'. -/
theorem row (a : Fin 256) (r : Fin 8192) (hr : r.val = 256 * t.val + a.val) : Row a (ARGS m c) (Y 0) (Y 1) (Y 2) (Y 3) (Y 4) (Y 5) r where
  x k := (found0 m c t (Y 0) (hY 0) a r k hr).trans (V_x m c r k)
  q := (found1 m c t (Y 1) (hY 1) ⟨t.val, Nat.lt_of_lt_of_eq t.isLt N_0⟩ a rfl).trans (V_r m c _ a r hr)
  w k b := (found2 m c t (Y 2) (hY 2) k b).trans (congrFun (V_main_arg2 m c) (ix2 k b))
  s b := (found3 m c t (Y 3) (hY 3) b).trans (V_s m c b)
  y b := (found4 m c t (Y 4) (hY 4) a r b hr).trans (V_y m c r b)
  l b := (found5 m c t (Y 5) (hY 5) b).trans (V_l m c b)

theorem step6 : A6 m c t (res6 (Y 0) (Y 1) (Y 2) (Y 3) (Y 4)) := fun a r b hr => by
  unfold res6
  exact hOf_row (row m c t Y hY a r hr) b

theorem step7 : A7 m c t (res7 (Y 0) (Y 1) (Y 2) (Y 3) (Y 4) (Y 5)) := fun a r b hr => by
  unfold res7
  exact code_row (row m c t Y hY a r hr) b

theorem step9 : A9 m c t (res9 (Y 0) (Y 1) (Y 2) (Y 3) (Y 4) (Y 5)) := fun a r l hr => by
  unfold res9
  exact (pay3 _ a l).trans (max_row (row m c t Y hY a r hr))

theorem step8 : A8 m c t (Y 8) (res8 t (Y 0) (Y 1) (Y 2) (Y 3) (Y 4) (Y 5) (Y 8)) := fun p k => by
  have hp : p.val < 2 := p.isLt
  have hk : k.val < 4096 := k.isLt
  have ht : t.val < 32 := Nat.lt_of_lt_of_eq t.isLt N_0
  have hpay (q : Fin 256) (hq : 4096 * p.val + k.val = 256 * t.val + q.val) :
      k0_pay4 (maxOf (Y 0) (Y 1) (Y 2) (Y 3) (Y 4) (Y 5)) (ix2 0 q) = scaleAt (ARGS m c) (brow p k) :=
    (pay4 _ q).trans (max_row (row m c t Y hY q (brow p k) hq))
  unfold res8
  by_cases h2 : t.val < 16
  · simp only [if_pos h2]
    by_cases hq : (4096 * p.val + k.val) / 256 = t.val
    · rw [if_pos hq]
      have hq' : 4096 * p.val + k.val - 256 * t.val < 256 := by omega
      refine (put2_in (M := 2) (N := 4096) (m := 1) (n := 256) (Y 8) _ _ p k 0 ⟨_, hq'⟩ ?_ ?_).trans (hpay ⟨_, hq'⟩ ?_)
      · rw [(off t).1.1]; show p.val = 0 + 0; omega
      · rw [(off t).1.2]; show k.val = t.val % 16 * 256 + (4096 * p.val + k.val - 256 * t.val); omega
      · show 4096 * p.val + k.val = 256 * t.val + (4096 * p.val + k.val - 256 * t.val); omega
    · rw [if_neg hq]
      refine put2_out (M := 2) (N := 4096) (m := 1) (n := 256) (Y 8) _ _ p k ?_
      rw [(off t).1.1, (off t).1.2]; omega
  · simp only [if_neg h2]
    by_cases hq : (4096 * p.val + k.val) / 256 = t.val
    · rw [if_pos hq]
      have hq' : 4096 * p.val + k.val - 256 * t.val < 256 := by omega
      refine (put2_in (M := 2) (N := 4096) (m := 1) (n := 256) (Y 8) _ _ p k 0 ⟨_, hq'⟩ ?_ ?_).trans (hpay ⟨_, hq'⟩ ?_)
      · rw [(off t).2.1]; show p.val = 1 + 0; omega
      · rw [(off t).2.2]; show k.val = t.val % 16 * 256 + (4096 * p.val + k.val - 256 * t.val); omega
      · show 4096 * p.val + k.val = 256 * t.val + (4096 * p.val + k.val - 256 * t.val); omega
    · rw [if_neg hq]
      refine put2_out (M := 2) (N := 4096) (m := 1) (n := 256) (Y 8) _ _ p k ?_
      rw [(off t).2.1, (off t).2.2]; omega

end Step

theorem steps (c : Dev nD) : Steps m (after m) c := fun t Y hY =>
  ⟨rfl, rfl, rfl, rfl, rfl, rfl, step6 m c t Y hY, step7 m c t Y hY, step8 m c t Y hY, step9 m c t Y hY⟩

/-- After point `n` the scales' buffer holds every scale of the row blocks finished so far. -/
theorem scales_upto (c : Dev nD) : ∀ (n : ℕ) (hn : n < cfg0.N) (X : Vec Ideal S2x4096 .f32), (rd m c).Leaves 8 ⟨n, hn⟩ X →
    ∀ (b : Fin 2) (k : Fin 4096), 4096 * b.val + k.val < 256 * (n + 1) → X (ix2 b k) = scaleAt (ARGS m c) (brow b k)
  | 0, _, X, ⟨Y, hY, hR⟩, b, k, h => ((hR : A8 m c ⟨0, _⟩ Y X) b k).trans (if_pos (by show (4096 * b.val + k.val) / 256 = 0; omega))
  | n + 1, hn, X, ⟨Y, hY, hR⟩, b, k, h => by
    have hN : cfg0.N = 32 := N_0
    have e : X (ix2 b k) = _ := (hR : A8 m c ⟨n + 1, hn⟩ Y X) b k
    rw [e]
    by_cases hc : (4096 * b.val + k.val) / 256 = n + 1
    · exact if_pos hc
    · refine (if_neg hc).trans ?_
      have hL := ((rd m c).finds_of_pos (w := 8) (t := ⟨n + 1, hn⟩) rfl (Nat.succ_ne_zero n) Y).mp hY
      rcases hL with hfl | hL
      · have := (flush0_8 _).mp hfl
        have e' : (⟨n + 1, hn⟩ : Fin cfg0.N).val - 1 = n := rfl
        dsimp only at this
        omega
      · exact scales_upto c n (by omega) Y hL b k (by omega)

/-! ## The result arrays -/

/-- The four result arrays on device `c`. -/
abbrev G0 (c : Dev nD) : Buf (Elt Ideal) ((c : Thread nD τ).loc main_v5_0) := hs (ARGS m c)
abbrev G1 (c : Dev nD) : Buf (Elt Ideal) ((c : Thread nD τ).loc main_v5_1) := codes (ARGS m c)
abbrev G2 (c : Dev nD) : Buf (Elt Ideal) ((c : Thread nD τ).loc main_v5_2) := scales (ARGS m c)
abbrev G3 (c : Dev nD) : Buf (Elt Ideal) ((c : Thread nD τ).loc main_v5_3) := rows (ARGS m c)

variable (aft : (w : Fin cfg0.W) → Fin cfg0.N → (cfg0.win w).block.Idx → Elt Ideal (cfg0.win w).elt)

theorem flushed6 (c : Dev nD) (hL : ∀ w u, (cfg0.win w).flush u = true → (rd m c).Leaves w u (aft w u)) (t : Fin cfg0.N)
    (ht : (cfg0.win 6).flush t = true) :
    ((rd m c).withAfter aft).flushed 6 t = ((cfg0.win 6).blk t).view.read (Elt Ideal) (G0 m c) := by
  have hN : t.val < 32 := Nat.lt_of_lt_of_eq t.isLt N_0
  obtain ⟨Y, -, hR⟩ := hL 6 t ht
  funext j
  obtain ⟨a, b, rfl⟩ : ∃ (a : Fin 256) (b : Fin 8192), j = ix2 a b := ⟨j 0, j 1, eq_ix2 j⟩
  have e : ((cfg0.win 6).blk t).view.read (Elt Ideal) (G0 m c) (ix2 a b) = hAt (ARGS m c) ⟨256 * t.val + a.val, by omega⟩ b := by
    rw [View.read_apply]
    show G0 m c _ = G0 m c (ix2 ⟨256 * t.val + a.val, _⟩ b)
    congr 1
    funext d
    apply Fin.ext
    match d with
    | ⟨0, _⟩ => show win0_6.index t 0 * 256 + 1 * a.val = 256 * t.val + a.val; rw [(idx6 t).1]; omega
    | ⟨1, _⟩ => show win0_6.index t 1 * 8192 + 1 * b.val = b.val; rw [(idx6 t).2]; omega
  exact ((hR : A6 m c t (aft 6 t)) a _ b rfl).trans e.symm

theorem cover6 (i : S8192x8192.Idx) : ∃ t : Fin cfg0.N, (cfg0.win 6).flush t = true ∧ i ∈ ((cfg0.win 6).blk t).view.set := by
  have h0 : (i 0 : Nat) < 8192 := (i 0).isLt
  have h1 : (i 1 : Nat) < 8192 := (i 1).isLt
  have hN : cfg0.N = 32 := N_0
  obtain ⟨t, ht⟩ : ∃ t : Fin cfg0.N, t.val = (i 0 : Nat) / 256 := ⟨⟨(i 0 : Nat) / 256, by omega⟩, rfl⟩
  refine ⟨t, flush0_6 t, ?_⟩
  show i ∈ ((View.whole main_v5_0).slice (win0_6.rect t)).set
  rw [View.set_slice_whole, Rect.mem_set_unit]
  intro d
  match d with
  | ⟨0, _⟩ =>
    show win0_6.index t 0 * 256 ≤ (i 0 : Nat) ∧ (i 0 : Nat) < win0_6.index t 0 * 256 + 256
    rw [(idx6 t).1]; omega
  | ⟨1, _⟩ =>
    show win0_6.index t 1 * 8192 ≤ (i 1 : Nat) ∧ (i 1 : Nat) < win0_6.index t 1 * 8192 + 8192
    rw [(idx6 t).2]; omega

theorem flushed7 (c : Dev nD) (hL : ∀ w u, (cfg0.win w).flush u = true → (rd m c).Leaves w u (aft w u)) (t : Fin cfg0.N)
    (ht : (cfg0.win 7).flush t = true) :
    ((rd m c).withAfter aft).flushed 7 t = ((cfg0.win 7).blk t).view.read (Elt Ideal) (G1 m c) := by
  have hN : t.val < 32 := Nat.lt_of_lt_of_eq t.isLt N_0
  obtain ⟨Y, -, hR⟩ := hL 7 t ht
  funext j
  obtain ⟨a, b, rfl⟩ : ∃ (a : Fin 256) (b : Fin 8192), j = ix2 a b := ⟨j 0, j 1, eq_ix2 j⟩
  have e : ((cfg0.win 7).blk t).view.read (Elt Ideal) (G1 m c) (ix2 a b) = codeAt (ARGS m c) ⟨256 * t.val + a.val, by omega⟩ b := by
    rw [View.read_apply]
    show G1 m c _ = G1 m c (ix2 ⟨256 * t.val + a.val, _⟩ b)
    congr 1
    funext d
    apply Fin.ext
    match d with
    | ⟨0, _⟩ => show win0_7.index t 0 * 256 + 1 * a.val = 256 * t.val + a.val; rw [(idx7 t).1]; omega
    | ⟨1, _⟩ => show win0_7.index t 1 * 8192 + 1 * b.val = b.val; rw [(idx7 t).2]; omega
  exact ((hR : A7 m c t (aft 7 t)) a _ b rfl).trans e.symm

theorem cover7 (i : S8192x8192.Idx) : ∃ t : Fin cfg0.N, (cfg0.win 7).flush t = true ∧ i ∈ ((cfg0.win 7).blk t).view.set := by
  have h0 : (i 0 : Nat) < 8192 := (i 0).isLt
  have h1 : (i 1 : Nat) < 8192 := (i 1).isLt
  have hN : cfg0.N = 32 := N_0
  obtain ⟨t, ht⟩ : ∃ t : Fin cfg0.N, t.val = (i 0 : Nat) / 256 := ⟨⟨(i 0 : Nat) / 256, by omega⟩, rfl⟩
  refine ⟨t, flush0_7 t, ?_⟩
  show i ∈ ((View.whole main_v5_1).slice (win0_7.rect t)).set
  rw [View.set_slice_whole, Rect.mem_set_unit]
  intro d
  match d with
  | ⟨0, _⟩ =>
    show win0_7.index t 0 * 256 ≤ (i 0 : Nat) ∧ (i 0 : Nat) < win0_7.index t 0 * 256 + 256
    rw [(idx7 t).1]; omega
  | ⟨1, _⟩ =>
    show win0_7.index t 1 * 8192 ≤ (i 1 : Nat) ∧ (i 1 : Nat) < win0_7.index t 1 * 8192 + 8192
    rw [(idx7 t).2]; omega

theorem flushed9 (c : Dev nD) (hL : ∀ w u, (cfg0.win w).flush u = true → (rd m c).Leaves w u (aft w u)) (t : Fin cfg0.N)
    (ht : (cfg0.win 9).flush t = true) :
    ((rd m c).withAfter aft).flushed 9 t = ((cfg0.win 9).blk t).view.read (Elt Ideal) (G3 m c) := by
  have hN : t.val < 32 := Nat.lt_of_lt_of_eq t.isLt N_0
  obtain ⟨Y, -, hR⟩ := hL 9 t ht
  funext j
  obtain ⟨a, b, rfl⟩ : ∃ (a : Fin 256) (b : Fin 128), j = ix2 a b := ⟨j 0, j 1, eq_ix2 j⟩
  have e : ((cfg0.win 9).blk t).view.read (Elt Ideal) (G3 m c) (ix2 a b) = scaleAt (ARGS m c) ⟨256 * t.val + a.val, by omega⟩ := by
    rw [View.read_apply]
    show G3 m c _ = G3 m c (ix2 ⟨256 * t.val + a.val, _⟩ b)
    congr 1
    funext d
    apply Fin.ext
    match d with
    | ⟨0, _⟩ => show win0_9.index t 0 * 256 + 1 * a.val = 256 * t.val + a.val; rw [(idx9 t).1]; omega
    | ⟨1, _⟩ => show win0_9.index t 1 * 128 + 1 * b.val = b.val; rw [(idx9 t).2]; omega
  exact ((hR : A9 m c t (aft 9 t)) a _ b rfl).trans e.symm

theorem cover9 (i : S8192x128.Idx) : ∃ t : Fin cfg0.N, (cfg0.win 9).flush t = true ∧ i ∈ ((cfg0.win 9).blk t).view.set := by
  have h0 : (i 0 : Nat) < 8192 := (i 0).isLt
  have h1 : (i 1 : Nat) < 128 := (i 1).isLt
  have hN : cfg0.N = 32 := N_0
  obtain ⟨t, ht⟩ : ∃ t : Fin cfg0.N, t.val = (i 0 : Nat) / 256 := ⟨⟨(i 0 : Nat) / 256, by omega⟩, rfl⟩
  refine ⟨t, flush0_9 t, ?_⟩
  show i ∈ ((View.whole main_v5_3).slice (win0_9.rect t)).set
  rw [View.set_slice_whole, Rect.mem_set_unit]
  intro d
  match d with
  | ⟨0, _⟩ =>
    show win0_9.index t 0 * 256 ≤ (i 0 : Nat) ∧ (i 0 : Nat) < win0_9.index t 0 * 256 + 256
    rw [(idx9 t).1]; omega
  | ⟨1, _⟩ =>
    show win0_9.index t 1 * 128 ≤ (i 1 : Nat) ∧ (i 1 : Nat) < win0_9.index t 1 * 128 + 128
    rw [(idx9 t).2]; omega

theorem flushed8 (c : Dev nD) (hL : ∀ w u, (cfg0.win w).flush u = true → (rd m c).Leaves w u (aft w u)) (t : Fin cfg0.N)
    (ht : (cfg0.win 8).flush t = true) :
    ((rd m c).withAfter aft).flushed 8 t = ((cfg0.win 8).blk t).view.read (Elt Ideal) (G2 m c) := by
  have h15 := (flush0_8 t).mp ht
  have hN : t.val < 32 := Nat.lt_of_lt_of_eq t.isLt N_0
  funext j
  obtain ⟨a, b, rfl⟩ : ∃ (a : Fin 2) (b : Fin 4096), j = ix2 a b := ⟨j 0, j 1, eq_ix2 j⟩
  have e : ((cfg0.win 8).blk t).view.read (Elt Ideal) (G2 m c) (ix2 a b) = scaleAt (ARGS m c) (brow a b) := by
    rw [View.read_apply]
    show G2 m c _ = G2 m c (ix2 a b)
    congr 1
    funext d
    apply Fin.ext
    match d with
    | ⟨0, _⟩ => show win0_8.index t 0 * 2 + 1 * a.val = a.val; rw [(idx8 t).1]; omega
    | ⟨1, _⟩ => show win0_8.index t 1 * 4096 + 1 * b.val = b.val; rw [(idx8 t).2]; omega
  exact (scales_upto m c t.val t.isLt (aft 8 t) (hL 8 t ht) a b (by omega)).trans e.symm

theorem cover8 (i : S2x4096.Idx) : ∃ t : Fin cfg0.N, (cfg0.win 8).flush t = true ∧ i ∈ ((cfg0.win 8).blk t).view.set := by
  have h0 : (i 0 : Nat) < 2 := (i 0).isLt
  have h1 : (i 1 : Nat) < 4096 := (i 1).isLt
  have hN : cfg0.N = 32 := N_0
  obtain ⟨t, ht⟩ : ∃ t : Fin cfg0.N, t.val = 31 := ⟨⟨31, by omega⟩, rfl⟩
  refine ⟨t, (flush0_8 t).mpr (by omega), ?_⟩
  show i ∈ ((View.whole main_v5_2).slice (win0_8.rect t)).set
  rw [View.set_slice_whole, Rect.mem_set_unit]
  intro d
  match d with
  | ⟨0, _⟩ =>
    show win0_8.index t 0 * 2 ≤ (i 0 : Nat) ∧ (i 0 : Nat) < win0_8.index t 0 * 2 + 2
    rw [(idx8 t).1]; omega
  | ⟨1, _⟩ =>
    show win0_8.index t 1 * 4096 ≤ (i 1 : Nat) ∧ (i 1 : Nat) < win0_8.index t 1 * 4096 + 4096
    rw [(idx8 t).2]; omega

/-- The run, read: the result arrays, the arguments unchanged. -/
theorem value : θ_run defs (onTc (τ := τ) (main (F := Ideal))) ⟨m, fun _ => 0, ρ⟩ fun r => ∀ c : Dev nD,
      r.2.mem ((c : Thread nD τ).loc main_v5_0) = G0 m c
      ∧ r.2.mem ((c : Thread nD τ).loc main_v5_1) = G1 m c
      ∧ r.2.mem ((c : Thread nD τ).loc main_v5_2) = G2 m c
      ∧ r.2.mem ((c : Thread nD τ).loc main_v5_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (Cert.Proof.OutProjIdeal.run m ρ (after m) (steps m))
  obtain ⟨aft, hL, hA⟩ := RDat.FramePost.exists_exact h.1 c
  exact ⟨(hA 6).trans (((rd m c).withAfter aft).arrAt_eq_of_cover 6 (G0 m c) (flushed6 m aft c hL) cover6),
    (hA 7).trans (((rd m c).withAfter aft).arrAt_eq_of_cover 7 (G1 m c) (flushed7 m aft c hL) cover7),
    (hA 8).trans (((rd m c).withAfter aft).arrAt_eq_of_cover 8 (G2 m c) (flushed8 m aft c hL) cover8),
    (hA 9).trans (((rd m c).withAfter aft).arrAt_eq_of_cover 9 (G3 m c) (flushed9 m aft c hL) cover9),
    Cert.Proof.OutProjIdeal.unchanged_of m _ h.1 c⟩

end Cert.Proof.OutProjKernel

end
-- ==== Proof.OutProjRef.lean ====
/-
  Hand-written, untrusted. THE OUTPUT PROJECTION'S REFERENCE over the extended reals, one block holding the whole arrays, and
  the claim: the kernel's four result arrays and the reference's are equal.
-/
module

public import proofs.«01_k».proof.Defs
public import proofs.«01_k».proof.Proof.OutProjKernel
public import proofs.«01_k».proof.Proof.Fold
public import proofs.«01_k».proof.Proof.Gen.OutProjRefIdeal.Frame
public import proofs.«01_k».proof.Proof.Gen.OutProjRefIdeal.Value

@[expose] public section

set_option maxRecDepth 16384

noncomputable section

namespace Cert.Proof.OutProjReference

open Idealize.ShloMosaic Idealize.ShloMosaic.TcCoe Idealize.SL.Sem Idealize.ShloMosaic.ValueIdx
open Cert.OutProjRefIdeal Cert.OutProjRefIdeal.Gen Cert.Proof.Ops Cert.Proof.Quant Cert.Proof.Fold
open Cert.Proof.OutProjSpec (Args rms rms_pos len eps hAt codeAt scaleAt scF codeF fmax_div rowsum fold_apply fold_col hi lo hs codes scales rows)

variable (m : (ℓ : Loc nD τ sig) → Buf (Elt Ideal) ℓ) (ρ : Dev nD → PrngReg)

theorem hi_bat (b : Fin 2) (t : Fin 4096) : hi (bat b t) = b :=
  Fin.ext (by show (4096 * b.val + t.val) / 4096 = b.val; omega)
theorem lo_bat (b : Fin 2) (t : Fin 4096) : lo (bat b t) = t :=
  Fin.ext (by show (4096 * b.val + t.val) % 4096 = t.val; omega)

/-! ## The payloads -/

section Pay

variable (A : Args) (v0 : Vec Ideal S2x4096 .f32) (v2 : Vec Ideal S8192x8192 .bf16) (v5 : Vec Ideal S8192x1024 .fp8e4m3)
  (v7 : Vec Ideal S1024x8192 .fp8e4m3) (v8 : Vec Ideal S1x8192 .f32) (v17 : Vec Ideal S1x8192 .f32)

/-- The blocks hold the arguments. -/
structure Whole : Prop where
  x : ∀ a k, v5 (ix2 a k) = A.x a k
  q : ∀ a, v0 (ix2 (hi a) (lo a)) = A.r a
  w : ∀ k b, v7 (ix2 k b) = A.w k b
  s : ∀ b, v8 (ix2 0 b) = A.s b
  y : ∀ a b, v2 (ix2 a b) = A.y a b
  l : ∀ b, v17 (ix2 0 b) = A.l b

variable {A v0 v2 v5 v7 v8 v17} (h : Whole A v0 v2 v5 v7 v8 v17)

include h

/-- The updated residual. -/
theorem pay4 (a b : Fin 8192) : k0_pay4 v0 v2 v5 v7 v8 (ix2 a b) = hAt A a b := by
  unfold k0_pay4
  rw [show dot_S8192x1024_S1024x8192_S8192x8192_1_0_0_1_n_n = DotDims.plain 8192 1024 8192 from rfl]
  rw [shapeCast_self v2, shapeCast_self v5, shapeCast_self v8]
  have e (C : FVec Ideal S8192x1 .f32) (hC : C (ix2 a 0) = A.r a) :
      addf (extf .f32 v2 bitsLt_bf16_f32) (mulf (mulf (matmul (φ₁ := .fp8e4m3) (φ₂ := .fp8e4m3) (DotDims.plain 8192 1024 8192) none v5 v7 (constant S8192x8192 .f32 0x00000000#32))
        (broadcastTo S8192x8192 C broadcasts_S8192x1_S8192x8192)) (broadcastTo S8192x8192 v8 broadcasts_S1x8192_S8192x8192)) (ix2 a b)
      = hAt A a b := by
    show v2 (ix2 a b) + FloatOps.matmul (F := Ideal) (DotDims.plain 8192 1024 8192) none v5 v7 (constant S8192x8192 .f32 0x00000000#32) (ix2 a b)
        * broadcastTo S8192x8192 C broadcasts_S8192x1_S8192x8192 (ix2 a b)
        * broadcastTo S8192x8192 v8 broadcasts_S1x8192_S8192x8192 (ix2 a b) = _
    rw [Ideal.matmul_plain_apply, bcol, Ops.brow, hC, h.s, h.y]
    rw [show (constant S8192x8192 .f32 0x00000000#32 : FVec Ideal S8192x8192 .f32) (ix2 a b) = 0 from Ideal.ofBits_zero_f32, zero_add]
    unfold hAt
    exact congrArg (fun z : EReal => A.y a b + z * A.r a * A.s b) (Finset.sum_congr rfl fun k _ =>
      congrArg₂ (fun p q : EReal => p * q) (h.x a k) (h.w k b))
  exact e _ ((fold_col v0 _ a).trans (h.q a))

omit h in
/-- A row weighted and divided by its root mean square, as the reference prints it. -/
theorem norm_apply (H L : FVec Ideal S8192x8192 .f32) (a b : Fin 8192) :
    divf (mulf H L) (broadcastTo S8192x8192 (sqrt (addf (divf (shapeCast S8192x1 (multiReduction .add [1] S8192 (mulf H H) 0x00000000#32 reduces_S8192x8192_S8192 (.inl rfl) rfl) shapeCasts_S8192_S8192x1)
      (broadcast S8192x1 (Scalar.ofBits (F := Ideal) .f32 0x46000000#32))) (broadcast S8192x1 (Scalar.ofBits (F := Ideal) .f32 0x358637BD#32)))) broadcasts_S8192x1_S8192x8192) (ix2 a b)
      = Ideal.div (H (ix2 a b) * L (ix2 a b)) (rms fun k => H (ix2 a k)) := by
  refine congrArg (fun z => Ideal.div (H (ix2 a b) * L (ix2 a b)) z) ((bcol _ _ a b).trans ?_)
  show Ideal.sqrt (Ideal.div (shapeCast S8192x1 (multiReduction .add [1] S8192 (mulf H H) 0x00000000#32 reduces_S8192x8192_S8192 (.inl rfl) rfl) shapeCasts_S8192_S8192x1 (ix2 a 0)) len + eps) = _
  unfold rms
  exact congrArg (fun z => Ideal.sqrt (Ideal.div z len + eps)) ((scast_col _ _ a).trans (rowsum (mulf H H) _ _ _ a))

/-- The normalised row. -/
theorem pay5 (b : Fin 2) (t : Fin 4096) (k : Fin 8192) :
    k0_pay5 v0 v2 v5 v7 v8 v17 (ix3 b t k) = Ideal.div (hAt A (bat b t) k * A.l k) (rms (hAt A (bat b t))) := by
  unfold k0_pay5
  refine (split _ _ b t k).trans ?_
  rw [shapeCast_self v17]
  refine (norm_apply (k0_pay4 v0 v2 v5 v7 v8) (broadcastTo S8192x8192 v17 broadcasts_S1x8192_S8192x8192) (bat b t) k).trans ?_
  rw [Ops.brow, h.l, pay4 h]
  exact congrArg (fun f => Ideal.div (hAt A (bat b t) k * A.l k) (rms f)) (funext fun k => pay4 h (bat b t) k)

theorem scale (b : Fin 2) (t : Fin 4096) :
    k0_pay1 (k0_pay7 v0 v2 v5 v7 v8 v17) (k0_pay8 v0 v2 v5 v7 v8 v17) (ix2 b t) = scaleAt A (bat b t) := by
  unfold k0_pay1 k0_pay7 k0_pay8
  refine (select_sc (k0_pay6 v0 v2 v5 v7 v8 v17) (ix2 b t)).trans ?_
  unfold k0_pay6
  refine (congrArg sc (rowmax3 _ _ _ _ b t)).trans ?_
  unfold scaleAt scF
  rw [← fmax_div (by omega) (rms_pos _)]
  refine congrArg (fun f => sc (fmax f)) (funext fun k => ?_)
  show FloatOps.absf (F := Ideal) (φ := .f32) (k0_pay5 v0 v2 v5 v7 v8 v17 (ix3 b t k)) = _
  rw [pay5 h]

omit h in
/-- An array divided by its rows' scales and clipped. -/
theorem quantise (P : FVec Ideal S2x4096x8192 .f32) (R : FVec Ideal S2x4096x1 .f32) (b : Fin 2) (t : Fin 4096) (k : Fin 8192) :
    truncf .fp8e4m3 (minimumf (broadcast S2x4096x8192 (Scalar.ofBits (F := Ideal) .f32 0x43E00000#32))
      (maximumf (broadcast S2x4096x8192 (Scalar.ofBits (F := Ideal) .f32 0xC3E00000#32))
        (divf P (broadcastTo S2x4096x8192 R broadcasts_S2x4096x1_S2x4096x8192)))) bitsLt_fp8e4m3_f32 (ix3 b t k)
      = clip (Ideal.div (P (ix3 b t k)) (R (ix3 b t 0))) :=
  congrArg (fun z => clip (Ideal.div (P (ix3 b t k)) z)) (bcol3 _ _ b t k)

theorem code (a k : Fin 8192) :
    k0_pay2 (k0_pay5 v0 v2 v5 v7 v8 v17) (k0_pay7 v0 v2 v5 v7 v8 v17) (k0_pay8 v0 v2 v5 v7 v8 v17) (ix2 a k) = codeAt A a k := by
  obtain ⟨b, t, rfl⟩ := exists_bat a
  unfold k0_pay2
  refine (join _ _ b t k).trans ((quantise _ _ b t k).trans ?_)
  rw [col3, pay5 h, scale h]
  rfl

theorem row (a : Fin 8192) (k : Fin 128) : k0_pay3 (k0_pay7 v0 v2 v5 v7 v8 v17) (k0_pay8 v0 v2 v5 v7 v8 v17) (ix2 a k) = scaleAt A a := by
  obtain ⟨b, t, rfl⟩ := exists_bat a
  unfold k0_pay3
  refine (join _ _ b t k).trans ?_
  rw [shapeCast_self, bcol3, col3, scale h]

end Pay

/-! ## The windows -/

theorem idx0 : ∀ (t : Fin grid0.N) (d : Fin 2), win0_0.index t d = 0 := by decide +kernel
theorem idx1 : ∀ (t : Fin grid0.N) (d : Fin 2), win0_1.index t d = 0 := by decide +kernel
theorem idx2 : ∀ (t : Fin grid0.N) (d : Fin 2), win0_2.index t d = 0 := by decide +kernel
theorem idx3 : ∀ (t : Fin grid0.N) (d : Fin 2), win0_3.index t d = 0 := by decide +kernel
theorem idx4 : ∀ (t : Fin grid0.N) (d : Fin 2), win0_4.index t d = 0 := by decide +kernel
theorem idx5 : ∀ (t : Fin grid0.N) (d : Fin 2), win0_5.index t d = 0 := by decide +kernel
theorem idx6 : ∀ (t : Fin grid0.N) (d : Fin 2), win0_6.index t d = 0 := by decide +kernel
theorem idx7 : ∀ (t : Fin grid0.N) (d : Fin 2), win0_7.index t d = 0 := by decide +kernel
theorem idx8 : ∀ (t : Fin grid0.N) (d : Fin 2), win0_8.index t d = 0 := by decide +kernel
theorem idx9 : ∀ (t : Fin grid0.N) (d : Fin 2), win0_9.index t d = 0 := by decide +kernel

theorem b0 (c : Dev nD) (t : Fin cfg0.N) : (iblk m c 0 t : Vec Ideal S8192x1024 .fp8e4m3) = V m c main_v0 := by
  have hz' : (fun a => win0_0.index t a * main_v0.ty.shape.size a) = fun _ => 0 := funext fun a => by rw [idx0 t, Nat.zero_mul]
  exact Memref.read_access_unit_zero (Elt Ideal) main_v0 hz' (fun a => by rw [congrFun hz' a]; simp) (V m c main_v0)
theorem b1 (c : Dev nD) (t : Fin cfg0.N) : (iblk m c 1 t : Vec Ideal S2x4096 .f32) = V m c main_arg1 := by
  have hz' : (fun a => win0_1.index t a * main_arg1.ty.shape.size a) = fun _ => 0 := funext fun a => by rw [idx1 t, Nat.zero_mul]
  exact Memref.read_access_unit_zero (Elt Ideal) main_arg1 hz' (fun a => by rw [congrFun hz' a]; simp) (V m c main_arg1)
theorem b2 (c : Dev nD) (t : Fin cfg0.N) : (iblk m c 2 t : Vec Ideal S1024x8192 .fp8e4m3) = V m c main_arg2 := by
  have hz' : (fun a => win0_2.index t a * main_arg2.ty.shape.size a) = fun _ => 0 := funext fun a => by rw [idx2 t, Nat.zero_mul]
  exact Memref.read_access_unit_zero (Elt Ideal) main_arg2 hz' (fun a => by rw [congrFun hz' a]; simp) (V m c main_arg2)
theorem b3 (c : Dev nD) (t : Fin cfg0.N) : (iblk m c 3 t : Vec Ideal S1x8192 .f32) = V m c main_v1 := by
  have hz' : (fun a => win0_3.index t a * main_v1.ty.shape.size a) = fun _ => 0 := funext fun a => by rw [idx3 t, Nat.zero_mul]
  exact Memref.read_access_unit_zero (Elt Ideal) main_v1 hz' (fun a => by rw [congrFun hz' a]; simp) (V m c main_v1)
theorem b4 (c : Dev nD) (t : Fin cfg0.N) : (iblk m c 4 t : Vec Ideal S8192x8192 .bf16) = V m c main_v2 := by
  have hz' : (fun a => win0_4.index t a * main_v2.ty.shape.size a) = fun _ => 0 := funext fun a => by rw [idx4 t, Nat.zero_mul]
  exact Memref.read_access_unit_zero (Elt Ideal) main_v2 hz' (fun a => by rw [congrFun hz' a]; simp) (V m c main_v2)
theorem b5 (c : Dev nD) (t : Fin cfg0.N) : (iblk m c 5 t : Vec Ideal S1x8192 .f32) = V m c main_v3 := by
  have hz' : (fun a => win0_5.index t a * main_v3.ty.shape.size a) = fun _ => 0 := funext fun a => by rw [idx5 t, Nat.zero_mul]
  exact Memref.read_access_unit_zero (Elt Ideal) main_v3 hz' (fun a => by rw [congrFun hz' a]; simp) (V m c main_v3)

/-- The arguments on device `c`. -/
def ARGS (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem V_x (c : Dev nD) (a : Fin 8192) (k : Fin 1024) :
    (V m c main_v0 : Vec Ideal S8192x1024 .fp8e4m3) (ix2 a k) = (ARGS m c).x a k := by
  unfold V hostOps0
  after_results
  show shapeCast S8192x1024 (m ((c : Thread nD τ).loc main_arg0) : Vec Ideal S2x4096x1024 .fp8e4m3) shapeCasts_S2x4096x1024_S8192x1024 (ix2 a k) = _
  exact fold_apply _ _ a k

theorem V_s (c : Dev nD) (b : Fin 8192) : (V m c main_v1 : Vec Ideal S1x8192 .f32) (ix2 0 b) = (ARGS m c).s b := by
  unfold V hostOps0
  after_results
  exact broadcastInDim_apply _ _ _ (ix2 0 b) (ix1 b) fun a => by
    match a with
    | ⟨0, _⟩ => simp [ix1, ix2]

theorem V_y (c : Dev nD) (a b : Fin 8192) : (V m c main_v2 : Vec Ideal S8192x8192 .bf16) (ix2 a b) = (ARGS m c).y a b := by
  unfold V hostOps0
  after_results
  show shapeCast S8192x8192 (m ((c : Thread nD τ).loc main_arg4) : Vec Ideal S2x4096x8192 .bf16) shapeCasts_S2x4096x8192_S8192x8192 (ix2 a b) = _
  exact fold_apply _ _ a b

theorem V_l (c : Dev nD) (b : Fin 8192) : (V m c main_v3 : Vec Ideal S1x8192 .f32) (ix2 0 b) = (ARGS m c).l b := by
  unfold V hostOps0
  after_results
  exact broadcastInDim_apply _ _ _ (ix2 0 b) (ix1 b) fun a => by
    match a with
    | ⟨0, _⟩ => simp [ix1, ix2]

theorem whole (c : Dev nD) : Whole (ARGS m c) (V m c main_arg1) (V m c main_v2) (V m c main_v0) (V m c main_arg2) (V m c main_v1) (V m c main_v3) where
  x := V_x m c
  q a := congrFun (V_main_arg1 m c) (ix2 (hi a) (lo a))
  w k b := congrFun (V_main_arg2 m c) (ix2 k b)
  s := V_s m c
  y := V_y m c
  l := V_l m c

/-! ## The result arrays -/

abbrev G0 (c : Dev nD) : Buf (Elt Ideal) ((c : Thread nD τ).loc main_v4_0) := hs (ARGS m c)
abbrev G1 (c : Dev nD) : Buf (Elt Ideal) ((c : Thread nD τ).loc main_v4_1) := codes (ARGS m c)
abbrev G2 (c : Dev nD) : Buf (Elt Ideal) ((c : Thread nD τ).loc main_v4_2) := scales (ARGS m c)
abbrev G3 (c : Dev nD) : Buf (Elt Ideal) ((c : Thread nD τ).loc main_v4_3) := rows (ARGS m c)

theorem flushed6 (c : Dev nD) (t : Fin cfg0.N) :
    (dats m 0 c).flushed 6 t = ((cfg0.win 6).blk t).view.read (Elt Ideal) (G0 m c) := by
  rw [Value.flushed6]
  have hz' : (fun a => win0_6.index t a * main_v4_0.ty.shape.size a) = fun _ => 0 := funext fun a => by rw [idx6 t, Nat.zero_mul]
  refine Eq.trans ?_ (Memref.read_access_unit_zero (Elt Ideal) main_v4_0 hz' (fun a => by rw [congrFun hz' a]; simp) (G0 m c)).symm
  funext j
  obtain ⟨a, b, rfl⟩ : ∃ (a : Fin 8192) (b : Fin 8192), j = ix2 a b := ⟨j 0, j 1, eq_ix2 j⟩
  show out0_6 (iblk m c 0 t) (iblk m c 1 t) (iblk m c 2 t) (iblk m c 3 t) (iblk m c 4 t) (iblk m c 5 t) (ix2 a b) = _
  unfold out0_6
  rw [View.canon_unit_zero hz, View.ld_unit_zero hz, View.ld_unit_zero hz, View.ld_unit_zero hz, View.ld_unit_zero hz, View.ld_unit_zero hz, b0, b1, b2, b3, b4]
  exact pay4 (whole m c) a b

theorem cover6 (i : S8192x8192.Idx) : ∃ t : Fin cfg0.N, (cfg0.win 6).flush t = true ∧ i ∈ ((cfg0.win 6).blk t).view.set := by
  have hN : cfg0.N = 1 := N_0
  have h0 : (i 0 : Nat) < 8192 := (i 0).isLt
  have h1 : (i 1 : Nat) < 8192 := (i 1).isLt
  obtain ⟨t, -⟩ : ∃ t : Fin cfg0.N, t.val = 0 := ⟨⟨0, by omega⟩, rfl⟩
  refine ⟨t, flush0_6 _, ?_⟩
  show i ∈ ((View.whole main_v4_0).slice (win0_6.rect t)).set
  rw [View.set_slice_whole, Rect.mem_set_unit]
  intro d
  show win0_6.index t d * _ ≤ (i d : Nat) ∧ (i d : Nat) < win0_6.index t d * _ + _
  rw [idx6 t d, Nat.zero_mul, Nat.zero_add]
  exact ⟨Nat.zero_le _, (i d).isLt⟩

theorem flushed7 (c : Dev nD) (t : Fin cfg0.N) :
    (dats m 0 c).flushed 7 t = ((cfg0.win 7).blk t).view.read (Elt Ideal) (G1 m c) := by
  rw [Value.flushed7]
  have hz' : (fun a => win0_7.index t a * main_v4_1.ty.shape.size a) = fun _ => 0 := funext fun a => by rw [idx7 t, Nat.zero_mul]
  refine Eq.trans ?_ (Memref.read_access_unit_zero (Elt Ideal) main_v4_1 hz' (fun a => by rw [congrFun hz' a]; simp) (G1 m c)).symm
  funext j
  obtain ⟨a, b, rfl⟩ : ∃ (a : Fin 8192) (b : Fin 8192), j = ix2 a b := ⟨j 0, j 1, eq_ix2 j⟩
  show out0_7 (iblk m c 0 t) (iblk m c 1 t) (iblk m c 2 t) (iblk m c 3 t) (iblk m c 4 t) (iblk m c 5 t) (ix2 a b) = _
  unfold out0_7 k0_pay9 k0_pay10
  rw [View.canon_unit_zero hz, View.ld_unit_zero hz, View.ld_unit_zero hz, View.ld_unit_zero hz, View.ld_unit_zero hz, View.ld_unit_zero hz, View.ld_unit_zero hz, b0, b1, b2, b3, b4, b5]
  exact code (whole m c) a b

theorem cover7 (i : S8192x8192.Idx) : ∃ t : Fin cfg0.N, (cfg0.win 7).flush t = true ∧ i ∈ ((cfg0.win 7).blk t).view.set := by
  have hN : cfg0.N = 1 := N_0
  have h0 : (i 0 : Nat) < 8192 := (i 0).isLt
  have h1 : (i 1 : Nat) < 8192 := (i 1).isLt
  obtain ⟨t, -⟩ : ∃ t : Fin cfg0.N, t.val = 0 := ⟨⟨0, by omega⟩, rfl⟩
  refine ⟨t, flush0_7 _, ?_⟩
  show i ∈ ((View.whole main_v4_1).slice (win0_7.rect t)).set
  rw [View.set_slice_whole, Rect.mem_set_unit]
  intro d
  show win0_7.index t d * _ ≤ (i d : Nat) ∧ (i d : Nat) < win0_7.index t d * _ + _
  rw [idx7 t d, Nat.zero_mul, Nat.zero_add]
  exact ⟨Nat.zero_le _, (i d).isLt⟩

theorem flushed8 (c : Dev nD) (t : Fin cfg0.N) :
    (dats m 0 c).flushed 8 t = ((cfg0.win 8).blk t).view.read (Elt Ideal) (G2 m c) := by
  rw [Value.flushed8]
  have hz' : (fun a => win0_8.index t a * main_v4_2.ty.shape.size a) = fun _ => 0 := funext fun a => by rw [idx8 t, Nat.zero_mul]
  refine Eq.trans ?_ (Memref.read_access_unit_zero (Elt Ideal) main_v4_2 hz' (fun a => by rw [congrFun hz' a]; simp) (G2 m c)).symm
  funext j
  obtain ⟨a, b, rfl⟩ : ∃ (a : Fin 2) (b : Fin 4096), j = ix2 a b := ⟨j 0, j 1, eq_ix2 j⟩
  show out0_8 (iblk m c 0 t) (iblk m c 1 t) (iblk m c 2 t) (iblk m c 3 t) (iblk m c 4 t) (iblk m c 5 t) (ix2 a b) = _
  unfold out0_8 k0_pay9 k0_pay10
  rw [View.canon_unit_zero hz, View.ld_unit_zero hz, View.ld_unit_zero hz, View.ld_unit_zero hz, View.ld_unit_zero hz, View.ld_unit_zero hz, View.ld_unit_zero hz, b0, b1, b2, b3, b4, b5]
  exact scale (whole m c) a b

theorem cover8 (i : S2x4096.Idx) : ∃ t : Fin cfg0.N, (cfg0.win 8).flush t = true ∧ i ∈ ((cfg0.win 8).blk t).view.set := by
  have hN : cfg0.N = 1 := N_0
  have h0 : (i 0 : Nat) < 2 := (i 0).isLt
  have h1 : (i 1 : Nat) < 4096 := (i 1).isLt
  obtain ⟨t, -⟩ : ∃ t : Fin cfg0.N, t.val = 0 := ⟨⟨0, by omega⟩, rfl⟩
  refine ⟨t, flush0_8 _, ?_⟩
  show i ∈ ((View.whole main_v4_2).slice (win0_8.rect t)).set
  rw [View.set_slice_whole, Rect.mem_set_unit]
  intro d
  show win0_8.index t d * _ ≤ (i d : Nat) ∧ (i d : Nat) < win0_8.index t d * _ + _
  rw [idx8 t d, Nat.zero_mul, Nat.zero_add]
  exact ⟨Nat.zero_le _, (i d).isLt⟩

theorem flushed9 (c : Dev nD) (t : Fin cfg0.N) :
    (dats m 0 c).flushed 9 t = ((cfg0.win 9).blk t).view.read (Elt Ideal) (G3 m c) := by
  rw [Value.flushed9]
  have hz' : (fun a => win0_9.index t a * main_v4_3.ty.shape.size a) = fun _ => 0 := funext fun a => by rw [idx9 t, Nat.zero_mul]
  refine Eq.trans ?_ (Memref.read_access_unit_zero (Elt Ideal) main_v4_3 hz' (fun a => by rw [congrFun hz' a]; simp) (G3 m c)).symm
  funext j
  obtain ⟨a, b, rfl⟩ : ∃ (a : Fin 8192) (b : Fin 128), j = ix2 a b := ⟨j 0, j 1, eq_ix2 j⟩
  show out0_9 (iblk m c 0 t) (iblk m c 1 t) (iblk m c 2 t) (iblk m c 3 t) (iblk m c 4 t) (iblk m c 5 t) (ix2 a b) = _
  unfold out0_9 k0_pay9 k0_pay10
  rw [View.canon_unit_zero hz, View.ld_unit_zero hz, View.ld_unit_zero hz, View.ld_unit_zero hz, View.ld_unit_zero hz, View.ld_unit_zero hz, View.ld_unit_zero hz, b0, b1, b2, b3, b4, b5]
  exact row (whole m c) a b

theorem cover9 (i : S8192x128.Idx) : ∃ t : Fin cfg0.N, (cfg0.win 9).flush t = true ∧ i ∈ ((cfg0.win 9).blk t).view.set := by
  have hN : cfg0.N = 1 := N_0
  have h0 : (i 0 : Nat) < 8192 := (i 0).isLt
  have h1 : (i 1 : Nat) < 128 := (i 1).isLt
  obtain ⟨t, -⟩ : ∃ t : Fin cfg0.N, t.val = 0 := ⟨⟨0, by omega⟩, rfl⟩
  refine ⟨t, flush0_9 _, ?_⟩
  show i ∈ ((View.whole main_v4_3).slice (win0_9.rect t)).set
  rw [View.set_slice_whole, Rect.mem_set_unit]
  intro d
  show win0_9.index t d * _ ≤ (i d : Nat) ∧ (i d : Nat) < win0_9.index t d * _ + _
  rw [idx9 t d, Nat.zero_mul, Nat.zero_add]
  exact ⟨Nat.zero_le _, (i d).isLt⟩

/-- The run, read: the result arrays, the arguments unchanged. -/
theorem value : θ_run defs (onTc (τ := τ) (main (F := Ideal))) ⟨m, fun _ => 0, ρ⟩ fun r => ∀ c : Dev nD,
      r.2.mem ((c : Thread nD τ).loc main_v4_0) = G0 m c
      ∧ r.2.mem ((c : Thread nD τ).loc main_v4_1) = G1 m c
      ∧ r.2.mem ((c : Thread nD τ).loc main_v4_2) = G2 m c
      ∧ r.2.mem ((c : Thread nD τ).loc main_v4_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans ((dats m 0 c).arrAt_eq_of_cover 6 (G0 m c) (fun t _ => flushed6 m c t) cover6),
    (h c).2.1.trans ((dats m 0 c).arrAt_eq_of_cover 7 (G1 m c) (fun t _ => flushed7 m c t) cover7),
    (h c).2.2.1.trans ((dats m 0 c).arrAt_eq_of_cover 8 (G2 m c) (fun t _ => flushed8 m c t) cover8),
    (h c).2.2.2.1.trans ((dats m 0 c).arrAt_eq_of_cover 9 (G3 m c) (fun t _ => flushed9 m c t) cover9), (h c).2.2.2.2⟩) (Value.run_blocks m ρ)

end Cert.Proof.OutProjReference

/-! ## The claim -/

namespace Cert.Proof.OutProjClaims

open Idealize.ShloMosaic Idealize.ShloMosaic.TcCoe Idealize.SL.Sem

/-- From memories that agree on the arguments, the kernel's result arrays and the reference's are equal, element by
    element, as extended reals. -/
theorem algebraic : Cert.algebraic_OutProjIdeal_OutProjRefIdeal := by
  intro m ρ m' ρ' _ hag
  have e (c) : Cert.Proof.OutProjReference.ARGS m' c = Cert.Proof.OutProjKernel.ARGS m c := by
    obtain ⟨h0, h1, h2, h3, h4, h5⟩ := hag c
    unfold Cert.Proof.OutProjReference.ARGS Cert.Proof.OutProjKernel.ARGS
    rw [h0, h1, h2, h3, h4, h5]
  exact ⟨fun c => Cert.Proof.OutProjKernel.G0 m c, fun c => Cert.Proof.OutProjKernel.G1 m c, fun c => Cert.Proof.OutProjKernel.G2 m c,
    fun c => Cert.Proof.OutProjKernel.G3 m c, Cert.Proof.OutProjKernel.value m ρ,
    (θ_run Cert.OutProjRefIdeal.defs _ _).mono (fun _ h c => ⟨(h c).1.trans (congrArg Cert.Proof.OutProjSpec.hs (e c)),
      (h c).2.1.trans (congrArg Cert.Proof.OutProjSpec.codes (e c)), (h c).2.2.1.trans (congrArg Cert.Proof.OutProjSpec.scales (e c)),
      (h c).2.2.2.1.trans (congrArg Cert.Proof.OutProjSpec.rows (e c)), (h c).2.2.2.2⟩)
      (Cert.Proof.OutProjReference.value m' ρ')⟩

end Cert.Proof.OutProjClaims

end
-- ==== Proof.QkvIdealBody.lean ====
/-
  Hand-written, untrusted. THE QKV KERNEL'S BODY of `QkvIdeal`, run from any contents of its buffers: what it leaves in
  each, at the first, a middle and the last point of the first (`body_A0` … `body_A2`) and of the second batch.
-/
module

public import proofs.«01_k».proof.Proof.Gen.QkvIdeal.Frame
public import proofs.«01_k».proof.Proof.Gen.QkvIdeal.Skeleton
public import Idealize.ShloMosaic.Lib.VecWindow
public import Idealize.ShloMosaic.Lib.ValueIdx

@[expose] public section

set_option maxRecDepth 16384

noncomputable section

namespace Cert.Proof.QkvIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.QkvIdeal Cert.QkvIdeal.Gen

variable {F : FTy → Type} [FloatOps F]

local notation "𝕄" => MT nD τ sig Unit (Elt F) ℕ (UR sig nD τ) ℕ

/-! ## What the body computes from its inputs -/

/-- The rows' scales, -/
def scOf (x1 : Vec F S1x256x8192 .bf16) (x4 : Vec F S1x8192 .f32) : FVec F S256x1 .f32 := k0_pay8 x1 x4
/-- their codes, -/
def cdOf (x1 : Vec F S1x256x8192 .bf16) (x4 : Vec F S1x8192 .f32) : FVec F S256x8192 .fp8e4m3 := k0_pay9 x1 x4
/-- the projected rows, -/
def qkvOf (x1 : Vec F S1x256x8192 .bf16) (x4 : Vec F S1x8192 .f32) (x5 : Vec F S8192x1280 .fp8e4m3) (x6 : Vec F S1x1280 .f32) (x7 : Vec F S1x1280 .f32) : FVec F S256x1280 .f32 := k0_pay12 (scOf x1 x4) (cdOf x1 x4) x5 x6 x7
/-- the rotary cosines -/
def cosOf (x2 : Vec F S1x256x64 .f32) : FVec F S256x128 .f32 := k0_pay13 x2
/-- and sines, laid out twice, -/
def sinOf (x3 : Vec F S1x256x64 .f32) : FVec F S256x128 .f32 := k0_pay14 x3
/-- the keys -/
def kOf (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) : FVec F S256x128 .f32 := k0_pay15 (scOf x1 x4) (cdOf x1 x4) x5 x6 x7 x2 x3
/-- and the values. -/
def vOf (x1 : Vec F S1x256x8192 .bf16) (x4 : Vec F S1x8192 .f32) (x5 : Vec F S8192x1280 .fp8e4m3) (x6 : Vec F S1x1280 .f32) (x7 : Vec F S1x1280 .f32) : FVec F S256x128 .f32 := k0_pay16 (scOf x1 x4) (cdOf x1 x4) x5 x6 x7
/-- The batch's length. -/
def lenOf (i : grid0.Coords) (x0 : Vec F S2 .i32) : Elt F .i32 :=
  x0 (ValueIdx.ix1 ⟨k0_off3 i 0, k0_off3_inb i 0⟩)
/-- The masked sum of the keys added to what is there, -/
def addK (i : grid0.Coords) (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x16 : Vec F S1x1x128 .f32) : FVec F S1x1x128 .f32 :=
  k0_pay22 (BitVec.ofNat 32 (i 1).val) (kOf x1 x2 x3 x4 x5 x6 x7) (lenOf i x0) x16
/-- and of the values. -/
def addV (i : grid0.Coords) (x0 : Vec F S2 .i32) (x1 : Vec F S1x256x8192 .bf16) (x4 : Vec F S1x8192 .f32) (x5 : Vec F S8192x1280 .fp8e4m3) (x6 : Vec F S1x1280 .f32) (x7 : Vec F S1x1280 .f32) (x17 : Vec F S1x1x128 .f32) : FVec F S1x1x128 .f32 :=
  k0_pay25 (k0_pay23 x17) (k0_pay24 (BitVec.ofNat 32 (i 1).val) (vOf x1 x4 x5 x6 x7) (lenOf i x0))

/-- The 128 columns of the projected rows from column `o 1`, rotated. -/
def rot (o : Fin 2 → ℕ) (hs : S256x1280.Slices o S256x128) (Q : FVec F S256x1280 .f32) (C S : FVec F S256x128 .f32) : FVec F S256x128 .f32 :=
  addf (mulf (extractStridedSlice S256x128 o Q hs) C)
    (mulf (dynamicRotate 1 64#32 none (extractStridedSlice S256x128 o Q hs) rotates_S256x128_d1) S)
/-- Head 0's rotated queries. -/
def head0 (Q : FVec F S256x1280 .f32) (C S : FVec F S256x128 .f32) : FVec F S256x128 .f32 := rot ![0, 0] slices_S256x1280_o0_0_S256x128 Q C S
/-- Head 1's rotated queries. -/
def head1 (Q : FVec F S256x1280 .f32) (C S : FVec F S256x128 .f32) : FVec F S256x128 .f32 := rot ![0, 128] slices_S256x1280_o0_128_S256x128 Q C S
/-- Head 2's rotated queries. -/
def head2 (Q : FVec F S256x1280 .f32) (C S : FVec F S256x128 .f32) : FVec F S256x128 .f32 := rot ![0, 256] slices_S256x1280_o0_256_S256x128 Q C S
/-- Head 3's rotated queries. -/
def head3 (Q : FVec F S256x1280 .f32) (C S : FVec F S256x128 .f32) : FVec F S256x128 .f32 := rot ![0, 384] slices_S256x1280_o0_384_S256x128 Q C S
/-- Head 4's rotated queries. -/
def head4 (Q : FVec F S256x1280 .f32) (C S : FVec F S256x128 .f32) : FVec F S256x128 .f32 := rot ![0, 512] slices_S256x1280_o0_512_S256x128 Q C S
/-- Head 5's rotated queries. -/
def head5 (Q : FVec F S256x1280 .f32) (C S : FVec F S256x128 .f32) : FVec F S256x128 .f32 := rot ![0, 640] slices_S256x1280_o0_640_S256x128 Q C S
/-- Head 6's rotated queries. -/
def head6 (Q : FVec F S256x1280 .f32) (C S : FVec F S256x128 .f32) : FVec F S256x128 .f32 := rot ![0, 768] slices_S256x1280_o0_768_S256x128 Q C S
/-- Head 7's rotated queries. -/
def head7 (Q : FVec F S256x1280 .f32) (C S : FVec F S256x128 .f32) : FVec F S256x128 .f32 := rot ![0, 896] slices_S256x1280_o0_896_S256x128 Q C S
/-- A head's scales, one per 32 rows, -/
def headScale (V : FVec F S256x128 .f32) : FVec F S8x1 .f32 := k0_pay109 V (k0_pay105 (F := F))
/-- its codes, -/
def headCode (V : FVec F S256x128 .f32) : IVec S1x256x128 8 := k0_pay110 V (k0_pay105 (F := F))
/-- its means over 128 rows. -/
def headMean (V : FVec F S256x128 .f32) : FVec F S2x1x128 .f32 := k0_pay107 V (k0_pay105 (F := F))
/-- A head's scales written into column `n` of the array of scales. -/
def col8 (n : BitVec 32) (s : FVec F S8x1 .f32) (p : FVec F S8x8 .f32) : FVec F S8x8 .f32 :=
  select (cmpi .eq (iota .tc S8x8 32 [1] iota_S8x8_d1_w32) (broadcast S8x8 n))
    (broadcastTo S8x8 (shapeCast S8x1 s shapeCasts_S8x1_S8x1) broadcasts_S8x1_S8x8) p
/-- The block's scales, -/
def scales8 (Q : FVec F S256x1280 .f32) (C S : FVec F S256x128 .f32) : FVec F S1x8x8 .f32 := k0_pay3
  (col8 7#32 (headScale (head7 Q C S)) (col8 6#32 (headScale (head6 Q C S)) (col8 5#32 (headScale (head5 Q C S)) (col8 4#32 (headScale (head4 Q C S)) (col8 3#32 (headScale (head3 Q C S)) (col8 2#32 (headScale (head2 Q C S)) (col8 1#32 (headScale (head1 Q C S)) (col8 0#32 (headScale (head0 Q C S)) (k0_pay29 (F := F))))))))))
/-- and means. -/
def means (Q : FVec F S256x1280 .f32) (C S : FVec F S256x128 .f32) : FVec F S1x2x8x128 .f32 :=
  k0_pay4 (headMean (head0 Q C S)) (headMean (head1 Q C S)) (headMean (head2 Q C S)) (headMean (head3 Q C S)) (headMean (head4 Q C S)) (headMean (head5 Q C S)) (headMean (head6 Q C S)) (headMean (head7 Q C S))
/-- The block's codes over what was there. -/
def codes8 (x : Vec F S1x256x1024 .i8) (Q : FVec F S256x1280 .f32) (C S : FVec F S256x128 .f32) : Vec F S1x256x1024 .i8 :=
  (VecWindow.put (VecWindow.put (VecWindow.put (VecWindow.put (VecWindow.put (VecWindow.put (VecWindow.put (VecWindow.put x ![0, 0, 0] S1x256x128.size (headCode (head0 Q C S))) ![0, 0, 128] S1x256x128.size (headCode (head1 Q C S))) ![0, 0, 256] S1x256x128.size (headCode (head2 Q C S))) ![0, 0, 384] S1x256x128.size (headCode (head3 Q C S))) ![0, 0, 512] S1x256x128.size (headCode (head4 Q C S))) ![0, 0, 640] S1x256x128.size (headCode (head5 Q C S))) ![0, 0, 768] S1x256x128.size (headCode (head6 Q C S))) ![0, 0, 896] S1x256x128.size (headCode (head7 Q C S)))
/-- The block's scales laid out along the lanes, over what was there. -/
def rows8 (x : Vec F S1x2x32x128 .f32) (Q : FVec F S256x1280 .f32) (C S : FVec F S256x128 .f32) : Vec F S1x2x32x128 .f32 :=
  (VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put x ![0, 0, 0, 0] S1x1x4x128.size (k0_pay38 (headScale (head0 Q C S)))) ![0, 1, 0, 0] S1x1x4x128.size (k0_pay39 (headScale (head0 Q C S)))) ![0, 0, 4, 0] S1x1x4x128.size (k0_pay38 (headScale (head1 Q C S)))) ![0, 1, 4, 0] S1x1x4x128.size (k0_pay39 (headScale (head1 Q C S)))) ![0, 0, 8, 0] S1x1x4x128.size (k0_pay38 (headScale (head2 Q C S)))) ![0, 1, 8, 0] S1x1x4x128.size (k0_pay39 (headScale (head2 Q C S)))) ![0, 0, 12, 0] S1x1x4x128.size (k0_pay38 (headScale (head3 Q C S)))) ![0, 1, 12, 0] S1x1x4x128.size (k0_pay39 (headScale (head3 Q C S)))) ![0, 0, 16, 0] S1x1x4x128.size (k0_pay38 (headScale (head4 Q C S)))) ![0, 1, 16, 0] S1x1x4x128.size (k0_pay39 (headScale (head4 Q C S)))) ![0, 0, 20, 0] S1x1x4x128.size (k0_pay38 (headScale (head5 Q C S)))) ![0, 1, 20, 0] S1x1x4x128.size (k0_pay39 (headScale (head5 Q C S)))) ![0, 0, 24, 0] S1x1x4x128.size (k0_pay38 (headScale (head6 Q C S)))) ![0, 1, 24, 0] S1x1x4x128.size (k0_pay39 (headScale (head6 Q C S)))) ![0, 0, 28, 0] S1x1x4x128.size (k0_pay38 (headScale (head7 Q C S)))) ![0, 1, 28, 0] S1x1x4x128.size (k0_pay39 (headScale (head7 Q C S))))

/-! ## The body's own spellings of these -/

theorem addK_eq {n : BitVec 32} {K' K : FVec F S256x128 .f32} {L' L : Elt F .i32} {p' p : Vec F S1x1x128 .f32} (hK : K' = K)
    (hL : L' = L) (hp : p' = p) : k0_pay22 n K' L' p' = k0_pay22 n K L p := by subst hK hL hp; rfl
theorem addV_eq {n : BitVec 32} {K' K : FVec F S256x128 .f32} {L' L : Elt F .i32} {p' p : Vec F S1x1x128 .f32} (hK : K' = K)
    (hL : L' = L) (hp : p' = p) : k0_pay25 (k0_pay23 p') (k0_pay24 n K' L') = k0_pay25 (k0_pay23 p) (k0_pay24 n K L) := by
  subst hK hL hp; rfl
theorem divK_eq {L' L : Elt F .i32} {p' p : Vec F S1x1x128 .f32} (hL : L' = L) (hp : p' = p) :
    k0_pay27 L' p' = k0_pay27 L p := by subst hL hp; rfl
theorem divV_eq {L' L : Elt F .i32} {p' p : Vec F S1x1x128 .f32} (hL : L' = L) (hp : p' = p) :
    k0_pay28 L' p' = k0_pay28 L p := by subst hL hp; rfl

section Heads

variable {Q' Q : FVec F S256x1280 .f32} {C' C S' S : FVec F S256x128 .f32} (hQ : Q' = Q) (hC : C' = C) (hS : S' = S)
include hQ hC hS

theorem code0 : k0_pay35 (k0_pay34 Q' C' S') (Scalar.ofBits .f32 0xC2FE0000#32) = headCode (head0 Q C S) := by subst hQ hC hS; rfl
theorem lo0 : k0_pay38 (k0_pay33 Q' C' S') = k0_pay38 (headScale (head0 Q C S)) := by subst hQ hC hS; rfl
theorem hi0 : k0_pay39 (k0_pay33 Q' C' S') = k0_pay39 (headScale (head0 Q C S)) := by subst hQ hC hS; rfl

theorem code1 : k0_pay45 (k0_pay42 Q' C' S') (k0_pay43 Q' C' S') = headCode (head1 Q C S) := by subst hQ hC hS; rfl
theorem lo1 : k0_pay48 (k0_pay43 Q' C' S') = k0_pay38 (headScale (head1 Q C S)) := by subst hQ hC hS; rfl
theorem hi1 : k0_pay50 (k0_pay49 (k0_pay43 Q' C' S')) = k0_pay39 (headScale (head1 Q C S)) := by subst hQ hC hS; rfl

theorem code2 : k0_pay55 Q' C' S' = headCode (head2 Q C S) := by subst hQ hC hS; rfl
theorem lo2 : k0_pay59 (k0_pay54 Q' C' S') = k0_pay38 (headScale (head2 Q C S)) := by subst hQ hC hS; rfl
theorem hi2 : k0_pay60 (k0_pay54 Q' C' S') = k0_pay39 (headScale (head2 Q C S)) := by subst hQ hC hS; rfl

theorem code3 : k0_pay66 (k0_pay63 Q' C' S') (k0_pay64 Q' C' S') (k0_pay65 (F := F)) = headCode (head3 Q C S) := by subst hQ hC hS; rfl
theorem lo3 : k0_pay69 (k0_pay64 Q' C' S') = k0_pay38 (headScale (head3 Q C S)) := by subst hQ hC hS; rfl
theorem hi3 : k0_pay70 (k0_pay64 Q' C' S') = k0_pay39 (headScale (head3 Q C S)) := by subst hQ hC hS; rfl

theorem code4 : k0_pay76 (k0_pay71 Q' C' S') (k0_pay72 Q' C' S') (Scalar.ofBits .f32 0x3C000000#32) = headCode (head4 Q C S) := by subst hQ hC hS; rfl
theorem lo4 : k0_pay79 (k0_pay71 Q' C' S') (k0_pay72 Q' C' S') (Scalar.ofBits .f32 0x3C000000#32) = k0_pay38 (headScale (head4 Q C S)) := by subst hQ hC hS; rfl
theorem hi4 : k0_pay81 (k0_pay80 (k0_pay71 Q' C' S') (k0_pay72 Q' C' S') (Scalar.ofBits .f32 0x3C000000#32)) = k0_pay39 (headScale (head4 Q C S)) := by subst hQ hC hS; rfl

theorem code5 : k0_pay87 (k0_pay86 Q' C' S') = headCode (head5 Q C S) := by subst hQ hC hS; rfl
theorem lo5 : k0_pay90 (k0_pay85 Q' C' S') = k0_pay38 (headScale (head5 Q C S)) := by subst hQ hC hS; rfl
theorem hi5 : k0_pay91 (k0_pay85 Q' C' S') = k0_pay39 (headScale (head5 Q C S)) := by subst hQ hC hS; rfl

theorem code6 : k0_pay99 (k0_pay94 Q' C' S') (k0_pay95 Q' C' S') (k0_pay96 Q' C' S') (k0_pay97 (F := F)) = headCode (head6 Q C S) := by subst hQ hC hS; rfl
theorem lo6 : k0_pay102 (k0_pay95 Q' C' S') (k0_pay96 Q' C' S') (k0_pay97 (F := F)) = k0_pay38 (headScale (head6 Q C S)) := by subst hQ hC hS; rfl
theorem hi6 : k0_pay103 (k0_pay95 Q' C' S') (k0_pay96 Q' C' S') (k0_pay97 (F := F)) = k0_pay39 (headScale (head6 Q C S)) := by subst hQ hC hS; rfl

theorem code7 : k0_pay110 (k0_pay104 Q' C' S') (k0_pay105 (F := F)) = headCode (head7 Q C S) := by subst hQ hC hS; rfl
theorem lo7 : k0_pay1 (k0_pay113 (k0_pay104 Q' C' S') (k0_pay105 (F := F))) = k0_pay38 (headScale (head7 Q C S)) := by subst hQ hC hS; rfl
theorem hi7 : k0_pay2 (k0_pay112 (k0_pay104 Q' C' S') (k0_pay105 (F := F))) = k0_pay39 (headScale (head7 Q C S)) := by subst hQ hC hS; rfl

theorem scales_eq : k0_pay3 (k0_pay111 (iota .tc S8x8 32 [1] iota_S8x8_d1_w32) (k0_pay100 (iota .tc S8x8 32 [1] iota_S8x8_d1_w32) (k0_pay88 (iota .tc S8x8 32 [1] iota_S8x8_d1_w32) (k0_pay77 (iota .tc S8x8 32 [1] iota_S8x8_d1_w32) (k0_pay67 (iota .tc S8x8 32 [1] iota_S8x8_d1_w32) (k0_pay57 (iota .tc S8x8 32 [1] iota_S8x8_d1_w32) (k0_pay46 (iota .tc S8x8 32 [1] iota_S8x8_d1_w32) (k0_pay36 (iota .tc S8x8 32 [1] iota_S8x8_d1_w32) (k0_pay29 (F := F)) (k0_pay33 Q' C' S')) (k0_pay43 Q' C' S')) (k0_pay54 Q' C' S') k0_pay56) (k0_pay64 Q' C' S')) (k0_pay71 Q' C' S') (k0_pay72 Q' C' S') (Scalar.ofBits .f32 0x3C000000#32)) (k0_pay85 Q' C' S')) (k0_pay95 Q' C' S') (k0_pay96 Q' C' S') (k0_pay97 (F := F))) (k0_pay104 Q' C' S') (k0_pay105 (F := F)))
    = scales8 Q C S := by subst hQ hC hS; rfl
theorem means_eq : k0_pay4 (k0_pay31 Q' C' S') (k0_pay41 Q' C' S') (k0_pay52 Q' C' S') (k0_pay62 Q' C' S') (k0_pay73 (k0_pay72 Q' C' S') (Scalar.ofBits .f32 0x3C000000#32)) (k0_pay83 Q' C' S') (k0_pay93 Q' C' S') (k0_pay107 (k0_pay104 Q' C' S') (k0_pay105 (F := F)))
    = means Q C S := by subst hQ hC hS; rfl

end Heads

/-! ## What the body's loads give these -/

section Read

variable {m1 : Memref sig .tc .vmem S1x256x8192 .bf16}
  {m2 : Memref sig .tc .vmem S1x256x64 .f32}
  {m3 : Memref sig .tc .vmem S1x256x64 .f32}
  {m4 : Memref sig .tc .vmem S1x8192 .f32}
  {m5 : Memref sig .tc .vmem S8192x1280 .fp8e4m3}
  {m6 : Memref sig .tc .vmem S1x1280 .f32}
  {m7 : Memref sig .tc .vmem S1x1280 .f32}
  (f1 : BufTy.Contents (Elt F) m1.view.ty)
  (f2 : BufTy.Contents (Elt F) m2.view.ty)
  (f3 : BufTy.Contents (Elt F) m3.view.ty)
  (f4 : BufTy.Contents (Elt F) m4.view.ty)
  (f5 : BufTy.Contents (Elt F) m5.view.ty)
  (f6 : BufTy.Contents (Elt F) m6.view.ty)
  (f7 : BufTy.Contents (Elt F) m7.view.ty)

theorem code_read : k0_pay10 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)
      = k0_pay10 (m1.view.read (Elt F) f1) (m4.view.read (Elt F) f4) := by
  rw [View.readAt_full, View.readAt_full]

theorem sc_read : k0_pay8 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)
      = scOf (m1.view.read (Elt F) f1) (m4.view.read (Elt F) f4) := by
  rw [View.readAt_full, View.readAt_full]; rfl

theorem qkv_read : k0_pay12 (k0_pay8 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)) (k0_pay9 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)) (m5.view.readAt (Elt F) (Rect.unit ![0, 0] S8192x1280.size inb_S8192x1280_S8192x1280_0_0).toLoadRect f5) (m6.view.readAt (Elt F) (Rect.unit ![0, 0] S1x1280.size inb_S1x1280_S1x1280_0_0).toLoadRect f6) (m7.view.readAt (Elt F) (Rect.unit ![0, 0] S1x1280.size inb_S1x1280_S1x1280_0_0).toLoadRect f7)
      = qkvOf (m1.view.read (Elt F) f1) (m4.view.read (Elt F) f4) (m5.view.read (Elt F) f5) (m6.view.read (Elt F) f6) (m7.view.read (Elt F) f7) := by
  rw [View.readAt_full, View.readAt_full, View.readAt_full, View.readAt_full, View.readAt_full]; rfl

theorem cos_read : k0_pay13 (m2.view.readAt (Elt F) (Rect.unit ![0, 0, 0] S1x256x64.size inb_S1x256x64_S1x256x64_0_0_0).toLoadRect f2)
      = cosOf (m2.view.read (Elt F) f2) := by
  rw [View.readAt_full]; rfl

theorem sin_read : k0_pay14 (m3.view.readAt (Elt F) (Rect.unit ![0, 0, 0] S1x256x64.size inb_S1x256x64_S1x256x64_0_0_0).toLoadRect f3)
      = sinOf (m3.view.read (Elt F) f3) := by
  rw [View.readAt_full]; rfl

theorem k_read : k0_pay15 (k0_pay8 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)) (k0_pay9 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)) (m5.view.readAt (Elt F) (Rect.unit ![0, 0] S8192x1280.size inb_S8192x1280_S8192x1280_0_0).toLoadRect f5) (m6.view.readAt (Elt F) (Rect.unit ![0, 0] S1x1280.size inb_S1x1280_S1x1280_0_0).toLoadRect f6) (m7.view.readAt (Elt F) (Rect.unit ![0, 0] S1x1280.size inb_S1x1280_S1x1280_0_0).toLoadRect f7) (m2.view.readAt (Elt F) (Rect.unit ![0, 0, 0] S1x256x64.size inb_S1x256x64_S1x256x64_0_0_0).toLoadRect f2) (m3.view.readAt (Elt F) (Rect.unit ![0, 0, 0] S1x256x64.size inb_S1x256x64_S1x256x64_0_0_0).toLoadRect f3)
      = kOf (m1.view.read (Elt F) f1) (m2.view.read (Elt F) f2) (m3.view.read (Elt F) f3) (m4.view.read (Elt F) f4) (m5.view.read (Elt F) f5) (m6.view.read (Elt F) f6) (m7.view.read (Elt F) f7) := by
  rw [View.readAt_full, View.readAt_full, View.readAt_full, View.readAt_full, View.readAt_full, View.readAt_full, View.readAt_full]; rfl

theorem v_read : k0_pay16 (k0_pay8 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)) (k0_pay9 (m1.view.readAt (Elt F) (Rect.unit ![0, 0, 0] S1x256x8192.size inb_S1x256x8192_S1x256x8192_0_0_0).toLoadRect f1) (m4.view.readAt (Elt F) (Rect.unit ![0, 0] S1x8192.size inb_S1x8192_S1x8192_0_0).toLoadRect f4)) (m5.view.readAt (Elt F) (Rect.unit ![0, 0] S8192x1280.size inb_S8192x1280_S8192x1280_0_0).toLoadRect f5) (m6.view.readAt (Elt F) (Rect.unit ![0, 0] S1x1280.size inb_S1x1280_S1x1280_0_0).toLoadRect f6) (m7.view.readAt (Elt F) (Rect.unit ![0, 0] S1x1280.size inb_S1x1280_S1x1280_0_0).toLoadRect f7)
      = vOf (m1.view.read (Elt F) f1) (m4.view.read (Elt F) f4) (m5.view.read (Elt F) f5) (m6.view.read (Elt F) f6) (m7.view.read (Elt F) f7) := by
  rw [View.readAt_full, View.readAt_full, View.readAt_full, View.readAt_full, View.readAt_full]; rfl

theorem len_read {m0 : Memref sig .tc .smem S2 .i32} (i : grid0.Coords) (f0 : BufTy.Contents (Elt F) m0.view.ty) {h} :
    m0.view.readAt (Elt F) (Rect.unit (s := S2) (k0_off3 i) S1.size (k0_off3_inb i)).toLoadRect f0 (Shape.Idx.first h)
      = lenOf i (m0.view.read (Elt F) f0) :=
  congrArg (m0.view.read (Elt F) f0) (funext fun a => Fin.ext (by
    match a with
    | ⟨0, _⟩ => show k0_off3 i 0 + 1 * 0 = k0_off3 i 0; omega))

end Read

section Stores

variable {Q : FVec F S256x1280 .f32} {C S : FVec F S256x128 .f32}

/-- The heads' codes stored one after another. -/
theorem codes_read {m : Memref sig .tc .vmem S1x256x1024 .i8} (f : BufTy.Contents (Elt F) m.view.ty)
    {c0 c1 c2 c3 c4 c5 c6 c7 : Vec F S1x256x128 .i8}
    (h0 : c0 = headCode (head0 Q C S))
    (h1 : c1 = headCode (head1 Q C S))
    (h2 : c2 = headCode (head2 Q C S))
    (h3 : c3 = headCode (head3 Q C S))
    (h4 : c4 = headCode (head4 Q C S))
    (h5 : c5 = headCode (head5 Q C S))
    (h6 : c6 = headCode (head6 Q C S))
    (h7 : c7 = headCode (head7 Q C S)) :
    m.view.read (Elt F) (m.view.writes (Elt F) f [⟨Rect.unit ![0, 0, 896] S1x256x128.size inb_S1x256x1024_S1x256x128_0_0_896, c7⟩,
      ⟨Rect.unit ![0, 0, 768] S1x256x128.size inb_S1x256x1024_S1x256x128_0_0_768, c6⟩,
      ⟨Rect.unit ![0, 0, 640] S1x256x128.size inb_S1x256x1024_S1x256x128_0_0_640, c5⟩,
      ⟨Rect.unit ![0, 0, 512] S1x256x128.size inb_S1x256x1024_S1x256x128_0_0_512, c4⟩,
      ⟨Rect.unit ![0, 0, 384] S1x256x128.size inb_S1x256x1024_S1x256x128_0_0_384, c3⟩,
      ⟨Rect.unit ![0, 0, 256] S1x256x128.size inb_S1x256x1024_S1x256x128_0_0_256, c2⟩,
      ⟨Rect.unit ![0, 0, 128] S1x256x128.size inb_S1x256x1024_S1x256x128_0_0_128, c1⟩,
      ⟨Rect.unit ![0, 0, 0] S1x256x128.size inb_S1x256x1024_S1x256x128_0_0_0, c0⟩])
      = codes8 (m.view.read (Elt F) f) Q C S := by
  unfold codes8
  refine (View.read_writes_cons_put _ f _ _ _ rfl).trans ?_
  refine congrArg₂ (fun (Y : Vec F S1x256x1024 .i8) (z : Vec F S1x256x128 .i8) => VecWindow.put Y ![0, 0, 896] S1x256x128.size z) ?_ h7
  refine (View.read_writes_cons_put _ f _ _ _ rfl).trans ?_
  refine congrArg₂ (fun (Y : Vec F S1x256x1024 .i8) (z : Vec F S1x256x128 .i8) => VecWindow.put Y ![0, 0, 768] S1x256x128.size z) ?_ h6
  refine (View.read_writes_cons_put _ f _ _ _ rfl).trans ?_
  refine congrArg₂ (fun (Y : Vec F S1x256x1024 .i8) (z : Vec F S1x256x128 .i8) => VecWindow.put Y ![0, 0, 640] S1x256x128.size z) ?_ h5
  refine (View.read_writes_cons_put _ f _ _ _ rfl).trans ?_
  refine congrArg₂ (fun (Y : Vec F S1x256x1024 .i8) (z : Vec F S1x256x128 .i8) => VecWindow.put Y ![0, 0, 512] S1x256x128.size z) ?_ h4
  refine (View.read_writes_cons_put _ f _ _ _ rfl).trans ?_
  refine congrArg₂ (fun (Y : Vec F S1x256x1024 .i8) (z : Vec F S1x256x128 .i8) => VecWindow.put Y ![0, 0, 384] S1x256x128.size z) ?_ h3
  refine (View.read_writes_cons_put _ f _ _ _ rfl).trans ?_
  refine congrArg₂ (fun (Y : Vec F S1x256x1024 .i8) (z : Vec F S1x256x128 .i8) => VecWindow.put Y ![0, 0, 256] S1x256x128.size z) ?_ h2
  refine (View.read_writes_cons_put _ f _ _ _ rfl).trans ?_
  refine congrArg₂ (fun (Y : Vec F S1x256x1024 .i8) (z : Vec F S1x256x128 .i8) => VecWindow.put Y ![0, 0, 128] S1x256x128.size z) ?_ h1
  refine (View.read_writes_cons_put _ f _ _ _ rfl).trans ?_
  refine congrArg₂ (fun (Y : Vec F S1x256x1024 .i8) (z : Vec F S1x256x128 .i8) => VecWindow.put Y ![0, 0, 0] S1x256x128.size z) ?_ h0
  rfl

/-- The heads' scales stored one after another along the lanes. -/
theorem rows_read {m : Memref sig .tc .vmem S1x2x32x128 .f32} (f : BufTy.Contents (Elt F) m.view.ty)
    {c00 c01 c10 c11 c20 c21 c30 c31 c40 c41 c50 c51 c60 c61 c70 c71 : Vec F S1x1x4x128 .f32}
    (h00 : c00 = k0_pay38 (headScale (head0 Q C S)))
    (h01 : c01 = k0_pay39 (headScale (head0 Q C S)))
    (h10 : c10 = k0_pay38 (headScale (head1 Q C S)))
    (h11 : c11 = k0_pay39 (headScale (head1 Q C S)))
    (h20 : c20 = k0_pay38 (headScale (head2 Q C S)))
    (h21 : c21 = k0_pay39 (headScale (head2 Q C S)))
    (h30 : c30 = k0_pay38 (headScale (head3 Q C S)))
    (h31 : c31 = k0_pay39 (headScale (head3 Q C S)))
    (h40 : c40 = k0_pay38 (headScale (head4 Q C S)))
    (h41 : c41 = k0_pay39 (headScale (head4 Q C S)))
    (h50 : c50 = k0_pay38 (headScale (head5 Q C S)))
    (h51 : c51 = k0_pay39 (headScale (head5 Q C S)))
    (h60 : c60 = k0_pay38 (headScale (head6 Q C S)))
    (h61 : c61 = k0_pay39 (headScale (head6 Q C S)))
    (h70 : c70 = k0_pay38 (headScale (head7 Q C S)))
    (h71 : c71 = k0_pay39 (headScale (head7 Q C S))) :
    m.view.read (Elt F) (m.view.writes (Elt F) f [⟨Rect.unit ![0, 1, 28, 0] S1x1x4x128.size inb_S1x2x32x128_S1x1x4x128_0_1_28_0, c71⟩,
      ⟨Rect.unit ![0, 0, 28, 0] S1x1x4x128.size inb_S1x2x32x128_S1x1x4x128_0_0_28_0, c70⟩,
      ⟨Rect.unit ![0, 1, 24, 0] S1x1x4x128.size inb_S1x2x32x128_S1x1x4x128_0_1_24_0, c61⟩,
      ⟨Rect.unit ![0, 0, 24, 0] S1x1x4x128.size inb_S1x2x32x128_S1x1x4x128_0_0_24_0, c60⟩,
      ⟨Rect.unit ![0, 1, 20, 0] S1x1x4x128.size inb_S1x2x32x128_S1x1x4x128_0_1_20_0, c51⟩,
      ⟨Rect.unit ![0, 0, 20, 0] S1x1x4x128.size inb_S1x2x32x128_S1x1x4x128_0_0_20_0, c50⟩,
      ⟨Rect.unit ![0, 1, 16, 0] S1x1x4x128.size inb_S1x2x32x128_S1x1x4x128_0_1_16_0, c41⟩,
      ⟨Rect.unit ![0, 0, 16, 0] S1x1x4x128.size inb_S1x2x32x128_S1x1x4x128_0_0_16_0, c40⟩,
      ⟨Rect.unit ![0, 1, 12, 0] S1x1x4x128.size inb_S1x2x32x128_S1x1x4x128_0_1_12_0, c31⟩,
      ⟨Rect.unit ![0, 0, 12, 0] S1x1x4x128.size inb_S1x2x32x128_S1x1x4x128_0_0_12_0, c30⟩,
      ⟨Rect.unit ![0, 1, 8, 0] S1x1x4x128.size inb_S1x2x32x128_S1x1x4x128_0_1_8_0, c21⟩,
      ⟨Rect.unit ![0, 0, 8, 0] S1x1x4x128.size inb_S1x2x32x128_S1x1x4x128_0_0_8_0, c20⟩,
      ⟨Rect.unit ![0, 1, 4, 0] S1x1x4x128.size inb_S1x2x32x128_S1x1x4x128_0_1_4_0, c11⟩,
      ⟨Rect.unit ![0, 0, 4, 0] S1x1x4x128.size inb_S1x2x32x128_S1x1x4x128_0_0_4_0, c10⟩,
      ⟨Rect.unit ![0, 1, 0, 0] S1x1x4x128.size inb_S1x2x32x128_S1x1x4x128_0_1_0_0, c01⟩,
      ⟨Rect.unit ![0, 0, 0, 0] S1x1x4x128.size inb_S1x2x32x128_S1x1x4x128_0_0_0_0, c00⟩])
      = rows8 (m.view.read (Elt F) f) Q C S := by
  unfold rows8
  refine (View.read_writes_cons_put _ f _ _ _ rfl).trans ?_
  refine congrArg₂ (fun (Y : Vec F S1x2x32x128 .f32) (z : Vec F S1x1x4x128 .f32) => VecWindow.put Y ![0, 1, 28, 0] S1x1x4x128.size z) ?_ h71
  refine (View.read_writes_cons_put _ f _ _ _ rfl).trans ?_
  refine congrArg₂ (fun (Y : Vec F S1x2x32x128 .f32) (z : Vec F S1x1x4x128 .f32) => VecWindow.put Y ![0, 0, 28, 0] S1x1x4x128.size z) ?_ h70
  refine (View.read_writes_cons_put _ f _ _ _ rfl).trans ?_
  refine congrArg₂ (fun (Y : Vec F S1x2x32x128 .f32) (z : Vec F S1x1x4x128 .f32) => VecWindow.put Y ![0, 1, 24, 0] S1x1x4x128.size z) ?_ h61
  refine (View.read_writes_cons_put _ f _ _ _ rfl).trans ?_
  refine congrArg₂ (fun (Y : Vec F S1x2x32x128 .f32) (z : Vec F S1x1x4x128 .f32) => VecWindow.put Y ![0, 0, 24, 0] S1x1x4x128.size z) ?_ h60
  refine (View.read_writes_cons_put _ f _ _ _ rfl).trans ?_
  refine congrArg₂ (fun (Y : Vec F S1x2x32x128 .f32) (z : Vec F S1x1x4x128 .f32) => VecWindow.put Y ![0, 1, 20, 0] S1x1x4x128.size z) ?_ h51
  refine (View.read_writes_cons_put _ f _ _ _ rfl).trans ?_
  refine congrArg₂ (fun (Y : Vec F S1x2x32x128 .f32) (z : Vec F S1x1x4x128 .f32) => VecWindow.put Y ![0, 0, 20, 0] S1x1x4x128.size z) ?_ h50
  refine (View.read_writes_cons_put _ f _ _ _ rfl).trans ?_
  refine congrArg₂ (fun (Y : Vec F S1x2x32x128 .f32) (z : Vec F S1x1x4x128 .f32) => VecWindow.put Y ![0, 1, 16, 0] S1x1x4x128.size z) ?_ h41
  refine (View.read_writes_cons_put _ f _ _ _ rfl).trans ?_
  refine congrArg₂ (fun (Y : Vec F S1x2x32x128 .f32) (z : Vec F S1x1x4x128 .f32) => VecWindow.put Y ![0, 0, 16, 0] S1x1x4x128.size z) ?_ h40
  refine (View.read_writes_cons_put _ f _ _ _ rfl).trans ?_
  refine congrArg₂ (fun (Y : Vec F S1x2x32x128 .f32) (z : Vec F S1x1x4x128 .f32) => VecWindow.put Y ![0, 1, 12, 0] S1x1x4x128.size z) ?_ h31
  refine (View.read_writes_cons_put _ f _ _ _ rfl).trans ?_
  refine congrArg₂ (fun (Y : Vec F S1x2x32x128 .f32) (z : Vec F S1x1x4x128 .f32) => VecWindow.put Y ![0, 0, 12, 0] S1x1x4x128.size z) ?_ h30
  refine (View.read_writes_cons_put _ f _ _ _ rfl).trans ?_
  refine congrArg₂ (fun (Y : Vec F S1x2x32x128 .f32) (z : Vec F S1x1x4x128 .f32) => VecWindow.put Y ![0, 1, 8, 0] S1x1x4x128.size z) ?_ h21
  refine (View.read_writes_cons_put _ f _ _ _ rfl).trans ?_
  refine congrArg₂ (fun (Y : Vec F S1x2x32x128 .f32) (z : Vec F S1x1x4x128 .f32) => VecWindow.put Y ![0, 0, 8, 0] S1x1x4x128.size z) ?_ h20
  refine (View.read_writes_cons_put _ f _ _ _ rfl).trans ?_
  refine congrArg₂ (fun (Y : Vec F S1x2x32x128 .f32) (z : Vec F S1x1x4x128 .f32) => VecWindow.put Y ![0, 1, 4, 0] S1x1x4x128.size z) ?_ h11
  refine (View.read_writes_cons_put _ f _ _ _ rfl).trans ?_
  refine congrArg₂ (fun (Y : Vec F S1x2x32x128 .f32) (z : Vec F S1x1x4x128 .f32) => VecWindow.put Y ![0, 0, 4, 0] S1x1x4x128.size z) ?_ h10
  refine (View.read_writes_cons_put _ f _ _ _ rfl).trans ?_
  refine congrArg₂ (fun (Y : Vec F S1x2x32x128 .f32) (z : Vec F S1x1x4x128 .f32) => VecWindow.put Y ![0, 1, 0, 0] S1x1x4x128.size z) ?_ h01
  refine (View.read_writes_cons_put _ f _ _ _ rfl).trans ?_
  refine congrArg₂ (fun (Y : Vec F S1x2x32x128 .f32) (z : Vec F S1x1x4x128 .f32) => VecWindow.put Y ![0, 0, 0, 0] S1x1x4x128.size z) ?_ h00
  rfl

end Stores

variable (c : Dev nD) (E : Set ℕ) (i : grid0.Coords) (arg2 : Memref sig .tc .smem S2 .i32) (harg2 : arg2.IsWhole) (arg3 : Memref sig .tc .vmem S1x256x8192 .bf16) (harg3 : arg3.IsWhole) (arg4 : Memref sig .tc .vmem S1x256x64 .f32) (harg4 : arg4.IsWhole) (arg5 : Memref sig .tc .vmem S1x256x64 .f32) (harg5 : arg5.IsWhole) (arg6 : Memref sig .tc .vmem S1x8192 .f32) (harg6 : arg6.IsWhole) (arg7 : Memref sig .tc .vmem S8192x1280 .fp8e4m3) (harg7 : arg7.IsWhole) (arg8 : Memref sig .tc .vmem S1x1280 .f32) (harg8 : arg8.IsWhole) (arg9 : Memref sig .tc .vmem S1x1280 .f32) (harg9 : arg9.IsWhole) (arg10 : Memref sig .tc .vmem S1x256x8192 .fp8e4m3) (harg10 : arg10.IsWhole) (arg11 : Memref sig .tc .vmem S2x4096 .f32) (harg11 : arg11.IsWhole) (arg12 : Memref sig .tc .vmem S1x256x1024 .i8) (harg12 : arg12.IsWhole) (arg13 : Memref sig .tc .vmem S1x8x8 .f32) (harg13 : arg13.IsWhole) (arg14 : Memref sig .tc .vmem S1x2x32x128 .f32) (harg14 : arg14.IsWhole) (arg15 : Memref sig .tc .vmem S1x2x8x128 .f32) (harg15 : arg15.IsWhole) (arg16 : Memref sig .tc .vmem S1x256x128 .f32) (harg16 : arg16.IsWhole) (arg17 : Memref sig .tc .vmem S1x256x128 .f32) (harg17 : arg17.IsWhole) (arg18 : Memref sig .tc .vmem S1x1x128 .f32) (harg18 : arg18.IsWhole) (arg19 : Memref sig .tc .vmem S1x1x128 .f32) (harg19 : arg19.IsWhole)

set_option maxHeartbeats 4000000 in
/-- A first point of the first batch. -/
theorem body_A0
    (hc1 : k0_cond1 i = 1#1) (hc2 : ¬ k0_cond2 i = 1#1)
    (hc3 : Scalar.cmpi .ne (Scalar.extui (Scalar.cmpi .eq (BitVec.ofNat 32 (i 1).val) 0#32) : BitVec 32) 0#32 = 1#1)
    (hc4 : ¬ Scalar.cmpi .ne (Scalar.extui (Scalar.cmpi .eq (BitVec.ofNat 32 (i 1).val) 15#32) : BitVec 32) 0#32 = 1#1)
    (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare (x7) ∗ owns c.tc arg10 fullShare (k0_pay10 x1 x4) ∗ owns c.tc arg11 fullShare (VecWindow.put x9 (k0_off1 i) S1x256.size (k0_pay11 (scOf x1 x4))) ∗ owns c.tc arg12 fullShare (codes8 x10 (qkvOf x1 x4 x5 x6 x7) (cosOf x2) (sinOf x3)) ∗ owns c.tc arg13 fullShare (scales8 (qkvOf x1 x4 x5 x6 x7) (cosOf x2) (sinOf x3)) ∗ owns c.tc arg14 fullShare (rows8 x12 (qkvOf x1 x4 x5 x6 x7) (cosOf x2) (sinOf x3)) ∗ owns c.tc arg15 fullShare (means (qkvOf x1 x4 x5 x6 x7) (cosOf x2) (sinOf x3)) ∗ owns c.tc arg16 fullShare (k0_pay17 (kOf x1 x2 x3 x4 x5 x6 x7)) ∗ owns c.tc arg17 fullShare (k0_pay18 (vOf x1 x4 x5 x6 x7)) ∗ owns c.tc arg18 fullShare (addK i x0 x1 x2 x3 x4 x5 x6 x7 (k0_pay20 (F := F))) ∗ owns c.tc arg19 fullShare (addV i x0 x1 x4 x5 x6 x7 (k0_pay21 (F := F)))) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf12 hf13 hf14 hf15 hf16 hf17
  sl_exec
  sl_step
  iapply Hk
  have hq := qkv_read (m1 := arg3) (m4 := arg6) (m5 := arg7) (m6 := arg8) (m7 := arg9) f1 f4 f5 f6 f7
  have hk := cos_read (m2 := arg4) f2
  have hs := sin_read (m3 := arg5) f3
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    exact (View.read_writes_full _ f8 _ _ []).trans (code_read f1 f4)
  isplitl [H9]
  · iexists _; isplitr
    swap; · iexact H9
    ipureintro
    exact (View.read_writes_cons_put _ f9 _ _ [] rfl).trans (congrArg (fun z => VecWindow.put (View.read (Elt F) arg11.view f9) (k0_off1 i) S1x256.size (k0_pay11 z)) (sc_read f1 f4))
  isplitl [H10]
  · iexists _; isplitr
    swap; · iexact H10
    ipureintro
    exact codes_read f10 (code0 hq hk hs) (code1 hq hk hs) (code2 hq hk hs) (code3 hq hk hs) (code4 hq hk hs) (code5 hq hk hs) (code6 hq hk hs) (code7 hq hk hs)
  isplitl [H11]
  · iexists _; isplitr
    swap; · iexact H11
    ipureintro
    exact (View.read_writes_full _ f11 _ _ []).trans (scales_eq hq hk hs)
  isplitl [H12]
  · iexists _; isplitr
    swap; · iexact H12
    ipureintro
    exact rows_read f12 (lo0 hq hk hs) (hi0 hq hk hs) (lo1 hq hk hs) (hi1 hq hk hs) (lo2 hq hk hs) (hi2 hq hk hs) (lo3 hq hk hs) (hi3 hq hk hs) (lo4 hq hk hs) (hi4 hq hk hs) (lo5 hq hk hs) (hi5 hq hk hs) (lo6 hq hk hs) (hi6 hq hk hs) (lo7 hq hk hs) (hi7 hq hk hs)
  isplitl [H13]
  · iexists _; isplitr
    swap; · iexact H13
    ipureintro
    exact (View.read_writes_full _ f13 _ _ []).trans (means_eq hq hk hs)
  isplitl [H14]
  · iexists _; isplitr
    swap; · iexact H14
    ipureintro
    exact (View.read_writes_full _ f14 _ _ []).trans (congrArg (fun z => k0_pay17 z) (k_read f1 f2 f3 f4 f5 f6 f7))
  isplitl [H15]
  · iexists _; isplitr
    swap; · iexact H15
    ipureintro
    exact (View.read_writes_full _ f15 _ _ []).trans (congrArg (fun z => k0_pay18 z) (v_read f1 f4 f5 f6 f7))
  isplitl [H16]
  · iexists _; isplitr
    swap; · iexact H16
    ipureintro
    exact (View.read_writes_full _ f16 _ _ _).trans (addK_eq (k_read f1 f2 f3 f4 f5 f6 f7) (len_read i f0) (View.readCov_full _ _ _ _ _))
  iexists _; isplitr
  swap; · iexact H17
  ipureintro
  exact (View.read_writes_full _ f17 _ _ _).trans (addV_eq (v_read f1 f4 f5 f6 f7) (len_read i f0) (View.readCov_full _ _ _ _ _))

set_option maxHeartbeats 4000000 in
/-- A middle point of the first batch. -/
theorem body_A1
    (hc1 : k0_cond1 i = 1#1) (hc2 : ¬ k0_cond2 i = 1#1)
    (hc3 : ¬ Scalar.cmpi .ne (Scalar.extui (Scalar.cmpi .eq (BitVec.ofNat 32 (i 1).val) 0#32) : BitVec 32) 0#32 = 1#1)
    (hc4 : ¬ Scalar.cmpi .ne (Scalar.extui (Scalar.cmpi .eq (BitVec.ofNat 32 (i 1).val) 15#32) : BitVec 32) 0#32 = 1#1)
    (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare (x7) ∗ owns c.tc arg10 fullShare (k0_pay10 x1 x4) ∗ owns c.tc arg11 fullShare (VecWindow.put x9 (k0_off1 i) S1x256.size (k0_pay11 (scOf x1 x4))) ∗ owns c.tc arg12 fullShare (codes8 x10 (qkvOf x1 x4 x5 x6 x7) (cosOf x2) (sinOf x3)) ∗ owns c.tc arg13 fullShare (scales8 (qkvOf x1 x4 x5 x6 x7) (cosOf x2) (sinOf x3)) ∗ owns c.tc arg14 fullShare (rows8 x12 (qkvOf x1 x4 x5 x6 x7) (cosOf x2) (sinOf x3)) ∗ owns c.tc arg15 fullShare (means (qkvOf x1 x4 x5 x6 x7) (cosOf x2) (sinOf x3)) ∗ owns c.tc arg16 fullShare (k0_pay17 (kOf x1 x2 x3 x4 x5 x6 x7)) ∗ owns c.tc arg17 fullShare (k0_pay18 (vOf x1 x4 x5 x6 x7)) ∗ owns c.tc arg18 fullShare (addK i x0 x1 x2 x3 x4 x5 x6 x7 x16) ∗ owns c.tc arg19 fullShare (addV i x0 x1 x4 x5 x6 x7 x17)) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf12 hf13 hf14 hf15 hf16 hf17
  sl_exec
  sl_step
  iapply Hk
  have hq := qkv_read (m1 := arg3) (m4 := arg6) (m5 := arg7) (m6 := arg8) (m7 := arg9) f1 f4 f5 f6 f7
  have hk := cos_read (m2 := arg4) f2
  have hs := sin_read (m3 := arg5) f3
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    exact (View.read_writes_full _ f8 _ _ []).trans (code_read f1 f4)
  isplitl [H9]
  · iexists _; isplitr
    swap; · iexact H9
    ipureintro
    exact (View.read_writes_cons_put _ f9 _ _ [] rfl).trans (congrArg (fun z => VecWindow.put (View.read (Elt F) arg11.view f9) (k0_off1 i) S1x256.size (k0_pay11 z)) (sc_read f1 f4))
  isplitl [H10]
  · iexists _; isplitr
    swap; · iexact H10
    ipureintro
    exact codes_read f10 (code0 hq hk hs) (code1 hq hk hs) (code2 hq hk hs) (code3 hq hk hs) (code4 hq hk hs) (code5 hq hk hs) (code6 hq hk hs) (code7 hq hk hs)
  isplitl [H11]
  · iexists _; isplitr
    swap; · iexact H11
    ipureintro
    exact (View.read_writes_full _ f11 _ _ []).trans (scales_eq hq hk hs)
  isplitl [H12]
  · iexists _; isplitr
    swap; · iexact H12
    ipureintro
    exact rows_read f12 (lo0 hq hk hs) (hi0 hq hk hs) (lo1 hq hk hs) (hi1 hq hk hs) (lo2 hq hk hs) (hi2 hq hk hs) (lo3 hq hk hs) (hi3 hq hk hs) (lo4 hq hk hs) (hi4 hq hk hs) (lo5 hq hk hs) (hi5 hq hk hs) (lo6 hq hk hs) (hi6 hq hk hs) (lo7 hq hk hs) (hi7 hq hk hs)
  isplitl [H13]
  · iexists _; isplitr
    swap; · iexact H13
    ipureintro
    exact (View.read_writes_full _ f13 _ _ []).trans (means_eq hq hk hs)
  isplitl [H14]
  · iexists _; isplitr
    swap; · iexact H14
    ipureintro
    exact (View.read_writes_full _ f14 _ _ []).trans (congrArg (fun z => k0_pay17 z) (k_read f1 f2 f3 f4 f5 f6 f7))
  isplitl [H15]
  · iexists _; isplitr
    swap; · iexact H15
    ipureintro
    exact (View.read_writes_full _ f15 _ _ []).trans (congrArg (fun z => k0_pay18 z) (v_read f1 f4 f5 f6 f7))
  isplitl [H16]
  · iexists _; isplitr
    swap; · iexact H16
    ipureintro
    exact (View.read_writes_full _ f16 _ _ _).trans (addK_eq (k_read f1 f2 f3 f4 f5 f6 f7) (len_read i f0) (View.readAt_full _ f16 _))
  iexists _; isplitr
  swap; · iexact H17
  ipureintro
  exact (View.read_writes_full _ f17 _ _ _).trans (addV_eq (v_read f1 f4 f5 f6 f7) (len_read i f0) (View.readAt_full _ f17 _))

set_option maxHeartbeats 4000000 in
/-- A last point of the first batch. -/
theorem body_A2
    (hc1 : k0_cond1 i = 1#1) (hc2 : ¬ k0_cond2 i = 1#1)
    (hc3 : ¬ Scalar.cmpi .ne (Scalar.extui (Scalar.cmpi .eq (BitVec.ofNat 32 (i 1).val) 0#32) : BitVec 32) 0#32 = 1#1)
    (hc4 : Scalar.cmpi .ne (Scalar.extui (Scalar.cmpi .eq (BitVec.ofNat 32 (i 1).val) 15#32) : BitVec 32) 0#32 = 1#1)
    (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare (x7) ∗ owns c.tc arg10 fullShare (k0_pay10 x1 x4) ∗ owns c.tc arg11 fullShare (VecWindow.put x9 (k0_off1 i) S1x256.size (k0_pay11 (scOf x1 x4))) ∗ owns c.tc arg12 fullShare (codes8 x10 (qkvOf x1 x4 x5 x6 x7) (cosOf x2) (sinOf x3)) ∗ owns c.tc arg13 fullShare (scales8 (qkvOf x1 x4 x5 x6 x7) (cosOf x2) (sinOf x3)) ∗ owns c.tc arg14 fullShare (rows8 x12 (qkvOf x1 x4 x5 x6 x7) (cosOf x2) (sinOf x3)) ∗ owns c.tc arg15 fullShare (means (qkvOf x1 x4 x5 x6 x7) (cosOf x2) (sinOf x3)) ∗ owns c.tc arg16 fullShare (k0_pay17 (kOf x1 x2 x3 x4 x5 x6 x7)) ∗ owns c.tc arg17 fullShare (k0_pay18 (vOf x1 x4 x5 x6 x7)) ∗ owns c.tc arg18 fullShare (k0_pay27 (lenOf i x0) (addK i x0 x1 x2 x3 x4 x5 x6 x7 x16)) ∗ owns c.tc arg19 fullShare (k0_pay28 (lenOf i x0) (addV i x0 x1 x4 x5 x6 x7 x17))) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf12 hf13 hf14 hf15 hf16 hf17
  sl_exec
  sl_step
  iapply Hk
  have hq := qkv_read (m1 := arg3) (m4 := arg6) (m5 := arg7) (m6 := arg8) (m7 := arg9) f1 f4 f5 f6 f7
  have hk := cos_read (m2 := arg4) f2
  have hs := sin_read (m3 := arg5) f3
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    exact (View.read_writes_full _ f8 _ _ []).trans (code_read f1 f4)
  isplitl [H9]
  · iexists _; isplitr
    swap; · iexact H9
    ipureintro
    exact (View.read_writes_cons_put _ f9 _ _ [] rfl).trans (congrArg (fun z => VecWindow.put (View.read (Elt F) arg11.view f9) (k0_off1 i) S1x256.size (k0_pay11 z)) (sc_read f1 f4))
  isplitl [H10]
  · iexists _; isplitr
    swap; · iexact H10
    ipureintro
    exact codes_read f10 (code0 hq hk hs) (code1 hq hk hs) (code2 hq hk hs) (code3 hq hk hs) (code4 hq hk hs) (code5 hq hk hs) (code6 hq hk hs) (code7 hq hk hs)
  isplitl [H11]
  · iexists _; isplitr
    swap; · iexact H11
    ipureintro
    exact (View.read_writes_full _ f11 _ _ []).trans (scales_eq hq hk hs)
  isplitl [H12]
  · iexists _; isplitr
    swap; · iexact H12
    ipureintro
    exact rows_read f12 (lo0 hq hk hs) (hi0 hq hk hs) (lo1 hq hk hs) (hi1 hq hk hs) (lo2 hq hk hs) (hi2 hq hk hs) (lo3 hq hk hs) (hi3 hq hk hs) (lo4 hq hk hs) (hi4 hq hk hs) (lo5 hq hk hs) (hi5 hq hk hs) (lo6 hq hk hs) (hi6 hq hk hs) (lo7 hq hk hs) (hi7 hq hk hs)
  isplitl [H13]
  · iexists _; isplitr
    swap; · iexact H13
    ipureintro
    exact (View.read_writes_full _ f13 _ _ []).trans (means_eq hq hk hs)
  isplitl [H14]
  · iexists _; isplitr
    swap; · iexact H14
    ipureintro
    exact (View.read_writes_full _ f14 _ _ []).trans (congrArg (fun z => k0_pay17 z) (k_read f1 f2 f3 f4 f5 f6 f7))
  isplitl [H15]
  · iexists _; isplitr
    swap; · iexact H15
    ipureintro
    exact (View.read_writes_full _ f15 _ _ []).trans (congrArg (fun z => k0_pay18 z) (v_read f1 f4 f5 f6 f7))
  isplitl [H16]
  · iexists _; isplitr
    swap; · iexact H16
    ipureintro
    exact (View.read_writes_full _ f16 _ _ _).trans (divK_eq (len_read i f0)
      ((View.readCov_full _ _ _ _ _).trans (addK_eq (k_read f1 f2 f3 f4 f5 f6 f7) (len_read i f0) (View.readAt_full _ f16 _))))
  iexists _; isplitr
  swap; · iexact H17
  ipureintro
  exact (View.read_writes_full _ f17 _ _ _).trans (divV_eq (len_read i f0)
      ((View.readCov_full _ _ _ _ _).trans (addV_eq (v_read f1 f4 f5 f6 f7) (len_read i f0) (View.readAt_full _ f17 _))))

set_option maxHeartbeats 4000000 in
/-- A first point of the second batch. -/
theorem body_B0
    (hc1 : ¬ k0_cond1 i = 1#1) (hc2 : k0_cond2 i = 1#1)
    (hc3 : Scalar.cmpi .ne (Scalar.extui (Scalar.cmpi .eq (BitVec.ofNat 32 (i 1).val) 0#32) : BitVec 32) 0#32 = 1#1)
    (hc4 : ¬ Scalar.cmpi .ne (Scalar.extui (Scalar.cmpi .eq (BitVec.ofNat 32 (i 1).val) 15#32) : BitVec 32) 0#32 = 1#1)
    (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare (x7) ∗ owns c.tc arg10 fullShare (k0_pay10 x1 x4) ∗ owns c.tc arg11 fullShare (VecWindow.put x9 (k0_off2 i) S1x256.size (k0_pay11 (scOf x1 x4))) ∗ owns c.tc arg12 fullShare (codes8 x10 (qkvOf x1 x4 x5 x6 x7) (cosOf x2) (sinOf x3)) ∗ owns c.tc arg13 fullShare (scales8 (qkvOf x1 x4 x5 x6 x7) (cosOf x2) (sinOf x3)) ∗ owns c.tc arg14 fullShare (rows8 x12 (qkvOf x1 x4 x5 x6 x7) (cosOf x2) (sinOf x3)) ∗ owns c.tc arg15 fullShare (means (qkvOf x1 x4 x5 x6 x7) (cosOf x2) (sinOf x3)) ∗ owns c.tc arg16 fullShare (k0_pay17 (kOf x1 x2 x3 x4 x5 x6 x7)) ∗ owns c.tc arg17 fullShare (k0_pay18 (vOf x1 x4 x5 x6 x7)) ∗ owns c.tc arg18 fullShare (addK i x0 x1 x2 x3 x4 x5 x6 x7 (k0_pay20 (F := F))) ∗ owns c.tc arg19 fullShare (addV i x0 x1 x4 x5 x6 x7 (k0_pay21 (F := F)))) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf12 hf13 hf14 hf15 hf16 hf17
  sl_exec
  sl_step
  iapply Hk
  have hq := qkv_read (m1 := arg3) (m4 := arg6) (m5 := arg7) (m6 := arg8) (m7 := arg9) f1 f4 f5 f6 f7
  have hk := cos_read (m2 := arg4) f2
  have hs := sin_read (m3 := arg5) f3
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    exact (View.read_writes_full _ f8 _ _ []).trans (code_read f1 f4)
  isplitl [H9]
  · iexists _; isplitr
    swap; · iexact H9
    ipureintro
    exact (View.read_writes_cons_put _ f9 _ _ [] rfl).trans (congrArg (fun z => VecWindow.put (View.read (Elt F) arg11.view f9) (k0_off2 i) S1x256.size (k0_pay11 z)) (sc_read f1 f4))
  isplitl [H10]
  · iexists _; isplitr
    swap; · iexact H10
    ipureintro
    exact codes_read f10 (code0 hq hk hs) (code1 hq hk hs) (code2 hq hk hs) (code3 hq hk hs) (code4 hq hk hs) (code5 hq hk hs) (code6 hq hk hs) (code7 hq hk hs)
  isplitl [H11]
  · iexists _; isplitr
    swap; · iexact H11
    ipureintro
    exact (View.read_writes_full _ f11 _ _ []).trans (scales_eq hq hk hs)
  isplitl [H12]
  · iexists _; isplitr
    swap; · iexact H12
    ipureintro
    exact rows_read f12 (lo0 hq hk hs) (hi0 hq hk hs) (lo1 hq hk hs) (hi1 hq hk hs) (lo2 hq hk hs) (hi2 hq hk hs) (lo3 hq hk hs) (hi3 hq hk hs) (lo4 hq hk hs) (hi4 hq hk hs) (lo5 hq hk hs) (hi5 hq hk hs) (lo6 hq hk hs) (hi6 hq hk hs) (lo7 hq hk hs) (hi7 hq hk hs)
  isplitl [H13]
  · iexists _; isplitr
    swap; · iexact H13
    ipureintro
    exact (View.read_writes_full _ f13 _ _ []).trans (means_eq hq hk hs)
  isplitl [H14]
  · iexists _; isplitr
    swap; · iexact H14
    ipureintro
    exact (View.read_writes_full _ f14 _ _ []).trans (congrArg (fun z => k0_pay17 z) (k_read f1 f2 f3 f4 f5 f6 f7))
  isplitl [H15]
  · iexists _; isplitr
    swap; · iexact H15
    ipureintro
    exact (View.read_writes_full _ f15 _ _ []).trans (congrArg (fun z => k0_pay18 z) (v_read f1 f4 f5 f6 f7))
  isplitl [H16]
  · iexists _; isplitr
    swap; · iexact H16
    ipureintro
    exact (View.read_writes_full _ f16 _ _ _).trans (addK_eq (k_read f1 f2 f3 f4 f5 f6 f7) (len_read i f0) (View.readCov_full _ _ _ _ _))
  iexists _; isplitr
  swap; · iexact H17
  ipureintro
  exact (View.read_writes_full _ f17 _ _ _).trans (addV_eq (v_read f1 f4 f5 f6 f7) (len_read i f0) (View.readCov_full _ _ _ _ _))

set_option maxHeartbeats 4000000 in
/-- A middle point of the second batch. -/
theorem body_B1
    (hc1 : ¬ k0_cond1 i = 1#1) (hc2 : k0_cond2 i = 1#1)
    (hc3 : ¬ Scalar.cmpi .ne (Scalar.extui (Scalar.cmpi .eq (BitVec.ofNat 32 (i 1).val) 0#32) : BitVec 32) 0#32 = 1#1)
    (hc4 : ¬ Scalar.cmpi .ne (Scalar.extui (Scalar.cmpi .eq (BitVec.ofNat 32 (i 1).val) 15#32) : BitVec 32) 0#32 = 1#1)
    (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare (x7) ∗ owns c.tc arg10 fullShare (k0_pay10 x1 x4) ∗ owns c.tc arg11 fullShare (VecWindow.put x9 (k0_off2 i) S1x256.size (k0_pay11 (scOf x1 x4))) ∗ owns c.tc arg12 fullShare (codes8 x10 (qkvOf x1 x4 x5 x6 x7) (cosOf x2) (sinOf x3)) ∗ owns c.tc arg13 fullShare (scales8 (qkvOf x1 x4 x5 x6 x7) (cosOf x2) (sinOf x3)) ∗ owns c.tc arg14 fullShare (rows8 x12 (qkvOf x1 x4 x5 x6 x7) (cosOf x2) (sinOf x3)) ∗ owns c.tc arg15 fullShare (means (qkvOf x1 x4 x5 x6 x7) (cosOf x2) (sinOf x3)) ∗ owns c.tc arg16 fullShare (k0_pay17 (kOf x1 x2 x3 x4 x5 x6 x7)) ∗ owns c.tc arg17 fullShare (k0_pay18 (vOf x1 x4 x5 x6 x7)) ∗ owns c.tc arg18 fullShare (addK i x0 x1 x2 x3 x4 x5 x6 x7 x16) ∗ owns c.tc arg19 fullShare (addV i x0 x1 x4 x5 x6 x7 x17)) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf12 hf13 hf14 hf15 hf16 hf17
  sl_exec
  sl_step
  iapply Hk
  have hq := qkv_read (m1 := arg3) (m4 := arg6) (m5 := arg7) (m6 := arg8) (m7 := arg9) f1 f4 f5 f6 f7
  have hk := cos_read (m2 := arg4) f2
  have hs := sin_read (m3 := arg5) f3
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    exact (View.read_writes_full _ f8 _ _ []).trans (code_read f1 f4)
  isplitl [H9]
  · iexists _; isplitr
    swap; · iexact H9
    ipureintro
    exact (View.read_writes_cons_put _ f9 _ _ [] rfl).trans (congrArg (fun z => VecWindow.put (View.read (Elt F) arg11.view f9) (k0_off2 i) S1x256.size (k0_pay11 z)) (sc_read f1 f4))
  isplitl [H10]
  · iexists _; isplitr
    swap; · iexact H10
    ipureintro
    exact codes_read f10 (code0 hq hk hs) (code1 hq hk hs) (code2 hq hk hs) (code3 hq hk hs) (code4 hq hk hs) (code5 hq hk hs) (code6 hq hk hs) (code7 hq hk hs)
  isplitl [H11]
  · iexists _; isplitr
    swap; · iexact H11
    ipureintro
    exact (View.read_writes_full _ f11 _ _ []).trans (scales_eq hq hk hs)
  isplitl [H12]
  · iexists _; isplitr
    swap; · iexact H12
    ipureintro
    exact rows_read f12 (lo0 hq hk hs) (hi0 hq hk hs) (lo1 hq hk hs) (hi1 hq hk hs) (lo2 hq hk hs) (hi2 hq hk hs) (lo3 hq hk hs) (hi3 hq hk hs) (lo4 hq hk hs) (hi4 hq hk hs) (lo5 hq hk hs) (hi5 hq hk hs) (lo6 hq hk hs) (hi6 hq hk hs) (lo7 hq hk hs) (hi7 hq hk hs)
  isplitl [H13]
  · iexists _; isplitr
    swap; · iexact H13
    ipureintro
    exact (View.read_writes_full _ f13 _ _ []).trans (means_eq hq hk hs)
  isplitl [H14]
  · iexists _; isplitr
    swap; · iexact H14
    ipureintro
    exact (View.read_writes_full _ f14 _ _ []).trans (congrArg (fun z => k0_pay17 z) (k_read f1 f2 f3 f4 f5 f6 f7))
  isplitl [H15]
  · iexists _; isplitr
    swap; · iexact H15
    ipureintro
    exact (View.read_writes_full _ f15 _ _ []).trans (congrArg (fun z => k0_pay18 z) (v_read f1 f4 f5 f6 f7))
  isplitl [H16]
  · iexists _; isplitr
    swap; · iexact H16
    ipureintro
    exact (View.read_writes_full _ f16 _ _ _).trans (addK_eq (k_read f1 f2 f3 f4 f5 f6 f7) (len_read i f0) (View.readAt_full _ f16 _))
  iexists _; isplitr
  swap; · iexact H17
  ipureintro
  exact (View.read_writes_full _ f17 _ _ _).trans (addV_eq (v_read f1 f4 f5 f6 f7) (len_read i f0) (View.readAt_full _ f17 _))

set_option maxHeartbeats 4000000 in
/-- A last point of the second batch. -/
theorem body_B2
    (hc1 : ¬ k0_cond1 i = 1#1) (hc2 : k0_cond2 i = 1#1)
    (hc3 : ¬ Scalar.cmpi .ne (Scalar.extui (Scalar.cmpi .eq (BitVec.ofNat 32 (i 1).val) 0#32) : BitVec 32) 0#32 = 1#1)
    (hc4 : Scalar.cmpi .ne (Scalar.extui (Scalar.cmpi .eq (BitVec.ofNat 32 (i 1).val) 15#32) : BitVec 32) 0#32 = 1#1)
    (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17
        ∗ (iprop(owns c.tc arg2 fullShare (x0) ∗ owns c.tc arg3 fullShare (x1) ∗ owns c.tc arg4 fullShare (x2) ∗ owns c.tc arg5 fullShare (x3) ∗ owns c.tc arg6 fullShare (x4) ∗ owns c.tc arg7 fullShare (x5) ∗ owns c.tc arg8 fullShare (x6) ∗ owns c.tc arg9 fullShare (x7) ∗ owns c.tc arg10 fullShare (k0_pay10 x1 x4) ∗ owns c.tc arg11 fullShare (VecWindow.put x9 (k0_off2 i) S1x256.size (k0_pay11 (scOf x1 x4))) ∗ owns c.tc arg12 fullShare (codes8 x10 (qkvOf x1 x4 x5 x6 x7) (cosOf x2) (sinOf x3)) ∗ owns c.tc arg13 fullShare (scales8 (qkvOf x1 x4 x5 x6 x7) (cosOf x2) (sinOf x3)) ∗ owns c.tc arg14 fullShare (rows8 x12 (qkvOf x1 x4 x5 x6 x7) (cosOf x2) (sinOf x3)) ∗ owns c.tc arg15 fullShare (means (qkvOf x1 x4 x5 x6 x7) (cosOf x2) (sinOf x3)) ∗ owns c.tc arg16 fullShare (k0_pay17 (kOf x1 x2 x3 x4 x5 x6 x7)) ∗ owns c.tc arg17 fullShare (k0_pay18 (vOf x1 x4 x5 x6 x7)) ∗ owns c.tc arg18 fullShare (k0_pay27 (lenOf i x0) (addK i x0 x1 x2 x3 x4 x5 x6 x7 x16)) ∗ owns c.tc arg19 fullShare (k0_pay28 (lenOf i x0) (addV i x0 x1 x4 x5 x6 x7 x17))) -∗ K ⟨⟩))
      ⊢ wp frame (wpE (defs₀ (F := F)) Variants.none c none) E (cc0_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_qkv_eq_skeleton]; unfold cc0_qkv_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf0 hf1 hf2 hf3 hf4 hf5 hf6 hf7 hf8 hf9 hf10 hf11 hf12 hf13 hf14 hf15 hf16 hf17
  sl_exec
  sl_step
  iapply Hk
  have hq := qkv_read (m1 := arg3) (m4 := arg6) (m5 := arg7) (m6 := arg8) (m7 := arg9) f1 f4 f5 f6 f7
  have hk := cos_read (m2 := arg4) f2
  have hs := sin_read (m3 := arg5) f3
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; isplitr
    swap; · iexact H8
    ipureintro
    exact (View.read_writes_full _ f8 _ _ []).trans (code_read f1 f4)
  isplitl [H9]
  · iexists _; isplitr
    swap; · iexact H9
    ipureintro
    exact (View.read_writes_cons_put _ f9 _ _ [] rfl).trans (congrArg (fun z => VecWindow.put (View.read (Elt F) arg11.view f9) (k0_off2 i) S1x256.size (k0_pay11 z)) (sc_read f1 f4))
  isplitl [H10]
  · iexists _; isplitr
    swap; · iexact H10
    ipureintro
    exact codes_read f10 (code0 hq hk hs) (code1 hq hk hs) (code2 hq hk hs) (code3 hq hk hs) (code4 hq hk hs) (code5 hq hk hs) (code6 hq hk hs) (code7 hq hk hs)
  isplitl [H11]
  · iexists _; isplitr
    swap; · iexact H11
    ipureintro
    exact (View.read_writes_full _ f11 _ _ []).trans (scales_eq hq hk hs)
  isplitl [H12]
  · iexists _; isplitr
    swap; · iexact H12
    ipureintro
    exact rows_read f12 (lo0 hq hk hs) (hi0 hq hk hs) (lo1 hq hk hs) (hi1 hq hk hs) (lo2 hq hk hs) (hi2 hq hk hs) (lo3 hq hk hs) (hi3 hq hk hs) (lo4 hq hk hs) (hi4 hq hk hs) (lo5 hq hk hs) (hi5 hq hk hs) (lo6 hq hk hs) (hi6 hq hk hs) (lo7 hq hk hs) (hi7 hq hk hs)
  isplitl [H13]
  · iexists _; isplitr
    swap; · iexact H13
    ipureintro
    exact (View.read_writes_full _ f13 _ _ []).trans (means_eq hq hk hs)
  isplitl [H14]
  · iexists _; isplitr
    swap; · iexact H14
    ipureintro
    exact (View.read_writes_full _ f14 _ _ []).trans (congrArg (fun z => k0_pay17 z) (k_read f1 f2 f3 f4 f5 f6 f7))
  isplitl [H15]
  · iexists _; isplitr
    swap; · iexact H15
    ipureintro
    exact (View.read_writes_full _ f15 _ _ []).trans (congrArg (fun z => k0_pay18 z) (v_read f1 f4 f5 f6 f7))
  isplitl [H16]
  · iexists _; isplitr
    swap; · iexact H16
    ipureintro
    exact (View.read_writes_full _ f16 _ _ _).trans (divK_eq (len_read i f0)
      ((View.readCov_full _ _ _ _ _).trans (addK_eq (k_read f1 f2 f3 f4 f5 f6 f7) (len_read i f0) (View.readAt_full _ f16 _))))
  iexists _; isplitr
  swap; · iexact H17
  ipureintro
  exact (View.read_writes_full _ f17 _ _ _).trans (divV_eq (len_read i f0)
      ((View.readCov_full _ _ _ _ _).trans (addV_eq (v_read f1 f4 f5 f6 f7) (len_read i f0) (View.readAt_full _ f17 _))))

end Cert.Proof.QkvIdeal

end
-- ==== Proof.QkvIdealStep.lean ====
/-
  Hand-written, untrusted. THE QKV KERNEL'S RUN of `QkvIdeal`: the body at any point of its grid (`body_step`), the
  pipeline's proof data for any relation on what the body leaves (`rdat`), and the run and the frame they give (`run`,
  `frame`).
-/
module

public import proofs.«01_k».proof.Proof.QkvIdealBody
public import Idealize.ShloMosaic.Lib.Claim

@[expose] public section

set_option maxRecDepth 16384

noncomputable section

namespace Cert.Proof.QkvIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.QkvIdeal Cert.QkvIdeal.Gen

variable {F : FTy → Type} [FloatOps F]

local notation "𝕄" => MT nD τ sig Unit (Elt F) ℕ (UR sig nD τ) ℕ

theorem cond1_iff : ∀ t : Fin grid0.N, k0_cond1 (grid0.coords t) = 1#1 ↔ t.val < 16 := by decide +kernel
theorem cond2_iff : ∀ t : Fin grid0.N, k0_cond2 (grid0.coords t) = 1#1 ↔ ¬ t.val < 16 := by decide +kernel
theorem cond3_iff : ∀ t : Fin grid0.N, Scalar.cmpi .ne (Scalar.extui (Scalar.cmpi .eq (BitVec.ofNat 32 (grid0.coords t 1).val) 0#32) : BitVec 32) 0#32 = 1#1
    ↔ t.val % 16 = 0 := by decide +kernel
theorem cond4_iff : ∀ t : Fin grid0.N, Scalar.cmpi .ne (Scalar.extui (Scalar.cmpi .eq (BitVec.ofNat 32 (grid0.coords t 1).val) 15#32) : BitVec 32) 0#32 = 1#1
    ↔ t.val % 16 = 15 := by decide +kernel

variable (t : Fin cfg0.N) (x0 : Vec F S2 .i32) (x1 : Vec F S1x256x8192 .bf16) (x2 : Vec F S1x256x64 .f32) (x3 : Vec F S1x256x64 .f32) (x4 : Vec F S1x8192 .f32) (x5 : Vec F S8192x1280 .fp8e4m3) (x6 : Vec F S1x1280 .f32) (x7 : Vec F S1x1280 .f32) (x8 : Vec F S1x256x8192 .fp8e4m3) (x9 : Vec F S2x4096 .f32) (x10 : Vec F S1x256x1024 .i8) (x11 : Vec F S1x8x8 .f32) (x12 : Vec F S1x2x32x128 .f32) (x13 : Vec F S1x2x8x128 .f32) (x14 : Vec F S1x256x128 .f32) (x15 : Vec F S1x256x128 .f32) (x16 : Vec F S1x1x128 .f32) (x17 : Vec F S1x1x128 .f32)

/-- What point `t` leaves in window 8's buffer. -/
def res8 : Vec F S1x256x8192 .fp8e4m3 :=
  k0_pay10 x1 x4

/-- What point `t` leaves in window 9's buffer. -/
def res9 : Vec F S2x4096 .f32 :=
  if t.val < 16 then VecWindow.put x9 (k0_off1 (grid0.coords t)) S1x256.size (k0_pay11 (scOf x1 x4))
  else VecWindow.put x9 (k0_off2 (grid0.coords t)) S1x256.size (k0_pay11 (scOf x1 x4))

/-- What point `t` leaves in window 10's buffer. -/
def res10 : Vec F S1x256x1024 .i8 :=
  codes8 x10 (qkvOf x1 x4 x5 x6 x7) (cosOf x2) (sinOf x3)

/-- What point `t` leaves in window 11's buffer. -/
def res11 : Vec F S1x8x8 .f32 :=
  scales8 (qkvOf x1 x4 x5 x6 x7) (cosOf x2) (sinOf x3)

/-- What point `t` leaves in window 12's buffer. -/
def res12 : Vec F S1x2x32x128 .f32 :=
  rows8 x12 (qkvOf x1 x4 x5 x6 x7) (cosOf x2) (sinOf x3)

/-- What point `t` leaves in window 13's buffer. -/
def res13 : Vec F S1x2x8x128 .f32 :=
  means (qkvOf x1 x4 x5 x6 x7) (cosOf x2) (sinOf x3)

/-- What point `t` leaves in window 14's buffer. -/
def res14 : Vec F S1x256x128 .f32 :=
  k0_pay17 (kOf x1 x2 x3 x4 x5 x6 x7)

/-- What point `t` leaves in window 15's buffer. -/
def res15 : Vec F S1x256x128 .f32 :=
  k0_pay18 (vOf x1 x4 x5 x6 x7)

/-- What point `t` leaves in window 16's buffer. -/
def res16 : Vec F S1x1x128 .f32 :=
  if t.val % 16 = 15 then k0_pay27 (lenOf (grid0.coords t) x0) (addK (grid0.coords t) x0 x1 x2 x3 x4 x5 x6 x7 x16)
  else addK (grid0.coords t) x0 x1 x2 x3 x4 x5 x6 x7 (if t.val % 16 = 0 then k0_pay20 (F := F) else x16)

/-- What point `t` leaves in window 17's buffer. -/
def res17 : Vec F S1x1x128 .f32 :=
  if t.val % 16 = 15 then k0_pay28 (lenOf (grid0.coords t) x0) (addV (grid0.coords t) x0 x1 x4 x5 x6 x7 x17)
  else addV (grid0.coords t) x0 x1 x4 x5 x6 x7 (if t.val % 16 = 0 then k0_pay21 (F := F) else x17)

/-- The body at point `t`, from any contents. -/
theorem body_step (c : Dev nD) (K : PUnit → sProp 𝕄) :
    iprop(owns c.tc (st0_0 t) fullShare x0 ∗ owns c.tc (st0_1 t) fullShare x1 ∗ owns c.tc (st0_2 t) fullShare x2 ∗ owns c.tc (st0_3 t) fullShare x3 ∗ owns c.tc (st0_4 t) fullShare x4 ∗ owns c.tc (st0_5 t) fullShare x5 ∗ owns c.tc (st0_6 t) fullShare x6 ∗ owns c.tc (st0_7 t) fullShare x7 ∗ owns c.tc (st0_8 t) fullShare x8 ∗ owns c.tc (st0_9 t) fullShare x9 ∗ owns c.tc (st0_10 t) fullShare x10 ∗ owns c.tc (st0_11 t) fullShare x11 ∗ owns c.tc (st0_12 t) fullShare x12 ∗ owns c.tc (st0_13 t) fullShare x13 ∗ owns c.tc (st0_14 t) fullShare x14 ∗ owns c.tc (st0_15 t) fullShare x15 ∗ owns c.tc (st0_16 t) fullShare x16 ∗ owns c.tc (st0_17 t) fullShare x17
        ∗ (iprop(owns c.tc (st0_0 t) fullShare x0 ∗ owns c.tc (st0_1 t) fullShare x1 ∗ owns c.tc (st0_2 t) fullShare x2 ∗ owns c.tc (st0_3 t) fullShare x3 ∗ owns c.tc (st0_4 t) fullShare x4 ∗ owns c.tc (st0_5 t) fullShare x5 ∗ owns c.tc (st0_6 t) fullShare x6 ∗ owns c.tc (st0_7 t) fullShare x7 ∗ owns c.tc (st0_8 t) fullShare (res8 x1 x4) ∗ owns c.tc (st0_9 t) fullShare (res9 t x1 x4 x9) ∗ owns c.tc (st0_10 t) fullShare (res10 x1 x2 x3 x4 x5 x6 x7 x10) ∗ owns c.tc (st0_11 t) fullShare (res11 x1 x2 x3 x4 x5 x6 x7) ∗ owns c.tc (st0_12 t) fullShare (res12 x1 x2 x3 x4 x5 x6 x7 x12) ∗ owns c.tc (st0_13 t) fullShare (res13 x1 x2 x3 x4 x5 x6 x7) ∗ owns c.tc (st0_14 t) fullShare (res14 x1 x2 x3 x4 x5 x6 x7) ∗ owns c.tc (st0_15 t) fullShare (res15 x1 x4 x5 x6 x7) ∗ owns c.tc (st0_16 t) fullShare (res16 t x0 x1 x2 x3 x4 x5 x6 x7 x16) ∗ owns c.tc (st0_17 t) fullShare (res17 t x0 x1 x4 x5 x6 x7 x17)) -∗ K ⟨⟩))
      ⊢ wp frame (wpE (defs₀ (F := F)) Variants.none c none) Set.univ (bodyAt0 t) K := by
  unfold bodyAt0 res8 res9 res10 res11 res12 res13 res14 res15 res16 res17
  by_cases h15 : t.val % 16 = 15
  · have h0 : ¬ t.val % 16 = 0 := by omega
    by_cases h : t.val < 16
    · simp only [if_pos h, if_pos h15]
      exact body_A2 c Set.univ (grid0.coords t) _ _ _ _ _ _ _ _ _ _ _ _ _ _ _ _ _ _ _ _ _ _ _ _ _ _ _ _ _ _ _ _ _ _ _ _ ((cond1_iff t).mpr h) (fun e => (cond2_iff t).mp e h) (fun e => h0 ((cond3_iff t).mp e)) ((cond4_iff t).mpr h15) x0 x1 x2 x3 x4 x5 x6 x7 x8 x9 x10 x11 x12 x13 x14 x15 x16 x17 K
    · simp only [if_neg h, if_pos h15]
      exact body_B2 c Set.univ (grid0.coords t) _ _ _ _ _ _ _ _ _ _ _ _ _ _ _ _ _ _ _ _ _ _ _ _ _ _ _ _ _ _ _ _ _ _ _ _ (fun e => h ((cond1_iff t).mp e)) ((cond2_iff t).mpr h) (fun e => h0 ((cond3_iff t).mp e)) ((cond4_iff t).mpr h15) x0 x1 x2 x3 x4 x5 x6 x7 x8 x9 x10 x11 x12 x13 x14 x15 x16 x17 K
  · by_cases h0 : t.val % 16 = 0
    · by_cases h : t.val < 16
      · simp only [if_pos h, if_neg h15, if_pos h0]
        exact body_A0 c Set.univ (grid0.coords t) _ _ _ _ _ _ _ _ _ _ _ _ _ _ _ _ _ _ _ _ _ _ _ _ _ _ _ _ _ _ _ _ _ _ _ _ ((cond1_iff t).mpr h) (fun e => (cond2_iff t).mp e h) ((cond3_iff t).mpr h0) (fun e => h15 ((cond4_iff t).mp e)) x0 x1 x2 x3 x4 x5 x6 x7 x8 x9 x10 x11 x12 x13 x14 x15 x16 x17 K
      · simp only [if_neg h, if_neg h15, if_pos h0]
        exact body_B0 c Set.univ (grid0.coords t) _ _ _ _ _ _ _ _ _ _ _ _ _ _ _ _ _ _ _ _ _ _ _ _ _ _ _ _ _ _ _ _ _ _ _ _ (fun e => h ((cond1_iff t).mp e)) ((cond2_iff t).mpr h) ((cond3_iff t).mpr h0) (fun e => h15 ((cond4_iff t).mp e)) x0 x1 x2 x3 x4 x5 x6 x7 x8 x9 x10 x11 x12 x13 x14 x15 x16 x17 K
    · by_cases h : t.val < 16
      · simp only [if_pos h, if_neg h15, if_neg h0]
        exact body_A1 c Set.univ (grid0.coords t) _ _ _ _ _ _ _ _ _ _ _ _ _ _ _ _ _ _ _ _ _ _ _ _ _ _ _ _ _ _ _ _ _ _ _ _ ((cond1_iff t).mpr h) (fun e => (cond2_iff t).mp e h) (fun e => h0 ((cond3_iff t).mp e)) (fun e => h15 ((cond4_iff t).mp e)) x0 x1 x2 x3 x4 x5 x6 x7 x8 x9 x10 x11 x12 x13 x14 x15 x16 x17 K
      · simp only [if_neg h, if_neg h15, if_neg h0]
        exact body_B1 c Set.univ (grid0.coords t) _ _ _ _ _ _ _ _ _ _ _ _ _ _ _ _ _ _ _ _ _ _ _ _ _ _ _ _ _ _ _ _ _ _ _ _ (fun e => h ((cond1_iff t).mp e)) ((cond2_iff t).mpr h) (fun e => h0 ((cond3_iff t).mp e)) (fun e => h15 ((cond4_iff t).mp e)) x0 x1 x2 x3 x4 x5 x6 x7 x8 x9 x10 x11 x12 x13 x14 x15 x16 x17 K

variable (m : (ℓ : Loc nD τ sig) → Buf (Elt F) ℓ) (ρ : Dev nD → PrngReg)
  (after : Dev nD → (w : Fin cfg0.W) → Fin cfg0.N → (Y X : (cfg0.win w).block.Idx → Elt F (cfg0.win w).elt) → Prop)

/-- The proof data. -/
def rdat (c : Dev nD) : RDat τ (Elt F) Unit ℕ (UR sig nD τ) ℕ cfg0 c where
  A w := V m c (Pipeline.arrRef spec0 w)
  after := after c
  Φ _ := Pipeline.ΦA cfg0.spec c
  q _ := fullShare
  owed _ := 0

/-- That one step of the body keeps the relation. -/
def Steps (c : Dev nD) : Prop :=
  ∀ (t : Fin cfg0.N) (Y : (w : Fin cfg0.W) → (cfg0.win w).block.Idx → Elt F (cfg0.win w).elt),
    (∀ w, (rdat m after c).Finds w t (Y w)) →
    after c 0 t (Y 0) (Y 0) ∧ after c 1 t (Y 1) (Y 1) ∧ after c 2 t (Y 2) (Y 2) ∧ after c 3 t (Y 3) (Y 3) ∧ after c 4 t (Y 4) (Y 4) ∧ after c 5 t (Y 5) (Y 5) ∧ after c 6 t (Y 6) (Y 6) ∧ after c 7 t (Y 7) (Y 7) ∧ after c 8 t (Y 8) (res8 (Y 1) (Y 4)) ∧ after c 9 t (Y 9) (res9 t (Y 1) (Y 4) (Y 9)) ∧ after c 10 t (Y 10) (res10 (Y 1) (Y 2) (Y 3) (Y 4) (Y 5) (Y 6) (Y 7) (Y 10)) ∧ after c 11 t (Y 11) (res11 (Y 1) (Y 2) (Y 3) (Y 4) (Y 5) (Y 6) (Y 7)) ∧ after c 12 t (Y 12) (res12 (Y 1) (Y 2) (Y 3) (Y 4) (Y 5) (Y 6) (Y 7) (Y 12)) ∧ after c 13 t (Y 13) (res13 (Y 1) (Y 2) (Y 3) (Y 4) (Y 5) (Y 6) (Y 7)) ∧ after c 14 t (Y 14) (res14 (Y 1) (Y 2) (Y 3) (Y 4) (Y 5) (Y 6) (Y 7)) ∧ after c 15 t (Y 15) (res15 (Y 1) (Y 4) (Y 5) (Y 6) (Y 7)) ∧ after c 16 t (Y 16) (res16 t (Y 0) (Y 1) (Y 2) (Y 3) (Y 4) (Y 5) (Y 6) (Y 7) (Y 16)) ∧ after c 17 t (Y 17) (res17 t (Y 0) (Y 1) (Y 4) (Y 5) (Y 6) (Y 7) (Y 17))

/-- The body table's row at point `t`'s slots is the body as `bodyAt0` spells it. -/
theorem defs₀_row : defs₀ (F := F) .tc cfg0.body (cfg0.bodyArgs t (cfg0.slots t)) = bodyAt0 t := by
  unfold defs₀; rw [Defs.onTc_tc]

theorem body_obligation (c : Dev nD) (hs : Steps m after c) :
    (rdat m after c).BodyObligation (defs₀ (F := F)) Variants.none () Set.univ := fun t Y hY => by
  rw [bigSep_W0, bigSep_W0, defs₀_row]
  rw [show (rdat m after c).Φ t.succ = Pipeline.ΦA cfg0.spec c from rfl,
    show (rdat m after c).Φ t.castSucc = Pipeline.ΦA cfg0.spec c from rfl,
    show (rdat m after c).owesAt () t.succ = (rdat m after c).owesAt () t.castSucc from rfl]
  iintro ⟨HP, Ho, H0, H1, H2, H3, H4, H5, H6, H7, H8, H9, H10, H11, H12, H13, H14, H15, H16, H17⟩
  obtain ⟨a0, a1, a2, a3, a4, a5, a6, a7, a8, a9, a10, a11, a12, a13, a14, a15, a16, a17⟩ := hs t Y hY
  iapply (body_step t (Y 0) (Y 1) (Y 2) (Y 3) (Y 4) (Y 5) (Y 6) (Y 7) (Y 8) (Y 9) (Y 10) (Y 11) (Y 12) (Y 13) (Y 14) (Y 15) (Y 16) (Y 17) c _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H0, H1, H2, H3, H4, H5, H6, H7, H8, H9, H10, H11, H12, H13, H14, H15, H16, H17⟩
  isplitl [HP]; · iexact HP
  isplitl [Ho]; · iexact Ho
  isplitl [H0]
  · iexists _; isplitr
    swap; · iexact H0
    ipureintro; exact a0
  isplitl [H1]
  · iexists _; isplitr
    swap; · iexact H1
    ipureintro; exact a1
  isplitl [H2]
  · iexists _; isplitr
    swap; · iexact H2
    ipureintro; exact a2
  isplitl [H3]
  · iexists _; isplitr
    swap; · iexact H3
    ipureintro; exact a3
  isplitl [H4]
  · iexists _; isplitr
    swap; · iexact H4
    ipureintro; exact a4
  isplitl [H5]
  · iexists _; isplitr
    swap; · iexact H5
    ipureintro; exact a5
  isplitl [H6]
  · iexists _; isplitr
    swap; · iexact H6
    ipureintro; exact a6
  isplitl [H7]
  · iexists _; isplitr
    swap; · iexact H7
    ipureintro; exact a7
  isplitl [H8]
  · iexists _; isplitr
    swap; · iexact H8
    ipureintro; exact a8
  isplitl [H9]
  · iexists _; isplitr
    swap; · iexact H9
    ipureintro; exact a9
  isplitl [H10]
  · iexists _; isplitr
    swap; · iexact H10
    ipureintro; exact a10
  isplitl [H11]
  · iexists _; isplitr
    swap; · iexact H11
    ipureintro; exact a11
  isplitl [H12]
  · iexists _; isplitr
    swap; · iexact H12
    ipureintro; exact a12
  isplitl [H13]
  · iexists _; isplitr
    swap; · iexact H13
    ipureintro; exact a13
  isplitl [H14]
  · iexists _; isplitr
    swap; · iexact H14
    ipureintro; exact a14
  isplitl [H15]
  · iexists _; isplitr
    swap; · iexact H15
    ipureintro; exact a15
  isplitl [H16]
  · iexists _; isplitr
    swap; · iexact H16
    ipureintro; exact a16
  iexists _; isplitr
  swap; · iexact H17
  ipureintro; exact a17

set_option backward.isDefEq.respectTransparency.types false in
set_option maxHeartbeats 800000 in
/-- THE RUN: from any proof data that the body's steps keep. -/
theorem run (hs : ∀ c, Steps m after c) :
    θ_run defs (onTc (τ := τ) (main (F := F))) (s₀ m ρ) (fun r => RDat.FramePost cfg0 (rdat m after) (V m) r ∧ r.2.sem = fun _ => 0) :=
  RDat.θ_run_frame_track (Q' := _) cfgs (0 : Fin 1) launch0 defs₀ Variants.none (rdat m after) m ρ main
    (hbody := fun c => body_obligation m after c (hs c))
    (hshare := fun c w => by unfold RDat.share; split <;> rfl)
    (howed := fun _ _ => rfl) (V := V m) (hmain := hmain m Variants.none) (hA := fun _ _ => rfl)
    (hin := fun c => .rfl) (hout := fun c => .rfl)

/-- The argument arrays end as launched. -/
theorem unchanged_of {r : PUnit × MemSt nD τ sig (Elt F)} (h : RDat.FramePost cfg0 (rdat m after) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hin : ∀ w, (cfg0.win w).isOut = false →
      r.2.mem ((cfg0.spec w).arr.view.loc (c.tc : Thread nD τ)) = V m c (Pipeline.arrRef spec0 w) := fun w hw => by
    have := (h c).1 w
    rw [RDat.ArrAt_in (rd := rdat m after c) w hw] at this
    exact this
  exact ⟨(hin 0 rfl).trans (V_main_arg0 m c),
    (hin 1 rfl).trans (V_main_arg1 m c),
    (hin 2 rfl).trans (V_main_arg2 m c),
    (hin 3 rfl).trans (V_main_arg3 m c),
    ((h c).2 main_arg4 (Pipeline.mem_restRefs_of main_arg4 (by decide) (by decide))).trans (V_main_arg4 m c),
    (hin 5 rfl).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- THE FRAME: every run ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => unchanged_of m _ h.1 c, h.2⟩)
    (run m ρ (fun _ _ _ _ _ => True) (fun _ _ _ _ => ⟨trivial, trivial, trivial, trivial, trivial, trivial, trivial, trivial, trivial, trivial, trivial, trivial, trivial, trivial, trivial, trivial, trivial, trivial⟩))

end Cert.Proof.QkvIdeal

end
-- ==== Proof.QkvSame.lean ====
/-
  Hand-written, untrusted. THE FRAME of `Qkv`: its text is `QkvIdeal`'s, so its run is `QkvIdeal`'s run.
-/
module

public import proofs.«01_k».proof.Proof.Gen.Qkv.Frame
public import proofs.«01_k».proof.Proof.QkvIdealStep

@[expose] public section

set_option maxRecDepth 16384

noncomputable section

namespace Cert.Proof.Qkv

open Idealize.ShloMosaic Idealize.ShloMosaic.TcCoe Idealize.SL.Sem
open Cert.Qkv Cert.Qkv.Gen

variable {F : FTy → Type} [FloatOps F]
variable (m : (ℓ : Loc nD τ sig) → Buf (Elt F) ℓ) (ρ : Dev nD → PrngReg)

set_option maxHeartbeats 4000000 in
set_option smartUnfolding false in
/-- THE FRAME: every run ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Cert.Proof.QkvIdeal.frame m ρ

end Cert.Proof.Qkv

end
-- ==== Proof.QkvSpec.lean ====
/-
  Hand-written, untrusted. THE QKV PROJECTION over the extended reals, index by index: the quantised rows' projection
  (`qkvAt`), the rotation (`rotF`), the masked means (`keyMean`, `valueMean`), and a query head's means over 128 rows,
  its scales over blocks of 32 rows and its codes (`meanF`, `scF8`, `cdF8`). The kernel multiplies by reciprocals and
  takes the maxima in the other order; `mean128`, `mul_inv_sc8` and `fmax_swap` say that these are the same.
-/
module

public import proofs.«01_k».proof.Proof.OutProjSpec

@[expose] public section

noncomputable section

namespace Cert.Proof.QkvSpec

open Idealize.ShloMosaic Idealize.ShloMosaic.ValueIdx Cert.Proof.Quant
open Cert.Proof.OutProjSpec (scF codeF init_eq)

/-! ## Numbers -/

/-- The largest int8 code, 127, -/
def c127 : EReal := FloatOps.ofBits (F := Ideal) .f32 0x42FE0000#32
/-- the smallest, -127, -/
def m127 : EReal := FloatOps.ofBits (F := Ideal) .f32 0xC2FE0000#32
/-- the number of rows a mean is taken over, -/
def c128 : EReal := FloatOps.ofBits (F := Ideal) .f32 0x43000000#32
/-- its reciprocal, -/
def inv128 : EReal := FloatOps.ofBits (F := Ideal) .f32 0x3C000000#32
/-- and the queries' factor. -/
def root : EReal := FloatOps.ofBits (F := Ideal) .f32 0x3DB504F3#32

theorem c127_eq : c127 = ((127 : ℝ) : EReal) := by
  show Ideal.ofBits .f32 0x42FE0000#32 = _
  simp [Ideal.ofBits, Ideal.ieee, -EReal.coe_mul]; norm_num

theorem c128_eq : c128 = ((128 : ℝ) : EReal) := by
  show Ideal.ofBits .f32 0x43000000#32 = _
  simp [Ideal.ofBits, Ideal.ieee, -EReal.coe_mul]; norm_num

theorem inv128_eq : inv128 = ((1 / 128 : ℝ) : EReal) := by
  show Ideal.ofBits .f32 0x3C000000#32 = _
  simp [Ideal.ofBits, Ideal.ieee, -EReal.coe_mul]; norm_num

/-- Multiplying by 1/128 is dividing by 128. -/
theorem mean128 (x : EReal) : x * inv128 = Ideal.div x c128 := by
  have h : c128 ≠ 0 := by rw [c128_eq]; exact_mod_cast (by norm_num : (128 : ℝ) ≠ 0)
  unfold Ideal.div
  rw [if_neg h, inv128_eq, c128_eq, ← EReal.coe_inv]
  norm_num

/-- A block's scale from its largest magnitude. -/
def sc8 (x : EReal) : EReal := if x = 0 then 1 else Ideal.div x c127

theorem sc8_ne_zero (x : EReal) : sc8 x ≠ 0 := by
  unfold sc8
  by_cases h : x = 0
  · rw [if_pos h]; exact one_ne_zero
  · rw [if_neg h]
    unfold Ideal.div
    have h4 : c127 ≠ 0 := by rw [c127_eq]; exact_mod_cast (by norm_num : (127 : ℝ) ≠ 0)
    rw [if_neg h4]
    intro e
    rcases mul_eq_zero.mp e with e | e
    · exact h e
    · rw [c127_eq, ← EReal.coe_inv] at e
      exact absurd (EReal.coe_eq_zero.mp e) (by norm_num)

/-- The scale as the programs print it: a select on the comparison with zero. -/
theorem select_sc8 {s : Shape} (v : FVec Ideal s .f32) (i : s.Idx) :
    select (cmpf .oeq v (broadcast s (Scalar.ofBits (F := Ideal) .f32 0x00000000#32))) (broadcast s (Scalar.ofBits (F := Ideal) .f32 0x3F800000#32))
      (divf v (broadcast s (Scalar.ofBits (F := Ideal) .f32 0x42FE0000#32))) i = sc8 (v i) := by
  show Scalar.select (Ideal.cmp .oeq (v i) (Ideal.ofBits .f32 0x00000000#32)) (Ideal.ofBits .f32 0x3F800000#32) (Ideal.div (v i) c127) = _
  rw [Ideal.ofBits_zero_f32, Ideal.ofBits_one_f32]
  unfold sc8 Scalar.select Ideal.cmp
  by_cases h : v i = 0
  · simp [h]
  · simp [h]

/-- Multiplying by the reciprocal of a scale is dividing by it. -/
theorem mul_inv_sc8 (y x : EReal) : y * Ideal.div (Scalar.ofBits (F := Ideal) .f32 0x3F800000#32) (sc8 x) = Ideal.div y (sc8 x) := by
  rw [show (Scalar.ofBits (F := Ideal) .f32 0x3F800000#32 : Ideal .f32) = (1 : EReal) from Ideal.ofBits_one_f32]
  exact Ideal.mul_one_div (sc8_ne_zero x)

/-- The int8 code of a quotient: rounded, clipped. -/
def code8 (y : EReal) : BitVec 8 :=
  FloatOps.fptosi (F := Ideal) (φ := .f32) 8 (min c127 (max m127 (FloatOps.roundeven (F := Ideal) (φ := .f32) y)))

/-- Two maxima in either order. -/
theorem fmax_swap {M N : Nat} (f : Fin M → Fin N → EReal) :
    (fmax fun i => fmax fun j => f i j) = fmax fun j => fmax fun i => f i j := by
  have le {K : Nat} (g : Fin K → EReal) (c : EReal) : fmax g ≤ c ↔ ∀ k, g k ≤ c := by
    unfold fmax
    rw [init_eq, Finset.fold_max_le]
    exact ⟨fun h k => h.2 k (Finset.mem_univ k), fun h => ⟨bot_le, fun k _ => h k⟩⟩
  refine eq_of_forall_ge_iff fun c => ?_
  simp only [le]
  exact forall_comm

/-! ## Rows and columns -/

/-- Row `r` of the `g`th 128 rows, -/
def rowG (g : Fin 32) (r : Fin 128) : Fin 4096 := ⟨128 * g.val + r.val, by omega⟩
/-- row `r` of the `u`th 32 rows, -/
def rowU (u : Fin 128) (r : Fin 32) : Fin 4096 := ⟨32 * u.val + r.val, by omega⟩
/-- which 128 rows a row is in, -/
def grp (t : Fin 4096) : Fin 32 := ⟨t.val / 128, by omega⟩
/-- and which 32. -/
def blk (t : Fin 4096) : Fin 128 := ⟨t.val / 32, by omega⟩
/-- Head `h`'s column `d` of the projection, -/
def qcol (h : Fin 8) (d : Fin 128) : Fin 1280 := ⟨128 * h.val + d.val, by omega⟩
/-- the keys', -/
def kcol (d : Fin 128) : Fin 1280 := ⟨1024 + d.val, by omega⟩
/-- and the values'. -/
def vcol (d : Fin 128) : Fin 1280 := ⟨1152 + d.val, by omega⟩
/-- A column's place among the 64 angles, -/
def lane (d : Fin 128) : Fin 64 := ⟨d.val % 64, by omega⟩
/-- and the column it is rotated with. -/
def turn (d : Fin 128) : Fin 128 := ⟨(d.val + 64) % 128, by omega⟩

/-! ## One head -/

/-- A row rotated. -/
def rotF (v : Fin 128 → EReal) (c s : Fin 64 → EReal) (d : Fin 128) : EReal :=
  if d.val < 64 then v d * c (lane d) - v (turn d) * s (lane d) else v d * c (lane d) + v (turn d) * s (lane d)

/-- A head's mean over 128 rows, -/
def meanF (f : Fin 4096 → Fin 128 → EReal) (g : Fin 32) (d : Fin 128) : EReal := Ideal.div (∑ r : Fin 128, f (rowG g r) d * root) c128
/-- its rows less their means, -/
def smF (f : Fin 4096 → Fin 128 → EReal) (t : Fin 4096) (d : Fin 128) : EReal := f t d * root - meanF f (grp t) d
/-- the scale of 32 rows, -/
def scF8 (f : Fin 4096 → Fin 128 → EReal) (u : Fin 128) : EReal :=
  sc8 (fmax fun r : Fin 32 => fmax fun d : Fin 128 => FloatOps.absf (F := Ideal) (φ := .f32) (smF f (rowU u r) d))
/-- and the codes. -/
def cdF8 (f : Fin 4096 → Fin 128 → EReal) (t : Fin 4096) (d : Fin 128) : BitVec 8 := code8 (Ideal.div (smF f t d) (scF8 f (blk t)))

/-! ## The whole arrays -/

/-- The arguments read by batch, row and column: the lengths, the rows, the cosines, the sines, the norm's weights, the
    weights, their columns' scales, the bias. -/
structure Args where
  n : Fin 2 → BitVec 32
  x : Fin 2 → Fin 4096 → Fin 8192 → EReal
  c : Fin 2 → Fin 4096 → Fin 64 → EReal
  s : Fin 2 → Fin 4096 → Fin 64 → EReal
  l : Fin 8192 → EReal
  w : Fin 8192 → Fin 1280 → EReal
  p : Fin 1280 → EReal
  z : Fin 1280 → EReal

/-- The arguments as the programs take them. -/
def Args.of (a0 : IVec ⟨1, ![2]⟩ 32) (a1 : FVec Ideal ⟨3, ![2, 4096, 8192]⟩ .bf16) (a2 a3 : FVec Ideal ⟨3, ![2, 4096, 64]⟩ .f32)
    (a4 : FVec Ideal ⟨1, ![8192]⟩ .f32) (a5 : FVec Ideal ⟨2, ![8192, 1280]⟩ .fp8e4m3) (a6 a7 : FVec Ideal ⟨1, ![1280]⟩ .f32) : Args where
  n b := a0 (ix1 b)
  x b t k := a1 (ix3 b t k)
  c b t j := a2 (ix3 b t j)
  s b t j := a3 (ix3 b t j)
  l k := a4 (ix1 k)
  w k j := a5 (ix2 k j)
  p j := a6 (ix1 j)
  z j := a7 (ix1 j)

variable (A : Args) (b : Fin 2) (t : Fin 4096)

/-- A row's scale, -/
def scaleAt : EReal := scF (A.x b t) A.l
/-- its codes, -/
def codeAt (k : Fin 8192) : EReal := codeF (A.x b t) A.l k
/-- its projection, -/
def qkvAt (j : Fin 1280) : EReal := (∑ k : Fin 8192, codeAt A b t k * A.w k j) * scaleAt A b t * A.p j + A.z j
/-- its rotated queries, -/
def qAt (h : Fin 8) (d : Fin 128) : EReal := rotF (fun d => qkvAt A b t (qcol h d)) (A.c b t) (A.s b t) d
/-- its rotated key -/
def kAt (d : Fin 128) : EReal := rotF (fun d => qkvAt A b t (kcol d)) (A.c b t) (A.s b t) d
/-- and its value. -/
def vAt (d : Fin 128) : EReal := qkvAt A b t (vcol d)
/-- An entry if its row is within the batch's length, and zero otherwise. -/
def mask (x : EReal) : EReal := Scalar.select (IntOp.cmpi .slt (BitVec.ofNat 32 t.val) (A.n b)) x 0

/-- A batch's mean over the rows within its length. -/
def meanOver (f : Fin 4096 → EReal) : EReal := Ideal.div (∑ t : Fin 4096, mask A b t (f t)) (FloatOps.sitofp (F := Ideal) .f32 (A.n b))

/-! ## The result arrays -/

/-- The head of a column of codes -/
def hd (j : Fin 1024) : Fin 8 := ⟨j.val / 128, by omega⟩
/-- and its place in the head. -/
def dim (j : Fin 1024) : Fin 128 := ⟨j.val % 128, by omega⟩
/-- The 32 rows of a lane-row of scales within 128 rows. -/
def quarter (g : Fin 32) (e : Fin 32) : Fin 128 := ⟨4 * g.val + e.val % 4, by omega⟩
/-- The head of a lane-row of scales. -/
def lhead (e : Fin 32) : Fin 8 := ⟨e.val / 4, by omega⟩

def codes : FVec Ideal ⟨3, ![2, 4096, 8192]⟩ .fp8e4m3 := fun i => codeAt A (i 0) (i 1) (i 2)
def scales : FVec Ideal ⟨2, ![2, 4096]⟩ .f32 := fun i => scaleAt A (i 0) (i 1)
def qcodes : IVec ⟨3, ![2, 4096, 1024]⟩ 8 := fun i => cdF8 (fun t d => qAt A (i 0) t (hd (i 2)) d) (i 1) (dim (i 2))
def qscales : FVec Ideal ⟨3, ![2, 128, 8]⟩ .f32 := fun i => scF8 (fun t d => qAt A (i 0) t (i 2) d) (i 1)
def qrows : FVec Ideal ⟨4, ![2, 32, 32, 128]⟩ .f32 := fun i => scF8 (fun t d => qAt A (i 0) t (lhead (i 2)) d) (quarter (i 1) (i 2))
def qmeans : FVec Ideal ⟨4, ![2, 32, 8, 128]⟩ .f32 := fun i => meanF (fun t d => qAt A (i 0) t (i 2) d) (i 1) (i 3)
def keys : FVec Ideal ⟨3, ![2, 4096, 128]⟩ .f32 := fun i => kAt A (i 0) (i 1) (i 2)
def values : FVec Ideal ⟨3, ![2, 4096, 128]⟩ .f32 := fun i => vAt A (i 0) (i 1) (i 2)
def kmeans : FVec Ideal ⟨3, ![2, 1, 128]⟩ .f32 := fun i => meanOver A (i 0) fun t => kAt A (i 0) t (i 2)
def vmeans : FVec Ideal ⟨3, ![2, 1, 128]⟩ .f32 := fun i => meanOver A (i 0) fun t => vAt A (i 0) t (i 2)

/-! ## Sums and maxima along an axis -/

section Reduce

variable {L M N : Nat}

/-- A matrix's column sum. -/
theorem colsum (x : FVec Ideal ⟨2, ![M, N]⟩ .f32) (h : (⟨2, ![M, N]⟩ : Shape).Reduces [0] ⟨1, ![N]⟩)
    (hφ : FKind.Formats .f32) (hacc : (0x00000000#32 : BitVec 32) = FKind.add.neutral .f32 hφ) (k : Fin N) :
    multiReduction .add [0] (⟨1, ![N]⟩ : Shape) x 0x00000000#32 h hφ hacc (ix1 k) = ∑ a : Fin M, x (ix2 a k) := by
  rw [Ideal.multiReduction_add_single]
  exact Finset.sum_congr rfl fun k _ => congrArg x (funext fun d => by
    match d with
    | ⟨0, _⟩ => rfl
    | ⟨1, _⟩ => rfl)

/-- The sum over the middle axis. -/
theorem midsum (x : FVec Ideal ⟨3, ![L, M, N]⟩ .f32) (h : (⟨3, ![L, M, N]⟩ : Shape).Reduces [1] ⟨2, ![L, N]⟩)
    (hφ : FKind.Formats .f32) (hacc : (0x00000000#32 : BitVec 32) = FKind.add.neutral .f32 hφ) (p : Fin L) (k : Fin N) :
    multiReduction .add [1] (⟨2, ![L, N]⟩ : Shape) x 0x00000000#32 h hφ hacc (ix2 p k) = ∑ a : Fin M, x (ix3 p a k) := by
  rw [Ideal.multiReduction_add_single]
  exact Finset.sum_congr rfl fun k _ => congrArg x (funext fun d => by
    match d with
    | ⟨0, _⟩ => rfl
    | ⟨1, _⟩ => rfl
    | ⟨2, _⟩ => rfl)

/-- The maximum over the middle axis. -/
theorem midmax (x : FVec Ideal ⟨3, ![L, M, N]⟩ .f32) (h : (⟨3, ![L, M, N]⟩ : Shape).Reduces [1] ⟨2, ![L, N]⟩)
    (hφ : FKind.Formats .f32) (hacc : (0xFF800000#32 : BitVec 32) = FKind.maximumf.neutral .f32 hφ) (p : Fin L) (k : Fin N) :
    multiReduction .maximumf [1] (⟨2, ![L, N]⟩ : Shape) x 0xFF800000#32 h hφ hacc (ix2 p k) = fmax fun a : Fin M => x (ix3 p a k) := by
  rw [Ideal.multiReduction_maximumf_single]
  unfold fmax
  have e : (x ∘ h.lift (ix2 p k)) = fun a : Fin M => x (ix3 p a k) := funext fun a => congrArg x (funext fun d => by
    match d with
    | ⟨0, _⟩ => rfl
    | ⟨1, _⟩ => rfl
    | ⟨2, _⟩ => rfl)
  exact congrArg (fun f => (Finset.univ : Finset (Fin M)).fold max (FloatOps.ofBits (F := Ideal) .f32 0xFF800000#32) f) e

variable {J K : Nat}

/-- The sum over the third axis of five. -/
theorem sum5 (x : FVec Ideal ⟨5, ![J, K, L, M, N]⟩ .f32) (h : (⟨5, ![J, K, L, M, N]⟩ : Shape).Reduces [2] ⟨4, ![J, K, M, N]⟩)
    (hφ : FKind.Formats .f32) (hacc : (0x00000000#32 : BitVec 32) = FKind.add.neutral .f32 hφ) (p : Fin J) (q : Fin K) (r : Fin M) (k : Fin N) :
    multiReduction .add [2] (⟨4, ![J, K, M, N]⟩ : Shape) x 0x00000000#32 h hφ hacc (ix4 p q r k) = ∑ a : Fin L, x (ix5 p q a r k) := by
  rw [Ideal.multiReduction_add_single]
  exact Finset.sum_congr rfl fun k _ => congrArg x (funext fun d => by
    match d with
    | ⟨0, _⟩ => rfl
    | ⟨1, _⟩ => rfl
    | ⟨2, _⟩ => rfl
    | ⟨3, _⟩ => rfl
    | ⟨4, _⟩ => rfl)

/-- The maximum over the last axis of five. -/
theorem max5 (x : FVec Ideal ⟨5, ![J, K, L, M, N]⟩ .f32) (h : (⟨5, ![J, K, L, M, N]⟩ : Shape).Reduces [4] ⟨4, ![J, K, L, M]⟩)
    (hφ : FKind.Formats .f32) (hacc : (0xFF800000#32 : BitVec 32) = FKind.maximumf.neutral .f32 hφ) (p : Fin J) (q : Fin K) (r : Fin L) (k : Fin M) :
    multiReduction .maximumf [4] (⟨4, ![J, K, L, M]⟩ : Shape) x 0xFF800000#32 h hφ hacc (ix4 p q r k) = fmax fun a : Fin N => x (ix5 p q r k a) := by
  rw [Ideal.multiReduction_maximumf_single]
  unfold fmax
  have e : (x ∘ h.lift (ix4 p q r k)) = fun a : Fin N => x (ix5 p q r k a) := funext fun a => congrArg x (funext fun d => by
    match d with
    | ⟨0, _⟩ => rfl
    | ⟨1, _⟩ => rfl
    | ⟨2, _⟩ => rfl
    | ⟨3, _⟩ => rfl
    | ⟨4, _⟩ => rfl)
  exact congrArg (fun f => (Finset.univ : Finset (Fin N)).fold max (FloatOps.ofBits (F := Ideal) .f32 0xFF800000#32) f) e

/-- The maximum over the third axis of four. -/
theorem max4 (x : FVec Ideal ⟨4, ![J, K, L, M]⟩ .f32) (h : (⟨4, ![J, K, L, M]⟩ : Shape).Reduces [2] ⟨3, ![J, K, M]⟩)
    (hφ : FKind.Formats .f32) (hacc : (0xFF800000#32 : BitVec 32) = FKind.maximumf.neutral .f32 hφ) (p : Fin J) (q : Fin K) (k : Fin M) :
    multiReduction .maximumf [2] (⟨3, ![J, K, M]⟩ : Shape) x 0xFF800000#32 h hφ hacc (ix3 p q k) = fmax fun a : Fin L => x (ix4 p q a k) := by
  rw [Ideal.multiReduction_maximumf_single]
  unfold fmax
  have e : (x ∘ h.lift (ix3 p q k)) = fun a : Fin L => x (ix4 p q a k) := funext fun a => congrArg x (funext fun d => by
    match d with
    | ⟨0, _⟩ => rfl
    | ⟨1, _⟩ => rfl
    | ⟨2, _⟩ => rfl
    | ⟨3, _⟩ => rfl)
  exact congrArg (fun f => (Finset.univ : Finset (Fin L)).fold max (FloatOps.ofBits (F := Ideal) .f32 0xFF800000#32) f) e

end Reduce

end Cert.Proof.QkvSpec

end
-- ==== Proof.QkvHead.lean ====
/-
  Hand-written, untrusted. One query head's stored values over the extended reals, index by index: its means over 128 rows,
  its scales over blocks of 32 rows and its codes, from the head's rotated queries in the block of 256 rows.
-/
module

public import proofs.«01_k».proof.Proof.QkvSpec
public import proofs.«01_k».proof.Proof.QkvIdealBody

@[expose] public section

set_option maxRecDepth 16384

noncomputable section

namespace Cert.Proof.QkvKernel

open Idealize.ShloMosaic Idealize.ShloMosaic.TcCoe Idealize.SL.Sem Idealize.ShloMosaic.ValueIdx
open Cert.QkvIdeal Cert.QkvIdeal.Gen Cert.Proof.Ops Cert.Proof.Quant Cert.Proof.QkvSpec Cert.Proof.QkvIdeal

/-- Row `a` of tile `T`'s 256 rows, -/
def row (T : Fin 16) (a : Fin 256) : Fin 4096 := ⟨256 * T.val + a.val, by omega⟩
/-- its `p`th 128 rows, -/
def grp2 (T : Fin 16) (p : Fin 2) : Fin 32 := ⟨2 * T.val + p.val, by omega⟩
/-- its `u`th 32 rows. -/
def blk8 (T : Fin 16) (u : Fin 8) : Fin 128 := ⟨8 * T.val + u.val, by omega⟩
/-- The `r`th row of the block's `p`th 128 rows, -/
def lo128 (p : Fin 2) (r : Fin 128) : Fin 256 := ⟨128 * p.val + r.val, by omega⟩
/-- and of its `u`th 32 rows. -/
def lo32 (u : Fin 8) (r : Fin 32) : Fin 256 := ⟨32 * u.val + r.val, by omega⟩

section Head

variable (V : FVec Ideal S256x128 .f32) (f : Fin 4096 → Fin 128 → EReal) (T : Fin 16)

/-- The scaled queries by 128 rows. -/
theorem pay106 (p : Fin 2) (r d : Fin 128) :
    k0_pay106 V (k0_pay105 (F := Ideal)) (ix3 p r d) = V (ix2 (lo128 p r) d) * root := by
  unfold k0_pay106
  refine shapeCast_apply (mulf V (k0_pay105 (F := Ideal))) _ (ix3 p r d) (ix2 (lo128 p r) d) ?_
  rw [Shape.rowMajor_val_two, Shape.rowMajor_val_three]
  show (128 * p.val + r.val) * 128 + d.val = (p.val * 128 + r.val) * 128 + d.val
  omega

/-- A matrix read with a middle axis of size one. -/
theorem mid {α : Type} {M N : Nat} (x : (⟨2, ![M, N]⟩ : Shape).Idx → α) (h : (⟨2, ![M, N]⟩ : Shape).ShapeCasts ⟨3, ![M, 1, N]⟩)
    (p : Fin M) (d : Fin N) : shapeCast (⟨3, ![M, 1, N]⟩ : Shape) x h (ix3 p 0 d) = x (ix2 p d) := by
  refine shapeCast_apply x h (ix3 p 0 d) (ix2 p d) ?_
  rw [Shape.rowMajor_val_two, Shape.rowMajor_val_three]
  show p.val * N + d.val = (p.val * 1 + 0) * N + d.val
  rw [Nat.mul_one, Nat.add_zero]

/-- A middle axis of size one broadcast. -/
theorem bmid {α : Type} {L M N : Nat} (x : (⟨3, ![L, 1, N]⟩ : Shape).Idx → α) (h : (⟨3, ![L, 1, N]⟩ : Shape).Broadcasts ⟨3, ![L, M, N]⟩)
    (p : Fin L) (r : Fin M) (d : Fin N) : broadcastTo (⟨3, ![L, M, N]⟩ : Shape) x h (ix3 p r d) = x (ix3 p 0 d) := by
  refine broadcastTo_apply x h (ix3 p r d) (ix3 p 0 d) fun a => ?_
  match a with
  | ⟨0, _⟩ =>
    by_cases h1 : L = 1
    · subst h1; simp
    · simp [ix3, h1]
  | ⟨1, _⟩ => simp [ix3]
  | ⟨2, _⟩ =>
    by_cases h1 : N = 1
    · subst h1; simp
    · simp [ix3, h1]

/-- The last two axes of size one broadcast. -/
theorem bcol33 {α : Type} {L M N : Nat} (x : (⟨3, ![L, 1, 1]⟩ : Shape).Idx → α) (h : (⟨3, ![L, 1, 1]⟩ : Shape).Broadcasts ⟨3, ![L, M, N]⟩)
    (p : Fin L) (r : Fin M) (d : Fin N) : broadcastTo (⟨3, ![L, M, N]⟩ : Shape) x h (ix3 p r d) = x (ix3 p 0 0) := by
  refine broadcastTo_apply x h (ix3 p r d) (ix3 p 0 0) fun a => ?_
  match a with
  | ⟨0, _⟩ =>
    by_cases h1 : L = 1
    · subst h1; simp
    · simp [ix3, h1]
  | ⟨1, _⟩ => simp [ix3]
  | ⟨2, _⟩ => simp [ix3]

variable {V f T} (hV : ∀ a d, V (ix2 a d) = f (row T a) d)
include hV

theorem mean_apply (p : Fin 2) (d : Fin 128) : headMean V (ix3 p 0 d) = meanF f (grp2 T p) d := by
  unfold headMean k0_pay107
  have e (P : FVec Ideal S2x128x128 .f32) (h : ∀ r, P (ix3 p r d) = f (rowG (grp2 T p) r) d * root) :
      mulf (shapeCast S2x1x128 (multiReduction .add [1] S2x128 P 0x00000000#32 reduces_S2x128x128_S2x128 (.inl rfl) rfl) shapeCasts_S2x128_S2x1x128)
        (broadcast S2x1x128 (Scalar.ofBits (F := Ideal) .f32 0x3C000000#32)) (ix3 p 0 d) = meanF f (grp2 T p) d := by
    unfold meanF
    refine Eq.trans ?_ (mean128 _)
    refine congrArg (fun z : EReal => z * inv128) ((mid _ _ p d).trans ((midsum P _ _ _ p d).trans ?_))
    exact Finset.sum_congr rfl fun r _ => h r
  refine e _ fun r => (pay106 V p r d).trans ?_
  rw [hV, show row T (lo128 p r) = rowG (grp2 T p) r from Fin.ext (by
    show 256 * T.val + (128 * p.val + r.val) = 128 * (2 * T.val + p.val) + r.val; omega)]

theorem smooth_apply (u : Fin 8) (r : Fin 32) (d : Fin 128) :
    k0_pay108 V (k0_pay105 (F := Ideal)) (ix3 u r d) = smF f (row T (lo32 u r)) d := by
  unfold k0_pay108
  have hp : u.val / 4 < 2 := by omega
  have hq : 32 * (u.val % 4) + r.val < 128 := by omega
  rw [shapeCast_apply _ _ (ix3 u r d) (ix3 (⟨u.val / 4, hp⟩ : Fin 2) (⟨32 * (u.val % 4) + r.val, hq⟩ : Fin 128) d) (by
    rw [Shape.rowMajor_val_three, Shape.rowMajor_val_three]
    show (u.val / 4 * 128 + (32 * (u.val % 4) + r.val)) * 128 + d.val = (u.val * 32 + r.val) * 128 + d.val
    omega)]
  have e (P : FVec Ideal S2x128x128 .f32) (M : FVec Ideal S2x1x128 .f32) (p : Fin 2) (q : Fin 128) :
      subf P (broadcastTo S2x128x128 M broadcasts_S2x1x128_S2x128x128) (ix3 p q d) = P (ix3 p q d) - M (ix3 p 0 d) :=
    congrArg (fun z : EReal => P (ix3 p q d) - z) (bmid M _ p q d)
  refine (e _ _ _ _).trans ?_
  unfold smF
  refine congrArg₂ (fun p q : EReal => p - q) ((pay106 V _ _ d).trans ?_) ((mean_apply hV _ d).trans ?_)
  · rw [hV]
    refine congrArg (fun t => f t d * root) (Fin.ext ?_)
    show 256 * T.val + (128 * (u.val / 4) + (32 * (u.val % 4) + r.val)) = 256 * T.val + (32 * u.val + r.val)
    omega
  · refine congrArg (fun g => meanF f g d) (Fin.ext ?_)
    show 2 * T.val + u.val / 4 = (256 * T.val + (32 * u.val + r.val)) / 128
    omega

theorem scale_apply (u : Fin 8) : headScale V (ix2 u 0) = scF8 f (blk8 T u) := by
  unfold headScale k0_pay109
  refine (select_sc8 _ (ix2 u 0)).trans ?_
  unfold scF8
  refine congrArg sc8 ?_
  have e (P : FVec Ideal S8x32x128 .f32) :
      shapeCast S8x1 (multiReduction .maximumf [1] S8 (multiReduction .maximumf [1] S8x128 (absf P) 0xFF800000#32 reduces_S8x32x128_S8x128 (.inl rfl) rfl)
        0xFF800000#32 reduces_S8x128_S8 (.inl rfl) rfl) shapeCasts_S8_S8x1 (ix2 u 0)
      = fmax fun r : Fin 32 => fmax fun d : Fin 128 => FloatOps.absf (F := Ideal) (φ := .f32) (P (ix3 u r d)) := by
    refine (scast_col _ _ u).trans ((rowmax _ _ _ _ u).trans ?_)
    refine Eq.trans ?_ (fmax_swap fun (d : Fin 128) (r : Fin 32) => FloatOps.absf (F := Ideal) (φ := .f32) (P (ix3 u r d)))
    exact congrArg fmax (funext fun d => midmax (absf P) _ _ _ u d)
  refine (e _).trans (congrArg fmax (funext fun r => congrArg fmax (funext fun d => congrArg (FloatOps.absf (F := Ideal) (φ := .f32)) ?_)))
  refine (smooth_apply hV u r d).trans (congrArg (fun t => smF f t d) (Fin.ext ?_))
  show 256 * T.val + (32 * u.val + r.val) = 32 * (8 * T.val + u.val) + r.val
  omega

theorem code_apply (a : Fin 256) (d : Fin 128) : headCode V (ix3 0 a d) = cdF8 f (row T a) d := by
  unfold headCode k0_pay110
  have hu : a.val / 32 < 8 := by omega
  have hr : a.val % 32 < 32 := by omega
  have e (P : FVec Ideal S8x32x128 .f32) (R : FVec Ideal S8x1 .f32) :
      shapeCast S1x256x128 (shapeCast S256x128 (fptosi 8 (minimumf (broadcast S8x32x128 (Scalar.ofBits (F := Ideal) .f32 0x42FE0000#32))
        (maximumf (broadcast S8x32x128 (Scalar.ofBits (F := Ideal) .f32 0xC2FE0000#32))
          (roundeven (mulf P (broadcastTo S8x32x128 (shapeCast S8x1x1 (divf (broadcast S8x1 (Scalar.ofBits (F := Ideal) .f32 0x3F800000#32)) R)
            shapeCasts_S8x1_S8x1x1) broadcasts_S8x1x1_S8x32x128)))))) shapeCasts_S8x32x128_S256x128) shapeCasts_S256x128_S1x256x128 (ix3 0 a d)
      = code8 (P (ix3 (⟨a.val / 32, hu⟩ : Fin 8) (⟨a.val % 32, hr⟩ : Fin 32) d)
          * Ideal.div (Scalar.ofBits (F := Ideal) .f32 0x3F800000#32) (R (ix2 (⟨a.val / 32, hu⟩ : Fin 8) 0))) := by
    refine (shapeCast_apply _ _ (ix3 0 a d) (ix2 a d) ?_).trans ((shapeCast_apply _ _ (ix2 a d)
      (ix3 (⟨a.val / 32, hu⟩ : Fin 8) (⟨a.val % 32, hr⟩ : Fin 32) d) ?_).trans ?_)
    · rw [Shape.rowMajor_val_two, Shape.rowMajor_val_three]
      show a.val * 128 + d.val = (0 * 256 + a.val) * 128 + d.val
      omega
    · rw [Shape.rowMajor_val_two, Shape.rowMajor_val_three]
      show (a.val / 32 * 32 + a.val % 32) * 128 + d.val = a.val * 128 + d.val
      omega
    · refine congrArg (fun z => code8 (P (ix3 (⟨a.val / 32, hu⟩ : Fin 8) (⟨a.val % 32, hr⟩ : Fin 32) d) * z)) ?_
      exact (bcol33 _ _ _ _ _).trans (shapeCast_apply _ _ (ix3 (⟨a.val / 32, hu⟩ : Fin 8) 0 0) (ix2 (⟨a.val / 32, hu⟩ : Fin 8) 0) (by
        rw [Shape.rowMajor_val_two, Shape.rowMajor_val_three]
        show a.val / 32 * 1 + 0 = (a.val / 32 * 1 + 0) * 1 + 0
        omega))
  refine (e _ _).trans ?_
  have h1 := smooth_apply hV (⟨a.val / 32, hu⟩ : Fin 8) (⟨a.val % 32, hr⟩ : Fin 32) d
  have h2 := scale_apply hV (⟨a.val / 32, hu⟩ : Fin 8)
  rw [show row T (lo32 (⟨a.val / 32, hu⟩ : Fin 8) (⟨a.val % 32, hr⟩ : Fin 32)) = row T a from Fin.ext (by
    show 256 * T.val + (32 * (a.val / 32) + a.val % 32) = 256 * T.val + a.val; omega)] at h1
  rw [show blk8 T (⟨a.val / 32, hu⟩ : Fin 8) = blk (row T a) from Fin.ext (by
    show 8 * T.val + a.val / 32 = (256 * T.val + a.val) / 32; omega)] at h2
  unfold cdF8
  refine congrArg code8 ((congrArg₂ (fun (p : EReal) (q : EReal) => p * Ideal.div (Scalar.ofBits (F := Ideal) .f32 0x3F800000#32) q) h1 h2).trans ?_)
  unfold scF8
  exact mul_inv_sc8 _ _

end Head

/-- A column of eight scales laid along the lanes. -/
theorem pay37 (s : FVec Ideal S8x1 .f32) (u : Fin 8) (l : Fin 128) : k0_pay37 s (ix2 u l) = s (ix2 u 0) := by
  unfold k0_pay37
  rw [shapeCast_self]
  exact bcol _ _ u l

theorem cast44 {α : Type} (x : S4x128.Idx → α) (h) (q : Fin 4) (l : Fin 128) :
    shapeCast S1x1x4x128 x h (ix4 0 0 q l) = x (ix2 q l) := by
  refine shapeCast_apply x h (ix4 0 0 q l) (ix2 q l) ?_
  rw [Shape.rowMajor_val_two, Shape.rowMajor_val_four]
  show q.val * 128 + l.val = ((0 * 1 + 0) * 4 + q.val) * 128 + l.val
  omega

theorem pay38 (s : FVec Ideal S8x1 .f32) (q : Fin 4) (l : Fin 128) :
    k0_pay38 s (ix4 0 0 q l) = s (ix2 (⟨q.val, by omega⟩ : Fin 8) 0) := by
  unfold k0_pay38
  refine (cast44 _ _ q l).trans ((extractStridedSlice_apply _ _ _ (ix2 q l) (ix2 (⟨q.val, by omega⟩ : Fin 8) l) (fun d => by
    match d with
    | ⟨0, _⟩ => show q.val = 0 + q.val; omega
    | ⟨1, _⟩ => show l.val = 0 + l.val; omega)).trans (pay37 s _ l))

theorem pay39 (s : FVec Ideal S8x1 .f32) (q : Fin 4) (l : Fin 128) :
    k0_pay39 s (ix4 0 0 q l) = s (ix2 (⟨4 + q.val, by omega⟩ : Fin 8) 0) := by
  unfold k0_pay39
  refine (cast44 _ _ q l).trans ((extractStridedSlice_apply _ _ _ (ix2 q l) (ix2 (⟨4 + q.val, by omega⟩ : Fin 8) l) (fun d => by
    match d with
    | ⟨0, _⟩ => rfl
    | ⟨1, _⟩ => show l.val = 0 + l.val; omega)).trans (pay37 s _ l))

theorem iota_col (u k : Fin 8) : iota .tc S8x8 32 [1] iota_S8x8_d1_w32 (ix2 u k) = BitVec.ofNat 32 k.val := by
  show BitVec.ofNat 32 (0 * 8 + k.val) = _
  rw [Nat.zero_mul, Nat.zero_add]

/-- Column `n` of the array of scales, -/
theorem col8_in (n : Fin 8) (s : FVec Ideal S8x1 .f32) (p : FVec Ideal S8x8 .f32) (u : Fin 8) :
    col8 (BitVec.ofNat 32 n.val) s p (ix2 u n) = s (ix2 u 0) := by
  unfold col8
  rw [shapeCast_self]
  show Scalar.select (IntOp.cmpi .eq (iota .tc S8x8 32 [1] iota_S8x8_d1_w32 (ix2 u n)) (BitVec.ofNat 32 n.val)) (broadcastTo S8x8 s broadcasts_S8x1_S8x8 (ix2 u n)) (p (ix2 u n)) = _
  rw [iota_col]
  exact (if_pos (by simp [IntOp.cmpi])).trans (bcol _ _ u n)

/-- and another. -/
theorem col8_out (n k : Fin 8) (hk : k ≠ n) (s : FVec Ideal S8x1 .f32) (p : FVec Ideal S8x8 .f32) (u : Fin 8) :
    col8 (BitVec.ofNat 32 n.val) s p (ix2 u k) = p (ix2 u k) := by
  unfold col8
  rw [shapeCast_self]
  show Scalar.select (IntOp.cmpi .eq (iota .tc S8x8 32 [1] iota_S8x8_d1_w32 (ix2 u k)) (BitVec.ofNat 32 n.val)) (broadcastTo S8x8 s broadcasts_S8x1_S8x8 (ix2 u k)) (p (ix2 u k)) = _
  rw [iota_col]
  refine if_neg ?_
  revert hk
  revert k n
  decide

end Cert.Proof.QkvKernel

end
-- ==== Proof.QkvPut.lean ====
/-
  Hand-written, untrusted. Reading what the qkv kernel stores head by head: windows put over arrays of three and four axes,
  and the heads by number.
-/
module

public import proofs.«01_k».proof.Proof.QkvHead

@[expose] public section

set_option maxRecDepth 16384

noncomputable section

namespace Cert.Proof.QkvKernel

open Idealize.ShloMosaic Idealize.ShloMosaic.TcCoe Idealize.SL.Sem Idealize.ShloMosaic.ValueIdx
open Cert.QkvIdeal Cert.QkvIdeal.Gen Cert.Proof.Ops Cert.Proof.Quant Cert.Proof.QkvSpec Cert.Proof.QkvIdeal
open Cert.Proof.OutProjSpec (rms rms_pos scF codeF code_eq)

/-! ## Windows over three and four axes -/

section Put

variable {α : Type}

/-- Inside the window the payload, -/
theorem put3_in {L M N l m n : Nat} (x : (⟨3, ![L, M, N]⟩ : Shape).Idx → α) (off : Fin 3 → ℕ) (w : (⟨3, ![l, m, n]⟩ : Shape).Idx → α)
    (a : Fin L) (b : Fin M) (c : Fin N) (p : Fin l) (q : Fin m) (r : Fin n) (h0 : a.val = off 0 + p.val) (h1 : b.val = off 1 + q.val)
    (h2 : c.val = off 2 + r.val) : VecWindow.put x off ![l, m, n] w (ix3 a b c) = w (ix3 p q r) := by
  unfold VecWindow.put
  have h : ∀ d : Fin 3, off d ≤ ((ix3 a b c : (⟨3, ![L, M, N]⟩ : Shape).Idx) d).val
      ∧ ((ix3 a b c : (⟨3, ![L, M, N]⟩ : Shape).Idx) d).val < off d + (![l, m, n] : Fin 3 → ℕ) d := fun d => by
    match d with
    | ⟨0, _⟩ => show off 0 ≤ a.val ∧ a.val < off 0 + l; omega
    | ⟨1, _⟩ => show off 1 ≤ b.val ∧ b.val < off 1 + m; omega
    | ⟨2, _⟩ => show off 2 ≤ c.val ∧ c.val < off 2 + n; omega
  refine (dif_pos h).trans (congrArg w (funext fun d => Fin.ext ?_))
  match d with
  | ⟨0, _⟩ => show a.val - off 0 = p.val; omega
  | ⟨1, _⟩ => show b.val - off 1 = q.val; omega
  | ⟨2, _⟩ => show c.val - off 2 = r.val; omega

/-- outside it what was there before. -/
theorem put3_out {L M N l m n : Nat} (x : (⟨3, ![L, M, N]⟩ : Shape).Idx → α) (off : Fin 3 → ℕ) (w : (⟨3, ![l, m, n]⟩ : Shape).Idx → α)
    (a : Fin L) (b : Fin M) (c : Fin N) (h : ¬ (off 2 ≤ c.val ∧ c.val < off 2 + n)) :
    VecWindow.put x off ![l, m, n] w (ix3 a b c) = x (ix3 a b c) := by
  unfold VecWindow.put
  exact dif_neg fun hh => h (hh (2 : Fin 3))

/-- The same over four axes: inside, -/
theorem put4_in {K L M N k l m n : Nat} (x : (⟨4, ![K, L, M, N]⟩ : Shape).Idx → α) (off : Fin 4 → ℕ) (w : (⟨4, ![k, l, m, n]⟩ : Shape).Idx → α)
    (z : Fin K) (a : Fin L) (b : Fin M) (c : Fin N) (o : Fin k) (p : Fin l) (q : Fin m) (r : Fin n) (h : z.val = off 0 + o.val)
    (h0 : a.val = off 1 + p.val) (h1 : b.val = off 2 + q.val)
    (h2 : c.val = off 3 + r.val) : VecWindow.put x off ![k, l, m, n] w (ix4 z a b c) = w (ix4 o p q r) := by
  unfold VecWindow.put
  have h : ∀ d : Fin 4, off d ≤ ((ix4 z a b c : (⟨4, ![K, L, M, N]⟩ : Shape).Idx) d).val
      ∧ ((ix4 z a b c : (⟨4, ![K, L, M, N]⟩ : Shape).Idx) d).val < off d + (![k, l, m, n] : Fin 4 → ℕ) d := fun d => by
    match d with
    | ⟨0, _⟩ => show off 0 ≤ z.val ∧ z.val < off 0 + k; omega
    | ⟨1, _⟩ => show off 1 ≤ a.val ∧ a.val < off 1 + l; omega
    | ⟨2, _⟩ => show off 2 ≤ b.val ∧ b.val < off 2 + m; omega
    | ⟨3, _⟩ => show off 3 ≤ c.val ∧ c.val < off 3 + n; omega
  refine (dif_pos h).trans (congrArg w (funext fun d => Fin.ext ?_))
  match d with
  | ⟨0, _⟩ => show z.val - off 0 = o.val; omega
  | ⟨1, _⟩ => show a.val - off 1 = p.val; omega
  | ⟨2, _⟩ => show b.val - off 2 = q.val; omega
  | ⟨3, _⟩ => show c.val - off 3 = r.val; omega

/-- and outside. -/
theorem put4_out {K L M N k l m n : Nat} (x : (⟨4, ![K, L, M, N]⟩ : Shape).Idx → α) (off : Fin 4 → ℕ) (w : (⟨4, ![k, l, m, n]⟩ : Shape).Idx → α)
    (z : Fin K) (a : Fin L) (b : Fin M) (c : Fin N) (h : ¬ (off 1 ≤ a.val ∧ a.val < off 1 + l) ∨ ¬ (off 2 ≤ b.val ∧ b.val < off 2 + m)) :
    VecWindow.put x off ![k, l, m, n] w (ix4 z a b c) = x (ix4 z a b c) := by
  unfold VecWindow.put
  refine dif_neg fun hh => ?_
  rcases h with h | h
  · exact h (hh (1 : Fin 4))
  · exact h (hh (2 : Fin 4))

/-- A leading axis of size one dropped, -/
theorem drop1 {M N : Nat} (x : (⟨3, ![1, M, N]⟩ : Shape).Idx → α) (h : (⟨3, ![1, M, N]⟩ : Shape).ShapeCasts ⟨2, ![M, N]⟩)
    (a : Fin M) (b : Fin N) : shapeCast (⟨2, ![M, N]⟩ : Shape) x h (ix2 a b) = x (ix3 0 a b) := by
  refine shapeCast_apply x h (ix2 a b) (ix3 0 a b) ?_
  rw [Shape.rowMajor_val_two, Shape.rowMajor_val_three]
  show (0 * M + a.val) * N + b.val = a.val * N + b.val
  rw [Nat.zero_mul, Nat.zero_add]

/-- and put before a matrix. -/
theorem add1 {M N : Nat} (x : (⟨2, ![M, N]⟩ : Shape).Idx → α) (h : (⟨2, ![M, N]⟩ : Shape).ShapeCasts ⟨3, ![1, M, N]⟩)
    (a : Fin M) (b : Fin N) : shapeCast (⟨3, ![1, M, N]⟩ : Shape) x h (ix3 0 a b) = x (ix2 a b) := by
  refine shapeCast_apply x h (ix3 0 a b) (ix2 a b) ?_
  rw [Shape.rowMajor_val_two, Shape.rowMajor_val_three]
  show a.val * N + b.val = (0 * M + a.val) * N + b.val
  rw [Nat.zero_mul, Nat.zero_add]

end Put

/-! ## The heads by number -/

section Heads

variable (Q : FVec Ideal S256x1280 .f32) (C S : FVec Ideal S256x128 .f32)

theorem slices : ∀ h : Fin 8, S256x1280.Slices ![0, 128 * h.val] S256x128 := by decide

/-- Head `h`'s rotated queries. -/
def headOf (h : Fin 8) : FVec Ideal S256x128 .f32 := rot ![0, 128 * h.val] (slices h) Q C S

theorem codes_apply (x : Vec Ideal S1x256x1024 .i8) (a : Fin 256) (d : Fin 128) : ∀ (h : Fin 8) (j : Fin 1024), j.val = 128 * h.val + d.val →
    codes8 x Q C S (ix3 0 a j) = headCode (headOf Q C S h) (ix3 0 a d)
  | ⟨0, _⟩, j, hj => by
    have hd := d.isLt
    have hj : j.val = 128 * 0 + d.val := hj
    unfold codes8
    refine (put3_out _ _ _ 0 a j (by show ¬ (896 ≤ j.val ∧ j.val < 896 + 128); omega)).trans ?_
    refine (put3_out _ _ _ 0 a j (by show ¬ (768 ≤ j.val ∧ j.val < 768 + 128); omega)).trans ?_
    refine (put3_out _ _ _ 0 a j (by show ¬ (640 ≤ j.val ∧ j.val < 640 + 128); omega)).trans ?_
    refine (put3_out _ _ _ 0 a j (by show ¬ (512 ≤ j.val ∧ j.val < 512 + 128); omega)).trans ?_
    refine (put3_out _ _ _ 0 a j (by show ¬ (384 ≤ j.val ∧ j.val < 384 + 128); omega)).trans ?_
    refine (put3_out _ _ _ 0 a j (by show ¬ (256 ≤ j.val ∧ j.val < 256 + 128); omega)).trans ?_
    refine (put3_out _ _ _ 0 a j (by show ¬ (128 ≤ j.val ∧ j.val < 128 + 128); omega)).trans ?_
    exact put3_in _ _ _ 0 a j 0 a d rfl (Nat.zero_add _).symm (by show j.val = 0 + d.val; omega)
  | ⟨1, _⟩, j, hj => by
    have hd := d.isLt
    have hj : j.val = 128 * 1 + d.val := hj
    unfold codes8
    refine (put3_out _ _ _ 0 a j (by show ¬ (896 ≤ j.val ∧ j.val < 896 + 128); omega)).trans ?_
    refine (put3_out _ _ _ 0 a j (by show ¬ (768 ≤ j.val ∧ j.val < 768 + 128); omega)).trans ?_
    refine (put3_out _ _ _ 0 a j (by show ¬ (640 ≤ j.val ∧ j.val < 640 + 128); omega)).trans ?_
    refine (put3_out _ _ _ 0 a j (by show ¬ (512 ≤ j.val ∧ j.val < 512 + 128); omega)).trans ?_
    refine (put3_out _ _ _ 0 a j (by show ¬ (384 ≤ j.val ∧ j.val < 384 + 128); omega)).trans ?_
    refine (put3_out _ _ _ 0 a j (by show ¬ (256 ≤ j.val ∧ j.val < 256 + 128); omega)).trans ?_
    exact put3_in _ _ _ 0 a j 0 a d rfl (Nat.zero_add _).symm (by show j.val = 128 + d.val; omega)
  | ⟨2, _⟩, j, hj => by
    have hd := d.isLt
    have hj : j.val = 128 * 2 + d.val := hj
    unfold codes8
    refine (put3_out _ _ _ 0 a j (by show ¬ (896 ≤ j.val ∧ j.val < 896 + 128); omega)).trans ?_
    refine (put3_out _ _ _ 0 a j (by show ¬ (768 ≤ j.val ∧ j.val < 768 + 128); omega)).trans ?_
    refine (put3_out _ _ _ 0 a j (by show ¬ (640 ≤ j.val ∧ j.val < 640 + 128); omega)).trans ?_
    refine (put3_out _ _ _ 0 a j (by show ¬ (512 ≤ j.val ∧ j.val < 512 + 128); omega)).trans ?_
    refine (put3_out _ _ _ 0 a j (by show ¬ (384 ≤ j.val ∧ j.val < 384 + 128); omega)).trans ?_
    exact put3_in _ _ _ 0 a j 0 a d rfl (Nat.zero_add _).symm (by show j.val = 256 + d.val; omega)
  | ⟨3, _⟩, j, hj => by
    have hd := d.isLt
    have hj : j.val = 128 * 3 + d.val := hj
    unfold codes8
    refine (put3_out _ _ _ 0 a j (by show ¬ (896 ≤ j.val ∧ j.val < 896 + 128); omega)).trans ?_
    refine (put3_out _ _ _ 0 a j (by show ¬ (768 ≤ j.val ∧ j.val < 768 + 128); omega)).trans ?_
    refine (put3_out _ _ _ 0 a j (by show ¬ (640 ≤ j.val ∧ j.val < 640 + 128); omega)).trans ?_
    refine (put3_out _ _ _ 0 a j (by show ¬ (512 ≤ j.val ∧ j.val < 512 + 128); omega)).trans ?_
    exact put3_in _ _ _ 0 a j 0 a d rfl (Nat.zero_add _).symm (by show j.val = 384 + d.val; omega)
  | ⟨4, _⟩, j, hj => by
    have hd := d.isLt
    have hj : j.val = 128 * 4 + d.val := hj
    unfold codes8
    refine (put3_out _ _ _ 0 a j (by show ¬ (896 ≤ j.val ∧ j.val < 896 + 128); omega)).trans ?_
    refine (put3_out _ _ _ 0 a j (by show ¬ (768 ≤ j.val ∧ j.val < 768 + 128); omega)).trans ?_
    refine (put3_out _ _ _ 0 a j (by show ¬ (640 ≤ j.val ∧ j.val < 640 + 128); omega)).trans ?_
    exact put3_in _ _ _ 0 a j 0 a d rfl (Nat.zero_add _).symm (by show j.val = 512 + d.val; omega)
  | ⟨5, _⟩, j, hj => by
    have hd := d.isLt
    have hj : j.val = 128 * 5 + d.val := hj
    unfold codes8
    refine (put3_out _ _ _ 0 a j (by show ¬ (896 ≤ j.val ∧ j.val < 896 + 128); omega)).trans ?_
    refine (put3_out _ _ _ 0 a j (by show ¬ (768 ≤ j.val ∧ j.val < 768 + 128); omega)).trans ?_
    exact put3_in _ _ _ 0 a j 0 a d rfl (Nat.zero_add _).symm (by show j.val = 640 + d.val; omega)
  | ⟨6, _⟩, j, hj => by
    have hd := d.isLt
    have hj : j.val = 128 * 6 + d.val := hj
    unfold codes8
    refine (put3_out _ _ _ 0 a j (by show ¬ (896 ≤ j.val ∧ j.val < 896 + 128); omega)).trans ?_
    exact put3_in _ _ _ 0 a j 0 a d rfl (Nat.zero_add _).symm (by show j.val = 768 + d.val; omega)
  | ⟨7, _⟩, j, hj => by
    have hd := d.isLt
    have hj : j.val = 128 * 7 + d.val := hj
    unfold codes8
    exact put3_in _ _ _ 0 a j 0 a d rfl (Nat.zero_add _).symm (by show j.val = 896 + d.val; omega)

theorem n1 : ¬ (1 ≤ 0 ∧ 0 < 1 + 1) := by omega
theorem n0 : ¬ (0 ≤ 1 ∧ 1 < 0 + 1) := by omega

/-- The scales of the block's `p`th 128 rows along the lanes. -/
theorem rows_apply (x : Vec Ideal S1x2x32x128 .f32) (q : Fin 4) (l : Fin 128) : ∀ (p : Fin 2) (h : Fin 8) (e : Fin 32) (u : Fin 8), e.val = 4 * h.val + q.val →
    u.val = 4 * p.val + q.val → rows8 x Q C S (ix4 0 p e l) = headScale (headOf Q C S h) (ix2 u 0)
  | ⟨0, hp⟩, ⟨0, hh⟩, e, u, he, hu => by
    have hq := q.isLt
    have he : e.val = 4 * 0 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_out _ _ _ 0 ⟨0, hp⟩ e l (.inr (by show ¬ (24 ≤ e.val ∧ e.val < 24 + 4); omega))).trans ?_
    refine (put4_out _ _ _ 0 ⟨0, hp⟩ e l (.inl n1)).trans ?_
    refine (put4_out _ _ _ 0 ⟨0, hp⟩ e l (.inr (by show ¬ (20 ≤ e.val ∧ e.val < 20 + 4); omega))).trans ?_
    refine (put4_out _ _ _ 0 ⟨0, hp⟩ e l (.inl n1)).trans ?_
    refine (put4_out _ _ _ 0 ⟨0, hp⟩ e l (.inr (by show ¬ (16 ≤ e.val ∧ e.val < 16 + 4); omega))).trans ?_
    refine (put4_out _ _ _ 0 ⟨0, hp⟩ e l (.inl n1)).trans ?_
    refine (put4_out _ _ _ 0 ⟨0, hp⟩ e l (.inr (by show ¬ (12 ≤ e.val ∧ e.val < 12 + 4); omega))).trans ?_
    refine (put4_out _ _ _ 0 ⟨0, hp⟩ e l (.inl n1)).trans ?_
    refine (put4_out _ _ _ 0 ⟨0, hp⟩ e l (.inr (by show ¬ (8 ≤ e.val ∧ e.val < 8 + 4); omega))).trans ?_
    refine (put4_out _ _ _ 0 ⟨0, hp⟩ e l (.inl n1)).trans ?_
    refine (put4_out _ _ _ 0 ⟨0, hp⟩ e l (.inr (by show ¬ (4 ≤ e.val ∧ e.val < 4 + 4); omega))).trans ?_
    refine (put4_out _ _ _ 0 ⟨0, hp⟩ e l (.inl n1)).trans ?_
    refine (put4_in _ _ _ 0 ⟨0, hp⟩ e l 0 0 q l rfl rfl (by show e.val = 0 + q.val; omega) (Nat.zero_add _).symm).trans ((pay38 _ q l).trans ?_)
    exact congrArg (fun u => headScale (headOf Q C S ⟨0, hh⟩) (ix2 u 0)) (Fin.ext (by have hu : u.val = 4 * 0 + q.val := hu; show q.val = u.val; omega))
  | ⟨0, hp⟩, ⟨1, hh⟩, e, u, he, hu => by
    have hq := q.isLt
    have he : e.val = 4 * 1 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_out _ _ _ 0 ⟨0, hp⟩ e l (.inr (by show ¬ (24 ≤ e.val ∧ e.val < 24 + 4); omega))).trans ?_
    refine (put4_out _ _ _ 0 ⟨0, hp⟩ e l (.inl n1)).trans ?_
    refine (put4_out _ _ _ 0 ⟨0, hp⟩ e l (.inr (by show ¬ (20 ≤ e.val ∧ e.val < 20 + 4); omega))).trans ?_
    refine (put4_out _ _ _ 0 ⟨0, hp⟩ e l (.inl n1)).trans ?_
    refine (put4_out _ _ _ 0 ⟨0, hp⟩ e l (.inr (by show ¬ (16 ≤ e.val ∧ e.val < 16 + 4); omega))).trans ?_
    refine (put4_out _ _ _ 0 ⟨0, hp⟩ e l (.inl n1)).trans ?_
    refine (put4_out _ _ _ 0 ⟨0, hp⟩ e l (.inr (by show ¬ (12 ≤ e.val ∧ e.val < 12 + 4); omega))).trans ?_
    refine (put4_out _ _ _ 0 ⟨0, hp⟩ e l (.inl n1)).trans ?_
    refine (put4_out _ _ _ 0 ⟨0, hp⟩ e l (.inr (by show ¬ (8 ≤ e.val ∧ e.val < 8 + 4); omega))).trans ?_
    refine (put4_out _ _ _ 0 ⟨0, hp⟩ e l (.inl n1)).trans ?_
    refine (put4_in _ _ _ 0 ⟨0, hp⟩ e l 0 0 q l rfl rfl (by show e.val = 4 + q.val; omega) (Nat.zero_add _).symm).trans ((pay38 _ q l).trans ?_)
    exact congrArg (fun u => headScale (headOf Q C S ⟨1, hh⟩) (ix2 u 0)) (Fin.ext (by have hu : u.val = 4 * 0 + q.val := hu; show q.val = u.val; omega))
  | ⟨0, hp⟩, ⟨2, hh⟩, e, u, he, hu => by
    have hq := q.isLt
    have he : e.val = 4 * 2 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_out _ _ _ 0 ⟨0, hp⟩ e l (.inr (by show ¬ (24 ≤ e.val ∧ e.val < 24 + 4); omega))).trans ?_
    refine (put4_out _ _ _ 0 ⟨0, hp⟩ e l (.inl n1)).trans ?_
    refine (put4_out _ _ _ 0 ⟨0, hp⟩ e l (.inr (by show ¬ (20 ≤ e.val ∧ e.val < 20 + 4); omega))).trans ?_
    refine (put4_out _ _ _ 0 ⟨0, hp⟩ e l (.inl n1)).trans ?_
    refine (put4_out _ _ _ 0 ⟨0, hp⟩ e l (.inr (by show ¬ (16 ≤ e.val ∧ e.val < 16 + 4); omega))).trans ?_
    refine (put4_out _ _ _ 0 ⟨0, hp⟩ e l (.inl n1)).trans ?_
    refine (put4_out _ _ _ 0 ⟨0, hp⟩ e l (.inr (by show ¬ (12 ≤ e.val ∧ e.val < 12 + 4); omega))).trans ?_
    refine (put4_out _ _ _ 0 ⟨0, hp⟩ e l (.inl n1)).trans ?_
    refine (put4_in _ _ _ 0 ⟨0, hp⟩ e l 0 0 q l rfl rfl (by show e.val = 8 + q.val; omega) (Nat.zero_add _).symm).trans ((pay38 _ q l).trans ?_)
    exact congrArg (fun u => headScale (headOf Q C S ⟨2, hh⟩) (ix2 u 0)) (Fin.ext (by have hu : u.val = 4 * 0 + q.val := hu; show q.val = u.val; omega))
  | ⟨0, hp⟩, ⟨3, hh⟩, e, u, he, hu => by
    have hq := q.isLt
    have he : e.val = 4 * 3 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_out _ _ _ 0 ⟨0, hp⟩ e l (.inr (by show ¬ (24 ≤ e.val ∧ e.val < 24 + 4); omega))).trans ?_
    refine (put4_out _ _ _ 0 ⟨0, hp⟩ e l (.inl n1)).trans ?_
    refine (put4_out _ _ _ 0 ⟨0, hp⟩ e l (.inr (by show ¬ (20 ≤ e.val ∧ e.val < 20 + 4); omega))).trans ?_
    refine (put4_out _ _ _ 0 ⟨0, hp⟩ e l (.inl n1)).trans ?_
    refine (put4_out _ _ _ 0 ⟨0, hp⟩ e l (.inr (by show ¬ (16 ≤ e.val ∧ e.val < 16 + 4); omega))).trans ?_
    refine (put4_out _ _ _ 0 ⟨0, hp⟩ e l (.inl n1)).trans ?_
    refine (put4_in _ _ _ 0 ⟨0, hp⟩ e l 0 0 q l rfl rfl (by show e.val = 12 + q.val; omega) (Nat.zero_add _).symm).trans ((pay38 _ q l).trans ?_)
    exact congrArg (fun u => headScale (headOf Q C S ⟨3, hh⟩) (ix2 u 0)) (Fin.ext (by have hu : u.val = 4 * 0 + q.val := hu; show q.val = u.val; omega))
  | ⟨0, hp⟩, ⟨4, hh⟩, e, u, he, hu => by
    have hq := q.isLt
    have he : e.val = 4 * 4 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_out _ _ _ 0 ⟨0, hp⟩ e l (.inr (by show ¬ (24 ≤ e.val ∧ e.val < 24 + 4); omega))).trans ?_
    refine (put4_out _ _ _ 0 ⟨0, hp⟩ e l (.inl n1)).trans ?_
    refine (put4_out _ _ _ 0 ⟨0, hp⟩ e l (.inr (by show ¬ (20 ≤ e.val ∧ e.val < 20 + 4); omega))).trans ?_
    refine (put4_out _ _ _ 0 ⟨0, hp⟩ e l (.inl n1)).trans ?_
    refine (put4_in _ _ _ 0 ⟨0, hp⟩ e l 0 0 q l rfl rfl (by show e.val = 16 + q.val; omega) (Nat.zero_add _).symm).trans ((pay38 _ q l).trans ?_)
    exact congrArg (fun u => headScale (headOf Q C S ⟨4, hh⟩) (ix2 u 0)) (Fin.ext (by have hu : u.val = 4 * 0 + q.val := hu; show q.val = u.val; omega))
  | ⟨0, hp⟩, ⟨5, hh⟩, e, u, he, hu => by
    have hq := q.isLt
    have he : e.val = 4 * 5 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_out _ _ _ 0 ⟨0, hp⟩ e l (.inr (by show ¬ (24 ≤ e.val ∧ e.val < 24 + 4); omega))).trans ?_
    refine (put4_out _ _ _ 0 ⟨0, hp⟩ e l (.inl n1)).trans ?_
    refine (put4_in _ _ _ 0 ⟨0, hp⟩ e l 0 0 q l rfl rfl (by show e.val = 20 + q.val; omega) (Nat.zero_add _).symm).trans ((pay38 _ q l).trans ?_)
    exact congrArg (fun u => headScale (headOf Q C S ⟨5, hh⟩) (ix2 u 0)) (Fin.ext (by have hu : u.val = 4 * 0 + q.val := hu; show q.val = u.val; omega))
  | ⟨0, hp⟩, ⟨6, hh⟩, e, u, he, hu => by
    have hq := q.isLt
    have he : e.val = 4 * 6 + q.val := he
    unfold rows8
    refine (put4_out _ _ _ 0 ⟨0, hp⟩ e l (.inl n1)).trans ?_
    refine (put4_out _ _ _ 0 ⟨0, hp⟩ e l (.inr (by show ¬ (28 ≤ e.val ∧ e.val < 28 + 4); omega))).trans ?_
    refine (put4_out _ _ _ 0 ⟨0, hp⟩ e l (.inl n1)).trans ?_
    refine (put4_in _ _ _ 0 ⟨0, hp⟩ e l 0 0 q l rfl rfl (by show e.val = 24 + q.val; omega) (Nat.zero_add _).symm).trans ((pay38 _ q l).trans ?_)
    exact congrArg (fun u => headScale (headOf Q C S ⟨6, hh⟩) (ix2 u 0)) (Fin.ext (by have hu : u.val = 4 * 0 + q.val := hu; show q.val = u.val; omega))
  | ⟨0, hp⟩, ⟨7, hh⟩, e, u, he, hu => by
    have hq := q.isLt
    have he : e.val = 4 * 7 + q.val := he
    unfold rows8
    refine (put4_out _ _ _ 0 ⟨0, hp⟩ e l (.inl n1)).trans ?_
    refine (put4_in _ _ _ 0 ⟨0, hp⟩ e l 0 0 q l rfl rfl (by show e.val = 28 + q.val; omega) (Nat.zero_add _).symm).trans ((pay38 _ q l).trans ?_)
    exact congrArg (fun u => headScale (headOf Q C S ⟨7, hh⟩) (ix2 u 0)) (Fin.ext (by have hu : u.val = 4 * 0 + q.val := hu; show q.val = u.val; omega))
  | ⟨1, hp⟩, ⟨0, hh⟩, e, u, he, hu => by
    have hq := q.isLt
    have he : e.val = 4 * 0 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_out _ _ _ 0 ⟨1, hp⟩ e l (.inr (by show ¬ (24 ≤ e.val ∧ e.val < 24 + 4); omega))).trans ?_
    refine (put4_out _ _ _ 0 ⟨1, hp⟩ e l (.inl n0)).trans ?_
    refine (put4_out _ _ _ 0 ⟨1, hp⟩ e l (.inr (by show ¬ (20 ≤ e.val ∧ e.val < 20 + 4); omega))).trans ?_
    refine (put4_out _ _ _ 0 ⟨1, hp⟩ e l (.inl n0)).trans ?_
    refine (put4_out _ _ _ 0 ⟨1, hp⟩ e l (.inr (by show ¬ (16 ≤ e.val ∧ e.val < 16 + 4); omega))).trans ?_
    refine (put4_out _ _ _ 0 ⟨1, hp⟩ e l (.inl n0)).trans ?_
    refine (put4_out _ _ _ 0 ⟨1, hp⟩ e l (.inr (by show ¬ (12 ≤ e.val ∧ e.val < 12 + 4); omega))).trans ?_
    refine (put4_out _ _ _ 0 ⟨1, hp⟩ e l (.inl n0)).trans ?_
    refine (put4_out _ _ _ 0 ⟨1, hp⟩ e l (.inr (by show ¬ (8 ≤ e.val ∧ e.val < 8 + 4); omega))).trans ?_
    refine (put4_out _ _ _ 0 ⟨1, hp⟩ e l (.inl n0)).trans ?_
    refine (put4_out _ _ _ 0 ⟨1, hp⟩ e l (.inr (by show ¬ (4 ≤ e.val ∧ e.val < 4 + 4); omega))).trans ?_
    refine (put4_out _ _ _ 0 ⟨1, hp⟩ e l (.inl n0)).trans ?_
    refine (put4_in _ _ _ 0 ⟨1, hp⟩ e l 0 0 q l rfl rfl (by show e.val = 0 + q.val; omega) (Nat.zero_add _).symm).trans ((pay39 _ q l).trans ?_)
    exact congrArg (fun u => headScale (headOf Q C S ⟨0, hh⟩) (ix2 u 0)) (Fin.ext (by have hu : u.val = 4 * 1 + q.val := hu; show 4 + q.val = u.val; omega))
  | ⟨1, hp⟩, ⟨1, hh⟩, e, u, he, hu => by
    have hq := q.isLt
    have he : e.val = 4 * 1 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_out _ _ _ 0 ⟨1, hp⟩ e l (.inr (by show ¬ (24 ≤ e.val ∧ e.val < 24 + 4); omega))).trans ?_
    refine (put4_out _ _ _ 0 ⟨1, hp⟩ e l (.inl n0)).trans ?_
    refine (put4_out _ _ _ 0 ⟨1, hp⟩ e l (.inr (by show ¬ (20 ≤ e.val ∧ e.val < 20 + 4); omega))).trans ?_
    refine (put4_out _ _ _ 0 ⟨1, hp⟩ e l (.inl n0)).trans ?_
    refine (put4_out _ _ _ 0 ⟨1, hp⟩ e l (.inr (by show ¬ (16 ≤ e.val ∧ e.val < 16 + 4); omega))).trans ?_
    refine (put4_out _ _ _ 0 ⟨1, hp⟩ e l (.inl n0)).trans ?_
    refine (put4_out _ _ _ 0 ⟨1, hp⟩ e l (.inr (by show ¬ (12 ≤ e.val ∧ e.val < 12 + 4); omega))).trans ?_
    refine (put4_out _ _ _ 0 ⟨1, hp⟩ e l (.inl n0)).trans ?_
    refine (put4_out _ _ _ 0 ⟨1, hp⟩ e l (.inr (by show ¬ (8 ≤ e.val ∧ e.val < 8 + 4); omega))).trans ?_
    refine (put4_out _ _ _ 0 ⟨1, hp⟩ e l (.inl n0)).trans ?_
    refine (put4_in _ _ _ 0 ⟨1, hp⟩ e l 0 0 q l rfl rfl (by show e.val = 4 + q.val; omega) (Nat.zero_add _).symm).trans ((pay39 _ q l).trans ?_)
    exact congrArg (fun u => headScale (headOf Q C S ⟨1, hh⟩) (ix2 u 0)) (Fin.ext (by have hu : u.val = 4 * 1 + q.val := hu; show 4 + q.val = u.val; omega))
  | ⟨1, hp⟩, ⟨2, hh⟩, e, u, he, hu => by
    have hq := q.isLt
    have he : e.val = 4 * 2 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_out _ _ _ 0 ⟨1, hp⟩ e l (.inr (by show ¬ (24 ≤ e.val ∧ e.val < 24 + 4); omega))).trans ?_
    refine (put4_out _ _ _ 0 ⟨1, hp⟩ e l (.inl n0)).trans ?_
    refine (put4_out _ _ _ 0 ⟨1, hp⟩ e l (.inr (by show ¬ (20 ≤ e.val ∧ e.val < 20 + 4); omega))).trans ?_
    refine (put4_out _ _ _ 0 ⟨1, hp⟩ e l (.inl n0)).trans ?_
    refine (put4_out _ _ _ 0 ⟨1, hp⟩ e l (.inr (by show ¬ (16 ≤ e.val ∧ e.val < 16 + 4); omega))).trans ?_
    refine (put4_out _ _ _ 0 ⟨1, hp⟩ e l (.inl n0)).trans ?_
    refine (put4_out _ _ _ 0 ⟨1, hp⟩ e l (.inr (by show ¬ (12 ≤ e.val ∧ e.val < 12 + 4); omega))).trans ?_
    refine (put4_out _ _ _ 0 ⟨1, hp⟩ e l (.inl n0)).trans ?_
    refine (put4_in _ _ _ 0 ⟨1, hp⟩ e l 0 0 q l rfl rfl (by show e.val = 8 + q.val; omega) (Nat.zero_add _).symm).trans ((pay39 _ q l).trans ?_)
    exact congrArg (fun u => headScale (headOf Q C S ⟨2, hh⟩) (ix2 u 0)) (Fin.ext (by have hu : u.val = 4 * 1 + q.val := hu; show 4 + q.val = u.val; omega))
  | ⟨1, hp⟩, ⟨3, hh⟩, e, u, he, hu => by
    have hq := q.isLt
    have he : e.val = 4 * 3 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_out _ _ _ 0 ⟨1, hp⟩ e l (.inr (by show ¬ (24 ≤ e.val ∧ e.val < 24 + 4); omega))).trans ?_
    refine (put4_out _ _ _ 0 ⟨1, hp⟩ e l (.inl n0)).trans ?_
    refine (put4_out _ _ _ 0 ⟨1, hp⟩ e l (.inr (by show ¬ (20 ≤ e.val ∧ e.val < 20 + 4); omega))).trans ?_
    refine (put4_out _ _ _ 0 ⟨1, hp⟩ e l (.inl n0)).trans ?_
    refine (put4_out _ _ _ 0 ⟨1, hp⟩ e l (.inr (by show ¬ (16 ≤ e.val ∧ e.val < 16 + 4); omega))).trans ?_
    refine (put4_out _ _ _ 0 ⟨1, hp⟩ e l (.inl n0)).trans ?_
    refine (put4_in _ _ _ 0 ⟨1, hp⟩ e l 0 0 q l rfl rfl (by show e.val = 12 + q.val; omega) (Nat.zero_add _).symm).trans ((pay39 _ q l).trans ?_)
    exact congrArg (fun u => headScale (headOf Q C S ⟨3, hh⟩) (ix2 u 0)) (Fin.ext (by have hu : u.val = 4 * 1 + q.val := hu; show 4 + q.val = u.val; omega))
  | ⟨1, hp⟩, ⟨4, hh⟩, e, u, he, hu => by
    have hq := q.isLt
    have he : e.val = 4 * 4 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_out _ _ _ 0 ⟨1, hp⟩ e l (.inr (by show ¬ (24 ≤ e.val ∧ e.val < 24 + 4); omega))).trans ?_
    refine (put4_out _ _ _ 0 ⟨1, hp⟩ e l (.inl n0)).trans ?_
    refine (put4_out _ _ _ 0 ⟨1, hp⟩ e l (.inr (by show ¬ (20 ≤ e.val ∧ e.val < 20 + 4); omega))).trans ?_
    refine (put4_out _ _ _ 0 ⟨1, hp⟩ e l (.inl n0)).trans ?_
    refine (put4_in _ _ _ 0 ⟨1, hp⟩ e l 0 0 q l rfl rfl (by show e.val = 16 + q.val; omega) (Nat.zero_add _).symm).trans ((pay39 _ q l).trans ?_)
    exact congrArg (fun u => headScale (headOf Q C S ⟨4, hh⟩) (ix2 u 0)) (Fin.ext (by have hu : u.val = 4 * 1 + q.val := hu; show 4 + q.val = u.val; omega))
  | ⟨1, hp⟩, ⟨5, hh⟩, e, u, he, hu => by
    have hq := q.isLt
    have he : e.val = 4 * 5 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_out _ _ _ 0 ⟨1, hp⟩ e l (.inr (by show ¬ (24 ≤ e.val ∧ e.val < 24 + 4); omega))).trans ?_
    refine (put4_out _ _ _ 0 ⟨1, hp⟩ e l (.inl n0)).trans ?_
    refine (put4_in _ _ _ 0 ⟨1, hp⟩ e l 0 0 q l rfl rfl (by show e.val = 20 + q.val; omega) (Nat.zero_add _).symm).trans ((pay39 _ q l).trans ?_)
    exact congrArg (fun u => headScale (headOf Q C S ⟨5, hh⟩) (ix2 u 0)) (Fin.ext (by have hu : u.val = 4 * 1 + q.val := hu; show 4 + q.val = u.val; omega))
  | ⟨1, hp⟩, ⟨6, hh⟩, e, u, he, hu => by
    have hq := q.isLt
    have he : e.val = 4 * 6 + q.val := he
    unfold rows8
    refine (put4_out _ _ _ 0 ⟨1, hp⟩ e l (.inr (by show ¬ (28 ≤ e.val ∧ e.val < 28 + 4); omega))).trans ?_
    refine (put4_out _ _ _ 0 ⟨1, hp⟩ e l (.inl n0)).trans ?_
    refine (put4_in _ _ _ 0 ⟨1, hp⟩ e l 0 0 q l rfl rfl (by show e.val = 24 + q.val; omega) (Nat.zero_add _).symm).trans ((pay39 _ q l).trans ?_)
    exact congrArg (fun u => headScale (headOf Q C S ⟨6, hh⟩) (ix2 u 0)) (Fin.ext (by have hu : u.val = 4 * 1 + q.val := hu; show 4 + q.val = u.val; omega))
  | ⟨1, hp⟩, ⟨7, hh⟩, e, u, he, hu => by
    have hq := q.isLt
    have he : e.val = 4 * 7 + q.val := he
    unfold rows8
    refine (put4_in _ _ _ 0 ⟨1, hp⟩ e l 0 0 q l rfl rfl (by show e.val = 28 + q.val; omega) (Nat.zero_add _).symm).trans ((pay39 _ q l).trans ?_)
    exact congrArg (fun u => headScale (headOf Q C S ⟨7, hh⟩) (ix2 u 0)) (Fin.ext (by have hu : u.val = 4 * 1 + q.val := hu; show 4 + q.val = u.val; omega))

theorem scales_apply (u : Fin 8) : ∀ h : Fin 8, scales8 Q C S (ix3 0 u h) = headScale (headOf Q C S h) (ix2 u 0)
  | ⟨0, _⟩ => by
    unfold scales8 k0_pay3
    refine (add1 _ _ u 0).trans ?_
    refine (col8_out 7 0 (by decide) _ _ u).trans ?_
    refine (col8_out 6 0 (by decide) _ _ u).trans ?_
    refine (col8_out 5 0 (by decide) _ _ u).trans ?_
    refine (col8_out 4 0 (by decide) _ _ u).trans ?_
    refine (col8_out 3 0 (by decide) _ _ u).trans ?_
    refine (col8_out 2 0 (by decide) _ _ u).trans ?_
    refine (col8_out 1 0 (by decide) _ _ u).trans ?_
    exact col8_in 0 _ _ u
  | ⟨1, _⟩ => by
    unfold scales8 k0_pay3
    refine (add1 _ _ u 1).trans ?_
    refine (col8_out 7 1 (by decide) _ _ u).trans ?_
    refine (col8_out 6 1 (by decide) _ _ u).trans ?_
    refine (col8_out 5 1 (by decide) _ _ u).trans ?_
    refine (col8_out 4 1 (by decide) _ _ u).trans ?_
    refine (col8_out 3 1 (by decide) _ _ u).trans ?_
    refine (col8_out 2 1 (by decide) _ _ u).trans ?_
    exact col8_in 1 _ _ u
  | ⟨2, _⟩ => by
    unfold scales8 k0_pay3
    refine (add1 _ _ u 2).trans ?_
    refine (col8_out 7 2 (by decide) _ _ u).trans ?_
    refine (col8_out 6 2 (by decide) _ _ u).trans ?_
    refine (col8_out 5 2 (by decide) _ _ u).trans ?_
    refine (col8_out 4 2 (by decide) _ _ u).trans ?_
    refine (col8_out 3 2 (by decide) _ _ u).trans ?_
    exact col8_in 2 _ _ u
  | ⟨3, _⟩ => by
    unfold scales8 k0_pay3
    refine (add1 _ _ u 3).trans ?_
    refine (col8_out 7 3 (by decide) _ _ u).trans ?_
    refine (col8_out 6 3 (by decide) _ _ u).trans ?_
    refine (col8_out 5 3 (by decide) _ _ u).trans ?_
    refine (col8_out 4 3 (by decide) _ _ u).trans ?_
    exact col8_in 3 _ _ u
  | ⟨4, _⟩ => by
    unfold scales8 k0_pay3
    refine (add1 _ _ u 4).trans ?_
    refine (col8_out 7 4 (by decide) _ _ u).trans ?_
    refine (col8_out 6 4 (by decide) _ _ u).trans ?_
    refine (col8_out 5 4 (by decide) _ _ u).trans ?_
    exact col8_in 4 _ _ u
  | ⟨5, _⟩ => by
    unfold scales8 k0_pay3
    refine (add1 _ _ u 5).trans ?_
    refine (col8_out 7 5 (by decide) _ _ u).trans ?_
    refine (col8_out 6 5 (by decide) _ _ u).trans ?_
    exact col8_in 5 _ _ u
  | ⟨6, _⟩ => by
    unfold scales8 k0_pay3
    refine (add1 _ _ u 6).trans ?_
    refine (col8_out 7 6 (by decide) _ _ u).trans ?_
    exact col8_in 6 _ _ u
  | ⟨7, _⟩ => by
    unfold scales8 k0_pay3
    refine (add1 _ _ u 7).trans ?_
    exact col8_in 7 _ _ u

/-- Eight blocks with a middle axis of size one, side by side. -/
theorem cat8 (x : Fin 8 → FVec Ideal S2x1x128 .f32) (h) (p : Fin 2) (n : Fin 8) (d : Fin 128) :
    concatenate S2x8x128 1 [⟨S2x1x128, x 0⟩, ⟨S2x1x128, x 1⟩, ⟨S2x1x128, x 2⟩, ⟨S2x1x128, x 3⟩, ⟨S2x1x128, x 4⟩, ⟨S2x1x128, x 5⟩, ⟨S2x1x128, x 6⟩, ⟨S2x1x128, x 7⟩]
      h (ix3 p n d) = x n (ix3 p 0 d) :=
  concatenate_ofFn_unit_apply (t := S2x8x128) (s₁ := S2x1x128) (1 : Fin 3) x h rfl rfl (ix3 p n d) n rfl (ix3 p 0 d) (fun b hb => by
    match b with
    | ⟨0, _⟩ => rfl
    | ⟨1, _⟩ => exact absurd rfl hb
    | ⟨2, _⟩ => rfl)

theorem means_apply (p : Fin 2) (d : Fin 128) (h : Fin 8) : means Q C S (ix4 0 p h d) = headMean (headOf Q C S h) (ix3 p 0 d) := by
  unfold means k0_pay4
  refine (shapeCast_apply _ _ (ix4 0 p h d) (ix3 p h d) ?_).trans (cat8 (fun h => headMean (headOf Q C S h)) _ p h d)
  rw [Shape.rowMajor_val_three, Shape.rowMajor_val_four]
  show (p.val * 8 + h.val) * 128 + d.val = ((0 * 2 + p.val) * 8 + h.val) * 128 + d.val
  omega

end Heads

end Cert.Proof.QkvKernel

end
-- ==== Proof.QkvPay.lean ====
/-
  Hand-written, untrusted. The qkv kernel's stored values over the extended reals, index by index, for the block of batch
  `b`'s tile `T`.
-/
module

public import proofs.«01_k».proof.Proof.QkvPut
public import proofs.«01_k».proof.Proof.OutProjPay
public import Idealize.ShloMosaic.Lib.KernelVsHost

@[expose] public section

set_option maxRecDepth 16384

noncomputable section

namespace Cert.Proof.QkvKernel

open Idealize.ShloMosaic Idealize.ShloMosaic.TcCoe Idealize.SL.Sem Idealize.ShloMosaic.ValueIdx
open Cert.QkvIdeal Cert.QkvIdeal.Gen Cert.Proof.Ops Cert.Proof.Quant Cert.Proof.QkvSpec Cert.Proof.QkvIdeal
open Cert.Proof.OutProjSpec (rms rms_pos scF codeF code_eq)

/-! ## A block whose rows are the arrays' -/

/-- The block is batch `b`'s tile `T`. -/
structure Block (A : Args) (b : Fin 2) (T : Fin 16) (x1 : Vec Ideal S1x256x8192 .bf16) (x2 x3 : Vec Ideal S1x256x64 .f32)
    (x4 : Vec Ideal S1x8192 .f32) (x5 : Vec Ideal S8192x1280 .fp8e4m3) (x6 x7 : Vec Ideal S1x1280 .f32) : Prop where
  x : ∀ a k, x1 (ix3 0 a k) = A.x b (row T a) k
  c : ∀ a j, x2 (ix3 0 a j) = A.c b (row T a) j
  s : ∀ a j, x3 (ix3 0 a j) = A.s b (row T a) j
  l : ∀ k, x4 (ix2 0 k) = A.l k
  w : ∀ k j, x5 (ix2 k j) = A.w k j
  p : ∀ j, x6 (ix2 0 j) = A.p j
  z : ∀ j, x7 (ix2 0 j) = A.z j

/-- Two blocks of 64 columns side by side: the left one's columns -/
theorem cat_left (p q : FVec Ideal S256x64 .f32) (h) (a : Fin 256) (d : Fin 128) (hd : d.val < 64) :
    concatenate S256x128 1 [⟨S256x64, p⟩, ⟨S256x64, q⟩] h (ix2 a d) = p (ix2 a (lane d)) :=
  concatenate_pair_apply_left (t := S256x128) (s₁ := S256x64) (s₂ := S256x64) (1 : Fin 2) p q h (ix2 a d) rfl (ix2 a (lane d)) (fun e => by
    match e with
    | ⟨0, _⟩ => rfl
    | ⟨1, _⟩ => show d.val % 64 = d.val; omega)

/-- and the right one's. -/
theorem cat_right (p q : FVec Ideal S256x64 .f32) (h) (a : Fin 256) (d : Fin 128) (hd : ¬ d.val < 64) :
    concatenate S256x128 1 [⟨S256x64, p⟩, ⟨S256x64, q⟩] h (ix2 a d) = q (ix2 a (lane d)) :=
  concatenate_pair_apply_right (t := S256x128) (s₁ := S256x64) (s₂ := S256x64) (1 : Fin 2) p q h (ix2 a d) rfl rfl (ix2 a (lane d)) (fun e he => by
    match e with
    | ⟨0, _⟩ => rfl
    | ⟨1, _⟩ => exact absurd rfl he) (by show d.val % 64 + 64 = d.val; omega)

/-- A block rotated by 64 columns. -/
theorem turn_apply (x : FVec Ideal S256x128 .f32) (h) (a : Fin 256) (d : Fin 128) :
    dynamicRotate 1 64#32 none x h (ix2 a d) = x (ix2 a (turn d)) := by
  refine dynamicRotate_apply (s := S256x128) (1 : Fin 2) 64#32 x h (ix2 a d) (ix2 a (turn d)) fun e => ?_
  match e with
  | ⟨0, _⟩ => exact (if_neg (fun e => Nat.zero_ne_one (congrArg Fin.val e))).symm
  | ⟨1, _⟩ =>
    refine Eq.trans ?_ (if_pos rfl).symm
    show (d.val + 64) % 128 = (d.val + 128 - 64) % 128
    rfl

section Rows

variable {A : Args} {b : Fin 2} {T : Fin 16} {x1 : Vec Ideal S1x256x8192 .bf16} {x2 x3 : Vec Ideal S1x256x64 .f32}
    {x4 : Vec Ideal S1x8192 .f32} {x5 : Vec Ideal S8192x1280 .fp8e4m3} {x6 x7 : Vec Ideal S1x1280 .f32}
    (h : Block A b T x1 x2 x3 x4 x5 x6 x7) (a : Fin 256)

include h

theorem x_row (k : Fin 8192) : k0_pay5 x1 (ix2 a k) = A.x b (row T a) k := by
  unfold k0_pay5
  exact (drop1 x1 _ a k).trans (h.x a k)

theorem rms_row : k0_pay6 x1 (ix2 a 0) = rms (A.x b (row T a)) := by
  unfold k0_pay6
  refine (OutProjKernel.rms_apply a (k0_pay5 x1)).trans (congrArg rms (funext fun k => x_row h a k))

theorem wt_row (k : Fin 8192) : k0_pay7 x1 x4 (ix2 a k) = A.x b (row T a) k * A.l k := by
  unfold k0_pay7
  rw [shapeCast_self]
  exact congrArg₂ (fun p q : EReal => p * q) (x_row h a k) ((Ops.brow _ _ a k).trans (h.l k))

theorem sc_row : scOf x1 x4 (ix2 a 0) = scaleAt A b (row T a) := by
  unfold scOf k0_pay8
  refine (select_sc _ (ix2 a 0)).trans ?_
  unfold scaleAt scF
  have e (N : FVec Ideal S256x8192 .f32) (R : FVec Ideal S256x1 .f32) :
      divf (shapeCast S256x1 (multiReduction .maximumf [1] S256 (absf N) 0xFF800000#32 reduces_S256x8192_S256 (.inl rfl) rfl) shapeCasts_S256_S256x1) R (ix2 a 0)
        = Ideal.div (fmax fun k => FloatOps.absf (F := Ideal) (φ := .f32) (N (ix2 a k))) (R (ix2 a 0)) := by
    refine congrArg (fun z => Ideal.div z (R (ix2 a 0))) ((scast_col _ _ a).trans ?_)
    exact rowmax _ _ _ _ a
  refine congrArg sc ((e _ _).trans ?_)
  exact congrArg₂ (fun p q : EReal => Ideal.div p q) (congrArg fmax (funext fun k =>
    congrArg (fun z : EReal => FloatOps.absf (F := Ideal) (φ := .f32) z) (wt_row h a k))) (rms_row h a)

theorem cd_row (k : Fin 8192) : cdOf x1 x4 (ix2 a k) = codeAt A b (row T a) k := by
  unfold cdOf k0_pay9
  refine (OutProjKernel.quantise a (k0_pay7 x1 x4) (mulf (k0_pay6 x1) (k0_pay8 x1 x4)) k).trans ?_
  refine (congrArg₂ (fun p q : EReal => clip (p * Ideal.div (Scalar.ofBits (F := Ideal) .f32 0x3F800000#32) q)) (wt_row h a k)
    (congrArg₂ (fun p q : EReal => p * q) (rms_row h a) (sc_row h a))).trans ?_
  exact congrArg clip (code_eq (rms_pos _).ne' (sc_ne_zero _) _)

theorem qkv_row (j : Fin 1280) : qkvOf x1 x4 x5 x6 x7 (ix2 a j) = qkvAt A b (row T a) j := by
  unfold qkvOf k0_pay12
  rw [show dot_S256x8192_S8192x1280_S256x1280_1_0_0_1_n_n = DotDims.plain 256 8192 1280 from rfl]
  rw [shapeCast_self x6, shapeCast_self x7]
  have e (R : FVec Ideal S256x1 .f32) (D : FVec Ideal S256x8192 .fp8e4m3) :
      addf (mulf (mulf (matmul (φ₁ := .fp8e4m3) (φ₂ := .fp8e4m3) (DotDims.plain 256 8192 1280) none D x5 (constant S256x1280 .f32 0x00000000#32))
        (broadcastTo S256x1280 R broadcasts_S256x1_S256x1280)) (broadcastTo S256x1280 x6 broadcasts_S1x1280_S256x1280))
        (broadcastTo S256x1280 x7 broadcasts_S1x1280_S256x1280) (ix2 a j)
      = (∑ k : Fin 8192, D (ix2 a k) * x5 (ix2 k j)) * R (ix2 a 0) * x6 (ix2 0 j) + x7 (ix2 0 j) := by
    show FloatOps.matmul (F := Ideal) (DotDims.plain 256 8192 1280) none D x5 (constant S256x1280 .f32 0x00000000#32) (ix2 a j)
        * broadcastTo S256x1280 R broadcasts_S256x1_S256x1280 (ix2 a j) * broadcastTo S256x1280 x6 broadcasts_S1x1280_S256x1280 (ix2 a j)
        + broadcastTo S256x1280 x7 broadcasts_S1x1280_S256x1280 (ix2 a j) = _
    rw [Ideal.matmul_plain_apply, bcol, Ops.brow, Ops.brow]
    rw [show (constant S256x1280 .f32 0x00000000#32 : FVec Ideal S256x1280 .f32) (ix2 a j) = 0 from Ideal.ofBits_zero_f32, zero_add]
  refine (e _ _).trans ?_
  unfold qkvAt
  rw [sc_row h a, h.p, h.z]
  exact congrArg (fun z : EReal => z * scaleAt A b (row T a) * A.p j + A.z j) (Finset.sum_congr rfl fun k _ =>
    congrArg₂ (fun p q : EReal => p * q) (cd_row h a k) (h.w k j))

theorem cos_row (d : Fin 128) : cosOf x2 (ix2 a d) = A.c b (row T a) (lane d) := by
  unfold cosOf k0_pay13
  by_cases hd : d.val < 64
  · exact (cat_left _ _ _ a d hd).trans ((drop1 x2 _ a _).trans (h.c a _))
  · exact (cat_right _ _ _ a d hd).trans ((drop1 x2 _ a _).trans (h.c a _))

theorem sin_row (d : Fin 128) : sinOf x3 (ix2 a d) = if d.val < 64 then -A.s b (row T a) (lane d) else A.s b (row T a) (lane d) := by
  unfold sinOf k0_pay14
  have e (w : FVec Ideal S256x64 .f32) (j : Fin 64) : subf (broadcast S256x64 (Scalar.ofBits (F := Ideal) .f32 0x00000000#32)) w (ix2 a j) = -w (ix2 a j) := by
    show (Ideal.ofBits .f32 0x00000000#32 : EReal) - w (ix2 a j) = _
    rw [Ideal.ofBits_zero_f32, sub_eq_add_neg, zero_add]
  by_cases hd : d.val < 64
  · rw [if_pos hd]
    exact (cat_left _ _ _ a d hd).trans ((e _ _).trans (congrArg (fun z : EReal => -z) ((drop1 x3 _ a _).trans (h.s a _))))
  · rw [if_neg hd]
    exact (cat_right _ _ _ a d hd).trans ((drop1 x3 _ a _).trans (h.s a _))

/-- The columns from `o`, rotated. -/
theorem rot_row (o : Nat) (hs : S256x1280.Slices ![0, o] S256x128) (col : Fin 128 → Fin 1280) (hcol : ∀ d, (col d).val = o + d.val) (d : Fin 128) :
    rot ![0, o] hs (qkvOf x1 x4 x5 x6 x7) (cosOf x2) (sinOf x3) (ix2 a d)
      = rotF (fun d => qkvAt A b (row T a) (col d)) (A.c b (row T a)) (A.s b (row T a)) d := by
  have es (d : Fin 128) : extractStridedSlice S256x128 ![0, o] (qkvOf x1 x4 x5 x6 x7) hs (ix2 a d) = qkvAt A b (row T a) (col d) :=
    (extractStridedSlice_apply _ _ _ (ix2 a d) (ix2 a (col d)) (fun e => by
      match e with
      | ⟨0, _⟩ => show a.val = 0 + a.val; omega
      | ⟨1, _⟩ => exact hcol d)).trans (qkv_row h a _)
  have er : dynamicRotate 1 64#32 none (extractStridedSlice S256x128 ![0, o] (qkvOf x1 x4 x5 x6 x7) hs) rotates_S256x128_d1 (ix2 a d)
      = qkvAt A b (row T a) (col (turn d)) := (turn_apply _ _ a d).trans (es _)
  unfold rot
  refine (congrArg₂ (fun p q : EReal => p + q) (congrArg₂ (fun p q : EReal => p * q) (es d) (cos_row h a d))
    (congrArg₂ (fun p q : EReal => p * q) er (sin_row h a d))).trans ?_
  unfold rotF
  by_cases hd : d.val < 64
  · rw [if_pos hd, if_pos hd, mul_neg, sub_eq_add_neg]
  · rw [if_neg hd, if_neg hd]

theorem head_row (g : Fin 8) (d : Fin 128) :
    headOf (qkvOf x1 x4 x5 x6 x7) (cosOf x2) (sinOf x3) g (ix2 a d) = qAt A b (row T a) g d :=
  rot_row h a (128 * g.val) (slices g) (qcol g) (fun _ => rfl) d

theorem k_row (d : Fin 128) : kOf x1 x2 x3 x4 x5 x6 x7 (ix2 a d) = kAt A b (row T a) d :=
  rot_row h a 1024 slices_S256x1280_o0_1024_S256x128 kcol (fun _ => rfl) d

theorem v_row (d : Fin 128) : vOf x1 x4 x5 x6 x7 (ix2 a d) = vAt A b (row T a) d := by
  unfold vOf k0_pay16
  exact (extractStridedSlice_apply _ _ _ (ix2 a d) (ix2 a (vcol d)) (fun e => by
      match e with
      | ⟨0, _⟩ => show a.val = 0 + a.val; omega
      | ⟨1, _⟩ => rfl)).trans (qkv_row h a _)

end Rows

/-! ## The scales' row and the masked sums -/

theorem pay11 (v : FVec Ideal S256x1 .f32) (a : Fin 256) : k0_pay11 v (ix2 0 a) = v (ix2 a 0) := by
  unfold k0_pay11
  rw [extractStridedSlice_apply _ _ _ (ix2 0 a) (ix2 (0 : Fin 128) a) (fun d => by
    match d with
    | ⟨0, _⟩ => rfl
    | ⟨1, _⟩ => show a.val = 0 + a.val; omega)]
  rw [transpose_apply _ _ _ (ix2 (0 : Fin 128) a) (ix2 a (0 : Fin 128)) (fun d => by
    match d with
    | ⟨0, _⟩ => rfl
    | ⟨1, _⟩ => rfl)]
  rw [shapeCast_self, bcol]

section Sums

variable (A : Args) (b : Fin 2) (T : Fin 16) (K : FVec Ideal S256x128 .f32) (len : BitVec 32) (f : Fin 4096 → Fin 128 → EReal)

theorem iota_row (a : Fin 256) : iota .tc S256x1 32 [0] iota_S256x1_d0_w32 (ix2 a 0) = BitVec.ofNat 32 a.val := by
  show BitVec.ofNat 32 (0 * 256 + a.val) = _
  rw [Nat.zero_mul, Nat.zero_add]

theorem pay19 (a : Fin 256) : k0_pay19 (F := Ideal) (BitVec.ofNat 32 T.val) len (ix2 a 0)
    = IntOp.cmpi .slt (BitVec.ofNat 32 (row T a).val) len := by
  unfold k0_pay19
  show IntOp.cmpi .slt (BitVec.ofNat 32 T.val * 256#32 + iota .tc S256x1 32 [0] iota_S256x1_d0_w32 (ix2 a 0)) len = _
  rw [iota_row]
  refine congrArg (fun z => IntOp.cmpi .slt z len) ?_
  show _ = BitVec.ofNat 32 (256 * T.val + a.val)
  rw [BitVec.ofNat_add, BitVec.ofNat_mul, BitVec.mul_comm]

variable (hl : len = A.n b) (hK : ∀ a d, K (ix2 a d) = f (row T a) d)
include hl hK

theorem masked (d : Fin 128) :
    multiReduction .add [0] S128 (select (broadcastTo S256x128 (shapeCast S256x1 (k0_pay19 (F := Ideal) (BitVec.ofNat 32 T.val) len) shapeCasts_S256x1_S256x1)
      broadcasts_S256x1_S256x128) K (broadcast S256x128 (Scalar.ofBits (F := Ideal) .f32 0x00000000#32))) 0x00000000#32 reduces_S256x128_S128 (.inl rfl) rfl (ix1 d)
      = ∑ a : Fin 256, mask A b (row T a) (f (row T a) d) := by
  refine (colsum _ _ _ _ d).trans (Finset.sum_congr rfl fun a _ => ?_)
  rw [shapeCast_self]
  show Scalar.select (broadcastTo S256x128 (k0_pay19 (F := Ideal) (BitVec.ofNat 32 T.val) len) broadcasts_S256x1_S256x128 (ix2 a d)) (K (ix2 a d)) (Ideal.ofBits .f32 0x00000000#32) = _
  rw [bcol, pay19, hK, Ideal.ofBits_zero_f32, hl]
  rfl

theorem addK_apply (v : Vec Ideal S1x1x128 .f32) (d : Fin 128) :
    k0_pay22 (BitVec.ofNat 32 T.val) K len v (ix3 0 0 d) = v (ix3 0 0 d) + ∑ a : Fin 256, mask A b (row T a) (f (row T a) d) := by
  unfold k0_pay22
  refine (add1 _ _ 0 d).trans ?_
  exact congrArg₂ (fun p q : EReal => p + q) (drop1 v _ 0 d) ((scast_row _ _ d).trans (masked A b T K len f hl hK d))

theorem addV_apply (v : Vec Ideal S1x1x128 .f32) (d : Fin 128) :
    k0_pay25 (k0_pay23 v) (k0_pay24 (BitVec.ofNat 32 T.val) K len) (ix3 0 0 d) = v (ix3 0 0 d) + ∑ a : Fin 256, mask A b (row T a) (f (row T a) d) := by
  unfold k0_pay25 k0_pay23 k0_pay24
  refine (add1 _ _ 0 d).trans ?_
  exact congrArg₂ (fun p q : EReal => p + q) (drop1 v _ 0 d) ((scast_row _ _ d).trans (masked A b T K len f hl hK d))

end Sums

theorem pay27 (len : BitVec 32) (v : Vec Ideal S1x1x128 .f32) (d : Fin 128) :
    k0_pay27 len v (ix3 0 0 d) = Ideal.div (v (ix3 0 0 d)) (FloatOps.sitofp (F := Ideal) .f32 len) := by
  unfold k0_pay27
  refine (add1 _ _ 0 d).trans ?_
  exact congrArg₂ (fun p q : EReal => Ideal.div p q) (drop1 v _ 0 d) (bcol _ _ 0 d)

theorem pay28 (len : BitVec 32) (v : Vec Ideal S1x1x128 .f32) (d : Fin 128) :
    k0_pay28 len v (ix3 0 0 d) = Ideal.div (v (ix3 0 0 d)) (FloatOps.sitofp (F := Ideal) .f32 len) := by
  unfold k0_pay28
  refine (add1 _ _ 0 d).trans ?_
  exact congrArg₂ (fun p q : EReal => Ideal.div p q) (drop1 v _ 0 d) (bcol _ _ 0 d)

end Cert.Proof.QkvKernel

end
-- ==== Proof.QkvKernel.lean ====
/-
  Hand-written, untrusted. THE QKV KERNEL over the extended reals: what its buffers hold after each grid point, and so what
  its ten result arrays hold at the end.
-/
module

public import proofs.«01_k».proof.Proof.QkvPay
public import proofs.«01_k».proof.Proof.QkvIdealStep
public import proofs.«01_k».proof.Proof.Geo

@[expose] public section

set_option maxRecDepth 16384

noncomputable section

namespace Cert.Proof.QkvKernel

open Idealize.ShloMosaic Idealize.ShloMosaic.TcCoe Idealize.SL.Sem Idealize.ShloMosaic.ValueIdx
open Idealize.ShloMosaic.Pipeline (Dat RDat Cfg Window cellOf)
open Cert.QkvIdeal Cert.QkvIdeal.Gen Cert.Proof.Ops Cert.Proof.Quant Cert.Proof.QkvSpec Cert.Proof.QkvIdeal Cert.Proof.Geo

variable (m : (ℓ : Loc nD τ sig) → Buf (Elt Ideal) ℓ) (ρ : Dev nD → PrngReg)

/-! ## The arrays' values, and the relation on buffers -/

/-- The arguments on device `c`. -/
def ARGS (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem V_l (c : Dev nD) (b : Fin 8192) : (V m c main_v0 : Vec Ideal S1x8192 .f32) (ix2 0 b) = (ARGS m c).l b := by
  unfold V hostOps0
  after_results
  show shapeCast S1x8192 (m ((c : Thread nD τ).loc main_arg4) : Vec Ideal S8192 .f32) shapeCasts_S8192_S1x8192 (ix2 0 b) = _
  exact scast_row _ _ b

theorem V_p (c : Dev nD) (b : Fin 1280) : (V m c main_v1 : Vec Ideal S1x1280 .f32) (ix2 0 b) = (ARGS m c).p b := by
  unfold V hostOps0
  after_results
  show shapeCast S1x1280 (m ((c : Thread nD τ).loc main_arg6) : Vec Ideal S1280 .f32) shapeCasts_S1280_S1x1280 (ix2 0 b) = _
  exact scast_row _ _ b

theorem V_z (c : Dev nD) (b : Fin 1280) : (V m c main_v2 : Vec Ideal S1x1280 .f32) (ix2 0 b) = (ARGS m c).z b := by
  unfold V hostOps0
  after_results
  show shapeCast S1x1280 (m ((c : Thread nD τ).loc main_arg7) : Vec Ideal S1280 .f32) shapeCasts_S1280_S1x1280 (ix2 0 b) = _
  exact scast_row _ _ b

/-- Point `t`'s batch -/
def bt (t : Fin cfg0.N) : Fin 2 := ⟨t.val / 16, by have := Nat.lt_of_lt_of_eq t.isLt N_0; omega⟩
/-- and tile. -/
def tl (t : Fin cfg0.N) : Fin 16 := ⟨t.val % 16, by omega⟩

/-- A head's queries over a batch. -/
abbrev qh (A : Args) (b : Fin 2) (h : Fin 8) : Fin 4096 → Fin 128 → EReal := fun t d => qAt A b t h d

/-- What point `t` leaves of the rows' codes, -/
def A8 (c : Dev nD) (t : Fin cfg0.N) (X : Vec Ideal S1x256x8192 .fp8e4m3) : Prop :=
  ∀ (a : Fin 256) (k : Fin 8192), X (ix3 0 a k) = codeAt (ARGS m c) (bt t) (row (tl t) a) k
/-- what it does to the scales: its own are written, the others kept, -/
def A9 (c : Dev nD) (t : Fin cfg0.N) (Y X : Vec Ideal S2x4096 .f32) : Prop :=
  ∀ (b : Fin 2) (k : Fin 4096), X (ix2 b k)
    = if (4096 * b.val + k.val) / 256 = t.val then scaleAt (ARGS m c) b k else Y (ix2 b k)
/-- what it leaves of the queries' codes, -/
def A10 (c : Dev nD) (t : Fin cfg0.N) (X : Vec Ideal S1x256x1024 .i8) : Prop :=
  ∀ (a : Fin 256) (j : Fin 1024), X (ix3 0 a j) = cdF8 (qh (ARGS m c) (bt t) (hd j)) (row (tl t) a) (dim j)
/-- of their scales, -/
def A11 (c : Dev nD) (t : Fin cfg0.N) (X : Vec Ideal S1x8x8 .f32) : Prop :=
  ∀ (u h : Fin 8), X (ix3 0 u h) = scF8 (qh (ARGS m c) (bt t) h) (blk8 (tl t) u)
/-- along the lanes, -/
def A12 (c : Dev nD) (t : Fin cfg0.N) (X : Vec Ideal S1x2x32x128 .f32) : Prop :=
  ∀ (p : Fin 2) (e : Fin 32) (l : Fin 128), X (ix4 0 p e l) = scF8 (qh (ARGS m c) (bt t) (lhead e)) (quarter (grp2 (tl t) p) e)
/-- of their means, -/
def A13 (c : Dev nD) (t : Fin cfg0.N) (X : Vec Ideal S1x2x8x128 .f32) : Prop :=
  ∀ (p : Fin 2) (h : Fin 8) (d : Fin 128), X (ix4 0 p h d) = meanF (qh (ARGS m c) (bt t) h) (grp2 (tl t) p) d
/-- of the keys, -/
def A14 (c : Dev nD) (t : Fin cfg0.N) (X : Vec Ideal S1x256x128 .f32) : Prop :=
  ∀ (a : Fin 256) (d : Fin 128), X (ix3 0 a d) = kAt (ARGS m c) (bt t) (row (tl t) a) d
/-- of the values, -/
def A15 (c : Dev nD) (t : Fin cfg0.N) (X : Vec Ideal S1x256x128 .f32) : Prop :=
  ∀ (a : Fin 256) (d : Fin 128), X (ix3 0 a d) = vAt (ARGS m c) (bt t) (row (tl t) a) d

/-- A tile's masked sum, -/
def tileSum (A : Args) (f : Fin 2 → Fin 4096 → Fin 128 → EReal) (b : Fin 2) (d : Fin 128) (T : Fin 16) : EReal :=
  ∑ a : Fin 256, mask A b (row T a) (f b (row T a) d)
/-- and what point `t` makes of a mean: the first tile starts the sum, the last one divides it. -/
def Acc (A : Args) (f : Fin 2 → Fin 4096 → Fin 128 → EReal) (t : Fin cfg0.N) (Y X : Vec Ideal S1x1x128 .f32) : Prop :=
  ∀ d : Fin 128, X (ix3 0 0 d)
    = if t.val % 16 = 15 then Ideal.div (Y (ix3 0 0 d) + tileSum A f (bt t) d (tl t)) (FloatOps.sitofp (F := Ideal) .f32 (A.n (bt t)))
      else (if t.val % 16 = 0 then 0 else Y (ix3 0 0 d)) + tileSum A f (bt t) d (tl t)

/-- The relation on every window's buffer. -/
def after (c : Dev nD) (w : Fin cfg0.W) (t : Fin cfg0.N) (Y X : (cfg0.win w).block.Idx → Elt Ideal (cfg0.win w).elt) : Prop :=
  match w with
  | ⟨0, _⟩ => X = Y
  | ⟨1, _⟩ => X = Y
  | ⟨2, _⟩ => X = Y
  | ⟨3, _⟩ => X = Y
  | ⟨4, _⟩ => X = Y
  | ⟨5, _⟩ => X = Y
  | ⟨6, _⟩ => X = Y
  | ⟨7, _⟩ => X = Y
  | ⟨8, _⟩ => A8 m c t X
  | ⟨9, _⟩ => A9 m c t Y X
  | ⟨10, _⟩ => A10 m c t X
  | ⟨11, _⟩ => A11 m c t X
  | ⟨12, _⟩ => A12 m c t X
  | ⟨13, _⟩ => A13 m c t X
  | ⟨14, _⟩ => A14 m c t X
  | ⟨15, _⟩ => A15 m c t X
  | ⟨16, _⟩ => Acc (ARGS m c) (kAt (ARGS m c)) t Y X
  | ⟨17, _⟩ => Acc (ARGS m c) (vAt (ARGS m c)) t Y X
  | ⟨_ + 18, h⟩ => absurd h (Nat.not_lt.mpr (Nat.le_add_left _ _))

/-- The proof data. -/
abbrev rd (c : Dev nD) := rdat m (after m) c

/-! ## The windows at a point -/

/-! The windows' block indices at point `t`. -/

theorem idx0 : ∀ t : Fin grid0.N, win0_0.index t 0 = 0 := by decide +kernel
theorem idx1 : ∀ t : Fin grid0.N, win0_1.index t 0 = t.val / 16 ∧ win0_1.index t 1 = t.val % 16 ∧ win0_1.index t 2 = 0 := by decide +kernel
theorem idx2 : ∀ t : Fin grid0.N, win0_2.index t 0 = t.val / 16 ∧ win0_2.index t 1 = t.val % 16 ∧ win0_2.index t 2 = 0 := by decide +kernel
theorem idx3 : ∀ t : Fin grid0.N, win0_3.index t 0 = t.val / 16 ∧ win0_3.index t 1 = t.val % 16 ∧ win0_3.index t 2 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val / 16 ∧ win0_8.index t 1 = t.val % 16 ∧ win0_8.index t 2 = 0 := by decide +kernel
theorem idx9 : ∀ t : Fin grid0.N, win0_9.index t 0 = 0 ∧ win0_9.index t 1 = 0 := by decide +kernel
theorem idx10 : ∀ t : Fin grid0.N, win0_10.index t 0 = t.val / 16 ∧ win0_10.index t 1 = t.val % 16 ∧ win0_10.index t 2 = 0 := by decide +kernel
theorem idx11 : ∀ t : Fin grid0.N, win0_11.index t 0 = t.val / 16 ∧ win0_11.index t 1 = t.val % 16 ∧ win0_11.index t 2 = 0 := by decide +kernel
theorem idx12 : ∀ t : Fin grid0.N, win0_12.index t 0 = t.val / 16 ∧ win0_12.index t 1 = t.val % 16 ∧ win0_12.index t 2 = 0 ∧ win0_12.index t 3 = 0 := by decide +kernel
theorem idx13 : ∀ t : Fin grid0.N, win0_13.index t 0 = t.val / 16 ∧ win0_13.index t 1 = t.val % 16 ∧ win0_13.index t 2 = 0 ∧ win0_13.index t 3 = 0 := by decide +kernel
theorem idx14 : ∀ t : Fin grid0.N, win0_14.index t 0 = t.val / 16 ∧ win0_14.index t 1 = t.val % 16 ∧ win0_14.index t 2 = 0 := by decide +kernel
theorem idx15 : ∀ t : Fin grid0.N, win0_15.index t 0 = t.val / 16 ∧ win0_15.index t 1 = t.val % 16 ∧ win0_15.index t 2 = 0 := by decide +kernel
theorem idx16 : ∀ t : Fin grid0.N, win0_16.index t 0 = t.val / 16 ∧ win0_16.index t 1 = 0 ∧ win0_16.index t 2 = 0 := by decide +kernel
theorem idx17 : ∀ t : Fin grid0.N, win0_17.index t 0 = t.val / 16 ∧ win0_17.index t 1 = 0 ∧ win0_17.index t 2 = 0 := by decide +kernel

/-- The stores' offsets and the grid's coordinates. -/
theorem off : ∀ t : Fin grid0.N, (k0_off1 (grid0.coords t) 0 = 0 ∧ k0_off1 (grid0.coords t) 1 = t.val % 16 * 256)
    ∧ (k0_off2 (grid0.coords t) 0 = 1 ∧ k0_off2 (grid0.coords t) 1 = t.val % 16 * 256) := by decide +kernel
theorem crd : ∀ t : Fin grid0.N, k0_off3 (grid0.coords t) 0 = t.val / 16 ∧ (grid0.coords t 1).val = t.val % 16 := by decide +kernel

theorem found0 (c : Dev nD) (t : Fin cfg0.N) (Y : Vec Ideal S2 .i32) (hY : (rd m c).Finds 0 t Y) (b : Fin 2) :
    Y (ix1 b) = (V m c main_arg0 : Vec Ideal S2 .i32) (ix1 b) := by
  obtain ⟨d, rfl⟩ := (rd m c).finds_in_eq_fetched 0 rfl (fun _ _ _ => rfl) (fun _ _ _ h => h) t Y hY
  show V m c main_arg0 _ = V m c main_arg0 _
  congr 1
  funext d
  apply Fin.ext
  match d with
  | ⟨0, _⟩ => show win0_0.index t 0 * 2 + 1 * b.val = b.val; rw [(idx0 t)]; omega

theorem found1 (c : Dev nD) (t : Fin cfg0.N) (Y : Vec Ideal S1x256x8192 .bf16) (hY : (rd m c).Finds 1 t Y) (a : Fin 256) (k : Fin 8192) :
    Y (ix3 0 a k) = (V m c main_arg1 : Vec Ideal S2x4096x8192 .bf16) (ix3 (bt t) (row (tl t) a) k) := by
  obtain ⟨d, rfl⟩ := (rd m c).finds_in_eq_fetched 1 rfl (fun _ _ _ => rfl) (fun _ _ _ h => h) t Y hY
  show V m c main_arg1 _ = V m c main_arg1 _
  congr 1
  funext d
  apply Fin.ext
  match d with
  | ⟨0, _⟩ => show win0_1.index t 0 * 1 + 1 * 0 = t.val / 16; rw [(idx1 t).1]; omega
  | ⟨1, _⟩ => show win0_1.index t 1 * 256 + 1 * a.val = 256 * (t.val % 16) + a.val; rw [(idx1 t).2.1]; omega
  | ⟨2, _⟩ => show win0_1.index t 2 * 8192 + 1 * k.val = k.val; rw [(idx1 t).2.2]; omega

theorem found2 (c : Dev nD) (t : Fin cfg0.N) (Y : Vec Ideal S1x256x64 .f32) (hY : (rd m c).Finds 2 t Y) (a : Fin 256) (k : Fin 64) :
    Y (ix3 0 a k) = (V m c main_arg2 : Vec Ideal S2x4096x64 .f32) (ix3 (bt t) (row (tl t) a) k) := by
  obtain ⟨d, rfl⟩ := (rd m c).finds_in_eq_fetched 2 rfl (fun _ _ _ => rfl) (fun _ _ _ h => h) t Y hY
  show V m c main_arg2 _ = V m c main_arg2 _
  congr 1
  funext d
  apply Fin.ext
  match d with
  | ⟨0, _⟩ => show win0_2.index t 0 * 1 + 1 * 0 = t.val / 16; rw [(idx2 t).1]; omega
  | ⟨1, _⟩ => show win0_2.index t 1 * 256 + 1 * a.val = 256 * (t.val % 16) + a.val; rw [(idx2 t).2.1]; omega
  | ⟨2, _⟩ => show win0_2.index t 2 * 64 + 1 * k.val = k.val; rw [(idx2 t).2.2]; omega

theorem found3 (c : Dev nD) (t : Fin cfg0.N) (Y : Vec Ideal S1x256x64 .f32) (hY : (rd m c).Finds 3 t Y) (a : Fin 256) (k : Fin 64) :
    Y (ix3 0 a k) = (V m c main_arg3 : Vec Ideal S2x4096x64 .f32) (ix3 (bt t) (row (tl t) a) k) := by
  obtain ⟨d, rfl⟩ := (rd m c).finds_in_eq_fetched 3 rfl (fun _ _ _ => rfl) (fun _ _ _ h => h) t Y hY
  show V m c main_arg3 _ = V m c main_arg3 _
  congr 1
  funext d
  apply Fin.ext
  match d with
  | ⟨0, _⟩ => show win0_3.index t 0 * 1 + 1 * 0 = t.val / 16; rw [(idx3 t).1]; omega
  | ⟨1, _⟩ => show win0_3.index t 1 * 256 + 1 * a.val = 256 * (t.val % 16) + a.val; rw [(idx3 t).2.1]; omega
  | ⟨2, _⟩ => show win0_3.index t 2 * 64 + 1 * k.val = k.val; rw [(idx3 t).2.2]; omega

theorem found4 (c : Dev nD) (t : Fin cfg0.N) (Y : Vec Ideal S1x8192 .f32) (hY : (rd m c).Finds 4 t Y) (k : Fin 8192) :
    Y (ix2 0 k) = (V m c main_v0 : Vec Ideal S1x8192 .f32) (ix2 0 k) := by
  obtain ⟨d, rfl⟩ := (rd m c).finds_in_eq_fetched 4 rfl (fun _ _ _ => rfl) (fun _ _ _ h => h) t Y hY
  show V m c main_v0 _ = V m c main_v0 _
  congr 1
  funext d
  apply Fin.ext
  match d with
  | ⟨0, _⟩ => show win0_4.index t 0 * 1 + 1 * 0 = 0; rw [(idx4 t).1]
  | ⟨1, _⟩ => show win0_4.index t 1 * 8192 + 1 * k.val = k.val; rw [(idx4 t).2]; omega

theorem found5 (c : Dev nD) (t : Fin cfg0.N) (Y : Vec Ideal S8192x1280 .fp8e4m3) (hY : (rd m c).Finds 5 t Y) (k : Fin 8192) (j : Fin 1280) :
    Y (ix2 k j) = (V m c main_arg5 : Vec Ideal S8192x1280 .fp8e4m3) (ix2 k j) := by
  obtain ⟨d, rfl⟩ := (rd m c).finds_in_eq_fetched 5 rfl (fun _ _ _ => rfl) (fun _ _ _ h => h) t Y hY
  show V m c main_arg5 _ = V m c main_arg5 _
  congr 1
  funext d
  apply Fin.ext
  match d with
  | ⟨0, _⟩ => show win0_5.index t 0 * 8192 + 1 * k.val = k.val; rw [(idx5 t).1]; omega
  | ⟨1, _⟩ => show win0_5.index t 1 * 1280 + 1 * j.val = j.val; rw [(idx5 t).2]; omega

theorem found6 (c : Dev nD) (t : Fin cfg0.N) (Y : Vec Ideal S1x1280 .f32) (hY : (rd m c).Finds 6 t Y) (k : Fin 1280) :
    Y (ix2 0 k) = (V m c main_v1 : Vec Ideal S1x1280 .f32) (ix2 0 k) := by
  obtain ⟨d, rfl⟩ := (rd m c).finds_in_eq_fetched 6 rfl (fun _ _ _ => rfl) (fun _ _ _ h => h) t Y hY
  show V m c main_v1 _ = V m c main_v1 _
  congr 1
  funext d
  apply Fin.ext
  match d with
  | ⟨0, _⟩ => show win0_6.index t 0 * 1 + 1 * 0 = 0; rw [(idx6 t).1]
  | ⟨1, _⟩ => show win0_6.index t 1 * 1280 + 1 * k.val = k.val; rw [(idx6 t).2]; omega

theorem found7 (c : Dev nD) (t : Fin cfg0.N) (Y : Vec Ideal S1x1280 .f32) (hY : (rd m c).Finds 7 t Y) (k : Fin 1280) :
    Y (ix2 0 k) = (V m c main_v2 : Vec Ideal S1x1280 .f32) (ix2 0 k) := by
  obtain ⟨d, rfl⟩ := (rd m c).finds_in_eq_fetched 7 rfl (fun _ _ _ => rfl) (fun _ _ _ h => h) t Y hY
  show V m c main_v2 _ = V m c main_v2 _
  congr 1
  funext d
  apply Fin.ext
  match d with
  | ⟨0, _⟩ => show win0_7.index t 0 * 1 + 1 * 0 = 0; rw [(idx7 t).1]
  | ⟨1, _⟩ => show win0_7.index t 1 * 1280 + 1 * k.val = k.val; rw [(idx7 t).2]; omega

/-! ## One step -/

section Step

variable (c : Dev nD) (t : Fin cfg0.N) (Y : (w : Fin cfg0.W) → (cfg0.win w).block.Idx → Elt Ideal (cfg0.win w).elt)
  (hY : ∀ w, (rd m c).Finds w t (Y w))

include hY

/-- The point's block is its batch's tile, -/
theorem block : Block (ARGS m c) (bt t) (tl t) (Y 1) (Y 2) (Y 3) (Y 4) (Y 5) (Y 6) (Y 7) where
  x a k := (found1 m c t (Y 1) (hY 1) a k).trans (congrFun (V_main_arg1 m c) _)
  c a k := (found2 m c t (Y 2) (hY 2) a k).trans (congrFun (V_main_arg2 m c) _)
  s a k := (found3 m c t (Y 3) (hY 3) a k).trans (congrFun (V_main_arg3 m c) _)
  l k := (found4 m c t (Y 4) (hY 4) k).trans (V_l m c k)
  w k j := (found5 m c t (Y 5) (hY 5) k j).trans (congrFun (V_main_arg5 m c) _)
  p j := (found6 m c t (Y 6) (hY 6) j).trans (V_p m c j)
  z j := (found7 m c t (Y 7) (hY 7) j).trans (V_z m c j)

/-- and its length the batch's. -/
theorem len_eq : lenOf (F := Ideal) (grid0.coords t) (Y 0) = (ARGS m c).n (bt t) := by
  unfold lenOf
  refine (found0 m c t (Y 0) (hY 0) _).trans ((congrFun (V_main_arg0 m c) _).trans ?_)
  exact congrArg (fun b : Fin 2 => (m ((c : Thread nD τ).loc main_arg0) : Vec Ideal S2 .i32) (ix1 b)) (Fin.ext (crd t).1)

/-- A head's queries in the block. -/
theorem qrow (h : Fin 8) (a : Fin 256) (d : Fin 128) :
    headOf (qkvOf (F := Ideal) (Y 1) (Y 4) (Y 5) (Y 6) (Y 7)) (cosOf (F := Ideal) (Y 2)) (sinOf (F := Ideal) (Y 3)) h (ix2 a d) = qh (ARGS m c) (bt t) h (row (tl t) a) d :=
  head_row (block m c t Y hY) a h d

theorem step8 : A8 m c t (res8 (Y 1) (Y 4)) := fun a k => by
  unfold res8 k0_pay10
  exact (add1 _ _ a k).trans (cd_row (block m c t Y hY) a k)

theorem step10 : A10 m c t (res10 (Y 1) (Y 2) (Y 3) (Y 4) (Y 5) (Y 6) (Y 7) (Y 10)) := fun a j => by
  unfold res10
  refine (codes_apply _ _ _ _ a (dim j) (hd j) j ?_).trans (code_apply (qrow m c t Y hY (hd j)) a (dim j))
  show j.val = 128 * (j.val / 128) + j.val % 128
  omega

theorem step11 : A11 m c t (res11 (Y 1) (Y 2) (Y 3) (Y 4) (Y 5) (Y 6) (Y 7)) := fun u h => by
  unfold res11
  exact (scales_apply _ _ _ u h).trans (scale_apply (qrow m c t Y hY h) u)

theorem step12 : A12 m c t (res12 (Y 1) (Y 2) (Y 3) (Y 4) (Y 5) (Y 6) (Y 7) (Y 12)) := fun p e l => by
  have hp := p.isLt
  unfold res12
  refine (rows_apply _ _ _ _ (⟨e.val % 4, by omega⟩ : Fin 4) l p (lhead e) e (⟨4 * p.val + e.val % 4, by omega⟩ : Fin 8) ?_ rfl).trans
    ((scale_apply (qrow m c t Y hY (lhead e)) _).trans (congrArg (scF8 _) (Fin.ext ?_)))
  · show e.val = 4 * (e.val / 4) + e.val % 4
    omega
  · show 8 * (t.val % 16) + (4 * p.val + e.val % 4) = 4 * (2 * (t.val % 16) + p.val) + e.val % 4
    omega

theorem step13 : A13 m c t (res13 (Y 1) (Y 2) (Y 3) (Y 4) (Y 5) (Y 6) (Y 7)) := fun p h d => by
  unfold res13
  exact (means_apply _ _ _ p d h).trans (mean_apply (qrow m c t Y hY h) p d)

theorem step14 : A14 m c t (res14 (Y 1) (Y 2) (Y 3) (Y 4) (Y 5) (Y 6) (Y 7)) := fun a d => by
  unfold res14 k0_pay17
  exact (add1 _ _ a d).trans (k_row (block m c t Y hY) a d)

theorem step15 : A15 m c t (res15 (Y 1) (Y 4) (Y 5) (Y 6) (Y 7)) := fun a d => by
  unfold res15 k0_pay18
  exact (add1 _ _ a d).trans (v_row (block m c t Y hY) a d)

theorem addK_row (v : Vec Ideal S1x1x128 .f32) (d : Fin 128) :
    addK (F := Ideal) (grid0.coords t) (Y 0) (Y 1) (Y 2) (Y 3) (Y 4) (Y 5) (Y 6) (Y 7) v (ix3 0 0 d)
      = v (ix3 0 0 d) + tileSum (ARGS m c) (kAt (ARGS m c)) (bt t) d (tl t) := by
  unfold addK
  rw [(crd t).2]
  exact addK_apply (ARGS m c) (bt t) (tl t) _ _ (kAt (ARGS m c) (bt t)) (len_eq m c t Y hY) (k_row (block m c t Y hY)) v d

theorem addV_row (v : Vec Ideal S1x1x128 .f32) (d : Fin 128) :
    addV (F := Ideal) (grid0.coords t) (Y 0) (Y 1) (Y 4) (Y 5) (Y 6) (Y 7) v (ix3 0 0 d)
      = v (ix3 0 0 d) + tileSum (ARGS m c) (vAt (ARGS m c)) (bt t) d (tl t) := by
  unfold addV
  rw [(crd t).2]
  exact addV_apply (ARGS m c) (bt t) (tl t) _ _ (vAt (ARGS m c) (bt t)) (len_eq m c t Y hY) (v_row (block m c t Y hY)) v d

theorem step16 : Acc (ARGS m c) (kAt (ARGS m c)) t (Y 16) (res16 t (Y 0) (Y 1) (Y 2) (Y 3) (Y 4) (Y 5) (Y 6) (Y 7) (Y 16)) := fun d => by
  unfold res16
  by_cases h15 : t.val % 16 = 15
  · rw [if_pos h15, if_pos h15]
    exact (pay27 _ _ d).trans (congrArg₂ (fun p q => Ideal.div p (FloatOps.sitofp (F := Ideal) .f32 q)) (addK_row m c t Y hY (Y 16) d) (len_eq m c t Y hY))
  · rw [if_neg h15, if_neg h15]
    by_cases h0 : t.val % 16 = 0
    · rw [if_pos h0, if_pos h0]
      refine (addK_row m c t Y hY _ d).trans (congrArg (fun z : EReal => z + tileSum (ARGS m c) (kAt (ARGS m c)) (bt t) d (tl t)) ?_)
      exact Ideal.ofBits_zero_f32
    · rw [if_neg h0, if_neg h0]
      exact addK_row m c t Y hY (Y 16) d

theorem step17 : Acc (ARGS m c) (vAt (ARGS m c)) t (Y 17) (res17 t (Y 0) (Y 1) (Y 4) (Y 5) (Y 6) (Y 7) (Y 17)) := fun d => by
  unfold res17
  by_cases h15 : t.val % 16 = 15
  · rw [if_pos h15, if_pos h15]
    exact (pay28 _ _ d).trans (congrArg₂ (fun p q => Ideal.div p (FloatOps.sitofp (F := Ideal) .f32 q)) (addV_row m c t Y hY (Y 17) d) (len_eq m c t Y hY))
  · rw [if_neg h15, if_neg h15]
    by_cases h0 : t.val % 16 = 0
    · rw [if_pos h0, if_pos h0]
      refine (addV_row m c t Y hY _ d).trans (congrArg (fun z : EReal => z + tileSum (ARGS m c) (vAt (ARGS m c)) (bt t) d (tl t)) ?_)
      exact Ideal.ofBits_zero_f32
    · rw [if_neg h0, if_neg h0]
      exact addV_row m c t Y hY (Y 17) d

theorem step9 : A9 m c t (Y 9) (res9 t (Y 1) (Y 4) (Y 9)) := fun p k => by
  have hp : p.val < 2 := p.isLt
  have hk : k.val < 4096 := k.isLt
  have ht : t.val < 32 := Nat.lt_of_lt_of_eq t.isLt N_0
  have hpay (q : Fin 256) (hq : 4096 * p.val + k.val = 256 * t.val + q.val) :
      k0_pay11 (scOf (F := Ideal) (Y 1) (Y 4)) (ix2 0 q) = scaleAt (ARGS m c) p k := by
    have hq2 := q.isLt
    refine (pay11 _ q).trans ((sc_row (block m c t Y hY) q).trans (congrArg₂ (scaleAt (ARGS m c)) (Fin.ext ?_) (Fin.ext ?_)))
    · show t.val / 16 = p.val
      omega
    · show 256 * (t.val % 16) + q.val = k.val
      omega
  unfold res9
  by_cases h2 : t.val < 16
  · simp only [if_pos h2]
    by_cases hq : (4096 * p.val + k.val) / 256 = t.val
    · rw [if_pos hq]
      have hq' : 4096 * p.val + k.val - 256 * t.val < 256 := by omega
      refine (put2_in (M := 2) (N := 4096) (m := 1) (n := 256) (Y 9) _ _ p k 0 ⟨_, hq'⟩ ?_ ?_).trans (hpay ⟨_, hq'⟩ ?_)
      · rw [(off t).1.1]; show p.val = 0 + 0; omega
      · rw [(off t).1.2]; show k.val = t.val % 16 * 256 + (4096 * p.val + k.val - 256 * t.val); omega
      · show 4096 * p.val + k.val = 256 * t.val + (4096 * p.val + k.val - 256 * t.val); omega
    · rw [if_neg hq]
      refine put2_out (M := 2) (N := 4096) (m := 1) (n := 256) (Y 9) _ _ p k ?_
      rw [(off t).1.1, (off t).1.2]; omega
  · simp only [if_neg h2]
    by_cases hq : (4096 * p.val + k.val) / 256 = t.val
    · rw [if_pos hq]
      have hq' : 4096 * p.val + k.val - 256 * t.val < 256 := by omega
      refine (put2_in (M := 2) (N := 4096) (m := 1) (n := 256) (Y 9) _ _ p k 0 ⟨_, hq'⟩ ?_ ?_).trans (hpay ⟨_, hq'⟩ ?_)
      · rw [(off t).2.1]; show p.val = 1 + 0; omega
      · rw [(off t).2.2]; show k.val = t.val % 16 * 256 + (4096 * p.val + k.val - 256 * t.val); omega
      · show 4096 * p.val + k.val = 256 * t.val + (4096 * p.val + k.val - 256 * t.val); omega
    · rw [if_neg hq]
      refine put2_out (M := 2) (N := 4096) (m := 1) (n := 256) (Y 9) _ _ p k ?_
      rw [(off t).2.1, (off t).2.2]; omega

end Step

theorem steps (c : Dev nD) : Steps m (after m) c := fun t Y hY =>
  ⟨rfl, rfl, rfl, rfl, rfl, rfl, rfl, rfl, step8 m c t Y hY, step9 m c t Y hY, step10 m c t Y hY, step11 m c t Y hY, step12 m c t Y hY,
    step13 m c t Y hY, step14 m c t Y hY, step15 m c t Y hY, step16 m c t Y hY, step17 m c t Y hY⟩

/-- After point `n` the scales' buffer holds every scale of the row blocks finished so far. -/
theorem scales_upto (c : Dev nD) : ∀ (n : ℕ) (hn : n < cfg0.N) (X : Vec Ideal S2x4096 .f32), (rd m c).Leaves 9 ⟨n, hn⟩ X →
    ∀ (b : Fin 2) (k : Fin 4096), 4096 * b.val + k.val < 256 * (n + 1) → X (ix2 b k) = scaleAt (ARGS m c) b k
  | 0, _, X, ⟨Y, hY, hR⟩, b, k, h => ((hR : A9 m c ⟨0, _⟩ Y X) b k).trans (if_pos (by show (4096 * b.val + k.val) / 256 = 0; omega))
  | n + 1, hn, X, ⟨Y, hY, hR⟩, b, k, h => by
    have hN : cfg0.N = 32 := N_0
    have e : X (ix2 b k) = _ := (hR : A9 m c ⟨n + 1, hn⟩ Y X) b k
    rw [e]
    by_cases hc : (4096 * b.val + k.val) / 256 = n + 1
    · exact if_pos hc
    · refine (if_neg hc).trans ?_
      have hL := ((rd m c).finds_of_pos (w := 9) (t := ⟨n + 1, hn⟩) rfl (Nat.succ_ne_zero n) Y).mp hY
      rcases hL with hfl | hL
      · have := (flush0_9 _).mp hfl
        have e' : (⟨n + 1, hn⟩ : Fin cfg0.N).val - 1 = n := rfl
        dsimp only at this
        omega
      · exact scales_upto c n (by omega) Y hL b k (by omega)

/-! ## The means -/

section Means

variable (A : Args) (f : Fin 2 → Fin 4096 → Fin 128 → EReal)

/-- The masked sum of the first `n` tiles of a batch. -/
def upto (b : Fin 2) (d : Fin 128) (n : ℕ) : EReal :=
  ∑ T ∈ Finset.range n, if h : T < 16 then tileSum A f b d ⟨T, h⟩ else 0

theorem upto_succ (b : Fin 2) (d : Fin 128) (T : Fin 16) : upto A f b d (T.val + 1) = upto A f b d T.val + tileSum A f b d T := by
  unfold upto
  rw [Finset.sum_range_succ, dif_pos T.isLt]

/-- All sixteen tiles are the batch. -/
theorem upto_all (b : Fin 2) (d : Fin 128) : upto A f b d 16 = ∑ t : Fin 4096, mask A b t (f b t d) := by
  unfold upto
  rw [Finset.sum_range]
  have e : (∑ T : Fin 16, ∑ a : Fin 256, mask A b (row T a) (f b (row T a) d)) = ∑ t : Fin 4096, mask A b t (f b t d) := by
    rw [← Fintype.sum_prod_type' (fun (T : Fin 16) (a : Fin 256) => mask A b (row T a) (f b (row T a) d))]
    refine Fintype.sum_equiv (finProdFinEquiv (m := 16) (n := 256)) _ (fun t : Fin 4096 => mask A b t (f b t d)) fun x => ?_
    refine congrArg (fun t : Fin 4096 => mask A b t (f b t d)) (Fin.ext ?_)
    show 256 * x.1.val + x.2.val = x.2.val + 256 * x.1.val
    omega
  refine Eq.trans (Finset.sum_congr rfl fun T _ => ?_) e
  exact dif_pos T.isLt

end Means

/-- After point `n` window 16's buffer holds the masked sum of the batch's tiles so far, divided after the last. -/
theorem sum16 (c : Dev nD) : ∀ (n : ℕ) (hn : n < cfg0.N) (X : Vec Ideal S1x1x128 .f32), (rd m c).Leaves 16 ⟨n, hn⟩ X →
    ∀ d : Fin 128, X (ix3 0 0 d) = if n % 16 = 15 then Ideal.div (upto (ARGS m c) (kAt (ARGS m c)) (bt ⟨n, hn⟩) d 16) (FloatOps.sitofp (F := Ideal) .f32 ((ARGS m c).n (bt ⟨n, hn⟩)))
      else upto (ARGS m c) (kAt (ARGS m c)) (bt ⟨n, hn⟩) d (n % 16 + 1)
  | 0, hn, X, ⟨Y, hY, hR⟩, d => by
    refine ((hR : Acc _ _ ⟨0, hn⟩ Y X) d).trans ?_
    rw [if_neg (by show ¬ 0 % 16 = 15; omega), if_pos (by show 0 % 16 = 0; omega), if_neg (by omega)]
    refine Eq.trans ?_ (upto_succ _ _ _ d (tl ⟨0, hn⟩)).symm
    exact congrArg (fun z : EReal => z + tileSum (ARGS m c) (kAt (ARGS m c)) (bt ⟨0, hn⟩) d (tl ⟨0, hn⟩)) (Finset.sum_range_zero _).symm
  | n + 1, hn, X, ⟨Y, hY, hR⟩, d => by
    have hN : cfg0.N = 32 := N_0
    have e := (hR : Acc _ _ ⟨n + 1, hn⟩ Y X) d
    have es := upto_succ (ARGS m c) (kAt (ARGS m c)) (bt ⟨n + 1, hn⟩) d (tl ⟨n + 1, hn⟩)
    have et : (tl ⟨n + 1, hn⟩).val = (n + 1) % 16 := rfl
    refine e.trans ?_
    show (if (n + 1) % 16 = 15 then _ else (if (n + 1) % 16 = 0 then _ else _) + _) = _
    by_cases h0 : (n + 1) % 16 = 0
    · rw [if_neg (by omega), if_pos h0, if_neg (by omega)]
      rw [et] at es
      rw [es, h0]
      exact congrArg (fun z : EReal => z + tileSum (ARGS m c) (kAt (ARGS m c)) (bt ⟨n + 1, hn⟩) d (tl ⟨n + 1, hn⟩)) (Finset.sum_range_zero _).symm
    · have hL := ((rd m c).finds_of_pos (w := 16) (t := ⟨n + 1, hn⟩) rfl (Nat.succ_ne_zero n) Y).mp hY
      rcases hL with hfl | hL
      · have := (flush0_16 _).mp hfl
        have e' : (⟨n + 1, hn⟩ : Fin cfg0.N).val - 1 = n := rfl
        dsimp only at this
        omega
      · have ih : Y (ix3 0 0 d) = _ := sum16 c n (by omega) Y hL d
        rw [if_neg (by omega)] at ih
        have eb : bt ⟨n, by omega⟩ = bt ⟨n + 1, hn⟩ := Fin.ext (by show n / 16 = (n + 1) / 16; omega)
        rw [eb, show n % 16 + 1 = (n + 1) % 16 by omega] at ih
        rw [if_neg h0, ih]
        rw [et] at es
        by_cases h15 : (n + 1) % 16 = 15
        · rw [if_pos h15, if_pos h15]
          rw [← es, h15]
        · rw [if_neg h15, if_neg h15, es]

/-- After point `n` window 17's buffer holds the masked sum of the batch's tiles so far, divided after the last. -/
theorem sum17 (c : Dev nD) : ∀ (n : ℕ) (hn : n < cfg0.N) (X : Vec Ideal S1x1x128 .f32), (rd m c).Leaves 17 ⟨n, hn⟩ X →
    ∀ d : Fin 128, X (ix3 0 0 d) = if n % 16 = 15 then Ideal.div (upto (ARGS m c) (vAt (ARGS m c)) (bt ⟨n, hn⟩) d 16) (FloatOps.sitofp (F := Ideal) .f32 ((ARGS m c).n (bt ⟨n, hn⟩)))
      else upto (ARGS m c) (vAt (ARGS m c)) (bt ⟨n, hn⟩) d (n % 16 + 1)
  | 0, hn, X, ⟨Y, hY, hR⟩, d => by
    refine ((hR : Acc _ _ ⟨0, hn⟩ Y X) d).trans ?_
    rw [if_neg (by show ¬ 0 % 16 = 15; omega), if_pos (by show 0 % 16 = 0; omega), if_neg (by omega)]
    refine Eq.trans ?_ (upto_succ _ _ _ d (tl ⟨0, hn⟩)).symm
    exact congrArg (fun z : EReal => z + tileSum (ARGS m c) (vAt (ARGS m c)) (bt ⟨0, hn⟩) d (tl ⟨0, hn⟩)) (Finset.sum_range_zero _).symm
  | n + 1, hn, X, ⟨Y, hY, hR⟩, d => by
    have hN : cfg0.N = 32 := N_0
    have e := (hR : Acc _ _ ⟨n + 1, hn⟩ Y X) d
    have es := upto_succ (ARGS m c) (vAt (ARGS m c)) (bt ⟨n + 1, hn⟩) d (tl ⟨n + 1, hn⟩)
    have et : (tl ⟨n + 1, hn⟩).val = (n + 1) % 16 := rfl
    refine e.trans ?_
    show (if (n + 1) % 16 = 15 then _ else (if (n + 1) % 16 = 0 then _ else _) + _) = _
    by_cases h0 : (n + 1) % 16 = 0
    · rw [if_neg (by omega), if_pos h0, if_neg (by omega)]
      rw [et] at es
      rw [es, h0]
      exact congrArg (fun z : EReal => z + tileSum (ARGS m c) (vAt (ARGS m c)) (bt ⟨n + 1, hn⟩) d (tl ⟨n + 1, hn⟩)) (Finset.sum_range_zero _).symm
    · have hL := ((rd m c).finds_of_pos (w := 17) (t := ⟨n + 1, hn⟩) rfl (Nat.succ_ne_zero n) Y).mp hY
      rcases hL with hfl | hL
      · have := (flush0_17 _).mp hfl
        have e' : (⟨n + 1, hn⟩ : Fin cfg0.N).val - 1 = n := rfl
        dsimp only at this
        omega
      · have ih : Y (ix3 0 0 d) = _ := sum17 c n (by omega) Y hL d
        rw [if_neg (by omega)] at ih
        have eb : bt ⟨n, by omega⟩ = bt ⟨n + 1, hn⟩ := Fin.ext (by show n / 16 = (n + 1) / 16; omega)
        rw [eb, show n % 16 + 1 = (n + 1) % 16 by omega] at ih
        rw [if_neg h0, ih]
        rw [et] at es
        by_cases h15 : (n + 1) % 16 = 15
        · rw [if_pos h15, if_pos h15]
          rw [← es, h15]
        · rw [if_neg h15, if_neg h15, es]

/-! ## The result arrays -/

/-! The ten result arrays on device `c`. -/

abbrev G0 (c : Dev nD) : Buf (Elt Ideal) ((c : Thread nD τ).loc main_v3_0) := codes (ARGS m c)
abbrev G1 (c : Dev nD) : Buf (Elt Ideal) ((c : Thread nD τ).loc main_v3_1) := scales (ARGS m c)
abbrev G2 (c : Dev nD) : Buf (Elt Ideal) ((c : Thread nD τ).loc main_v3_2) := qcodes (ARGS m c)
abbrev G3 (c : Dev nD) : Buf (Elt Ideal) ((c : Thread nD τ).loc main_v3_3) := qscales (ARGS m c)
abbrev G4 (c : Dev nD) : Buf (Elt Ideal) ((c : Thread nD τ).loc main_v3_4) := qrows (ARGS m c)
abbrev G5 (c : Dev nD) : Buf (Elt Ideal) ((c : Thread nD τ).loc main_v3_5) := qmeans (ARGS m c)
abbrev G6 (c : Dev nD) : Buf (Elt Ideal) ((c : Thread nD τ).loc main_v3_6) := keys (ARGS m c)
abbrev G7 (c : Dev nD) : Buf (Elt Ideal) ((c : Thread nD τ).loc main_v3_7) := values (ARGS m c)
abbrev G8 (c : Dev nD) : Buf (Elt Ideal) ((c : Thread nD τ).loc main_v3_8) := kmeans (ARGS m c)
abbrev G9 (c : Dev nD) : Buf (Elt Ideal) ((c : Thread nD τ).loc main_v3_9) := vmeans (ARGS m c)

variable (aft : (w : Fin cfg0.W) → Fin cfg0.N → (cfg0.win w).block.Idx → Elt Ideal (cfg0.win w).elt)

theorem flushed8 (c : Dev nD) (hL : ∀ w u, (cfg0.win w).flush u = true → (rd m c).Leaves w u (aft w u)) (t : Fin cfg0.N)
    (ht : (cfg0.win 8).flush t = true) :
    ((rd m c).withAfter aft).flushed 8 t = ((cfg0.win 8).blk t).view.read (Elt Ideal) (G0 m c) := by
  have hN : t.val < 32 := Nat.lt_of_lt_of_eq t.isLt N_0
  obtain ⟨Y, -, hR⟩ := hL 8 t ht
  funext j
  obtain ⟨z, a, k, rfl⟩ : ∃ (z : Fin 1) (a : Fin 256) (k : Fin 8192), j = ix3 z a k := ⟨j 0, j 1, j 2, eq_ix3 j⟩
  obtain rfl : z = 0 := Subsingleton.elim _ _
  have e : ((cfg0.win 8).blk t).view.read (Elt Ideal) (G0 m c) (ix3 0 a k) = G0 m c (ix3 (bt t) (row (tl t) a) k) := by
    rw [View.read_apply]
    show G0 m c _ = G0 m c _
    congr 1
    funext d
    apply Fin.ext
    match d with
    | ⟨0, _⟩ => show win0_8.index t 0 * 1 + 1 * 0 = t.val / 16; rw [(idx8 t).1]; omega
    | ⟨1, _⟩ => show win0_8.index t 1 * 256 + 1 * a.val = 256 * (t.val % 16) + a.val; rw [(idx8 t).2.1]; omega
    | ⟨2, _⟩ => show win0_8.index t 2 * 8192 + 1 * k.val = k.val; rw [(idx8 t).2.2]; omega
  exact ((hR : A8 m c t (aft 8 t)) a k).trans e.symm

theorem cover8 (i : S2x4096x8192.Idx) : ∃ t : Fin cfg0.N, (cfg0.win 8).flush t = true ∧ i ∈ ((cfg0.win 8).blk t).view.set := by
  have h0 : (i 0 : Nat) < 2 := (i 0).isLt
  have h1 : (i 1 : Nat) < 4096 := (i 1).isLt
  have h2 : (i 2 : Nat) < 8192 := (i 2).isLt
  have hN : cfg0.N = 32 := N_0
  obtain ⟨t, ht⟩ : ∃ t : Fin cfg0.N, t.val = 16 * (i 0 : Nat) + (i 1 : Nat) / 256 := ⟨⟨16 * (i 0 : Nat) + (i 1 : Nat) / 256, by omega⟩, rfl⟩
  refine ⟨t, flush0_8 t, ?_⟩
  show i ∈ ((View.whole main_v3_0).slice (win0_8.rect t)).set
  rw [View.set_slice_whole, Rect.mem_set_unit]
  intro d
  match d with
  | ⟨0, _⟩ =>
    show win0_8.index t 0 * 1 ≤ (i 0 : Nat) ∧ (i 0 : Nat) < win0_8.index t 0 * 1 + 1
    rw [(idx8 t).1]; omega
  | ⟨1, _⟩ =>
    show win0_8.index t 1 * 256 ≤ (i 1 : Nat) ∧ (i 1 : Nat) < win0_8.index t 1 * 256 + 256
    rw [(idx8 t).2.1]; omega
  | ⟨2, _⟩ =>
    show win0_8.index t 2 * 8192 ≤ (i 2 : Nat) ∧ (i 2 : Nat) < win0_8.index t 2 * 8192 + 8192
    rw [(idx8 t).2.2]; omega

theorem flushed9 (c : Dev nD) (hL : ∀ w u, (cfg0.win w).flush u = true → (rd m c).Leaves w u (aft w u)) (t : Fin cfg0.N)
    (ht : (cfg0.win 9).flush t = true) :
    ((rd m c).withAfter aft).flushed 9 t = ((cfg0.win 9).blk t).view.read (Elt Ideal) (G1 m c) := by
  have hN : t.val < 32 := Nat.lt_of_lt_of_eq t.isLt N_0
  funext j
  obtain ⟨a, k, rfl⟩ : ∃ (a : Fin 2) (k : Fin 4096), j = ix2 a k := ⟨j 0, j 1, eq_ix2 j⟩
  have e : ((cfg0.win 9).blk t).view.read (Elt Ideal) (G1 m c) (ix2 a k) = G1 m c (ix2 a k) := by
    rw [View.read_apply]
    show G1 m c _ = G1 m c _
    congr 1
    funext d
    apply Fin.ext
    match d with
    | ⟨0, _⟩ => show win0_9.index t 0 * 2 + 1 * a.val = a.val; rw [(idx9 t).1]; omega
    | ⟨1, _⟩ => show win0_9.index t 1 * 4096 + 1 * k.val = k.val; rw [(idx9 t).2]; omega
  have h31 := (flush0_9 t).mp ht
  exact (scales_upto m c t.val t.isLt (aft 9 t) (hL 9 t ht) a k (by omega)).trans e.symm

theorem cover9 (i : S2x4096.Idx) : ∃ t : Fin cfg0.N, (cfg0.win 9).flush t = true ∧ i ∈ ((cfg0.win 9).blk t).view.set := by
  have h0 : (i 0 : Nat) < 2 := (i 0).isLt
  have h1 : (i 1 : Nat) < 4096 := (i 1).isLt
  have hN : cfg0.N = 32 := N_0
  obtain ⟨t, ht⟩ : ∃ t : Fin cfg0.N, t.val = 31 := ⟨⟨31, by omega⟩, rfl⟩
  refine ⟨t, (flush0_9 t).mpr (by omega), ?_⟩
  show i ∈ ((View.whole main_v3_1).slice (win0_9.rect t)).set
  rw [View.set_slice_whole, Rect.mem_set_unit]
  intro d
  match d with
  | ⟨0, _⟩ =>
    show win0_9.index t 0 * 2 ≤ (i 0 : Nat) ∧ (i 0 : Nat) < win0_9.index t 0 * 2 + 2
    rw [(idx9 t).1]; omega
  | ⟨1, _⟩ =>
    show win0_9.index t 1 * 4096 ≤ (i 1 : Nat) ∧ (i 1 : Nat) < win0_9.index t 1 * 4096 + 4096
    rw [(idx9 t).2]; omega

theorem flushed10 (c : Dev nD) (hL : ∀ w u, (cfg0.win w).flush u = true → (rd m c).Leaves w u (aft w u)) (t : Fin cfg0.N)
    (ht : (cfg0.win 10).flush t = true) :
    ((rd m c).withAfter aft).flushed 10 t = ((cfg0.win 10).blk t).view.read (Elt Ideal) (G2 m c) := by
  have hN : t.val < 32 := Nat.lt_of_lt_of_eq t.isLt N_0
  obtain ⟨Y, -, hR⟩ := hL 10 t ht
  funext j
  obtain ⟨z, a, k, rfl⟩ : ∃ (z : Fin 1) (a : Fin 256) (k : Fin 1024), j = ix3 z a k := ⟨j 0, j 1, j 2, eq_ix3 j⟩
  obtain rfl : z = 0 := Subsingleton.elim _ _
  have e : ((cfg0.win 10).blk t).view.read (Elt Ideal) (G2 m c) (ix3 0 a k) = G2 m c (ix3 (bt t) (row (tl t) a) k) := by
    rw [View.read_apply]
    show G2 m c _ = G2 m c _
    congr 1
    funext d
    apply Fin.ext
    match d with
    | ⟨0, _⟩ => show win0_10.index t 0 * 1 + 1 * 0 = t.val / 16; rw [(idx10 t).1]; omega
    | ⟨1, _⟩ => show win0_10.index t 1 * 256 + 1 * a.val = 256 * (t.val % 16) + a.val; rw [(idx10 t).2.1]; omega
    | ⟨2, _⟩ => show win0_10.index t 2 * 1024 + 1 * k.val = k.val; rw [(idx10 t).2.2]; omega
  exact ((hR : A10 m c t (aft 10 t)) a k).trans e.symm

theorem cover10 (i : S2x4096x1024.Idx) : ∃ t : Fin cfg0.N, (cfg0.win 10).flush t = true ∧ i ∈ ((cfg0.win 10).blk t).view.set := by
  have h0 : (i 0 : Nat) < 2 := (i 0).isLt
  have h1 : (i 1 : Nat) < 4096 := (i 1).isLt
  have h2 : (i 2 : Nat) < 1024 := (i 2).isLt
  have hN : cfg0.N = 32 := N_0
  obtain ⟨t, ht⟩ : ∃ t : Fin cfg0.N, t.val = 16 * (i 0 : Nat) + (i 1 : Nat) / 256 := ⟨⟨16 * (i 0 : Nat) + (i 1 : Nat) / 256, by omega⟩, rfl⟩
  refine ⟨t, flush0_10 t, ?_⟩
  show i ∈ ((View.whole main_v3_2).slice (win0_10.rect t)).set
  rw [View.set_slice_whole, Rect.mem_set_unit]
  intro d
  match d with
  | ⟨0, _⟩ =>
    show win0_10.index t 0 * 1 ≤ (i 0 : Nat) ∧ (i 0 : Nat) < win0_10.index t 0 * 1 + 1
    rw [(idx10 t).1]; omega
  | ⟨1, _⟩ =>
    show win0_10.index t 1 * 256 ≤ (i 1 : Nat) ∧ (i 1 : Nat) < win0_10.index t 1 * 256 + 256
    rw [(idx10 t).2.1]; omega
  | ⟨2, _⟩ =>
    show win0_10.index t 2 * 1024 ≤ (i 2 : Nat) ∧ (i 2 : Nat) < win0_10.index t 2 * 1024 + 1024
    rw [(idx10 t).2.2]; omega

theorem flushed11 (c : Dev nD) (hL : ∀ w u, (cfg0.win w).flush u = true → (rd m c).Leaves w u (aft w u)) (t : Fin cfg0.N)
    (ht : (cfg0.win 11).flush t = true) :
    ((rd m c).withAfter aft).flushed 11 t = ((cfg0.win 11).blk t).view.read (Elt Ideal) (G3 m c) := by
  have hN : t.val < 32 := Nat.lt_of_lt_of_eq t.isLt N_0
  obtain ⟨Y, -, hR⟩ := hL 11 t ht
  funext j
  obtain ⟨z, a, k, rfl⟩ : ∃ (z : Fin 1) (a : Fin 8) (k : Fin 8), j = ix3 z a k := ⟨j 0, j 1, j 2, eq_ix3 j⟩
  obtain rfl : z = 0 := Subsingleton.elim _ _
  have e : ((cfg0.win 11).blk t).view.read (Elt Ideal) (G3 m c) (ix3 0 a k) = G3 m c (ix3 (bt t) (blk8 (tl t) a) k) := by
    rw [View.read_apply]
    show G3 m c _ = G3 m c _
    congr 1
    funext d
    apply Fin.ext
    match d with
    | ⟨0, _⟩ => show win0_11.index t 0 * 1 + 1 * 0 = t.val / 16; rw [(idx11 t).1]; omega
    | ⟨1, _⟩ => show win0_11.index t 1 * 8 + 1 * a.val = 8 * (t.val % 16) + a.val; rw [(idx11 t).2.1]; omega
    | ⟨2, _⟩ => show win0_11.index t 2 * 8 + 1 * k.val = k.val; rw [(idx11 t).2.2]; omega
  exact ((hR : A11 m c t (aft 11 t)) a k).trans e.symm

theorem cover11 (i : S2x128x8.Idx) : ∃ t : Fin cfg0.N, (cfg0.win 11).flush t = true ∧ i ∈ ((cfg0.win 11).blk t).view.set := by
  have h0 : (i 0 : Nat) < 2 := (i 0).isLt
  have h1 : (i 1 : Nat) < 128 := (i 1).isLt
  have h2 : (i 2 : Nat) < 8 := (i 2).isLt
  have hN : cfg0.N = 32 := N_0
  obtain ⟨t, ht⟩ : ∃ t : Fin cfg0.N, t.val = 16 * (i 0 : Nat) + (i 1 : Nat) / 8 := ⟨⟨16 * (i 0 : Nat) + (i 1 : Nat) / 8, by omega⟩, rfl⟩
  refine ⟨t, flush0_11 t, ?_⟩
  show i ∈ ((View.whole main_v3_3).slice (win0_11.rect t)).set
  rw [View.set_slice_whole, Rect.mem_set_unit]
  intro d
  match d with
  | ⟨0, _⟩ =>
    show win0_11.index t 0 * 1 ≤ (i 0 : Nat) ∧ (i 0 : Nat) < win0_11.index t 0 * 1 + 1
    rw [(idx11 t).1]; omega
  | ⟨1, _⟩ =>
    show win0_11.index t 1 * 8 ≤ (i 1 : Nat) ∧ (i 1 : Nat) < win0_11.index t 1 * 8 + 8
    rw [(idx11 t).2.1]; omega
  | ⟨2, _⟩ =>
    show win0_11.index t 2 * 8 ≤ (i 2 : Nat) ∧ (i 2 : Nat) < win0_11.index t 2 * 8 + 8
    rw [(idx11 t).2.2]; omega

theorem flushed12 (c : Dev nD) (hL : ∀ w u, (cfg0.win w).flush u = true → (rd m c).Leaves w u (aft w u)) (t : Fin cfg0.N)
    (ht : (cfg0.win 12).flush t = true) :
    ((rd m c).withAfter aft).flushed 12 t = ((cfg0.win 12).blk t).view.read (Elt Ideal) (G4 m c) := by
  have hN : t.val < 32 := Nat.lt_of_lt_of_eq t.isLt N_0
  obtain ⟨Y, -, hR⟩ := hL 12 t ht
  funext j
  obtain ⟨z, a, k, l, rfl⟩ : ∃ (z : Fin 1) (a : Fin 2) (k : Fin 32) (l : Fin 128), j = ix4 z a k l := ⟨j 0, j 1, j 2, j 3, eq_ix4 j⟩
  obtain rfl : z = 0 := Subsingleton.elim _ _
  have e : ((cfg0.win 12).blk t).view.read (Elt Ideal) (G4 m c) (ix4 0 a k l) = G4 m c (ix4 (bt t) (grp2 (tl t) a) k l) := by
    rw [View.read_apply]
    show G4 m c _ = G4 m c _
    congr 1
    funext d
    apply Fin.ext
    match d with
    | ⟨0, _⟩ => show win0_12.index t 0 * 1 + 1 * 0 = t.val / 16; rw [(idx12 t).1]; omega
    | ⟨1, _⟩ => show win0_12.index t 1 * 2 + 1 * a.val = 2 * (t.val % 16) + a.val; rw [(idx12 t).2.1]; omega
    | ⟨2, _⟩ => show win0_12.index t 2 * 32 + 1 * k.val = k.val; rw [(idx12 t).2.2.1]; omega
    | ⟨3, _⟩ => show win0_12.index t 3 * 128 + 1 * l.val = l.val; rw [(idx12 t).2.2.2]; omega
  exact ((hR : A12 m c t (aft 12 t)) a k l).trans e.symm

theorem cover12 (i : S2x32x32x128.Idx) : ∃ t : Fin cfg0.N, (cfg0.win 12).flush t = true ∧ i ∈ ((cfg0.win 12).blk t).view.set := by
  have h0 : (i 0 : Nat) < 2 := (i 0).isLt
  have h1 : (i 1 : Nat) < 32 := (i 1).isLt
  have h2 : (i 2 : Nat) < 32 := (i 2).isLt
  have h3 : (i 3 : Nat) < 128 := (i 3).isLt
  have hN : cfg0.N = 32 := N_0
  obtain ⟨t, ht⟩ : ∃ t : Fin cfg0.N, t.val = 16 * (i 0 : Nat) + (i 1 : Nat) / 2 := ⟨⟨16 * (i 0 : Nat) + (i 1 : Nat) / 2, by omega⟩, rfl⟩
  refine ⟨t, flush0_12 t, ?_⟩
  show i ∈ ((View.whole main_v3_4).slice (win0_12.rect t)).set
  rw [View.set_slice_whole, Rect.mem_set_unit]
  intro d
  match d with
  | ⟨0, _⟩ =>
    show win0_12.index t 0 * 1 ≤ (i 0 : Nat) ∧ (i 0 : Nat) < win0_12.index t 0 * 1 + 1
    rw [(idx12 t).1]; omega
  | ⟨1, _⟩ =>
    show win0_12.index t 1 * 2 ≤ (i 1 : Nat) ∧ (i 1 : Nat) < win0_12.index t 1 * 2 + 2
    rw [(idx12 t).2.1]; omega
  | ⟨2, _⟩ =>
    show win0_12.index t 2 * 32 ≤ (i 2 : Nat) ∧ (i 2 : Nat) < win0_12.index t 2 * 32 + 32
    rw [(idx12 t).2.2.1]; omega
  | ⟨3, _⟩ =>
    show win0_12.index t 3 * 128 ≤ (i 3 : Nat) ∧ (i 3 : Nat) < win0_12.index t 3 * 128 + 128
    rw [(idx12 t).2.2.2]; omega

theorem flushed13 (c : Dev nD) (hL : ∀ w u, (cfg0.win w).flush u = true → (rd m c).Leaves w u (aft w u)) (t : Fin cfg0.N)
    (ht : (cfg0.win 13).flush t = true) :
    ((rd m c).withAfter aft).flushed 13 t = ((cfg0.win 13).blk t).view.read (Elt Ideal) (G5 m c) := by
  have hN : t.val < 32 := Nat.lt_of_lt_of_eq t.isLt N_0
  obtain ⟨Y, -, hR⟩ := hL 13 t ht
  funext j
  obtain ⟨z, a, k, l, rfl⟩ : ∃ (z : Fin 1) (a : Fin 2) (k : Fin 8) (l : Fin 128), j = ix4 z a k l := ⟨j 0, j 1, j 2, j 3, eq_ix4 j⟩
  obtain rfl : z = 0 := Subsingleton.elim _ _
  have e : ((cfg0.win 13).blk t).view.read (Elt Ideal) (G5 m c) (ix4 0 a k l) = G5 m c (ix4 (bt t) (grp2 (tl t) a) k l) := by
    rw [View.read_apply]
    show G5 m c _ = G5 m c _
    congr 1
    funext d
    apply Fin.ext
    match d with
    | ⟨0, _⟩ => show win0_13.index t 0 * 1 + 1 * 0 = t.val / 16; rw [(idx13 t).1]; omega
    | ⟨1, _⟩ => show win0_13.index t 1 * 2 + 1 * a.val = 2 * (t.val % 16) + a.val; rw [(idx13 t).2.1]; omega
    | ⟨2, _⟩ => show win0_13.index t 2 * 8 + 1 * k.val = k.val; rw [(idx13 t).2.2.1]; omega
    | ⟨3, _⟩ => show win0_13.index t 3 * 128 + 1 * l.val = l.val; rw [(idx13 t).2.2.2]; omega
  exact ((hR : A13 m c t (aft 13 t)) a k l).trans e.symm

theorem cover13 (i : S2x32x8x128.Idx) : ∃ t : Fin cfg0.N, (cfg0.win 13).flush t = true ∧ i ∈ ((cfg0.win 13).blk t).view.set := by
  have h0 : (i 0 : Nat) < 2 := (i 0).isLt
  have h1 : (i 1 : Nat) < 32 := (i 1).isLt
  have h2 : (i 2 : Nat) < 8 := (i 2).isLt
  have h3 : (i 3 : Nat) < 128 := (i 3).isLt
  have hN : cfg0.N = 32 := N_0
  obtain ⟨t, ht⟩ : ∃ t : Fin cfg0.N, t.val = 16 * (i 0 : Nat) + (i 1 : Nat) / 2 := ⟨⟨16 * (i 0 : Nat) + (i 1 : Nat) / 2, by omega⟩, rfl⟩
  refine ⟨t, flush0_13 t, ?_⟩
  show i ∈ ((View.whole main_v3_5).slice (win0_13.rect t)).set
  rw [View.set_slice_whole, Rect.mem_set_unit]
  intro d
  match d with
  | ⟨0, _⟩ =>
    show win0_13.index t 0 * 1 ≤ (i 0 : Nat) ∧ (i 0 : Nat) < win0_13.index t 0 * 1 + 1
    rw [(idx13 t).1]; omega
  | ⟨1, _⟩ =>
    show win0_13.index t 1 * 2 ≤ (i 1 : Nat) ∧ (i 1 : Nat) < win0_13.index t 1 * 2 + 2
    rw [(idx13 t).2.1]; omega
  | ⟨2, _⟩ =>
    show win0_13.index t 2 * 8 ≤ (i 2 : Nat) ∧ (i 2 : Nat) < win0_13.index t 2 * 8 + 8
    rw [(idx13 t).2.2.1]; omega
  | ⟨3, _⟩ =>
    show win0_13.index t 3 * 128 ≤ (i 3 : Nat) ∧ (i 3 : Nat) < win0_13.index t 3 * 128 + 128
    rw [(idx13 t).2.2.2]; omega

theorem flushed14 (c : Dev nD) (hL : ∀ w u, (cfg0.win w).flush u = true → (rd m c).Leaves w u (aft w u)) (t : Fin cfg0.N)
    (ht : (cfg0.win 14).flush t = true) :
    ((rd m c).withAfter aft).flushed 14 t = ((cfg0.win 14).blk t).view.read (Elt Ideal) (G6 m c) := by
  have hN : t.val < 32 := Nat.lt_of_lt_of_eq t.isLt N_0
  obtain ⟨Y, -, hR⟩ := hL 14 t ht
  funext j
  obtain ⟨z, a, k, rfl⟩ : ∃ (z : Fin 1) (a : Fin 256) (k : Fin 128), j = ix3 z a k := ⟨j 0, j 1, j 2, eq_ix3 j⟩
  obtain rfl : z = 0 := Subsingleton.elim _ _
  have e : ((cfg0.win 14).blk t).view.read (Elt Ideal) (G6 m c) (ix3 0 a k) = G6 m c (ix3 (bt t) (row (tl t) a) k) := by
    rw [View.read_apply]
    show G6 m c _ = G6 m c _
    congr 1
    funext d
    apply Fin.ext
    match d with
    | ⟨0, _⟩ => show win0_14.index t 0 * 1 + 1 * 0 = t.val / 16; rw [(idx14 t).1]; omega
    | ⟨1, _⟩ => show win0_14.index t 1 * 256 + 1 * a.val = 256 * (t.val % 16) + a.val; rw [(idx14 t).2.1]; omega
    | ⟨2, _⟩ => show win0_14.index t 2 * 128 + 1 * k.val = k.val; rw [(idx14 t).2.2]; omega
  exact ((hR : A14 m c t (aft 14 t)) a k).trans e.symm

theorem cover14 (i : S2x4096x128.Idx) : ∃ t : Fin cfg0.N, (cfg0.win 14).flush t = true ∧ i ∈ ((cfg0.win 14).blk t).view.set := by
  have h0 : (i 0 : Nat) < 2 := (i 0).isLt
  have h1 : (i 1 : Nat) < 4096 := (i 1).isLt
  have h2 : (i 2 : Nat) < 128 := (i 2).isLt
  have hN : cfg0.N = 32 := N_0
  obtain ⟨t, ht⟩ : ∃ t : Fin cfg0.N, t.val = 16 * (i 0 : Nat) + (i 1 : Nat) / 256 := ⟨⟨16 * (i 0 : Nat) + (i 1 : Nat) / 256, by omega⟩, rfl⟩
  refine ⟨t, flush0_14 t, ?_⟩
  show i ∈ ((View.whole main_v3_6).slice (win0_14.rect t)).set
  rw [View.set_slice_whole, Rect.mem_set_unit]
  intro d
  match d with
  | ⟨0, _⟩ =>
    show win0_14.index t 0 * 1 ≤ (i 0 : Nat) ∧ (i 0 : Nat) < win0_14.index t 0 * 1 + 1
    rw [(idx14 t).1]; omega
  | ⟨1, _⟩ =>
    show win0_14.index t 1 * 256 ≤ (i 1 : Nat) ∧ (i 1 : Nat) < win0_14.index t 1 * 256 + 256
    rw [(idx14 t).2.1]; omega
  | ⟨2, _⟩ =>
    show win0_14.index t 2 * 128 ≤ (i 2 : Nat) ∧ (i 2 : Nat) < win0_14.index t 2 * 128 + 128
    rw [(idx14 t).2.2]; omega

theorem flushed15 (c : Dev nD) (hL : ∀ w u, (cfg0.win w).flush u = true → (rd m c).Leaves w u (aft w u)) (t : Fin cfg0.N)
    (ht : (cfg0.win 15).flush t = true) :
    ((rd m c).withAfter aft).flushed 15 t = ((cfg0.win 15).blk t).view.read (Elt Ideal) (G7 m c) := by
  have hN : t.val < 32 := Nat.lt_of_lt_of_eq t.isLt N_0
  obtain ⟨Y, -, hR⟩ := hL 15 t ht
  funext j
  obtain ⟨z, a, k, rfl⟩ : ∃ (z : Fin 1) (a : Fin 256) (k : Fin 128), j = ix3 z a k := ⟨j 0, j 1, j 2, eq_ix3 j⟩
  obtain rfl : z = 0 := Subsingleton.elim _ _
  have e : ((cfg0.win 15).blk t).view.read (Elt Ideal) (G7 m c) (ix3 0 a k) = G7 m c (ix3 (bt t) (row (tl t) a) k) := by
    rw [View.read_apply]
    show G7 m c _ = G7 m c _
    congr 1
    funext d
    apply Fin.ext
    match d with
    | ⟨0, _⟩ => show win0_15.index t 0 * 1 + 1 * 0 = t.val / 16; rw [(idx15 t).1]; omega
    | ⟨1, _⟩ => show win0_15.index t 1 * 256 + 1 * a.val = 256 * (t.val % 16) + a.val; rw [(idx15 t).2.1]; omega
    | ⟨2, _⟩ => show win0_15.index t 2 * 128 + 1 * k.val = k.val; rw [(idx15 t).2.2]; omega
  exact ((hR : A15 m c t (aft 15 t)) a k).trans e.symm

theorem cover15 (i : S2x4096x128.Idx) : ∃ t : Fin cfg0.N, (cfg0.win 15).flush t = true ∧ i ∈ ((cfg0.win 15).blk t).view.set := by
  have h0 : (i 0 : Nat) < 2 := (i 0).isLt
  have h1 : (i 1 : Nat) < 4096 := (i 1).isLt
  have h2 : (i 2 : Nat) < 128 := (i 2).isLt
  have hN : cfg0.N = 32 := N_0
  obtain ⟨t, ht⟩ : ∃ t : Fin cfg0.N, t.val = 16 * (i 0 : Nat) + (i 1 : Nat) / 256 := ⟨⟨16 * (i 0 : Nat) + (i 1 : Nat) / 256, by omega⟩, rfl⟩
  refine ⟨t, flush0_15 t, ?_⟩
  show i ∈ ((View.whole main_v3_7).slice (win0_15.rect t)).set
  rw [View.set_slice_whole, Rect.mem_set_unit]
  intro d
  match d with
  | ⟨0, _⟩ =>
    show win0_15.index t 0 * 1 ≤ (i 0 : Nat) ∧ (i 0 : Nat) < win0_15.index t 0 * 1 + 1
    rw [(idx15 t).1]; omega
  | ⟨1, _⟩ =>
    show win0_15.index t 1 * 256 ≤ (i 1 : Nat) ∧ (i 1 : Nat) < win0_15.index t 1 * 256 + 256
    rw [(idx15 t).2.1]; omega
  | ⟨2, _⟩ =>
    show win0_15.index t 2 * 128 ≤ (i 2 : Nat) ∧ (i 2 : Nat) < win0_15.index t 2 * 128 + 128
    rw [(idx15 t).2.2]; omega

theorem flushed16 (c : Dev nD) (hL : ∀ w u, (cfg0.win w).flush u = true → (rd m c).Leaves w u (aft w u)) (t : Fin cfg0.N)
    (ht : (cfg0.win 16).flush t = true) :
    ((rd m c).withAfter aft).flushed 16 t = ((cfg0.win 16).blk t).view.read (Elt Ideal) (G8 m c) := by
  have hN : t.val < 32 := Nat.lt_of_lt_of_eq t.isLt N_0
  funext j
  obtain ⟨z, y, k, rfl⟩ : ∃ (z : Fin 1) (y : Fin 1) (k : Fin 128), j = ix3 z y k := ⟨j 0, j 1, j 2, eq_ix3 j⟩
  obtain rfl : z = 0 := Subsingleton.elim _ _
  obtain rfl : y = 0 := Subsingleton.elim _ _
  have e : ((cfg0.win 16).blk t).view.read (Elt Ideal) (G8 m c) (ix3 0 0 k) = G8 m c (ix3 (bt t) 0 k) := by
    rw [View.read_apply]
    show G8 m c _ = G8 m c _
    congr 1
    funext d
    apply Fin.ext
    match d with
    | ⟨0, _⟩ => show win0_16.index t 0 * 1 + 1 * 0 = t.val / 16; rw [(idx16 t).1]; omega
    | ⟨1, _⟩ => show win0_16.index t 1 * 1 + 1 * 0 = 0; rw [(idx16 t).2.1]
    | ⟨2, _⟩ => show win0_16.index t 2 * 128 + 1 * k.val = k.val; rw [(idx16 t).2.2]; omega
  refine Eq.trans ((sum16 m c t.val t.isLt (aft 16 t) (hL 16 t ht) k).trans ((if_pos ((flush0_16 t).mp ht)).trans ?_)) e.symm
  exact congrArg (fun z => Ideal.div z (FloatOps.sitofp (F := Ideal) .f32 ((ARGS m c).n (bt t)))) (upto_all (ARGS m c) (kAt (ARGS m c)) (bt t) k)

theorem cover16 (i : S2x1x128.Idx) : ∃ t : Fin cfg0.N, (cfg0.win 16).flush t = true ∧ i ∈ ((cfg0.win 16).blk t).view.set := by
  have h0 : (i 0 : Nat) < 2 := (i 0).isLt
  have h1 : (i 1 : Nat) < 1 := (i 1).isLt
  have h2 : (i 2 : Nat) < 128 := (i 2).isLt
  have hN : cfg0.N = 32 := N_0
  obtain ⟨t, ht⟩ : ∃ t : Fin cfg0.N, t.val = 16 * (i 0 : Nat) + 15 := ⟨⟨16 * (i 0 : Nat) + 15, by omega⟩, rfl⟩
  refine ⟨t, (flush0_16 t).mpr (by omega), ?_⟩
  show i ∈ ((View.whole main_v3_8).slice (win0_16.rect t)).set
  rw [View.set_slice_whole, Rect.mem_set_unit]
  intro d
  match d with
  | ⟨0, _⟩ =>
    show win0_16.index t 0 * 1 ≤ (i 0 : Nat) ∧ (i 0 : Nat) < win0_16.index t 0 * 1 + 1
    rw [(idx16 t).1]; omega
  | ⟨1, _⟩ =>
    show win0_16.index t 1 * 1 ≤ (i 1 : Nat) ∧ (i 1 : Nat) < win0_16.index t 1 * 1 + 1
    rw [(idx16 t).2.1]; omega
  | ⟨2, _⟩ =>
    show win0_16.index t 2 * 128 ≤ (i 2 : Nat) ∧ (i 2 : Nat) < win0_16.index t 2 * 128 + 128
    rw [(idx16 t).2.2]; omega

theorem flushed17 (c : Dev nD) (hL : ∀ w u, (cfg0.win w).flush u = true → (rd m c).Leaves w u (aft w u)) (t : Fin cfg0.N)
    (ht : (cfg0.win 17).flush t = true) :
    ((rd m c).withAfter aft).flushed 17 t = ((cfg0.win 17).blk t).view.read (Elt Ideal) (G9 m c) := by
  have hN : t.val < 32 := Nat.lt_of_lt_of_eq t.isLt N_0
  funext j
  obtain ⟨z, y, k, rfl⟩ : ∃ (z : Fin 1) (y : Fin 1) (k : Fin 128), j = ix3 z y k := ⟨j 0, j 1, j 2, eq_ix3 j⟩
  obtain rfl : z = 0 := Subsingleton.elim _ _
  obtain rfl : y = 0 := Subsingleton.elim _ _
  have e : ((cfg0.win 17).blk t).view.read (Elt Ideal) (G9 m c) (ix3 0 0 k) = G9 m c (ix3 (bt t) 0 k) := by
    rw [View.read_apply]
    show G9 m c _ = G9 m c _
    congr 1
    funext d
    apply Fin.ext
    match d with
    | ⟨0, _⟩ => show win0_17.index t 0 * 1 + 1 * 0 = t.val / 16; rw [(idx17 t).1]; omega
    | ⟨1, _⟩ => show win0_17.index t 1 * 1 + 1 * 0 = 0; rw [(idx17 t).2.1]
    | ⟨2, _⟩ => show win0_17.index t 2 * 128 + 1 * k.val = k.val; rw [(idx17 t).2.2]; omega
  refine Eq.trans ((sum17 m c t.val t.isLt (aft 17 t) (hL 17 t ht) k).trans ((if_pos ((flush0_17 t).mp ht)).trans ?_)) e.symm
  exact congrArg (fun z => Ideal.div z (FloatOps.sitofp (F := Ideal) .f32 ((ARGS m c).n (bt t)))) (upto_all (ARGS m c) (vAt (ARGS m c)) (bt t) k)

theorem cover17 (i : S2x1x128.Idx) : ∃ t : Fin cfg0.N, (cfg0.win 17).flush t = true ∧ i ∈ ((cfg0.win 17).blk t).view.set := by
  have h0 : (i 0 : Nat) < 2 := (i 0).isLt
  have h1 : (i 1 : Nat) < 1 := (i 1).isLt
  have h2 : (i 2 : Nat) < 128 := (i 2).isLt
  have hN : cfg0.N = 32 := N_0
  obtain ⟨t, ht⟩ : ∃ t : Fin cfg0.N, t.val = 16 * (i 0 : Nat) + 15 := ⟨⟨16 * (i 0 : Nat) + 15, by omega⟩, rfl⟩
  refine ⟨t, (flush0_17 t).mpr (by omega), ?_⟩
  show i ∈ ((View.whole main_v3_9).slice (win0_17.rect t)).set
  rw [View.set_slice_whole, Rect.mem_set_unit]
  intro d
  match d with
  | ⟨0, _⟩ =>
    show win0_17.index t 0 * 1 ≤ (i 0 : Nat) ∧ (i 0 : Nat) < win0_17.index t 0 * 1 + 1
    rw [(idx17 t).1]; omega
  | ⟨1, _⟩ =>
    show win0_17.index t 1 * 1 ≤ (i 1 : Nat) ∧ (i 1 : Nat) < win0_17.index t 1 * 1 + 1
    rw [(idx17 t).2.1]; omega
  | ⟨2, _⟩ =>
    show win0_17.index t 2 * 128 ≤ (i 2 : Nat) ∧ (i 2 : Nat) < win0_17.index t 2 * 128 + 128
    rw [(idx17 t).2.2]; omega

/-- The run, read: the result arrays, the arguments unchanged. -/
theorem value : θ_run defs (onTc (τ := τ) (main (F := Ideal))) ⟨m, fun _ => 0, ρ⟩ fun r => ∀ c : Dev nD,
      r.2.mem ((c : Thread nD τ).loc main_v3_0) = G0 m c
      ∧ r.2.mem ((c : Thread nD τ).loc main_v3_1) = G1 m c
      ∧ r.2.mem ((c : Thread nD τ).loc main_v3_2) = G2 m c
      ∧ r.2.mem ((c : Thread nD τ).loc main_v3_3) = G3 m c
      ∧ r.2.mem ((c : Thread nD τ).loc main_v3_4) = G4 m c
      ∧ r.2.mem ((c : Thread nD τ).loc main_v3_5) = G5 m c
      ∧ r.2.mem ((c : Thread nD τ).loc main_v3_6) = G6 m c
      ∧ r.2.mem ((c : Thread nD τ).loc main_v3_7) = G7 m c
      ∧ r.2.mem ((c : Thread nD τ).loc main_v3_8) = G8 m c
      ∧ r.2.mem ((c : Thread nD τ).loc main_v3_9) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Cert.Proof.QkvIdeal.run m ρ (after m) (steps m))
  obtain ⟨aft, hL, hA⟩ := RDat.FramePost.exists_exact h.1 c
  exact ⟨(hA 8).trans (((rd m c).withAfter aft).arrAt_eq_of_cover 8 (G0 m c) (flushed8 m aft c hL) cover8),
    (hA 9).trans (((rd m c).withAfter aft).arrAt_eq_of_cover 9 (G1 m c) (flushed9 m aft c hL) cover9),
    (hA 10).trans (((rd m c).withAfter aft).arrAt_eq_of_cover 10 (G2 m c) (flushed10 m aft c hL) cover10),
    (hA 11).trans (((rd m c).withAfter aft).arrAt_eq_of_cover 11 (G3 m c) (flushed11 m aft c hL) cover11),
    (hA 12).trans (((rd m c).withAfter aft).arrAt_eq_of_cover 12 (G4 m c) (flushed12 m aft c hL) cover12),
    (hA 13).trans (((rd m c).withAfter aft).arrAt_eq_of_cover 13 (G5 m c) (flushed13 m aft c hL) cover13),
    (hA 14).trans (((rd m c).withAfter aft).arrAt_eq_of_cover 14 (G6 m c) (flushed14 m aft c hL) cover14),
    (hA 15).trans (((rd m c).withAfter aft).arrAt_eq_of_cover 15 (G7 m c) (flushed15 m aft c hL) cover15),
    (hA 16).trans (((rd m c).withAfter aft).arrAt_eq_of_cover 16 (G8 m c) (flushed16 m aft c hL) cover16),
    (hA 17).trans (((rd m c).withAfter aft).arrAt_eq_of_cover 17 (G9 m c) (flushed17 m aft c hL) cover17),
    Cert.Proof.QkvIdeal.unchanged_of m _ h.1 c⟩

end Cert.Proof.QkvKernel

end
-- ==== Proof.QkvRefPay.lean ====
/-
  Hand-written, untrusted. THE QKV PROJECTION'S REFERENCE over the extended reals: what its one block's values are, from the
  quantised rows to the queries' codes.
-/
module

public import proofs.«01_k».proof.Proof.QkvSpec
public import proofs.«01_k».proof.Proof.OutProjRef
public import proofs.«01_k».proof.Proof.Gen.QkvRefIdeal.Frame

@[expose] public section

set_option maxRecDepth 16384

noncomputable section

namespace Cert.Proof.QkvReference

open Idealize.ShloMosaic Idealize.ShloMosaic.TcCoe Idealize.SL.Sem Idealize.ShloMosaic.ValueIdx
open Cert.QkvRefIdeal Cert.QkvRefIdeal.Gen Cert.Proof.Ops Cert.Proof.Quant Cert.Proof.Fold Cert.Proof.QkvSpec
open Cert.Proof.OutProjSpec (rms rms_pos scF codeF fmax_div fold_col)
open Cert.Proof.OutProjReference (norm_apply quantise hi_bat lo_bat)

/-! ## Layout -/

/-- The heads' columns by batch, row, head and place. -/
theorem heads {H o : Nat} (P : FVec Ideal S8192x1280 .f32) (W : Nat) (hW : W = H * 128) (hs : S8192x1280.Slices ![0, o] ⟨2, ![8192, W]⟩)
    (hc : (⟨2, ![8192, W]⟩ : Shape).ShapeCasts ⟨4, ![2, 4096, H, 128]⟩) (b : Fin 2) (t : Fin 4096) (h : Fin H) (d : Fin 128)
    (j : Fin 1280) (hj : j.val = o + (128 * h.val + d.val)) :
    shapeCast (⟨4, ![2, 4096, H, 128]⟩ : Shape) (extractStridedSlice (⟨2, ![8192, W]⟩ : Shape) ![0, o] P hs) hc (ix4 b t h d) = P (ix2 (bat b t) j) := by
  have hb : 128 * h.val + d.val < W := by
    have := h.isLt; have := d.isLt; omega
  refine (shapeCast_apply _ hc (ix4 b t h d) (ix2 (bat b t) (⟨128 * h.val + d.val, hb⟩ : Fin W)) ?_).trans
    (extractStridedSlice_apply _ _ _ _ (ix2 (bat b t) j) (fun e => ?_))
  · rw [Shape.rowMajor_val_two, Shape.rowMajor_val_four]
    show (4096 * b.val + t.val) * W + (128 * h.val + d.val) = ((b.val * 4096 + t.val) * H + h.val) * 128 + d.val
    subst hW
    ring
  · match e with
    | ⟨0, _⟩ => show 4096 * b.val + t.val = 0 + (4096 * b.val + t.val); omega
    | ⟨1, _⟩ => exact hj

/-- Half of a head's places. -/
theorem half {H o : Nat} (X : FVec Ideal ⟨4, ![2, 4096, H, 128]⟩ .f32) (hs : (⟨4, ![2, 4096, H, 128]⟩ : Shape).Slices ![0, 0, 0, o] ⟨4, ![2, 4096, H, 64]⟩)
    (b : Fin 2) (t : Fin 4096) (h : Fin H) (e : Fin 64) (d : Fin 128) (hd : d.val = o + e.val) :
    extractStridedSlice (⟨4, ![2, 4096, H, 64]⟩ : Shape) ![0, 0, 0, o] X hs (ix4 b t h e) = X (ix4 b t h d) :=
  extractStridedSlice_apply _ _ _ (ix4 b t h e) (ix4 b t h d) (fun a => by
    match a with
    | ⟨0, _⟩ => show b.val = 0 + b.val; omega
    | ⟨1, _⟩ => show t.val = 0 + t.val; omega
    | ⟨2, _⟩ => show h.val = 0 + h.val; omega
    | ⟨3, _⟩ => exact hd)

/-- The angles with an axis of size one for the head, -/
theorem angle (x : FVec Ideal S2x4096x64 .f32) (b : Fin 2) (t : Fin 4096) (e : Fin 64) :
    shapeCast S2x4096x1x64 x shapeCasts_S2x4096x64_S2x4096x1x64 (ix4 b t 0 e) = x (ix3 b t e) := by
  refine shapeCast_apply x _ (ix4 b t 0 e) (ix3 b t e) ?_
  rw [Shape.rowMajor_val_three, Shape.rowMajor_val_four]
  show (b.val * 4096 + t.val) * 64 + e.val = ((b.val * 4096 + t.val) * 1 + 0) * 64 + e.val
  omega

/-- and the same for all of them. -/
theorem angles (x : FVec Ideal S2x4096x64 .f32) (b : Fin 2) (t : Fin 4096) (h : Fin 8) (e : Fin 64) :
    broadcastTo S2x4096x8x64 (shapeCast S2x4096x1x64 x shapeCasts_S2x4096x64_S2x4096x1x64) broadcasts_S2x4096x1x64_S2x4096x8x64 (ix4 b t h e) = x (ix3 b t e) := by
  refine (broadcastTo_apply _ _ (ix4 b t h e) (ix4 b t 0 e) fun a => ?_).trans (angle x b t e)
  match a with
  | ⟨0, _⟩ => simp [ix4]
  | ⟨1, _⟩ => simp [ix4]
  | ⟨2, _⟩ => simp [ix4]
  | ⟨3, _⟩ => simp [ix4]

/-- The left half's places, -/
theorem cat_left {H : Nat} (p q : FVec Ideal ⟨4, ![2, 4096, H, 64]⟩ .f32) (hc) (b : Fin 2) (t : Fin 4096) (h : Fin H) (d : Fin 128) (hd : d.val < 64) :
    concatenate (⟨4, ![2, 4096, H, 128]⟩ : Shape) 3 [⟨(⟨4, ![2, 4096, H, 64]⟩ : Shape), p⟩, ⟨(⟨4, ![2, 4096, H, 64]⟩ : Shape), q⟩] hc (ix4 b t h d) = p (ix4 b t h (lane d)) :=
  concatenate_pair_apply_left (t := ⟨4, ![2, 4096, H, 128]⟩) (s₁ := ⟨4, ![2, 4096, H, 64]⟩) (s₂ := ⟨4, ![2, 4096, H, 64]⟩) (3 : Fin 4) p q hc (ix4 b t h d) rfl (ix4 b t h (lane d)) (fun e => by
    match e with
    | ⟨0, _⟩ => rfl
    | ⟨1, _⟩ => rfl
    | ⟨2, _⟩ => rfl
    | ⟨3, _⟩ => show d.val % 64 = d.val; omega)

/-- and the right half's. -/
theorem cat_right {H : Nat} (p q : FVec Ideal ⟨4, ![2, 4096, H, 64]⟩ .f32) (hc) (b : Fin 2) (t : Fin 4096) (h : Fin H) (d : Fin 128) (hd : ¬ d.val < 64) :
    concatenate (⟨4, ![2, 4096, H, 128]⟩ : Shape) 3 [⟨(⟨4, ![2, 4096, H, 64]⟩ : Shape), p⟩, ⟨(⟨4, ![2, 4096, H, 64]⟩ : Shape), q⟩] hc (ix4 b t h d) = q (ix4 b t h (lane d)) :=
  concatenate_pair_apply_right (t := ⟨4, ![2, 4096, H, 128]⟩) (s₁ := ⟨4, ![2, 4096, H, 64]⟩) (s₂ := ⟨4, ![2, 4096, H, 64]⟩) (3 : Fin 4) p q hc (ix4 b t h d) rfl rfl (ix4 b t h (lane d)) (fun e he => by
    match e with
    | ⟨0, _⟩ => rfl
    | ⟨1, _⟩ => rfl
    | ⟨2, _⟩ => rfl
    | ⟨3, _⟩ => exact absurd rfl he) (by show d.val % 64 + 64 = d.val; omega)

/-- Two halves rotated and laid side by side. -/
theorem rotated {H : Nat} (X : FVec Ideal ⟨4, ![2, 4096, H, 128]⟩ .f32) (C S : FVec Ideal ⟨4, ![2, 4096, H, 64]⟩ .f32) (h0) (h64) (hc)
    (b : Fin 2) (t : Fin 4096) (h : Fin H) (v : Fin 128 → EReal) (c s : Fin 64 → EReal)
    (hX : ∀ d, X (ix4 b t h d) = v d) (hC : ∀ e, C (ix4 b t h e) = c e) (hS : ∀ e, S (ix4 b t h e) = s e) (d : Fin 128) :
    concatenate (⟨4, ![2, 4096, H, 128]⟩ : Shape) 3
      [⟨(⟨4, ![2, 4096, H, 64]⟩ : Shape), subf (mulf (extractStridedSlice (⟨4, ![2, 4096, H, 64]⟩ : Shape) ![0, 0, 0, 0] X h0) C) (mulf (extractStridedSlice (⟨4, ![2, 4096, H, 64]⟩ : Shape) ![0, 0, 0, 64] X h64) S)⟩,
        ⟨(⟨4, ![2, 4096, H, 64]⟩ : Shape), addf (mulf (extractStridedSlice (⟨4, ![2, 4096, H, 64]⟩ : Shape) ![0, 0, 0, 64] X h64) C) (mulf (extractStridedSlice (⟨4, ![2, 4096, H, 64]⟩ : Shape) ![0, 0, 0, 0] X h0) S)⟩] hc (ix4 b t h d)
      = rotF v c s d := by
  have e1 (j : Fin 128) (hj : j.val = 0 + (lane d).val) := (half X h0 b t h (lane d) j hj).trans (hX j)
  have e2 (j : Fin 128) (hj : j.val = 64 + (lane d).val) := (half X h64 b t h (lane d) j hj).trans (hX j)
  have hd' := d.isLt
  unfold rotF
  by_cases hd : d.val < 64
  · rw [if_pos hd]
    refine (cat_left _ _ hc b t h d hd).trans ?_
    have a1 := e1 d (by show d.val = 0 + d.val % 64; omega)
    have a2 := e2 (turn d) (by show (d.val + 64) % 128 = 64 + d.val % 64; omega)
    show extractStridedSlice _ _ X h0 (ix4 b t h (lane d)) * C (ix4 b t h (lane d)) - extractStridedSlice _ _ X h64 (ix4 b t h (lane d)) * S (ix4 b t h (lane d)) = _
    rw [a1, a2, hC, hS]
  · rw [if_neg hd]
    refine (cat_right _ _ hc b t h d hd).trans ?_
    have a1 := e1 (turn d) (by show (d.val + 64) % 128 = 0 + d.val % 64; omega)
    have a2 := e2 d (by show d.val = 64 + d.val % 64; omega)
    show extractStridedSlice _ _ X h64 (ix4 b t h (lane d)) * C (ix4 b t h (lane d)) + extractStridedSlice _ _ X h0 (ix4 b t h (lane d)) * S (ix4 b t h (lane d)) = _
    rw [a1, a2, hC, hS]

/-! ## The payloads -/

section Pay

variable (A : Args) (x0 : Vec Ideal S2x1 .i32) (x1 : Vec Ideal S8192x8192 .bf16) (x2 x3 : Vec Ideal S2x4096x64 .f32) (x4 : Vec Ideal S1x8192 .f32)
  (x5 : Vec Ideal S8192x1280 .fp8e4m3) (x6 x7 : Vec Ideal S1x1280 .f32)

/-- The blocks hold the arguments. -/
structure Whole : Prop where
  n : ∀ b, x0 (ix2 b 0) = A.n b
  x : ∀ b t k, x1 (ix2 (bat b t) k) = A.x b t k
  c : ∀ b t j, x2 (ix3 b t j) = A.c b t j
  s : ∀ b t j, x3 (ix3 b t j) = A.s b t j
  l : ∀ k, x4 (ix2 0 k) = A.l k
  w : ∀ k j, x5 (ix2 k j) = A.w k j
  p : ∀ j, x6 (ix2 0 j) = A.p j
  z : ∀ j, x7 (ix2 0 j) = A.z j

variable {A x0 x1 x2 x3 x4 x5 x6 x7} (h : Whole A x0 x1 x2 x3 x4 x5 x6 x7)

include h

/-- The normalised row. -/
theorem pay5 (b : Fin 2) (t : Fin 4096) (k : Fin 8192) : k0_pay5 x1 x4 (ix3 b t k) = Ideal.div (A.x b t k * A.l k) (rms (A.x b t)) := by
  unfold k0_pay5
  refine (split _ _ b t k).trans ?_
  rw [shapeCast_self x1, shapeCast_self x4]
  refine (norm_apply (extf .f32 x1 bitsLt_bf16_f32) (broadcastTo S8192x8192 x4 broadcasts_S1x8192_S8192x8192) (bat b t) k).trans ?_
  rw [Ops.brow, h.l]
  show Ideal.div (x1 (ix2 (bat b t) k) * A.l k) (rms fun k => x1 (ix2 (bat b t) k)) = _
  rw [h.x]
  exact congrArg (fun f => Ideal.div (A.x b t k * A.l k) (rms f)) (funext fun k => h.x b t k)

theorem scale (b : Fin 2) (t : Fin 4096) : k0_pay6 x1 x4 (ix2 b t) = scaleAt A b t := by
  unfold k0_pay6
  refine (select_sc _ (ix2 b t)).trans ?_
  refine (congrArg sc (rowmax3 _ _ _ _ b t)).trans ?_
  unfold scaleAt scF
  rw [← fmax_div (by omega) (rms_pos _)]
  refine congrArg (fun f => sc (fmax f)) (funext fun k => ?_)
  show FloatOps.absf (F := Ideal) (φ := .f32) (k0_pay5 x1 x4 (ix3 b t k)) = _
  rw [pay5 h]

theorem code (b : Fin 2) (t : Fin 4096) (k : Fin 8192) : k0_pay7 x1 x4 (ix3 b t k) = codeAt A b t k := by
  unfold k0_pay7
  refine (quantise _ _ b t k).trans ?_
  rw [col3, pay5 h, scale h]
  rfl

/-- The projection. -/
theorem proj (b : Fin 2) (t : Fin 4096) (j : Fin 1280) :
    k0_pay10 (k0_pay8 x1 x4) (k0_pay9 x1 x4) x5 x6 x7 (ix2 (bat b t) j) = qkvAt A b t j := by
  have hx (k : Fin 8192) : k0_pay8 x1 x4 (ix2 (bat b t) k) = codeAt A b t k := by
    unfold k0_pay8
    exact (join _ _ b t k).trans (code h b t k)
  have hs : k0_pay9 x1 x4 (ix2 (bat b t) 0) = scaleAt A b t := by
    unfold k0_pay9
    refine (fold_col _ _ (bat b t)).trans ?_
    rw [hi_bat, lo_bat]
    exact scale h b t
  unfold k0_pay10
  rw [show dot_S8192x8192_S8192x1280_S8192x1280_1_0_0_1_n_n = DotDims.plain 8192 8192 1280 from rfl]
  rw [shapeCast_self x6, shapeCast_self x7]
  have e (X : FVec Ideal S8192x8192 .fp8e4m3) (C : FVec Ideal S8192x1 .f32) (hX : ∀ k, X (ix2 (bat b t) k) = codeAt A b t k) (hC : C (ix2 (bat b t) 0) = scaleAt A b t) :
      addf (mulf (mulf (matmul (φ₁ := .fp8e4m3) (φ₂ := .fp8e4m3) (DotDims.plain 8192 8192 1280) none X x5 (constant S8192x1280 .f32 0x00000000#32))
        (broadcastTo S8192x1280 C broadcasts_S8192x1_S8192x1280)) (broadcastTo S8192x1280 x6 broadcasts_S1x1280_S8192x1280)) (broadcastTo S8192x1280 x7 broadcasts_S1x1280_S8192x1280) (ix2 (bat b t) j)
      = qkvAt A b t j := by
    show FloatOps.matmul (F := Ideal) (DotDims.plain 8192 8192 1280) none X x5 (constant S8192x1280 .f32 0x00000000#32) (ix2 (bat b t) j)
        * broadcastTo S8192x1280 C broadcasts_S8192x1_S8192x1280 (ix2 (bat b t) j)
        * broadcastTo S8192x1280 x6 broadcasts_S1x1280_S8192x1280 (ix2 (bat b t) j) + broadcastTo S8192x1280 x7 broadcasts_S1x1280_S8192x1280 (ix2 (bat b t) j) = _
    rw [Ideal.matmul_plain_apply, bcol, Ops.brow, Ops.brow, hC, h.p, h.z]
    rw [show (constant S8192x1280 .f32 0x00000000#32 : FVec Ideal S8192x1280 .f32) (ix2 (bat b t) j) = 0 from Ideal.ofBits_zero_f32, zero_add]
    unfold qkvAt
    exact congrArg (fun z : EReal => z * scaleAt A b t * A.p j + A.z j) (Finset.sum_congr rfl fun k _ =>
      congrArg₂ (fun p q : EReal => p * q) (hX k) (h.w k j))
  exact e _ _ hx hs

/-- The rotated queries. -/
theorem query (b : Fin 2) (t : Fin 4096) (g : Fin 8) (d : Fin 128) :
    k0_pay11 (k0_pay8 x1 x4) (k0_pay9 x1 x4) x5 x6 x7 x2 x3 (ix4 b t g d) = qAt A b t g d := by
  unfold k0_pay11 qAt
  exact rotated _ _ _ _ _ _ b t g _ _ _
    (fun d => (heads (H := 8) (o := 0) _ 1024 rfl _ _ b t g d (qcol g d) (by show 128 * g.val + d.val = 0 + (128 * g.val + d.val); omega)).trans (proj h b t _))
    (fun e => (angles x2 b t g e).trans (h.c b t e)) (fun e => (angles x3 b t g e).trans (h.s b t e)) d

/-- The rotated keys. -/
theorem key (b : Fin 2) (t : Fin 4096) (d : Fin 128) :
    k0_pay12 (k0_pay8 x1 x4) (k0_pay9 x1 x4) x5 x6 x7 x2 x3 (ix3 b t d) = kAt A b t d := by
  unfold k0_pay12 kAt
  refine (shapeCast_apply _ _ (ix3 b t d) (ix4 b t 0 d) ?_).trans ?_
  · rw [Shape.rowMajor_val_three, Shape.rowMajor_val_four]
    show ((b.val * 4096 + t.val) * 1 + 0) * 128 + d.val = (b.val * 4096 + t.val) * 128 + d.val
    omega
  · exact rotated (H := 1) _ _ _ _ _ _ b t 0 _ _ _
      (fun d => (heads (H := 1) (o := 1024) _ 128 rfl _ _ b t 0 d (kcol d) (by show 1024 + d.val = 1024 + (128 * 0 + d.val); omega)).trans (proj h b t _))
      (fun e => (angle x2 b t e).trans (h.c b t e)) (fun e => (angle x3 b t e).trans (h.s b t e)) d

/-- The values. -/
theorem val (b : Fin 2) (t : Fin 4096) (d : Fin 128) : k0_pay13 (k0_pay8 x1 x4) (k0_pay9 x1 x4) x5 x6 x7 (ix3 b t d) = vAt A b t d := by
  unfold k0_pay13 vAt
  refine (split _ _ b t d).trans ((extractStridedSlice_apply _ _ _ _ (ix2 (bat b t) (vcol d)) (fun e => ?_)).trans (proj h b t _))
  match e with
  | ⟨0, _⟩ => show 4096 * b.val + t.val = 0 + (4096 * b.val + t.val); omega
  | ⟨1, _⟩ => rfl

/-- The rows within the length. -/
theorem inside (b : Fin 2) (t : Fin 4096) : k0_pay15 x0 (ix2 b t) = IntOp.cmpi .slt (BitVec.ofNat 32 t.val) (A.n b) := by
  have e1 : broadcastTo S2x4096 (k0_pay14 (F := Ideal) x0) broadcasts_S2x1_S2x4096 (ix2 b t) = A.n b := by
    refine (bcol _ _ b t).trans ?_
    unfold k0_pay14
    rw [shapeCast_self]
    exact h.n b
  have e2 : iota .tc S2x4096 32 [1] iota_S2x4096_d1_w32 (ix2 b t) = BitVec.ofNat 32 t.val := by
    show BitVec.ofNat 32 (0 * 4096 + t.val) = _
    rw [Nat.zero_mul, Nat.zero_add]
  unfold k0_pay15
  show IntOp.cmpi .slt (iota .tc S2x4096 32 [1] iota_S2x4096_d1_w32 (ix2 b t)) (broadcastTo S2x4096 (k0_pay14 (F := Ideal) x0) broadcasts_S2x1_S2x4096 (ix2 b t)) = _
  rw [e1, e2]

/-- A masked mean. -/
theorem meanRow (f : Fin 2 → Fin 4096 → Fin 128 → EReal) (X : FVec Ideal S2x4096x128 .f32) (hX : ∀ b t d, X (ix3 b t d) = f b t d) (b : Fin 2) (d : Fin 128) :
    k0_pay16 X x0 (ix3 b 0 d) = meanOver A b fun t => f b t d := by
  have em (t : Fin 4096) : select (broadcastTo S2x4096x128 (shapeCast S2x4096x1 (shapeCast S2x4096x1 (k0_pay15 (F := Ideal) x0) shapeCasts_S2x4096_S2x4096x1) shapeCasts_S2x4096x1_S2x4096x1) broadcasts_S2x4096x1_S2x4096x128)
      X (broadcast S2x4096x128 (Scalar.ofBits (F := Ideal) .f32 0x00000000#32)) (ix3 b t d) = mask A b t (f b t d) := by
    show Scalar.select (broadcastTo S2x4096x128 (shapeCast S2x4096x1 (shapeCast S2x4096x1 (k0_pay15 (F := Ideal) x0) shapeCasts_S2x4096_S2x4096x1) shapeCasts_S2x4096x1_S2x4096x1) broadcasts_S2x4096x1_S2x4096x128 (ix3 b t d))
      (X (ix3 b t d)) (Ideal.ofBits .f32 0x00000000#32) = _
    rw [bcol3, shapeCast_self, col3, inside h, Ideal.ofBits_zero_f32, hX]
    rfl
  have el : broadcastTo S2x128 (sitofp (F := Ideal) .f32 (k0_pay14 (F := Ideal) x0)) broadcasts_S2x1_S2x128 (ix2 b d) = FloatOps.sitofp (F := Ideal) .f32 (A.n b) := by
    refine (bcol _ _ b d).trans ?_
    unfold k0_pay14
    rw [shapeCast_self]
    exact congrArg (fun n : BitVec 32 => FloatOps.sitofp (F := Ideal) .f32 n) (h.n b)
  unfold k0_pay16 meanOver
  refine (shapeCast_apply _ _ (ix3 b 0 d) (ix2 b d) ?_).trans ?_
  · rw [Shape.rowMajor_val_two, Shape.rowMajor_val_three]
    show b.val * 128 + d.val = (b.val * 1 + 0) * 128 + d.val
    omega
  · exact congrArg₂ (fun p q => Ideal.div p q) ((midsum _ _ _ _ b d).trans (Finset.sum_congr rfl fun t _ => em t)) el

end Pay

/-! ## A head's codes -/

section Head

variable {Q : FVec Ideal S2x4096x8x128 .f32} {f : Fin 2 → Fin 8 → Fin 4096 → Fin 128 → EReal} (hQ : ∀ b t g d, Q (ix4 b t g d) = f b g t d)

include hQ

/-- The scaled queries by 128 rows, -/
theorem scaled (b : Fin 2) (q : Fin 32) (r : Fin 128) (g : Fin 8) (d : Fin 128) : k0_pay18 Q (ix5 b q r g d) = f b g (rowG q r) d * root := by
  unfold k0_pay18
  refine (shapeCast_apply _ _ (ix5 b q r g d) (ix4 b (rowG q r) g d) ?_).trans ?_
  · rw [Shape.rowMajor_val_four, Shape.rowMajor_val_five]
    show ((b.val * 4096 + (128 * q.val + r.val)) * 8 + g.val) * 128 + d.val = (((b.val * 32 + q.val) * 128 + r.val) * 8 + g.val) * 128 + d.val
    omega
  · exact congrArg (fun z : EReal => z * root) (hQ b _ g d)

/-- their means, -/
theorem mean (b : Fin 2) (q : Fin 32) (g : Fin 8) (d : Fin 128) : k0_pay19 Q (ix4 b q g d) = meanF (f b g) q d := by
  unfold k0_pay19 meanF
  exact congrArg (fun z : EReal => Ideal.div z c128) ((sum5 _ _ _ _ b q g d).trans (Finset.sum_congr rfl fun r _ => scaled hQ b q r g d))

/-- the queries less their means, by 32 rows, -/
theorem smooth (b : Fin 2) (u : Fin 128) (r : Fin 32) (g : Fin 8) (d : Fin 128) :
    k0_pay1 (k0_pay18 Q) (k0_pay19 Q) (ix5 b u r g d) = smF (f b g) (rowU u r) d := by
  have hq : (32 * u.val + r.val) % 128 < 128 := by omega
  have e (P : FVec Ideal S2x32x128x8x128 .f32) (M : FVec Ideal S2x32x8x128 .f32) (q : Fin 32) (s : Fin 128) :
      subf P (broadcastTo S2x32x128x8x128 (shapeCast S2x32x1x8x128 M shapeCasts_S2x32x8x128_S2x32x1x8x128) broadcasts_S2x32x1x8x128_S2x32x128x8x128) (ix5 b q s g d)
        = P (ix5 b q s g d) - M (ix4 b q g d) := by
    refine congrArg (fun z : EReal => P (ix5 b q s g d) - z) ((broadcastTo_apply _ _ (ix5 b q s g d) (ix5 b q 0 g d) fun a => ?_).trans
      (shapeCast_apply M _ (ix5 b q 0 g d) (ix4 b q g d) ?_))
    · match a with
      | ⟨0, _⟩ => simp [ix5]
      | ⟨1, _⟩ => simp [ix5]
      | ⟨2, _⟩ => simp [ix5]
      | ⟨3, _⟩ => simp [ix5]
      | ⟨4, _⟩ => simp [ix5]
    · rw [Shape.rowMajor_val_four, Shape.rowMajor_val_five]
      show ((b.val * 32 + q.val) * 8 + g.val) * 128 + d.val = (((b.val * 32 + q.val) * 1 + 0) * 8 + g.val) * 128 + d.val
      omega
  unfold k0_pay1
  refine (shapeCast_apply _ _ (ix5 b u r g d) (ix5 b (grp (rowU u r)) (⟨(32 * u.val + r.val) % 128, hq⟩ : Fin 128) g d) ?_).trans ?_
  · rw [Shape.rowMajor_val_five, Shape.rowMajor_val_five]
    show (((b.val * 32 + (32 * u.val + r.val) / 128) * 128 + (32 * u.val + r.val) % 128) * 8 + g.val) * 128 + d.val
      = (((b.val * 128 + u.val) * 32 + r.val) * 8 + g.val) * 128 + d.val
    omega
  · refine (e _ _ _ _).trans ?_
    rw [scaled hQ, mean hQ]
    unfold smF
    refine congrArg (fun t => f b g t d * root - meanF (f b g) (grp (rowU u r)) d) (Fin.ext ?_)
    show 128 * ((32 * u.val + r.val) / 128) + (32 * u.val + r.val) % 128 = 32 * u.val + r.val
    omega

/-- their scales, -/
theorem qscale (b : Fin 2) (u : Fin 128) (g : Fin 8) : k0_pay2 (k0_pay18 Q) (k0_pay19 Q) (ix3 b u g) = scF8 (f b g) u := by
  unfold k0_pay2
  refine (select_sc8 _ (ix3 b u g)).trans ?_
  unfold scF8
  refine congrArg sc8 ((max4 _ _ _ _ b u g).trans (congrArg fmax (funext fun r => (max5 _ _ _ _ b u r g).trans (congrArg fmax (funext fun d => ?_)))))
  exact congrArg (fun z => FloatOps.absf (F := Ideal) (φ := .f32) z) (smooth hQ b u r g d)

/-- and codes, -/
theorem qcode (b : Fin 2) (t : Fin 4096) (j : Fin 1024) : k0_pay3 (k0_pay18 Q) (k0_pay19 Q) (ix3 b t j) = cdF8 (f b (hd j)) t (dim j) := by
  have ht := t.isLt
  have hr : t.val % 32 < 32 := by omega
  have e (P : FVec Ideal S2x128x32x8x128 .f32) (R : FVec Ideal S2x128x8 .f32) (u : Fin 128) (r : Fin 32) (g : Fin 8) (d : Fin 128) :
      fptosi 8 (minimumf (broadcast S2x128x32x8x128 (Scalar.ofBits (F := Ideal) .f32 0x42FE0000#32)) (maximumf (broadcast S2x128x32x8x128 (Scalar.ofBits (F := Ideal) .f32 0xC2FE0000#32))
        (roundeven (divf P (broadcastTo S2x128x32x8x128 (shapeCast S2x128x1x8x1 R shapeCasts_S2x128x8_S2x128x1x8x1) broadcasts_S2x128x1x8x1_S2x128x32x8x128))))) (ix5 b u r g d)
        = code8 (Ideal.div (P (ix5 b u r g d)) (R (ix3 b u g))) := by
    refine congrArg (fun z : EReal => code8 (Ideal.div (P (ix5 b u r g d)) z)) ((broadcastTo_apply _ _ (ix5 b u r g d) (ix5 b u 0 g 0) fun a => ?_).trans
      (shapeCast_apply R _ (ix5 b u 0 g 0) (ix3 b u g) ?_))
    · match a with
      | ⟨0, _⟩ => simp [ix5]
      | ⟨1, _⟩ => simp [ix5]
      | ⟨2, _⟩ => simp [ix5]
      | ⟨3, _⟩ => simp [ix5]
      | ⟨4, _⟩ => simp [ix5]
    · rw [Shape.rowMajor_val_three, Shape.rowMajor_val_five]
      show (b.val * 128 + u.val) * 8 + g.val = (((b.val * 128 + u.val) * 1 + 0) * 8 + g.val) * 1 + 0
      omega
  unfold k0_pay3
  refine (shapeCast_apply _ _ (ix3 b t j) (ix5 b (blk t) (⟨t.val % 32, hr⟩ : Fin 32) (hd j) (dim j)) ?_).trans ?_
  · rw [Shape.rowMajor_val_three, Shape.rowMajor_val_five]
    show (((b.val * 128 + t.val / 32) * 32 + t.val % 32) * 8 + j.val / 128) * 128 + j.val % 128 = (b.val * 4096 + t.val) * 1024 + j.val
    omega
  · refine (e _ _ _ _ _ _).trans ?_
    rw [smooth hQ, qscale hQ]
    unfold cdF8
    refine congrArg (fun s => code8 (Ideal.div (smF (f b (hd j)) s (dim j)) (scF8 (f b (hd j)) (blk t)))) (Fin.ext ?_)
    show 32 * (t.val / 32) + t.val % 32 = t.val
    omega

/-- and the scales along the lanes. -/
theorem qrow (b : Fin 2) (q e : Fin 32) (l : Fin 128) : k0_pay4 (k0_pay18 Q) (k0_pay19 Q) (ix4 b q e l) = scF8 (f b (lhead e)) (quarter q e) := by
  have he := e.isLt
  have h4 : e.val % 4 < 4 := by omega
  unfold k0_pay4
  refine (broadcastTo_apply _ _ (ix4 b q e l) (ix4 b q e 0) fun a => ?_).trans ?_
  · match a with
    | ⟨0, _⟩ => simp [ix4]
    | ⟨1, _⟩ => simp [ix4]
    | ⟨2, _⟩ => simp [ix4]
    | ⟨3, _⟩ => simp [ix4]
  · rw [shapeCast_self]
    refine (shapeCast_apply _ _ (ix4 b q e 0) (ix4 b q (lhead e) (⟨e.val % 4, h4⟩ : Fin 4)) ?_).trans ((transpose_apply _ _ _ _ (ix4 b q (⟨e.val % 4, h4⟩ : Fin 4) (lhead e)) ?_).trans
      ((shapeCast_apply _ _ (ix4 b q (⟨e.val % 4, h4⟩ : Fin 4) (lhead e)) (ix3 b (quarter q e) (lhead e)) ?_).trans (qscale hQ b _ _)))
    · rw [Shape.rowMajor_val_four, Shape.rowMajor_val_four]
      show ((b.val * 32 + q.val) * 8 + e.val / 4) * 4 + e.val % 4 = ((b.val * 32 + q.val) * 32 + e.val) * 1 + 0
      omega
    · intro a
      match a with
      | ⟨0, _⟩ => rfl
      | ⟨1, _⟩ => rfl
      | ⟨2, _⟩ => rfl
      | ⟨3, _⟩ => rfl
    · rw [Shape.rowMajor_val_three, Shape.rowMajor_val_four]
      show (b.val * 128 + (4 * q.val + e.val % 4)) * 8 + e.val / 4 = ((b.val * 32 + q.val) * 4 + e.val % 4) * 8 + e.val / 4
      omega

end Head

end Cert.Proof.QkvReference

end
-- ==== Proof.QkvRef.lean ====
/-
  Hand-written, untrusted. THE QKV PROJECTION'S REFERENCE, RUN, and the claim: the kernel's ten result arrays and the
  reference's are equal.
-/
module

public import proofs.«01_k».proof.Defs
public import proofs.«01_k».proof.Proof.QkvKernel
public import proofs.«01_k».proof.Proof.QkvRefPay

@[expose] public section

set_option maxRecDepth 16384

noncomputable section

namespace Cert.Proof.QkvReference

open Idealize.ShloMosaic Idealize.ShloMosaic.TcCoe Idealize.SL.Sem Idealize.ShloMosaic.ValueIdx
open Cert.QkvRefIdeal Cert.QkvRefIdeal.Gen Cert.Proof.Ops Cert.Proof.Fold Cert.Proof.QkvSpec

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! Loads of whole blocks, and the values the body names by them. -/

section Loads

variable (x0 : Vec Ideal S2x1 .i32) (x1 : Vec Ideal S8192x8192 .bf16) (x2 x3 : Vec Ideal S2x4096x64 .f32) (x4 : Vec Ideal S1x8192 .f32)
  (x5 : Vec Ideal S8192x1280 .fp8e4m3) (x6 x7 : Vec Ideal S1x1280 .f32)

theorem ld0 : View.ld x0 r0_8 = x0 := by rw [View.ld_unit_zero hz]
theorem ld1 : View.ld x1 r0_0 = x1 := by rw [View.ld_unit_zero hz]
theorem ld2 : View.ld x2 r0_6 = x2 := by rw [View.ld_unit_zero hz3]
theorem ld4 : View.ld x4 r0_1 = x4 := by rw [View.ld_unit_zero hz]
theorem ld5 : View.ld x5 r0_4 = x5 := by rw [View.ld_unit_zero hz]
theorem ld6 : View.ld x6 r0_5 = x6 := by rw [View.ld_unit_zero hz]

theorem e22 : k0_pay22 x0 x1 x2 x3 x4 x5 x6 x7 = k0_pay11 (k0_pay8 x1 x4) (k0_pay9 x1 x4) x5 x6 x7 x2 x3 := by
  unfold k0_pay22 k0_pay20 k0_pay21
  rw [ld1, ld4, ld5, ld6, ld6, ld2, ld2]
theorem e23 : k0_pay23 x0 x1 x2 x3 x4 x5 x6 x7 = k0_pay12 (k0_pay8 x1 x4) (k0_pay9 x1 x4) x5 x6 x7 x2 x3 := by
  unfold k0_pay23 k0_pay20 k0_pay21
  rw [ld1, ld4, ld5, ld6, ld6, ld2, ld2]
theorem e24 : k0_pay24 x0 x1 x2 x3 x4 x5 x6 x7 = k0_pay13 (k0_pay8 x1 x4) (k0_pay9 x1 x4) x5 x6 x7 := by
  unfold k0_pay24 k0_pay20 k0_pay21
  rw [ld1, ld4, ld5, ld6, ld6]

end Loads

/-! ## The windows: each block is its whole array -/

theorem idx0 : ∀ (t : Fin grid0.N) (d : Fin 2), win0_0.index t d = 0 := by decide +kernel
theorem idx1 : ∀ (t : Fin grid0.N) (d : Fin 2), win0_1.index t d = 0 := by decide +kernel
theorem idx2 : ∀ (t : Fin grid0.N) (d : Fin 3), win0_2.index t d = 0 := by decide +kernel
theorem idx3 : ∀ (t : Fin grid0.N) (d : Fin 3), win0_3.index t d = 0 := by decide +kernel
theorem idx4 : ∀ (t : Fin grid0.N) (d : Fin 2), win0_4.index t d = 0 := by decide +kernel
theorem idx5 : ∀ (t : Fin grid0.N) (d : Fin 2), win0_5.index t d = 0 := by decide +kernel
theorem idx6 : ∀ (t : Fin grid0.N) (d : Fin 2), win0_6.index t d = 0 := by decide +kernel
theorem idx7 : ∀ (t : Fin grid0.N) (d : Fin 2), win0_7.index t d = 0 := by decide +kernel
theorem idx8 : ∀ (t : Fin grid0.N) (d : Fin 3), win0_8.index t d = 0 := by decide +kernel
theorem idx9 : ∀ (t : Fin grid0.N) (d : Fin 2), win0_9.index t d = 0 := by decide +kernel
theorem idx10 : ∀ (t : Fin grid0.N) (d : Fin 3), win0_10.index t d = 0 := by decide +kernel
theorem idx11 : ∀ (t : Fin grid0.N) (d : Fin 3), win0_11.index t d = 0 := by decide +kernel
theorem idx12 : ∀ (t : Fin grid0.N) (d : Fin 4), win0_12.index t d = 0 := by decide +kernel
theorem idx13 : ∀ (t : Fin grid0.N) (d : Fin 4), win0_13.index t d = 0 := by decide +kernel
theorem idx14 : ∀ (t : Fin grid0.N) (d : Fin 3), win0_14.index t d = 0 := by decide +kernel
theorem idx15 : ∀ (t : Fin grid0.N) (d : Fin 3), win0_15.index t d = 0 := by decide +kernel
theorem idx16 : ∀ (t : Fin grid0.N) (d : Fin 3), win0_16.index t d = 0 := by decide +kernel
theorem idx17 : ∀ (t : Fin grid0.N) (d : Fin 3), win0_17.index t d = 0 := by decide +kernel

theorem b0 (c : Dev nD) (t : Fin cfg0.N) : (iblk m c 0 t : Vec Ideal S2x1 .i32) = V m c main_v0 := by
  have hz' : (fun a => win0_0.index t a * main_v0.ty.shape.size a) = fun _ => 0 := funext fun a => by rw [idx0 t, Nat.zero_mul]
  exact Memref.read_access_unit_zero (Elt Ideal) main_v0 hz' (fun a => by rw [congrFun hz' a]; simp) (V m c main_v0)
theorem b1 (c : Dev nD) (t : Fin cfg0.N) : (iblk m c 1 t : Vec Ideal S8192x8192 .bf16) = V m c main_v1 := by
  have hz' : (fun a => win0_1.index t a * main_v1.ty.shape.size a) = fun _ => 0 := funext fun a => by rw [idx1 t, Nat.zero_mul]
  exact Memref.read_access_unit_zero (Elt Ideal) main_v1 hz' (fun a => by rw [congrFun hz' a]; simp) (V m c main_v1)
theorem b2 (c : Dev nD) (t : Fin cfg0.N) : (iblk m c 2 t : Vec Ideal S2x4096x64 .f32) = V m c main_arg2 := by
  have hz' : (fun a => win0_2.index t a * main_arg2.ty.shape.size a) = fun _ => 0 := funext fun a => by rw [idx2 t, Nat.zero_mul]
  exact Memref.read_access_unit_zero (Elt Ideal) main_arg2 hz' (fun a => by rw [congrFun hz' a]; simp) (V m c main_arg2)
theorem b3 (c : Dev nD) (t : Fin cfg0.N) : (iblk m c 3 t : Vec Ideal S2x4096x64 .f32) = V m c main_arg3 := by
  have hz' : (fun a => win0_3.index t a * main_arg3.ty.shape.size a) = fun _ => 0 := funext fun a => by rw [idx3 t, Nat.zero_mul]
  exact Memref.read_access_unit_zero (Elt Ideal) main_arg3 hz' (fun a => by rw [congrFun hz' a]; simp) (V m c main_arg3)
theorem b4 (c : Dev nD) (t : Fin cfg0.N) : (iblk m c 4 t : Vec Ideal S1x8192 .f32) = V m c main_v2 := by
  have hz' : (fun a => win0_4.index t a * main_v2.ty.shape.size a) = fun _ => 0 := funext fun a => by rw [idx4 t, Nat.zero_mul]
  exact Memref.read_access_unit_zero (Elt Ideal) main_v2 hz' (fun a => by rw [congrFun hz' a]; simp) (V m c main_v2)
theorem b5 (c : Dev nD) (t : Fin cfg0.N) : (iblk m c 5 t : Vec Ideal S8192x1280 .fp8e4m3) = V m c main_arg5 := by
  have hz' : (fun a => win0_5.index t a * main_arg5.ty.shape.size a) = fun _ => 0 := funext fun a => by rw [idx5 t, Nat.zero_mul]
  exact Memref.read_access_unit_zero (Elt Ideal) main_arg5 hz' (fun a => by rw [congrFun hz' a]; simp) (V m c main_arg5)
theorem b6 (c : Dev nD) (t : Fin cfg0.N) : (iblk m c 6 t : Vec Ideal S1x1280 .f32) = V m c main_v3 := by
  have hz' : (fun a => win0_6.index t a * main_v3.ty.shape.size a) = fun _ => 0 := funext fun a => by rw [idx6 t, Nat.zero_mul]
  exact Memref.read_access_unit_zero (Elt Ideal) main_v3 hz' (fun a => by rw [congrFun hz' a]; simp) (V m c main_v3)
theorem b7 (c : Dev nD) (t : Fin cfg0.N) : (iblk m c 7 t : Vec Ideal S1x1280 .f32) = V m c main_v4 := by
  have hz' : (fun a => win0_7.index t a * main_v4.ty.shape.size a) = fun _ => 0 := funext fun a => by rw [idx7 t, Nat.zero_mul]
  exact Memref.read_access_unit_zero (Elt Ideal) main_v4 hz' (fun a => by rw [congrFun hz' a]; simp) (V m c main_v4)

/-- The arguments on device `c`. -/
def ARGS (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem V_n (c : Dev nD) (b : Fin 2) : (V m c main_v0 : Vec Ideal S2x1 .i32) (ix2 b 0) = (ARGS m c).n b := by
  unfold V hostOps0
  after_results
  exact broadcastInDim_apply _ _ _ (ix2 b 0) (ix1 b) fun a => by
    match a with
    | ⟨0, _⟩ => simp [ix1, ix2]

theorem V_x (c : Dev nD) (b : Fin 2) (t : Fin 4096) (k : Fin 8192) :
    (V m c main_v1 : Vec Ideal S8192x8192 .bf16) (ix2 (bat b t) k) = (ARGS m c).x b t k := by
  unfold V hostOps0
  after_results
  show shapeCast S8192x8192 (m ((c : Thread nD τ).loc main_arg1) : Vec Ideal S2x4096x8192 .bf16) shapeCasts_S2x4096x8192_S8192x8192 (ix2 (bat b t) k) = _
  exact join _ _ b t k

theorem V_l (c : Dev nD) (k : Fin 8192) : (V m c main_v2 : Vec Ideal S1x8192 .f32) (ix2 0 k) = (ARGS m c).l k := by
  unfold V hostOps0
  after_results
  exact broadcastInDim_apply _ _ _ (ix2 0 k) (ix1 k) fun a => by
    match a with
    | ⟨0, _⟩ => simp [ix1, ix2]

theorem V_p (c : Dev nD) (k : Fin 1280) : (V m c main_v3 : Vec Ideal S1x1280 .f32) (ix2 0 k) = (ARGS m c).p k := by
  unfold V hostOps0
  after_results
  exact broadcastInDim_apply _ _ _ (ix2 0 k) (ix1 k) fun a => by
    match a with
    | ⟨0, _⟩ => simp [ix1, ix2]

theorem V_z (c : Dev nD) (k : Fin 1280) : (V m c main_v4 : Vec Ideal S1x1280 .f32) (ix2 0 k) = (ARGS m c).z k := by
  unfold V hostOps0
  after_results
  exact broadcastInDim_apply _ _ _ (ix2 0 k) (ix1 k) fun a => by
    match a with
    | ⟨0, _⟩ => simp [ix1, ix2]

theorem whole (c : Dev nD) : Whole (ARGS m c) (V m c main_v0) (V m c main_v1) (V m c main_arg2) (V m c main_arg3) (V m c main_v2)
    (V m c main_arg5) (V m c main_v3) (V m c main_v4) where
  n := V_n m c
  x := V_x m c
  c b t j := congrFun (V_main_arg2 m c) (ix3 b t j)
  s b t j := congrFun (V_main_arg3 m c) (ix3 b t j)
  l := V_l m c
  w k j := congrFun (V_main_arg5 m c) (ix2 k j)
  p := V_p m c
  z := V_z m c

/-! ## The result arrays -/

abbrev G0 (c : Dev nD) : Buf (Elt Ideal) ((c : Thread nD τ).loc main_v5_0) := codes (ARGS m c)
abbrev G1 (c : Dev nD) : Buf (Elt Ideal) ((c : Thread nD τ).loc main_v5_1) := scales (ARGS m c)
abbrev G2 (c : Dev nD) : Buf (Elt Ideal) ((c : Thread nD τ).loc main_v5_2) := qcodes (ARGS m c)
abbrev G3 (c : Dev nD) : Buf (Elt Ideal) ((c : Thread nD τ).loc main_v5_3) := qscales (ARGS m c)
abbrev G4 (c : Dev nD) : Buf (Elt Ideal) ((c : Thread nD τ).loc main_v5_4) := qrows (ARGS m c)
abbrev G5 (c : Dev nD) : Buf (Elt Ideal) ((c : Thread nD τ).loc main_v5_5) := qmeans (ARGS m c)
abbrev G6 (c : Dev nD) : Buf (Elt Ideal) ((c : Thread nD τ).loc main_v5_6) := keys (ARGS m c)
abbrev G7 (c : Dev nD) : Buf (Elt Ideal) ((c : Thread nD τ).loc main_v5_7) := values (ARGS m c)
abbrev G8 (c : Dev nD) : Buf (Elt Ideal) ((c : Thread nD τ).loc main_v5_8) := kmeans (ARGS m c)
abbrev G9 (c : Dev nD) : Buf (Elt Ideal) ((c : Thread nD τ).loc main_v5_9) := vmeans (ARGS m c)

theorem flushed8 (c : Dev nD) (t : Fin cfg0.N) :
    (dats m 0 c).flushed 8 t = ((cfg0.win 8).blk t).view.read (Elt Ideal) (G0 m c) := by
  have hf : (dats m 0 c).flushed 8 t = (cfg0.win 8).cut (grid0.coords t) (out0_8 (iblk m c 0 t) (iblk m c 1 t) (iblk m c 2 t) (iblk m c 3 t) (iblk m c 4 t) (iblk m c 5 t) (iblk m c 6 t) (iblk m c 7 t)) := by
    show (cfg0.win 8).cut (grid0.coords t) ((dats m 0 c).after 8 t) = _
    rw [after0_8]
  rw [hf]
  have hz' : (fun a => win0_8.index t a * main_v5_0.ty.shape.size a) = fun _ => 0 := funext fun a => by rw [idx8 t, Nat.zero_mul]
  refine Eq.trans ?_ (Memref.read_access_unit_zero (Elt Ideal) main_v5_0 hz' (fun a => by rw [congrFun hz' a]; simp) (G0 m c)).symm
  funext j
  obtain ⟨a, b, k, rfl⟩ : ∃ (a : Fin 2) (b : Fin 4096) (k : Fin 8192), j = ix3 a b k := ⟨j 0, j 1, j 2, eq_ix3 j⟩
  show out0_8 (iblk m c 0 t) (iblk m c 1 t) (iblk m c 2 t) (iblk m c 3 t) (iblk m c 4 t) (iblk m c 5 t) (iblk m c 6 t) (iblk m c 7 t) (ix3 a b k) = _
  unfold out0_8
  rw [View.canon_unit_zero hz3, ld1, ld4, b1, b4]
  exact code (whole m c) a b k

theorem cover8 (i : S2x4096x8192.Idx) : ∃ t : Fin cfg0.N, (cfg0.win 8).flush t = true ∧ i ∈ ((cfg0.win 8).blk t).view.set := by
  have hN : cfg0.N = 1 := N_0
  obtain ⟨t, -⟩ : ∃ t : Fin cfg0.N, t.val = 0 := ⟨⟨0, by omega⟩, rfl⟩
  refine ⟨t, flush0_8 _, ?_⟩
  show i ∈ ((View.whole main_v5_0).slice (win0_8.rect t)).set
  rw [View.set_slice_whole, Rect.mem_set_unit]
  intro d
  show win0_8.index t d * _ ≤ (i d : Nat) ∧ (i d : Nat) < win0_8.index t d * _ + _
  rw [idx8 t d, Nat.zero_mul, Nat.zero_add]
  exact ⟨Nat.zero_le _, (i d).isLt⟩

theorem flushed9 (c : Dev nD) (t : Fin cfg0.N) :
    (dats m 0 c).flushed 9 t = ((cfg0.win 9).blk t).view.read (Elt Ideal) (G1 m c) := by
  have hf : (dats m 0 c).flushed 9 t = (cfg0.win 9).cut (grid0.coords t) (out0_9 (iblk m c 0 t) (iblk m c 1 t) (iblk m c 2 t) (iblk m c 3 t) (iblk m c 4 t) (iblk m c 5 t) (iblk m c 6 t) (iblk m c 7 t)) := by
    show (cfg0.win 9).cut (grid0.coords t) ((dats m 0 c).after 9 t) = _
    rw [after0_9]
  rw [hf]
  have hz' : (fun a => win0_9.index t a * main_v5_1.ty.shape.size a) = fun _ => 0 := funext fun a => by rw [idx9 t, Nat.zero_mul]
  refine Eq.trans ?_ (Memref.read_access_unit_zero (Elt Ideal) main_v5_1 hz' (fun a => by rw [congrFun hz' a]; simp) (G1 m c)).symm
  funext j
  obtain ⟨a, b, rfl⟩ : ∃ (a : Fin 2) (b : Fin 4096), j = ix2 a b := ⟨j 0, j 1, eq_ix2 j⟩
  show out0_9 (iblk m c 0 t) (iblk m c 1 t) (iblk m c 2 t) (iblk m c 3 t) (iblk m c 4 t) (iblk m c 5 t) (iblk m c 6 t) (iblk m c 7 t) (ix2 a b) = _
  unfold out0_9
  rw [View.canon_unit_zero hz, ld1, ld4, b1, b4]
  exact scale (whole m c) a b

theorem cover9 (i : S2x4096.Idx) : ∃ t : Fin cfg0.N, (cfg0.win 9).flush t = true ∧ i ∈ ((cfg0.win 9).blk t).view.set := by
  have hN : cfg0.N = 1 := N_0
  obtain ⟨t, -⟩ : ∃ t : Fin cfg0.N, t.val = 0 := ⟨⟨0, by omega⟩, rfl⟩
  refine ⟨t, flush0_9 _, ?_⟩
  show i ∈ ((View.whole main_v5_1).slice (win0_9.rect t)).set
  rw [View.set_slice_whole, Rect.mem_set_unit]
  intro d
  show win0_9.index t d * _ ≤ (i d : Nat) ∧ (i d : Nat) < win0_9.index t d * _ + _
  rw [idx9 t d, Nat.zero_mul, Nat.zero_add]
  exact ⟨Nat.zero_le _, (i d).isLt⟩

theorem flushed10 (c : Dev nD) (t : Fin cfg0.N) :
    (dats m 0 c).flushed 10 t = ((cfg0.win 10).blk t).view.read (Elt Ideal) (G2 m c) := by
  have hf : (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t)) := by
    show (cfg0.win 10).cut (grid0.coords t) ((dats m 0 c).after 10 t) = _
    rw [after0_10]
  rw [hf]
  have hz' : (fun a => win0_10.index t a * main_v5_2.ty.shape.size a) = fun _ => 0 := funext fun a => by rw [idx10 t, Nat.zero_mul]
  refine Eq.trans ?_ (Memref.read_access_unit_zero (Elt Ideal) main_v5_2 hz' (fun a => by rw [congrFun hz' a]; simp) (G2 m c)).symm
  funext j
  obtain ⟨a, b, k, rfl⟩ : ∃ (a : Fin 2) (b : Fin 4096) (k : Fin 1024), j = ix3 a b k := ⟨j 0, j 1, j 2, eq_ix3 j⟩
  show out0_10 (iblk m c 0 t) (iblk m c 1 t) (iblk m c 2 t) (iblk m c 3 t) (iblk m c 4 t) (iblk m c 5 t) (iblk m c 6 t) (iblk m c 7 t) (ix3 a b k) = _
  unfold out0_10 k0_pay25 k0_pay26
  rw [View.canon_unit_zero hz3, e22, b1, b2, b3, b4, b5, b6, b7]
  exact qcode (query (whole m c)) a b k

theorem cover10 (i : S2x4096x1024.Idx) : ∃ t : Fin cfg0.N, (cfg0.win 10).flush t = true ∧ i ∈ ((cfg0.win 10).blk t).view.set := by
  have hN : cfg0.N = 1 := N_0
  obtain ⟨t, -⟩ : ∃ t : Fin cfg0.N, t.val = 0 := ⟨⟨0, by omega⟩, rfl⟩
  refine ⟨t, flush0_10 _, ?_⟩
  show i ∈ ((View.whole main_v5_2).slice (win0_10.rect t)).set
  rw [View.set_slice_whole, Rect.mem_set_unit]
  intro d
  show win0_10.index t d * _ ≤ (i d : Nat) ∧ (i d : Nat) < win0_10.index t d * _ + _
  rw [idx10 t d, Nat.zero_mul, Nat.zero_add]
  exact ⟨Nat.zero_le _, (i d).isLt⟩

theorem flushed11 (c : Dev nD) (t : Fin cfg0.N) :
    (dats m 0 c).flushed 11 t = ((cfg0.win 11).blk t).view.read (Elt Ideal) (G3 m c) := by
  have hf : (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t)) := by
    show (cfg0.win 11).cut (grid0.coords t) ((dats m 0 c).after 11 t) = _
    rw [after0_11]
  rw [hf]
  have hz' : (fun a => win0_11.index t a * main_v5_3.ty.shape.size a) = fun _ => 0 := funext fun a => by rw [idx11 t, Nat.zero_mul]
  refine Eq.trans ?_ (Memref.read_access_unit_zero (Elt Ideal) main_v5_3 hz' (fun a => by rw [congrFun hz' a]; simp) (G3 m c)).symm
  funext j
  obtain ⟨a, b, k, rfl⟩ : ∃ (a : Fin 2) (b : Fin 128) (k : Fin 8), j = ix3 a b k := ⟨j 0, j 1, j 2, eq_ix3 j⟩
  show out0_11 (iblk m c 0 t) (iblk m c 1 t) (iblk m c 2 t) (iblk m c 3 t) (iblk m c 4 t) (iblk m c 5 t) (iblk m c 6 t) (iblk m c 7 t) (ix3 a b k) = _
  unfold out0_11 k0_pay25 k0_pay26
  rw [View.canon_unit_zero hz3, e22, b1, b2, b3, b4, b5, b6, b7]
  exact qscale (query (whole m c)) a b k

theorem cover11 (i : S2x128x8.Idx) : ∃ t : Fin cfg0.N, (cfg0.win 11).flush t = true ∧ i ∈ ((cfg0.win 11).blk t).view.set := by
  have hN : cfg0.N = 1 := N_0
  obtain ⟨t, -⟩ : ∃ t : Fin cfg0.N, t.val = 0 := ⟨⟨0, by omega⟩, rfl⟩
  refine ⟨t, flush0_11 _, ?_⟩
  show i ∈ ((View.whole main_v5_3).slice (win0_11.rect t)).set
  rw [View.set_slice_whole, Rect.mem_set_unit]
  intro d
  show win0_11.index t d * _ ≤ (i d : Nat) ∧ (i d : Nat) < win0_11.index t d * _ + _
  rw [idx11 t d, Nat.zero_mul, Nat.zero_add]
  exact ⟨Nat.zero_le _, (i d).isLt⟩

theorem flushed12 (c : Dev nD) (t : Fin cfg0.N) :
    (dats m 0 c).flushed 12 t = ((cfg0.win 12).blk t).view.read (Elt Ideal) (G4 m c) := by
  have hf : (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t)) := by
    show (cfg0.win 12).cut (grid0.coords t) ((dats m 0 c).after 12 t) = _
    rw [after0_12]
  rw [hf]
  have hz' : (fun a => win0_12.index t a * main_v5_4.ty.shape.size a) = fun _ => 0 := funext fun a => by rw [idx12 t, Nat.zero_mul]
  refine Eq.trans ?_ (Memref.read_access_unit_zero (Elt Ideal) main_v5_4 hz' (fun a => by rw [congrFun hz' a]; simp) (G4 m c)).symm
  funext j
  obtain ⟨a, b, k, l, rfl⟩ : ∃ (a : Fin 2) (b : Fin 32) (k : Fin 32) (l : Fin 128), j = ix4 a b k l := ⟨j 0, j 1, j 2, j 3, eq_ix4 j⟩
  show out0_12 (iblk m c 0 t) (iblk m c 1 t) (iblk m c 2 t) (iblk m c 3 t) (iblk m c 4 t) (iblk m c 5 t) (iblk m c 6 t) (iblk m c 7 t) (ix4 a b k l) = _
  unfold out0_12 k0_pay25 k0_pay26
  rw [View.canon_unit_zero hz4, e22, b1, b2, b3, b4, b5, b6, b7]
  exact qrow (query (whole m c)) a b k l

theorem cover12 (i : S2x32x32x128.Idx) : ∃ t : Fin cfg0.N, (cfg0.win 12).flush t = true ∧ i ∈ ((cfg0.win 12).blk t).view.set := by
  have hN : cfg0.N = 1 := N_0
  obtain ⟨t, -⟩ : ∃ t : Fin cfg0.N, t.val = 0 := ⟨⟨0, by omega⟩, rfl⟩
  refine ⟨t, flush0_12 _, ?_⟩
  show i ∈ ((View.whole main_v5_4).slice (win0_12.rect t)).set
  rw [View.set_slice_whole, Rect.mem_set_unit]
  intro d
  show win0_12.index t d * _ ≤ (i d : Nat) ∧ (i d : Nat) < win0_12.index t d * _ + _
  rw [idx12 t d, Nat.zero_mul, Nat.zero_add]
  exact ⟨Nat.zero_le _, (i d).isLt⟩

theorem flushed13 (c : Dev nD) (t : Fin cfg0.N) :
    (dats m 0 c).flushed 13 t = ((cfg0.win 13).blk t).view.read (Elt Ideal) (G5 m c) := by
  have hf : (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t)) := by
    show (cfg0.win 13).cut (grid0.coords t) ((dats m 0 c).after 13 t) = _
    rw [after0_13]
  rw [hf]
  have hz' : (fun a => win0_13.index t a * main_v5_5.ty.shape.size a) = fun _ => 0 := funext fun a => by rw [idx13 t, Nat.zero_mul]
  refine Eq.trans ?_ (Memref.read_access_unit_zero (Elt Ideal) main_v5_5 hz' (fun a => by rw [congrFun hz' a]; simp) (G5 m c)).symm
  funext j
  obtain ⟨a, b, k, l, rfl⟩ : ∃ (a : Fin 2) (b : Fin 32) (k : Fin 8) (l : Fin 128), j = ix4 a b k l := ⟨j 0, j 1, j 2, j 3, eq_ix4 j⟩
  show out0_13 (iblk m c 0 t) (iblk m c 1 t) (iblk m c 2 t) (iblk m c 3 t) (iblk m c 4 t) (iblk m c 5 t) (iblk m c 6 t) (iblk m c 7 t) (ix4 a b k l) = _
  unfold out0_13 k0_pay26
  rw [View.canon_unit_zero hz4, e22, b1, b2, b3, b4, b5, b6, b7]
  exact mean (query (whole m c)) a b k l

theorem cover13 (i : S2x32x8x128.Idx) : ∃ t : Fin cfg0.N, (cfg0.win 13).flush t = true ∧ i ∈ ((cfg0.win 13).blk t).view.set := by
  have hN : cfg0.N = 1 := N_0
  obtain ⟨t, -⟩ : ∃ t : Fin cfg0.N, t.val = 0 := ⟨⟨0, by omega⟩, rfl⟩
  refine ⟨t, flush0_13 _, ?_⟩
  show i ∈ ((View.whole main_v5_5).slice (win0_13.rect t)).set
  rw [View.set_slice_whole, Rect.mem_set_unit]
  intro d
  show win0_13.index t d * _ ≤ (i d : Nat) ∧ (i d : Nat) < win0_13.index t d * _ + _
  rw [idx13 t d, Nat.zero_mul, Nat.zero_add]
  exact ⟨Nat.zero_le _, (i d).isLt⟩

theorem flushed14 (c : Dev nD) (t : Fin cfg0.N) :
    (dats m 0 c).flushed 14 t = ((cfg0.win 14).blk t).view.read (Elt Ideal) (G6 m c) := by
  have hf : (dats m 0 c).flushed 14 t = (cfg0.win 14).cut (grid0.coords t) (out0_14 (iblk m c 0 t) (iblk m c 1 t) (iblk m c 2 t) (iblk m c 3 t) (iblk m c 4 t) (iblk m c 5 t) (iblk m c 6 t) (iblk m c 7 t)) := by
    show (cfg0.win 14).cut (grid0.coords t) ((dats m 0 c).after 14 t) = _
    rw [after0_14]
  rw [hf]
  have hz' : (fun a => win0_14.index t a * main_v5_6.ty.shape.size a) = fun _ => 0 := funext fun a => by rw [idx14 t, Nat.zero_mul]
  refine Eq.trans ?_ (Memref.read_access_unit_zero (Elt Ideal) main_v5_6 hz' (fun a => by rw [congrFun hz' a]; simp) (G6 m c)).symm
  funext j
  obtain ⟨a, b, k, rfl⟩ : ∃ (a : Fin 2) (b : Fin 4096) (k : Fin 128), j = ix3 a b k := ⟨j 0, j 1, j 2, eq_ix3 j⟩
  show out0_14 (iblk m c 0 t) (iblk m c 1 t) (iblk m c 2 t) (iblk m c 3 t) (iblk m c 4 t) (iblk m c 5 t) (iblk m c 6 t) (iblk m c 7 t) (ix3 a b k) = _
  unfold out0_14
  rw [View.canon_unit_zero hz3, e23, b1, b2, b3, b4, b5, b6, b7]
  exact key (whole m c) a b k

theorem cover14 (i : S2x4096x128.Idx) : ∃ t : Fin cfg0.N, (cfg0.win 14).flush t = true ∧ i ∈ ((cfg0.win 14).blk t).view.set := by
  have hN : cfg0.N = 1 := N_0
  obtain ⟨t, -⟩ : ∃ t : Fin cfg0.N, t.val = 0 := ⟨⟨0, by omega⟩, rfl⟩
  refine ⟨t, flush0_14 _, ?_⟩
  show i ∈ ((View.whole main_v5_6).slice (win0_14.rect t)).set
  rw [View.set_slice_whole, Rect.mem_set_unit]
  intro d
  show win0_14.index t d * _ ≤ (i d : Nat) ∧ (i d : Nat) < win0_14.index t d * _ + _
  rw [idx14 t d, Nat.zero_mul, Nat.zero_add]
  exact ⟨Nat.zero_le _, (i d).isLt⟩

theorem flushed15 (c : Dev nD) (t : Fin cfg0.N) :
    (dats m 0 c).flushed 15 t = ((cfg0.win 15).blk t).view.read (Elt Ideal) (G7 m c) := by
  have hf : (dats m 0 c).flushed 15 t = (cfg0.win 15).cut (grid0.coords t) (out0_15 (iblk m c 0 t) (iblk m c 1 t) (iblk m c 2 t) (iblk m c 3 t) (iblk m c 4 t) (iblk m c 5 t) (iblk m c 6 t) (iblk m c 7 t)) := by
    show (cfg0.win 15).cut (grid0.coords t) ((dats m 0 c).after 15 t) = _
    rw [after0_15]
  rw [hf]
  have hz' : (fun a => win0_15.index t a * main_v5_7.ty.shape.size a) = fun _ => 0 := funext fun a => by rw [idx15 t, Nat.zero_mul]
  refine Eq.trans ?_ (Memref.read_access_unit_zero (Elt Ideal) main_v5_7 hz' (fun a => by rw [congrFun hz' a]; simp) (G7 m c)).symm
  funext j
  obtain ⟨a, b, k, rfl⟩ : ∃ (a : Fin 2) (b : Fin 4096) (k : Fin 128), j = ix3 a b k := ⟨j 0, j 1, j 2, eq_ix3 j⟩
  show out0_15 (iblk m c 0 t) (iblk m c 1 t) (iblk m c 2 t) (iblk m c 3 t) (iblk m c 4 t) (iblk m c 5 t) (iblk m c 6 t) (iblk m c 7 t) (ix3 a b k) = _
  unfold out0_15
  rw [View.canon_unit_zero hz3, e24, b1, b4, b5, b6, b7]
  exact val (whole m c) a b k

theorem cover15 (i : S2x4096x128.Idx) : ∃ t : Fin cfg0.N, (cfg0.win 15).flush t = true ∧ i ∈ ((cfg0.win 15).blk t).view.set := by
  have hN : cfg0.N = 1 := N_0
  obtain ⟨t, -⟩ : ∃ t : Fin cfg0.N, t.val = 0 := ⟨⟨0, by omega⟩, rfl⟩
  refine ⟨t, flush0_15 _, ?_⟩
  show i ∈ ((View.whole main_v5_7).slice (win0_15.rect t)).set
  rw [View.set_slice_whole, Rect.mem_set_unit]
  intro d
  show win0_15.index t d * _ ≤ (i d : Nat) ∧ (i d : Nat) < win0_15.index t d * _ + _
  rw [idx15 t d, Nat.zero_mul, Nat.zero_add]
  exact ⟨Nat.zero_le _, (i d).isLt⟩

theorem flushed16 (c : Dev nD) (t : Fin cfg0.N) :
    (dats m 0 c).flushed 16 t = ((cfg0.win 16).blk t).view.read (Elt Ideal) (G8 m c) := by
  have hf : (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t)) := by
    show (cfg0.win 16).cut (grid0.coords t) ((dats m 0 c).after 16 t) = _
    rw [after0_16]
  rw [hf]
  have hz' : (fun a => win0_16.index t a * main_v5_8.ty.shape.size a) = fun _ => 0 := funext fun a => by rw [idx16 t, Nat.zero_mul]
  refine Eq.trans ?_ (Memref.read_access_unit_zero (Elt Ideal) main_v5_8 hz' (fun a => by rw [congrFun hz' a]; simp) (G8 m c)).symm
  funext j
  obtain ⟨a, b, k, rfl⟩ : ∃ (a : Fin 2) (b : Fin 1) (k : Fin 128), j = ix3 a b k := ⟨j 0, j 1, j 2, eq_ix3 j⟩
  obtain rfl : b = 0 := Subsingleton.elim _ _
  show out0_16 (iblk m c 0 t) (iblk m c 1 t) (iblk m c 2 t) (iblk m c 3 t) (iblk m c 4 t) (iblk m c 5 t) (iblk m c 6 t) (iblk m c 7 t) (ix3 a 0 k) = _
  unfold out0_16
  rw [View.canon_unit_zero hz3, e23, ld0, b0, b1, b2, b3, b4, b5, b6, b7]
  exact meanRow (whole m c) (kAt (ARGS m c)) _ (key (whole m c)) a k

theorem cover16 (i : S2x1x128.Idx) : ∃ t : Fin cfg0.N, (cfg0.win 16).flush t = true ∧ i ∈ ((cfg0.win 16).blk t).view.set := by
  have hN : cfg0.N = 1 := N_0
  obtain ⟨t, -⟩ : ∃ t : Fin cfg0.N, t.val = 0 := ⟨⟨0, by omega⟩, rfl⟩
  refine ⟨t, flush0_16 _, ?_⟩
  show i ∈ ((View.whole main_v5_8).slice (win0_16.rect t)).set
  rw [View.set_slice_whole, Rect.mem_set_unit]
  intro d
  show win0_16.index t d * _ ≤ (i d : Nat) ∧ (i d : Nat) < win0_16.index t d * _ + _
  rw [idx16 t d, Nat.zero_mul, Nat.zero_add]
  exact ⟨Nat.zero_le _, (i d).isLt⟩

theorem flushed17 (c : Dev nD) (t : Fin cfg0.N) :
    (dats m 0 c).flushed 17 t = ((cfg0.win 17).blk t).view.read (Elt Ideal) (G9 m c) := by
  have hf : (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t)) := by
    show (cfg0.win 17).cut (grid0.coords t) ((dats m 0 c).after 17 t) = _
    rw [after0_17]
  rw [hf]
  have hz' : (fun a => win0_17.index t a * main_v5_9.ty.shape.size a) = fun _ => 0 := funext fun a => by rw [idx17 t, Nat.zero_mul]
  refine Eq.trans ?_ (Memref.read_access_unit_zero (Elt Ideal) main_v5_9 hz' (fun a => by rw [congrFun hz' a]; simp) (G9 m c)).symm
  funext j
  obtain ⟨a, b, k, rfl⟩ : ∃ (a : Fin 2) (b : Fin 1) (k : Fin 128), j = ix3 a b k := ⟨j 0, j 1, j 2, eq_ix3 j⟩
  obtain rfl : b = 0 := Subsingleton.elim _ _
  show out0_17 (iblk m c 0 t) (iblk m c 1 t) (iblk m c 2 t) (iblk m c 3 t) (iblk m c 4 t) (iblk m c 5 t) (iblk m c 6 t) (iblk m c 7 t) (ix3 a 0 k) = _
  unfold out0_17
  rw [View.canon_unit_zero hz3, e24, ld0, b0, b1, b4, b5, b6, b7]
  exact meanRow (whole m c) (vAt (ARGS m c)) _ (val (whole m c)) a k

theorem cover17 (i : S2x1x128.Idx) : ∃ t : Fin cfg0.N, (cfg0.win 17).flush t = true ∧ i ∈ ((cfg0.win 17).blk t).view.set := by
  have hN : cfg0.N = 1 := N_0
  obtain ⟨t, -⟩ : ∃ t : Fin cfg0.N, t.val = 0 := ⟨⟨0, by omega⟩, rfl⟩
  refine ⟨t, flush0_17 _, ?_⟩
  show i ∈ ((View.whole main_v5_9).slice (win0_17.rect t)).set
  rw [View.set_slice_whole, Rect.mem_set_unit]
  intro d
  show win0_17.index t d * _ ≤ (i d : Nat) ∧ (i d : Nat) < win0_17.index t d * _ + _
  rw [idx17 t d, Nat.zero_mul, Nat.zero_add]
  exact ⟨Nat.zero_le _, (i d).isLt⟩

/-! The arguments after the run. -/

variable (r : PUnit × MemSt nD τ sig (Elt Ideal)) (h : Pipeline.FramePost cfgs (dats m) 0 (V m) r) (c : Dev nD)
include h

theorem kept0 : r.2.mem ((c : Thread nD τ).loc main_arg0) = m ((c : Thread nD τ).loc main_arg0) :=
  ((h c).2 main_arg0 (Pipeline.mem_restRefs_of main_arg0 (by decide) (by decide))).trans (V_main_arg0 m c)
theorem kept1 : r.2.mem ((c : Thread nD τ).loc main_arg1) = m ((c : Thread nD τ).loc main_arg1) :=
  ((h c).2 main_arg1 (Pipeline.mem_restRefs_of main_arg1 (by decide) (by decide))).trans (V_main_arg1 m c)
theorem kept2 : r.2.mem ((c : Thread nD τ).loc main_arg2) = m ((c : Thread nD τ).loc main_arg2) :=
  ((h c).1 2).trans (((dats m 0 c).arrAt_in 2 rfl _).trans ((A_eq m c 2).trans (V_main_arg2 m c)))
theorem kept3 : r.2.mem ((c : Thread nD τ).loc main_arg3) = m ((c : Thread nD τ).loc main_arg3) :=
  ((h c).1 3).trans (((dats m 0 c).arrAt_in 3 rfl _).trans ((A_eq m c 3).trans (V_main_arg3 m c)))
theorem kept4 : r.2.mem ((c : Thread nD τ).loc main_arg4) = m ((c : Thread nD τ).loc main_arg4) :=
  ((h c).2 main_arg4 (Pipeline.mem_restRefs_of main_arg4 (by decide) (by decide))).trans (V_main_arg4 m c)
theorem kept5 : r.2.mem ((c : Thread nD τ).loc main_arg5) = m ((c : Thread nD τ).loc main_arg5) :=
  ((h c).1 5).trans (((dats m 0 c).arrAt_in 5 rfl _).trans ((A_eq m c 5).trans (V_main_arg5 m c)))
theorem kept6 : r.2.mem ((c : Thread nD τ).loc main_arg6) = m ((c : Thread nD τ).loc main_arg6) :=
  ((h c).2 main_arg6 (Pipeline.mem_restRefs_of main_arg6 (by decide) (by decide))).trans (V_main_arg6 m c)
theorem kept7 : r.2.mem ((c : Thread nD τ).loc main_arg7) = m ((c : Thread nD τ).loc main_arg7) :=
  ((h c).2 main_arg7 (Pipeline.mem_restRefs_of main_arg7 (by decide) (by decide))).trans (V_main_arg7 m c)

omit h

/-- The run, read: the result arrays, the arguments unchanged. -/
theorem value : θ_run defs (onTc (τ := τ) (main (F := Ideal))) ⟨m, fun _ => 0, ρ⟩ fun r => ∀ c : Dev nD,
      r.2.mem ((c : Thread nD τ).loc main_v5_0) = G0 m c
      ∧ r.2.mem ((c : Thread nD τ).loc main_v5_1) = G1 m c
      ∧ r.2.mem ((c : Thread nD τ).loc main_v5_2) = G2 m c
      ∧ r.2.mem ((c : Thread nD τ).loc main_v5_3) = G3 m c
      ∧ r.2.mem ((c : Thread nD τ).loc main_v5_4) = G4 m c
      ∧ r.2.mem ((c : Thread nD τ).loc main_v5_5) = G5 m c
      ∧ r.2.mem ((c : Thread nD τ).loc main_v5_6) = G6 m c
      ∧ r.2.mem ((c : Thread nD τ).loc main_v5_7) = G7 m c
      ∧ r.2.mem ((c : Thread nD τ).loc main_v5_8) = G8 m c
      ∧ r.2.mem ((c : Thread nD τ).loc main_v5_9) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 8).trans ((dats m 0 c).arrAt_eq_of_cover 8 (G0 m c) (fun t _ => flushed8 m c t) cover8),
    ((h c).1 9).trans ((dats m 0 c).arrAt_eq_of_cover 9 (G1 m c) (fun t _ => flushed9 m c t) cover9),
    ((h c).1 10).trans ((dats m 0 c).arrAt_eq_of_cover 10 (G2 m c) (fun t _ => flushed10 m c t) cover10),
    ((h c).1 11).trans ((dats m 0 c).arrAt_eq_of_cover 11 (G3 m c) (fun t _ => flushed11 m c t) cover11),
    ((h c).1 12).trans ((dats m 0 c).arrAt_eq_of_cover 12 (G4 m c) (fun t _ => flushed12 m c t) cover12),
    ((h c).1 13).trans ((dats m 0 c).arrAt_eq_of_cover 13 (G5 m c) (fun t _ => flushed13 m c t) cover13),
    ((h c).1 14).trans ((dats m 0 c).arrAt_eq_of_cover 14 (G6 m c) (fun t _ => flushed14 m c t) cover14),
    ((h c).1 15).trans ((dats m 0 c).arrAt_eq_of_cover 15 (G7 m c) (fun t _ => flushed15 m c t) cover15),
    ((h c).1 16).trans ((dats m 0 c).arrAt_eq_of_cover 16 (G8 m c) (fun t _ => flushed16 m c t) cover16),
    ((h c).1 17).trans ((dats m 0 c).arrAt_eq_of_cover 17 (G9 m c) (fun t _ => flushed17 m c t) cover17),
    kept0 m r h c, kept1 m r h c, kept2 m r h c, kept3 m r h c, kept4 m r h c, kept5 m r h c, kept6 m r h c, kept7 m r h c⟩) (run_main m ρ)

end Cert.Proof.QkvReference

/-! ## The claim -/

namespace Cert.Proof.QkvClaims

open Idealize.ShloMosaic Idealize.ShloMosaic.TcCoe Idealize.SL.Sem

/-- From memories that agree on the arguments, the kernel's result arrays and the reference's are equal, element by
    element: the codes of the queries as bytes, the others as extended reals. -/
theorem algebraic : Cert.algebraic_QkvIdeal_QkvRefIdeal := by
  intro m ρ m' ρ' _ hag
  have e (c) : Cert.Proof.QkvReference.ARGS m' c = Cert.Proof.QkvKernel.ARGS m c := by
    obtain ⟨h0, h1, h2, h3, h4, h5, h6, h7⟩ := hag c
    unfold Cert.Proof.QkvReference.ARGS Cert.Proof.QkvKernel.ARGS
    rw [h0, h1, h2, h3, h4, h5, h6, h7]
  exact ⟨fun c => Cert.Proof.QkvKernel.G0 m c, fun c => Cert.Proof.QkvKernel.G1 m c, fun c => Cert.Proof.QkvKernel.G2 m c, fun c => Cert.Proof.QkvKernel.G3 m c, fun c => Cert.Proof.QkvKernel.G4 m c, fun c => Cert.Proof.QkvKernel.G5 m c, fun c => Cert.Proof.QkvKernel.G6 m c, fun c => Cert.Proof.QkvKernel.G7 m c, fun c => Cert.Proof.QkvKernel.G8 m c, fun c => Cert.Proof.QkvKernel.G9 m c, Cert.Proof.QkvKernel.value m ρ,
    (θ_run Cert.QkvRefIdeal.defs _ _).mono (fun _ h c => ⟨(h c).1.trans (congrArg Cert.Proof.QkvSpec.codes (e c)),
      (h c).2.1.trans (congrArg Cert.Proof.QkvSpec.scales (e c)),
      (h c).2.2.1.trans (congrArg Cert.Proof.QkvSpec.qcodes (e c)),
      (h c).2.2.2.1.trans (congrArg Cert.Proof.QkvSpec.qscales (e c)),
      (h c).2.2.2.2.1.trans (congrArg Cert.Proof.QkvSpec.qrows (e c)),
      (h c).2.2.2.2.2.1.trans (congrArg Cert.Proof.QkvSpec.qmeans (e c)),
      (h c).2.2.2.2.2.2.1.trans (congrArg Cert.Proof.QkvSpec.keys (e c)),
      (h c).2.2.2.2.2.2.2.1.trans (congrArg Cert.Proof.QkvSpec.values (e c)),
      (h c).2.2.2.2.2.2.2.2.1.trans (congrArg Cert.Proof.QkvSpec.kmeans (e c)),
      (h c).2.2.2.2.2.2.2.2.2.1.trans (congrArg Cert.Proof.QkvSpec.vmeans (e c)), (h c).2.2.2.2.2.2.2.2.2.2⟩)
      (Cert.Proof.QkvReference.value m' ρ')⟩

end Cert.Proof.QkvClaims

end
-- ==== Proof.AttnKeep.lean ====
/-
  Hand-written, untrusted. A RESOURCE KEPT BY A PROGRAM. A program of loads and stores keeps any resource `R` that lends
  each buffer loaded from (`Acc`) and, whatever is written into it, each buffer stored to (`Acw`): the rules by which
  this is read off a program (`keep_…`), and that the attention kernel of `AttnIdeal`, behind its first part, keeps such
  a resource (`keep_rest`).
-/
module

public import proofs.«01_k».proof.Proof.Gen.AttnIdeal.Frame
public import proofs.«01_k».proof.Proof.Gen.AttnIdeal.Skeleton

@[expose] public section

set_option maxRecDepth 16384

noncomputable section

namespace Cert.Proof.AttnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen

variable {F : FTy → Type} [FloatOps F]

local notation "𝕄" => MT nD τ sig Unit (Elt F) ℕ (UR sig nD τ) ℕ

/-- `R` lends `m`'s buffer and takes it back unchanged. -/
def Acc (c : Dev nD) {sp : CoreSpace} {sh : Shape} {e : EltTy} (m : Memref sig .tc sp sh e) (R : sProp 𝕄) : Prop :=
  R ⊢ iprop(∃ f : Buf (Elt F) (m.view.loc (c : Thread nD τ)), (m.view.loc (c : Thread nD τ) ↦[m.view.set]{fullShare} f)
    ∗ ((m.view.loc (c : Thread nD τ) ↦[m.view.set]{fullShare} f) -∗ R))

/-- `R` lends `m`'s buffer and takes it back at any contents. -/
def Acw (c : Dev nD) {sp : CoreSpace} {sh : Shape} {e : EltTy} (m : Memref sig .tc sp sh e) (R : sProp 𝕄) : Prop :=
  R ⊢ iprop(∃ f : Buf (Elt F) (m.view.loc (c : Thread nD τ)), (m.view.loc (c : Thread nD τ) ↦[m.view.set]{fullShare} f)
    ∗ (∀ g : Buf (Elt F) (m.view.loc (c : Thread nD τ)), (m.view.loc (c : Thread nD τ) ↦[m.view.set]{fullShare} g) -∗ R))

/-- The program keeps `R`. -/
@[irreducible] def Keep (c : Dev nD) (R : sProp 𝕄) {α : Type} (p : Prog (TpuEff nD τ sig (Elt F) Λ₀ .tc) α) : Prop :=
  R ⊢ wp frame (wpE (defs₀ (F := F)) Variants.none (c : Thread nD τ) none) Set.univ p (fun _ => R)

variable {c : Dev nD} {R : sProp (MT nD τ sig Unit (Elt F) ℕ (UR sig nD τ) ℕ)}

theorem Acw.acc {sp : CoreSpace} {sh : Shape} {e : EltTy} {m : Memref sig .tc sp sh e} (h : Acw c m R) : Acc c m R := by
  unfold Acc
  refine h.trans ?_
  iintro ⟨%f, H, Hw⟩
  iexists f
  isplitl [H]; · iexact H
  iintro H
  iapply Hw
  iexact H

theorem Keep.wp {α : Type} {p : Prog (TpuEff nD τ sig (Elt F) Λ₀ .tc) α} (h : Keep c R p) :
    R ⊢ wp frame (wpE (defs₀ (F := F)) Variants.none (c : Thread nD τ) none) Set.univ p (fun _ => R) := by
  unfold Keep at h
  exact h

theorem keep_pure {α : Type} (a : α) : Keep (F := F) c R (pure a : Prog (TpuEff nD τ sig (Elt F) Λ₀ .tc) α) := by
  unfold Keep
  rw [wp_pure]
  exact fupd_intro

theorem keep_bind {α β : Type} {p : Prog (TpuEff nD τ sig (Elt F) Λ₀ .tc) α} {k : α → Prog (TpuEff nD τ sig (Elt F) Λ₀ .tc) β}
    (hp : Keep c R p) (hk : ∀ a, Keep c R (k a)) : Keep c R (p >>= k) := by
  unfold Keep
  rw [wp_bind]
  exact hp.wp.trans (wp_mono _ _ _ fun a => (hk a).wp)

theorem keep_load {sp : CoreSpace} {sh : Shape} {e : EltTy} {m : Memref sig .tc sp sh e} {r : LoadRect sh} {hl : m.view.LoadsAt r}
    (h : Acc c m R) : Keep c R (Prog.lift (.load m r hl) : Prog (TpuEff nD τ sig (Elt F) Λ₀ .tc) _) := by
  unfold Keep
  refine h.trans ?_
  iintro ⟨%f, H, Hw⟩
  iapply (wp_load Variants.none (c : Thread nD τ) none Set.univ (m := m) (r := r) (hl := hl) (k := .ret) (S := m.view.set) (q := fullShare) (f := f)
    (m.view.setOn_subset_set _)) $$ [H]
  · iexact H
  iintro H
  rw [wp_ret]
  imodintro
  iapply Hw
  iexact H

theorem keep_store {sp : CoreSpace} {sh : Shape} {e : EltTy} {m : Memref sig .tc sp sh e} {r : Rect sh} {w : r.shape.Idx → Elt F e}
    {Mk : Finset r.shape.Idx} {hx : (m.access r).Stores Mk} {hm : Mk = Finset.univ ∨ ∀ a, r.stride a = 1}
    (h : Acw c m R) : Keep c R (Prog.lift (.store m r w Mk hx hm) : Prog (TpuEff nD τ sig (Elt F) Λ₀ .tc) _) := by
  unfold Keep
  refine h.trans ?_
  iintro ⟨%f, H, Hw⟩
  iapply (wp_store Variants.none (c : Thread nD τ) none Set.univ (m := m) (r := r) (w := w) (Mk := Mk) (hx := hx) (hm := hm) (k := .ret) (S := m.view.set) (f := f)
    (((m.access r).setOn_subset_set Mk).trans (m.view.set_slice_subset r))) $$ [H]
  · iexact H
  iintro H
  rw [wp_ret]
  imodintro
  iapply Hw
  iexact H

theorem keep_for {σ : Type} {l : Scf.Loop 32} {hok : l.OK} {init : σ} {body : Fin l.trips → σ → Prog (TpuEff nD τ sig (Elt F) Λ₀ .tc) σ}
    (h : ∀ k acc, Keep c R (body k acc)) : Keep c R (Scf.Loop.for l hok init body) := by
  unfold Keep
  have := Scf.wp_for frame (wpE (defs₀ (F := F)) Variants.none (c : Thread nD τ) none) Set.univ l.lb l.ub l.st hok init body (fun _ _ => R)
    (fun k acc => (h k acc).wp) (Q := fun _ => R)
  refine BIBase.Entails.trans ?_ this
  iintro H
  isplitl [H]; · iexact H
  iintro %acc H
  iexact H

theorem keep_dite {α : Type} {P : Prop} [D : Decidable P] {p : P → Prog (TpuEff nD τ sig (Elt F) Λ₀ .tc) α} {q : ¬ P → Prog (TpuEff nD τ sig (Elt F) Λ₀ .tc) α}
    (hp : ∀ h, Keep c R (p h)) (hq : ∀ h, Keep c R (q h)) : Keep c R (if h : P then p h else q h) := by
  by_cases h : P
  · rw [dif_pos h]; exact hp h
  · rw [dif_neg h]; exact hq h

set_option maxHeartbeats 4000000 in
/-- What follows the kernel's first part keeps any `R` that lends its buffers. -/
theorem keep_rest (i : grid0.Coords) (arg2 : Memref sig .tc .smem S2 .i32) (harg2 : arg2.IsWhole) (arg3 : Memref sig .tc .vmem S1x128x1024 .i8) (harg3 : arg3.IsWhole) (arg4 : Memref sig .tc .vmem S1x1x32x128 .f32) (harg4 : arg4.IsWhole) (arg5 : Memref sig .tc .vmem S1x256x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128x1024 .fp8e4m3) (harg10 : arg10.IsWhole) (arg11 : Memref sig .tc .vmem S2x4096 .f32) (harg11 : arg11.IsWhole) (arg12 : Memref sig .tc .vmem S1x4096x128 .i8) (harg12 : arg12.IsWhole) (arg13 : Memref sig .tc .vmem S1x64x1 .f32) (harg13 : arg13.IsWhole) (arg14 : Memref sig .tc .vmem S1x4096x128 .fp8e4m3) (harg14 : arg14.IsWhole) (arg15 : Memref sig .tc .vmem S1x1x128 .f32) (harg15 : arg15.IsWhole) (arg16 : Memref sig .tc .vmem S4096x128 .bf16) (harg16 : arg16.IsWhole) (arg17 : Memref sig .tc .vmem S32x128 .f32) (harg17 : arg17.IsWhole) (arg18 : Memref sig .tc .vmem S256x4096 .f32) (harg18 : arg18.IsWhole) (arg19 : Memref sig .tc .vmem S32x32x128 .f32) (harg19 : arg19.IsWhole) (arg20 : Memref sig .tc .vmem S32x1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x128 .f32) (harg23 : arg23.IsWhole)
    (h2 : Acc c arg2 R) (h3 : Acc c arg3 R) (h4 : Acc c arg4 R) (h5 : Acc c arg5 R) (h6 : Acc c arg6 R) (h7 : Acc c arg7 R) (h8 : Acc c arg8 R) (h9 : Acc c arg9 R) (h10 : Acw c arg10 R) (h11 : Acw c arg11 R) (h12 : Acc c arg12 R) (h13 : Acc c arg13 R) (h14 : Acc c arg14 R) (h15 : Acc c arg15 R) (h16 : Acw c arg16 R) (h17 : Acw c arg17 R) (h18 : Acw c arg18 R) (h19 : Acw c arg19 R) (h20 : Acw c arg20 R) (h21 : Acw c arg21 R) (h22 : Acw c arg22 R) (h23 : Acw c arg23 R)
    (P : sProp 𝕄)
    (hP : P ⊢ wp frame (wpE (defs₀ (F := F)) Variants.none (c : Thread nD τ) none) Set.univ (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) (fun _ => R)) :
    P ⊢ wp frame (wpE (defs₀ (F := F)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) (fun _ => R) := by
  rw [cc0_attn_eq_skeleton]; unfold cc0_attn_skel
  rw [wp_bind]
  refine hP.trans (wp_mono _ _ _ fun a => ?_)
  obtain ⟨arg0, arg1, v1, k0_hw1, v6, v27⟩ := a
  refine Keep.wp ?_
  dsimp only
  repeat' first
    | intro _
    | exact keep_pure _
    | (refine keep_load ?_; first | exact h2 | exact h3 | exact h4 | exact h5 | exact h6 | exact h7 | exact h8 | exact h9 | exact h10.acc | exact h11.acc | exact h12 | exact h13 | exact h14 | exact h15 | exact h16.acc | exact h17.acc | exact h18.acc | exact h19.acc | exact h20.acc | exact h21.acc | exact h22.acc | exact h23.acc)
    | (refine keep_store ?_; first | exact h10 | exact h11 | exact h16 | exact h17 | exact h18 | exact h19 | exact h20 | exact h21 | exact h22 | exact h23)
    | refine keep_for ?_
    | refine keep_dite ?_ ?_
    | refine keep_bind ?_ ?_
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | unfold k0_t1_body
    | unfold k0_t2_body
    | unfold k0_t3_body
    | unfold k0_t4_body

end Cert.Proof.AttnIdeal

end
-- ==== Proof.AttnIdealBody.lean ====
/-
  Hand-written, untrusted. THE ATTENTION KERNEL'S BODY of `AttnIdeal`: its first part (`part_A`: a batch's first point,
  which writes the codes and scales of keys and values; `part_B`: any other point), and the whole body (`body_A`,
  `body_B`): what it leaves in the codes' and scales' buffers, whatever it leaves elsewhere.
-/
module

public import proofs.«01_k».proof.Proof.AttnKeep
public import Idealize.ShloMosaic.Lib.VecWindow
public import Idealize.ShloMosaic.Lib.ValueIdx

@[expose] public section

set_option maxRecDepth 16384

noncomputable section

namespace Cert.Proof.AttnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen

variable {F : FTy → Type} [FloatOps F]

local notation "𝕄" => MT nD τ sig Unit (Elt F) ℕ (UR sig nD τ) ℕ

/-- The batch's length. -/
def lenOf (i : grid0.Coords) (x0 : Vec F S2 .i32) : Elt F .i32 :=
  x0 (ValueIdx.ix1 ⟨k0_off1 i 0, k0_off1_inb i 0⟩)

/-- The value codes of a batch. -/
def vCodes (l : Elt F .i32) (x5 : Vec F S1x4096x128 .f32) (x7 : Vec F S1x1x128 .f32) : Vec F S1x4096x128 .fp8e4m3 :=
  k0_pay36 (k0_pay13 x5 x7) (k0_pay14 x5 x7) (Scalar.ofBits .f32 0x00000000#32) (k0_pay15 (F := F) l)

/-- The value scales of a batch. -/
def vScales (l : Elt F .i32) (x5 : Vec F S1x4096x128 .f32) (x7 : Vec F S1x1x128 .f32) : Vec F S1x1x128 .f32 :=
  k0_pay35 (k0_pay14 x5 x7) (Scalar.ofBits .f32 0x00000000#32) (k0_pay15 (F := F) l)

theorem len_read {m0 : Memref sig .tc .smem S2 .i32} (i : grid0.Coords) (f0 : BufTy.Contents (Elt F) m0.view.ty) {h} :
    m0.view.readAt (Elt F) (Rect.unit (s := S2) (k0_off1 i) S1.size (k0_off1_inb i)).toLoadRect f0 (Shape.Idx.first h)
      = lenOf i (m0.view.read (Elt F) f0) :=
  congrArg (m0.view.read (Elt F) f0) (funext fun a => Fin.ext (by
    match a with
    | ⟨0, _⟩ => show k0_off1 i 0 + 1 * 0 = k0_off1 i 0; omega))

section Read

variable {m0 : Memref sig .tc .smem S2 .i32} {m5 : Memref sig .tc .vmem S1x4096x128 .f32} {m7 : Memref sig .tc .vmem S1x1x128 .f32}
  (i : grid0.Coords) (f0 : BufTy.Contents (Elt F) m0.view.ty) (f5 : BufTy.Contents (Elt F) m5.view.ty) (f7 : BufTy.Contents (Elt F) m7.view.ty)

theorem kcodes_read : k0_pay8 (m5.view.readAt (Elt F) (Rect.unit ![0, 0, 0] S1x4096x128.size inb_S1x4096x128_S1x4096x128_0_0_0).toLoadRect f5) (m7.view.readAt (Elt F) (Rect.unit ![0, 0, 0] S1x1x128.size inb_S1x1x128_S1x1x128_0_0_0).toLoadRect f7) = k0_pay8 (m5.view.read (Elt F) f5) (m7.view.read (Elt F) f7) := by
  rw [View.readAt_full, View.readAt_full]

theorem kscales_read : k0_pay6 (m5.view.readAt (Elt F) (Rect.unit ![0, 0, 0] S1x4096x128.size inb_S1x4096x128_S1x4096x128_0_0_0).toLoadRect f5) (m7.view.readAt (Elt F) (Rect.unit ![0, 0, 0] S1x1x128.size inb_S1x1x128_S1x1x128_0_0_0).toLoadRect f7) = k0_pay6 (m5.view.read (Elt F) f5) (m7.view.read (Elt F) f7) := by
  rw [View.readAt_full, View.readAt_full]

theorem vcodes_read {h} : k0_pay36 (k0_pay13 (m5.view.readAt (Elt F) (Rect.unit ![0, 0, 0] S1x4096x128.size inb_S1x4096x128_S1x4096x128_0_0_0).toLoadRect f5) (m7.view.readAt (Elt F) (Rect.unit ![0, 0, 0] S1x1x128.size inb_S1x1x128_S1x1x128_0_0_0).toLoadRect f7)) (k0_pay14 (m5.view.readAt (Elt F) (Rect.unit ![0, 0, 0] S1x4096x128.size inb_S1x4096x128_S1x4096x128_0_0_0).toLoadRect f5) (m7.view.readAt (Elt F) (Rect.unit ![0, 0, 0] S1x1x128.size inb_S1x1x128_S1x1x128_0_0_0).toLoadRect f7)) (Scalar.ofBits .f32 0x00000000#32) (k0_pay15 (F := F) (m0.view.readAt (Elt F) (Rect.unit (s := S2) (k0_off1 i) S1.size (k0_off1_inb i)).toLoadRect f0 (Shape.Idx.first h)))
      = vCodes (lenOf i (m0.view.read (Elt F) f0)) (m5.view.read (Elt F) f5) (m7.view.read (Elt F) f7) := by
  rw [View.readAt_full, View.readAt_full, len_read]; rfl

theorem vscales_read {h} : k0_pay35 (k0_pay14 (m5.view.readAt (Elt F) (Rect.unit ![0, 0, 0] S1x4096x128.size inb_S1x4096x128_S1x4096x128_0_0_0).toLoadRect f5) (m7.view.readAt (Elt F) (Rect.unit ![0, 0, 0] S1x1x128.size inb_S1x1x128_S1x1x128_0_0_0).toLoadRect f7)) (Scalar.ofBits .f32 0x00000000#32) (k0_pay15 (F := F) (m0.view.readAt (Elt F) (Rect.unit (s := S2) (k0_off1 i) S1.size (k0_off1_inb i)).toLoadRect f0 (Shape.Idx.first h)))
      = vScales (lenOf i (m0.view.read (Elt F) f0)) (m5.view.read (Elt F) f5) (m7.view.read (Elt F) f7) := by
  rw [View.readAt_full, View.readAt_full, len_read]; rfl

end Read

section Lend

variable {c : Dev nD} {sp : CoreSpace} {sh : Shape} {e : EltTy} {m : Memref sig .tc sp sh e}
  {P Q : sProp (MT nD τ sig Unit (Elt F) ℕ (UR sig nD τ) ℕ)}

theorem acc_left (h : Acc c m P) : Acc c m iprop(P ∗ Q) := by
  unfold Acc at h ⊢
  iintro ⟨HP, HQ⟩
  ihave H := h $$ HP
  icases H with ⟨%f, H, Hw⟩
  iexists f
  isplitl [H]; · iexact H
  iintro H
  isplitl [Hw H]
  · iapply Hw; iexact H
  · iexact HQ

theorem acc_right (h : Acc c m Q) : Acc c m iprop(P ∗ Q) := by
  unfold Acc at h ⊢
  iintro ⟨HP, HQ⟩
  ihave H := h $$ HQ
  icases H with ⟨%f, H, Hw⟩
  iexists f
  isplitl [H]; · iexact H
  iintro H
  isplitl [HP]; · iexact HP
  iapply Hw; iexact H

theorem acw_left (h : Acw c m P) : Acw c m iprop(P ∗ Q) := by
  unfold Acw at h ⊢
  iintro ⟨HP, HQ⟩
  ihave H := h $$ HP
  icases H with ⟨%f, H, Hw⟩
  iexists f
  isplitl [H]; · iexact H
  iintro %g H
  isplitl [Hw H]
  · iapply Hw; iexact H
  · iexact HQ

theorem acw_right (h : Acw c m Q) : Acw c m iprop(P ∗ Q) := by
  unfold Acw at h ⊢
  iintro ⟨HP, HQ⟩
  ihave H := h $$ HQ
  icases H with ⟨%f, H, Hw⟩
  iexists f
  isplitl [H]; · iexact H
  iintro %g H
  isplitl [HP]; · iexact HP
  iapply Hw; iexact H

theorem acc_owns (X : Vec F sh e) : Acc (F := F) c m (owns c.tc m fullShare X) := by
  unfold Acc owns
  iintro ⟨%f, %hf, H⟩
  iexists f
  isplitl [H]; · iexact H
  iintro H
  iexists f
  isplitr
  · ipureintro; exact hf
  · iexact H

theorem acw_any : Acw (F := F) c m iprop(∃ X : Vec F sh e, owns c.tc m fullShare X) := by
  unfold Acw owns
  iintro ⟨%X, %f, %hf, H⟩
  iexists f
  isplitl [H]; · iexact H
  iintro %g H
  iexists (m.view.read (Elt F) g)
  iexists g
  isplitr
  · ipureintro; rfl
  · iexact H

end Lend

/-- The buffers, those of the inputs and of the codes and scales at these contents. -/
def Kept (c : Dev nD) (arg2 : Memref sig .tc .smem S2 .i32) (arg3 : Memref sig .tc .vmem S1x128x1024 .i8) (arg4 : Memref sig .tc .vmem S1x1x32x128 .f32) (arg5 : Memref sig .tc .vmem S1x256x128 .f32) (arg6 : Memref sig .tc .vmem S1x4096x128 .f32) (arg7 : Memref sig .tc .vmem S1x4096x128 .f32) (arg8 : Memref sig .tc .vmem S1x1x128 .f32) (arg9 : Memref sig .tc .vmem S1x1x128 .f32) (arg10 : Memref sig .tc .vmem S1x128x1024 .fp8e4m3) (arg11 : Memref sig .tc .vmem S2x4096 .f32) (arg12 : Memref sig .tc .vmem S1x4096x128 .i8) (arg13 : Memref sig .tc .vmem S1x64x1 .f32) (arg14 : Memref sig .tc .vmem S1x4096x128 .fp8e4m3) (arg15 : Memref sig .tc .vmem S1x1x128 .f32) (arg16 : Memref sig .tc .vmem S4096x128 .bf16) (arg17 : Memref sig .tc .vmem S32x128 .f32) (arg18 : Memref sig .tc .vmem S256x4096 .f32) (arg19 : Memref sig .tc .vmem S32x32x128 .f32) (arg20 : Memref sig .tc .vmem S32x1024x128 .f32) (arg21 : Memref sig .tc .vmem S1024x128 .f32) (arg22 : Memref sig .tc .vmem S1024x128 .f32) (arg23 : Memref sig .tc .vmem S1024x128 .f32)
    (x0 : Vec F S2 .i32) (x1 : Vec F S1x128x1024 .i8) (x2 : Vec F S1x1x32x128 .f32) (x3 : Vec F S1x256x128 .f32) (x4 : Vec F S1x4096x128 .f32) (x5 : Vec F S1x4096x128 .f32) (x6 : Vec F S1x1x128 .f32) (x7 : Vec F S1x1x128 .f32) (x10 : Vec F S1x4096x128 .i8) (x11 : Vec F S1x64x1 .f32) (x12 : Vec F S1x4096x128 .fp8e4m3) (x13 : Vec F S1x1x128 .f32) : sProp 𝕄 :=
  iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ z : Vec F S1x128x1024 .fp8e4m3, owns c.tc arg10 fullShare z) ∗ (∃ z : Vec F S2x4096 .f32, owns c.tc arg11 fullShare z) ∗ owns c.tc arg12 fullShare x10 ∗ owns c.tc arg13 fullShare x11 ∗ owns c.tc arg14 fullShare x12 ∗ owns c.tc arg15 fullShare x13 ∗ (∃ z : Vec F S4096x128 .bf16, owns c.tc arg16 fullShare z) ∗ (∃ z : Vec F S32x128 .f32, owns c.tc arg17 fullShare z) ∗ (∃ z : Vec F S256x4096 .f32, owns c.tc arg18 fullShare z) ∗ (∃ z : Vec F S32x32x128 .f32, owns c.tc arg19 fullShare z) ∗ (∃ z : Vec F S32x1024x128 .f32, owns c.tc arg20 fullShare z) ∗ (∃ z : Vec F S1024x128 .f32, owns c.tc arg21 fullShare z) ∗ (∃ z : Vec F S1024x128 .f32, owns c.tc arg22 fullShare z) ∗ (∃ z : Vec F S1024x128 .f32, owns c.tc arg23 fullShare z))

variable (c : Dev nD) (i : grid0.Coords) (arg2 : Memref sig .tc .smem S2 .i32) (harg2 : arg2.IsWhole) (arg3 : Memref sig .tc .vmem S1x128x1024 .i8) (harg3 : arg3.IsWhole) (arg4 : Memref sig .tc .vmem S1x1x32x128 .f32) (harg4 : arg4.IsWhole) (arg5 : Memref sig .tc .vmem S1x256x128 .f32) (harg5 : arg5.IsWhole) (arg6 : Memref sig .tc .vmem S1x4096x128 .f32) (harg6 : arg6.IsWhole) (arg7 : Memref sig .tc .vmem S1x4096x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128x1024 .fp8e4m3) (harg10 : arg10.IsWhole) (arg11 : Memref sig .tc .vmem S2x4096 .f32) (harg11 : arg11.IsWhole) (arg12 : Memref sig .tc .vmem S1x4096x128 .i8) (harg12 : arg12.IsWhole) (arg13 : Memref sig .tc .vmem S1x64x1 .f32) (harg13 : arg13.IsWhole) (arg14 : Memref sig .tc .vmem S1x4096x128 .fp8e4m3) (harg14 : arg14.IsWhole) (arg15 : Memref sig .tc .vmem S1x1x128 .f32) (harg15 : arg15.IsWhole) (arg16 : Memref sig .tc .vmem S4096x128 .bf16) (harg16 : arg16.IsWhole) (arg17 : Memref sig .tc .vmem S32x128 .f32) (harg17 : arg17.IsWhole) (arg18 : Memref sig .tc .vmem S256x4096 .f32) (harg18 : arg18.IsWhole) (arg19 : Memref sig .tc .vmem S32x32x128 .f32) (harg19 : arg19.IsWhole) (arg20 : Memref sig .tc .vmem S32x1024x128 .f32) (harg20 : arg20.IsWhole) (arg21 : Memref sig .tc .vmem S1024x128 .f32) (harg21 : arg21.IsWhole) (arg22 : Memref sig .tc .vmem S1024x128 .f32) (harg22 : arg22.IsWhole) (arg23 : Memref sig .tc .vmem S1024x128 .f32) (harg23 : arg23.IsWhole)

set_option maxHeartbeats 1600000 in
/-- The body keeps what its first part leaves. -/
theorem body_of_part
    (x0 : Vec F S2 .i32) (x1 : Vec F S1x128x1024 .i8) (x2 : Vec F S1x1x32x128 .f32) (x3 : Vec F S1x256x128 .f32) (x4 : Vec F S1x4096x128 .f32) (x5 : Vec F S1x4096x128 .f32) (x6 : Vec F S1x1x128 .f32) (x7 : Vec F S1x1x128 .f32) (x10 : Vec F S1x4096x128 .i8) (x11 : Vec F S1x64x1 .f32) (x12 : Vec F S1x4096x128 .fp8e4m3) (x13 : Vec F S1x1x128 .f32) (P : sProp 𝕄)
    (hP : P ⊢ wp frame (wpE (defs₀ (F := F)) Variants.none (c : Thread nD τ) none) Set.univ (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) (fun _ => Kept c arg2 arg3 arg4 arg5 arg6 arg7 arg8 arg9 arg10 arg11 arg12 arg13 arg14 arg15 arg16 arg17 arg18 arg19 arg20 arg21 arg22 arg23 x0 x1 x2 x3 x4 x5 x6 x7 x10 x11 x12 x13)) :
    P ⊢ wp frame (wpE (defs₀ (F := F)) Variants.none (c : Thread nD τ) none) Set.univ (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) (fun _ => Kept c arg2 arg3 arg4 arg5 arg6 arg7 arg8 arg9 arg10 arg11 arg12 arg13 arg14 arg15 arg16 arg17 arg18 arg19 arg20 arg21 arg22 arg23 x0 x1 x2 x3 x4 x5 x6 x7 x10 x11 x12 x13) :=
  keep_rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (R := Kept c arg2 arg3 arg4 arg5 arg6 arg7 arg8 arg9 arg10 arg11 arg12 arg13 arg14 arg15 arg16 arg17 arg18 arg19 arg20 arg21 arg22 arg23 x0 x1 x2 x3 x4 x5 x6 x7 x10 x11 x12 x13)
    (acc_left (acc_owns _))
    (acc_right (acc_left (acc_owns _)))
    (acc_right (acc_right (acc_left (acc_owns _))))
    (acc_right (acc_right (acc_right (acc_left (acc_owns _)))))
    (acc_right (acc_right (acc_right (acc_right (acc_left (acc_owns _))))))
    (acc_right (acc_right (acc_right (acc_right (acc_right (acc_left (acc_owns _)))))))
    (acc_right (acc_right (acc_right (acc_right (acc_right (acc_right (acc_left (acc_owns _))))))))
    (acc_right (acc_right (acc_right (acc_right (acc_right (acc_right (acc_right (acc_left (acc_owns _)))))))))
    (acw_right (acw_right (acw_right (acw_right (acw_right (acw_right (acw_right (acw_right (acw_left acw_any)))))))))
    (acw_right (acw_right (acw_right (acw_right (acw_right (acw_right (acw_right (acw_right (acw_right (acw_left acw_any))))))))))
    (acc_right (acc_right (acc_right (acc_right (acc_right (acc_right (acc_right (acc_right (acc_right (acc_right (acc_left (acc_owns _))))))))))))
    (acc_right (acc_right (acc_right (acc_right (acc_right (acc_right (acc_right (acc_right (acc_right (acc_right (acc_right (acc_left (acc_owns _)))))))))))))
    (acc_right (acc_right (acc_right (acc_right (acc_right (acc_right (acc_right (acc_right (acc_right (acc_right (acc_right (acc_right (acc_left (acc_owns _))))))))))))))
    (acc_right (acc_right (acc_right (acc_right (acc_right (acc_right (acc_right (acc_right (acc_right (acc_right (acc_right (acc_right (acc_right (acc_left (acc_owns _)))))))))))))))
    (acw_right (acw_right (acw_right (acw_right (acw_right (acw_right (acw_right (acw_right (acw_right (acw_right (acw_right (acw_right (acw_right (acw_right (acw_left acw_any)))))))))))))))
    (acw_right (acw_right (acw_right (acw_right (acw_right (acw_right (acw_right (acw_right (acw_right (acw_right (acw_right (acw_right (acw_right (acw_right (acw_right (acw_left acw_any))))))))))))))))
    (acw_right (acw_right (acw_right (acw_right (acw_right (acw_right (acw_right (acw_right (acw_right (acw_right (acw_right (acw_right (acw_right (acw_right (acw_right (acw_right (acw_left acw_any)))))))))))))))))
    (acw_right (acw_right (acw_right (acw_right (acw_right (acw_right (acw_right (acw_right (acw_right (acw_right (acw_right (acw_right (acw_right (acw_right (acw_right (acw_right (acw_right (acw_left acw_any))))))))))))))))))
    (acw_right (acw_right (acw_right (acw_right (acw_right (acw_right (acw_right (acw_right (acw_right (acw_right (acw_right (acw_right (acw_right (acw_right (acw_right (acw_right (acw_right (acw_right (acw_left acw_any)))))))))))))))))))
    (acw_right (acw_right (acw_right (acw_right (acw_right (acw_right (acw_right (acw_right (acw_right (acw_right (acw_right (acw_right (acw_right (acw_right (acw_right (acw_right (acw_right (acw_right (acw_right (acw_left acw_any))))))))))))))))))))
    (acw_right (acw_right (acw_right (acw_right (acw_right (acw_right (acw_right (acw_right (acw_right (acw_right (acw_right (acw_right (acw_right (acw_right (acw_right (acw_right (acw_right (acw_right (acw_right (acw_right (acw_left acw_any)))))))))))))))))))))
    (acw_right (acw_right (acw_right (acw_right (acw_right (acw_right (acw_right (acw_right (acw_right (acw_right (acw_right (acw_right (acw_right (acw_right (acw_right (acw_right (acw_right (acw_right (acw_right (acw_right (acw_right acw_any)))))))))))))))))))))
    P hP

set_option maxHeartbeats 4000000 in
/-- A batch's first point. -/
theorem part_A
    (hc1 : k0_cond1 i = 1#1) (x0 : Vec F S2 .i32) (x1 : Vec F S1x128x1024 .i8) (x2 : Vec F S1x1x32x128 .f32) (x3 : Vec F S1x256x128 .f32) (x4 : Vec F S1x4096x128 .f32) (x5 : Vec F S1x4096x128 .f32) (x6 : Vec F S1x1x128 .f32) (x7 : Vec F S1x1x128 .f32) (x8 : Vec F S1x128x1024 .fp8e4m3) (x9 : Vec F S2x4096 .f32) (x10 : Vec F S1x4096x128 .i8) (x11 : Vec F S1x64x1 .f32) (x12 : Vec F S1x4096x128 .fp8e4m3) (x13 : Vec F S1x1x128 .f32) (x14 : Vec F S4096x128 .bf16) (x15 : Vec F S32x128 .f32) (x16 : Vec F S256x4096 .f32) (x17 : Vec F S32x32x128 .f32) (x18 : Vec F S32x1024x128 .f32) (x19 : Vec F S1024x128 .f32) (x20 : Vec F S1024x128 .f32) (x21 : Vec F S1024x128 .f32) (hk : k0_chk1 i (lenOf i x0)) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17 ∗ owns c.tc arg20 fullShare x18 ∗ owns c.tc arg21 fullShare x19 ∗ owns c.tc arg22 fullShare x20 ∗ owns c.tc arg23 fullShare x21)
      ⊢ wp frame (wpE (defs₀ (F := F)) Variants.none (c : Thread nD τ) none) Set.univ (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) (fun _ => Kept c arg2 arg3 arg4 arg5 arg6 arg7 arg8 arg9 arg10 arg11 arg12 arg13 arg14 arg15 arg16 arg17 arg18 arg19 arg20 arg21 arg22 arg23 x0 x1 x2 x3 x4 x5 x6 x7 (k0_pay8 x4 x6) (k0_pay6 x4 x6) (vCodes (lenOf i x0) x5 x7) (vScales (lenOf i x0) x5 x7)) := by
  rw [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩
  subst hf0 hf1 hf2 hf3 hf4 hf5 hf6 hf7 hf8 hf9 hf10 hf11 hf12 hf13 hf14 hf15 hf16 hf17 hf18 hf19 hf20 hf21
  have hk' : k0_chk1 i (arg2.view.readAt (Elt F) (Rect.unit (s := S2) (k0_off1 i) S1.size (k0_off1_inb i)).toLoadRect f0
      (Shape.Idx.first (numel1_S1.symm ▸ Nat.one_pos))) := by rw [len_read]; exact hk
  sl_exec
  sl_step
  unfold Kept owns
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; iexists _; isplitr
    swap; · iexact H8
    ipureintro; rfl
  isplitl [H9]
  · iexists _; iexists _; isplitr
    swap; · iexact H9
    ipureintro; rfl
  isplitl [H10]
  · iexists _; isplitr
    swap; · iexact H10
    ipureintro
    exact (View.read_writes_full _ f10 _ _ []).trans (kcodes_read f4 f6)
  isplitl [H11]
  · iexists _; isplitr
    swap; · iexact H11
    ipureintro
    exact (View.read_writes_full _ f11 _ _ []).trans (kscales_read f4 f6)
  isplitl [H12]
  · iexists _; isplitr
    swap; · iexact H12
    ipureintro
    exact (View.read_writes_full _ f12 _ _ []).trans (vcodes_read i f0 f5 f7)
  isplitl [H13]
  · iexists _; isplitr
    swap; · iexact H13
    ipureintro
    exact (View.read_writes_full _ f13 _ _ []).trans (vscales_read i f0 f5 f7)
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

set_option maxHeartbeats 4000000 in
/-- Any other point. -/
theorem part_B
    (hc1 : ¬ k0_cond1 i = 1#1) (x0 : Vec F S2 .i32) (x1 : Vec F S1x128x1024 .i8) (x2 : Vec F S1x1x32x128 .f32) (x3 : Vec F S1x256x128 .f32) (x4 : Vec F S1x4096x128 .f32) (x5 : Vec F S1x4096x128 .f32) (x6 : Vec F S1x1x128 .f32) (x7 : Vec F S1x1x128 .f32) (x8 : Vec F S1x128x1024 .fp8e4m3) (x9 : Vec F S2x4096 .f32) (x10 : Vec F S1x4096x128 .i8) (x11 : Vec F S1x64x1 .f32) (x12 : Vec F S1x4096x128 .fp8e4m3) (x13 : Vec F S1x1x128 .f32) (x14 : Vec F S4096x128 .bf16) (x15 : Vec F S32x128 .f32) (x16 : Vec F S256x4096 .f32) (x17 : Vec F S32x32x128 .f32) (x18 : Vec F S32x1024x128 .f32) (x19 : Vec F S1024x128 .f32) (x20 : Vec F S1024x128 .f32) (x21 : Vec F S1024x128 .f32) (hk : k0_chk1 i (lenOf i x0)) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare x10 ∗ owns c.tc arg13 fullShare x11 ∗ owns c.tc arg14 fullShare x12 ∗ owns c.tc arg15 fullShare x13 ∗ owns c.tc arg16 fullShare x14 ∗ owns c.tc arg17 fullShare x15 ∗ owns c.tc arg18 fullShare x16 ∗ owns c.tc arg19 fullShare x17 ∗ owns c.tc arg20 fullShare x18 ∗ owns c.tc arg21 fullShare x19 ∗ owns c.tc arg22 fullShare x20 ∗ owns c.tc arg23 fullShare x21)
      ⊢ wp frame (wpE (defs₀ (F := F)) Variants.none (c : Thread nD τ) none) Set.univ (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) (fun _ => Kept c arg2 arg3 arg4 arg5 arg6 arg7 arg8 arg9 arg10 arg11 arg12 arg13 arg14 arg15 arg16 arg17 arg18 arg19 arg20 arg21 arg22 arg23 x0 x1 x2 x3 x4 x5 x6 x7 x10 x11 x12 x13) := by
  rw [k0_part7_eq_skeleton]; unfold k0_part7_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩
  subst hf0 hf1 hf2 hf3 hf4 hf5 hf6 hf7 hf8 hf9 hf10 hf11 hf12 hf13 hf14 hf15 hf16 hf17 hf18 hf19 hf20 hf21
  have hk' : k0_chk1 i (arg2.view.readAt (Elt F) (Rect.unit (s := S2) (k0_off1 i) S1.size (k0_off1_inb i)).toLoadRect f0
      (Shape.Idx.first (numel1_S1.symm ▸ Nat.one_pos))) := by rw [len_read]; exact hk
  sl_exec
  sl_step
  unfold Kept owns
  isplitl [H0]; iexists f0; isplitr; ipureintro; rfl; iexact H0
  isplitl [H1]; iexists f1; isplitr; ipureintro; rfl; iexact H1
  isplitl [H2]; iexists f2; isplitr; ipureintro; rfl; iexact H2
  isplitl [H3]; iexists f3; isplitr; ipureintro; rfl; iexact H3
  isplitl [H4]; iexists f4; isplitr; ipureintro; rfl; iexact H4
  isplitl [H5]; iexists f5; isplitr; ipureintro; rfl; iexact H5
  isplitl [H6]; iexists f6; isplitr; ipureintro; rfl; iexact H6
  isplitl [H7]; iexists f7; isplitr; ipureintro; rfl; iexact H7
  isplitl [H8]
  · iexists _; iexists _; isplitr
    swap; · iexact H8
    ipureintro; rfl
  isplitl [H9]
  · iexists _; iexists _; isplitr
    swap; · iexact H9
    ipureintro; rfl
  isplitl [H10]; iexists f10; isplitr; ipureintro; rfl; iexact H10
  isplitl [H11]; iexists f11; isplitr; ipureintro; rfl; iexact H11
  isplitl [H12]; iexists f12; isplitr; ipureintro; rfl; iexact H12
  isplitl [H13]; iexists f13; isplitr; ipureintro; rfl; iexact H13
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

end Cert.Proof.AttnIdeal

end
-- ==== Proof.AttnChk.lean ====
/-
  Hand-written, untrusted. THE ATTENTION KERNEL'S SIDE CONDITION of `AttnIdeal`: of a length that is at least one, the
  index of the last chunk of keys is one of sixteen words (`last_eq`), the offsets the kernel computes of it are in
  bounds (`chk`), and its two remainder loops make no trip (`trips2`, `trips4`).
-/
module

public import proofs.«01_k».proof.Proof.Gen.AttnIdeal.Frame

@[expose] public section

set_option maxRecDepth 16384

noncomputable section

namespace Cert.Proof.AttnIdeal

open Idealize.ShloMosaic Idealize.ShloMosaic.TcCoe Idealize.ShloMosaic.Tactic
open Cert.AttnIdeal Cert.AttnIdeal.Gen

/-- The last chunk's index, as the kernel computes it. -/
abbrev lastOf (j : Fin 32) (v : BitVec 32) : BitVec 32 :=
  Scalar.subi (Scalar.divsi (Scalar.addi (Scalar.minsi (Scalar.muli (Scalar.addi (BitVec.ofNat 32 j.val) 1#32) 128#32) v) 255#32) 256#32) 1#32

theorem min_eq (j : Fin 32) (v : BitVec 32) (h : 1 ≤ v.toInt) :
    ∃ q : Fin 4097, 1 ≤ q.val ∧ Scalar.minsi (Scalar.muli (Scalar.addi (BitVec.ofNat 32 j.val) 1#32) 128#32) v = BitVec.ofNat 32 q.val := by
  have ha : ∀ j : Fin 32, (Scalar.muli (Scalar.addi (BitVec.ofNat 32 j.val) 1#32) 128#32).toInt ≤ 4096
      ∧ 1 ≤ (Scalar.muli (Scalar.addi (BitVec.ofNat 32 j.val) 1#32) 128#32).toInt := by decide +kernel
  have key : ∀ u : BitVec 32, 1 ≤ u.toInt → u.toInt ≤ 4096 → ∃ q : Fin 4097, 1 ≤ q.val ∧ u = BitVec.ofNat 32 q.val := by
    intro u h1 h2
    have hu : u.toNat = u.toInt := by
      have := u.toInt_eq_toNat_cond
      have := u.isLt
      split at * <;> omega
    refine ⟨⟨u.toNat, by omega⟩, by show 1 ≤ u.toNat; omega, ?_⟩
    exact BitVec.eq_of_toNat_eq (by rw [BitVec.toNat_ofNat, Nat.mod_eq_of_lt u.isLt])
  show ∃ q : Fin 4097, 1 ≤ q.val ∧ (if (Scalar.muli (Scalar.addi (BitVec.ofNat 32 j.val) 1#32) 128#32).slt v then Scalar.muli (Scalar.addi (BitVec.ofNat 32 j.val) 1#32) 128#32 else v) = BitVec.ofNat 32 q.val
  split
  · exact key _ (ha j).2 (ha j).1
  · rename_i hlt
    refine key v h ?_
    have := (ha j).1
    simp only [decide_eq_true_eq, BitVec.slt] at hlt
    omega

theorem last_of_min : ∀ q : Fin 4097, 1 ≤ q.val →
    Scalar.subi (Scalar.divsi (Scalar.addi (BitVec.ofNat 32 q.val) 255#32) 256#32) 1#32 = BitVec.ofNat 32 ((q.val - 1) / 256) := by
  decide +kernel

theorem last_eq (j : Fin 32) (v : BitVec 32) (h : 1 ≤ v.toInt) : ∃ n : Fin 16, lastOf j v = BitVec.ofNat 32 n.val := by
  obtain ⟨q, hq, e⟩ := min_eq j v h
  refine ⟨⟨(q.val - 1) / 256, by omega⟩, ?_⟩
  unfold lastOf
  rw [e]
  exact last_of_min q hq

theorem chk (i : grid0.Coords) (v : BitVec 32) (h : 1 ≤ v.toInt) : k0_chk1 i v := by
  obtain ⟨n, hn⟩ := last_eq (i 1) v h
  unfold lastOf at hn
  rw [k0_chk1.eq_1]
  dsimp only [k0_t1_loop, k0_t2_loop, k0_t3_loop, k0_t4_loop, k0_off2, k0_off3, k0_off4, k0_off5, k0_off6, k0_off7, k0_off8, k0_off9, k0_off10, k0_off11, k0_off12, k0_off13, k0_off14, k0_off15, k0_off16, k0_off17,
    k0_mult1, k0_mult2, k0_mult4, k0_mult6, k0_mult7, k0_mult9, k0_mult11, k0_mult12, k0_mult14, k0_mult16, k0_mult17]
  generalize Scalar.subi (Scalar.divsi (Scalar.addi (Scalar.minsi (Scalar.muli (Scalar.addi (BitVec.ofNat 32 (i 1).val) 1#32) 128#32) v) 255#32) 256#32) 1#32 = w at hn ⊢
  subst hn
  generalize (i 1) = j
  clear h v i
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    first
      | (clear j; revert n; decide +kernel)
      | (revert j n; decide +kernel)

theorem trips2 (i : grid0.Coords) (v : BitVec 32) (h : 1 ≤ v.toInt) : (k0_t2_loop i v).trips = 0 := by
  obtain ⟨n, hn⟩ := last_eq (i 1) v h
  unfold lastOf at hn
  dsimp only [k0_t1_loop, k0_t2_loop, k0_t3_loop, k0_t4_loop, k0_off2, k0_off3, k0_off4, k0_off5, k0_off6, k0_off7, k0_off8, k0_off9, k0_off10, k0_off11, k0_off12, k0_off13, k0_off14, k0_off15, k0_off16, k0_off17,
    k0_mult1, k0_mult2, k0_mult4, k0_mult6, k0_mult7, k0_mult9, k0_mult11, k0_mult12, k0_mult14, k0_mult16, k0_mult17]
  generalize Scalar.subi (Scalar.divsi (Scalar.addi (Scalar.minsi (Scalar.muli (Scalar.addi (BitVec.ofNat 32 (i 1).val) 1#32) 128#32) v) 255#32) 256#32) 1#32 = w at hn ⊢
  subst hn
  clear h v i
  revert n; decide +kernel

theorem trips4 (i : grid0.Coords) (v : BitVec 32) (h : 1 ≤ v.toInt) : (k0_t4_loop i v).trips = 0 := by
  obtain ⟨n, hn⟩ := last_eq (i 1) v h
  unfold lastOf at hn
  dsimp only [k0_t1_loop, k0_t2_loop, k0_t3_loop, k0_t4_loop, k0_off2, k0_off3, k0_off4, k0_off5, k0_off6, k0_off7, k0_off8, k0_off9, k0_off10, k0_off11, k0_off12, k0_off13, k0_off14, k0_off15, k0_off16, k0_off17,
    k0_mult1, k0_mult2, k0_mult4, k0_mult6, k0_mult7, k0_mult9, k0_mult11, k0_mult12, k0_mult14, k0_mult16, k0_mult17]
  generalize Scalar.subi (Scalar.divsi (Scalar.addi (Scalar.minsi (Scalar.muli (Scalar.addi (BitVec.ofNat 32 (i 1).val) 1#32) 128#32) v) 255#32) 256#32) 1#32 = w at hn ⊢
  subst hn
  clear h v i
  revert n; decide +kernel

end Cert.Proof.AttnIdeal

end
-- ==== Proof.AttnIdealStep.lean ====
/-
  Hand-written, untrusted. THE ATTENTION KERNEL'S RUN of `AttnIdeal`: the body at any point of its grid (`body_step`), the
  pipeline's proof data for any relation on what the body leaves (`rdat`), and the run and the frame they give where no
  batch is empty (`run`, `frame`).
-/
module

public import proofs.«01_k».proof.Proof.AttnIdealBody
public import proofs.«01_k».proof.Proof.AttnChk
public import Idealize.ShloMosaic.Lib.Claim

@[expose] public section

set_option maxRecDepth 16384

noncomputable section

namespace Cert.Proof.AttnIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.AttnIdeal Cert.AttnIdeal.Gen

variable {F : FTy → Type} [FloatOps F]

local notation "𝕄" => MT nD τ sig Unit (Elt F) ℕ (UR sig nD τ) ℕ

theorem cond1_iff : ∀ t : Fin grid0.N, k0_cond1 (grid0.coords t) = 1#1 ↔ t.val % 32 = 0 := by decide +kernel

variable (t : Fin cfg0.N) (x0 : Vec F S2 .i32) (x1 : Vec F S1x128x1024 .i8) (x2 : Vec F S1x1x32x128 .f32) (x3 : Vec F S1x256x128 .f32) (x4 : Vec F S1x4096x128 .f32) (x5 : Vec F S1x4096x128 .f32) (x6 : Vec F S1x1x128 .f32) (x7 : Vec F S1x1x128 .f32) (x8 : Vec F S1x128x1024 .fp8e4m3) (x9 : Vec F S2x4096 .f32) (x10 : Vec F S1x4096x128 .i8) (x11 : Vec F S1x64x1 .f32) (x12 : Vec F S1x4096x128 .fp8e4m3) (x13 : Vec F S1x1x128 .f32) (x14 : Vec F S4096x128 .bf16) (x15 : Vec F S32x128 .f32) (x16 : Vec F S256x4096 .f32) (x17 : Vec F S32x32x128 .f32) (x18 : Vec F S32x1024x128 .f32) (x19 : Vec F S1024x128 .f32) (x20 : Vec F S1024x128 .f32) (x21 : Vec F S1024x128 .f32)

/-- The key codes' buffer after point `t`: a batch's first point writes it, -/
def res10 : Vec F S1x4096x128 .i8 := if t.val % 32 = 0 then k0_pay8 x4 x6 else x10
/-- the key scales', -/
def res11 : Vec F S1x64x1 .f32 := if t.val % 32 = 0 then k0_pay6 x4 x6 else x11
/-- the value codes', -/
def res12 : Vec F S1x4096x128 .fp8e4m3 := if t.val % 32 = 0 then vCodes (lenOf (grid0.coords t) x0) x5 x7 else x12
/-- the value scales'. -/
def res13 : Vec F S1x1x128 .f32 := if t.val % 32 = 0 then vScales (lenOf (grid0.coords t) x0) x5 x7 else x13

set_option maxHeartbeats 2000000 in
/-- The body at point `t`, from any contents. -/
theorem body_step (c : Dev nD) (hl : 1 ≤ (lenOf (F := F) (grid0.coords t) x0 : BitVec 32).toInt) :
    iprop(owns c.tc (st0_0 t) fullShare x0 ∗ owns c.tc (st0_1 t) fullShare x1 ∗ owns c.tc (st0_2 t) fullShare x2 ∗ owns c.tc (st0_3 t) fullShare x3 ∗ owns c.tc (st0_4 t) fullShare x4 ∗ owns c.tc (st0_5 t) fullShare x5 ∗ owns c.tc (st0_6 t) fullShare x6 ∗ owns c.tc (st0_7 t) fullShare x7 ∗ owns c.tc (st0_8 t) fullShare x8 ∗ owns c.tc (st0_9 t) fullShare x9 ∗ owns c.tc (st0_10 t) fullShare x10 ∗ owns c.tc (st0_11 t) fullShare x11 ∗ owns c.tc (st0_12 t) fullShare x12 ∗ owns c.tc (st0_13 t) fullShare x13 ∗ owns c.tc (Memref.whole cc0_scratch0) fullShare x14 ∗ owns c.tc (Memref.whole cc0_scratch1) fullShare x15 ∗ owns c.tc (Memref.whole cc0_scratch2) fullShare x16 ∗ owns c.tc (Memref.whole cc0_scratch3) fullShare x17 ∗ owns c.tc (Memref.whole cc0_scratch4) fullShare x18 ∗ owns c.tc (Memref.whole cc0_scratch5) fullShare x19 ∗ owns c.tc (Memref.whole cc0_scratch6) fullShare x20 ∗ owns c.tc (Memref.whole cc0_scratch7) fullShare x21)
      ⊢ wp frame (wpE (defs₀ (F := F)) Variants.none (c : Thread nD τ) none) Set.univ (bodyAt0 t) (fun _ => Kept c (st0_0 t) (st0_1 t) (st0_2 t) (st0_3 t) (st0_4 t) (st0_5 t) (st0_6 t) (st0_7 t) (st0_8 t) (st0_9 t) (st0_10 t) (st0_11 t) (st0_12 t) (st0_13 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) x0 x1 x2 x3 x4 x5 x6 x7 (res10 t x4 x6 x10) (res11 t x4 x6 x11) (res12 t x0 x5 x7 x12) (res13 t x0 x5 x7 x13)) := by
  unfold bodyAt0 res10 res11 res12 res13
  have hk := chk (grid0.coords t) (lenOf (F := F) (grid0.coords t) x0) hl
  by_cases h : t.val % 32 = 0
  · simp only [if_pos h]
    exact body_of_part c (grid0.coords t) _ _ _ _ _ _ _ _ _ _ _ _ _ _ _ _ _ _ _ _ _ _ _ _ _ _ _ _ _ _ _ _ _ _ _ _ _ _ _ _ _ _ _ _ _ _ _ _ _ _ _ _ _ _ _ _ _
      (part_A c (grid0.coords t) _ _ _ _ _ _ _ _ _ _ _ _ _ _ _ _ _ _ _ _ _ _ _ _ _ _ _ _ _ _ _ _ _ _ _ _ _ _ _ _ _ _ _ _ ((cond1_iff t).mpr h) x0 x1 x2 x3 x4 x5 x6 x7 x8 x9 x10 x11 x12 x13 x14 x15 x16 x17 x18 x19 x20 x21 hk)
  · simp only [if_neg h]
    exact body_of_part c (grid0.coords t) _ _ _ _ _ _ _ _ _ _ _ _ _ _ _ _ _ _ _ _ _ _ _ _ _ _ _ _ _ _ _ _ _ _ _ _ _ _ _ _ _ _ _ _ _ _ _ _ _ _ _ _ _ _ _ _ _
      (part_B c (grid0.coords t) _ _ _ _ _ _ _ _ _ _ _ _ _ _ _ _ _ _ _ _ _ _ _ _ _ _ _ _ _ _ _ _ _ _ _ _ _ _ _ _ _ _ _ _ (fun e => h ((cond1_iff t).mp e)) x0 x1 x2 x3 x4 x5 x6 x7 x8 x9 x10 x11 x12 x13 x14 x15 x16 x17 x18 x19 x20 x21 hk)

variable (m : (ℓ : Loc nD τ sig) → Buf (Elt F) ℓ) (ρ : Dev nD → PrngReg)
  (after : Dev nD → (w : Fin cfg0.W) → Fin cfg0.N → (Y X : (cfg0.win w).block.Idx → Elt F (cfg0.win w).elt) → Prop)

/-- What the core keeps between points: its scratch, of any contents, and its generator. -/
def inv (c : Dev nD) : sProp 𝕄 :=
  iprop(((∃ z : Vec F S4096x128 .bf16, owns c.tc (Memref.whole cc0_scratch0) fullShare z) ∗ (∃ z : Vec F S32x128 .f32, owns c.tc (Memref.whole cc0_scratch1) fullShare z) ∗ (∃ z : Vec F S256x4096 .f32, owns c.tc (Memref.whole cc0_scratch2) fullShare z) ∗ (∃ z : Vec F S32x32x128 .f32, owns c.tc (Memref.whole cc0_scratch3) fullShare z) ∗ (∃ z : Vec F S32x1024x128 .f32, owns c.tc (Memref.whole cc0_scratch4) fullShare z) ∗ (∃ z : Vec F S1024x128 .f32, owns c.tc (Memref.whole cc0_scratch5) fullShare z) ∗ (∃ z : Vec F S1024x128 .f32, owns c.tc (Memref.whole cc0_scratch6) fullShare z) ∗ (∃ z : Vec F S1024x128 .f32, owns c.tc (Memref.whole cc0_scratch7) fullShare z)) ∗ ∃ r, prngReg c r)

/-- The proof data. -/
def rdat (c : Dev nD) : RDat τ (Elt F) Unit ℕ (UR sig nD τ) ℕ cfg0 c where
  A w := V m c (Pipeline.arrRef spec0 w)
  after := after c
  Φ _ := inv c
  q _ := fullShare
  owed _ := 0

/-- That one step of the body keeps the relation, and that no batch is empty. -/
def Steps (c : Dev nD) : Prop :=
  ∀ (t : Fin cfg0.N) (Y : (w : Fin cfg0.W) → (cfg0.win w).block.Idx → Elt F (cfg0.win w).elt),
    (∀ w, (rdat m after c).Finds w t (Y w)) →
    1 ≤ (lenOf (F := F) (grid0.coords t) (Y 0) : BitVec 32).toInt ∧ after c 0 t (Y 0) (Y 0) ∧ after c 1 t (Y 1) (Y 1) ∧ after c 2 t (Y 2) (Y 2) ∧ after c 3 t (Y 3) (Y 3) ∧ after c 4 t (Y 4) (Y 4) ∧ after c 5 t (Y 5) (Y 5) ∧ after c 6 t (Y 6) (Y 6) ∧ after c 7 t (Y 7) (Y 7)
      ∧ (∀ z, after c 8 t (Y 8) z) ∧ (∀ z, after c 9 t (Y 9) z)
      ∧ after c 10 t (Y 10) (res10 t (Y 4) (Y 6) (Y 10)) ∧ after c 11 t (Y 11) (res11 t (Y 4) (Y 6) (Y 11))
      ∧ after c 12 t (Y 12) (res12 t (Y 0) (Y 5) (Y 7) (Y 12)) ∧ after c 13 t (Y 13) (res13 t (Y 0) (Y 5) (Y 7) (Y 13))

/-- The body table's row at point `t`'s slots is the body as `bodyAt0` spells it. -/
theorem defs₀_row : defs₀ (F := F) .tc cfg0.body (cfg0.bodyArgs t (cfg0.slots t)) = bodyAt0 t := by
  unfold defs₀; rw [Defs.onTc_tc]

set_option maxHeartbeats 2000000 in
theorem body_obligation (c : Dev nD) (hs : Steps m after c) :
    (rdat m after c).BodyObligation (defs₀ (F := F)) Variants.none () Set.univ := fun t Y hY => by
  rw [bigSep_W0, bigSep_W0, defs₀_row]
  rw [show (rdat m after c).Φ t.succ = inv c from rfl,
    show (rdat m after c).Φ t.castSucc = inv c from rfl,
    show (rdat m after c).owesAt () t.succ = (rdat m after c).owesAt () t.castSucc from rfl]
  unfold inv
  obtain ⟨hl, a0, a1, a2, a3, a4, a5, a6, a7, a8, a9, a10, a11, a12, a13⟩ := hs t Y hY
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩⟩, HP⟩, Ho, H0, H1, H2, H3, H4, H5, H6, H7, H8, H9, H10, H11, H12, H13⟩
  iapply (wp_wand_r frame (wpE (defs₀ (F := F)) Variants.none (c : Thread nD τ) none))
  isplitr [HP Ho]
  · iapply (body_step t (Y 0) (Y 1) (Y 2) (Y 3) (Y 4) (Y 5) (Y 6) (Y 7) (Y 8) (Y 9) (Y 10) (Y 11) (Y 12) (Y 13) f0 f1 f2 f3 f4 f5 f6 f7 c hl)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %u
  unfold Kept
  iintro ⟨H0, H1, H2, H3, H4, H5, H6, H7, ⟨%z8, H8⟩, ⟨%z9, H9⟩, H10, H11, H12, H13, S⟩
  isplitl [S HP]
  · isplitl [S]
    · iexact S
    · iexact HP
  isplitl [Ho]; · iexact Ho
  isplitl [H0]
  · iexists _; isplitr
    swap; · iexact H0
    ipureintro; exact a0
  isplitl [H1]
  · iexists _; isplitr
    swap; · iexact H1
    ipureintro; exact a1
  isplitl [H2]
  · iexists _; isplitr
    swap; · iexact H2
    ipureintro; exact a2
  isplitl [H3]
  · iexists _; isplitr
    swap; · iexact H3
    ipureintro; exact a3
  isplitl [H4]
  · iexists _; isplitr
    swap; · iexact H4
    ipureintro; exact a4
  isplitl [H5]
  · iexists _; isplitr
    swap; · iexact H5
    ipureintro; exact a5
  isplitl [H6]
  · iexists _; isplitr
    swap; · iexact H6
    ipureintro; exact a6
  isplitl [H7]
  · iexists _; isplitr
    swap; · iexact H7
    ipureintro; exact a7
  isplitl [H8]
  · iexists _; isplitr
    swap; · iexact H8
    ipureintro; exact a8 _
  isplitl [H9]
  · iexists _; isplitr
    swap; · iexact H9
    ipureintro; exact a9 _
  isplitl [H10]
  · iexists _; isplitr
    swap; · iexact H10
    ipureintro; exact a10
  isplitl [H11]
  · iexists _; isplitr
    swap; · iexact H11
    ipureintro; exact a11
  isplitl [H12]
  · iexists _; isplitr
    swap; · iexact H12
    ipureintro; exact a12
  iexists _; isplitr
  swap; · iexact H13
  ipureintro; exact a13

theorem inv_in (c : Dev nD) : (Pipeline.ΦA cfg0.spec c : sProp 𝕄) ⊢ inv c := by
  unfold Pipeline.ΦA inv
  rw [show (Pipeline.scopedRest (cfg0).spec c : sProp 𝕄) = _ from scopedRest0_eq c]
  simp only [owns_whole]
  exact .rfl

theorem inv_out (c : Dev nD) : inv c ⊢ (Pipeline.ΦA cfg0.spec c : sProp 𝕄) := by
  unfold Pipeline.ΦA inv
  rw [show (Pipeline.scopedRest (cfg0).spec c : sProp 𝕄) = _ from scopedRest0_eq c]
  simp only [owns_whole]
  exact .rfl

set_option backward.isDefEq.respectTransparency.types false in
set_option maxHeartbeats 800000 in
/-- THE RUN: from any proof data that the body's steps keep. -/
theorem run (hs : ∀ c, Steps m after c) :
    θ_run defs (onTc (τ := τ) (main (F := F))) (s₀ m ρ) (fun r => RDat.FramePost cfg0 (rdat m after) (V m) r ∧ r.2.sem = fun _ => 0) :=
  RDat.θ_run_frame_track (Q' := _) cfgs (0 : Fin 1) launch0 defs₀ Variants.none (rdat m after) m ρ main
    (hbody := fun c => body_obligation m after c (hs c))
    (hshare := fun c w => by unfold RDat.share; split <;> rfl)
    (howed := fun _ _ => rfl) (V := V m) (hmain := hmain m Variants.none) (hA := fun _ _ => rfl)
    (hin := fun c => inv_in c) (hout := fun c => inv_out c)

/-- The argument arrays end as launched. -/
theorem unchanged_of {r : PUnit × MemSt nD τ sig (Elt F)} (h : RDat.FramePost cfg0 (rdat m after) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hin : ∀ w, (cfg0.win w).isOut = false →
      r.2.mem ((cfg0.spec w).arr.view.loc (c.tc : Thread nD τ)) = V m c (Pipeline.arrRef spec0 w) := fun w hw => by
    have := (h c).1 w
    rw [RDat.ArrAt_in (rd := rdat m after c) w hw] at this
    exact this
  exact ⟨(hin 0 rfl).trans (V_main_arg0 m c),
    (hin 1 rfl).trans (V_main_arg1 m c),
    (hin 2 rfl).trans (V_main_arg2 m c),
    ((h c).2 main_arg3 (Pipeline.mem_restRefs_of main_arg3 (by decide) (by decide))).trans (V_main_arg3 m c),
    (hin 4 rfl).trans (V_main_arg4 m c),
    (hin 5 rfl).trans (V_main_arg5 m c),
    (hin 6 rfl).trans (V_main_arg6 m c),
    (hin 7 rfl).trans (V_main_arg7 m c)⟩

/-! ## The lengths a point finds -/

theorem idx0 : ∀ t : Fin grid0.N, win0_0.index t 0 = 0 := by decide +kernel
theorem off1 : ∀ t : Fin grid0.N, k0_off1 (grid0.coords t) 0 = t.val / 32 := by decide +kernel

/-- Point `t`'s batch. -/
def bt (t : Fin cfg0.N) : Fin 2 := ⟨t.val / 32, by have := Nat.lt_of_lt_of_eq t.isLt N_0; omega⟩

theorem len_found (c : Dev nD) (h0 : ∀ t Y X, after c 0 t Y X → X = Y) (t : Fin cfg0.N) (Y : Vec F S2 .i32)
    (hY : (rdat m after c).Finds 0 t Y) :
    lenOf (grid0.coords t) Y = (m ((c : Thread nD τ).loc main_arg0) : Vec F S2 .i32) (ValueIdx.ix1 (bt t)) := by
  obtain ⟨d, rfl⟩ := (rdat m after c).finds_in_eq_fetched 0 rfl (fun _ _ _ => rfl) h0 t Y hY
  refine Eq.trans ?_ (congrFun (V_main_arg0 m c) (ValueIdx.ix1 (bt t)))
  unfold lenOf
  show V m c main_arg0 _ = V m c main_arg0 _
  congr 1
  funext d
  apply Fin.ext
  match d with
  | ⟨0, _⟩ => show win0_0.index t 0 * 2 + 1 * k0_off1 (grid0.coords t) 0 = t.val / 32; rw [idx0 t, off1 t]; omega

/-- That no batch is empty. -/
def Long : Prop := ∀ (c : Dev nD) (b : Fin 2), 1 ≤ ((m ((c : Thread nD τ).loc main_arg0) : Vec F S2 .i32) (ValueIdx.ix1 b) : BitVec 32).toInt

/-- THE FRAME: every run ends, with the argument arrays as launched and the counters at zero. -/
theorem frame (hL : Long m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => unchanged_of m _ h.1 c, h.2⟩)
    (run m ρ (fun _ w _ Y X => w = 0 → X = Y) (fun c t Y hY => ⟨by
      rw [len_found m _ c (fun _ _ _ h => h rfl) t (Y 0) (hY 0)]; exact hL c (bt t), fun _ => rfl, fun _ => rfl, fun _ => rfl, fun _ => rfl,
      fun _ => rfl, fun _ => rfl, fun _ => rfl, fun _ => rfl, fun _ h => absurd h (by decide), fun _ h => absurd h (by decide),
      fun h => absurd h (by decide), fun h => absurd h (by decide), fun h => absurd h (by decide), fun h => absurd h (by decide)⟩))

end Cert.Proof.AttnIdeal

end
-- ==== Proof.AttnSame.lean ====
/-
  Hand-written, untrusted. THE FRAME of `Attn`: its text is `AttnIdeal`'s, so its run is `AttnIdeal`'s run.
-/
module

public import proofs.«01_k».proof.Proof.Gen.Attn.Frame
public import proofs.«01_k».proof.Proof.AttnIdealStep

@[expose] public section

set_option maxRecDepth 16384

noncomputable section

namespace Cert.Proof.Attn

open Idealize.ShloMosaic Idealize.ShloMosaic.TcCoe Idealize.SL.Sem
open Cert.Attn Cert.Attn.Gen

variable {F : FTy → Type} [FloatOps F]
variable (m : (ℓ : Loc nD τ sig) → Buf (Elt F) ℓ) (ρ : Dev nD → PrngReg)

/-- No batch is empty. -/
def Long : Prop :=
  ∀ (c : Dev nD) (b : Fin 2), 1 ≤ ((m ((c : Thread nD τ).loc main_arg0) : Vec F S2 .i32) (ValueIdx.ix1 b) : BitVec 32).toInt

set_option maxHeartbeats 4000000 in
set_option smartUnfolding false in
/-- THE FRAME: where no batch is empty every run ends, with the argument arrays as launched and the counters at zero. -/
theorem frame (hL : Long m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Cert.Proof.AttnIdeal.frame m ρ hL

end Cert.Proof.Attn

end
-- ==== Proof.AttnSpec.lean ====
/-
  Hand-written, untrusted. THE ATTENTION'S CODES AND SCALES over the extended reals, in plain terms: from one batch's
  smoothed keys the scales over blocks of 64 rows and the codes, from its smoothed values the scale of each column over
  the rows within the length and the codes.
-/
module

public import proofs.«01_k».proof.Proof.QkvHead

@[expose] public section

noncomputable section

namespace Cert.Proof.AttnSpec

open Idealize.ShloMosaic Idealize.ShloMosaic.ValueIdx Cert.Proof.Quant Cert.Proof.QkvSpec

/-- The `r`th row of the `g`th 64 rows. -/
def rowK (g r : Fin 64) : Fin 4096 := ⟨64 * g.val + r.val, by omega⟩
/-- The 64 rows row `t` is of. -/
def blkK (t : Fin 4096) : Fin 64 := ⟨t.val / 64, by omega⟩

/-- The scale of the keys' `g`th 64 rows, -/
def kScF (s : Fin 4096 → Fin 128 → EReal) (g : Fin 64) : EReal :=
  sc8 (fmax fun r : Fin 64 => fmax fun d : Fin 128 => FloatOps.absf (F := Ideal) (φ := .f32) (s (rowK g r) d))
/-- a key's codes, -/
def kCdF (s : Fin 4096 → Fin 128 → EReal) (t : Fin 4096) (d : Fin 128) : BitVec 8 := code8 (Ideal.div (s t d) (kScF s (blkK t)))
/-- a row past the length counts as zero, -/
def within (n : BitVec 32) (t : Fin 4096) (x : EReal) : EReal := Scalar.select (IntOp.cmpi .slt (BitVec.ofNat 32 t.val) n) x 0
/-- the scale of the values' column `d`, -/
def vScF (n : BitVec 32) (s : Fin 4096 → Fin 128 → EReal) (d : Fin 128) : EReal :=
  sc (fmax fun t : Fin 4096 => within n t (FloatOps.absf (F := Ideal) (φ := .f32) (s t d)))
/-- and a value's codes. -/
def vCdF (n : BitVec 32) (s : Fin 4096 → Fin 128 → EReal) (t : Fin 4096) (d : Fin 128) : EReal := clip (Ideal.div (s t d) (vScF n s d))

/-- The arguments: lengths, keys, values, their means. -/
structure Args where
  n : Fin 2 → BitVec 32
  k : Fin 2 → Fin 4096 → Fin 128 → EReal
  v : Fin 2 → Fin 4096 → Fin 128 → EReal
  km : Fin 2 → Fin 128 → EReal
  vm : Fin 2 → Fin 128 → EReal

/-- The arguments read from their arrays. -/
def Args.of (n : IVec ⟨1, ![2]⟩ 32) (k v : FVec Ideal ⟨3, ![2, 4096, 128]⟩ .f32) (km vm : FVec Ideal ⟨3, ![2, 1, 128]⟩ .f32) : Args where
  n b := n (ix1 b)
  k b t d := k (ix3 b t d)
  v b t d := v (ix3 b t d)
  km b d := km (ix3 b 0 d)
  vm b d := vm (ix3 b 0 d)

variable (A : Args)

/-- The smoothed keys of a batch, -/
def sK (b : Fin 2) (t : Fin 4096) (d : Fin 128) : EReal := A.k b t d - A.km b d
/-- and values. -/
def sV (b : Fin 2) (t : Fin 4096) (d : Fin 128) : EReal := A.v b t d - A.vm b d

/-! The four result arrays. -/

def kCodes : IVec ⟨3, ![2, 4096, 128]⟩ 8 := fun i => kCdF (sK A (i 0)) (i 1) (i 2)
def kScales : FVec Ideal ⟨3, ![2, 64, 1]⟩ .f32 := fun i => kScF (sK A (i 0)) (i 1)
def vCodes : FVec Ideal ⟨3, ![2, 4096, 128]⟩ .fp8e4m3 := fun i => vCdF (A.n (i 0)) (sV A (i 0)) (i 1) (i 2)
def vScales : FVec Ideal ⟨3, ![2, 1, 128]⟩ .f32 := fun i => vScF (A.n (i 0)) (sV A (i 0)) (i 2)

/-! ## Layout -/

/-- A leading axis of size one dropped, -/
theorem flat {α : Type} {M N : Nat} (x : (⟨3, ![1, M, N]⟩ : Shape).Idx → α) (h : (⟨3, ![1, M, N]⟩ : Shape).ShapeCasts ⟨2, ![M, N]⟩)
    (t : Fin M) (d : Fin N) : shapeCast (⟨2, ![M, N]⟩ : Shape) x h (ix2 t d) = x (ix3 0 t d) := by
  refine shapeCast_apply x h (ix2 t d) (ix3 0 t d) ?_
  rw [Shape.rowMajor_val_two, Shape.rowMajor_val_three]
  show (0 * M + t.val) * N + d.val = t.val * N + d.val
  rw [Nat.zero_mul, Nat.zero_add]

/-- and added. -/
theorem unflat {α : Type} {M N : Nat} (x : (⟨2, ![M, N]⟩ : Shape).Idx → α) (h : (⟨2, ![M, N]⟩ : Shape).ShapeCasts ⟨3, ![1, M, N]⟩)
    (t : Fin M) (d : Fin N) : shapeCast (⟨3, ![1, M, N]⟩ : Shape) x h (ix3 0 t d) = x (ix2 t d) := by
  refine shapeCast_apply x h (ix3 0 t d) (ix2 t d) ?_
  rw [Shape.rowMajor_val_two, Shape.rowMajor_val_three]
  show t.val * N + d.val = (0 * M + t.val) * N + d.val
  rw [Nat.zero_mul, Nat.zero_add]

/-- The maximum over the last axis of four. -/
theorem lastmax {J K L M : Nat} (x : FVec Ideal ⟨4, ![J, K, L, M]⟩ .f32) (h : (⟨4, ![J, K, L, M]⟩ : Shape).Reduces [3] ⟨3, ![J, K, L]⟩)
    (hφ : FKind.Formats .f32) (hacc : (0xFF800000#32 : BitVec 32) = FKind.maximumf.neutral .f32 hφ) (p : Fin J) (q : Fin K) (k : Fin L) :
    multiReduction .maximumf [3] (⟨3, ![J, K, L]⟩ : Shape) x 0xFF800000#32 h hφ hacc (ix3 p q k) = fmax fun a : Fin M => x (ix4 p q k a) := by
  rw [Ideal.multiReduction_maximumf_single]
  unfold fmax
  have e : (x ∘ h.lift (ix3 p q k)) = fun a : Fin M => x (ix4 p q k a) := funext fun a => congrArg x (funext fun d => by
    match d with
    | ⟨0, _⟩ => rfl
    | ⟨1, _⟩ => rfl
    | ⟨2, _⟩ => rfl
    | ⟨3, _⟩ => rfl)
  exact congrArg (fun f => (Finset.univ : Finset (Fin M)).fold max (FloatOps.ofBits (F := Ideal) .f32 0xFF800000#32) f) e

/-- A column's maximum. -/
theorem colmax {M N : Nat} (x : FVec Ideal ⟨2, ![M, N]⟩ .f32) (h : (⟨2, ![M, N]⟩ : Shape).Reduces [0] ⟨1, ![N]⟩)
    (hφ : FKind.Formats .f32) (hacc : (0xFF800000#32 : BitVec 32) = FKind.maximumf.neutral .f32 hφ) (k : Fin N) :
    multiReduction .maximumf [0] (⟨1, ![N]⟩ : Shape) x 0xFF800000#32 h hφ hacc (ix1 k) = fmax fun a : Fin M => x (ix2 a k) := by
  rw [Ideal.multiReduction_maximumf_single]
  unfold fmax
  have e : (x ∘ h.lift (ix1 k)) = fun a : Fin M => x (ix2 a k) := funext fun a => congrArg x (funext fun d => by
    match d with
    | ⟨0, _⟩ => rfl
    | ⟨1, _⟩ => rfl)
  exact congrArg (fun f => (Finset.univ : Finset (Fin M)).fold max (FloatOps.ofBits (F := Ideal) .f32 0xFF800000#32) f) e

/-- The last two axes of size one broadcast, of four. -/
theorem bcol44 {α : Type} {J L M N : Nat} (x : (⟨4, ![J, L, 1, 1]⟩ : Shape).Idx → α) (h : (⟨4, ![J, L, 1, 1]⟩ : Shape).Broadcasts ⟨4, ![J, L, M, N]⟩)
    (b : Fin J) (p : Fin L) (r : Fin M) (d : Fin N) : broadcastTo (⟨4, ![J, L, M, N]⟩ : Shape) x h (ix4 b p r d) = x (ix4 b p 0 0) := by
  refine broadcastTo_apply x h (ix4 b p r d) (ix4 b p 0 0) fun a => ?_
  match a with
  | ⟨0, _⟩ =>
    by_cases h1 : J = 1
    · subst h1; simp
    · simp [ix4, h1]
  | ⟨1, _⟩ =>
    by_cases h1 : L = 1
    · subst h1; simp
    · simp [ix4, h1]
  | ⟨2, _⟩ => simp [ix4]
  | ⟨3, _⟩ => simp [ix4]

end Cert.Proof.AttnSpec

end
-- ==== Proof.AttnPay.lean ====
/-
  Hand-written, untrusted. THE ATTENTION KERNEL'S CODES AND SCALES of one batch over the extended reals, index by index.
-/
module

public import proofs.«01_k».proof.Proof.AttnSpec
public import proofs.«01_k».proof.Proof.AttnIdealStep

@[expose] public section

set_option maxRecDepth 16384

noncomputable section

namespace Cert.Proof.AttnKernel

open Idealize.ShloMosaic Idealize.ShloMosaic.TcCoe Idealize.SL.Sem Idealize.ShloMosaic.ValueIdx
open Cert.AttnIdeal Cert.AttnIdeal.Gen Cert.Proof.Ops Cert.Proof.Quant Cert.Proof.QkvSpec Cert.Proof.AttnSpec
open Cert.Proof.QkvKernel (bcol33)

section Keys

variable (x : Vec Ideal S1x4096x128 .f32) (μ : Vec Ideal S1x1x128 .f32) (s : Fin 4096 → Fin 128 → EReal)
  (hs : ∀ t d, (fun p q : EReal => p - q) (x (ix3 0 t d)) (μ (ix3 0 0 d)) = s t d)
include hs

theorem pay3 (t : Fin 4096) (d : Fin 128) : k0_pay3 x μ (ix2 t d) = s t d := by
  unfold k0_pay3
  exact (congrArg₂ (fun p q : EReal => p - q) (flat x _ t d) ((brow _ _ t d).trans (flat μ _ 0 d))).trans (hs t d)

theorem pay4 (g r : Fin 64) (d : Fin 128) : k0_pay4 x μ (ix3 g r d) = s (rowK g r) d := by
  unfold k0_pay4
  refine (shapeCast_apply _ _ (ix3 g r d) (ix2 (rowK g r) d) ?_).trans (pay3 x μ s hs (rowK g r) d)
  rw [Shape.rowMajor_val_two, Shape.rowMajor_val_three]
  show (64 * g.val + r.val) * 128 + d.val = (g.val * 64 + r.val) * 128 + d.val
  omega

theorem pay5 (g : Fin 64) : k0_pay5 x μ (ix2 g 0) = kScF s g := by
  unfold k0_pay5
  refine (select_sc8 _ (ix2 g 0)).trans ?_
  unfold kScF
  refine congrArg sc8 ?_
  have e (P : FVec Ideal S64x64x128 .f32) :
      shapeCast S64x1 (multiReduction .maximumf [1] S64 (multiReduction .maximumf [1] S64x128 (absf P) 0xFF800000#32 reduces_S64x64x128_S64x128 (.inl rfl) rfl)
        0xFF800000#32 reduces_S64x128_S64 (.inl rfl) rfl) shapeCasts_S64_S64x1 (ix2 g 0)
      = fmax fun r : Fin 64 => fmax fun d : Fin 128 => FloatOps.absf (F := Ideal) (φ := .f32) (P (ix3 g r d)) := by
    refine (scast_col _ _ g).trans ((rowmax _ _ _ _ g).trans ?_)
    refine Eq.trans ?_ (fmax_swap fun (d : Fin 128) (r : Fin 64) => FloatOps.absf (F := Ideal) (φ := .f32) (P (ix3 g r d)))
    exact congrArg fmax (funext fun d => midmax (absf P) _ _ _ g d)
  exact (e _).trans (congrArg fmax (funext fun r => congrArg fmax (funext fun d => congrArg (FloatOps.absf (F := Ideal) (φ := .f32)) (pay4 x μ s hs g r d))))

theorem kscale (g : Fin 64) : k0_pay6 x μ (ix3 0 g 0) = kScF s g := by
  unfold k0_pay6
  exact (unflat _ _ g 0).trans (pay5 x μ s hs g)

theorem kcode (t : Fin 4096) (d : Fin 128) : k0_pay8 x μ (ix3 0 t d) = kCdF s t d := by
  unfold k0_pay8 k0_pay7
  have hr : t.val % 64 < 64 := by omega
  have e (P : FVec Ideal S64x64x128 .f32) (R : FVec Ideal S64x1 .f32) :
      shapeCast S1x4096x128 (shapeCast S4096x128 (fptosi 8 (minimumf (broadcast S64x64x128 (Scalar.ofBits (F := Ideal) .f32 0x42FE0000#32))
        (maximumf (broadcast S64x64x128 (Scalar.ofBits (F := Ideal) .f32 0xC2FE0000#32))
          (roundeven (mulf P (broadcastTo S64x64x128 (shapeCast S64x1x1 (divf (broadcast S64x1 (Scalar.ofBits (F := Ideal) .f32 0x3F800000#32)) R)
            shapeCasts_S64x1_S64x1x1) broadcasts_S64x1x1_S64x64x128)))))) shapeCasts_S64x64x128_S4096x128) shapeCasts_S4096x128_S1x4096x128 (ix3 0 t d)
      = code8 (P (ix3 (blkK t) (⟨t.val % 64, hr⟩ : Fin 64) d)
          * Ideal.div (Scalar.ofBits (F := Ideal) .f32 0x3F800000#32) (R (ix2 (blkK t) 0))) := by
    refine (unflat _ _ t d).trans ((shapeCast_apply _ _ (ix2 t d) (ix3 (blkK t) (⟨t.val % 64, hr⟩ : Fin 64) d) ?_).trans ?_)
    · rw [Shape.rowMajor_val_two, Shape.rowMajor_val_three]
      show (t.val / 64 * 64 + t.val % 64) * 128 + d.val = t.val * 128 + d.val
      omega
    · refine congrArg (fun z => code8 (P (ix3 (blkK t) (⟨t.val % 64, hr⟩ : Fin 64) d) * z)) ?_
      exact (bcol33 _ _ _ _ _).trans (shapeCast_apply _ _ (ix3 (blkK t) 0 0) (ix2 (blkK t) 0) (by
        rw [Shape.rowMajor_val_two, Shape.rowMajor_val_three]
        show t.val / 64 * 1 + 0 = (t.val / 64 * 1 + 0) * 1 + 0
        omega))
  refine (e _ _).trans ?_
  have h1 := pay4 x μ s hs (blkK t) (⟨t.val % 64, hr⟩ : Fin 64) d
  rw [show rowK (blkK t) (⟨t.val % 64, hr⟩ : Fin 64) = t from Fin.ext (by
    show 64 * (t.val / 64) + t.val % 64 = t.val; omega)] at h1
  unfold kCdF
  refine congrArg code8 ((congrArg₂ (fun (p : EReal) (q : EReal) => p * Ideal.div (Scalar.ofBits (F := Ideal) .f32 0x3F800000#32) q) h1 (pay5 x μ s hs (blkK t))).trans ?_)
  unfold kScF
  exact mul_inv_sc8 _ _

end Keys

section Values

variable (l : BitVec 32) (x : Vec Ideal S1x4096x128 .f32) (μ : Vec Ideal S1x1x128 .f32) (s : Fin 4096 → Fin 128 → EReal)
  (hs : ∀ t d, (fun p q : EReal => p - q) (x (ix3 0 t d)) (μ (ix3 0 0 d)) = s t d)

theorem pay15 (t : Fin 4096) (d : Fin 128) : k0_pay15 (F := Ideal) l (ix2 t d) = IntOp.cmpi .slt (BitVec.ofNat 32 t.val) l := by
  have e : iota .tc S4096x1 32 [0] iota_S4096x1_d0_w32 (ix2 t 0) = BitVec.ofNat 32 t.val := by
    show BitVec.ofNat 32 (0 * 4096 + t.val) = _
    rw [Nat.zero_mul, Nat.zero_add]
  unfold k0_pay15
  refine (bcol _ _ t d).trans ?_
  rw [shapeCast_self]
  show IntOp.cmpi .slt (iota .tc S4096x1 32 [0] iota_S4096x1_d0_w32 (ix2 t 0)) l = _
  rw [e]

include hs

theorem pay13 (t : Fin 4096) (d : Fin 128) : k0_pay13 x μ (ix2 t d) = s t d := by
  unfold k0_pay13
  exact (congrArg₂ (fun p q : EReal => p - q) (flat x _ t d) ((brow _ _ t d).trans (flat μ _ 0 d))).trans (hs t d)

theorem pay34 (d : Fin 128) : k0_pay34 (k0_pay14 x μ) (Scalar.ofBits .f32 0x00000000#32) (k0_pay15 (F := Ideal) l) (ix2 0 d) = vScF l s d := by
  unfold k0_pay34
  refine (select_sc _ (ix2 0 d)).trans ?_
  unfold vScF
  refine congrArg sc ((scast_row _ _ d).trans ((colmax _ _ _ _ d).trans (congrArg fmax (funext fun t => ?_))))
  show Scalar.select (k0_pay15 (F := Ideal) l (ix2 t d)) (k0_pay14 x μ (ix2 t d)) (Ideal.ofBits .f32 0x00000000#32) = _
  rw [pay15, Ideal.ofBits_zero_f32]
  unfold within k0_pay14
  exact congrArg (fun z : EReal => Scalar.select (IntOp.cmpi .slt (BitVec.ofNat 32 t.val) l) (FloatOps.absf (F := Ideal) (φ := .f32) z) (0 : EReal)) (pay13 x μ s hs t d)

theorem vscale (d : Fin 128) : AttnIdeal.vScales (F := Ideal) l x μ (ix3 0 0 d) = vScF l s d := by
  unfold AttnIdeal.vScales k0_pay35
  exact (unflat _ _ 0 d).trans (pay34 l x μ s hs d)

theorem vcode (t : Fin 4096) (d : Fin 128) : AttnIdeal.vCodes (F := Ideal) l x μ (ix3 0 t d) = vCdF l s t d := by
  unfold AttnIdeal.vCodes k0_pay36
  refine (unflat _ _ t d).trans ?_
  have e (P : FVec Ideal S4096x128 .f32) (R : FVec Ideal S1x128 .f32) :
      truncf .fp8e4m3 (minimumf (broadcast S4096x128 (Scalar.ofBits (F := Ideal) .f32 0x43E00000#32))
        (maximumf (broadcast S4096x128 (Scalar.ofBits (F := Ideal) .f32 0xC3E00000#32))
          (mulf P (broadcastTo S4096x128 (divf (broadcast S1x128 (Scalar.ofBits (F := Ideal) .f32 0x3F800000#32)) R) broadcasts_S1x128_S4096x128)))) bitsLt_fp8e4m3_f32 (ix2 t d)
      = clip (P (ix2 t d) * Ideal.div (Scalar.ofBits (F := Ideal) .f32 0x3F800000#32) (R (ix2 0 d))) :=
    congrArg (fun z : EReal => clip (P (ix2 t d) * z)) (brow _ _ t d)
  refine (e _ _).trans ?_
  unfold vCdF
  refine congrArg clip ((congrArg₂ (fun (p : EReal) (q : EReal) => p * Ideal.div (Scalar.ofBits (F := Ideal) .f32 0x3F800000#32) q) (pay13 x μ s hs t d) (pay34 l x μ s hs d)).trans ?_)
  unfold vScF
  exact mul_inv_sc _ _

end Values

end Cert.Proof.AttnKernel

end
-- ==== Proof.AttnKernel.lean ====
/-
  Hand-written, untrusted. THE ATTENTION'S CODES AND SCALES, RUN over the extended reals: the kernel's four arrays of the
  keys' and values' codes and scales are the plain ones (`value`), where no batch is empty.
-/
module

public import proofs.«01_k».proof.Proof.AttnPay
public import Idealize.ShloMosaic.Lib.Pipeline.ArrRel

@[expose] public section

set_option maxRecDepth 16384

noncomputable section

namespace Cert.Proof.AttnKernel

open Idealize.ShloMosaic Idealize.ShloMosaic.TcCoe Idealize.SL.Sem Idealize.ShloMosaic.ValueIdx
open Idealize.ShloMosaic.Pipeline (Dat RDat Cfg Window cellOf)
open Cert.AttnIdeal Cert.AttnIdeal.Gen Cert.Proof.Ops Cert.Proof.AttnSpec
open Cert.Proof.AttnIdeal (lenOf res10 res11 res12 res13 rdat Steps bt Long)

variable (m : (ℓ : Loc nD τ sig) → Buf (Elt Ideal) ℓ) (ρ : Dev nD → PrngReg)

/-- The arguments on device `c`. -/
def ARGS (c : Dev nD) : Args :=
  Args.of (m ((c : Thread nD τ).loc main_arg0)) (m ((c : Thread nD τ).loc main_arg4)) (m ((c : Thread nD τ).loc main_arg5))
    (m ((c : Thread nD τ).loc main_arg6)) (m ((c : Thread nD τ).loc main_arg7))

/-! A batch's results: the keys' codes, -/

def W10 (A : Args) (b : Fin 2) : Vec Ideal S1x4096x128 .i8 := fun i => kCdF (sK A b) (i 1) (i 2)
/-- their scales, -/
def W11 (A : Args) (b : Fin 2) : Vec Ideal S1x64x1 .f32 := fun i => kScF (sK A b) (i 1)
/-- the values' codes, -/
def W12 (A : Args) (b : Fin 2) : Vec Ideal S1x4096x128 .fp8e4m3 := fun i => vCdF (A.n b) (sV A b) (i 1) (i 2)
/-- their scales. -/
def W13 (A : Args) (b : Fin 2) : Vec Ideal S1x1x128 .f32 := fun i => vScF (A.n b) (sV A b) (i 2)

/-- The relation on every window's buffer: a batch's first point writes the codes and scales, the others keep them. -/
def after (c : Dev nD) (w : Fin cfg0.W) (t : Fin cfg0.N) (Y X : (cfg0.win w).block.Idx → Elt Ideal (cfg0.win w).elt) : Prop :=
  match w with
  | ⟨0, _⟩ => X = Y
  | ⟨1, _⟩ => X = Y
  | ⟨2, _⟩ => X = Y
  | ⟨3, _⟩ => X = Y
  | ⟨4, _⟩ => X = Y
  | ⟨5, _⟩ => X = Y
  | ⟨6, _⟩ => X = Y
  | ⟨7, _⟩ => X = Y
  | ⟨8, _⟩ => True
  | ⟨9, _⟩ => True
  | ⟨10, _⟩ => X = if t.val % 32 = 0 then W10 (ARGS m c) (bt t) else Y
  | ⟨11, _⟩ => X = if t.val % 32 = 0 then W11 (ARGS m c) (bt t) else Y
  | ⟨12, _⟩ => X = if t.val % 32 = 0 then W12 (ARGS m c) (bt t) else Y
  | ⟨13, _⟩ => X = if t.val % 32 = 0 then W13 (ARGS m c) (bt t) else Y
  | ⟨_ + 14, h⟩ => absurd h (Nat.not_lt.mpr (Nat.le_add_left _ _))

/-- The proof data. -/
abbrev rd (c : Dev nD) := rdat m (after m) c

/-! ## The windows at a point -/

theorem idx4 : ∀ t : Fin grid0.N, win0_4.index t 0 = t.val / 32 ∧ win0_4.index t 1 = 0 ∧ win0_4.index t 2 = 0 := by decide +kernel
theorem idx5 : ∀ t : Fin grid0.N, win0_5.index t 0 = t.val / 32 ∧ win0_5.index t 1 = 0 ∧ win0_5.index t 2 = 0 := by decide +kernel
theorem idx6 : ∀ t : Fin grid0.N, win0_6.index t 0 = t.val / 32 ∧ win0_6.index t 1 = 0 ∧ win0_6.index t 2 = 0 := by decide +kernel
theorem idx7 : ∀ t : Fin grid0.N, win0_7.index t 0 = t.val / 32 ∧ win0_7.index t 1 = 0 ∧ win0_7.index t 2 = 0 := by decide +kernel
theorem idx10 : ∀ t : Fin grid0.N, win0_10.index t 0 = t.val / 32 ∧ win0_10.index t 1 = 0 ∧ win0_10.index t 2 = 0 := by decide +kernel
theorem idx11 : ∀ t : Fin grid0.N, win0_11.index t 0 = t.val / 32 ∧ win0_11.index t 1 = 0 ∧ win0_11.index t 2 = 0 := by decide +kernel
theorem idx12 : ∀ t : Fin grid0.N, win0_12.index t 0 = t.val / 32 ∧ win0_12.index t 1 = 0 ∧ win0_12.index t 2 = 0 := by decide +kernel
theorem idx13 : ∀ t : Fin grid0.N, win0_13.index t 0 = t.val / 32 ∧ win0_13.index t 1 = 0 ∧ win0_13.index t 2 = 0 := by decide +kernel

theorem found4 (c : Dev nD) (t : Fin cfg0.N) (Y : Vec Ideal S1x4096x128 .f32) (hY : (rd m c).Finds 4 t Y) (a : Fin 4096) (d : Fin 128) :
    Y (ix3 0 a d) = (m ((c : Thread nD τ).loc main_arg4) : Vec Ideal S2x4096x128 .f32) (ix3 (bt t) a d) := by
  obtain ⟨p, rfl⟩ := (rd m c).finds_in_eq_fetched 4 rfl (fun _ _ _ => rfl) (fun _ _ _ h => h) t Y hY
  refine Eq.trans ?_ (congrFun (V_main_arg4 m c) (ix3 (bt t) a d))
  show V m c main_arg4 _ = V m c main_arg4 _
  congr 1
  funext z
  apply Fin.ext
  match z with
  | ⟨0, _⟩ => show win0_4.index t 0 * 1 + 1 * 0 = t.val / 32; rw [(idx4 t).1]; omega
  | ⟨1, _⟩ => show win0_4.index t 1 * 4096 + 1 * a.val = a.val; rw [(idx4 t).2.1]; omega
  | ⟨2, _⟩ => show win0_4.index t 2 * 128 + 1 * d.val = d.val; rw [(idx4 t).2.2]; omega

theorem found5 (c : Dev nD) (t : Fin cfg0.N) (Y : Vec Ideal S1x4096x128 .f32) (hY : (rd m c).Finds 5 t Y) (a : Fin 4096) (d : Fin 128) :
    Y (ix3 0 a d) = (m ((c : Thread nD τ).loc main_arg5) : Vec Ideal S2x4096x128 .f32) (ix3 (bt t) a d) := by
  obtain ⟨p, rfl⟩ := (rd m c).finds_in_eq_fetched 5 rfl (fun _ _ _ => rfl) (fun _ _ _ h => h) t Y hY
  refine Eq.trans ?_ (congrFun (V_main_arg5 m c) (ix3 (bt t) a d))
  show V m c main_arg5 _ = V m c main_arg5 _
  congr 1
  funext z
  apply Fin.ext
  match z with
  | ⟨0, _⟩ => show win0_5.index t 0 * 1 + 1 * 0 = t.val / 32; rw [(idx5 t).1]; omega
  | ⟨1, _⟩ => show win0_5.index t 1 * 4096 + 1 * a.val = a.val; rw [(idx5 t).2.1]; omega
  | ⟨2, _⟩ => show win0_5.index t 2 * 128 + 1 * d.val = d.val; rw [(idx5 t).2.2]; omega

theorem found6 (c : Dev nD) (t : Fin cfg0.N) (Y : Vec Ideal S1x1x128 .f32) (hY : (rd m c).Finds 6 t Y) (d : Fin 128) :
    Y (ix3 0 0 d) = (m ((c : Thread nD τ).loc main_arg6) : Vec Ideal S2x1x128 .f32) (ix3 (bt t) 0 d) := by
  obtain ⟨p, rfl⟩ := (rd m c).finds_in_eq_fetched 6 rfl (fun _ _ _ => rfl) (fun _ _ _ h => h) t Y hY
  refine Eq.trans ?_ (congrFun (V_main_arg6 m c) (ix3 (bt t) 0 d))
  show V m c main_arg6 _ = V m c main_arg6 _
  congr 1
  funext z
  apply Fin.ext
  match z with
  | ⟨0, _⟩ => show win0_6.index t 0 * 1 + 1 * 0 = t.val / 32; rw [(idx6 t).1]; omega
  | ⟨1, _⟩ => show win0_6.index t 1 * 1 + 1 * 0 = 0; rw [(idx6 t).2.1]
  | ⟨2, _⟩ => show win0_6.index t 2 * 128 + 1 * d.val = d.val; rw [(idx6 t).2.2]; omega

theorem found7 (c : Dev nD) (t : Fin cfg0.N) (Y : Vec Ideal S1x1x128 .f32) (hY : (rd m c).Finds 7 t Y) (d : Fin 128) :
    Y (ix3 0 0 d) = (m ((c : Thread nD τ).loc main_arg7) : Vec Ideal S2x1x128 .f32) (ix3 (bt t) 0 d) := by
  obtain ⟨p, rfl⟩ := (rd m c).finds_in_eq_fetched 7 rfl (fun _ _ _ => rfl) (fun _ _ _ h => h) t Y hY
  refine Eq.trans ?_ (congrFun (V_main_arg7 m c) (ix3 (bt t) 0 d))
  show V m c main_arg7 _ = V m c main_arg7 _
  congr 1
  funext z
  apply Fin.ext
  match z with
  | ⟨0, _⟩ => show win0_7.index t 0 * 1 + 1 * 0 = t.val / 32; rw [(idx7 t).1]; omega
  | ⟨1, _⟩ => show win0_7.index t 1 * 1 + 1 * 0 = 0; rw [(idx7 t).2.1]
  | ⟨2, _⟩ => show win0_7.index t 2 * 128 + 1 * d.val = d.val; rw [(idx7 t).2.2]; omega

/-! ## What a point does -/

section Step

variable (c : Dev nD) (t : Fin cfg0.N) (Y : (w : Fin cfg0.W) → (cfg0.win w).block.Idx → Elt Ideal (cfg0.win w).elt)
  (hY : ∀ w, (rd m c).Finds w t (Y w))
include hY

theorem keys (a : Fin 4096) (d : Fin 128) :
    (fun p q : EReal => p - q) ((Y 4 : Vec Ideal S1x4096x128 .f32) (ix3 0 a d)) ((Y 6 : Vec Ideal S1x1x128 .f32) (ix3 0 0 d)) = sK (ARGS m c) (bt t) a d :=
  congrArg₂ (fun p q : EReal => p - q) (found4 m c t (Y 4) (hY 4) a d) (found6 m c t (Y 6) (hY 6) d)

theorem values (a : Fin 4096) (d : Fin 128) :
    (fun p q : EReal => p - q) ((Y 5 : Vec Ideal S1x4096x128 .f32) (ix3 0 a d)) ((Y 7 : Vec Ideal S1x1x128 .f32) (ix3 0 0 d)) = sV (ARGS m c) (bt t) a d :=
  congrArg₂ (fun p q : EReal => p - q) (found5 m c t (Y 5) (hY 5) a d) (found7 m c t (Y 7) (hY 7) d)

theorem len : (lenOf (F := Ideal) (grid0.coords t) (Y 0) : BitVec 32) = (ARGS m c).n (bt t) :=
  Cert.Proof.AttnIdeal.len_found m (after m) c (fun _ _ _ h => h) t (Y 0) (hY 0)

theorem w10 : (k0_pay8 (Y 4 : Vec Ideal S1x4096x128 .f32) (Y 6 : Vec Ideal S1x1x128 .f32) : Vec Ideal S1x4096x128 .i8) = W10 (ARGS m c) (bt t) := by
  funext j
  obtain ⟨z, a, d, rfl⟩ : ∃ (z : Fin 1) (a : Fin 4096) (d : Fin 128), j = ix3 z a d := ⟨j 0, j 1, j 2, eq_ix3 j⟩
  obtain rfl : z = 0 := Subsingleton.elim _ _
  exact kcode _ _ _ (keys m c t Y hY) a d

theorem w11 : (k0_pay6 (Y 4 : Vec Ideal S1x4096x128 .f32) (Y 6 : Vec Ideal S1x1x128 .f32) : Vec Ideal S1x64x1 .f32) = W11 (ARGS m c) (bt t) := by
  funext j
  obtain ⟨z, a, d, rfl⟩ : ∃ (z : Fin 1) (a : Fin 64) (d : Fin 1), j = ix3 z a d := ⟨j 0, j 1, j 2, eq_ix3 j⟩
  obtain rfl : z = 0 := Subsingleton.elim _ _
  obtain rfl : d = 0 := Subsingleton.elim _ _
  exact kscale _ _ _ (keys m c t Y hY) a

theorem w12 : (AttnIdeal.vCodes (F := Ideal) (lenOf (grid0.coords t) (Y 0)) (Y 5) (Y 7) : Vec Ideal S1x4096x128 .fp8e4m3) = W12 (ARGS m c) (bt t) := by
  rw [len m c t Y hY]
  funext j
  obtain ⟨z, a, d, rfl⟩ : ∃ (z : Fin 1) (a : Fin 4096) (d : Fin 128), j = ix3 z a d := ⟨j 0, j 1, j 2, eq_ix3 j⟩
  obtain rfl : z = 0 := Subsingleton.elim _ _
  exact vcode _ _ _ _ (values m c t Y hY) a d

theorem w13 : (AttnIdeal.vScales (F := Ideal) (lenOf (grid0.coords t) (Y 0)) (Y 5) (Y 7) : Vec Ideal S1x1x128 .f32) = W13 (ARGS m c) (bt t) := by
  rw [len m c t Y hY]
  funext j
  obtain ⟨z, a, d, rfl⟩ : ∃ (z : Fin 1) (a : Fin 1) (d : Fin 128), j = ix3 z a d := ⟨j 0, j 1, j 2, eq_ix3 j⟩
  obtain rfl : z = 0 := Subsingleton.elim _ _
  obtain rfl : a = 0 := Subsingleton.elim _ _
  exact vscale _ _ _ _ (values m c t Y hY) d

end Step

theorem steps (hl : Long m) (c : Dev nD) : Steps m (after m) c := fun t Y hY =>
  ⟨by rw [len m c t Y hY]; exact hl c (bt t), rfl, rfl, rfl, rfl, rfl, rfl, rfl, rfl, fun _ => trivial, fun _ => trivial,
    congrArg (fun X : Vec Ideal S1x4096x128 .i8 => if t.val % 32 = 0 then X else (Y 10 : Vec Ideal S1x4096x128 .i8)) (w10 m c t Y hY),
    congrArg (fun X : Vec Ideal S1x64x1 .f32 => if t.val % 32 = 0 then X else (Y 11 : Vec Ideal S1x64x1 .f32)) (w11 m c t Y hY),
    congrArg (fun X : Vec Ideal S1x4096x128 .fp8e4m3 => if t.val % 32 = 0 then X else (Y 12 : Vec Ideal S1x4096x128 .fp8e4m3)) (w12 m c t Y hY),
    congrArg (fun X : Vec Ideal S1x1x128 .f32 => if t.val % 32 = 0 then X else (Y 13 : Vec Ideal S1x1x128 .f32)) (w13 m c t Y hY)⟩

/-! ## What is flushed -/

abbrev G10 (c : Dev nD) : Buf (Elt Ideal) ((c : Thread nD τ).loc main_v1_2) := kCodes (ARGS m c)
abbrev G11 (c : Dev nD) : Buf (Elt Ideal) ((c : Thread nD τ).loc main_v1_3) := kScales (ARGS m c)
abbrev G12 (c : Dev nD) : Buf (Elt Ideal) ((c : Thread nD τ).loc main_v1_4) := vCodes (ARGS m c)
abbrev G13 (c : Dev nD) : Buf (Elt Ideal) ((c : Thread nD τ).loc main_v1_5) := vScales (ARGS m c)

theorem held10 (c : Dev nD) : ∀ (n : ℕ) (hn : n < cfg0.N) (X : Vec Ideal S1x4096x128 .i8), (rd m c).Leaves 10 ⟨n, hn⟩ X →
    X = W10 (ARGS m c) (bt ⟨n, hn⟩)
  | 0, hn, X, ⟨Y, hY, hR⟩ => (hR : X = if 0 % 32 = 0 then W10 (ARGS m c) (bt ⟨0, hn⟩) else Y).trans (if_pos rfl)
  | n + 1, hn, X, ⟨Y, hY, hR⟩ => by
    have hN : cfg0.N = 64 := N_0
    refine (hR : X = if (n + 1) % 32 = 0 then W10 (ARGS m c) (bt ⟨n + 1, hn⟩) else Y).trans ?_
    by_cases h0 : (n + 1) % 32 = 0
    · exact if_pos h0
    · refine (if_neg h0).trans ?_
      have hL := ((rd m c).finds_of_pos (w := 10) (t := ⟨n + 1, hn⟩) rfl (Nat.succ_ne_zero n) Y).mp hY
      rcases hL with hfl | hL
      · have := (flush0_10 _).mp hfl
        have e' : (⟨n + 1, hn⟩ : Fin cfg0.N).val - 1 = n := rfl
        dsimp only at this
        omega
      · refine (held10 c n (by omega) Y hL).trans (congrArg (W10 (ARGS m c)) ?_)
        exact Fin.ext (by show n / 32 = (n + 1) / 32; omega)

theorem held11 (c : Dev nD) : ∀ (n : ℕ) (hn : n < cfg0.N) (X : Vec Ideal S1x64x1 .f32), (rd m c).Leaves 11 ⟨n, hn⟩ X →
    X = W11 (ARGS m c) (bt ⟨n, hn⟩)
  | 0, hn, X, ⟨Y, hY, hR⟩ => (hR : X = if 0 % 32 = 0 then W11 (ARGS m c) (bt ⟨0, hn⟩) else Y).trans (if_pos rfl)
  | n + 1, hn, X, ⟨Y, hY, hR⟩ => by
    have hN : cfg0.N = 64 := N_0
    refine (hR : X = if (n + 1) % 32 = 0 then W11 (ARGS m c) (bt ⟨n + 1, hn⟩) else Y).trans ?_
    by_cases h0 : (n + 1) % 32 = 0
    · exact if_pos h0
    · refine (if_neg h0).trans ?_
      have hL := ((rd m c).finds_of_pos (w := 11) (t := ⟨n + 1, hn⟩) rfl (Nat.succ_ne_zero n) Y).mp hY
      rcases hL with hfl | hL
      · have := (flush0_11 _).mp hfl
        have e' : (⟨n + 1, hn⟩ : Fin cfg0.N).val - 1 = n := rfl
        dsimp only at this
        omega
      · refine (held11 c n (by omega) Y hL).trans (congrArg (W11 (ARGS m c)) ?_)
        exact Fin.ext (by show n / 32 = (n + 1) / 32; omega)

theorem held12 (c : Dev nD) : ∀ (n : ℕ) (hn : n < cfg0.N) (X : Vec Ideal S1x4096x128 .fp8e4m3), (rd m c).Leaves 12 ⟨n, hn⟩ X →
    X = W12 (ARGS m c) (bt ⟨n, hn⟩)
  | 0, hn, X, ⟨Y, hY, hR⟩ => (hR : X = if 0 % 32 = 0 then W12 (ARGS m c) (bt ⟨0, hn⟩) else Y).trans (if_pos rfl)
  | n + 1, hn, X, ⟨Y, hY, hR⟩ => by
    have hN : cfg0.N = 64 := N_0
    refine (hR : X = if (n + 1) % 32 = 0 then W12 (ARGS m c) (bt ⟨n + 1, hn⟩) else Y).trans ?_
    by_cases h0 : (n + 1) % 32 = 0
    · exact if_pos h0
    · refine (if_neg h0).trans ?_
      have hL := ((rd m c).finds_of_pos (w := 12) (t := ⟨n + 1, hn⟩) rfl (Nat.succ_ne_zero n) Y).mp hY
      rcases hL with hfl | hL
      · have := (flush0_12 _).mp hfl
        have e' : (⟨n + 1, hn⟩ : Fin cfg0.N).val - 1 = n := rfl
        dsimp only at this
        omega
      · refine (held12 c n (by omega) Y hL).trans (congrArg (W12 (ARGS m c)) ?_)
        exact Fin.ext (by show n / 32 = (n + 1) / 32; omega)

theorem held13 (c : Dev nD) : ∀ (n : ℕ) (hn : n < cfg0.N) (X : Vec Ideal S1x1x128 .f32), (rd m c).Leaves 13 ⟨n, hn⟩ X →
    X = W13 (ARGS m c) (bt ⟨n, hn⟩)
  | 0, hn, X, ⟨Y, hY, hR⟩ => (hR : X = if 0 % 32 = 0 then W13 (ARGS m c) (bt ⟨0, hn⟩) else Y).trans (if_pos rfl)
  | n + 1, hn, X, ⟨Y, hY, hR⟩ => by
    have hN : cfg0.N = 64 := N_0
    refine (hR : X = if (n + 1) % 32 = 0 then W13 (ARGS m c) (bt ⟨n + 1, hn⟩) else Y).trans ?_
    by_cases h0 : (n + 1) % 32 = 0
    · exact if_pos h0
    · refine (if_neg h0).trans ?_
      have hL := ((rd m c).finds_of_pos (w := 13) (t := ⟨n + 1, hn⟩) rfl (Nat.succ_ne_zero n) Y).mp hY
      rcases hL with hfl | hL
      · have := (flush0_13 _).mp hfl
        have e' : (⟨n + 1, hn⟩ : Fin cfg0.N).val - 1 = n := rfl
        dsimp only at this
        omega
      · refine (held13 c n (by omega) Y hL).trans (congrArg (W13 (ARGS m c)) ?_)
        exact Fin.ext (by show n / 32 = (n + 1) / 32; omega)

variable (aft : (w : Fin cfg0.W) → (t : Fin cfg0.N) → (cfg0.win w).block.Idx → Elt Ideal (cfg0.win w).elt)

theorem flushed10 (c : Dev nD) (hL : ∀ w u, (cfg0.win w).flush u = true → (rd m c).Leaves w u (aft w u)) (t : Fin cfg0.N)
    (ht : (cfg0.win 10).flush t = true) :
    ((rd m c).withAfter aft).flushed 10 t = ((cfg0.win 10).blk t).view.read (Elt Ideal) (G10 m c) := by
  funext j
  obtain ⟨z, y, k, rfl⟩ : ∃ (z : Fin 1) (y : Fin 4096) (k : Fin 128), j = ix3 z y k := ⟨j 0, j 1, j 2, eq_ix3 j⟩
  obtain rfl : z = 0 := Subsingleton.elim _ _
  have e : ((cfg0.win 10).blk t).view.read (Elt Ideal) (G10 m c) (ix3 0 y k) = G10 m c (ix3 (bt t) y k) := by
    rw [View.read_apply]
    show G10 m c _ = G10 m c _
    congr 1
    funext d
    apply Fin.ext
    match d with
    | ⟨0, _⟩ => show win0_10.index t 0 * 1 + 1 * 0 = t.val / 32; rw [(idx10 t).1]; omega
    | ⟨1, _⟩ => show win0_10.index t 1 * 4096 + 1 * y.val = y.val; rw [(idx10 t).2.1]; omega
    | ⟨2, _⟩ => show win0_10.index t 2 * 128 + 1 * k.val = k.val; rw [(idx10 t).2.2]; omega
  exact Eq.trans (congrFun (held10 m c t.val t.isLt (aft 10 t) (hL 10 t ht)) (ix3 0 y k)) e.symm

theorem cover10 (i : S2x4096x128.Idx) : ∃ t : Fin cfg0.N, (cfg0.win 10).flush t = true ∧ i ∈ ((cfg0.win 10).blk t).view.set := by
  have h0 : (i 0 : Nat) < 2 := (i 0).isLt
  have h1 : (i 1 : Nat) < 4096 := (i 1).isLt
  have h2 : (i 2 : Nat) < 128 := (i 2).isLt
  have hN : cfg0.N = 64 := N_0
  obtain ⟨t, ht⟩ : ∃ t : Fin cfg0.N, t.val = 32 * (i 0 : Nat) + 31 := ⟨⟨32 * (i 0 : Nat) + 31, by omega⟩, rfl⟩
  refine ⟨t, (flush0_10 t).mpr (by omega), ?_⟩
  show i ∈ ((View.whole main_v1_2).slice (win0_10.rect t)).set
  rw [View.set_slice_whole, Rect.mem_set_unit]
  intro d
  match d with
  | ⟨0, _⟩ =>
    show win0_10.index t 0 * 1 ≤ (i 0 : Nat) ∧ (i 0 : Nat) < win0_10.index t 0 * 1 + 1
    rw [(idx10 t).1]; omega
  | ⟨1, _⟩ =>
    show win0_10.index t 1 * 4096 ≤ (i 1 : Nat) ∧ (i 1 : Nat) < win0_10.index t 1 * 4096 + 4096
    rw [(idx10 t).2.1]; omega
  | ⟨2, _⟩ =>
    show win0_10.index t 2 * 128 ≤ (i 2 : Nat) ∧ (i 2 : Nat) < win0_10.index t 2 * 128 + 128
    rw [(idx10 t).2.2]; omega

theorem flushed11 (c : Dev nD) (hL : ∀ w u, (cfg0.win w).flush u = true → (rd m c).Leaves w u (aft w u)) (t : Fin cfg0.N)
    (ht : (cfg0.win 11).flush t = true) :
    ((rd m c).withAfter aft).flushed 11 t = ((cfg0.win 11).blk t).view.read (Elt Ideal) (G11 m c) := by
  funext j
  obtain ⟨z, y, k, rfl⟩ : ∃ (z : Fin 1) (y : Fin 64) (k : Fin 1), j = ix3 z y k := ⟨j 0, j 1, j 2, eq_ix3 j⟩
  obtain rfl : z = 0 := Subsingleton.elim _ _
  obtain rfl : k = 0 := Subsingleton.elim _ _
  have e : ((cfg0.win 11).blk t).view.read (Elt Ideal) (G11 m c) (ix3 0 y 0) = G11 m c (ix3 (bt t) y 0) := by
    rw [View.read_apply]
    show G11 m c _ = G11 m c _
    congr 1
    funext d
    apply Fin.ext
    match d with
    | ⟨0, _⟩ => show win0_11.index t 0 * 1 + 1 * 0 = t.val / 32; rw [(idx11 t).1]; omega
    | ⟨1, _⟩ => show win0_11.index t 1 * 64 + 1 * y.val = y.val; rw [(idx11 t).2.1]; omega
    | ⟨2, _⟩ => show win0_11.index t 2 * 1 + 1 * 0 = 0; rw [(idx11 t).2.2]
  exact Eq.trans (congrFun (held11 m c t.val t.isLt (aft 11 t) (hL 11 t ht)) (ix3 0 y 0)) e.symm

theorem cover11 (i : S2x64x1.Idx) : ∃ t : Fin cfg0.N, (cfg0.win 11).flush t = true ∧ i ∈ ((cfg0.win 11).blk t).view.set := by
  have h0 : (i 0 : Nat) < 2 := (i 0).isLt
  have h1 : (i 1 : Nat) < 64 := (i 1).isLt
  have h2 : (i 2 : Nat) < 1 := (i 2).isLt
  have hN : cfg0.N = 64 := N_0
  obtain ⟨t, ht⟩ : ∃ t : Fin cfg0.N, t.val = 32 * (i 0 : Nat) + 31 := ⟨⟨32 * (i 0 : Nat) + 31, by omega⟩, rfl⟩
  refine ⟨t, (flush0_11 t).mpr (by omega), ?_⟩
  show i ∈ ((View.whole main_v1_3).slice (win0_11.rect t)).set
  rw [View.set_slice_whole, Rect.mem_set_unit]
  intro d
  match d with
  | ⟨0, _⟩ =>
    show win0_11.index t 0 * 1 ≤ (i 0 : Nat) ∧ (i 0 : Nat) < win0_11.index t 0 * 1 + 1
    rw [(idx11 t).1]; omega
  | ⟨1, _⟩ =>
    show win0_11.index t 1 * 64 ≤ (i 1 : Nat) ∧ (i 1 : Nat) < win0_11.index t 1 * 64 + 64
    rw [(idx11 t).2.1]; omega
  | ⟨2, _⟩ =>
    show win0_11.index t 2 * 1 ≤ (i 2 : Nat) ∧ (i 2 : Nat) < win0_11.index t 2 * 1 + 1
    rw [(idx11 t).2.2]; omega

theorem flushed12 (c : Dev nD) (hL : ∀ w u, (cfg0.win w).flush u = true → (rd m c).Leaves w u (aft w u)) (t : Fin cfg0.N)
    (ht : (cfg0.win 12).flush t = true) :
    ((rd m c).withAfter aft).flushed 12 t = ((cfg0.win 12).blk t).view.read (Elt Ideal) (G12 m c) := by
  funext j
  obtain ⟨z, y, k, rfl⟩ : ∃ (z : Fin 1) (y : Fin 4096) (k : Fin 128), j = ix3 z y k := ⟨j 0, j 1, j 2, eq_ix3 j⟩
  obtain rfl : z = 0 := Subsingleton.elim _ _
  have e : ((cfg0.win 12).blk t).view.read (Elt Ideal) (G12 m c) (ix3 0 y k) = G12 m c (ix3 (bt t) y k) := by
    rw [View.read_apply]
    show G12 m c _ = G12 m c _
    congr 1
    funext d
    apply Fin.ext
    match d with
    | ⟨0, _⟩ => show win0_12.index t 0 * 1 + 1 * 0 = t.val / 32; rw [(idx12 t).1]; omega
    | ⟨1, _⟩ => show win0_12.index t 1 * 4096 + 1 * y.val = y.val; rw [(idx12 t).2.1]; omega
    | ⟨2, _⟩ => show win0_12.index t 2 * 128 + 1 * k.val = k.val; rw [(idx12 t).2.2]; omega
  exact Eq.trans (congrFun (held12 m c t.val t.isLt (aft 12 t) (hL 12 t ht)) (ix3 0 y k)) e.symm

theorem cover12 (i : S2x4096x128.Idx) : ∃ t : Fin cfg0.N, (cfg0.win 12).flush t = true ∧ i ∈ ((cfg0.win 12).blk t).view.set := by
  have h0 : (i 0 : Nat) < 2 := (i 0).isLt
  have h1 : (i 1 : Nat) < 4096 := (i 1).isLt
  have h2 : (i 2 : Nat) < 128 := (i 2).isLt
  have hN : cfg0.N = 64 := N_0
  obtain ⟨t, ht⟩ : ∃ t : Fin cfg0.N, t.val = 32 * (i 0 : Nat) + 31 := ⟨⟨32 * (i 0 : Nat) + 31, by omega⟩, rfl⟩
  refine ⟨t, (flush0_12 t).mpr (by omega), ?_⟩
  show i ∈ ((View.whole main_v1_4).slice (win0_12.rect t)).set
  rw [View.set_slice_whole, Rect.mem_set_unit]
  intro d
  match d with
  | ⟨0, _⟩ =>
    show win0_12.index t 0 * 1 ≤ (i 0 : Nat) ∧ (i 0 : Nat) < win0_12.index t 0 * 1 + 1
    rw [(idx12 t).1]; omega
  | ⟨1, _⟩ =>
    show win0_12.index t 1 * 4096 ≤ (i 1 : Nat) ∧ (i 1 : Nat) < win0_12.index t 1 * 4096 + 4096
    rw [(idx12 t).2.1]; omega
  | ⟨2, _⟩ =>
    show win0_12.index t 2 * 128 ≤ (i 2 : Nat) ∧ (i 2 : Nat) < win0_12.index t 2 * 128 + 128
    rw [(idx12 t).2.2]; omega

theorem flushed13 (c : Dev nD) (hL : ∀ w u, (cfg0.win w).flush u = true → (rd m c).Leaves w u (aft w u)) (t : Fin cfg0.N)
    (ht : (cfg0.win 13).flush t = true) :
    ((rd m c).withAfter aft).flushed 13 t = ((cfg0.win 13).blk t).view.read (Elt Ideal) (G13 m c) := by
  funext j
  obtain ⟨z, y, k, rfl⟩ : ∃ (z : Fin 1) (y : Fin 1) (k : Fin 128), j = ix3 z y k := ⟨j 0, j 1, j 2, eq_ix3 j⟩
  obtain rfl : z = 0 := Subsingleton.elim _ _
  obtain rfl : y = 0 := Subsingleton.elim _ _
  have e : ((cfg0.win 13).blk t).view.read (Elt Ideal) (G13 m c) (ix3 0 0 k) = G13 m c (ix3 (bt t) 0 k) := by
    rw [View.read_apply]
    show G13 m c _ = G13 m c _
    congr 1
    funext d
    apply Fin.ext
    match d with
    | ⟨0, _⟩ => show win0_13.index t 0 * 1 + 1 * 0 = t.val / 32; rw [(idx13 t).1]; omega
    | ⟨1, _⟩ => show win0_13.index t 1 * 1 + 1 * 0 = 0; rw [(idx13 t).2.1]
    | ⟨2, _⟩ => show win0_13.index t 2 * 128 + 1 * k.val = k.val; rw [(idx13 t).2.2]; omega
  exact Eq.trans (congrFun (held13 m c t.val t.isLt (aft 13 t) (hL 13 t ht)) (ix3 0 0 k)) e.symm

theorem cover13 (i : S2x1x128.Idx) : ∃ t : Fin cfg0.N, (cfg0.win 13).flush t = true ∧ i ∈ ((cfg0.win 13).blk t).view.set := by
  have h0 : (i 0 : Nat) < 2 := (i 0).isLt
  have h1 : (i 1 : Nat) < 1 := (i 1).isLt
  have h2 : (i 2 : Nat) < 128 := (i 2).isLt
  have hN : cfg0.N = 64 := N_0
  obtain ⟨t, ht⟩ : ∃ t : Fin cfg0.N, t.val = 32 * (i 0 : Nat) + 31 := ⟨⟨32 * (i 0 : Nat) + 31, by omega⟩, rfl⟩
  refine ⟨t, (flush0_13 t).mpr (by omega), ?_⟩
  show i ∈ ((View.whole main_v1_5).slice (win0_13.rect t)).set
  rw [View.set_slice_whole, Rect.mem_set_unit]
  intro d
  match d with
  | ⟨0, _⟩ =>
    show win0_13.index t 0 * 1 ≤ (i 0 : Nat) ∧ (i 0 : Nat) < win0_13.index t 0 * 1 + 1
    rw [(idx13 t).1]; omega
  | ⟨1, _⟩ =>
    show win0_13.index t 1 * 1 ≤ (i 1 : Nat) ∧ (i 1 : Nat) < win0_13.index t 1 * 1 + 1
    rw [(idx13 t).2.1]; omega
  | ⟨2, _⟩ =>
    show win0_13.index t 2 * 128 ≤ (i 2 : Nat) ∧ (i 2 : Nat) < win0_13.index t 2 * 128 + 128
    rw [(idx13 t).2.2]; omega

/-- The run, read: the result arrays, the arguments unchanged. -/
theorem value (hl : Long m) : θ_run defs (onTc (τ := τ) (main (F := Ideal))) ⟨m, fun _ => 0, ρ⟩ fun r => ∀ c : Dev nD,
      r.2.mem ((c : Thread nD τ).loc main_v1_2) = G10 m c
      ∧ r.2.mem ((c : Thread nD τ).loc main_v1_3) = G11 m c
      ∧ r.2.mem ((c : Thread nD τ).loc main_v1_4) = G12 m c
      ∧ r.2.mem ((c : Thread nD τ).loc main_v1_5) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ?_) (Cert.Proof.AttnIdeal.run m ρ (after m) (steps m hl))
  obtain ⟨aft, hL, hA⟩ := RDat.FramePost.exists_exact h.1 c
  exact ⟨(hA 10).trans (((rd m c).withAfter aft).arrAt_eq_of_cover 10 (G10 m c) (flushed10 m aft c hL) cover10),
    (hA 11).trans (((rd m c).withAfter aft).arrAt_eq_of_cover 11 (G11 m c) (flushed11 m aft c hL) cover11),
    (hA 12).trans (((rd m c).withAfter aft).arrAt_eq_of_cover 12 (G12 m c) (flushed12 m aft c hL) cover12),
    (hA 13).trans (((rd m c).withAfter aft).arrAt_eq_of_cover 13 (G13 m c) (flushed13 m aft c hL) cover13),
    Cert.Proof.AttnIdeal.unchanged_of m _ h.1 c⟩

end Cert.Proof.AttnKernel

end
-- ==== Proof.AttnRefPay.lean ====
/-
  Hand-written, untrusted. THE CODES' AND SCALES' REFERENCE over the extended reals: what its one block's values are.
-/
module

public import proofs.«01_k».proof.Proof.AttnSpec
public import proofs.«01_k».proof.Proof.Fold
public import proofs.«01_k».proof.Proof.Gen.AttnRefIdeal.Frame

@[expose] public section

set_option maxRecDepth 16384

noncomputable section

namespace Cert.Proof.AttnReference

open Idealize.ShloMosaic Idealize.ShloMosaic.TcCoe Idealize.SL.Sem Idealize.ShloMosaic.ValueIdx
open Cert.AttnRefIdeal Cert.AttnRefIdeal.Gen Cert.Proof.Ops Cert.Proof.Quant Cert.Proof.Fold Cert.Proof.QkvSpec Cert.Proof.AttnSpec
open Cert.Proof.QkvKernel (mid bmid)

section Keys

variable (x : Vec Ideal S2x4096x128 .f32) (μ : Vec Ideal S2x1x128 .f32) (s : Fin 2 → Fin 4096 → Fin 128 → EReal)
  (hs : ∀ b t d, (fun p q : EReal => p - q) (x (ix3 b t d)) (μ (ix3 b 0 d)) = s b t d)
include hs

theorem pay5 (b : Fin 2) (g r : Fin 64) (d : Fin 128) : k0_pay5 x μ (ix4 b g r d) = s b (rowK g r) d := by
  unfold k0_pay5
  refine (shapeCast_apply _ _ (ix4 b g r d) (ix3 b (rowK g r) d) ?_).trans ?_
  · rw [Shape.rowMajor_val_three, Shape.rowMajor_val_four]
    show (b.val * 4096 + (64 * g.val + r.val)) * 128 + d.val = ((b.val * 64 + g.val) * 64 + r.val) * 128 + d.val
    omega
  · exact (congrArg (fun q : EReal => (fun p q : EReal => p - q) (x (ix3 b (rowK g r) d)) q) (bmid μ _ b (rowK g r) d)).trans (hs b (rowK g r) d)

theorem pay6 (b : Fin 2) (g : Fin 64) : k0_pay6 x μ (ix2 b g) = kScF (s b) g := by
  unfold k0_pay6
  refine (select_sc8 _ (ix2 b g)).trans ?_
  unfold kScF
  refine congrArg sc8 ((rowmax3 _ _ _ _ b g).trans (congrArg fmax (funext fun r => (lastmax _ _ _ _ b g r).trans (congrArg fmax (funext fun d => ?_)))))
  exact congrArg (FloatOps.absf (F := Ideal) (φ := .f32)) (pay5 x μ s hs b g r d)

theorem kscale (b : Fin 2) (g : Fin 64) : k0_pay8 x μ (ix3 b g 0) = kScF (s b) g := by
  unfold k0_pay8
  exact (col3 _ _ b g).trans (pay6 x μ s hs b g)

theorem kcode (b : Fin 2) (t : Fin 4096) (d : Fin 128) : k0_pay7 x μ (ix3 b t d) = kCdF (s b) t d := by
  unfold k0_pay7
  have hr : t.val % 64 < 64 := by omega
  have e (P : FVec Ideal S2x64x64x128 .f32) (R : FVec Ideal S2x64 .f32) :
      shapeCast S2x4096x128 (fptosi 8 (minimumf (broadcast S2x64x64x128 (Scalar.ofBits (F := Ideal) .f32 0x42FE0000#32))
        (maximumf (broadcast S2x64x64x128 (Scalar.ofBits (F := Ideal) .f32 0xC2FE0000#32))
          (roundeven (divf P (broadcastTo S2x64x64x128 (shapeCast S2x64x1x1 R shapeCasts_S2x64_S2x64x1x1) broadcasts_S2x64x1x1_S2x64x64x128))))))
        shapeCasts_S2x64x64x128_S2x4096x128 (ix3 b t d)
      = code8 (Ideal.div (P (ix4 b (blkK t) (⟨t.val % 64, hr⟩ : Fin 64) d)) (R (ix2 b (blkK t)))) := by
    refine (shapeCast_apply _ _ (ix3 b t d) (ix4 b (blkK t) (⟨t.val % 64, hr⟩ : Fin 64) d) ?_).trans ?_
    · rw [Shape.rowMajor_val_three, Shape.rowMajor_val_four]
      show ((b.val * 64 + t.val / 64) * 64 + t.val % 64) * 128 + d.val = (b.val * 4096 + t.val) * 128 + d.val
      omega
    · refine congrArg (fun z => code8 (Ideal.div (P (ix4 b (blkK t) (⟨t.val % 64, hr⟩ : Fin 64) d)) z)) ?_
      exact (bcol44 _ _ b _ _ _).trans (shapeCast_apply _ _ (ix4 b (blkK t) 0 0) (ix2 b (blkK t)) (by
        rw [Shape.rowMajor_val_two, Shape.rowMajor_val_four]
        show b.val * 64 + t.val / 64 = ((b.val * 64 + t.val / 64) * 1 + 0) * 1 + 0
        omega))
  refine (e _ _).trans ?_
  have h1 := pay5 x μ s hs b (blkK t) (⟨t.val % 64, hr⟩ : Fin 64) d
  rw [show rowK (blkK t) (⟨t.val % 64, hr⟩ : Fin 64) = t from Fin.ext (by
    show 64 * (t.val / 64) + t.val % 64 = t.val; omega)] at h1
  unfold kCdF
  exact congrArg code8 (congrArg₂ (fun (p : EReal) (q : EReal) => Ideal.div p q) h1 (pay6 x μ s hs b (blkK t)))

end Keys

section Values

variable (n : Vec Ideal S2x1 .i32) (N : Fin 2 → BitVec 32) (hn : ∀ b, n (ix2 b 0) = N b)
  (x : Vec Ideal S2x4096x128 .f32) (μ : Vec Ideal S2x1x128 .f32) (s : Fin 2 → Fin 4096 → Fin 128 → EReal)
  (hs : ∀ b t d, (fun p q : EReal => p - q) (x (ix3 b t d)) (μ (ix3 b 0 d)) = s b t d)

include hn in
/-- The rows within the length. -/
theorem pay9 (b : Fin 2) (t : Fin 4096) : k0_pay9 (F := Ideal) n (ix2 b t) = IntOp.cmpi .slt (BitVec.ofNat 32 t.val) (N b) := by
  have e2 : iota .tc S2x4096 32 [1] iota_S2x4096_d1_w32 (ix2 b t) = BitVec.ofNat 32 t.val := by
    show BitVec.ofNat 32 (0 * 4096 + t.val) = _
    rw [Nat.zero_mul, Nat.zero_add]
  unfold k0_pay9
  rw [shapeCast_self]
  have e1 : broadcastTo S2x4096 (n : IVec S2x1 32) broadcasts_S2x1_S2x4096 (ix2 b t) = N b := (bcol _ _ b t).trans (hn b)
  show IntOp.cmpi .slt (iota .tc S2x4096 32 [1] iota_S2x4096_d1_w32 (ix2 b t)) (broadcastTo S2x4096 (n : IVec S2x1 32) broadcasts_S2x1_S2x4096 (ix2 b t)) = _
  rw [e1, e2]

include hs in
theorem pay1 (b : Fin 2) (t : Fin 4096) (d : Fin 128) : k0_pay1 x μ (ix3 b t d) = s b t d := by
  unfold k0_pay1
  exact (congrArg (fun q : EReal => (fun p q : EReal => p - q) (x (ix3 b t d)) q) (bmid μ _ b t d)).trans (hs b t d)

include hn hs

theorem pay2 (b : Fin 2) (d : Fin 128) : k0_pay2 (k0_pay9 (F := Ideal) n) x μ (ix2 b d) = vScF (N b) (s b) d := by
  unfold k0_pay2
  refine (select_sc _ (ix2 b d)).trans ?_
  unfold vScF
  refine congrArg sc ((midmax _ _ _ _ b d).trans (congrArg fmax (funext fun t => ?_)))
  show Scalar.select (broadcastTo S2x4096x128 (shapeCast S2x4096x1 (shapeCast S2x4096x1 (k0_pay9 (F := Ideal) n) shapeCasts_S2x4096_S2x4096x1) shapeCasts_S2x4096x1_S2x4096x1) broadcasts_S2x4096x1_S2x4096x128 (ix3 b t d))
    (FloatOps.absf (F := Ideal) (φ := .f32) (k0_pay1 x μ (ix3 b t d))) (Ideal.ofBits .f32 0x00000000#32) = _
  rw [bcol3, shapeCast_self, col3, pay9 n N hn, Ideal.ofBits_zero_f32, pay1 x μ s hs]
  rfl

theorem vscale (b : Fin 2) (d : Fin 128) : k0_pay4 (k0_pay9 (F := Ideal) n) x μ (ix3 b 0 d) = vScF (N b) (s b) d := by
  unfold k0_pay4
  exact (mid _ _ b d).trans (pay2 n N hn x μ s hs b d)

theorem vcode (b : Fin 2) (t : Fin 4096) (d : Fin 128) : k0_pay3 (k0_pay9 (F := Ideal) n) x μ (ix3 b t d) = vCdF (N b) (s b) t d := by
  unfold k0_pay3
  have e (P : FVec Ideal S2x4096x128 .f32) (R : FVec Ideal S2x128 .f32) :
      truncf .fp8e4m3 (minimumf (broadcast S2x4096x128 (Scalar.ofBits (F := Ideal) .f32 0x43E00000#32))
        (maximumf (broadcast S2x4096x128 (Scalar.ofBits (F := Ideal) .f32 0xC3E00000#32))
          (divf P (broadcastTo S2x4096x128 (shapeCast S2x1x128 R shapeCasts_S2x128_S2x1x128) broadcasts_S2x1x128_S2x4096x128)))) bitsLt_fp8e4m3_f32 (ix3 b t d)
      = clip (Ideal.div (P (ix3 b t d)) (R (ix2 b d))) :=
    congrArg (fun z : EReal => clip (Ideal.div (P (ix3 b t d)) z)) ((bmid _ _ b t d).trans (mid _ _ b d))
  refine (e _ _).trans ?_
  unfold vCdF
  exact congrArg clip (congrArg₂ (fun (p : EReal) (q : EReal) => Ideal.div p q) (pay1 x μ s hs b t d) (pay2 n N hn x μ s hs b d))

end Values

end Cert.Proof.AttnReference

end
-- ==== Proof.AttnRef.lean ====
/-
  Hand-written, untrusted. THE CODES' AND SCALES' REFERENCE, RUN, and the claim: the kernel's four arrays of the keys' and
  values' codes and scales and the reference's are equal, where no batch is empty.
-/
module

public import proofs.«01_k».proof.Defs
public import proofs.«01_k».proof.Proof.AttnKernel
public import proofs.«01_k».proof.Proof.AttnRefPay

@[expose] public section

set_option maxRecDepth 16384

noncomputable section

namespace Cert.Proof.AttnReference

open Idealize.ShloMosaic Idealize.ShloMosaic.TcCoe Idealize.SL.Sem Idealize.ShloMosaic.ValueIdx
open Cert.AttnRefIdeal Cert.AttnRefIdeal.Gen Cert.Proof.Ops Cert.Proof.Fold Cert.Proof.AttnSpec

variable (m : (ℓ : Loc nD τ sig) → Buf (Elt Ideal) ℓ) (ρ : Dev nD → PrngReg)

theorem hz3 : (![0, 0, 0] : Fin 3 → Nat) = fun _ => 0 := funext fun a => by fin_cases a <;> rfl

/-! Loads of whole blocks. -/

theorem ld0 (x : Vec Ideal S2x1 .i32) : View.ld x r0_3 = x := by rw [View.ld_unit_zero hz]
theorem ld1 (x : Vec Ideal S2x4096x128 .f32) : View.ld x r0_0 = x := by rw [View.ld_unit_zero hz3]
theorem ld3 (x : Vec Ideal S2x1x128 .f32) : View.ld x r0_1 = x := by rw [View.ld_unit_zero hz3]

theorem e10 (x0 : Vec Ideal S2x1 .i32) (x1 x2 : Vec Ideal S2x4096x128 .f32) (x3 x4 : Vec Ideal S2x1x128 .f32) :
    k0_pay10 (F := Ideal) x0 x1 x2 x3 x4 = k0_pay9 (F := Ideal) x0 := by
  unfold k0_pay10
  rw [ld0]

/-! ## The windows: each block is its whole array -/

theorem idx0 : ∀ (t : Fin grid0.N) (d : Fin 2), win0_0.index t d = 0 := by decide +kernel
theorem idx1 : ∀ (t : Fin grid0.N) (d : Fin 3), win0_1.index t d = 0 := by decide +kernel
theorem idx2 : ∀ (t : Fin grid0.N) (d : Fin 3), win0_2.index t d = 0 := by decide +kernel
theorem idx3 : ∀ (t : Fin grid0.N) (d : Fin 3), win0_3.index t d = 0 := by decide +kernel
theorem idx4 : ∀ (t : Fin grid0.N) (d : Fin 3), win0_4.index t d = 0 := by decide +kernel
theorem idx5 : ∀ (t : Fin grid0.N) (d : Fin 3), win0_5.index t d = 0 := by decide +kernel
theorem idx6 : ∀ (t : Fin grid0.N) (d : Fin 3), win0_6.index t d = 0 := by decide +kernel
theorem idx7 : ∀ (t : Fin grid0.N) (d : Fin 3), win0_7.index t d = 0 := by decide +kernel
theorem idx8 : ∀ (t : Fin grid0.N) (d : Fin 3), win0_8.index t d = 0 := by decide +kernel

theorem b0 (c : Dev nD) (t : Fin cfg0.N) : (iblk m c 0 t : Vec Ideal S2x1 .i32) = V m c main_v0 := by
  have hz' : (fun a => win0_0.index t a * main_v0.ty.shape.size a) = fun _ => 0 := funext fun a => by rw [idx0 t, Nat.zero_mul]
  exact Memref.read_access_unit_zero (Elt Ideal) main_v0 hz' (fun a => by rw [congrFun hz' a]; simp) (V m c main_v0)
theorem b1 (c : Dev nD) (t : Fin cfg0.N) : (iblk m c 1 t : Vec Ideal S2x4096x128 .f32) = V m c main_arg4 := by
  have hz' : (fun a => win0_1.index t a * main_arg4.ty.shape.size a) = fun _ => 0 := funext fun a => by rw [idx1 t, Nat.zero_mul]
  exact Memref.read_access_unit_zero (Elt Ideal) main_arg4 hz' (fun a => by rw [congrFun hz' a]; simp) (V m c main_arg4)
theorem b2 (c : Dev nD) (t : Fin cfg0.N) : (iblk m c 2 t : Vec Ideal S2x4096x128 .f32) = V m c main_arg5 := by
  have hz' : (fun a => win0_2.index t a * main_arg5.ty.shape.size a) = fun _ => 0 := funext fun a => by rw [idx2 t, Nat.zero_mul]
  exact Memref.read_access_unit_zero (Elt Ideal) main_arg5 hz' (fun a => by rw [congrFun hz' a]; simp) (V m c main_arg5)
theorem b3 (c : Dev nD) (t : Fin cfg0.N) : (iblk m c 3 t : Vec Ideal S2x1x128 .f32) = V m c main_arg6 := by
  have hz' : (fun a => win0_3.index t a * main_arg6.ty.shape.size a) = fun _ => 0 := funext fun a => by rw [idx3 t, Nat.zero_mul]
  exact Memref.read_access_unit_zero (Elt Ideal) main_arg6 hz' (fun a => by rw [congrFun hz' a]; simp) (V m c main_arg6)
theorem b4 (c : Dev nD) (t : Fin cfg0.N) : (iblk m c 4 t : Vec Ideal S2x1x128 .f32) = V m c main_arg7 := by
  have hz' : (fun a => win0_4.index t a * main_arg7.ty.shape.size a) = fun _ => 0 := funext fun a => by rw [idx4 t, Nat.zero_mul]
  exact Memref.read_access_unit_zero (Elt Ideal) main_arg7 hz' (fun a => by rw [congrFun hz' a]; simp) (V m c main_arg7)

/-- The arguments on device `c`. -/
def ARGS (c : Dev nD) : Args :=
  Args.of (m ((c : Thread nD τ).loc main_arg0)) (m ((c : Thread nD τ).loc main_arg4)) (m ((c : Thread nD τ).loc main_arg5))
    (m ((c : Thread nD τ).loc main_arg6)) (m ((c : Thread nD τ).loc main_arg7))

theorem V_n (c : Dev nD) (b : Fin 2) : (V m c main_v0 : Vec Ideal S2x1 .i32) (ix2 b 0) = (ARGS m c).n b := by
  unfold V hostOps0
  after_results
  exact broadcastInDim_apply _ _ _ (ix2 b 0) (ix1 b) fun a => by
    match a with
    | ⟨0, _⟩ => simp [ix1, ix2]

theorem keys (c : Dev nD) (b : Fin 2) (t : Fin 4096) (d : Fin 128) :
    (fun p q : EReal => p - q) ((V m c main_arg4 : Vec Ideal S2x4096x128 .f32) (ix3 b t d)) ((V m c main_arg6 : Vec Ideal S2x1x128 .f32) (ix3 b 0 d)) = sK (ARGS m c) b t d :=
  congrArg₂ (fun p q : EReal => p - q) (congrFun (V_main_arg4 m c) (ix3 b t d)) (congrFun (V_main_arg6 m c) (ix3 b 0 d))

theorem values (c : Dev nD) (b : Fin 2) (t : Fin 4096) (d : Fin 128) :
    (fun p q : EReal => p - q) ((V m c main_arg5 : Vec Ideal S2x4096x128 .f32) (ix3 b t d)) ((V m c main_arg7 : Vec Ideal S2x1x128 .f32) (ix3 b 0 d)) = sV (ARGS m c) b t d :=
  congrArg₂ (fun p q : EReal => p - q) (congrFun (V_main_arg5 m c) (ix3 b t d)) (congrFun (V_main_arg7 m c) (ix3 b 0 d))

/-! ## The result arrays -/

abbrev G0 (c : Dev nD) : Buf (Elt Ideal) ((c : Thread nD τ).loc main_v1_0) := kCodes (ARGS m c)
abbrev G1 (c : Dev nD) : Buf (Elt Ideal) ((c : Thread nD τ).loc main_v1_1) := kScales (ARGS m c)
abbrev G2 (c : Dev nD) : Buf (Elt Ideal) ((c : Thread nD τ).loc main_v1_2) := vCodes (ARGS m c)
abbrev G3 (c : Dev nD) : Buf (Elt Ideal) ((c : Thread nD τ).loc main_v1_3) := vScales (ARGS m c)

theorem flushed5 (c : Dev nD) (t : Fin cfg0.N) :
    (dats m 0 c).flushed 5 t = ((cfg0.win 5).blk t).view.read (Elt Ideal) (G0 m c) := by
  have hz' : (fun a => win0_5.index t a * main_v1_0.ty.shape.size a) = fun _ => 0 := funext fun a => by rw [idx5 t, Nat.zero_mul]
  refine Eq.trans ?_ (Memref.read_access_unit_zero (Elt Ideal) main_v1_0 hz' (fun a => by rw [congrFun hz' a]; simp) (G0 m c)).symm
  funext j
  obtain ⟨a, b, k, rfl⟩ : ∃ (a : Fin 2) (b : Fin 4096) (k : Fin 128), j = ix3 a b k := ⟨j 0, j 1, j 2, eq_ix3 j⟩
  show (dats m 0 c).after 5 t (ix3 a b k) = _
  rw [after0_5]
  unfold out0_5
  rw [View.canon_unit_zero hz3, ld1, ld3, b1, b3]
  exact kcode _ _ _ (keys m c) a b k

theorem cover5 (i : S2x4096x128.Idx) : ∃ t : Fin cfg0.N, (cfg0.win 5).flush t = true ∧ i ∈ ((cfg0.win 5).blk t).view.set := by
  have hN : cfg0.N = 1 := N_0
  obtain ⟨t, -⟩ : ∃ t : Fin cfg0.N, t.val = 0 := ⟨⟨0, by omega⟩, rfl⟩
  refine ⟨t, flush0_5 _, ?_⟩
  show i ∈ ((View.whole main_v1_0).slice (win0_5.rect t)).set
  rw [View.set_slice_whole, Rect.mem_set_unit]
  intro d
  show win0_5.index t d * _ ≤ (i d : Nat) ∧ (i d : Nat) < win0_5.index t d * _ + _
  rw [idx5 t d, Nat.zero_mul, Nat.zero_add]
  exact ⟨Nat.zero_le _, (i d).isLt⟩

theorem flushed6 (c : Dev nD) (t : Fin cfg0.N) :
    (dats m 0 c).flushed 6 t = ((cfg0.win 6).blk t).view.read (Elt Ideal) (G1 m c) := by
  have hz' : (fun a => win0_6.index t a * main_v1_1.ty.shape.size a) = fun _ => 0 := funext fun a => by rw [idx6 t, Nat.zero_mul]
  refine Eq.trans ?_ (Memref.read_access_unit_zero (Elt Ideal) main_v1_1 hz' (fun a => by rw [congrFun hz' a]; simp) (G1 m c)).symm
  funext j
  obtain ⟨a, b, k, rfl⟩ : ∃ (a : Fin 2) (b : Fin 64) (k : Fin 1), j = ix3 a b k := ⟨j 0, j 1, j 2, eq_ix3 j⟩
  obtain rfl : k = 0 := Subsingleton.elim _ _
  show (dats m 0 c).after 6 t (ix3 a b 0) = _
  rw [after0_6]
  unfold out0_6
  rw [View.canon_unit_zero hz3, ld1, ld3, b1, b3]
  exact kscale _ _ _ (keys m c) a b

theorem cover6 (i : S2x64x1.Idx) : ∃ t : Fin cfg0.N, (cfg0.win 6).flush t = true ∧ i ∈ ((cfg0.win 6).blk t).view.set := by
  have hN : cfg0.N = 1 := N_0
  obtain ⟨t, -⟩ : ∃ t : Fin cfg0.N, t.val = 0 := ⟨⟨0, by omega⟩, rfl⟩
  refine ⟨t, flush0_6 _, ?_⟩
  show i ∈ ((View.whole main_v1_1).slice (win0_6.rect t)).set
  rw [View.set_slice_whole, Rect.mem_set_unit]
  intro d
  show win0_6.index t d * _ ≤ (i d : Nat) ∧ (i d : Nat) < win0_6.index t d * _ + _
  rw [idx6 t d, Nat.zero_mul, Nat.zero_add]
  exact ⟨Nat.zero_le _, (i d).isLt⟩

theorem flushed7 (c : Dev nD) (t : Fin cfg0.N) :
    (dats m 0 c).flushed 7 t = ((cfg0.win 7).blk t).view.read (Elt Ideal) (G2 m c) := by
  have hz' : (fun a => win0_7.index t a * main_v1_2.ty.shape.size a) = fun _ => 0 := funext fun a => by rw [idx7 t, Nat.zero_mul]
  refine Eq.trans ?_ (Memref.read_access_unit_zero (Elt Ideal) main_v1_2 hz' (fun a => by rw [congrFun hz' a]; simp) (G2 m c)).symm
  funext j
  obtain ⟨a, b, k, rfl⟩ : ∃ (a : Fin 2) (b : Fin 4096) (k : Fin 128), j = ix3 a b k := ⟨j 0, j 1, j 2, eq_ix3 j⟩
  show (dats m 0 c).after 7 t (ix3 a b k) = _
  rw [after0_7]
  unfold out0_7
  rw [View.canon_unit_zero hz3, e10, ld1, ld3, b0, b2, b4]
  exact vcode _ _ (V_n m c) _ _ _ (values m c) a b k

theorem cover7 (i : S2x4096x128.Idx) : ∃ t : Fin cfg0.N, (cfg0.win 7).flush t = true ∧ i ∈ ((cfg0.win 7).blk t).view.set := by
  have hN : cfg0.N = 1 := N_0
  obtain ⟨t, -⟩ : ∃ t : Fin cfg0.N, t.val = 0 := ⟨⟨0, by omega⟩, rfl⟩
  refine ⟨t, flush0_7 _, ?_⟩
  show i ∈ ((View.whole main_v1_2).slice (win0_7.rect t)).set
  rw [View.set_slice_whole, Rect.mem_set_unit]
  intro d
  show win0_7.index t d * _ ≤ (i d : Nat) ∧ (i d : Nat) < win0_7.index t d * _ + _
  rw [idx7 t d, Nat.zero_mul, Nat.zero_add]
  exact ⟨Nat.zero_le _, (i d).isLt⟩

theorem flushed8 (c : Dev nD) (t : Fin cfg0.N) :
    (dats m 0 c).flushed 8 t = ((cfg0.win 8).blk t).view.read (Elt Ideal) (G3 m c) := by
  have hz' : (fun a => win0_8.index t a * main_v1_3.ty.shape.size a) = fun _ => 0 := funext fun a => by rw [idx8 t, Nat.zero_mul]
  refine Eq.trans ?_ (Memref.read_access_unit_zero (Elt Ideal) main_v1_3 hz' (fun a => by rw [congrFun hz' a]; simp) (G3 m c)).symm
  funext j
  obtain ⟨a, b, k, rfl⟩ : ∃ (a : Fin 2) (b : Fin 1) (k : Fin 128), j = ix3 a b k := ⟨j 0, j 1, j 2, eq_ix3 j⟩
  obtain rfl : b = 0 := Subsingleton.elim _ _
  show (dats m 0 c).after 8 t (ix3 a 0 k) = _
  rw [after0_8]
  unfold out0_8
  rw [View.canon_unit_zero hz3, e10, ld1, ld3, b0, b2, b4]
  exact vscale _ _ (V_n m c) _ _ _ (values m c) a k

theorem cover8 (i : S2x1x128.Idx) : ∃ t : Fin cfg0.N, (cfg0.win 8).flush t = true ∧ i ∈ ((cfg0.win 8).blk t).view.set := by
  have hN : cfg0.N = 1 := N_0
  obtain ⟨t, -⟩ : ∃ t : Fin cfg0.N, t.val = 0 := ⟨⟨0, by omega⟩, rfl⟩
  refine ⟨t, flush0_8 _, ?_⟩
  show i ∈ ((View.whole main_v1_3).slice (win0_8.rect t)).set
  rw [View.set_slice_whole, Rect.mem_set_unit]
  intro d
  show win0_8.index t d * _ ≤ (i d : Nat) ∧ (i d : Nat) < win0_8.index t d * _ + _
  rw [idx8 t d, Nat.zero_mul, Nat.zero_add]
  exact ⟨Nat.zero_le _, (i d).isLt⟩

variable (r : PUnit × MemSt nD τ sig (Elt Ideal)) (h : Pipeline.FramePost cfgs (dats m) 0 (V m) r) (c : Dev nD)
include h

theorem kept0 : r.2.mem ((c : Thread nD τ).loc main_arg0) = m ((c : Thread nD τ).loc main_arg0) :=
  ((h c).2 main_arg0 (Pipeline.mem_restRefs_of main_arg0 (by decide) (by decide))).trans (V_main_arg0 m c)
theorem kept1 : r.2.mem ((c : Thread nD τ).loc main_arg1) = m ((c : Thread nD τ).loc main_arg1) :=
  ((h c).2 main_arg1 (Pipeline.mem_restRefs_of main_arg1 (by decide) (by decide))).trans (V_main_arg1 m c)
theorem kept2 : r.2.mem ((c : Thread nD τ).loc main_arg2) = m ((c : Thread nD τ).loc main_arg2) :=
  ((h c).2 main_arg2 (Pipeline.mem_restRefs_of main_arg2 (by decide) (by decide))).trans (V_main_arg2 m c)
theorem kept3 : r.2.mem ((c : Thread nD τ).loc main_arg3) = m ((c : Thread nD τ).loc main_arg3) :=
  ((h c).2 main_arg3 (Pipeline.mem_restRefs_of main_arg3 (by decide) (by decide))).trans (V_main_arg3 m c)
theorem kept4 : r.2.mem ((c : Thread nD τ).loc main_arg4) = m ((c : Thread nD τ).loc main_arg4) :=
  ((h c).1 1).trans (((dats m 0 c).arrAt_in 1 rfl _).trans ((A_eq m c 1).trans (V_main_arg4 m c)))
theorem kept5 : r.2.mem ((c : Thread nD τ).loc main_arg5) = m ((c : Thread nD τ).loc main_arg5) :=
  ((h c).1 2).trans (((dats m 0 c).arrAt_in 2 rfl _).trans ((A_eq m c 2).trans (V_main_arg5 m c)))
theorem kept6 : r.2.mem ((c : Thread nD τ).loc main_arg6) = m ((c : Thread nD τ).loc main_arg6) :=
  ((h c).1 3).trans (((dats m 0 c).arrAt_in 3 rfl _).trans ((A_eq m c 3).trans (V_main_arg6 m c)))
theorem kept7 : r.2.mem ((c : Thread nD τ).loc main_arg7) = m ((c : Thread nD τ).loc main_arg7) :=
  ((h c).1 4).trans (((dats m 0 c).arrAt_in 4 rfl _).trans ((A_eq m c 4).trans (V_main_arg7 m c)))

omit h

/-- The run, read: the result arrays, the arguments unchanged. -/
theorem value : θ_run defs (onTc (τ := τ) (main (F := Ideal))) ⟨m, fun _ => 0, ρ⟩ fun r => ∀ c : Dev nD,
      r.2.mem ((c : Thread nD τ).loc main_v1_0) = G0 m c
      ∧ r.2.mem ((c : Thread nD τ).loc main_v1_1) = G1 m c
      ∧ r.2.mem ((c : Thread nD τ).loc main_v1_2) = G2 m c
      ∧ r.2.mem ((c : Thread nD τ).loc main_v1_3) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 5).trans ((dats m 0 c).arrAt_eq_of_cover 5 (G0 m c) (fun t _ => flushed5 m c t) cover5),
    ((h c).1 6).trans ((dats m 0 c).arrAt_eq_of_cover 6 (G1 m c) (fun t _ => flushed6 m c t) cover6),
    ((h c).1 7).trans ((dats m 0 c).arrAt_eq_of_cover 7 (G2 m c) (fun t _ => flushed7 m c t) cover7),
    ((h c).1 8).trans ((dats m 0 c).arrAt_eq_of_cover 8 (G3 m c) (fun t _ => flushed8 m c t) cover8),
    kept0 m r h c, kept1 m r h c, kept2 m r h c, kept3 m r h c, kept4 m r h c, kept5 m r h c, kept6 m r h c, kept7 m r h c⟩) (run_main m ρ)

end Cert.Proof.AttnReference

/-! ## The claim -/

namespace Cert.Proof.AttnClaims

open Idealize.ShloMosaic Idealize.ShloMosaic.TcCoe Idealize.SL.Sem

/-- The stated condition's side condition. -/
theorem preFacts : Cert.Pre_lengths_positive.Facts := ⟨by decide⟩

theorem sge_one (x : BitVec 32) (h : IntOp.cmpi .sge x 1#32 = 1#1) : 1 ≤ x.toInt := by
  by_contra hx
  have hs : BitVec.sle 1#32 x = false := by
    rw [BitVec.sle_eq_decide]
    exact decide_eq_false (by rw [show (1#32 : BitVec 32).toInt = 1 by decide]; omega)
  have e : IntOp.cmpi .sge x 1#32 = 0#1 := by
    show BitVec.ofBool (BitVec.sle 1#32 x) = 0#1
    rw [hs]; rfl
  rw [e] at h
  exact absurd h (by decide)

/-- The stated condition says that no batch is empty, -/
theorem long [Cert.Pre_lengths_positive.Facts] (m : (ℓ : Loc Cert.AttnIdeal.nD Cert.AttnIdeal.τ Cert.AttnIdeal.sig) → Buf (Elt Ideal) ℓ)
    (h : Cert.Pre_AttnIdeal m) : Cert.Proof.AttnIdeal.Long m := fun c b => sge_one _ (congrFun (h c) (ValueIdx.ix1 b))

/-- From memories that agree on the arguments and hold no empty batch, the kernel's four arrays and the reference's are
    equal, element by element: the codes of the keys as bytes, the others as extended reals. -/
theorem algebraic [Cert.Pre_lengths_positive.Facts] : Cert.algebraic_AttnIdeal_AttnRefIdeal := by
  intro m ρ m' ρ' hpre hag
  have e (c) : Cert.Proof.AttnReference.ARGS m' c = Cert.Proof.AttnKernel.ARGS m c := by
    obtain ⟨h0, h1, h2, h3, h4, h5, h6, h7⟩ := hag c
    unfold Cert.Proof.AttnReference.ARGS Cert.Proof.AttnKernel.ARGS
    rw [h0, h4, h5, h6, h7]
  exact ⟨fun c => Cert.Proof.AttnKernel.G10 m c, fun c => Cert.Proof.AttnKernel.G11 m c, fun c => Cert.Proof.AttnKernel.G12 m c,
    fun c => Cert.Proof.AttnKernel.G13 m c, Cert.Proof.AttnKernel.value m ρ (long m hpre),
    (θ_run Cert.AttnRefIdeal.defs _ _).mono (fun _ h c => ⟨(h c).1.trans (congrArg Cert.Proof.AttnSpec.kCodes (e c)),
      (h c).2.1.trans (congrArg Cert.Proof.AttnSpec.kScales (e c)),
      (h c).2.2.1.trans (congrArg Cert.Proof.AttnSpec.vCodes (e c)),
      (h c).2.2.2.1.trans (congrArg Cert.Proof.AttnSpec.vScales (e c)), (h c).2.2.2.2⟩)
      (Cert.Proof.AttnReference.value m' ρ')⟩

end Cert.Proof.AttnClaims

end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Skeleton
public import proofs.«01_k».proof.Proof.Gen.OutProjRefIdeal.Launch
public import proofs.«01_k».proof.Proof.Gen.OutProjRefIdeal.Points
public import proofs.«01_k».proof.Proof.Gen.OutProjRefIdeal.Frame
public import proofs.«01_k».proof.Proof.Gen.OutProjRefIdeal.Value
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Skeleton
public import proofs.«01_k».proof.Proof.Gen.AttnRefIdeal.Launch
public import proofs.«01_k».proof.Proof.Gen.AttnRefIdeal.Points
public import proofs.«01_k».proof.Proof.Gen.AttnRefIdeal.Frame
public import Idealize.ShloMosaic.Adequacy
public import Idealize.ShloMosaic.Init
public import proofs.«01_k».proof.Proof.Down
public import proofs.«01_k».proof.Proof.GateUpSame
public import proofs.«01_k».proof.Proof.GateUpRef
public import proofs.«01_k».proof.Proof.OutProjSame
public import proofs.«01_k».proof.Proof.OutProjRef
public import proofs.«01_k».proof.Proof.QkvSame
public import proofs.«01_k».proof.Proof.QkvRef
public import proofs.«01_k».proof.Proof.AttnSame
public import proofs.«01_k».proof.Proof.AttnRef
public import proofs.«01_k».proof.Proof.Gen.DownIdeal.Value
public import proofs.«01_k».proof.Proof.Gen.DownRefIdeal.Value
public import proofs.«01_k».proof.Proof.Gen.GateUpRefIdeal.Value

@[expose] public section

noncomputable section

namespace Cert.Proof

open Idealize.ShloMosaic Idealize.SL.Sem Cert.Down

theorem claim : Cert.Claim := ⟨Cert.Down.Gen.facts, Cert.DownIdeal.Gen.facts, Cert.DownRefIdeal.Gen.facts,
  Cert.GateUp.Gen.facts, Cert.GateUpIdeal.Gen.facts, Cert.GateUpRefIdeal.Gen.facts,
  Cert.OutProj.Gen.facts, Cert.OutProjIdeal.Gen.facts, Cert.OutProjRefIdeal.Gen.facts,
  Cert.Qkv.Gen.facts, Cert.QkvIdeal.Gen.facts, Cert.QkvRefIdeal.Gen.facts,
  Cert.Attn.Gen.facts, Cert.AttnIdeal.Gen.facts, Cert.AttnRefIdeal.Gen.facts, AttnClaims.preFacts,
  fun m ρ _ => Cert.Down.Gen.frame m ρ,
  fun m ρ _ => Cert.DownIdeal.Gen.frame m ρ,
  fun m ρ _ => Cert.DownRefIdeal.Gen.frame m ρ,
  fun m ρ _ => Cert.Proof.GateUp.frame m ρ,
  fun m ρ _ => Cert.Proof.GateUpIdeal.frame m ρ,
  fun m ρ _ => Cert.GateUpRefIdeal.Gen.frame m ρ,
  fun m ρ _ => Cert.Proof.OutProj.frame m ρ,
  fun m ρ _ => Cert.Proof.OutProjIdeal.frame m ρ,
  fun m ρ _ => Cert.OutProjRefIdeal.Gen.frame m ρ,
  fun m ρ _ => Cert.Proof.Qkv.frame m ρ,
  fun m ρ _ => Cert.Proof.QkvIdeal.frame m ρ,
  fun m ρ _ => Cert.QkvRefIdeal.Gen.frame m ρ,
  fun m ρ h => Cert.Proof.Attn.frame m ρ (fun c b => AttnClaims.sge_one _ (congrFun (h c) (ValueIdx.ix1 b))),
  fun m ρ h => Cert.Proof.AttnIdeal.frame m ρ (fun c b => AttnClaims.sge_one _ (congrFun (h c) (ValueIdx.ix1 b))),
  fun m ρ _ => Cert.AttnRefIdeal.Gen.frame m ρ,
  fun m ρ _ => Cert.AttnRefIdeal.Gen.frame m ρ,
  trivial,
  Cert.Proof.DownClaims.algebraic,
  trivial,
  Cert.Proof.GateUpClaims.algebraic,
  trivial,
  Cert.Proof.OutProjClaims.algebraic,
  trivial,
  Cert.Proof.QkvClaims.algebraic,
  trivial,
  @Cert.Proof.AttnClaims.algebraic AttnClaims.preFacts⟩

end Cert.Proof

end
